-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxIdeal_ffn_down_dx_finite [hPre_ffn_down_dx_finite : Cert.Pre_ffn_down_dx_finite.Facts] (m : (ℓ : Loc Cert.FfnDownDxIdeal.nD Cert.FfnDownDxIdeal.τ Cert.FfnDownDxIdeal.sig) → Buf (Elt Ideal) ℓ) : Prop :=
  ∀ c : Dev Cert.FfnDownDxIdeal.nD,
    (Cert.Pre_ffn_down_dx_finite.fn (F := Ideal) (m ((c.tc : Thread Cert.FfnDownDxIdeal.nD Cert.FfnDownDxIdeal.τ).loc Cert.FfnDownDxIdeal.main_arg0)) (m ((c.tc : Thread Cert.FfnDownDxIdeal.nD Cert.FfnDownDxIdeal.τ).loc Cert.FfnDownDxIdeal.main_arg1)) (m ((c.tc : Thread Cert.FfnDownDxIdeal.nD Cert.FfnDownDxIdeal.τ).loc Cert.FfnDownDxIdeal.main_arg2)) (m ((c.tc : Thread Cert.FfnDownDxIdeal.nD Cert.FfnDownDxIdeal.τ).loc Cert.FfnDownDxIdeal.main_arg3))) = (fun _ => 1#1)

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDxRefIdeal_ffn_down_dx_finite [hPre_ffn_down_dx_finite : Cert.Pre_ffn_down_dx_finite.Facts] (m : (ℓ : Loc Cert.FfnDownDxRefIdeal.nD Cert.FfnDownDxRefIdeal.τ Cert.FfnDownDxRefIdeal.sig) → Buf (Elt Ideal) ℓ) : Prop :=
  ∀ c : Dev Cert.FfnDownDxRefIdeal.nD,
    (Cert.Pre_ffn_down_dx_finite.fn (F := Ideal) (m ((c.tc : Thread Cert.FfnDownDxRefIdeal.nD Cert.FfnDownDxRefIdeal.τ).loc Cert.FfnDownDxRefIdeal.main_arg0)) (m ((c.tc : Thread Cert.FfnDownDxRefIdeal.nD Cert.FfnDownDxRefIdeal.τ).loc Cert.FfnDownDxRefIdeal.main_arg1)) (m ((c.tc : Thread Cert.FfnDownDxRefIdeal.nD Cert.FfnDownDxRefIdeal.τ).loc Cert.FfnDownDxRefIdeal.main_arg2)) (m ((c.tc : Thread Cert.FfnDownDxRefIdeal.nD Cert.FfnDownDxRefIdeal.τ).loc Cert.FfnDownDxRefIdeal.main_arg3))) = (fun _ => 1#1)

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxIdeal_ffn_up_dx_finite [hPre_ffn_up_dx_finite : Cert.Pre_ffn_up_dx_finite.Facts] (m : (ℓ : Loc Cert.FfnUpDxIdeal.nD Cert.FfnUpDxIdeal.τ Cert.FfnUpDxIdeal.sig) → Buf (Elt Ideal) ℓ) : Prop :=
  ∀ c : Dev Cert.FfnUpDxIdeal.nD,
    (Cert.Pre_ffn_up_dx_finite.fn (F := Ideal) (m ((c.tc : Thread Cert.FfnUpDxIdeal.nD Cert.FfnUpDxIdeal.τ).loc Cert.FfnUpDxIdeal.main_arg0)) (m ((c.tc : Thread Cert.FfnUpDxIdeal.nD Cert.FfnUpDxIdeal.τ).loc Cert.FfnUpDxIdeal.main_arg1)) (m ((c.tc : Thread Cert.FfnUpDxIdeal.nD Cert.FfnUpDxIdeal.τ).loc Cert.FfnUpDxIdeal.main_arg2)) (m ((c.tc : Thread Cert.FfnUpDxIdeal.nD Cert.FfnUpDxIdeal.τ).loc Cert.FfnUpDxIdeal.main_arg3)) (m ((c.tc : Thread Cert.FfnUpDxIdeal.nD Cert.FfnUpDxIdeal.τ).loc Cert.FfnUpDxIdeal.main_arg4))) = (fun _ => 1#1)

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDxRefIdeal_ffn_up_dx_finite [hPre_ffn_up_dx_finite : Cert.Pre_ffn_up_dx_finite.Facts] (m : (ℓ : Loc Cert.FfnUpDxRefIdeal.nD Cert.FfnUpDxRefIdeal.τ Cert.FfnUpDxRefIdeal.sig) → Buf (Elt Ideal) ℓ) : Prop :=
  ∀ c : Dev Cert.FfnUpDxRefIdeal.nD,
    (Cert.Pre_ffn_up_dx_finite.fn (F := Ideal) (m ((c.tc : Thread Cert.FfnUpDxRefIdeal.nD Cert.FfnUpDxRefIdeal.τ).loc Cert.FfnUpDxRefIdeal.main_arg0)) (m ((c.tc : Thread Cert.FfnUpDxRefIdeal.nD Cert.FfnUpDxRefIdeal.τ).loc Cert.FfnUpDxRefIdeal.main_arg1)) (m ((c.tc : Thread Cert.FfnUpDxRefIdeal.nD Cert.FfnUpDxRefIdeal.τ).loc Cert.FfnUpDxRefIdeal.main_arg2)) (m ((c.tc : Thread Cert.FfnUpDxRefIdeal.nD Cert.FfnUpDxRefIdeal.τ).loc Cert.FfnUpDxRefIdeal.main_arg3)) (m ((c.tc : Thread Cert.FfnUpDxRefIdeal.nD Cert.FfnUpDxRefIdeal.τ).loc Cert.FfnUpDxRefIdeal.main_arg4))) = (fun _ => 1#1)

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_ProjOutDw (m : (ℓ : Loc Cert.ProjOutDw.nD Cert.ProjOutDw.τ Cert.ProjOutDw.sig) → Buf (Elt Bits) ℓ) : Prop :=
  True

def Pre_ProjOutDwIdeal (m : (ℓ : Loc Cert.ProjOutDwIdeal.nD Cert.ProjOutDwIdeal.τ Cert.ProjOutDwIdeal.sig) → Buf (Elt Ideal) ℓ) : Prop :=
  True

def Pre_ProjOutDwRefIdeal (m : (ℓ : Loc Cert.ProjOutDwRefIdeal.nD Cert.ProjOutDwRefIdeal.τ Cert.ProjOutDwRefIdeal.sig) → Buf (Elt Ideal) ℓ) : Prop :=
  True

def Pre_ProjOutDx (m : (ℓ : Loc Cert.ProjOutDx.nD Cert.ProjOutDx.τ Cert.ProjOutDx.sig) → Buf (Elt Bits) ℓ) : Prop :=
  True

def Pre_ProjOutDxIdeal (m : (ℓ : Loc Cert.ProjOutDxIdeal.nD Cert.ProjOutDxIdeal.τ Cert.ProjOutDxIdeal.sig) → Buf (Elt Ideal) ℓ) : Prop :=
  True

def Pre_ProjOutDxRefIdeal (m : (ℓ : Loc Cert.ProjOutDxRefIdeal.nD Cert.ProjOutDxRefIdeal.τ Cert.ProjOutDxRefIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRefIdeal (m : (ℓ : Loc Cert.ProjInDwRefIdeal.nD Cert.ProjInDwRefIdeal.τ Cert.ProjInDwRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxIdeal_proj_in_dx_finite [hPre_proj_in_dx_finite : Cert.Pre_proj_in_dx_finite.Facts] (m : (ℓ : Loc Cert.ProjInDxIdeal.nD Cert.ProjInDxIdeal.τ Cert.ProjInDxIdeal.sig) → Buf (Elt Ideal) ℓ) : Prop :=
  ∀ c : Dev Cert.ProjInDxIdeal.nD,
    (Cert.Pre_proj_in_dx_finite.fn (F := Ideal) (m ((c.tc : Thread Cert.ProjInDxIdeal.nD Cert.ProjInDxIdeal.τ).loc Cert.ProjInDxIdeal.main_arg0)) (m ((c.tc : Thread Cert.ProjInDxIdeal.nD Cert.ProjInDxIdeal.τ).loc Cert.ProjInDxIdeal.main_arg1)) (m ((c.tc : Thread Cert.ProjInDxIdeal.nD Cert.ProjInDxIdeal.τ).loc Cert.ProjInDxIdeal.main_arg2)) (m ((c.tc : Thread Cert.ProjInDxIdeal.nD Cert.ProjInDxIdeal.τ).loc Cert.ProjInDxIdeal.main_arg3)) (m ((c.tc : Thread Cert.ProjInDxIdeal.nD Cert.ProjInDxIdeal.τ).loc Cert.ProjInDxIdeal.main_arg4))) = (fun _ => 1#1)

def Pre_ProjInDxRefIdeal (m : (ℓ : Loc Cert.ProjInDxRefIdeal.nD Cert.ProjInDxRefIdeal.τ Cert.ProjInDxRefIdeal.sig) → Buf (Elt Ideal) ℓ) : Prop :=
  True

def Pre_ProjInDxRefIdeal_proj_in_dx_finite [hPre_proj_in_dx_finite : Cert.Pre_proj_in_dx_finite.Facts] (m : (ℓ : Loc Cert.ProjInDxRefIdeal.nD Cert.ProjInDxRefIdeal.τ Cert.ProjInDxRefIdeal.sig) → Buf (Elt Ideal) ℓ) : Prop :=
  ∀ c : Dev Cert.ProjInDxRefIdeal.nD,
    (Cert.Pre_proj_in_dx_finite.fn (F := Ideal) (m ((c.tc : Thread Cert.ProjInDxRefIdeal.nD Cert.ProjInDxRefIdeal.τ).loc Cert.ProjInDxRefIdeal.main_arg0)) (m ((c.tc : Thread Cert.ProjInDxRefIdeal.nD Cert.ProjInDxRefIdeal.τ).loc Cert.ProjInDxRefIdeal.main_arg1)) (m ((c.tc : Thread Cert.ProjInDxRefIdeal.nD Cert.ProjInDxRefIdeal.τ).loc Cert.ProjInDxRefIdeal.main_arg2)) (m ((c.tc : Thread Cert.ProjInDxRefIdeal.nD Cert.ProjInDxRefIdeal.τ).loc Cert.ProjInDxRefIdeal.main_arg3)) (m ((c.tc : Thread Cert.ProjInDxRefIdeal.nD Cert.ProjInDxRefIdeal.τ).loc Cert.ProjInDxRefIdeal.main_arg4))) = (fun _ => 1#1)

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownLast (m : (ℓ : Loc Cert.FfnDownLast.nD Cert.FfnDownLast.τ Cert.FfnDownLast.sig) → Buf (Elt Bits) ℓ) : Prop :=
  True

def Pre_FfnDownLastIdeal (m : (ℓ : Loc Cert.FfnDownLastIdeal.nD Cert.FfnDownLastIdeal.τ Cert.FfnDownLastIdeal.sig) → Buf (Elt Ideal) ℓ) : Prop :=
  True

def Pre_FfnDownLastRefIdeal (m : (ℓ : Loc Cert.FfnDownLastRefIdeal.nD Cert.FfnDownLastRefIdeal.τ Cert.FfnDownLastRefIdeal.sig) → Buf (Elt Ideal) ℓ) : Prop :=
  True

def Pre_ScBwd (m : (ℓ : Loc Cert.ScBwd.nD Cert.ScBwd.τ Cert.ScBwd.sig) → Buf (Elt Bits) ℓ) : Prop :=
  True

def Pre_ScBwdIdeal (m : (ℓ : Loc Cert.ScBwdIdeal.nD Cert.ScBwdIdeal.τ Cert.ScBwdIdeal.sig) → Buf (Elt Ideal) ℓ) : Prop :=
  True

def Pre_ScBwdIdeal_sc_bwd_finite [hPre_sc_bwd_finite : Cert.Pre_sc_bwd_finite.Facts] (m : (ℓ : Loc Cert.ScBwdIdeal.nD Cert.ScBwdIdeal.τ Cert.ScBwdIdeal.sig) → Buf (Elt Ideal) ℓ) : Prop :=
  ∀ c : Dev Cert.ScBwdIdeal.nD,
    (Cert.Pre_sc_bwd_finite.fn (F := Ideal) (m ((c.tc : Thread Cert.ScBwdIdeal.nD Cert.ScBwdIdeal.τ).loc Cert.ScBwdIdeal.main_arg0)) (m ((c.tc : Thread Cert.ScBwdIdeal.nD Cert.ScBwdIdeal.τ).loc Cert.ScBwdIdeal.main_arg1)) (m ((c.tc : Thread Cert.ScBwdIdeal.nD Cert.ScBwdIdeal.τ).loc Cert.ScBwdIdeal.main_arg2))) = (fun _ => 1#1)

def Pre_ScBwdRefIdeal (m : (ℓ : Loc Cert.ScBwdRefIdeal.nD Cert.ScBwdRefIdeal.τ Cert.ScBwdRefIdeal.sig) → Buf (Elt Ideal) ℓ) : Prop :=
  True

def Pre_ScBwdRefIdeal_sc_bwd_finite [hPre_sc_bwd_finite : Cert.Pre_sc_bwd_finite.Facts] (m : (ℓ : Loc Cert.ScBwdRefIdeal.nD Cert.ScBwdRefIdeal.τ Cert.ScBwdRefIdeal.sig) → Buf (Elt Ideal) ℓ) : Prop :=
  ∀ c : Dev Cert.ScBwdRefIdeal.nD,
    (Cert.Pre_sc_bwd_finite.fn (F := Ideal) (m ((c.tc : Thread Cert.ScBwdRefIdeal.nD Cert.ScBwdRefIdeal.τ).loc Cert.ScBwdRefIdeal.main_arg0)) (m ((c.tc : Thread Cert.ScBwdRefIdeal.nD Cert.ScBwdRefIdeal.τ).loc Cert.ScBwdRefIdeal.main_arg1)) (m ((c.tc : Thread Cert.ScBwdRefIdeal.nD Cert.ScBwdRefIdeal.τ).loc Cert.ScBwdRefIdeal.main_arg2))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_sgu_finite [hPre_sgu_finite : Cert.Pre_sgu_finite.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_sgu_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4))) = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_sgu_finite [hPre_sgu_finite : Cert.Pre_sgu_finite.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_sgu_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4))) = (fun _ => 1#1)

def Pre_ScFwd (m : (ℓ : Loc Cert.ScFwd.nD Cert.ScFwd.τ Cert.ScFwd.sig) → Buf (Elt Bits) ℓ) : Prop :=
  True

def Pre_ScFwdIdeal (m : (ℓ : Loc Cert.ScFwdIdeal.nD Cert.ScFwdIdeal.τ Cert.ScFwdIdeal.sig) → Buf (Elt Ideal) ℓ) : Prop :=
  True

def Pre_ScFwdRefIdeal (m : (ℓ : Loc Cert.ScFwdRefIdeal.nD Cert.ScFwdRefIdeal.τ Cert.ScFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1)
      ∧ r.2.mem ((c.tc : Thread Cert.FfnDownDx.nD Cert.FfnDownDx.τ).loc Cert.FfnDownDx.main_arg2) = m ((c.tc : Thread Cert.FfnDownDx.nD Cert.FfnDownDx.τ).loc Cert.FfnDownDx.main_arg2)
      ∧ r.2.mem ((c.tc : Thread Cert.FfnDownDx.nD Cert.FfnDownDx.τ).loc Cert.FfnDownDx.main_arg3) = m ((c.tc : Thread Cert.FfnDownDx.nD Cert.FfnDownDx.τ).loc Cert.FfnDownDx.main_arg3))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3))
      ∧ r.2.sem = fun _ => 0)

def quiescent_FfnDownDxIdeal_pre_ffn_down_dx_finite [hFfnDownDxIdeal : Cert.FfnDownDxIdeal.Facts] [hPre_ffn_down_dx_finite : Cert.Pre_ffn_down_dx_finite.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal_ffn_down_dx_finite m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
      ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
      ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3))
      ∧ r.2.sem = fun _ => 0)

def quiescent_FfnDownDxRefIdeal_pre_ffn_down_dx_finite [hFfnDownDxRefIdeal : Cert.FfnDownDxRefIdeal.Facts] [hPre_ffn_down_dx_finite : Cert.Pre_ffn_down_dx_finite.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal_ffn_down_dx_finite m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1)
      ∧ r.2.mem ((c.tc : Thread Cert.FfnDownDxRefIdeal.nD Cert.FfnDownDxRefIdeal.τ).loc Cert.FfnDownDxRefIdeal.main_arg2) = m ((c.tc : Thread Cert.FfnDownDxRefIdeal.nD Cert.FfnDownDxRefIdeal.τ).loc Cert.FfnDownDxRefIdeal.main_arg2)
      ∧ r.2.mem ((c.tc : Thread Cert.FfnDownDxRefIdeal.nD Cert.FfnDownDxRefIdeal.τ).loc Cert.FfnDownDxRefIdeal.main_arg3) = m ((c.tc : Thread Cert.FfnDownDxRefIdeal.nD Cert.FfnDownDxRefIdeal.τ).loc Cert.FfnDownDxRefIdeal.main_arg3))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1)
      ∧ r.2.mem ((c.tc : Thread Cert.FfnUpDx.nD Cert.FfnUpDx.τ).loc Cert.FfnUpDx.main_arg2) = m ((c.tc : Thread Cert.FfnUpDx.nD Cert.FfnUpDx.τ).loc Cert.FfnUpDx.main_arg2)
      ∧ r.2.mem ((c.tc : Thread Cert.FfnUpDx.nD Cert.FfnUpDx.τ).loc Cert.FfnUpDx.main_arg3) = m ((c.tc : Thread Cert.FfnUpDx.nD Cert.FfnUpDx.τ).loc Cert.FfnUpDx.main_arg3)
      ∧ r.2.mem ((c.tc : Thread Cert.FfnUpDx.nD Cert.FfnUpDx.τ).loc Cert.FfnUpDx.main_arg4) = m ((c.tc : Thread Cert.FfnUpDx.nD Cert.FfnUpDx.τ).loc Cert.FfnUpDx.main_arg4))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxIdeal_pre_ffn_up_dx_finite [hFfnUpDxIdeal : Cert.FfnUpDxIdeal.Facts] [hPre_ffn_up_dx_finite : Cert.Pre_ffn_up_dx_finite.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal_ffn_up_dx_finite m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
      ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
      ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
      ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_FfnUpDxRefIdeal_pre_ffn_up_dx_finite [hFfnUpDxRefIdeal : Cert.FfnUpDxRefIdeal.Facts] [hPre_ffn_up_dx_finite : Cert.Pre_ffn_up_dx_finite.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal_ffn_up_dx_finite m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1)
      ∧ r.2.mem ((c.tc : Thread Cert.FfnUpDxRefIdeal.nD Cert.FfnUpDxRefIdeal.τ).loc Cert.FfnUpDxRefIdeal.main_arg2) = m ((c.tc : Thread Cert.FfnUpDxRefIdeal.nD Cert.FfnUpDxRefIdeal.τ).loc Cert.FfnUpDxRefIdeal.main_arg2)
      ∧ r.2.mem ((c.tc : Thread Cert.FfnUpDxRefIdeal.nD Cert.FfnUpDxRefIdeal.τ).loc Cert.FfnUpDxRefIdeal.main_arg3) = m ((c.tc : Thread Cert.FfnUpDxRefIdeal.nD Cert.FfnUpDxRefIdeal.τ).loc Cert.FfnUpDxRefIdeal.main_arg3)
      ∧ r.2.mem ((c.tc : Thread Cert.FfnUpDxRefIdeal.nD Cert.FfnUpDxRefIdeal.τ).loc Cert.FfnUpDxRefIdeal.main_arg4) = m ((c.tc : Thread Cert.FfnUpDxRefIdeal.nD Cert.FfnUpDxRefIdeal.τ).loc Cert.FfnUpDxRefIdeal.main_arg4))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_ProjOutDw [hProjOutDw : Cert.ProjOutDw.Facts] : Prop :=
  ∀ (m : (ℓ : Loc Cert.ProjOutDw.nD Cert.ProjOutDw.τ Cert.ProjOutDw.sig) → Buf (Elt Bits) ℓ) (g : Dev Cert.ProjOutDw.nD → PrngReg), Pre_ProjOutDw m →
    θ_run (Cert.ProjOutDw.defs (F := Bits)) (onTc (τ := Cert.ProjOutDw.τ) (Cert.ProjOutDw.main (F := Bits))) ⟨m, fun _ => 0, g⟩ (fun r => (∀ c : Dev Cert.ProjOutDw.nD,
      r.2.mem ((c.tc : Thread Cert.ProjOutDw.nD Cert.ProjOutDw.τ).loc Cert.ProjOutDw.main_arg0) = m ((c.tc : Thread Cert.ProjOutDw.nD Cert.ProjOutDw.τ).loc Cert.ProjOutDw.main_arg0)
      ∧ r.2.mem ((c.tc : Thread Cert.ProjOutDw.nD Cert.ProjOutDw.τ).loc Cert.ProjOutDw.main_arg1) = m ((c.tc : Thread Cert.ProjOutDw.nD Cert.ProjOutDw.τ).loc Cert.ProjOutDw.main_arg1)
      ∧ r.2.mem ((c.tc : Thread Cert.ProjOutDw.nD Cert.ProjOutDw.τ).loc Cert.ProjOutDw.main_arg2) = m ((c.tc : Thread Cert.ProjOutDw.nD Cert.ProjOutDw.τ).loc Cert.ProjOutDw.main_arg2)
      ∧ r.2.mem ((c.tc : Thread Cert.ProjOutDw.nD Cert.ProjOutDw.τ).loc Cert.ProjOutDw.main_arg3) = m ((c.tc : Thread Cert.ProjOutDw.nD Cert.ProjOutDw.τ).loc Cert.ProjOutDw.main_arg3)
      ∧ r.2.mem ((c.tc : Thread Cert.ProjOutDw.nD Cert.ProjOutDw.τ).loc Cert.ProjOutDw.main_arg4) = m ((c.tc : Thread Cert.ProjOutDw.nD Cert.ProjOutDw.τ).loc Cert.ProjOutDw.main_arg4))
      ∧ r.2.sem = fun _ => 0)

def quiescent_ProjOutDwIdeal [hProjOutDwIdeal : Cert.ProjOutDwIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg), Pre_ProjOutDwIdeal m →
    θ_run (Cert.ProjOutDwIdeal.defs (F := Ideal)) (onTc (τ := Cert.ProjOutDwIdeal.τ) (Cert.ProjOutDwIdeal.main (F := Ideal))) ⟨m, fun _ => 0, g⟩ (fun r => (∀ c : Dev Cert.ProjOutDwIdeal.nD,
      r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
      ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1)
      ∧ r.2.mem ((c.tc : Thread Cert.ProjOutDwIdeal.nD Cert.ProjOutDwIdeal.τ).loc Cert.ProjOutDwIdeal.main_arg2) = m ((c.tc : Thread Cert.ProjOutDwIdeal.nD Cert.ProjOutDwIdeal.τ).loc Cert.ProjOutDwIdeal.main_arg2)
      ∧ r.2.mem ((c.tc : Thread Cert.ProjOutDwIdeal.nD Cert.ProjOutDwIdeal.τ).loc Cert.ProjOutDwIdeal.main_arg3) = m ((c.tc : Thread Cert.ProjOutDwIdeal.nD Cert.ProjOutDwIdeal.τ).loc Cert.ProjOutDwIdeal.main_arg3)
      ∧ r.2.mem ((c.tc : Thread Cert.ProjOutDwIdeal.nD Cert.ProjOutDwIdeal.τ).loc Cert.ProjOutDwIdeal.main_arg4) = m ((c.tc : Thread Cert.ProjOutDwIdeal.nD Cert.ProjOutDwIdeal.τ).loc Cert.ProjOutDwIdeal.main_arg4))
      ∧ r.2.sem = fun _ => 0)

def quiescent_ProjOutDwRefIdeal [hProjOutDwRefIdeal : Cert.ProjOutDwRefIdeal.Facts] : Prop :=
  ∀ (m : (ℓ : Loc Cert.ProjOutDwRefIdeal.nD Cert.ProjOutDwRefIdeal.τ Cert.ProjOutDwRefIdeal.sig) → Buf (Elt Ideal) ℓ) (g : Dev Cert.ProjOutDwRefIdeal.nD → PrngReg), Pre_ProjOutDwRefIdeal m →
    θ_run (Cert.ProjOutDwRefIdeal.defs (F := Ideal)) (onTc (τ := Cert.ProjOutDwRefIdeal.τ) (Cert.ProjOutDwRefIdeal.main (F := Ideal))) ⟨m, fun _ => 0, g⟩ (fun r => (∀ c : Dev Cert.ProjOutDwRefIdeal.nD,
      r.2.mem ((c.tc : Thread Cert.ProjOutDwRefIdeal.nD Cert.ProjOutDwRefIdeal.τ).loc Cert.ProjOutDwRefIdeal.main_arg0) = m ((c.tc : Thread Cert.ProjOutDwRefIdeal.nD Cert.ProjOutDwRefIdeal.τ).loc Cert.ProjOutDwRefIdeal.main_arg0)
      ∧ r.2.mem ((c.tc : Thread Cert.ProjOutDwRefIdeal.nD Cert.ProjOutDwRefIdeal.τ).loc Cert.ProjOutDwRefIdeal.main_arg1) = m ((c.tc : Thread Cert.ProjOutDwRefIdeal.nD Cert.ProjOutDwRefIdeal.τ).loc Cert.ProjOutDwRefIdeal.main_arg1)
      ∧ r.2.mem ((c.tc : Thread Cert.ProjOutDwRefIdeal.nD Cert.ProjOutDwRefIdeal.τ).loc Cert.ProjOutDwRefIdeal.main_arg2) = m ((c.tc : Thread Cert.ProjOutDwRefIdeal.nD Cert.ProjOutDwRefIdeal.τ).loc Cert.ProjOutDwRefIdeal.main_arg2)
      ∧ r.2.mem ((c.tc : Thread Cert.ProjOutDwRefIdeal.nD Cert.ProjOutDwRefIdeal.τ).loc Cert.ProjOutDwRefIdeal.main_arg3) = m ((c.tc : Thread Cert.ProjOutDwRefIdeal.nD Cert.ProjOutDwRefIdeal.τ).loc Cert.ProjOutDwRefIdeal.main_arg3)
      ∧ r.2.mem ((c.tc : Thread Cert.ProjOutDwRefIdeal.nD Cert.ProjOutDwRefIdeal.τ).loc Cert.ProjOutDwRefIdeal.main_arg4) = m ((c.tc : Thread Cert.ProjOutDwRefIdeal.nD Cert.ProjOutDwRefIdeal.τ).loc Cert.ProjOutDwRefIdeal.main_arg4))
      ∧ r.2.sem = fun _ => 0)

def quiescent_ProjOutDx [hProjOutDx : Cert.ProjOutDx.Facts] : Prop :=
  ∀ (m : (ℓ : Loc Cert.ProjOutDx.nD Cert.ProjOutDx.τ Cert.ProjOutDx.sig) → Buf (Elt Bits) ℓ) (g : Dev Cert.ProjOutDx.nD → PrngReg), Pre_ProjOutDx m →
    θ_run (Cert.ProjOutDx.defs (F := Bits)) (onTc (τ := Cert.ProjOutDx.τ) (Cert.ProjOutDx.main (F := Bits))) ⟨m, fun _ => 0, g⟩ (fun r => (∀ c : Dev Cert.ProjOutDx.nD,
      r.2.mem ((c.tc : Thread Cert.ProjOutDx.nD Cert.ProjOutDx.τ).loc Cert.ProjOutDx.main_arg0) = m ((c.tc : Thread Cert.ProjOutDx.nD Cert.ProjOutDx.τ).loc Cert.ProjOutDx.main_arg0)
      ∧ r.2.mem ((c.tc : Thread Cert.ProjOutDx.nD Cert.ProjOutDx.τ).loc Cert.ProjOutDx.main_arg1) = m ((c.tc : Thread Cert.ProjOutDx.nD Cert.ProjOutDx.τ).loc Cert.ProjOutDx.main_arg1))
      ∧ r.2.sem = fun _ => 0)

def quiescent_ProjOutDxIdeal [hProjOutDxIdeal : Cert.ProjOutDxIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg), Pre_ProjOutDxIdeal m →
    θ_run (Cert.ProjOutDxIdeal.defs (F := Ideal)) (onTc (τ := Cert.ProjOutDxIdeal.τ) (Cert.ProjOutDxIdeal.main (F := Ideal))) ⟨m, fun _ => 0, g⟩ (fun r => (∀ c : Dev Cert.ProjOutDxIdeal.nD,
      r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
      ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1))
      ∧ r.2.sem = fun _ => 0)

def quiescent_ProjOutDxRefIdeal [hProjOutDxRefIdeal : Cert.ProjOutDxRefIdeal.Facts] : Prop :=
  ∀ (m : (ℓ : Loc Cert.ProjOutDxRefIdeal.nD Cert.ProjOutDxRefIdeal.τ Cert.ProjOutDxRefIdeal.sig) → Buf (Elt Ideal) ℓ) (g : Dev Cert.ProjOutDxRefIdeal.nD → PrngReg), Pre_ProjOutDxRefIdeal m →
    θ_run (Cert.ProjOutDxRefIdeal.defs (F := Ideal)) (onTc (τ := Cert.ProjOutDxRefIdeal.τ) (Cert.ProjOutDxRefIdeal.main (F := Ideal))) ⟨m, fun _ => 0, g⟩ (fun r => (∀ c : Dev Cert.ProjOutDxRefIdeal.nD,
      r.2.mem ((c.tc : Thread Cert.ProjOutDxRefIdeal.nD Cert.ProjOutDxRefIdeal.τ).loc Cert.ProjOutDxRefIdeal.main_arg0) = m ((c.tc : Thread Cert.ProjOutDxRefIdeal.nD Cert.ProjOutDxRefIdeal.τ).loc Cert.ProjOutDxRefIdeal.main_arg0)
      ∧ r.2.mem ((c.tc : Thread Cert.ProjOutDxRefIdeal.nD Cert.ProjOutDxRefIdeal.τ).loc Cert.ProjOutDxRefIdeal.main_arg1) = m ((c.tc : Thread Cert.ProjOutDxRefIdeal.nD Cert.ProjOutDxRefIdeal.τ).loc Cert.ProjOutDxRefIdeal.main_arg1))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwRefIdeal [hProjInDwRefIdeal : Cert.ProjInDwRefIdeal.Facts] : Prop :=
  ∀ (m : (ℓ : Loc Cert.ProjInDwRefIdeal.nD Cert.ProjInDwRefIdeal.τ Cert.ProjInDwRefIdeal.sig) → Buf (Elt Ideal) ℓ) (g : Dev Cert.ProjInDwRefIdeal.nD → PrngReg), Pre_ProjInDwRefIdeal m →
    θ_run (Cert.ProjInDwRefIdeal.defs (F := Ideal)) (onTc (τ := Cert.ProjInDwRefIdeal.τ) (Cert.ProjInDwRefIdeal.main (F := Ideal))) ⟨m, fun _ => 0, g⟩ (fun r => (∀ c : Dev Cert.ProjInDwRefIdeal.nD,
      r.2.mem ((c.tc : Thread Cert.ProjInDwRefIdeal.nD Cert.ProjInDwRefIdeal.τ).loc Cert.ProjInDwRefIdeal.main_arg0) = m ((c.tc : Thread Cert.ProjInDwRefIdeal.nD Cert.ProjInDwRefIdeal.τ).loc Cert.ProjInDwRefIdeal.main_arg0)
      ∧ r.2.mem ((c.tc : Thread Cert.ProjInDwRefIdeal.nD Cert.ProjInDwRefIdeal.τ).loc Cert.ProjInDwRefIdeal.main_arg1) = m ((c.tc : Thread Cert.ProjInDwRefIdeal.nD Cert.ProjInDwRefIdeal.τ).loc Cert.ProjInDwRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1)
      ∧ r.2.mem ((c.tc : Thread Cert.ProjInDx.nD Cert.ProjInDx.τ).loc Cert.ProjInDx.main_arg2) = m ((c.tc : Thread Cert.ProjInDx.nD Cert.ProjInDx.τ).loc Cert.ProjInDx.main_arg2)
      ∧ r.2.mem ((c.tc : Thread Cert.ProjInDx.nD Cert.ProjInDx.τ).loc Cert.ProjInDx.main_arg3) = m ((c.tc : Thread Cert.ProjInDx.nD Cert.ProjInDx.τ).loc Cert.ProjInDx.main_arg3)
      ∧ r.2.mem ((c.tc : Thread Cert.ProjInDx.nD Cert.ProjInDx.τ).loc Cert.ProjInDx.main_arg4) = m ((c.tc : Thread Cert.ProjInDx.nD Cert.ProjInDx.τ).loc Cert.ProjInDx.main_arg4))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
      ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2)
      ∧ r.2.mem ((c.tc : Thread Cert.ProjInDxIdeal.nD Cert.ProjInDxIdeal.τ).loc Cert.ProjInDxIdeal.main_arg3) = m ((c.tc : Thread Cert.ProjInDxIdeal.nD Cert.ProjInDxIdeal.τ).loc Cert.ProjInDxIdeal.main_arg3)
      ∧ r.2.mem ((c.tc : Thread Cert.ProjInDxIdeal.nD Cert.ProjInDxIdeal.τ).loc Cert.ProjInDxIdeal.main_arg4) = m ((c.tc : Thread Cert.ProjInDxIdeal.nD Cert.ProjInDxIdeal.τ).loc Cert.ProjInDxIdeal.main_arg4))
      ∧ r.2.sem = fun _ => 0)

def quiescent_ProjInDxIdeal_pre_proj_in_dx_finite [hProjInDxIdeal : Cert.ProjInDxIdeal.Facts] [hPre_proj_in_dx_finite : Cert.Pre_proj_in_dx_finite.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal_proj_in_dx_finite m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
      ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2)
      ∧ r.2.mem ((c.tc : Thread Cert.ProjInDxIdeal.nD Cert.ProjInDxIdeal.τ).loc Cert.ProjInDxIdeal.main_arg3) = m ((c.tc : Thread Cert.ProjInDxIdeal.nD Cert.ProjInDxIdeal.τ).loc Cert.ProjInDxIdeal.main_arg3)
      ∧ r.2.mem ((c.tc : Thread Cert.ProjInDxIdeal.nD Cert.ProjInDxIdeal.τ).loc Cert.ProjInDxIdeal.main_arg4) = m ((c.tc : Thread Cert.ProjInDxIdeal.nD Cert.ProjInDxIdeal.τ).loc Cert.ProjInDxIdeal.main_arg4))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1)
      ∧ r.2.mem ((c.tc : Thread Cert.ProjInDxRefIdeal.nD Cert.ProjInDxRefIdeal.τ).loc Cert.ProjInDxRefIdeal.main_arg2) = m ((c.tc : Thread Cert.ProjInDxRefIdeal.nD Cert.ProjInDxRefIdeal.τ).loc Cert.ProjInDxRefIdeal.main_arg2)
      ∧ r.2.mem ((c.tc : Thread Cert.ProjInDxRefIdeal.nD Cert.ProjInDxRefIdeal.τ).loc Cert.ProjInDxRefIdeal.main_arg3) = m ((c.tc : Thread Cert.ProjInDxRefIdeal.nD Cert.ProjInDxRefIdeal.τ).loc Cert.ProjInDxRefIdeal.main_arg3)
      ∧ r.2.mem ((c.tc : Thread Cert.ProjInDxRefIdeal.nD Cert.ProjInDxRefIdeal.τ).loc Cert.ProjInDxRefIdeal.main_arg4) = m ((c.tc : Thread Cert.ProjInDxRefIdeal.nD Cert.ProjInDxRefIdeal.τ).loc Cert.ProjInDxRefIdeal.main_arg4))
      ∧ r.2.sem = fun _ => 0)

def quiescent_ProjInDxRefIdeal_pre_proj_in_dx_finite [hProjInDxRefIdeal : Cert.ProjInDxRefIdeal.Facts] [hPre_proj_in_dx_finite : Cert.Pre_proj_in_dx_finite.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal_proj_in_dx_finite m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1)
      ∧ r.2.mem ((c.tc : Thread Cert.ProjInDxRefIdeal.nD Cert.ProjInDxRefIdeal.τ).loc Cert.ProjInDxRefIdeal.main_arg2) = m ((c.tc : Thread Cert.ProjInDxRefIdeal.nD Cert.ProjInDxRefIdeal.τ).loc Cert.ProjInDxRefIdeal.main_arg2)
      ∧ r.2.mem ((c.tc : Thread Cert.ProjInDxRefIdeal.nD Cert.ProjInDxRefIdeal.τ).loc Cert.ProjInDxRefIdeal.main_arg3) = m ((c.tc : Thread Cert.ProjInDxRefIdeal.nD Cert.ProjInDxRefIdeal.τ).loc Cert.ProjInDxRefIdeal.main_arg3)
      ∧ r.2.mem ((c.tc : Thread Cert.ProjInDxRefIdeal.nD Cert.ProjInDxRefIdeal.τ).loc Cert.ProjInDxRefIdeal.main_arg4) = m ((c.tc : Thread Cert.ProjInDxRefIdeal.nD Cert.ProjInDxRefIdeal.τ).loc Cert.ProjInDxRefIdeal.main_arg4))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3)
      ∧ r.2.mem ((c.tc : Thread Cert.ProjOut.nD Cert.ProjOut.τ).loc Cert.ProjOut.main_arg4) = m ((c.tc : Thread Cert.ProjOut.nD Cert.ProjOut.τ).loc Cert.ProjOut.main_arg4)
      ∧ r.2.mem ((c.tc : Thread Cert.ProjOut.nD Cert.ProjOut.τ).loc Cert.ProjOut.main_arg5) = m ((c.tc : Thread Cert.ProjOut.nD Cert.ProjOut.τ).loc Cert.ProjOut.main_arg5)
      ∧ r.2.mem ((c.tc : Thread Cert.ProjOut.nD Cert.ProjOut.τ).loc Cert.ProjOut.main_arg6) = m ((c.tc : Thread Cert.ProjOut.nD Cert.ProjOut.τ).loc Cert.ProjOut.main_arg6))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
      ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
      ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
      ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3)
      ∧ r.2.mem ((c.tc : Thread Cert.ProjOutRefIdeal.nD Cert.ProjOutRefIdeal.τ).loc Cert.ProjOutRefIdeal.main_arg4) = m ((c.tc : Thread Cert.ProjOutRefIdeal.nD Cert.ProjOutRefIdeal.τ).loc Cert.ProjOutRefIdeal.main_arg4)
      ∧ r.2.mem ((c.tc : Thread Cert.ProjOutRefIdeal.nD Cert.ProjOutRefIdeal.τ).loc Cert.ProjOutRefIdeal.main_arg5) = m ((c.tc : Thread Cert.ProjOutRefIdeal.nD Cert.ProjOutRefIdeal.τ).loc Cert.ProjOutRefIdeal.main_arg5)
      ∧ r.2.mem ((c.tc : Thread Cert.ProjOutRefIdeal.nD Cert.ProjOutRefIdeal.τ).loc Cert.ProjOutRefIdeal.main_arg6) = m ((c.tc : Thread Cert.ProjOutRefIdeal.nD Cert.ProjOutRefIdeal.τ).loc Cert.ProjOutRefIdeal.main_arg6))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_FfnDownLast [hFfnDownLast : Cert.FfnDownLast.Facts] : Prop :=
  ∀ (m : (ℓ : Loc Cert.FfnDownLast.nD Cert.FfnDownLast.τ Cert.FfnDownLast.sig) → Buf (Elt Bits) ℓ) (g : Dev Cert.FfnDownLast.nD → PrngReg), Pre_FfnDownLast m →
    θ_run (Cert.FfnDownLast.defs (F := Bits)) (onTc (τ := Cert.FfnDownLast.τ) (Cert.FfnDownLast.main (F := Bits))) ⟨m, fun _ => 0, g⟩ (fun r => (∀ c : Dev Cert.FfnDownLast.nD,
      r.2.mem ((c.tc : Thread Cert.FfnDownLast.nD Cert.FfnDownLast.τ).loc Cert.FfnDownLast.main_arg0) = m ((c.tc : Thread Cert.FfnDownLast.nD Cert.FfnDownLast.τ).loc Cert.FfnDownLast.main_arg0)
      ∧ r.2.mem ((c.tc : Thread Cert.FfnDownLast.nD Cert.FfnDownLast.τ).loc Cert.FfnDownLast.main_arg1) = m ((c.tc : Thread Cert.FfnDownLast.nD Cert.FfnDownLast.τ).loc Cert.FfnDownLast.main_arg1)
      ∧ r.2.mem ((c.tc : Thread Cert.FfnDownLast.nD Cert.FfnDownLast.τ).loc Cert.FfnDownLast.main_arg2) = m ((c.tc : Thread Cert.FfnDownLast.nD Cert.FfnDownLast.τ).loc Cert.FfnDownLast.main_arg2))
      ∧ r.2.sem = fun _ => 0)

def quiescent_FfnDownLastIdeal [hFfnDownLastIdeal : Cert.FfnDownLastIdeal.Facts] : Prop :=
  ∀ (m : (ℓ : Loc Cert.FfnDownLastIdeal.nD Cert.FfnDownLastIdeal.τ Cert.FfnDownLastIdeal.sig) → Buf (Elt Ideal) ℓ) (g : Dev Cert.FfnDownLastIdeal.nD → PrngReg), Pre_FfnDownLastIdeal m →
    θ_run (Cert.FfnDownLastIdeal.defs (F := Ideal)) (onTc (τ := Cert.FfnDownLastIdeal.τ) (Cert.FfnDownLastIdeal.main (F := Ideal))) ⟨m, fun _ => 0, g⟩ (fun r => (∀ c : Dev Cert.FfnDownLastIdeal.nD,
      r.2.mem ((c.tc : Thread Cert.FfnDownLastIdeal.nD Cert.FfnDownLastIdeal.τ).loc Cert.FfnDownLastIdeal.main_arg0) = m ((c.tc : Thread Cert.FfnDownLastIdeal.nD Cert.FfnDownLastIdeal.τ).loc Cert.FfnDownLastIdeal.main_arg0)
      ∧ r.2.mem ((c.tc : Thread Cert.FfnDownLastIdeal.nD Cert.FfnDownLastIdeal.τ).loc Cert.FfnDownLastIdeal.main_arg1) = m ((c.tc : Thread Cert.FfnDownLastIdeal.nD Cert.FfnDownLastIdeal.τ).loc Cert.FfnDownLastIdeal.main_arg1)
      ∧ r.2.mem ((c.tc : Thread Cert.FfnDownLastIdeal.nD Cert.FfnDownLastIdeal.τ).loc Cert.FfnDownLastIdeal.main_arg2) = m ((c.tc : Thread Cert.FfnDownLastIdeal.nD Cert.FfnDownLastIdeal.τ).loc Cert.FfnDownLastIdeal.main_arg2))
      ∧ r.2.sem = fun _ => 0)

def quiescent_FfnDownLastRefIdeal [hFfnDownLastRefIdeal : Cert.FfnDownLastRefIdeal.Facts] : Prop :=
  ∀ (m : (ℓ : Loc Cert.FfnDownLastRefIdeal.nD Cert.FfnDownLastRefIdeal.τ Cert.FfnDownLastRefIdeal.sig) → Buf (Elt Ideal) ℓ) (g : Dev Cert.FfnDownLastRefIdeal.nD → PrngReg), Pre_FfnDownLastRefIdeal m →
    θ_run (Cert.FfnDownLastRefIdeal.defs (F := Ideal)) (onTc (τ := Cert.FfnDownLastRefIdeal.τ) (Cert.FfnDownLastRefIdeal.main (F := Ideal))) ⟨m, fun _ => 0, g⟩ (fun r => (∀ c : Dev Cert.FfnDownLastRefIdeal.nD,
      r.2.mem ((c.tc : Thread Cert.FfnDownLastRefIdeal.nD Cert.FfnDownLastRefIdeal.τ).loc Cert.FfnDownLastRefIdeal.main_arg0) = m ((c.tc : Thread Cert.FfnDownLastRefIdeal.nD Cert.FfnDownLastRefIdeal.τ).loc Cert.FfnDownLastRefIdeal.main_arg0)
      ∧ r.2.mem ((c.tc : Thread Cert.FfnDownLastRefIdeal.nD Cert.FfnDownLastRefIdeal.τ).loc Cert.FfnDownLastRefIdeal.main_arg1) = m ((c.tc : Thread Cert.FfnDownLastRefIdeal.nD Cert.FfnDownLastRefIdeal.τ).loc Cert.FfnDownLastRefIdeal.main_arg1)
      ∧ r.2.mem ((c.tc : Thread Cert.FfnDownLastRefIdeal.nD Cert.FfnDownLastRefIdeal.τ).loc Cert.FfnDownLastRefIdeal.main_arg2) = m ((c.tc : Thread Cert.FfnDownLastRefIdeal.nD Cert.FfnDownLastRefIdeal.τ).loc Cert.FfnDownLastRefIdeal.main_arg2))
      ∧ r.2.sem = fun _ => 0)

def quiescent_ScBwd [hScBwd : Cert.ScBwd.Facts] : Prop :=
  ∀ (m : (ℓ : Loc Cert.ScBwd.nD Cert.ScBwd.τ Cert.ScBwd.sig) → Buf (Elt Bits) ℓ) (g : Dev Cert.ScBwd.nD → PrngReg), Pre_ScBwd m →
    θ_run (Cert.ScBwd.defs (F := Bits)) (onTc (τ := Cert.ScBwd.τ) (Cert.ScBwd.main (F := Bits))) ⟨m, fun _ => 0, g⟩ (fun r => (∀ c : Dev Cert.ScBwd.nD,
      r.2.mem ((c.tc : Thread Cert.ScBwd.nD Cert.ScBwd.τ).loc Cert.ScBwd.main_arg0) = m ((c.tc : Thread Cert.ScBwd.nD Cert.ScBwd.τ).loc Cert.ScBwd.main_arg0)
      ∧ r.2.mem ((c.tc : Thread Cert.ScBwd.nD Cert.ScBwd.τ).loc Cert.ScBwd.main_arg1) = m ((c.tc : Thread Cert.ScBwd.nD Cert.ScBwd.τ).loc Cert.ScBwd.main_arg1)
      ∧ r.2.mem ((c.tc : Thread Cert.ScBwd.nD Cert.ScBwd.τ).loc Cert.ScBwd.main_arg2) = m ((c.tc : Thread Cert.ScBwd.nD Cert.ScBwd.τ).loc Cert.ScBwd.main_arg2))
      ∧ r.2.sem = fun _ => 0)

def quiescent_ScBwdIdeal [hScBwdIdeal : Cert.ScBwdIdeal.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScBwdIdeal_pre_sc_bwd_finite [hScBwdIdeal : Cert.ScBwdIdeal.Facts] [hPre_sc_bwd_finite : Cert.Pre_sc_bwd_finite.Facts] : Prop :=
  ∀ (m : (ℓ : Loc Cert.ScBwdIdeal.nD Cert.ScBwdIdeal.τ Cert.ScBwdIdeal.sig) → Buf (Elt Ideal) ℓ) (g : Dev Cert.ScBwdIdeal.nD → PrngReg), Pre_ScBwdIdeal_sc_bwd_finite m →
    θ_run (Cert.ScBwdIdeal.defs (F := Ideal)) (onTc (τ := Cert.ScBwdIdeal.τ) (Cert.ScBwdIdeal.main (F := Ideal))) ⟨m, fun _ => 0, g⟩ (fun r => (∀ c : Dev Cert.ScBwdIdeal.nD,
      r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
      ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
      ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ r.2.sem = fun _ => 0)

def quiescent_ScBwdRefIdeal [hScBwdRefIdeal : Cert.ScBwdRefIdeal.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2))
      ∧ r.2.sem = fun _ => 0)

def quiescent_ScBwdRefIdeal_pre_sc_bwd_finite [hScBwdRefIdeal : Cert.ScBwdRefIdeal.Facts] [hPre_sc_bwd_finite : Cert.Pre_sc_bwd_finite.Facts] : Prop :=
  ∀ (m : (ℓ : Loc Cert.ScBwdRefIdeal.nD Cert.ScBwdRefIdeal.τ Cert.ScBwdRefIdeal.sig) → Buf (Elt Ideal) ℓ) (g : Dev Cert.ScBwdRefIdeal.nD → PrngReg), Pre_ScBwdRefIdeal_sc_bwd_finite m →
    θ_run (Cert.ScBwdRefIdeal.defs (F := Ideal)) (onTc (τ := Cert.ScBwdRefIdeal.τ) (Cert.ScBwdRefIdeal.main (F := Ideal))) ⟨m, fun _ => 0, g⟩ (fun r => (∀ c : Dev Cert.ScBwdRefIdeal.nD,
      r.2.mem ((c.tc : Thread Cert.ScBwdRefIdeal.nD Cert.ScBwdRefIdeal.τ).loc Cert.ScBwdRefIdeal.main_arg0) = m ((c.tc : Thread Cert.ScBwdRefIdeal.nD Cert.ScBwdRefIdeal.τ).loc Cert.ScBwdRefIdeal.main_arg0)
      ∧ r.2.mem ((c.tc : Thread Cert.ScBwdRefIdeal.nD Cert.ScBwdRefIdeal.τ).loc Cert.ScBwdRefIdeal.main_arg1) = m ((c.tc : Thread Cert.ScBwdRefIdeal.nD Cert.ScBwdRefIdeal.τ).loc Cert.ScBwdRefIdeal.main_arg1)
      ∧ r.2.mem ((c.tc : Thread Cert.ScBwdRefIdeal.nD Cert.ScBwdRefIdeal.τ).loc Cert.ScBwdRefIdeal.main_arg2) = m ((c.tc : Thread Cert.ScBwdRefIdeal.nD Cert.ScBwdRefIdeal.τ).loc Cert.ScBwdRefIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdIdeal_pre_sgu_finite [hSguFwdIdeal : Cert.SguFwdIdeal.Facts] [hPre_sgu_finite : Cert.Pre_sgu_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_sgu_finite m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SguFwdRefIdeal_pre_sgu_finite [hSguFwdRefIdeal : Cert.SguFwdRefIdeal.Facts] [hPre_sgu_finite : Cert.Pre_sgu_finite.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_sgu_finite m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_ScFwd [hScFwd : Cert.ScFwd.Facts] : Prop :=
  ∀ (m : (ℓ : Loc Cert.ScFwd.nD Cert.ScFwd.τ Cert.ScFwd.sig) → Buf (Elt Bits) ℓ) (g : Dev Cert.ScFwd.nD → PrngReg), Pre_ScFwd m →
    θ_run (Cert.ScFwd.defs (F := Bits)) (onTc (τ := Cert.ScFwd.τ) (Cert.ScFwd.main (F := Bits))) ⟨m, fun _ => 0, g⟩ (fun r => (∀ c : Dev Cert.ScFwd.nD,
      r.2.mem ((c.tc : Thread Cert.ScFwd.nD Cert.ScFwd.τ).loc Cert.ScFwd.main_arg0) = m ((c.tc : Thread Cert.ScFwd.nD Cert.ScFwd.τ).loc Cert.ScFwd.main_arg0)
      ∧ r.2.mem ((c.tc : Thread Cert.ScFwd.nD Cert.ScFwd.τ).loc Cert.ScFwd.main_arg1) = m ((c.tc : Thread Cert.ScFwd.nD Cert.ScFwd.τ).loc Cert.ScFwd.main_arg1))
      ∧ r.2.sem = fun _ => 0)

def quiescent_ScFwdIdeal [hScFwdIdeal : Cert.ScFwdIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg), Pre_ScFwdIdeal m →
    θ_run (Cert.ScFwdIdeal.defs (F := Ideal)) (onTc (τ := Cert.ScFwdIdeal.τ) (Cert.ScFwdIdeal.main (F := Ideal))) ⟨m, fun _ => 0, g⟩ (fun r => (∀ c : Dev Cert.ScFwdIdeal.nD,
      r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
      ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ r.2.sem = fun _ => 0)

def quiescent_ScFwdRefIdeal [hScFwdRefIdeal : Cert.ScFwdRefIdeal.Facts] : Prop :=
  ∀ (m : (ℓ : Loc Cert.ScFwdRefIdeal.nD Cert.ScFwdRefIdeal.τ Cert.ScFwdRefIdeal.sig) → Buf (Elt Ideal) ℓ) (g : Dev Cert.ScFwdRefIdeal.nD → PrngReg), Pre_ScFwdRefIdeal m →
    θ_run (Cert.ScFwdRefIdeal.defs (F := Ideal)) (onTc (τ := Cert.ScFwdRefIdeal.τ) (Cert.ScFwdRefIdeal.main (F := Ideal))) ⟨m, fun _ => 0, g⟩ (fun r => (∀ c : Dev Cert.ScFwdRefIdeal.nD,
      r.2.mem ((c.tc : Thread Cert.ScFwdRefIdeal.nD Cert.ScFwdRefIdeal.τ).loc Cert.ScFwdRefIdeal.main_arg0) = m ((c.tc : Thread Cert.ScFwdRefIdeal.nD Cert.ScFwdRefIdeal.τ).loc Cert.ScFwdRefIdeal.main_arg0)
      ∧ r.2.mem ((c.tc : Thread Cert.ScFwdRefIdeal.nD Cert.ScFwdRefIdeal.τ).loc Cert.ScFwdRefIdeal.main_arg1) = m ((c.tc : Thread Cert.ScFwdRefIdeal.nD Cert.ScFwdRefIdeal.τ).loc Cert.ScFwdRefIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)) (v4 : (c : Dev Cert.KernelIdeal.nD) → Buf (Elt Ideal) ((c.tc : Thread Cert.KernelIdeal.nD Cert.KernelIdeal.τ).loc Cert.KernelIdeal.main_v5_4)) (v5 : (c : Dev Cert.KernelIdeal.nD) → Buf (Elt Ideal) ((c.tc : Thread Cert.KernelIdeal.nD Cert.KernelIdeal.τ).loc Cert.KernelIdeal.main_v5_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_v5_4) = v4 c
          ∧ r.2.mem ((c.tc : Thread Cert.KernelIdeal.nD Cert.KernelIdeal.τ).loc Cert.KernelIdeal.main_v5_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_v168) = v2 c
          ∧ r.2.mem ((c.tc : Thread Cert.ReferenceIdeal.nD Cert.ReferenceIdeal.τ).loc Cert.ReferenceIdeal.main_v169) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v163) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnDownDx_FfnDownDxIdeal : Prop :=
  True

def algebraic_FfnDownDxIdeal_FfnDownDxRefIdeal_pre_ffn_down_dx_finite [hFfnDownDxIdeal : Cert.FfnDownDxIdeal.Facts] [hFfnDownDxRefIdeal : Cert.FfnDownDxRefIdeal.Facts] [hPre_ffn_down_dx_finite : Cert.Pre_ffn_down_dx_finite.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal_ffn_down_dx_finite m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)
      ∧ m' ((c.tc : Thread Cert.FfnDownDxRefIdeal.nD Cert.FfnDownDxRefIdeal.τ).loc Cert.FfnDownDxRefIdeal.main_arg2) = m ((c.tc : Thread Cert.FfnDownDxIdeal.nD Cert.FfnDownDxIdeal.τ).loc Cert.FfnDownDxIdeal.main_arg2)
      ∧ m' ((c.tc : Thread Cert.FfnDownDxRefIdeal.nD Cert.FfnDownDxRefIdeal.τ).loc Cert.FfnDownDxRefIdeal.main_arg3) = m ((c.tc : Thread Cert.FfnDownDxIdeal.nD Cert.FfnDownDxIdeal.τ).loc Cert.FfnDownDxIdeal.main_arg3)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1)
          ∧ r.2.mem ((c.tc : Thread Cert.FfnDownDxIdeal.nD Cert.FfnDownDxIdeal.τ).loc Cert.FfnDownDxIdeal.main_arg2) = m ((c.tc : Thread Cert.FfnDownDxIdeal.nD Cert.FfnDownDxIdeal.τ).loc Cert.FfnDownDxIdeal.main_arg2)
          ∧ r.2.mem ((c.tc : Thread Cert.FfnDownDxIdeal.nD Cert.FfnDownDxIdeal.τ).loc Cert.FfnDownDxIdeal.main_arg3) = m ((c.tc : Thread Cert.FfnDownDxIdeal.nD Cert.FfnDownDxIdeal.τ).loc Cert.FfnDownDxIdeal.main_arg3))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v11) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1)
          ∧ r.2.mem ((c.tc : Thread Cert.FfnDownDxRefIdeal.nD Cert.FfnDownDxRefIdeal.τ).loc Cert.FfnDownDxRefIdeal.main_arg2) = m' ((c.tc : Thread Cert.FfnDownDxRefIdeal.nD Cert.FfnDownDxRefIdeal.τ).loc Cert.FfnDownDxRefIdeal.main_arg2)
          ∧ r.2.mem ((c.tc : Thread Cert.FfnDownDxRefIdeal.nD Cert.FfnDownDxRefIdeal.τ).loc Cert.FfnDownDxRefIdeal.main_arg3) = m' ((c.tc : Thread Cert.FfnDownDxRefIdeal.nD Cert.FfnDownDxRefIdeal.τ).loc Cert.FfnDownDxRefIdeal.main_arg3))

def preserves_FfnUpDx_FfnUpDxIdeal : Prop :=
  True

def algebraic_FfnUpDxIdeal_FfnUpDxRefIdeal_pre_ffn_up_dx_finite [hFfnUpDxIdeal : Cert.FfnUpDxIdeal.Facts] [hFfnUpDxRefIdeal : Cert.FfnUpDxRefIdeal.Facts] [hPre_ffn_up_dx_finite : Cert.Pre_ffn_up_dx_finite.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal_ffn_up_dx_finite m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)
      ∧ m' ((c.tc : Thread Cert.FfnUpDxRefIdeal.nD Cert.FfnUpDxRefIdeal.τ).loc Cert.FfnUpDxRefIdeal.main_arg2) = m ((c.tc : Thread Cert.FfnUpDxIdeal.nD Cert.FfnUpDxIdeal.τ).loc Cert.FfnUpDxIdeal.main_arg2)
      ∧ m' ((c.tc : Thread Cert.FfnUpDxRefIdeal.nD Cert.FfnUpDxRefIdeal.τ).loc Cert.FfnUpDxRefIdeal.main_arg3) = m ((c.tc : Thread Cert.FfnUpDxIdeal.nD Cert.FfnUpDxIdeal.τ).loc Cert.FfnUpDxIdeal.main_arg3)
      ∧ m' ((c.tc : Thread Cert.FfnUpDxRefIdeal.nD Cert.FfnUpDxRefIdeal.τ).loc Cert.FfnUpDxRefIdeal.main_arg4) = m ((c.tc : Thread Cert.FfnUpDxIdeal.nD Cert.FfnUpDxIdeal.τ).loc Cert.FfnUpDxIdeal.main_arg4)) →
    ∃ (v0 : (c : Dev Cert.FfnUpDxIdeal.nD) → Buf (Elt Ideal) ((c.tc : Thread Cert.FfnUpDxIdeal.nD Cert.FfnUpDxIdeal.τ).loc Cert.FfnUpDxIdeal.main_v1_0)) (v1 : (c : Dev Cert.FfnUpDxIdeal.nD) → Buf (Elt Ideal) ((c.tc : Thread Cert.FfnUpDxIdeal.nD Cert.FfnUpDxIdeal.τ).loc Cert.FfnUpDxIdeal.main_v1_1)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v1_0) = v0 c
          ∧ r.2.mem ((c.tc : Thread Cert.FfnUpDxIdeal.nD Cert.FfnUpDxIdeal.τ).loc Cert.FfnUpDxIdeal.main_v1_1) = v1 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1)
          ∧ r.2.mem ((c.tc : Thread Cert.FfnUpDxIdeal.nD Cert.FfnUpDxIdeal.τ).loc Cert.FfnUpDxIdeal.main_arg2) = m ((c.tc : Thread Cert.FfnUpDxIdeal.nD Cert.FfnUpDxIdeal.τ).loc Cert.FfnUpDxIdeal.main_arg2)
          ∧ r.2.mem ((c.tc : Thread Cert.FfnUpDxIdeal.nD Cert.FfnUpDxIdeal.τ).loc Cert.FfnUpDxIdeal.main_arg3) = m ((c.tc : Thread Cert.FfnUpDxIdeal.nD Cert.FfnUpDxIdeal.τ).loc Cert.FfnUpDxIdeal.main_arg3)
          ∧ r.2.mem ((c.tc : Thread Cert.FfnUpDxIdeal.nD Cert.FfnUpDxIdeal.τ).loc Cert.FfnUpDxIdeal.main_arg4) = m ((c.tc : Thread Cert.FfnUpDxIdeal.nD Cert.FfnUpDxIdeal.τ).loc Cert.FfnUpDxIdeal.main_arg4))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v45) = v0 c
          ∧ r.2.mem ((c.tc : Thread Cert.FfnUpDxRefIdeal.nD Cert.FfnUpDxRefIdeal.τ).loc Cert.FfnUpDxRefIdeal.main_v46) = v1 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1)
          ∧ r.2.mem ((c.tc : Thread Cert.FfnUpDxRefIdeal.nD Cert.FfnUpDxRefIdeal.τ).loc Cert.FfnUpDxRefIdeal.main_arg2) = m' ((c.tc : Thread Cert.FfnUpDxRefIdeal.nD Cert.FfnUpDxRefIdeal.τ).loc Cert.FfnUpDxRefIdeal.main_arg2)
          ∧ r.2.mem ((c.tc : Thread Cert.FfnUpDxRefIdeal.nD Cert.FfnUpDxRefIdeal.τ).loc Cert.FfnUpDxRefIdeal.main_arg3) = m' ((c.tc : Thread Cert.FfnUpDxRefIdeal.nD Cert.FfnUpDxRefIdeal.τ).loc Cert.FfnUpDxRefIdeal.main_arg3)
          ∧ r.2.mem ((c.tc : Thread Cert.FfnUpDxRefIdeal.nD Cert.FfnUpDxRefIdeal.τ).loc Cert.FfnUpDxRefIdeal.main_arg4) = m' ((c.tc : Thread Cert.FfnUpDxRefIdeal.nD Cert.FfnUpDxRefIdeal.τ).loc Cert.FfnUpDxRefIdeal.main_arg4))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v13) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_v4) = v1 c
          ∧ r.2.mem ((c.tc : Thread Cert.FfnUpRefIdeal.nD Cert.FfnUpRefIdeal.τ).loc Cert.FfnUpRefIdeal.main_v7) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_ProjOutDw_ProjOutDwIdeal : Prop :=
  True

def algebraic_ProjOutDwIdeal_ProjOutDwRefIdeal [hProjOutDwIdeal : Cert.ProjOutDwIdeal.Facts] [hProjOutDwRefIdeal : Cert.ProjOutDwRefIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg)
    (m' : (ℓ : Loc Cert.ProjOutDwRefIdeal.nD Cert.ProjOutDwRefIdeal.τ Cert.ProjOutDwRefIdeal.sig) → Buf (Elt Ideal) ℓ) (g' : Dev Cert.ProjOutDwRefIdeal.nD → PrngReg), Pre_ProjOutDwIdeal m →
    (∀ c : Dev Cert.ProjOutDwIdeal.nD,
      m' ((c.tc : Thread Cert.ProjOutDwRefIdeal.nD Cert.ProjOutDwRefIdeal.τ).loc Cert.ProjOutDwRefIdeal.main_arg0) = m ((c.tc : Thread Cert.ProjOutDwIdeal.nD Cert.ProjOutDwIdeal.τ).loc Cert.ProjOutDwIdeal.main_arg0)
      ∧ m' ((c.tc : Thread Cert.ProjOutDwRefIdeal.nD Cert.ProjOutDwRefIdeal.τ).loc Cert.ProjOutDwRefIdeal.main_arg1) = m ((c.tc : Thread Cert.ProjOutDwIdeal.nD Cert.ProjOutDwIdeal.τ).loc Cert.ProjOutDwIdeal.main_arg1)
      ∧ m' ((c.tc : Thread Cert.ProjOutDwRefIdeal.nD Cert.ProjOutDwRefIdeal.τ).loc Cert.ProjOutDwRefIdeal.main_arg2) = m ((c.tc : Thread Cert.ProjOutDwIdeal.nD Cert.ProjOutDwIdeal.τ).loc Cert.ProjOutDwIdeal.main_arg2)
      ∧ m' ((c.tc : Thread Cert.ProjOutDwRefIdeal.nD Cert.ProjOutDwRefIdeal.τ).loc Cert.ProjOutDwRefIdeal.main_arg3) = m ((c.tc : Thread Cert.ProjOutDwIdeal.nD Cert.ProjOutDwIdeal.τ).loc Cert.ProjOutDwIdeal.main_arg3)
      ∧ m' ((c.tc : Thread Cert.ProjOutDwRefIdeal.nD Cert.ProjOutDwRefIdeal.τ).loc Cert.ProjOutDwRefIdeal.main_arg4) = m ((c.tc : Thread Cert.ProjOutDwIdeal.nD Cert.ProjOutDwIdeal.τ).loc Cert.ProjOutDwIdeal.main_arg4)) →
    ∃ (v0 : (c : Dev Cert.ProjOutDwIdeal.nD) → Buf (Elt Ideal) ((c.tc : Thread Cert.ProjOutDwIdeal.nD Cert.ProjOutDwIdeal.τ).loc Cert.ProjOutDwIdeal.main_v0)),
      θ_run (Cert.ProjOutDwIdeal.defs (F := Ideal)) (onTc (τ := Cert.ProjOutDwIdeal.τ) (Cert.ProjOutDwIdeal.main (F := Ideal))) ⟨m, fun _ => 0, g⟩ (fun r => ∀ c : Dev Cert.ProjOutDwIdeal.nD,
          r.2.mem ((c.tc : Thread Cert.ProjOutDwIdeal.nD Cert.ProjOutDwIdeal.τ).loc Cert.ProjOutDwIdeal.main_v0) = v0 c
          ∧ r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
          ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1)
          ∧ r.2.mem ((c.tc : Thread Cert.ProjOutDwIdeal.nD Cert.ProjOutDwIdeal.τ).loc Cert.ProjOutDwIdeal.main_arg2) = m ((c.tc : Thread Cert.ProjOutDwIdeal.nD Cert.ProjOutDwIdeal.τ).loc Cert.ProjOutDwIdeal.main_arg2)
          ∧ r.2.mem ((c.tc : Thread Cert.ProjOutDwIdeal.nD Cert.ProjOutDwIdeal.τ).loc Cert.ProjOutDwIdeal.main_arg3) = m ((c.tc : Thread Cert.ProjOutDwIdeal.nD Cert.ProjOutDwIdeal.τ).loc Cert.ProjOutDwIdeal.main_arg3)
          ∧ r.2.mem ((c.tc : Thread Cert.ProjOutDwIdeal.nD Cert.ProjOutDwIdeal.τ).loc Cert.ProjOutDwIdeal.main_arg4) = m ((c.tc : Thread Cert.ProjOutDwIdeal.nD Cert.ProjOutDwIdeal.τ).loc Cert.ProjOutDwIdeal.main_arg4))
      ∧ θ_run (Cert.ProjOutDwRefIdeal.defs (F := Ideal)) (onTc (τ := Cert.ProjOutDwRefIdeal.τ) (Cert.ProjOutDwRefIdeal.main (F := Ideal))) ⟨m', fun _ => 0, g'⟩ (fun r => ∀ c : Dev Cert.ProjOutDwRefIdeal.nD,
          r.2.mem ((c.tc : Thread Cert.ProjOutDwRefIdeal.nD Cert.ProjOutDwRefIdeal.τ).loc Cert.ProjOutDwRefIdeal.main_v6) = v0 c
          ∧ r.2.mem ((c.tc : Thread Cert.ProjOutDwRefIdeal.nD Cert.ProjOutDwRefIdeal.τ).loc Cert.ProjOutDwRefIdeal.main_arg0) = m' ((c.tc : Thread Cert.ProjOutDwRefIdeal.nD Cert.ProjOutDwRefIdeal.τ).loc Cert.ProjOutDwRefIdeal.main_arg0)
          ∧ r.2.mem ((c.tc : Thread Cert.ProjOutDwRefIdeal.nD Cert.ProjOutDwRefIdeal.τ).loc Cert.ProjOutDwRefIdeal.main_arg1) = m' ((c.tc : Thread Cert.ProjOutDwRefIdeal.nD Cert.ProjOutDwRefIdeal.τ).loc Cert.ProjOutDwRefIdeal.main_arg1)
          ∧ r.2.mem ((c.tc : Thread Cert.ProjOutDwRefIdeal.nD Cert.ProjOutDwRefIdeal.τ).loc Cert.ProjOutDwRefIdeal.main_arg2) = m' ((c.tc : Thread Cert.ProjOutDwRefIdeal.nD Cert.ProjOutDwRefIdeal.τ).loc Cert.ProjOutDwRefIdeal.main_arg2)
          ∧ r.2.mem ((c.tc : Thread Cert.ProjOutDwRefIdeal.nD Cert.ProjOutDwRefIdeal.τ).loc Cert.ProjOutDwRefIdeal.main_arg3) = m' ((c.tc : Thread Cert.ProjOutDwRefIdeal.nD Cert.ProjOutDwRefIdeal.τ).loc Cert.ProjOutDwRefIdeal.main_arg3)
          ∧ r.2.mem ((c.tc : Thread Cert.ProjOutDwRefIdeal.nD Cert.ProjOutDwRefIdeal.τ).loc Cert.ProjOutDwRefIdeal.main_arg4) = m' ((c.tc : Thread Cert.ProjOutDwRefIdeal.nD Cert.ProjOutDwRefIdeal.τ).loc Cert.ProjOutDwRefIdeal.main_arg4))

def preserves_ProjOutDx_ProjOutDxIdeal : Prop :=
  True

def algebraic_ProjOutDxIdeal_ProjOutDxRefIdeal [hProjOutDxIdeal : Cert.ProjOutDxIdeal.Facts] [hProjOutDxRefIdeal : Cert.ProjOutDxRefIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg)
    (m' : (ℓ : Loc Cert.ProjOutDxRefIdeal.nD Cert.ProjOutDxRefIdeal.τ Cert.ProjOutDxRefIdeal.sig) → Buf (Elt Ideal) ℓ) (g' : Dev Cert.ProjOutDxRefIdeal.nD → PrngReg), Pre_ProjOutDxIdeal m →
    (∀ c : Dev Cert.ProjOutDxIdeal.nD,
      m' ((c.tc : Thread Cert.ProjOutDxRefIdeal.nD Cert.ProjOutDxRefIdeal.τ).loc Cert.ProjOutDxRefIdeal.main_arg0) = m ((c.tc : Thread Cert.ProjOutDxIdeal.nD Cert.ProjOutDxIdeal.τ).loc Cert.ProjOutDxIdeal.main_arg0)
      ∧ m' ((c.tc : Thread Cert.ProjOutDxRefIdeal.nD Cert.ProjOutDxRefIdeal.τ).loc Cert.ProjOutDxRefIdeal.main_arg1) = m ((c.tc : Thread Cert.ProjOutDxIdeal.nD Cert.ProjOutDxIdeal.τ).loc Cert.ProjOutDxIdeal.main_arg1)) →
    ∃ (v0 : (c : Dev Cert.ProjOutDxIdeal.nD) → Buf (Elt Ideal) ((c.tc : Thread Cert.ProjOutDxIdeal.nD Cert.ProjOutDxIdeal.τ).loc Cert.ProjOutDxIdeal.main_v0)),
      θ_run (Cert.ProjOutDxIdeal.defs (F := Ideal)) (onTc (τ := Cert.ProjOutDxIdeal.τ) (Cert.ProjOutDxIdeal.main (F := Ideal))) ⟨m, fun _ => 0, g⟩ (fun r => ∀ c : Dev Cert.ProjOutDxIdeal.nD,
          r.2.mem ((c.tc : Thread Cert.ProjOutDxIdeal.nD Cert.ProjOutDxIdeal.τ).loc Cert.ProjOutDxIdeal.main_v0) = v0 c
          ∧ r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
          ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1))
      ∧ θ_run (Cert.ProjOutDxRefIdeal.defs (F := Ideal)) (onTc (τ := Cert.ProjOutDxRefIdeal.τ) (Cert.ProjOutDxRefIdeal.main (F := Ideal))) ⟨m', fun _ => 0, g'⟩ (fun r => ∀ c : Dev Cert.ProjOutDxRefIdeal.nD,
          r.2.mem ((c.tc : Thread Cert.ProjOutDxRefIdeal.nD Cert.ProjOutDxRefIdeal.τ).loc Cert.ProjOutDxRefIdeal.main_v3) = v0 c
          ∧ r.2.mem ((c.tc : Thread Cert.ProjOutDxRefIdeal.nD Cert.ProjOutDxRefIdeal.τ).loc Cert.ProjOutDxRefIdeal.main_arg0) = m' ((c.tc : Thread Cert.ProjOutDxRefIdeal.nD Cert.ProjOutDxRefIdeal.τ).loc Cert.ProjOutDxRefIdeal.main_arg0)
          ∧ r.2.mem ((c.tc : Thread Cert.ProjOutDxRefIdeal.nD Cert.ProjOutDxRefIdeal.τ).loc Cert.ProjOutDxRefIdeal.main_arg1) = m' ((c.tc : Thread Cert.ProjOutDxRefIdeal.nD Cert.ProjOutDxRefIdeal.τ).loc Cert.ProjOutDxRefIdeal.main_arg1))

def preserves_ProjInDw_ProjInDwIdeal : Prop :=
  True

def algebraic_ProjInDwIdeal_ProjInDwRefIdeal [hProjInDwIdeal : Cert.ProjInDwIdeal.Facts] [hProjInDwRefIdeal : Cert.ProjInDwRefIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRefIdeal.nD Cert.ProjInDwRefIdeal.τ Cert.ProjInDwRefIdeal.sig) → Buf (Elt Ideal) ℓ) (g' : Dev Cert.ProjInDwRefIdeal.nD → PrngReg), Pre_ProjInDwIdeal m →
    (∀ c : Dev Cert.ProjInDwIdeal.nD,
      m' ((c.tc : Thread Cert.ProjInDwRefIdeal.nD Cert.ProjInDwRefIdeal.τ).loc Cert.ProjInDwRefIdeal.main_arg0) = m ((c.tc : Thread Cert.ProjInDwIdeal.nD Cert.ProjInDwIdeal.τ).loc Cert.ProjInDwIdeal.main_arg0)
      ∧ m' ((c.tc : Thread Cert.ProjInDwRefIdeal.nD Cert.ProjInDwRefIdeal.τ).loc Cert.ProjInDwRefIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v0)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v0) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwRefIdeal.defs (F := Ideal)) (onTc (τ := Cert.ProjInDwRefIdeal.τ) (Cert.ProjInDwRefIdeal.main (F := Ideal))) ⟨m', fun _ => 0, g'⟩ (fun r => ∀ c : Dev Cert.ProjInDwRefIdeal.nD,
          r.2.mem ((c.tc : Thread Cert.ProjInDwRefIdeal.nD Cert.ProjInDwRefIdeal.τ).loc Cert.ProjInDwRefIdeal.main_v6) = v0 c
          ∧ r.2.mem ((c.tc : Thread Cert.ProjInDwRefIdeal.nD Cert.ProjInDwRefIdeal.τ).loc Cert.ProjInDwRefIdeal.main_arg0) = m' ((c.tc : Thread Cert.ProjInDwRefIdeal.nD Cert.ProjInDwRefIdeal.τ).loc Cert.ProjInDwRefIdeal.main_arg0)
          ∧ r.2.mem ((c.tc : Thread Cert.ProjInDwRefIdeal.nD Cert.ProjInDwRefIdeal.τ).loc Cert.ProjInDwRefIdeal.main_arg1) = m' ((c.tc : Thread Cert.ProjInDwRefIdeal.nD Cert.ProjInDwRefIdeal.τ).loc Cert.ProjInDwRefIdeal.main_arg1))

def preserves_ProjInDx_ProjInDxIdeal : Prop :=
  True

def algebraic_ProjInDxIdeal_ProjInDxRefIdeal_pre_proj_in_dx_finite [hProjInDxIdeal : Cert.ProjInDxIdeal.Facts] [hProjInDxRefIdeal : Cert.ProjInDxRefIdeal.Facts] [hPre_proj_in_dx_finite : Cert.Pre_proj_in_dx_finite.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal_proj_in_dx_finite m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)
      ∧ m' ((c.tc : Thread Cert.ProjInDxRefIdeal.nD Cert.ProjInDxRefIdeal.τ).loc Cert.ProjInDxRefIdeal.main_arg2) = m ((c.tc : Thread Cert.ProjInDxIdeal.nD Cert.ProjInDxIdeal.τ).loc Cert.ProjInDxIdeal.main_arg2)
      ∧ m' ((c.tc : Thread Cert.ProjInDxRefIdeal.nD Cert.ProjInDxRefIdeal.τ).loc Cert.ProjInDxRefIdeal.main_arg3) = m ((c.tc : Thread Cert.ProjInDxIdeal.nD Cert.ProjInDxIdeal.τ).loc Cert.ProjInDxIdeal.main_arg3)
      ∧ m' ((c.tc : Thread Cert.ProjInDxRefIdeal.nD Cert.ProjInDxRefIdeal.τ).loc Cert.ProjInDxRefIdeal.main_arg4) = m ((c.tc : Thread Cert.ProjInDxIdeal.nD Cert.ProjInDxIdeal.τ).loc Cert.ProjInDxIdeal.main_arg4)) →
    ∃ (v0 : (c : Dev Cert.ProjInDxIdeal.nD) → Buf (Elt Ideal) ((c.tc : Thread Cert.ProjInDxIdeal.nD Cert.ProjInDxIdeal.τ).loc Cert.ProjInDxIdeal.main_v1_0)) (v1 : (c : Dev Cert.ProjInDxIdeal.nD) → Buf (Elt Ideal) ((c.tc : Thread Cert.ProjInDxIdeal.nD Cert.ProjInDxIdeal.τ).loc Cert.ProjInDxIdeal.main_v1_1)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v1_0) = v0 c
          ∧ r.2.mem ((c.tc : Thread Cert.ProjInDxIdeal.nD Cert.ProjInDxIdeal.τ).loc Cert.ProjInDxIdeal.main_v1_1) = v1 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1)
          ∧ r.2.mem ((c.tc : Thread Cert.ProjInDxIdeal.nD Cert.ProjInDxIdeal.τ).loc Cert.ProjInDxIdeal.main_arg2) = m ((c.tc : Thread Cert.ProjInDxIdeal.nD Cert.ProjInDxIdeal.τ).loc Cert.ProjInDxIdeal.main_arg2)
          ∧ r.2.mem ((c.tc : Thread Cert.ProjInDxIdeal.nD Cert.ProjInDxIdeal.τ).loc Cert.ProjInDxIdeal.main_arg3) = m ((c.tc : Thread Cert.ProjInDxIdeal.nD Cert.ProjInDxIdeal.τ).loc Cert.ProjInDxIdeal.main_arg3)
          ∧ r.2.mem ((c.tc : Thread Cert.ProjInDxIdeal.nD Cert.ProjInDxIdeal.τ).loc Cert.ProjInDxIdeal.main_arg4) = m ((c.tc : Thread Cert.ProjInDxIdeal.nD Cert.ProjInDxIdeal.τ).loc Cert.ProjInDxIdeal.main_arg4))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v40) = v0 c
          ∧ r.2.mem ((c.tc : Thread Cert.ProjInDxRefIdeal.nD Cert.ProjInDxRefIdeal.τ).loc Cert.ProjInDxRefIdeal.main_v41) = v1 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1)
          ∧ r.2.mem ((c.tc : Thread Cert.ProjInDxRefIdeal.nD Cert.ProjInDxRefIdeal.τ).loc Cert.ProjInDxRefIdeal.main_arg2) = m' ((c.tc : Thread Cert.ProjInDxRefIdeal.nD Cert.ProjInDxRefIdeal.τ).loc Cert.ProjInDxRefIdeal.main_arg2)
          ∧ r.2.mem ((c.tc : Thread Cert.ProjInDxRefIdeal.nD Cert.ProjInDxRefIdeal.τ).loc Cert.ProjInDxRefIdeal.main_arg3) = m' ((c.tc : Thread Cert.ProjInDxRefIdeal.nD Cert.ProjInDxRefIdeal.τ).loc Cert.ProjInDxRefIdeal.main_arg3)
          ∧ r.2.mem ((c.tc : Thread Cert.ProjInDxRefIdeal.nD Cert.ProjInDxRefIdeal.τ).loc Cert.ProjInDxRefIdeal.main_arg4) = m' ((c.tc : Thread Cert.ProjInDxRefIdeal.nD Cert.ProjInDxRefIdeal.τ).loc Cert.ProjInDxRefIdeal.main_arg4))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)
      ∧ m' ((c.tc : Thread Cert.ProjOutRefIdeal.nD Cert.ProjOutRefIdeal.τ).loc Cert.ProjOutRefIdeal.main_arg4) = m ((c.tc : Thread Cert.ProjOutIdeal.nD Cert.ProjOutIdeal.τ).loc Cert.ProjOutIdeal.main_arg4)
      ∧ m' ((c.tc : Thread Cert.ProjOutRefIdeal.nD Cert.ProjOutRefIdeal.τ).loc Cert.ProjOutRefIdeal.main_arg5) = m ((c.tc : Thread Cert.ProjOutIdeal.nD Cert.ProjOutIdeal.τ).loc Cert.ProjOutIdeal.main_arg5)
      ∧ m' ((c.tc : Thread Cert.ProjOutRefIdeal.nD Cert.ProjOutRefIdeal.τ).loc Cert.ProjOutRefIdeal.main_arg6) = m ((c.tc : Thread Cert.ProjOutIdeal.nD Cert.ProjOutIdeal.τ).loc Cert.ProjOutIdeal.main_arg6)) →
    ∃ (v0 : (c : Dev Cert.ProjOutIdeal.nD) → Buf (Elt Ideal) ((c.tc : Thread Cert.ProjOutIdeal.nD Cert.ProjOutIdeal.τ).loc Cert.ProjOutIdeal.main_v1_0)) (v1 : (c : Dev Cert.ProjOutIdeal.nD) → Buf (Elt Ideal) ((c.tc : Thread Cert.ProjOutIdeal.nD Cert.ProjOutIdeal.τ).loc Cert.ProjOutIdeal.main_v1_1)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v1_0) = v0 c
          ∧ r.2.mem ((c.tc : Thread Cert.ProjOutIdeal.nD Cert.ProjOutIdeal.τ).loc Cert.ProjOutIdeal.main_v1_1) = v1 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3)
          ∧ r.2.mem ((c.tc : Thread Cert.ProjOutIdeal.nD Cert.ProjOutIdeal.τ).loc Cert.ProjOutIdeal.main_arg4) = m ((c.tc : Thread Cert.ProjOutIdeal.nD Cert.ProjOutIdeal.τ).loc Cert.ProjOutIdeal.main_arg4)
          ∧ r.2.mem ((c.tc : Thread Cert.ProjOutIdeal.nD Cert.ProjOutIdeal.τ).loc Cert.ProjOutIdeal.main_arg5) = m ((c.tc : Thread Cert.ProjOutIdeal.nD Cert.ProjOutIdeal.τ).loc Cert.ProjOutIdeal.main_arg5)
          ∧ r.2.mem ((c.tc : Thread Cert.ProjOutIdeal.nD Cert.ProjOutIdeal.τ).loc Cert.ProjOutIdeal.main_arg6) = m ((c.tc : Thread Cert.ProjOutIdeal.nD Cert.ProjOutIdeal.τ).loc Cert.ProjOutIdeal.main_arg6))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v4) = v0 c
          ∧ r.2.mem ((c.tc : Thread Cert.ProjOutRefIdeal.nD Cert.ProjOutRefIdeal.τ).loc Cert.ProjOutRefIdeal.main_v18) = v1 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3)
          ∧ r.2.mem ((c.tc : Thread Cert.ProjOutRefIdeal.nD Cert.ProjOutRefIdeal.τ).loc Cert.ProjOutRefIdeal.main_arg4) = m' ((c.tc : Thread Cert.ProjOutRefIdeal.nD Cert.ProjOutRefIdeal.τ).loc Cert.ProjOutRefIdeal.main_arg4)
          ∧ r.2.mem ((c.tc : Thread Cert.ProjOutRefIdeal.nD Cert.ProjOutRefIdeal.τ).loc Cert.ProjOutRefIdeal.main_arg5) = m' ((c.tc : Thread Cert.ProjOutRefIdeal.nD Cert.ProjOutRefIdeal.τ).loc Cert.ProjOutRefIdeal.main_arg5)
          ∧ r.2.mem ((c.tc : Thread Cert.ProjOutRefIdeal.nD Cert.ProjOutRefIdeal.τ).loc Cert.ProjOutRefIdeal.main_arg6) = m' ((c.tc : Thread Cert.ProjOutRefIdeal.nD Cert.ProjOutRefIdeal.τ).loc Cert.ProjOutRefIdeal.main_arg6))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v1_0)) (v1 : (c : Dev Cert.FfnDownIdeal.nD) → Buf (Elt Ideal) ((c.tc : Thread Cert.FfnDownIdeal.nD Cert.FfnDownIdeal.τ).loc Cert.FfnDownIdeal.main_v1_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1_0) = v0 c
          ∧ r.2.mem ((c.tc : Thread Cert.FfnDownIdeal.nD Cert.FfnDownIdeal.τ).loc Cert.FfnDownIdeal.main_v1_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v17) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_FfnDownLast_FfnDownLastIdeal : Prop :=
  True

def algebraic_FfnDownLastIdeal_FfnDownLastRefIdeal [hFfnDownLastIdeal : Cert.FfnDownLastIdeal.Facts] [hFfnDownLastRefIdeal : Cert.FfnDownLastRefIdeal.Facts] : Prop :=
  ∀ (m : (ℓ : Loc Cert.FfnDownLastIdeal.nD Cert.FfnDownLastIdeal.τ Cert.FfnDownLastIdeal.sig) → Buf (Elt Ideal) ℓ) (g : Dev Cert.FfnDownLastIdeal.nD → PrngReg)
    (m' : (ℓ : Loc Cert.FfnDownLastRefIdeal.nD Cert.FfnDownLastRefIdeal.τ Cert.FfnDownLastRefIdeal.sig) → Buf (Elt Ideal) ℓ) (g' : Dev Cert.FfnDownLastRefIdeal.nD → PrngReg), Pre_FfnDownLastIdeal m →
    (∀ c : Dev Cert.FfnDownLastIdeal.nD,
      m' ((c.tc : Thread Cert.FfnDownLastRefIdeal.nD Cert.FfnDownLastRefIdeal.τ).loc Cert.FfnDownLastRefIdeal.main_arg0) = m ((c.tc : Thread Cert.FfnDownLastIdeal.nD Cert.FfnDownLastIdeal.τ).loc Cert.FfnDownLastIdeal.main_arg0)
      ∧ m' ((c.tc : Thread Cert.FfnDownLastRefIdeal.nD Cert.FfnDownLastRefIdeal.τ).loc Cert.FfnDownLastRefIdeal.main_arg1) = m ((c.tc : Thread Cert.FfnDownLastIdeal.nD Cert.FfnDownLastIdeal.τ).loc Cert.FfnDownLastIdeal.main_arg1)
      ∧ m' ((c.tc : Thread Cert.FfnDownLastRefIdeal.nD Cert.FfnDownLastRefIdeal.τ).loc Cert.FfnDownLastRefIdeal.main_arg2) = m ((c.tc : Thread Cert.FfnDownLastIdeal.nD Cert.FfnDownLastIdeal.τ).loc Cert.FfnDownLastIdeal.main_arg2)) →
    ∃ (v0 : (c : Dev Cert.FfnDownLastIdeal.nD) → Buf (Elt Ideal) ((c.tc : Thread Cert.FfnDownLastIdeal.nD Cert.FfnDownLastIdeal.τ).loc Cert.FfnDownLastIdeal.main_v0)),
      θ_run (Cert.FfnDownLastIdeal.defs (F := Ideal)) (onTc (τ := Cert.FfnDownLastIdeal.τ) (Cert.FfnDownLastIdeal.main (F := Ideal))) ⟨m, fun _ => 0, g⟩ (fun r => ∀ c : Dev Cert.FfnDownLastIdeal.nD,
          r.2.mem ((c.tc : Thread Cert.FfnDownLastIdeal.nD Cert.FfnDownLastIdeal.τ).loc Cert.FfnDownLastIdeal.main_v0) = v0 c
          ∧ r.2.mem ((c.tc : Thread Cert.FfnDownLastIdeal.nD Cert.FfnDownLastIdeal.τ).loc Cert.FfnDownLastIdeal.main_arg0) = m ((c.tc : Thread Cert.FfnDownLastIdeal.nD Cert.FfnDownLastIdeal.τ).loc Cert.FfnDownLastIdeal.main_arg0)
          ∧ r.2.mem ((c.tc : Thread Cert.FfnDownLastIdeal.nD Cert.FfnDownLastIdeal.τ).loc Cert.FfnDownLastIdeal.main_arg1) = m ((c.tc : Thread Cert.FfnDownLastIdeal.nD Cert.FfnDownLastIdeal.τ).loc Cert.FfnDownLastIdeal.main_arg1)
          ∧ r.2.mem ((c.tc : Thread Cert.FfnDownLastIdeal.nD Cert.FfnDownLastIdeal.τ).loc Cert.FfnDownLastIdeal.main_arg2) = m ((c.tc : Thread Cert.FfnDownLastIdeal.nD Cert.FfnDownLastIdeal.τ).loc Cert.FfnDownLastIdeal.main_arg2))
      ∧ θ_run (Cert.FfnDownLastRefIdeal.defs (F := Ideal)) (onTc (τ := Cert.FfnDownLastRefIdeal.τ) (Cert.FfnDownLastRefIdeal.main (F := Ideal))) ⟨m', fun _ => 0, g'⟩ (fun r => ∀ c : Dev Cert.FfnDownLastRefIdeal.nD,
          r.2.mem ((c.tc : Thread Cert.FfnDownLastRefIdeal.nD Cert.FfnDownLastRefIdeal.τ).loc Cert.FfnDownLastRefIdeal.main_v3) = v0 c
          ∧ r.2.mem ((c.tc : Thread Cert.FfnDownLastRefIdeal.nD Cert.FfnDownLastRefIdeal.τ).loc Cert.FfnDownLastRefIdeal.main_arg0) = m' ((c.tc : Thread Cert.FfnDownLastRefIdeal.nD Cert.FfnDownLastRefIdeal.τ).loc Cert.FfnDownLastRefIdeal.main_arg0)
          ∧ r.2.mem ((c.tc : Thread Cert.FfnDownLastRefIdeal.nD Cert.FfnDownLastRefIdeal.τ).loc Cert.FfnDownLastRefIdeal.main_arg1) = m' ((c.tc : Thread Cert.FfnDownLastRefIdeal.nD Cert.FfnDownLastRefIdeal.τ).loc Cert.FfnDownLastRefIdeal.main_arg1)
          ∧ r.2.mem ((c.tc : Thread Cert.FfnDownLastRefIdeal.nD Cert.FfnDownLastRefIdeal.τ).loc Cert.FfnDownLastRefIdeal.main_arg2) = m' ((c.tc : Thread Cert.FfnDownLastRefIdeal.nD Cert.FfnDownLastRefIdeal.τ).loc Cert.FfnDownLastRefIdeal.main_arg2))

def preserves_ScBwd_ScBwdIdeal : Prop :=
  True

def algebraic_ScBwdIdeal_ScBwdRefIdeal_pre_sc_bwd_finite [hScBwdIdeal : Cert.ScBwdIdeal.Facts] [hScBwdRefIdeal : Cert.ScBwdRefIdeal.Facts] [hPre_sc_bwd_finite : Cert.Pre_sc_bwd_finite.Facts] : Prop :=
  ∀ (m : (ℓ : Loc Cert.ScBwdIdeal.nD Cert.ScBwdIdeal.τ Cert.ScBwdIdeal.sig) → Buf (Elt Ideal) ℓ) (g : Dev Cert.ScBwdIdeal.nD → PrngReg)
    (m' : (ℓ : Loc Cert.ScBwdRefIdeal.nD Cert.ScBwdRefIdeal.τ Cert.ScBwdRefIdeal.sig) → Buf (Elt Ideal) ℓ) (g' : Dev Cert.ScBwdRefIdeal.nD → PrngReg), Pre_ScBwdIdeal_sc_bwd_finite m →
    (∀ c : Dev Cert.ScBwdIdeal.nD,
      m' ((c.tc : Thread Cert.ScBwdRefIdeal.nD Cert.ScBwdRefIdeal.τ).loc Cert.ScBwdRefIdeal.main_arg0) = m ((c.tc : Thread Cert.ScBwdIdeal.nD Cert.ScBwdIdeal.τ).loc Cert.ScBwdIdeal.main_arg0)
      ∧ m' ((c.tc : Thread Cert.ScBwdRefIdeal.nD Cert.ScBwdRefIdeal.τ).loc Cert.ScBwdRefIdeal.main_arg1) = m ((c.tc : Thread Cert.ScBwdIdeal.nD Cert.ScBwdIdeal.τ).loc Cert.ScBwdIdeal.main_arg1)
      ∧ m' ((c.tc : Thread Cert.ScBwdRefIdeal.nD Cert.ScBwdRefIdeal.τ).loc Cert.ScBwdRefIdeal.main_arg2) = m ((c.tc : Thread Cert.ScBwdIdeal.nD Cert.ScBwdIdeal.τ).loc Cert.ScBwdIdeal.main_arg2)) →
    ∃ (v0 : (c : Dev Cert.ScBwdIdeal.nD) → Buf (Elt Ideal) ((c.tc : Thread Cert.ScBwdIdeal.nD Cert.ScBwdIdeal.τ).loc Cert.ScBwdIdeal.main_v2_0)) (v1 : (c : Dev Cert.ScBwdIdeal.nD) → Buf (Elt Ideal) ((c.tc : Thread Cert.ScBwdIdeal.nD Cert.ScBwdIdeal.τ).loc Cert.ScBwdIdeal.main_v2_1)) (v2 : (c : Dev Cert.ScBwdIdeal.nD) → Buf (Elt Ideal) ((c.tc : Thread Cert.ScBwdIdeal.nD Cert.ScBwdIdeal.τ).loc Cert.ScBwdIdeal.main_v2_2)) (v3 : (c : Dev Cert.ScBwdIdeal.nD) → Buf (Elt Ideal) ((c.tc : Thread Cert.ScBwdIdeal.nD Cert.ScBwdIdeal.τ).loc Cert.ScBwdIdeal.main_v2_3)),
      θ_run (Cert.ScBwdIdeal.defs (F := Ideal)) (onTc (τ := Cert.ScBwdIdeal.τ) (Cert.ScBwdIdeal.main (F := Ideal))) ⟨m, fun _ => 0, g⟩ (fun r => ∀ c : Dev Cert.ScBwdIdeal.nD,
          r.2.mem ((c.tc : Thread Cert.ScBwdIdeal.nD Cert.ScBwdIdeal.τ).loc Cert.ScBwdIdeal.main_v2_0) = v0 c
          ∧ r.2.mem ((c.tc : Thread Cert.ScBwdIdeal.nD Cert.ScBwdIdeal.τ).loc Cert.ScBwdIdeal.main_v2_1) = v1 c
          ∧ r.2.mem ((c.tc : Thread Cert.ScBwdIdeal.nD Cert.ScBwdIdeal.τ).loc Cert.ScBwdIdeal.main_v2_2) = v2 c
          ∧ r.2.mem ((c.tc : Thread Cert.ScBwdIdeal.nD Cert.ScBwdIdeal.τ).loc Cert.ScBwdIdeal.main_v2_3) = v3 c
          ∧ r.2.mem ((c.tc : Thread Cert.ScBwdIdeal.nD Cert.ScBwdIdeal.τ).loc Cert.ScBwdIdeal.main_arg0) = m ((c.tc : Thread Cert.ScBwdIdeal.nD Cert.ScBwdIdeal.τ).loc Cert.ScBwdIdeal.main_arg0)
          ∧ r.2.mem ((c.tc : Thread Cert.ScBwdIdeal.nD Cert.ScBwdIdeal.τ).loc Cert.ScBwdIdeal.main_arg1) = m ((c.tc : Thread Cert.ScBwdIdeal.nD Cert.ScBwdIdeal.τ).loc Cert.ScBwdIdeal.main_arg1)
          ∧ r.2.mem ((c.tc : Thread Cert.ScBwdIdeal.nD Cert.ScBwdIdeal.τ).loc Cert.ScBwdIdeal.main_arg2) = m ((c.tc : Thread Cert.ScBwdIdeal.nD Cert.ScBwdIdeal.τ).loc Cert.ScBwdIdeal.main_arg2))
      ∧ θ_run (Cert.ScBwdRefIdeal.defs (F := Ideal)) (onTc (τ := Cert.ScBwdRefIdeal.τ) (Cert.ScBwdRefIdeal.main (F := Ideal))) ⟨m', fun _ => 0, g'⟩ (fun r => ∀ c : Dev Cert.ScBwdRefIdeal.nD,
          r.2.mem ((c.tc : Thread Cert.ScBwdRefIdeal.nD Cert.ScBwdRefIdeal.τ).loc Cert.ScBwdRefIdeal.main_v74) = v0 c
          ∧ r.2.mem ((c.tc : Thread Cert.ScBwdRefIdeal.nD Cert.ScBwdRefIdeal.τ).loc Cert.ScBwdRefIdeal.main_v76) = v1 c
          ∧ r.2.mem ((c.tc : Thread Cert.ScBwdRefIdeal.nD Cert.ScBwdRefIdeal.τ).loc Cert.ScBwdRefIdeal.main_v78) = v2 c
          ∧ r.2.mem ((c.tc : Thread Cert.ScBwdRefIdeal.nD Cert.ScBwdRefIdeal.τ).loc Cert.ScBwdRefIdeal.main_v72) = v3 c
          ∧ r.2.mem ((c.tc : Thread Cert.ScBwdRefIdeal.nD Cert.ScBwdRefIdeal.τ).loc Cert.ScBwdRefIdeal.main_arg0) = m' ((c.tc : Thread Cert.ScBwdRefIdeal.nD Cert.ScBwdRefIdeal.τ).loc Cert.ScBwdRefIdeal.main_arg0)
          ∧ r.2.mem ((c.tc : Thread Cert.ScBwdRefIdeal.nD Cert.ScBwdRefIdeal.τ).loc Cert.ScBwdRefIdeal.main_arg1) = m' ((c.tc : Thread Cert.ScBwdRefIdeal.nD Cert.ScBwdRefIdeal.τ).loc Cert.ScBwdRefIdeal.main_arg1)
          ∧ r.2.mem ((c.tc : Thread Cert.ScBwdRefIdeal.nD Cert.ScBwdRefIdeal.τ).loc Cert.ScBwdRefIdeal.main_arg2) = m' ((c.tc : Thread Cert.ScBwdRefIdeal.nD Cert.ScBwdRefIdeal.τ).loc Cert.ScBwdRefIdeal.main_arg2))

def preserves_SguFwd_SguFwdIdeal : Prop :=
  True

def algebraic_SguFwdIdeal_SguFwdRefIdeal_pre_sgu_finite [hSguFwdIdeal : Cert.SguFwdIdeal.Facts] [hSguFwdRefIdeal : Cert.SguFwdRefIdeal.Facts] [hPre_sgu_finite : Cert.Pre_sgu_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_sgu_finite m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v5)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v5) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v67) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_ScFwd_ScFwdIdeal : Prop :=
  True

def algebraic_ScFwdIdeal_ScFwdRefIdeal [hScFwdIdeal : Cert.ScFwdIdeal.Facts] [hScFwdRefIdeal : Cert.ScFwdRefIdeal.Facts] : Prop :=
  ∀ (m : (ℓ : Loc Cert.ScFwdIdeal.nD Cert.ScFwdIdeal.τ Cert.ScFwdIdeal.sig) → Buf (Elt Ideal) ℓ) (g : Dev Cert.ScFwdIdeal.nD → PrngReg)
    (m' : (ℓ : Loc Cert.ScFwdRefIdeal.nD Cert.ScFwdRefIdeal.τ Cert.ScFwdRefIdeal.sig) → Buf (Elt Ideal) ℓ) (g' : Dev Cert.ScFwdRefIdeal.nD → PrngReg), Pre_ScFwdIdeal m →
    (∀ c : Dev Cert.ScFwdIdeal.nD,
      m' ((c.tc : Thread Cert.ScFwdRefIdeal.nD Cert.ScFwdRefIdeal.τ).loc Cert.ScFwdRefIdeal.main_arg0) = m ((c.tc : Thread Cert.ScFwdIdeal.nD Cert.ScFwdIdeal.τ).loc Cert.ScFwdIdeal.main_arg0)
      ∧ m' ((c.tc : Thread Cert.ScFwdRefIdeal.nD Cert.ScFwdRefIdeal.τ).loc Cert.ScFwdRefIdeal.main_arg1) = m ((c.tc : Thread Cert.ScFwdIdeal.nD Cert.ScFwdIdeal.τ).loc Cert.ScFwdIdeal.main_arg1)) →
    ∃ (v0 : (c : Dev Cert.ScFwdIdeal.nD) → Buf (Elt Ideal) ((c.tc : Thread Cert.ScFwdIdeal.nD Cert.ScFwdIdeal.τ).loc Cert.ScFwdIdeal.main_v2)),
      θ_run (Cert.ScFwdIdeal.defs (F := Ideal)) (onTc (τ := Cert.ScFwdIdeal.τ) (Cert.ScFwdIdeal.main (F := Ideal))) ⟨m, fun _ => 0, g⟩ (fun r => ∀ c : Dev Cert.ScFwdIdeal.nD,
          r.2.mem ((c.tc : Thread Cert.ScFwdIdeal.nD Cert.ScFwdIdeal.τ).loc Cert.ScFwdIdeal.main_v2) = v0 c
          ∧ r.2.mem ((c.tc : Thread Cert.ScFwdIdeal.nD Cert.ScFwdIdeal.τ).loc Cert.ScFwdIdeal.main_arg0) = m ((c.tc : Thread Cert.ScFwdIdeal.nD Cert.ScFwdIdeal.τ).loc Cert.ScFwdIdeal.main_arg0)
          ∧ r.2.mem ((c.tc : Thread Cert.ScFwdIdeal.nD Cert.ScFwdIdeal.τ).loc Cert.ScFwdIdeal.main_arg1) = m ((c.tc : Thread Cert.ScFwdIdeal.nD Cert.ScFwdIdeal.τ).loc Cert.ScFwdIdeal.main_arg1))
      ∧ θ_run (Cert.ScFwdRefIdeal.defs (F := Ideal)) (onTc (τ := Cert.ScFwdRefIdeal.τ) (Cert.ScFwdRefIdeal.main (F := Ideal))) ⟨m', fun _ => 0, g'⟩ (fun r => ∀ c : Dev Cert.ScFwdRefIdeal.nD,
          r.2.mem ((c.tc : Thread Cert.ScFwdRefIdeal.nD Cert.ScFwdRefIdeal.τ).loc Cert.ScFwdRefIdeal.main_v32) = v0 c
          ∧ r.2.mem ((c.tc : Thread Cert.ScFwdRefIdeal.nD Cert.ScFwdRefIdeal.τ).loc Cert.ScFwdRefIdeal.main_arg0) = m' ((c.tc : Thread Cert.ScFwdRefIdeal.nD Cert.ScFwdRefIdeal.τ).loc Cert.ScFwdRefIdeal.main_arg0)
          ∧ r.2.mem ((c.tc : Thread Cert.ScFwdRefIdeal.nD Cert.ScFwdRefIdeal.τ).loc Cert.ScFwdRefIdeal.main_arg1) = m' ((c.tc : Thread Cert.ScFwdRefIdeal.nD Cert.ScFwdRefIdeal.τ).loc Cert.ScFwdRefIdeal.main_arg1))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v1_0)) (v1 : (c : Dev Cert.LossHeadIdeal.nD) → Buf (Elt Ideal) ((c.tc : Thread Cert.LossHeadIdeal.nD Cert.LossHeadIdeal.τ).loc Cert.LossHeadIdeal.main_v1_1)) (v2 : (c : Dev Cert.LossHeadIdeal.nD) → Buf (Elt Ideal) ((c.tc : Thread Cert.LossHeadIdeal.nD Cert.LossHeadIdeal.τ).loc Cert.LossHeadIdeal.main_v1_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v1_0) = v0 c
          ∧ r.2.mem ((c.tc : Thread Cert.LossHeadIdeal.nD Cert.LossHeadIdeal.τ).loc Cert.LossHeadIdeal.main_v1_1) = v1 c
          ∧ r.2.mem ((c.tc : Thread Cert.LossHeadIdeal.nD Cert.LossHeadIdeal.τ).loc Cert.LossHeadIdeal.main_v1_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v50) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v52) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v8) = v0 c
          ∧ r.2.mem ((c.tc : Thread Cert.AdamInRefIdeal.nD Cert.AdamInRefIdeal.τ).loc Cert.AdamInRefIdeal.main_v32) = v1 c
          ∧ r.2.mem ((c.tc : Thread Cert.AdamInRefIdeal.nD Cert.AdamInRefIdeal.τ).loc Cert.AdamInRefIdeal.main_v13) = v2 c
          ∧ r.2.mem ((c.tc : Thread Cert.AdamInRefIdeal.nD Cert.AdamInRefIdeal.τ).loc Cert.AdamInRefIdeal.main_v19) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v8) = v0 c
          ∧ r.2.mem ((c.tc : Thread Cert.AdamOutRefIdeal.nD Cert.AdamOutRefIdeal.τ).loc Cert.AdamOutRefIdeal.main_v32) = v1 c
          ∧ r.2.mem ((c.tc : Thread Cert.AdamOutRefIdeal.nD Cert.AdamOutRefIdeal.τ).loc Cert.AdamOutRefIdeal.main_v13) = v2 c
          ∧ r.2.mem ((c.tc : Thread Cert.AdamOutRefIdeal.nD Cert.AdamOutRefIdeal.τ).loc Cert.AdamOutRefIdeal.main_v19) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)) (v3 : (c : Dev Cert.AdamUpIdeal.nD) → Buf (Elt Ideal) ((c.tc : Thread Cert.AdamUpIdeal.nD Cert.AdamUpIdeal.τ).loc Cert.AdamUpIdeal.main_v0_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_v0_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v8) = v0 c
          ∧ r.2.mem ((c.tc : Thread Cert.AdamUpRefIdeal.nD Cert.AdamUpRefIdeal.τ).loc Cert.AdamUpRefIdeal.main_v32) = v1 c
          ∧ r.2.mem ((c.tc : Thread Cert.AdamUpRefIdeal.nD Cert.AdamUpRefIdeal.τ).loc Cert.AdamUpRefIdeal.main_v13) = v2 c
          ∧ r.2.mem ((c.tc : Thread Cert.AdamUpRefIdeal.nD Cert.AdamUpRefIdeal.τ).loc Cert.AdamUpRefIdeal.main_v19) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v8) = v0 c
          ∧ r.2.mem ((c.tc : Thread Cert.AdamDownRefIdeal.nD Cert.AdamDownRefIdeal.τ).loc Cert.AdamDownRefIdeal.main_v32) = v1 c
          ∧ r.2.mem ((c.tc : Thread Cert.AdamDownRefIdeal.nD Cert.AdamDownRefIdeal.τ).loc Cert.AdamDownRefIdeal.main_v13) = v2 c
          ∧ r.2.mem ((c.tc : Thread Cert.AdamDownRefIdeal.nD Cert.AdamDownRefIdeal.τ).loc Cert.AdamDownRefIdeal.main_v19) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def Claim : Prop :=
  ∃ (hKernel : Cert.Kernel.Facts) (hKernelIdeal : Cert.KernelIdeal.Facts) (hReferenceIdeal : Cert.ReferenceIdeal.Facts) (hFfnDownDx : Cert.FfnDownDx.Facts) (hFfnDownDxIdeal : Cert.FfnDownDxIdeal.Facts) (hFfnDownDxRefIdeal : Cert.FfnDownDxRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hFfnUp : Cert.FfnUp.Facts) (hFfnUpIdeal : Cert.FfnUpIdeal.Facts) (hFfnUpRefIdeal : Cert.FfnUpRefIdeal.Facts) (hFfnDownDw : Cert.FfnDownDw.Facts) (hFfnDownDwIdeal : Cert.FfnDownDwIdeal.Facts) (hFfnDownDwRefIdeal : Cert.FfnDownDwRefIdeal.Facts) (hProjOutDw : Cert.ProjOutDw.Facts) (hProjOutDwIdeal : Cert.ProjOutDwIdeal.Facts) (hProjOutDwRefIdeal : Cert.ProjOutDwRefIdeal.Facts) (hProjOutDx : Cert.ProjOutDx.Facts) (hProjOutDxIdeal : Cert.ProjOutDxIdeal.Facts) (hProjOutDxRefIdeal : Cert.ProjOutDxRefIdeal.Facts) (hProjInDw : Cert.ProjInDw.Facts) (hProjInDwIdeal : Cert.ProjInDwIdeal.Facts) (hProjInDwRefIdeal : Cert.ProjInDwRefIdeal.Facts) (hProjInDx : Cert.ProjInDx.Facts) (hProjInDxIdeal : Cert.ProjInDxIdeal.Facts) (hProjInDxRefIdeal : Cert.ProjInDxRefIdeal.Facts) (hProjIn : Cert.ProjIn.Facts) (hProjInIdeal : Cert.ProjInIdeal.Facts) (hProjInRefIdeal : Cert.ProjInRefIdeal.Facts) (hProjOut : Cert.ProjOut.Facts) (hProjOutIdeal : Cert.ProjOutIdeal.Facts) (hProjOutRefIdeal : Cert.ProjOutRefIdeal.Facts) (hFfnDown : Cert.FfnDown.Facts) (hFfnDownIdeal : Cert.FfnDownIdeal.Facts) (hFfnDownRefIdeal : Cert.FfnDownRefIdeal.Facts) (hFfnDownLast : Cert.FfnDownLast.Facts) (hFfnDownLastIdeal : Cert.FfnDownLastIdeal.Facts) (hFfnDownLastRefIdeal : Cert.FfnDownLastRefIdeal.Facts) (hScBwd : Cert.ScBwd.Facts) (hScBwdIdeal : Cert.ScBwdIdeal.Facts) (hScBwdRefIdeal : Cert.ScBwdRefIdeal.Facts) (hSguFwd : Cert.SguFwd.Facts) (hSguFwdIdeal : Cert.SguFwdIdeal.Facts) (hSguFwdRefIdeal : Cert.SguFwdRefIdeal.Facts) (hScFwd : Cert.ScFwd.Facts) (hScFwdIdeal : Cert.ScFwdIdeal.Facts) (hScFwdRefIdeal : Cert.ScFwdRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hSumSmall : Cert.SumSmall.Facts) (hSumSmallIdeal : Cert.SumSmallIdeal.Facts) (hSumSmallRefIdeal : Cert.SumSmallRefIdeal.Facts) (hPre_finite_inputs : Cert.Pre_finite_inputs.Facts) (hPre_ffn_down_dx_finite : Cert.Pre_ffn_down_dx_finite.Facts) (hPre_ffn_up_dx_finite : Cert.Pre_ffn_up_dx_finite.Facts) (hPre_proj_in_dx_finite : Cert.Pre_proj_in_dx_finite.Facts) (hPre_sc_bwd_finite : Cert.Pre_sc_bwd_finite.Facts) (hPre_sgu_finite : Cert.Pre_sgu_finite.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_FfnDownDx (hFfnDownDx := hFfnDownDx)
    ∧ quiescent_FfnDownDxIdeal (hFfnDownDxIdeal := hFfnDownDxIdeal)
    ∧ quiescent_FfnDownDxIdeal_pre_ffn_down_dx_finite (hFfnDownDxIdeal := hFfnDownDxIdeal) (hPre_ffn_down_dx_finite := hPre_ffn_down_dx_finite)
    ∧ quiescent_FfnDownDxRefIdeal (hFfnDownDxRefIdeal := hFfnDownDxRefIdeal)
    ∧ quiescent_FfnDownDxRefIdeal_pre_ffn_down_dx_finite (hFfnDownDxRefIdeal := hFfnDownDxRefIdeal) (hPre_ffn_down_dx_finite := hPre_ffn_down_dx_finite)
    ∧ quiescent_FfnUpDx (hFfnUpDx := hFfnUpDx)
    ∧ quiescent_FfnUpDxIdeal (hFfnUpDxIdeal := hFfnUpDxIdeal)
    ∧ quiescent_FfnUpDxIdeal_pre_ffn_up_dx_finite (hFfnUpDxIdeal := hFfnUpDxIdeal) (hPre_ffn_up_dx_finite := hPre_ffn_up_dx_finite)
    ∧ quiescent_FfnUpDxRefIdeal (hFfnUpDxRefIdeal := hFfnUpDxRefIdeal)
    ∧ quiescent_FfnUpDxRefIdeal_pre_ffn_up_dx_finite (hFfnUpDxRefIdeal := hFfnUpDxRefIdeal) (hPre_ffn_up_dx_finite := hPre_ffn_up_dx_finite)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_ProjOutDw (hProjOutDw := hProjOutDw)
    ∧ quiescent_ProjOutDwIdeal (hProjOutDwIdeal := hProjOutDwIdeal)
    ∧ quiescent_ProjOutDwRefIdeal (hProjOutDwRefIdeal := hProjOutDwRefIdeal)
    ∧ quiescent_ProjOutDx (hProjOutDx := hProjOutDx)
    ∧ quiescent_ProjOutDxIdeal (hProjOutDxIdeal := hProjOutDxIdeal)
    ∧ quiescent_ProjOutDxRefIdeal (hProjOutDxRefIdeal := hProjOutDxRefIdeal)
    ∧ quiescent_ProjInDw (hProjInDw := hProjInDw)
    ∧ quiescent_ProjInDwIdeal (hProjInDwIdeal := hProjInDwIdeal)
    ∧ quiescent_ProjInDwRefIdeal (hProjInDwRefIdeal := hProjInDwRefIdeal)
    ∧ quiescent_ProjInDx (hProjInDx := hProjInDx)
    ∧ quiescent_ProjInDxIdeal (hProjInDxIdeal := hProjInDxIdeal)
    ∧ quiescent_ProjInDxIdeal_pre_proj_in_dx_finite (hProjInDxIdeal := hProjInDxIdeal) (hPre_proj_in_dx_finite := hPre_proj_in_dx_finite)
    ∧ quiescent_ProjInDxRefIdeal (hProjInDxRefIdeal := hProjInDxRefIdeal)
    ∧ quiescent_ProjInDxRefIdeal_pre_proj_in_dx_finite (hProjInDxRefIdeal := hProjInDxRefIdeal) (hPre_proj_in_dx_finite := hPre_proj_in_dx_finite)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownLast (hFfnDownLast := hFfnDownLast)
    ∧ quiescent_FfnDownLastIdeal (hFfnDownLastIdeal := hFfnDownLastIdeal)
    ∧ quiescent_FfnDownLastRefIdeal (hFfnDownLastRefIdeal := hFfnDownLastRefIdeal)
    ∧ quiescent_ScBwd (hScBwd := hScBwd)
    ∧ quiescent_ScBwdIdeal (hScBwdIdeal := hScBwdIdeal)
    ∧ quiescent_ScBwdIdeal_pre_sc_bwd_finite (hScBwdIdeal := hScBwdIdeal) (hPre_sc_bwd_finite := hPre_sc_bwd_finite)
    ∧ quiescent_ScBwdRefIdeal (hScBwdRefIdeal := hScBwdRefIdeal)
    ∧ quiescent_ScBwdRefIdeal_pre_sc_bwd_finite (hScBwdRefIdeal := hScBwdRefIdeal) (hPre_sc_bwd_finite := hPre_sc_bwd_finite)
    ∧ quiescent_SguFwd (hSguFwd := hSguFwd)
    ∧ quiescent_SguFwdIdeal (hSguFwdIdeal := hSguFwdIdeal)
    ∧ quiescent_SguFwdIdeal_pre_sgu_finite (hSguFwdIdeal := hSguFwdIdeal) (hPre_sgu_finite := hPre_sgu_finite)
    ∧ quiescent_SguFwdRefIdeal (hSguFwdRefIdeal := hSguFwdRefIdeal)
    ∧ quiescent_SguFwdRefIdeal_pre_sgu_finite (hSguFwdRefIdeal := hSguFwdRefIdeal) (hPre_sgu_finite := hPre_sgu_finite)
    ∧ quiescent_ScFwd (hScFwd := hScFwd)
    ∧ quiescent_ScFwdIdeal (hScFwdIdeal := hScFwdIdeal)
    ∧ quiescent_ScFwdRefIdeal (hScFwdRefIdeal := hScFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_FfnDownDx_FfnDownDxIdeal
    ∧ algebraic_FfnDownDxIdeal_FfnDownDxRefIdeal_pre_ffn_down_dx_finite (hFfnDownDxIdeal := hFfnDownDxIdeal) (hFfnDownDxRefIdeal := hFfnDownDxRefIdeal) (hPre_ffn_down_dx_finite := hPre_ffn_down_dx_finite)
    ∧ preserves_FfnUpDx_FfnUpDxIdeal
    ∧ algebraic_FfnUpDxIdeal_FfnUpDxRefIdeal_pre_ffn_up_dx_finite (hFfnUpDxIdeal := hFfnUpDxIdeal) (hFfnUpDxRefIdeal := hFfnUpDxRefIdeal) (hPre_ffn_up_dx_finite := hPre_ffn_up_dx_finite)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_ProjOutDw_ProjOutDwIdeal
    ∧ algebraic_ProjOutDwIdeal_ProjOutDwRefIdeal (hProjOutDwIdeal := hProjOutDwIdeal) (hProjOutDwRefIdeal := hProjOutDwRefIdeal)
    ∧ preserves_ProjOutDx_ProjOutDxIdeal
    ∧ algebraic_ProjOutDxIdeal_ProjOutDxRefIdeal (hProjOutDxIdeal := hProjOutDxIdeal) (hProjOutDxRefIdeal := hProjOutDxRefIdeal)
    ∧ preserves_ProjInDw_ProjInDwIdeal
    ∧ algebraic_ProjInDwIdeal_ProjInDwRefIdeal (hProjInDwIdeal := hProjInDwIdeal) (hProjInDwRefIdeal := hProjInDwRefIdeal)
    ∧ preserves_ProjInDx_ProjInDxIdeal
    ∧ algebraic_ProjInDxIdeal_ProjInDxRefIdeal_pre_proj_in_dx_finite (hProjInDxIdeal := hProjInDxIdeal) (hProjInDxRefIdeal := hProjInDxRefIdeal) (hPre_proj_in_dx_finite := hPre_proj_in_dx_finite)
    ∧ preserves_ProjIn_ProjInIdeal
    ∧ algebraic_ProjInIdeal_ProjInRefIdeal (hProjInIdeal := hProjInIdeal) (hProjInRefIdeal := hProjInRefIdeal)
    ∧ preserves_ProjOut_ProjOutIdeal
    ∧ algebraic_ProjOutIdeal_ProjOutRefIdeal (hProjOutIdeal := hProjOutIdeal) (hProjOutRefIdeal := hProjOutRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownLast_FfnDownLastIdeal
    ∧ algebraic_FfnDownLastIdeal_FfnDownLastRefIdeal (hFfnDownLastIdeal := hFfnDownLastIdeal) (hFfnDownLastRefIdeal := hFfnDownLastRefIdeal)
    ∧ preserves_ScBwd_ScBwdIdeal
    ∧ algebraic_ScBwdIdeal_ScBwdRefIdeal_pre_sc_bwd_finite (hScBwdIdeal := hScBwdIdeal) (hScBwdRefIdeal := hScBwdRefIdeal) (hPre_sc_bwd_finite := hPre_sc_bwd_finite)
    ∧ preserves_SguFwd_SguFwdIdeal
    ∧ algebraic_SguFwdIdeal_SguFwdRefIdeal_pre_sgu_finite (hSguFwdIdeal := hSguFwdIdeal) (hSguFwdRefIdeal := hSguFwdRefIdeal) (hPre_sgu_finite := hPre_sgu_finite)
    ∧ preserves_ScFwd_ScFwdIdeal
    ∧ algebraic_ScFwdIdeal_ScFwdRefIdeal (hScFwdIdeal := hScFwdIdeal) (hScFwdRefIdeal := hScFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_SumSmall_SumSmallIdeal
    ∧ algebraic_SumSmallIdeal_SumSmallRefIdeal (hSumSmallIdeal := hSumSmallIdeal) (hSumSmallRefIdeal := hSumSmallRefIdeal)
-- ==== Pre_ffn_down_dx_finite.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .f32) (main_arg3 : FVec F S8192x2816 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := Host.absf main_arg3
  let main_cst_2 : FVec F S_ .f32 := constant S_ .f32 0x7F800000#32
  let main_v11 : FVec F S8192x2816 .f32 := broadcastInDim S8192x2816 ![] bcast_S_S8192x2816 main_cst_2
  let main_v12 : IVec S8192x2816 1 := cmpf .olt main_v10 main_v11
  let main_c_3 : IVec S_ 1 := constantI S_ 1 1#1
  let main_v13 : IVec S_ 1 := (fun x v => Host.reduce IntOp.andi x v reducesTo_S8192x2816_S_d0_1 h_S_) main_v12 main_c_3
  let main_v14 : IVec S_ 1 := andi main_v9 main_v13
  main_v14
-- ==== Pre_ffn_up_dx_finite.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S2x8192x2816 : S_.BroadcastsInDim S2x8192x2816 (![] : Fin 0 → Fin S2x8192x2816.rank)
  reducesTo_S2x8192x2816_S_d0_1_2 : S2x8192x2816.ReducesTo [0, 1, 2] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S2x8192x2816 .bf16) (main_arg1 : FVec F S1024x5632 .bf16) (main_arg2 : FVec F S8192x1024 .f32) (main_arg3 : FVec F S1024 .f32) (main_arg4 : FVec F S8192x1024 .f32) : IVec S_ 1 :=
  let main_v0 : FVec F S2x8192x2816 .f32 := (extf .f32 · bitsLt_bf16_f32) main_arg0
  let main_v1 : FVec F S2x8192x2816 .f32 := Host.absf main_v0
  let main_cst : FVec F S_ .f32 := constant S_ .f32 0x7F800000#32
  let main_v2 : FVec F S2x8192x2816 .f32 := broadcastInDim S2x8192x2816 ![] bcast_S_S2x8192x2816 main_cst
  let main_v3 : IVec S2x8192x2816 1 := cmpf .olt main_v1 main_v2
  let main_c : IVec S_ 1 := constantI S_ 1 1#1
  let main_v4 : IVec S_ 1 := (fun x v => Host.reduce IntOp.andi x v reducesTo_S2x8192x2816_S_d0_1_2 h_S_) main_v3 main_c
  let main_v5 : FVec F S1024x5632 .f32 := (extf .f32 · bitsLt_bf16_f32) main_arg1
  let main_v6 : FVec F S1024x5632 .f32 := Host.absf main_v5
  let main_cst_0 : FVec F S_ .f32 := constant S_ .f32 0x7F800000#32
  let main_v7 : FVec F S1024x5632 .f32 := broadcastInDim S1024x5632 ![] bcast_S_S1024x5632 main_cst_0
  let main_v8 : IVec S1024x5632 1 := cmpf .olt main_v6 main_v7
  let main_c_1 : IVec S_ 1 := constantI S_ 1 1#1
  let main_v9 : IVec S_ 1 := (fun x v => Host.reduce IntOp.andi x v reducesTo_S1024x5632_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_finite_inputs.lean ====
abbrev S8192x3584 : Shape := ⟨2, ![8192, 3584]⟩
abbrev S8192x1024 : Shape := ⟨2, ![8192, 1024]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S_ : Shape := ⟨0, ![]⟩

class Facts : Prop where
  slices_S8192x3584_S8192x256_0_0 : S8192x3584.Slices ![0, 0] S8192x256
  bcast_S_S8192x256 : S_.BroadcastsInDim S8192x256 (![] : Fin 0 → Fin S8192x256.rank)
  slices_S8192x1024_S8192x256_0_0 : S8192x1024.Slices ![0, 0] S8192x256
  reducesTo_S8192x256_S_d0_1 : S8192x256.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_

variable [Facts]

def fn {F : FTy → Type} [FloatOps F] (main_arg0 : FVec F S8192x3584 .f32) (main_arg1 : FVec F S8192x1024 .f32) (main_arg2 : FVec F S256 .f32) (main_arg3 : FVec F S256 .f32) (main_arg4 : FVec F S4x128x128 .f32) (main_arg5 : FVec F S4x128 .f32) : IVec S_ 1 :=
  let main_v0 : FVec F S8192x256 .f32 := (extractStridedSlice S8192x256 ![0, 0] · slices_S8192x3584_S8192x256_0_0) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S8192x256 .f32 := (extractStridedSlice S8192x256 ![0, 0] · slices_S8192x1024_S8192x256_0_0) main_arg1
  let main_v5 : FVec F S8192x256 .f32 := Host.absf main_v4
  let main_cst_0 : FVec F S_ .f32 := constant S_ .f32 0x7F800000#32
  let main_v6 : FVec F S8192x256 .f32 := broadcastInDim S8192x256 ![] bcast_S_S8192x256 main_cst_0
  let main_v7 : IVec S8192x256 1 := cmpf .olt main_v5 main_v6
  let main_v8 : IVec S8192x256 1 := andi main_v3 main_v7
  let main_c : IVec S_ 1 := constantI S_ 1 1#1
  let main_v9 : IVec S_ 1 := (fun x v => Host.reduce IntOp.andi x v reducesTo_S8192x256_S_d0_1 h_S_) main_v8 main_c
  let main_v10 : FVec F S4x128 .f32 := Host.absf main_arg5
  let main_cst_1 : FVec F S_ .f32 := constant S_ .f32 0x7F800000#32
  let main_v11 : FVec F S4x128 .f32 := broadcastInDim S4x128 ![] bcast_S_S4x128 main_cst_1
  let main_v12 : IVec S4x128 1 := cmpf .olt main_v10 main_v11
  let main_c_2 : IVec S_ 1 := constantI S_ 1 1#1
  let main_v13 : IVec S_ 1 := (fun x v => Host.reduce IntOp.andi x v reducesTo_S4x128_S_d0_1 h_S_) main_v12 main_c_2
  let main_v14 : IVec S_ 1 := andi main_v9 main_v13
  main_v14
-- ==== Pre_proj_in_dx_finite.lean ====
abbrev S8192x3584 : Shape := ⟨2, ![8192, 3584]⟩
abbrev S1024x3584 : Shape := ⟨2, ![1024, 3584]⟩
abbrev S8192x1024 : Shape := ⟨2, ![8192, 1024]⟩
abbrev S1024 : Shape := ⟨1, ![1024]⟩
abbrev S_ : Shape := ⟨0, ![]⟩

class Facts : Prop where
  bitsLt_bf16_f32 : FTy.bits .bf16 < FTy.bits .f32
  bcast_S_S8192x3584 : S_.BroadcastsInDim S8192x3584 (![] : Fin 0 → Fin S8192x3584.rank)
  reducesTo_S8192x3584_S_d0_1 : S8192x3584.ReducesTo [0, 1] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  main_v20

def fn {F : FTy → Type} [FloatOps F] (main_arg0 : FVec F S8192x3584 .bf16) (main_arg1 : FVec F S1024x3584 .bf16) (main_arg2 : FVec F S8192x1024 .f32) (main_arg3 : FVec F S1024 .f32) (main_arg4 : FVec F S8192x1024 .f32) : IVec S_ 1 :=
  let main_v0 : FVec F S8192x3584 .f32 := (extf .f32 · bitsLt_bf16_f32) main_arg0
  let main_v1 : FVec F S8192x3584 .f32 := Host.absf main_v0
  let main_cst : FVec F S_ .f32 := constant S_ .f32 0x7F800000#32
  let main_v2 : FVec F S8192x3584 .f32 := broadcastInDim S8192x3584 ![] bcast_S_S8192x3584 main_cst
  let main_v3 : IVec S8192x3584 1 := cmpf .olt main_v1 main_v2
  let main_c : IVec S_ 1 := constantI S_ 1 1#1
  let main_v4 : IVec S_ 1 := (fun x v => Host.reduce IntOp.andi x v reducesTo_S8192x3584_S_d0_1 h_S_) main_v3 main_c
  let main_v5 : FVec F S1024x3584 .f32 := (extf .f32 · bitsLt_bf16_f32) main_arg1
  let main_v6 : FVec F S1024x3584 .f32 := Host.absf main_v5
  let main_cst_0 : FVec F S_ .f32 := constant S_ .f32 0x7F800000#32
  let main_v7 : FVec F S1024x3584 .f32 := broadcastInDim S1024x3584 ![] bcast_S_S1024x3584 main_cst_0
  let main_v8 : IVec S1024x3584 1 := cmpf .olt main_v6 main_v7
  let main_c_1 : IVec S_ 1 := constantI S_ 1 1#1
  let main_v9 : IVec S_ 1 := (fun x v => Host.reduce IntOp.andi x v reducesTo_S1024x3584_S_d0_1 h_S_) main_v8 main_c_1
  let main_v10 : IVec S_ 1 := andi main_v4 main_v9
  let main_v11 : FVec F S8192x1024 .f32 := Host.absf main_arg2
  let main_cst_2 : FVec F S_ .f32 := constant S_ .f32 0x7F800000#32
  let main_v12 : FVec F S8192x1024 .f32 := broadcastInDim S8192x1024 ![] bcast_S_S8192x1024 main_cst_2
  let main_v13 : IVec S8192x1024 1 := cmpf .olt main_v11 main_v12
  let main_c_3 : IVec S_ 1 := constantI S_ 1 1#1
  let main_v14 : IVec S_ 1 := (fun x v => Host.reduce IntOp.andi x v reducesTo_S8192x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_v15 main_v16 main_cst_4
-- ==== Pre_sc_bwd_finite.lean ====
abbrev S8192x3584 : Shape := ⟨2, ![8192, 3584]⟩
abbrev S8192x1024 : Shape := ⟨2, ![8192, 1024]⟩
abbrev S3x256 : Shape := ⟨2, ![3, 256]⟩
abbrev S8192x768 : Shape := ⟨2, ![8192, 768]⟩
abbrev S_ : Shape := ⟨0, ![]⟩
abbrev S8192x256 : Shape := ⟨2, ![8192, 256]⟩

class Facts : Prop where
  slices_S8192x3584_S8192x768_0_512 : S8192x3584.Slices ![0, 512] S8192x768
  bcast_S_S8192x768 : S_.BroadcastsInDim S8192x768 (![] : Fin 0 → Fin S8192x768.rank)
  reducesTo_S8192x768_S_d0_1 : S8192x768.ReducesTo [0, 1] S_
  h_S_ : 0 < S_.numel
  slices_S8192x1024_S8192x256_0_256 : S8192x1024.Slices ![0, 256] S8192x256
  bcast_S_S8192x256 : S_.BroadcastsInDim S8192x256 (![] : Fin 0 → Fin S8192x256.rank)
  reducesTo_S8192x256_S_d0_1 : S8192x256.ReducesTo [0, 1] S_
  bcast_S_S3x256 : S_.BroadcastsInDim S3x256 (![] : Fin 0 → Fin S3x256.rank)
  reducesTo_S3x256_S_d0_1 : S3x256.ReducesTo [0, 1] S_

variable [Facts]

def fn {F : FTy → Type} [FloatOps F] (main_arg0 : FVec F S8192x3584 .f32) (main_arg1 : FVec F S8192x1024 .f32) (main_arg2 : FVec F S3x256 .f32) : IVec S_ 1 :=
  let main_v0 : FVec F S8192x768 .f32 := (extractStridedSlice S8192x768 ![0, 512] · slices_S8192x3584_S8192x768_0_512) main_arg0
  let main_v1 : FVec F S8192x768 .f32 := Host.absf main_v0
  let main_cst : FVec F S_ .f32 := constant S_ .f32 0x7F800000#32
  let main_v2 : FVec F S8192x768 .f32 := broadcastInDim S8192x768 ![] bcast_S_S8192x768 main_cst
  let main_v3 : IVec S8192x768 1 := cmpf .olt main_v1 main_v2
  let main_c : IVec S_ 1 := constantI S_ 1 1#1
  let main_v4 : IVec S_ 1 := (fun x v => Host.reduce IntOp.andi x v reducesTo_S8192x768_S_d0_1 h_S_) main_v3 main_c
  let main_v5 : FVec F S8192x256 .f32 := (extractStridedSlice S8192x256 ![0, 256] · slices_S8192x1024_S8192x256_0_256) main_arg1
  let main_v6 : FVec F S8192x256 .f32 := Host.absf main_v5
  let main_cst_0 : FVec F S_ .f32 := constant S_ .f32 0x7F800000#32
  let main_v7 : FVec F S8192x256 .f32 := broadcastInDim S8192x256 ![] bcast_S_S8192x256 main_cst_0
  let main_v8 : IVec S8192x256 1 := cmpf .olt main_v6 main_v7
  let main_c_1 : IVec S_ 1 := constantI S_ 1 1#1
  let main_v9 : IVec S_ 1 := (fun x v => Host.reduce IntOp.andi x v reducesTo_S8192x256_S_d0_1 h_S_) main_v8 main_c_1
  let main_v10 : IVec S_ 1 := andi main_v4 main_v9
  let main_v11 : FVec F S3x256 .f32 := Host.absf main_arg2
  let main_cst_2 : FVec F S_ .f32 := constant S_ .f32 0x7F800000#32
  let main_v12 : FVec F S3x256 .f32 := broadcastInDim S3x256 ![] bcast_S_S3x256 main_cst_2
  let main_v13 : IVec S3x256 1 := cmpf .olt main_v11 main_v12
  let main_c_3 : IVec S_ 1 := constantI S_ 1 1#1
  let main_v14 : IVec S_ 1 := (fun x v => Host.reduce IntOp.andi x v reducesTo_S3x256_S_d0_1 h_S_) main_v13 main_c_3
  let main_v15 : IVec S_ 1 := andi main_v10 main_v14
  main_v15
-- ==== Pre_sgu_finite.lean ====
abbrev S8192x3584 : Shape := ⟨2, ![8192, 3584]⟩
abbrev S256 : Shape := ⟨1, ![256]⟩
abbrev S4x128x128 : Shape := ⟨3, ![4, 128, 128]⟩
abbrev S4x128 : Shape := ⟨2, ![4, 128]⟩
abbrev S_ : Shape := ⟨0, ![]⟩

class Facts : Prop where
  bcast_S_S4x128 : S_.BroadcastsInDim S4x128 (![] : Fin 0 → Fin S4x128.rank)
  reducesTo_S4x128_S_d0_1 : S4x128.ReducesTo [0, 1] S_
  h_S_ : 0 < S_.numel

variable [Facts]

def fn {F : FTy → Type} [FloatOps F] (main_arg0 : FVec F S8192x3584 .f32) (main_arg1 : FVec F S256 .f32) (main_arg2 : FVec F S256 .f32) (main_arg3 : FVec F S4x128x128 .f32) (main_arg4 : FVec F S4x128 .f32) : IVec S_ 1 :=
  let main_v0 : FVec F S4x128 .f32 := Host.absf main_arg4
  let main_cst : FVec F S_ .f32 := constant S_ .f32 0x7F800000#32
  let main_v1 : FVec F S4x128 .f32 := broadcastInDim S4x128 ![] bcast_S_S4x128 main_cst
  let main_v2 : IVec S4x128 1 := cmpf .olt main_v0 main_v1
  let main_c : IVec S_ 1 := constantI S_ 1 1#1
  let main_v3 : IVec S_ 1 := (fun x v => Host.reduce IntOp.andi x v reducesTo_S4x128_S_d0_1 h_S_) main_v2 main_c
  main_v3
-- ==== Kernel.lean ====
abbrev S8192x3584 : Shape := ⟨2, ![8192, 3584]⟩
abbrev S8192x1024 : Shape := ⟨2, ![8192, 1024]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S_ : Shape := ⟨0, ![]⟩
abbrev S128x124 : Shape := ⟨2, ![128, 124]⟩
abbrev S128x128 : Shape := ⟨2, ![128, 128]⟩
abbrev S8192x256 : Shape := ⟨2, ![8192, 256]⟩
abbrev S512x256 : Shape := ⟨2, ![512, 256]⟩
abbrev S1x128x128 : Shape := ⟨3, ![1, 128, 128]⟩
abbrev S512 : Shape := ⟨1, ![512]⟩
abbrev S512x1 : Shape := ⟨2, ![512, 1]⟩
abbrev S128x256 : Shape := ⟨2, ![128, 256]⟩
abbrev S384x256 : Shape := ⟨2, ![384, 256]⟩
abbrev S256x256 : Shape := ⟨2, ![256, 256]⟩

abbrev nBuf : Space → Nat
  | .hbm => 18
  | .vmem => 18
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1x256, .f32⟩
  | .hbm, ⟨7, _⟩ => ⟨S1x256, .f32⟩
  | .hbm, ⟨8, _⟩ => ⟨S128x4, .f32⟩
  | .hbm, ⟨9, _⟩ => ⟨S_, .f32⟩
  | .hbm, ⟨10, _⟩ => ⟨S128x124, .f32⟩
  | .hbm, ⟨11, _⟩ => ⟨S128x128, .f32⟩
  | .hbm, ⟨12, _⟩ => ⟨S8192x256, .bf16⟩
  | .hbm, ⟨13, _⟩ => ⟨S8192x256, .bf16⟩
  | .hbm, ⟨14, _⟩ => ⟨S1x256, .f32⟩
  | .hbm, ⟨15, _⟩ => ⟨S1x256, .f32⟩
  | .hbm, ⟨16, _⟩ => ⟨S4x128x128, .f32⟩
  | .hbm, ⟨17, _⟩ => ⟨S128x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S128x128, .f32⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S1x256, .f32⟩
  | .local _ .vmem, ⟨15, _⟩ => ⟨S1x256, .f32⟩
  | .local _ .vmem, ⟨16, _⟩ => ⟨S4x128x128, .f32⟩
  | .local _ .vmem, ⟨17, _⟩ => ⟨S128x128, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x3584 : Shape := ⟨2, ![8192, 3584]⟩
abbrev S8192x1024 : Shape := ⟨2, ![8192, 1024]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x256 : Shape := ⟨3, ![1, 1, 256]⟩
abbrev S1x64x128x4x64 : Shape := ⟨5, ![1, 64, 128, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩
abbrev S1x128x4 : Shape := ⟨3, ![1, 128, 4]⟩
abbrev S1x256 : Shape := ⟨2, ![1, 256]⟩
abbrev S8192 : Shape := ⟨1, ![8192]⟩
abbrev S128x124 : Shape := ⟨2, ![128, 124]⟩

abbrev nBuf : Space → Nat
  | .hbm => 234
  | .vmem => 0
  | .smem => 0
  | _ => 0

abbrev hbmTy0_0 (i : Nat) : BufTy := match i % 128 with
  | 0 => ⟨S8192x3584, .f32⟩
  | 1 => ⟨S8192x1024, .f32⟩
  | 2 => ⟨S256, .f32⟩
  | 3 => ⟨S256, .f32⟩
  | 4 => ⟨S4x128x128, .f32⟩
  | 5 => ⟨S4x128, .f32⟩
  | 6 => ⟨S8192x256, .f32⟩
  | 7 => ⟨S1x8192x256, .f32⟩
  | 8 => ⟨S8192x256, .f32⟩
  | 9 => ⟨S1x8192x256, .f32⟩
  | 10 => ⟨S8192x256, .f32⟩
  | 11 => ⟨S1x8192x256, .f32⟩
  | 12 => ⟨S1x8192x256, .f32⟩
  | 13 => ⟨S1x8192x256, .f32⟩
  | 14 => ⟨S1x8192x256, .f32⟩
  | 15 => ⟨S_, .f32⟩
  | 16 => ⟨S1x8192x256, .f32⟩
  | 17 => ⟨S1x8192x256, .f32⟩
  | 18 => ⟨S_, .f32⟩
  | 19 => ⟨S1x8192x256, .f32⟩
  | 20 => ⟨S1x8192x256, .f32⟩
  | 21 => ⟨S1x8192x256, .f32⟩
  | 22 => ⟨S_, .f32⟩
  | 23 => ⟨S1x8192x256, .f32⟩
  | 24 => ⟨S1x8192x256, .f32⟩
  | 25 => ⟨S1x8192x256, .f32⟩
  | 26 => ⟨S_, .f32⟩
  | 27 => ⟨S1x8192x256, .f32⟩
  | 28 => ⟨S1x8192x256, .f32⟩
  | 29 => ⟨S_, .f32⟩
  | 30 => ⟨S1x8192x256, .f32⟩
  | 31 => ⟨S1x8192x256, .f32⟩
  | 32 => ⟨S1x8192x256, .f32⟩
  | 33 => ⟨S_, .f32⟩
  | 34 => ⟨S1x8192x256, .f32⟩
  | 35 => ⟨S1x8192x256, .f32⟩
  | 36 => ⟨S_, .f32⟩
  | 37 => ⟨S1x8192x256, .f32⟩
  | 38 => ⟨S1x8192x256, .f32⟩
  | 39 => ⟨S1x8192x256, .f32⟩
  | 40 => ⟨S1x8192x256, .f32⟩
  | 41 => ⟨S1x8192x256, .f32⟩
  | 42 => ⟨S1x8192x256, .f32⟩
  | 43 => ⟨S_, .f32⟩
  | 44 => ⟨S1x8192x256, .f32⟩
  | 45 => ⟨S1x8192x256, .f32⟩
  | 46 => ⟨S_, .f32⟩
  | 47 => ⟨S1x8192x256, .f32⟩
  | 48 => ⟨S1x8192x256, .f32⟩
  | 49 => ⟨S1x8192x256, .f32⟩
  | 50 => ⟨S_, .f32⟩
  | 51 => ⟨S1x8192x256, .f32⟩
  | 52 => ⟨S1x8192x256, .f32⟩
  | 53 => ⟨S1x8192x256, .f32⟩
  | 54 => ⟨S_, .f32⟩
  | 55 => ⟨S1x8192x256, .f32⟩
  | 56 => ⟨S1x8192x256, .f32⟩
  | 57 => ⟨S_, .f32⟩
  | 58 => ⟨S1x8192x256, .f32⟩
  | 59 => ⟨S1x8192x256, .f32⟩
  | 60 => ⟨S1x8192x256, .f32⟩
  | 61 => ⟨S_, .f32⟩
  | 62 => ⟨S1x8192x256, .f32⟩
  | 63 => ⟨S1x8192x256, .f32⟩
  | 64 => ⟨S_, .f32⟩
  | 65 => ⟨S1x8192x256, .f32⟩
  | 66 => ⟨S1x8192x256, .f32⟩
  | 67 => ⟨S1x8192x256, .f32⟩
  | 68 => ⟨S_, .f32⟩
  | 69 => ⟨S1x8192, .f32⟩
  | 70 => ⟨S1x8192x1, .f32⟩
  | 71 => ⟨S_, .f32⟩
  | 72 => ⟨S1x8192x1, .f32⟩
  | 73 => ⟨S1x8192x1, .f32⟩
  | 74 => ⟨S1x8192x256, .f32⟩
  | 75 => ⟨S1x8192x256, .f32⟩
  | 76 => ⟨S1x8192x256, .f32⟩
  | 77 => ⟨S_, .f32⟩
  | 78 => ⟨S1x8192x256, .f32⟩
  | 79 => ⟨S1x8192x256, .f32⟩
  | 80 => ⟨S_, .f32⟩
  | 81 => ⟨S1x8192, .f32⟩
  | 82 => ⟨S1x8192x1, .f32⟩
  | 83 => ⟨S_, .f32⟩
  | 84 => ⟨S1x8192x1, .f32⟩
  | 85 => ⟨S1x8192x1, .f32⟩
  | 86 => ⟨S1x8192x256, .f32⟩
  | 87 => ⟨S1x8192x256, .f32⟩
  | 88 => ⟨S_, .f32⟩
  | 89 => ⟨S1x8192x1, .f32⟩
  | 90 => ⟨S1x8192x1, .f32⟩
  | 91 => ⟨S1x8192x1, .f32⟩
  | 92 => ⟨S1x8192x1, .f32⟩
  | 93 => ⟨S_, .f32⟩
  | 94 => ⟨S1x8192x1, .f32⟩
  | 95 => ⟨S1x8192x1, .f32⟩
  | 96 => ⟨S1x8192x256, .f32⟩
  | 97 => ⟨S1x8192x256, .f32⟩
  | 98 => ⟨S1x1x256, .f32⟩
  | 99 => ⟨S1x8192x256, .f32⟩
  | 100 => ⟨S1x8192x256, .f32⟩
  | 101 => ⟨S1x1x256, .f32⟩
  | 102 => ⟨S1x8192x256, .f32⟩
  | 103 => ⟨S1x8192x256, .f32⟩
  | 104 => ⟨S1x64x128x4x64, .f32⟩
  | 105 => ⟨S_, .i1⟩
  | 106 => ⟨S128x128, .i1⟩
  | 107 => ⟨S128x128, .i32⟩
  | 108 => ⟨S_, .i32⟩
  | 109 => ⟨S128x128, .i32⟩
  | 110 => ⟨S128x128, .i32⟩
  | 111 => ⟨S128x128, .i32⟩
  | 112 => ⟨S128x128, .i1⟩
  | 113 => ⟨S_, .i1⟩
  | 114 => ⟨S128x128, .i1⟩
  | 115 => ⟨S128x128, .i1⟩
  | 116 => ⟨S_, .f32⟩
  | 117 => ⟨S_, .f32⟩
  | 118 => ⟨S4x128x128, .i1⟩
  | 119 => ⟨S4x128x128, .f32⟩
  | 120 => ⟨S4x128x128, .f32⟩
  | 121 => ⟨S_, .f32⟩
  | 122 => ⟨S4x128x128, .f32⟩
  | 123 => ⟨S4x1x64x64x128, .f32⟩
  | 124 => ⟨S1x64x128x4x64, .f32⟩
  | 125 => ⟨S128x4, .f32⟩
  | 126 => ⟨S1x1x128x4x1, .f32⟩
  | 127 => ⟨S1x64x128x4x64, .f32⟩
  | _ => ⟨S8192x3584, .f32⟩

abbrev hbmTy0_1 (i : Nat) : BufTy := match i % 128 with
  | 0 => ⟨S1x64x128x4x64, .f32⟩
  | 1 => ⟨S1x8192x256, .f32⟩
  | 2 => ⟨S1x8192x256, .f32⟩
  | 3 => ⟨S1x8192x256, .f32⟩
  | 4 => ⟨S1x8192x256, .f32⟩
  | 5 => ⟨S1x64x128x4x64, .f32⟩
  | 6 => ⟨S_, .f32⟩
  | 7 => ⟨S1x128x4, .f32⟩
  | 8 => ⟨S1x1x128x4x1, .f32⟩
  | 9 => ⟨S_, .f32⟩
  | 10 => ⟨S128x4, .f32⟩
  | 11 => ⟨S4x128, .f32⟩
  | 12 => ⟨S4x1x64x64x128, .f32⟩
  | 13 => ⟨S4x128x128, .f32⟩
  | 14 => ⟨S4x1x64x64x128, .f32⟩
  | 15 => ⟨S1x64x128x4x64, .f32⟩
  | 16 => ⟨S_, .f32⟩
  | 17 => ⟨S4x128x128, .f32⟩
  | 18 => ⟨S4x128x128, .f32⟩
  | 19 => ⟨S1x8192x256, .f32⟩
  | 20 => ⟨S_, .f32⟩
  | 21 => ⟨S1x256, .f32⟩
  | 22 => ⟨S1x1x256, .f32⟩
  | 23 => ⟨S_, .f32⟩
  | 24 => ⟨S256, .f32⟩
  | 25 => ⟨S1x8192x256, .f32⟩
  | 26 => ⟨S_, .f32⟩
  | 27 => ⟨S1x256, .f32⟩
  | 28 => ⟨S1x1x256, .f32⟩
  | 29 => ⟨S1x8192x256, .f32⟩
  | 30 => ⟨S1x8192x256, .f32⟩
  | 31 => ⟨S_, .f32⟩
  | 32 => ⟨S256, .f32⟩
  | 33 => ⟨S1x8192x256, .f32⟩
  | 34 => ⟨S_, .f32⟩
  | 35 => ⟨S1x8192, .f32⟩
  | 36 => ⟨S1x8192x1, .f32⟩
  | 37 => ⟨S1x8192x256, .f32⟩
  | 38 => ⟨S1x8192x256, .f32⟩
  | 39 => ⟨S1x8192x1, .f32⟩
  | 40 => ⟨S1x8192x256, .f32⟩
  | 41 => ⟨S_, .f32⟩
  | 42 => ⟨S1x8192, .f32⟩
  | 43 => ⟨S1x8192x1, .f32⟩
  | 44 => ⟨S_, .f32⟩
  | 45 => ⟨S1x8192x1, .f32⟩
  | 46 => ⟨S1x8192x1, .f32⟩
  | 47 => ⟨S_, .f32⟩
  | 48 => ⟨S8192, .f32⟩
  | 49 => ⟨S1x8192, .f32⟩
  | 50 => ⟨S1x8192x256, .f32⟩
  | 51 => ⟨S1x8192x256, .f32⟩
  | 52 => ⟨S1x8192x256, .f32⟩
  | 53 => ⟨S_, .f32⟩
  | 54 => ⟨S1x8192, .f32⟩
  | 55 => ⟨S1x8192x1, .f32⟩
  | 56 => ⟨S1x8192x256, .f32⟩
  | 57 => ⟨S1x8192x1, .f32⟩
  | 58 => ⟨S_, .f32⟩
  | 59 => ⟨S1x8192x1, .f32⟩
  | 60 => ⟨S1x8192x1, .f32⟩
  | 61 => ⟨S_, .f32⟩
  | 62 => ⟨S8192, .f32⟩
  | 63 => ⟨S1x8192, .f32⟩
  | 64 => ⟨S1x8192x256, .f32⟩
  | 65 => ⟨S1x8192x256, .f32⟩
  | 66 => ⟨S1x8192x256, .f32⟩
  | 67 => ⟨S1x8192x256, .f32⟩
  | 68 => ⟨S_, .f32⟩
  | 69 => ⟨S1x8192x256, .f32⟩
  | 70 => ⟨S1x8192x256, .f32⟩
  | 71 => ⟨S1x8192x256, .f32⟩
  | 72 => ⟨S_, .f32⟩
  | 73 => ⟨S1x8192x256, .f32⟩
  | 74 => ⟨S1x8192x256, .f32⟩
  | 75 => ⟨S1x8192x256, .f32⟩
  | 76 => ⟨S_, .f32⟩
  | 77 => ⟨S1x8192x256, .f32⟩
  | 78 => ⟨S1x8192x256, .f32⟩
  | 79 => ⟨S1x8192x256, .f32⟩
  | 80 => ⟨S1x8192x256, .f32⟩
  | 81 => ⟨S1x8192x256, .f32⟩
  | 82 => ⟨S1x8192x256, .f32⟩
  | 83 => ⟨S_, .f32⟩
  | 84 => ⟨S1x8192x256, .f32⟩
  | 85 => ⟨S1x8192x256, .f32⟩
  | 86 => ⟨S1x8192x256, .f32⟩
  | 87 => ⟨S_, .f32⟩
  | 88 => ⟨S1x8192x256, .f32⟩
  | 89 => ⟨S1x8192x256, .f32⟩
  | 90 => ⟨S1x8192x256, .f32⟩
  | 91 => ⟨S_, .f32⟩
  | 92 => ⟨S1x8192x256, .f32⟩
  | 93 => ⟨S1x8192x256, .f32⟩
  | 94 => ⟨S1x8192x256, .f32⟩
  | 95 => ⟨S1x8192x256, .f32⟩
  | 96 => ⟨S128x4, .f32⟩
  | 97 => ⟨S_, .f32⟩
  | 98 => ⟨S128x124, .f32⟩
  | 99 => ⟨S128x128, .f32⟩
  | 100 => ⟨S8192x256, .f32⟩
  | 101 => ⟨S8192x256, .bf16⟩
  | 102 => ⟨S8192x256, .f32⟩
  | 103 => ⟨S8192x256, .bf16⟩
  | 104 => ⟨S1x256, .f32⟩
  | 105 => ⟨S1x256, .f32⟩
  | _ => ⟨S8192x3584, .f32⟩

abbrev hbmTy (i : Nat) : BufTy := match i / 128 with
  | 0 => hbmTy0_0 i
  | 1 => hbmTy0_1 i
  | _ => ⟨S8192x3584, .f32⟩

abbrev bufTy : (tb : Table) → Fin (tcTables nBuf tb) → BufTy
  | .hbm, ⟨i, _⟩ => hbmTy i
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_cst_14 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_15 : Ref sig .tc := ⟨.hbm, 77, rfl⟩
abbrev main_v55 : Ref sig .tc := ⟨.hbm, 78, rfl⟩
abbrev main_v56 : Ref sig .tc := ⟨.hbm, 79, rfl⟩
abbrev main_cst_16 : Ref sig .tc := ⟨.hbm, 80, rfl⟩
abbrev main_v57 : Ref sig .tc := ⟨.hbm, 81, rfl⟩
abbrev main_v58 : Ref sig .tc := ⟨.hbm, 82, rfl⟩
abbrev main_cst_17 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_18 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_19 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c : Ref sig .tc := ⟨.hbm, 105, rfl⟩
abbrev main_v78 : Ref sig .tc := ⟨.hbm, 106, rfl⟩
abbrev main_call0_v0 : Ref sig .tc := ⟨.hbm, 107, rfl⟩
abbrev main_call0_c : Ref sig .tc := ⟨.hbm, 108, rfl⟩
abbrev main_call0_v1 : Ref sig .tc := ⟨.hbm, 109, rfl⟩
abbrev main_call0_v2 : Ref sig .tc := ⟨.hbm, 110, rfl⟩
abbrev main_call0_v3 : Ref sig .tc := ⟨.hbm, 111, rfl⟩
abbrev main_call0_v4 : Ref sig .tc := ⟨.hbm, 112, rfl⟩
abbrev main_call0_c_0 : Ref sig .tc := ⟨.hbm, 113, rfl⟩
abbrev main_call0_v5 : Ref sig .tc := ⟨.hbm, 114, rfl⟩
abbrev main_v79 : Ref sig .tc := ⟨.hbm, 115, rfl⟩
abbrev main_cst_20 : Ref sig .tc := ⟨.hbm, 116, rfl⟩
abbrev main_call1_v0 : Ref sig .tc := ⟨.hbm, 117, rfl⟩
abbrev main_v80_1 : Ref sig .tc := ⟨.hbm, 118, rfl⟩
abbrev main_call1_v2 : Ref sig .tc := ⟨.hbm, 119, rfl⟩
abbrev main_v80_0 : Ref sig .tc := ⟨.hbm, 120, rfl⟩
abbrev main_call1_cst : Ref sig .tc := ⟨.hbm, 121, rfl⟩
abbrev main_v80_2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_21 : Ref sig .tc := ⟨.hbm, 134, rfl⟩
abbrev main_v92 : Ref sig .tc := ⟨.hbm, 135, rfl⟩
abbrev main_v93 : Ref sig .tc := ⟨.hbm, 136, rfl⟩
abbrev main_cst_22 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_call2_cst : Ref sig .tc := ⟨.hbm, 144, rfl⟩
abbrev main_call2_v0 : Ref sig .tc := ⟨.hbm, 145, rfl⟩
abbrev main_v100 : Ref sig .tc := ⟨.hbm, 146, rfl⟩
abbrev main_v101 : Ref sig .tc := ⟨.hbm, 147, rfl⟩
abbrev main_cst_23 : Ref sig .tc := ⟨.hbm, 148, rfl⟩
abbrev main_v102 : Ref sig .tc := ⟨.hbm, 149, rfl⟩
abbrev main_v103 : Ref sig .tc := ⟨.hbm, 150, rfl⟩
abbrev main_cst_24 : Ref sig .tc := ⟨.hbm, 151, rfl⟩
abbrev main_v104 : Ref sig .tc := ⟨.hbm, 152, rfl⟩
abbrev main_v105 : Ref sig .tc := ⟨.hbm, 153, rfl⟩
abbrev main_cst_25 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_26 : Ref sig .tc := ⟨.hbm, 159, rfl⟩
abbrev main_v110 : Ref sig .tc := ⟨.hbm, 160, rfl⟩
abbrev main_v111 : Ref sig .tc := ⟨.hbm, 161, rfl⟩
abbrev main_cst_27 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_28 : Ref sig .tc := ⟨.hbm, 169, rfl⟩
abbrev main_v118 : Ref sig .tc := ⟨.hbm, 170, rfl⟩
abbrev main_v119 : Ref sig .tc := ⟨.hbm, 171, rfl⟩
abbrev main_cst_29 : Ref sig .tc := ⟨.hbm, 172, rfl⟩
abbrev main_v120 : Ref sig .tc := ⟨.hbm, 173, rfl⟩
abbrev main_v121 : Ref sig .tc := ⟨.hbm, 174, rfl⟩
abbrev main_cst_30 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_31 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_cst_32 : Ref sig .tc := ⟨.hbm, 186, rfl⟩
abbrev main_v131 : Ref sig .tc := ⟨.hbm, 187, rfl⟩
abbrev main_v132 : Ref sig .tc := ⟨.hbm, 188, rfl⟩
abbrev main_cst_33 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_cst_34 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_cst_35 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_cst_36 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_37 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_38 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_cst_39 : Ref sig .tc := ⟨.hbm, 219, rfl⟩
abbrev main_v157 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_cst_40 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩

abbrev nD : Nat := 1
abbrev τ : Topo := Topo.v7x

variable {F : FTy → Type} [FloatOps F]
-- ==== FfnDownDx.lean ====
abbrev S8192x1024 : Shape := ⟨2, ![8192, 1024]⟩
abbrev S2816x1024 : Shape := ⟨2, ![2816, 1024]⟩
abbrev S8192x2816 : Shape := ⟨2, ![8192, 2816]⟩
abbrev S2x8192x2816 : Shape := ⟨3, ![2, 8192, 2816]⟩
abbrev S512x1024 : Shape := ⟨2, ![512, 1024]⟩
abbrev S1408x1024 : Shape := ⟨2, ![1408, 1024]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S2x8192x2816, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S2x512x1408, .bf16⟩
  | .local _ .vmem, ⟨9, _⟩ => ⟨S2x512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnDownDxRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S2816x1024, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x8192x2816, .f32⟩
  | .hbm, ⟨28, _⟩ => ⟨S1x8192x2816, .f32⟩
  | .hbm, ⟨29, _⟩ => ⟨S2x8192x2816, .f32⟩
  | .hbm, ⟨30, _⟩ => ⟨S2x8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FfnUpDx.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S1x1024 : Shape := ⟨2, ![1, 1024]⟩
abbrev S1x1024x1408 : Shape := ⟨3, ![1, 1024, 1408]⟩
abbrev S1024x1408 : Shape := ⟨2, ![1024, 1408]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def k0_cond3 (i : grid0.Coords) : BitVec 1 :=
  let arg0 : BitVec 32 := BitVec.ofNat 32 (i 0).val
  let c0_i32_7 : BitVec 32 := 0#32
  let v10 : BitVec 1 := Scalar.cmpi .eq arg0 c0_i32_7
  let arg1 : BitVec 32 := BitVec.ofNat 32 (i 1).val
  let c0_i32_8 : BitVec 32 := 0#32
  let v11 : BitVec 1 := Scalar.cmpi .eq arg1 c0_i32_8
  let v12 : BitVec 1 := Scalar.andi v10 v11
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let c0_i32 : BitVec 32 := 0#32
  let v1 : BitVec 32 := Scalar.select v0 c1_i32 c0_i32
  let c2_i32_0 : BitVec 32 := 2#32
  let v2 : BitVec 32 := Scalar.muli v1 c2_i32_0
  let v3 : BitVec 32 := Scalar.subi arg1 v2
  let c0_i32_1 : BitVec 32 := 0#32
  ![v1.toNat, arg0.toNat, v3.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== FfnUpDxRefIdeal.lean ====
abbrev S2x8192x2816 : Shape := ⟨3, ![2, 8192, 2816]⟩
abbrev S1024x5632 : Shape := ⟨2, ![1024, 5632]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x2816 : Shape := ⟨3, ![1, 8192, 2816]⟩
abbrev S8192x2816 : Shape := ⟨2, ![8192, 2816]⟩

abbrev nBuf : Space → Nat
  | .hbm => 61
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x5632, .f32⟩
  | .hbm, ⟨26, _⟩ => ⟨S8192x5632, .f32⟩
  | .hbm, ⟨27, _⟩ => ⟨S1x8192x2816, .bf16⟩
  | .hbm, ⟨28, _⟩ => ⟨S8192x2816, .bf16⟩
  | .hbm, ⟨29, _⟩ => ⟨S1x8192x2816, .bf16⟩
  | .hbm, ⟨30, _⟩ => ⟨S8192x2816, .bf16⟩
  | .hbm, ⟨31, _⟩ => ⟨S8192x5632, .bf16⟩
  | .hbm, ⟨32, _⟩ => ⟨S8192x5632, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S1x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== FfnUpDw.lean ====
abbrev S8192x1024 : Shape := ⟨2, ![8192, 1024]⟩
abbrev S2x8192x2816 : Shape := ⟨3, ![2, 8192, 2816]⟩
abbrev S2x4x512x1408 : Shape := ⟨4, ![2, 4, 512, 1408]⟩
abbrev S1024x1024 : Shape := ⟨2, ![1024, 1024]⟩
abbrev S1x1024x1408 : Shape := ⟨3, ![1, 1024, 1408]⟩
abbrev S2x1x512x1408 : Shape := ⟨4, ![2, 1, 512, 1408]⟩
abbrev S1024x1408 : Shape := ⟨2, ![1024, 1408]⟩
abbrev S512x1408 : Shape := ⟨2, ![512, 1408]⟩
abbrev S1x1x512x1408 : Shape := ⟨4, ![1, 1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S2x4x512x1408, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S2x1x512x1408, .bf16⟩
  | .local _ .vmem, ⟨5, _⟩ => ⟨S2x1x512x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .sge arg1 c2_i32
  let c1_i32 : BitVec 32 := 1#32
  let c0_i32 : BitVec 32 := 0#32
  let v1 : BitVec 32 := Scalar.select v0 c1_i32 c0_i32
  let c2_i32_0 : BitVec 32 := 2#32
  let v2 : BitVec 32 := Scalar.muli v1 c2_i32_0
  let v3 : BitVec 32 := Scalar.subi arg1 v2
  let c0_i32_1 : BitVec 32 := 0#32
  ![v1.toNat, arg2.toNat, v3.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== FfnUpDwRefIdeal.lean ====
abbrev S8192x1024 : Shape := ⟨2, ![8192, 1024]⟩
abbrev S2x8192x2816 : Shape := ⟨3, ![2, 8192, 2816]⟩
abbrev S1x8192x2816 : Shape := ⟨3, ![1, 8192, 2816]⟩
abbrev S8192x2816 : Shape := ⟨2, ![8192, 2816]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1x8192x2816, .bf16⟩
  | .hbm, ⟨3, _⟩ => ⟨S8192x2816, .bf16⟩
  | .hbm, ⟨4, _⟩ => ⟨S1x8192x2816, .bf16⟩
  | .hbm, ⟨5, _⟩ => ⟨S8192x2816, .bf16⟩
  | .hbm, ⟨6, _⟩ => ⟨S8192x5632, .bf16⟩
  | .hbm, ⟨7, _⟩ => ⟨S8192x5632, .f32⟩
  | .hbm, ⟨8, _⟩ => ⟨S_, .f32⟩
  | .hbm, ⟨9, _⟩ => ⟨S1024x5632, .f32⟩
  | .hbm, ⟨10, _⟩ => ⟨S8192x1024, .f32⟩
  | .hbm, ⟨11, _⟩ => ⟨S8192x5632, .f32⟩
  | .hbm, ⟨12, _⟩ => ⟨S5632x1024, .f32⟩
  | .hbm, ⟨13, _⟩ => ⟨S1024x5632, .f32⟩
  | .hbm, ⟨14, _⟩ => ⟨S2x512x4x1408, .f32⟩
  | .hbm, ⟨15, _⟩ => ⟨S2x4x512x1408, .f32⟩
  | .hbm, ⟨16, _⟩ => ⟨S2x4x512x1408, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== FfnUp.lean ====
abbrev S8192x1024 : Shape := ⟨2, ![8192, 1024]⟩
abbrev S1024x5632 : Shape := ⟨2, ![1024, 5632]⟩
abbrev S8192x2816 : Shape := ⟨2, ![8192, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x2816, .f32⟩
  | .hbm, ⟨3, _⟩ => ⟨S8192x2816, .f32⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== FfnDownDw.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjOutDw.lean ====
abbrev S8192x256 : Shape := ⟨2, ![8192, 256]⟩
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x1024, .f32⟩
  | .hbm, ⟨5, _⟩ => ⟨S1024x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true, false]
-- ==== ProjOutDwRefIdeal.lean ====
abbrev S8192x256 : Shape := ⟨2, ![8192, 256]⟩
abbrev S8192x1024 : Shape := ⟨2, ![8192, 1024]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S8192x1024, .f32⟩
  | .hbm, ⟨5, _⟩ => ⟨S_, .f32⟩
  | .hbm, ⟨6, _⟩ => ⟨S1024x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== ProjOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjInDw.lean ====
abbrev S8192x1024 : Shape := ⟨2, ![8192, 1024]⟩
abbrev S8192x3584 : Shape := ⟨2, ![8192, 3584]⟩
abbrev S1024x3584 : Shape := ⟨2, ![1024, 3584]⟩
abbrev S1024x1024 : Shape := ⟨2, ![1024, 1024]⟩
abbrev S1024x896 : Shape := ⟨2, ![1024, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S1024x3584, .bf16⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInDwRefIdeal.lean ====
abbrev S8192x1024 : Shape := ⟨2, ![8192, 1024]⟩
abbrev S8192x3584 : Shape := ⟨2, ![8192, 3584]⟩
abbrev S_ : Shape := ⟨0, ![]⟩
abbrev S1024x3584 : Shape := ⟨2, ![1024, 3584]⟩
abbrev S3584x1024 : Shape := ⟨2, ![3584, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3584, .bf16⟩
  | .hbm, ⟨2, _⟩ => ⟨S_, .f32⟩
  | .hbm, ⟨3, _⟩ => ⟨S1024x3584, .f32⟩
  | .hbm, ⟨4, _⟩ => ⟨S8192x1024, .f32⟩
  | .hbm, ⟨5, _⟩ => ⟨S8192x3584, .f32⟩
  | .hbm, ⟨6, _⟩ => ⟨S8192x3584, .f32⟩
  | .hbm, ⟨7, _⟩ => ⟨S3584x1024, .f32⟩
  | .hbm, ⟨8, _⟩ => ⟨S1024x3584, .f32⟩
  | .hbm, ⟨9, _⟩ => ⟨S1024x3584, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjInDx.lean ====
abbrev S8192x3584 : Shape := ⟨2, ![8192, 3584]⟩
abbrev S1024x3584 : Shape := ⟨2, ![1024, 3584]⟩
abbrev S8192x1024 : Shape := ⟨2, ![8192, 1024]⟩
abbrev S1024 : Shape := ⟨1, ![1024]⟩
abbrev S1x1024 : Shape := ⟨2, ![1, 1024]⟩
abbrev S1024x896 : Shape := ⟨2, ![1024, 896]⟩
abbrev S1024x1024 : Shape := ⟨2, ![1024, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ProjInDxRefIdeal.lean ====
abbrev S8192x3584 : Shape := ⟨2, ![8192, 3584]⟩
abbrev S1024x3584 : Shape := ⟨2, ![1024, 3584]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S1024x3584, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S1024x3584, .f32⟩
  | .hbm, ⟨26, _⟩ => ⟨S8192x3584, .f32⟩
  | .hbm, ⟨27, _⟩ => ⟨S8192x3584, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1x1024, .f32⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== ProjIn.lean ====
abbrev S8192x1024 : Shape := ⟨2, ![8192, 1024]⟩
abbrev S1024x3584 : Shape := ⟨2, ![1024, 3584]⟩
abbrev S8192x3584 : Shape := ⟨2, ![8192, 3584]⟩
abbrev S1024x1024 : Shape := ⟨2, ![1024, 1024]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x3584, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .bf16⟩
  | .local _ .vmem, ⟨4, _⟩ => ⟨S1024x896, .f32⟩
  | .local _ .vmem, ⟨5, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjInRefIdeal.lean ====
abbrev S8192x1024 : Shape := ⟨2, ![8192, 1024]⟩
abbrev S1024x3584 : Shape := ⟨2, ![1024, 3584]⟩
abbrev S8192x3584 : Shape := ⟨2, ![8192, 3584]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3584, .bf16⟩
  | .hbm, ⟨2, _⟩ => ⟨S8192x1024, .f32⟩
  | .hbm, ⟨3, _⟩ => ⟨S1024x3584, .f32⟩
  | .hbm, ⟨4, _⟩ => ⟨S8192x3584, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjOut.lean ====
abbrev S8192x256 : Shape := ⟨2, ![8192, 256]⟩
abbrev S1024x1024 : Shape := ⟨2, ![1024, 1024]⟩
abbrev S8192x1024 : Shape := ⟨2, ![8192, 1024]⟩
abbrev S1024 : Shape := ⟨1, ![1024]⟩
abbrev S1x1024 : Shape := ⟨2, ![1, 1024]⟩
abbrev S1024x256 : Shape := ⟨2, ![1024, 256]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S1x1024, .f32⟩
  | .hbm, ⟨8, _⟩ => ⟨S8192x1024, .f32⟩
  | .hbm, ⟨9, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ProjOutRefIdeal.lean ====
abbrev S8192x256 : Shape := ⟨2, ![8192, 256]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x256, .bf16⟩
  | .hbm, ⟨2, _⟩ => ⟨S8192x256, .bf16⟩
  | .hbm, ⟨3, _⟩ => ⟨S8192x256, .bf16⟩
  | .hbm, ⟨4, _⟩ => ⟨S1024x1024, .bf16⟩
  | .hbm, ⟨5, _⟩ => ⟨S8192x1024, .f32⟩
  | .hbm, ⟨6, _⟩ => ⟨S1024, .f32⟩
  | .hbm, ⟨7, _⟩ => ⟨S8192x1024, .bf16⟩
  | .hbm, ⟨8, _⟩ => ⟨S8192x1024, .f32⟩
  | .hbm, ⟨9, _⟩ => ⟨S1024x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .hbm, ⟨6, _⟩ => ⟨S8192x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnDownLast.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownLastRefIdeal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ScBwd.lean ====
abbrev S8192x3584 : Shape := ⟨2, ![8192, 3584]⟩
abbrev S8192x1024 : Shape := ⟨2, ![8192, 1024]⟩
abbrev S3x256 : Shape := ⟨2, ![3, 256]⟩
abbrev S_ : Shape := ⟨0, ![]⟩
abbrev S5x256 : Shape := ⟨2, ![5, 256]⟩
abbrev S8x256 : Shape := ⟨2, ![8, 256]⟩
abbrev S8192x256 : Shape := ⟨2, ![8192, 256]⟩
abbrev S512x256 : Shape := ⟨2, ![512, 256]⟩
abbrev S256 : Shape := ⟨1, ![256]⟩
abbrev S1x256 : Shape := ⟨2, ![1, 256]⟩
abbrev S504x256 : Shape := ⟨2, ![504, 256]⟩

abbrev nBuf : Space → Nat
  | .hbm => 10
  | .vmem => 22
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S3x256, .f32⟩
  | .hbm, ⟨3, _⟩ => ⟨S_, .f32⟩
  | .hbm, ⟨4, _⟩ => ⟨S5x256, .f32⟩
  | .hbm, ⟨5, _⟩ => ⟨S8x256, .f32⟩
  | .hbm, ⟨6, _⟩ => ⟨S8192x256, .bf16⟩
  | .hbm, ⟨7, _⟩ => ⟨S8192x256, .bf16⟩
  | .hbm, ⟨8, _⟩ => ⟨S8192x256, .bf16⟩
  | .hbm, ⟨9, _⟩ => ⟨S8x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S512x256, .f32⟩
  | .local _ .vmem, ⟨11, _⟩ => ⟨S512x256, .f32⟩
  | .local _ .vmem, ⟨12, _⟩ => ⟨S8x256, .f32⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S8x256, .f32⟩
  | .local _ .vmem, ⟨20, _⟩ => ⟨S8x256, .f32⟩
  | .local _ .vmem, ⟨21, _⟩ => ⟨S8x256, .f32⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  ![v0.toNat, c2_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  ![v0.toNat, c3_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c4_i32 : BitVec 32 := 4#32
  let c0_i32_0 : BitVec 32 := 0#32
  ![v3.toNat, c4_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ScBwdRefIdeal.lean ====
abbrev S8192x3584 : Shape := ⟨2, ![8192, 3584]⟩
abbrev S8192x1024 : Shape := ⟨2, ![8192, 1024]⟩
abbrev S3x256 : Shape := ⟨2, ![3, 256]⟩
abbrev S8192x256 : Shape := ⟨2, ![8192, 256]⟩
abbrev S1x8192x256 : Shape := ⟨3, ![1, 8192, 256]⟩
abbrev S1x2x256 : Shape := ⟨3, ![1, 2, 256]⟩
abbrev S_ : Shape := ⟨0, ![]⟩
abbrev S1x8194x256 : Shape := ⟨3, ![1, 8194, 256]⟩
abbrev S1x256 : Shape := ⟨2, ![1, 256]⟩
abbrev S256 : Shape := ⟨1, ![256]⟩
abbrev S1x1x256 : Shape := ⟨3, ![1, 1, 256]⟩
abbrev S5x256 : Shape := ⟨2, ![5, 256]⟩
abbrev S8x256 : Shape := ⟨2, ![8, 256]⟩

abbrev nBuf : Space → Nat
  | .hbm => 97
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S8192x1024, .f32⟩
  | .hbm, ⟨2, _⟩ => ⟨S3x256, .f32⟩
  | .hbm, ⟨3, _⟩ => ⟨S8192x256, .f32⟩
  | .hbm, ⟨4, _⟩ => ⟨S1x8192x256, .f32⟩
  | .hbm, ⟨5, _⟩ => ⟨S8192x256, .f32⟩
  | .hbm, ⟨6, _⟩ => ⟨S1x8192x256, .f32⟩
  | .hbm, ⟨7, _⟩ => ⟨S8192x256, .f32⟩
  | .hbm, ⟨8, _⟩ => ⟨S1x8192x256, .f32⟩
  | .hbm, ⟨9, _⟩ => ⟨S8192x256, .f32⟩
  | .hbm, ⟨10, _⟩ => ⟨S1x8192x256, .f32⟩
  | .hbm, ⟨11, _⟩ => ⟨S1x8192x256, .f32⟩
  | .hbm, ⟨12, _⟩ => ⟨S1x2x256, .f32⟩
  | .hbm, ⟨13, _⟩ => ⟨S_, .f32⟩
  | .hbm, ⟨14, _⟩ => ⟨S1x2x256, .f32⟩
  | .hbm, ⟨15, _⟩ => ⟨S1x8194x256, .f32⟩
  | .hbm, ⟨16, _⟩ => ⟨S_, .f32⟩
  | .hbm, ⟨17, _⟩ => ⟨S1x2x256, .f32⟩
  | .hbm, ⟨18, _⟩ => ⟨S1x256, .f32⟩
  | .hbm, ⟨19, _⟩ => ⟨S256, .f32⟩
  | .hbm, ⟨20, _⟩ => ⟨S1x8192x256, .f32⟩
  | .hbm, ⟨21, _⟩ => ⟨S1x1x256, .f32⟩
  | .hbm, ⟨22, _⟩ => ⟨S1x8192x256, .f32⟩
  | .hbm, ⟨23, _⟩ => ⟨S1x8192x256, .f32⟩
  | .hbm, ⟨24, _⟩ => ⟨S1x256, .f32⟩
  | .hbm, ⟨25, _⟩ => ⟨S256, .f32⟩
  | .hbm, ⟨26, _⟩ => ⟨S1x8192x256, .f32⟩
  | .hbm, ⟨27, _⟩ => ⟨S1x1x256, .f32⟩
  | .hbm, ⟨28, _⟩ => ⟨S1x8192x256, .f32⟩
  | .hbm, ⟨29, _⟩ => ⟨S1x8192x256, .f32⟩
  | .hbm, ⟨30, _⟩ => ⟨S1x8192x256, .f32⟩
  | .hbm, ⟨31, _⟩ => ⟨S1x256, .f32⟩
  | .hbm, ⟨32, _⟩ => ⟨S256, .f32⟩
  | .hbm, ⟨33, _⟩ => ⟨S1x8192x256, .f32⟩
  | .hbm, ⟨34, _⟩ => ⟨S1x1x256, .f32⟩
  | .hbm, ⟨35, _⟩ => ⟨S1x8192x256, .f32⟩
  | .hbm, ⟨36, _⟩ => ⟨S1x8192x256, .f32⟩
  | .hbm, ⟨37, _⟩ => ⟨S1x8192x256, .f32⟩
  | .hbm, ⟨38, _⟩ => ⟨S1x8192x256, .f32⟩
  | .hbm, ⟨39, _⟩ => ⟨S1x8192x256, .f32⟩
  | .hbm, ⟨40, _⟩ => ⟨S1x8192x256, .f32⟩
  | .hbm, ⟨41, _⟩ => ⟨S1x8192x256, .f32⟩
  | .hbm, ⟨42, _⟩ => ⟨S1x8192x256, .f32⟩
  | .hbm, ⟨43, _⟩ => ⟨S1x8192x256, .f32⟩
  | .hbm, ⟨44, _⟩ => ⟨S_, .f32⟩
  | .hbm, ⟨45, _⟩ => ⟨S1x256, .f32⟩
  | .hbm, ⟨46, _⟩ => ⟨S1x1x256, .f32⟩
  | .hbm, ⟨47, _⟩ => ⟨S_, .f32⟩
  | .hbm, ⟨48, _⟩ => ⟨S256, .f32⟩
  | .hbm, ⟨49, _⟩ => ⟨S_, .f32⟩
  | .hbm, ⟨50, _⟩ => ⟨S1x8194x256, .f32⟩
  | .hbm, ⟨51, _⟩ => ⟨S1x256, .f32⟩
  | .hbm, ⟨52, _⟩ => ⟨S_, .f32⟩
  | .hbm, ⟨53, _⟩ => ⟨S3x256, .f32⟩
  | .hbm, ⟨54, _⟩ => ⟨S1x8192x256, .f32⟩
  | .hbm, ⟨55, _⟩ => ⟨S1x8192x256, .f32⟩
  | .hbm, ⟨56, _⟩ => ⟨S1x8192x256, .f32⟩
  | .hbm, ⟨57, _⟩ => ⟨S_, .f32⟩
  | .hbm, ⟨58, _⟩ => ⟨S1x256, .f32⟩
  | .hbm, ⟨59, _⟩ => ⟨S1x1x256, .f32⟩
  | .hbm, ⟨60, _⟩ => ⟨S_, .f32⟩
  | .hbm, ⟨61, _⟩ => ⟨S256, .f32⟩
  | .hbm, ⟨62, _⟩ => ⟨S_, .f32⟩
  | .hbm, ⟨63, _⟩ => ⟨S1x8194x256, .f32⟩
  | .hbm, ⟨64, _⟩ => ⟨S1x8194x256, .f32⟩
  | .hbm, ⟨65, _⟩ => ⟨S1x256, .f32⟩
  | .hbm, ⟨66, _⟩ => ⟨S_, .f32⟩
  | .hbm, ⟨67, _⟩ => ⟨S3x256, .f32⟩
  | .hbm, ⟨68, _⟩ => ⟨S3x256, .f32⟩
  | .hbm, ⟨69, _⟩ => ⟨S1x8192x256, .f32⟩
  | .hbm, ⟨70, _⟩ => ⟨S1x8192x256, .f32⟩
  | .hbm, ⟨71, _⟩ => ⟨S1x8192x256, .f32⟩
  | .hbm, ⟨72, _⟩ => ⟨S_, .f32⟩
  | .hbm, ⟨73, _⟩ => ⟨S1x256, .f32⟩
  | .hbm, ⟨74, _⟩ => ⟨S1x1x256, .f32⟩
  | .hbm, ⟨75, _⟩ => ⟨S_, .f32⟩
  | .hbm, ⟨76, _⟩ => ⟨S256, .f32⟩
  | .hbm, ⟨77, _⟩ => ⟨S_, .f32⟩
  | .hbm, ⟨78, _⟩ => ⟨S1x8194x256, .f32⟩
  | .hbm, ⟨79, _⟩ => ⟨S1x8194x256, .f32⟩
  | .hbm, ⟨80, _⟩ => ⟨S1x256, .f32⟩
  | .hbm, ⟨81, _⟩ => ⟨S_, .f32⟩
  | .hbm, ⟨82, _⟩ => ⟨S3x256, .f32⟩
  | .hbm, ⟨83, _⟩ => ⟨S3x256, .f32⟩
  | .hbm, ⟨84, _⟩ => ⟨S1x2x256, .f32⟩
  | .hbm, ⟨85, _⟩ => ⟨S1x8192x256, .f32⟩
  | .hbm, ⟨86, _⟩ => ⟨S1x8192x256, .f32⟩
  | .hbm, ⟨87, _⟩ => ⟨S1x8192x256, .f32⟩
  | .hbm, ⟨88, _⟩ => ⟨S_, .f32⟩
  | .hbm, ⟨89, _⟩ => ⟨S5x256, .f32⟩
  | .hbm, ⟨90, _⟩ => ⟨S8x256, .f32⟩
  | .hbm, ⟨91, _⟩ => ⟨S8192x256, .f32⟩
  | .hbm, ⟨92, _⟩ => ⟨S8192x256, .bf16⟩
  | .hbm, ⟨93, _⟩ => ⟨S8192x256, .f32⟩
  | .hbm, ⟨94, _⟩ => ⟨S8192x256, .bf16⟩
  | .hbm, ⟨95, _⟩ => ⟨S8192x256, .f32⟩
  | .hbm, ⟨96, _⟩ => ⟨S8192x256, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_cst_1 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_8 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_9 : Ref sig .tc := ⟨.hbm, 72, rfl⟩
abbrev main_v59 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_cst_11 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_cst_12 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_13 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩

abbrev nD : Nat := 1
abbrev τ : Topo := Topo.v7x

variable {F : FTy → Type} [FloatOps F]
-- ==== SguFwd.lean ====
abbrev S8192x3584 : Shape := ⟨2, ![8192, 3584]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S_ : Shape := ⟨0, ![]⟩
abbrev S128x124 : Shape := ⟨2, ![128, 124]⟩
abbrev S128x128 : Shape := ⟨2, ![128, 128]⟩
abbrev S8192x256 : Shape := ⟨2, ![8192, 256]⟩
abbrev S512x256 : Shape := ⟨2, ![512, 256]⟩
abbrev S1x128x128 : Shape := ⟨3, ![1, 128, 128]⟩
abbrev S512 : Shape := ⟨1, ![512]⟩
abbrev S512x1 : Shape := ⟨2, ![512, 1]⟩
abbrev S128x256 : Shape := ⟨2, ![128, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x3584, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S1x256, .f32⟩
  | .hbm, ⟨7, _⟩ => ⟨S128x4, .f32⟩
  | .hbm, ⟨8, _⟩ => ⟨S_, .f32⟩
  | .hbm, ⟨9, _⟩ => ⟨S128x124, .f32⟩
  | .hbm, ⟨10, _⟩ => ⟨S128x128, .f32⟩
  | .hbm, ⟨11, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x128, .f32⟩
  | .local _ .vmem, ⟨8, _⟩ => ⟨S512x256, .bf16⟩
  | .local _ .vmem, ⟨9, _⟩ => ⟨S512x256, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdRefIdeal.lean ====
abbrev S8192x3584 : Shape := ⟨2, ![8192, 3584]⟩
abbrev S256 : Shape := ⟨1, ![256]⟩
abbrev S4x128x128 : Shape := ⟨3, ![4, 128, 128]⟩
abbrev S4x128 : Shape := ⟨2, ![4, 128]⟩
abbrev S8192x256 : Shape := ⟨2, ![8192, 256]⟩
abbrev S1x8192x256 : Shape := ⟨3, ![1, 8192, 256]⟩
abbrev S_ : Shape := ⟨0, ![]⟩
abbrev S1x8192 : Shape := ⟨2, ![1, 8192]⟩
abbrev S1x8192x1 : Shape := ⟨3, ![1, 8192, 1]⟩
abbrev S1x1x256 : Shape := ⟨3, ![1, 1, 256]⟩
abbrev S1x64x128x4x64 : Shape := ⟨5, ![1, 64, 128, 4, 64]⟩
abbrev S128x128 : Shape := ⟨2, ![128, 128]⟩
abbrev S4x1x64x64x128 : Shape := ⟨5, ![4, 1, 64, 64, 128]⟩
abbrev S128x4 : Shape := ⟨2, ![128, 4]⟩
abbrev S1x1x128x4x1 : Shape := ⟨5, ![1, 1, 128, 4, 1]⟩

abbrev nBuf : Space → Nat
  | .hbm => 99
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S8192x256, .f32⟩
  | .hbm, ⟨6, _⟩ => ⟨S1x8192x256, .f32⟩
  | .hbm, ⟨7, _⟩ => ⟨S8192x256, .f32⟩
  | .hbm, ⟨8, _⟩ => ⟨S1x8192x256, .f32⟩
  | .hbm, ⟨9, _⟩ => ⟨S1x8192x256, .f32⟩
  | .hbm, ⟨10, _⟩ => ⟨S1x8192x256, .f32⟩
  | .hbm, ⟨11, _⟩ => ⟨S_, .f32⟩
  | .hbm, ⟨12, _⟩ => ⟨S1x8192x256, .f32⟩
  | .hbm, ⟨13, _⟩ => ⟨S1x8192x256, .f32⟩
  | .hbm, ⟨14, _⟩ => ⟨S1x8192x256, .f32⟩
  | .hbm, ⟨15, _⟩ => ⟨S_, .f32⟩
  | .hbm, ⟨16, _⟩ => ⟨S1x8192x256, .f32⟩
  | .hbm, ⟨17, _⟩ => ⟨S1x8192x256, .f32⟩
  | .hbm, ⟨18, _⟩ => ⟨S1x8192x256, .f32⟩
  | .hbm, ⟨19, _⟩ => ⟨S_, .f32⟩
  | .hbm, ⟨20, _⟩ => ⟨S1x8192x256, .f32⟩
  | .hbm, ⟨21, _⟩ => ⟨S1x8192x256, .f32⟩
  | .hbm, ⟨22, _⟩ => ⟨S_, .f32⟩
  | .hbm, ⟨23, _⟩ => ⟨S1x8192x256, .f32⟩
  | .hbm, ⟨24, _⟩ => ⟨S1x8192x256, .f32⟩
  | .hbm, ⟨25, _⟩ => ⟨S1x8192x256, .f32⟩
  | .hbm, ⟨26, _⟩ => ⟨S1x8192x256, .f32⟩
  | .hbm, ⟨27, _⟩ => ⟨S1x8192x256, .f32⟩
  | .hbm, ⟨28, _⟩ => ⟨S_, .f32⟩
  | .hbm, ⟨29, _⟩ => ⟨S1x8192x256, .f32⟩
  | .hbm, ⟨30, _⟩ => ⟨S1x8192x256, .f32⟩
  | .hbm, ⟨31, _⟩ => ⟨S1x8192x256, .f32⟩
  | .hbm, ⟨32, _⟩ => ⟨S_, .f32⟩
  | .hbm, ⟨33, _⟩ => ⟨S1x8192x256, .f32⟩
  | .hbm, ⟨34, _⟩ => ⟨S1x8192x256, .f32⟩
  | .hbm, ⟨35, _⟩ => ⟨S1x8192x256, .f32⟩
  | .hbm, ⟨36, _⟩ => ⟨S_, .f32⟩
  | .hbm, ⟨37, _⟩ => ⟨S1x8192x256, .f32⟩
  | .hbm, ⟨38, _⟩ => ⟨S1x8192x256, .f32⟩
  | .hbm, ⟨39, _⟩ => ⟨S_, .f32⟩
  | .hbm, ⟨40, _⟩ => ⟨S1x8192x256, .f32⟩
  | .hbm, ⟨41, _⟩ => ⟨S1x8192x256, .f32⟩
  | .hbm, ⟨42, _⟩ => ⟨S1x8192x256, .f32⟩
  | .hbm, ⟨43, _⟩ => ⟨S_, .f32⟩
  | .hbm, ⟨44, _⟩ => ⟨S1x8192, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S1x8192x256, .f32⟩
  | .hbm, ⟨50, _⟩ => ⟨S1x8192x256, .f32⟩
  | .hbm, ⟨51, _⟩ => ⟨S1x8192x256, .f32⟩
  | .hbm, ⟨52, _⟩ => ⟨S_, .f32⟩
  | .hbm, ⟨53, _⟩ => ⟨S1x8192, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S1x8192x256, .f32⟩
  | .hbm, ⟨59, _⟩ => ⟨S1x8192x256, .f32⟩
  | .hbm, ⟨60, _⟩ => ⟨S_, .f32⟩
  | .hbm, ⟨61, _⟩ => ⟨S1x8192x1, .f32⟩
  | .hbm, ⟨62, _⟩ => ⟨S1x8192x1, .f32⟩
  | .hbm, ⟨63, _⟩ => ⟨S1x8192x1, .f32⟩
  | .hbm, ⟨64, _⟩ => ⟨S1x8192x256, .f32⟩
  | .hbm, ⟨65, _⟩ => ⟨S1x8192x256, .f32⟩
  | .hbm, ⟨66, _⟩ => ⟨S1x1x256, .f32⟩
  | .hbm, ⟨67, _⟩ => ⟨S1x8192x256, .f32⟩
  | .hbm, ⟨68, _⟩ => ⟨S1x8192x256, .f32⟩
  | .hbm, ⟨69, _⟩ => ⟨S1x1x256, .f32⟩
  | .hbm, ⟨70, _⟩ => ⟨S1x8192x256, .f32⟩
  | .hbm, ⟨71, _⟩ => ⟨S1x8192x256, .f32⟩
  | .hbm, ⟨72, _⟩ => ⟨S1x64x128x4x64, .f32⟩
  | .hbm, ⟨73, _⟩ => ⟨S_, .i1⟩
  | .hbm, ⟨74, _⟩ => ⟨S128x128, .i1⟩
  | .hbm, ⟨75, _⟩ => ⟨S128x128, .i32⟩
  | .hbm, ⟨76, _⟩ => ⟨S_, .i32⟩
  | .hbm, ⟨77, _⟩ => ⟨S128x128, .i32⟩
  | .hbm, ⟨78, _⟩ => ⟨S128x128, .i32⟩
  | .hbm, ⟨79, _⟩ => ⟨S128x128, .i32⟩
  | .hbm, ⟨80, _⟩ => ⟨S128x128, .i1⟩
  | .hbm, ⟨81, _⟩ => ⟨S_, .i1⟩
  | .hbm, ⟨82, _⟩ => ⟨S128x128, .i1⟩
  | .hbm, ⟨83, _⟩ => ⟨S128x128, .i1⟩
  | .hbm, ⟨84, _⟩ => ⟨S_, .f32⟩
  | .hbm, ⟨85, _⟩ => ⟨S_, .f32⟩
  | .hbm, ⟨86, _⟩ => ⟨S4x128x128, .i1⟩
  | .hbm, ⟨87, _⟩ => ⟨S4x128x128, .f32⟩
  | .hbm, ⟨88, _⟩ => ⟨S4x128x128, .f32⟩
  | .hbm, ⟨89, _⟩ => ⟨S4x1x64x64x128, .f32⟩
  | .hbm, ⟨90, _⟩ => ⟨S1x64x128x4x64, .f32⟩
  | .hbm, ⟨91, _⟩ => ⟨S128x4, .f32⟩
  | .hbm, ⟨92, _⟩ => ⟨S1x1x128x4x1, .f32⟩
  | .hbm, ⟨93, _⟩ => ⟨S1x64x128x4x64, .f32⟩
  | .hbm, ⟨94, _⟩ => ⟨S1x64x128x4x64, .f32⟩
  | .hbm, ⟨95, _⟩ => ⟨S1x8192x256, .f32⟩
  | .hbm, ⟨96, _⟩ => ⟨S1x8192x256, .f32⟩
  | .hbm, ⟨97, _⟩ => ⟨S8192x256, .f32⟩
  | .hbm, ⟨98, _⟩ => ⟨S8192x256, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c : Ref sig .tc := ⟨.hbm, 73, rfl⟩
abbrev main_v55 : Ref sig .tc := ⟨.hbm, 74, rfl⟩
abbrev main_call0_v0 : Ref sig .tc := ⟨.hbm, 75, rfl⟩
abbrev main_call0_c : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_c_0 : Ref sig .tc := ⟨.hbm, 81, rfl⟩
abbrev main_call0_v5 : Ref sig .tc := ⟨.hbm, 82, rfl⟩
abbrev main_v56 : Ref sig .tc := ⟨.hbm, 83, rfl⟩
abbrev main_cst_12 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== ScFwd.lean ====
abbrev S8192x3584 : Shape := ⟨2, ![8192, 3584]⟩
abbrev S3x256 : Shape := ⟨2, ![3, 256]⟩
abbrev S_ : Shape := ⟨0, ![]⟩
abbrev S5x256 : Shape := ⟨2, ![5, 256]⟩
abbrev S8x256 : Shape := ⟨2, ![8, 256]⟩
abbrev S8192x256 : Shape := ⟨2, ![8192, 256]⟩
abbrev S512x256 : Shape := ⟨2, ![512, 256]⟩
abbrev S256 : Shape := ⟨1, ![256]⟩
abbrev S1x256 : Shape := ⟨2, ![1, 256]⟩
abbrev S504x256 : Shape := ⟨2, ![504, 256]⟩

abbrev nBuf : Space → Nat
  | .hbm => 6
  | .vmem => 13
  | .smem => 0
  | _ => 0

abbrev bufTy : (tb : Table) → Fin (tcTables nBuf tb) → BufTy
  | .hbm, ⟨0, _⟩ => ⟨S8192x3584, .f32⟩
  | .hbm, ⟨1, _⟩ => ⟨S3x256, .f32⟩
  | .hbm, ⟨2, _⟩ => ⟨S_, .f32⟩
  | .hbm, ⟨3, _⟩ => ⟨S5x256, .f32⟩
  | .hbm, ⟨4, _⟩ => ⟨S8x256, .f32⟩
  | .hbm, ⟨5, _⟩ => ⟨S8192x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S8x256, .f32⟩
  | .local _ .vmem, ⟨10, _⟩ => ⟨S8x256, .f32⟩
  | .local _ .vmem, ⟨11, _⟩ => ⟨S512x256, .bf16⟩
  | .local _ .vmem, ⟨12, _⟩ => ⟨S512x256, .bf16⟩
  | _, _ => ⟨S8192x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ScFwdRefIdeal.lean ====
abbrev S8192x3584 : Shape := ⟨2, ![8192, 3584]⟩
abbrev S3x256 : Shape := ⟨2, ![3, 256]⟩
abbrev S8192x256 : Shape := ⟨2, ![8192, 256]⟩
abbrev S1x8192x256 : Shape := ⟨3, ![1, 8192, 256]⟩
abbrev S1x2x256 : Shape := ⟨3, ![1, 2, 256]⟩
abbrev S_ : Shape := ⟨0, ![]⟩
abbrev S1x8194x256 : Shape := ⟨3, ![1, 8194, 256]⟩
abbrev S1x256 : Shape := ⟨2, ![1, 256]⟩
abbrev S256 : Shape := ⟨1, ![256]⟩
abbrev S1x1x256 : Shape := ⟨3, ![1, 1, 256]⟩

abbrev nBuf : Space → Nat
  | .hbm => 36
  | .vmem => 0
  | .smem => 0
  | _ => 0

abbrev bufTy : (tb : Table) → Fin (tcTables nBuf tb) → BufTy
  | .hbm, ⟨0, _⟩ => ⟨S8192x3584, .f32⟩
  | .hbm, ⟨1, _⟩ => ⟨S3x256, .f32⟩
  | .hbm, ⟨2, _⟩ => ⟨S8192x256, .f32⟩
  | .hbm, ⟨3, _⟩ => ⟨S1x8192x256, .f32⟩
  | .hbm, ⟨4, _⟩ => ⟨S8192x256, .f32⟩
  | .hbm, ⟨5, _⟩ => ⟨S1x8192x256, .f32⟩
  | .hbm, ⟨6, _⟩ => ⟨S8192x256, .f32⟩
  | .hbm, ⟨7, _⟩ => ⟨S1x8192x256, .f32⟩
  | .hbm, ⟨8, _⟩ => ⟨S1x8192x256, .f32⟩
  | .hbm, ⟨9, _⟩ => ⟨S1x2x256, .f32⟩
  | .hbm, ⟨10, _⟩ => ⟨S_, .f32⟩
  | .hbm, ⟨11, _⟩ => ⟨S1x2x256, .f32⟩
  | .hbm, ⟨12, _⟩ => ⟨S1x8194x256, .f32⟩
  | .hbm, ⟨13, _⟩ => ⟨S1x256, .f32⟩
  | .hbm, ⟨14, _⟩ => ⟨S256, .f32⟩
  | .hbm, ⟨15, _⟩ => ⟨S1x8192x256, .f32⟩
  | .hbm, ⟨16, _⟩ => ⟨S1x1x256, .f32⟩
  | .hbm, ⟨17, _⟩ => ⟨S1x8192x256, .f32⟩
  | .hbm, ⟨18, _⟩ => ⟨S1x8192x256, .f32⟩
  | .hbm, ⟨19, _⟩ => ⟨S1x256, .f32⟩
  | .hbm, ⟨20, _⟩ => ⟨S256, .f32⟩
  | .hbm, ⟨21, _⟩ => ⟨S1x8192x256, .f32⟩
  | .hbm, ⟨22, _⟩ => ⟨S1x1x256, .f32⟩
  | .hbm, ⟨23, _⟩ => ⟨S1x8192x256, .f32⟩
  | .hbm, ⟨24, _⟩ => ⟨S1x8192x256, .f32⟩
  | .hbm, ⟨25, _⟩ => ⟨S1x8192x256, .f32⟩
  | .hbm, ⟨26, _⟩ => ⟨S1x256, .f32⟩
  | .hbm, ⟨27, _⟩ => ⟨S256, .f32⟩
  | .hbm, ⟨28, _⟩ => ⟨S1x8192x256, .f32⟩
  | .hbm, ⟨29, _⟩ => ⟨S1x1x256, .f32⟩
  | .hbm, ⟨30, _⟩ => ⟨S1x8192x256, .f32⟩
  | .hbm, ⟨31, _⟩ => ⟨S1x8192x256, .f32⟩
  | .hbm, ⟨32, _⟩ => ⟨S1x8192x256, .f32⟩
  | .hbm, ⟨33, _⟩ => ⟨S1x8192x256, .f32⟩
  | .hbm, ⟨34, _⟩ => ⟨S8192x256, .f32⟩
  | .hbm, ⟨35, _⟩ => ⟨S8192x256, .bf16⟩
  | _, _ => ⟨S8192x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩

abbrev nD : Nat := 1
abbrev τ : Topo := Topo.v7x

variable {F : FTy → Type} [FloatOps F]
-- ==== NormFwd.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== LossHead.lean ====
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S8x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== AdamIn.lean ====
abbrev S2x4x512x838 : Shape := ⟨4, ![2, 4, 512, 838]⟩
abbrev S2x1024x838 : Shape := ⟨3, ![2, 1024, 838]⟩
abbrev S1x4x256x838 : Shape := ⟨4, ![1, 4, 256, 838]⟩
abbrev S1x256x838 : Shape := ⟨3, ![1, 256, 838]⟩
abbrev S1x1x256x838 : Shape := ⟨4, ![1, 1, 256, 838]⟩
abbrev S256x838 : Shape := ⟨2, ![256, 838]⟩

abbrev nBuf : Space → Nat
  | .hbm => 9
  | .vmem => 18
  | .smem => 0
  | _ => 0

abbrev bufTy : (tb : Table) → Fin (tcTables nBuf tb) → BufTy
  | .hbm, ⟨0, _⟩ => ⟨S2x4x512x838, .bf16⟩
  | .hbm, ⟨1, _⟩ => ⟨S2x4x512x838, .bf16⟩
  | .hbm, ⟨2, _⟩ => ⟨S2x1024x838, .f32⟩
  | .hbm, ⟨3, _⟩ => ⟨S2x1024x838, .f32⟩
  | .hbm, ⟨4, _⟩ => ⟨S2x1024x838, .f32⟩
  | .hbm, ⟨5, _⟩ => ⟨S2x1024x838, .f32⟩
  | .hbm, ⟨6, _⟩ => ⟨S2x1024x838, .f32⟩
  | .hbm, ⟨7, _⟩ => ⟨S2x1024x838, .f32⟩
  | .hbm, ⟨8, _⟩ => ⟨S2x1024x838, .f32⟩
  | .local _ .vmem, ⟨0, _⟩ => ⟨S1x4x256x838, .bf16⟩
  | .local _ .vmem, ⟨1, _⟩ => ⟨S1x4x256x838, .bf16⟩
  | .local _ .vmem, ⟨2, _⟩ => ⟨S1x4x256x838, .bf16⟩
  | .local _ .vmem, ⟨3, _⟩ => ⟨S1x4x256x838, .bf16⟩
  | .local _ .vmem, ⟨4, _⟩ => ⟨S1x256x838, .f32⟩
  | .local _ .vmem, ⟨5, _⟩ => ⟨S1x256x838, .f32⟩
  | .local _ .vmem, ⟨6, _⟩ => ⟨S1x256x838, .f32⟩
  | .local _ .vmem, ⟨7, _⟩ => ⟨S1x256x838, .f32⟩
  | .local _ .vmem, ⟨8, _⟩ => ⟨S1x256x838, .f32⟩
  | .local _ .vmem, ⟨9, _⟩ => ⟨S1x256x838, .f32⟩
  | .local _ .vmem, ⟨10, _⟩ => ⟨S1x256x838, .f32⟩
  | .local _ .vmem, ⟨11, _⟩ => ⟨S1x256x838, .f32⟩
  | .local _ .vmem, ⟨12, _⟩ => ⟨S1x256x838, .f32⟩
  | .local _ .vmem, ⟨13, _⟩ => ⟨S1x256x838, .f32⟩
  | .local _ .vmem, ⟨14, _⟩ => ⟨S1x256x838, .f32⟩
  | .local _ .vmem, ⟨15, _⟩ => ⟨S1x256x838, .f32⟩
  | .local _ .vmem, ⟨16, _⟩ => ⟨S1x256x838, .f32⟩
  | .local _ .vmem, ⟨17, _⟩ => ⟨S1x256x838, .f32⟩
  | _, _ => ⟨S2x4x512x838, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let v2 : BitVec 1 := Scalar.cmpi .eq arg0 c0_i32_0
  let c1_i32_1 : BitVec 32 := 1#32
  let v3 : BitVec 32 := Scalar.select v2 arg2 c1_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4x256x838 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x256x838 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x838 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x838 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x838 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x838 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x838 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x838 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x838 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamInRefIdeal.lean ====
abbrev S2x4x512x838 : Shape := ⟨4, ![2, 4, 512, 838]⟩
abbrev S2x1024x838 : Shape := ⟨3, ![2, 1024, 838]⟩
abbrev S_ : Shape := ⟨0, ![]⟩
abbrev S2x512x838 : Shape := ⟨3, ![2, 512, 838]⟩
abbrev S1024x838 : Shape := ⟨2, ![1024, 838]⟩
abbrev S1x1024x838 : Shape := ⟨3, ![1, 1024, 838]⟩

abbrev nBuf : Space → Nat
  | .hbm => 49
  | .vmem => 0
  | .smem => 0
  | _ => 0

abbrev bufTy : (tb : Table) → Fin (tcTables nBuf tb) → BufTy
  | .hbm, ⟨0, _⟩ => ⟨S2x4x512x838, .bf16⟩
  | .hbm, ⟨1, _⟩ => ⟨S2x4x512x838, .bf16⟩
  | .hbm, ⟨2, _⟩ => ⟨S2x1024x838, .f32⟩
  | .hbm, ⟨3, _⟩ => ⟨S2x1024x838, .f32⟩
  | .hbm, ⟨4, _⟩ => ⟨S2x1024x838, .f32⟩
  | .hbm, ⟨5, _⟩ => ⟨S2x4x512x838, .f32⟩
  | .hbm, ⟨6, _⟩ => ⟨S_, .f32⟩
  | .hbm, ⟨7, _⟩ => ⟨S2x512x838, .f32⟩
  | .hbm, ⟨8, _⟩ => ⟨S1024x838, .f32⟩
  | .hbm, ⟨9, _⟩ => ⟨S2x4x512x838, .f32⟩
  | .hbm, ⟨10, _⟩ => ⟨S_, .f32⟩
  | .hbm, ⟨11, _⟩ => ⟨S2x512x838, .f32⟩
  | .hbm, ⟨12, _⟩ => ⟨S1024x838, .f32⟩
  | .hbm, ⟨13, _⟩ => ⟨S1x1024x838, .f32⟩
  | .hbm, ⟨14, _⟩ => ⟨S1x1024x838, .f32⟩
  | .hbm, ⟨15, _⟩ => ⟨S2x1024x838, .f32⟩
  | .hbm, ⟨16, _⟩ => ⟨S_, .f32⟩
  | .hbm, ⟨17, _⟩ => ⟨S2x1024x838, .f32⟩
  | .hbm, ⟨18, _⟩ => ⟨S2x1024x838, .f32⟩
  | .hbm, ⟨19, _⟩ => ⟨S_, .f32⟩
  | .hbm, ⟨20, _⟩ => ⟨S2x1024x838, .f32⟩
  | .hbm, ⟨21, _⟩ => ⟨S2x1024x838, .f32⟩
  | .hbm, ⟨22, _⟩ => ⟨S2x1024x838, .f32⟩
  | .hbm, ⟨23, _⟩ => ⟨S_, .f32⟩
  | .hbm, ⟨24, _⟩ => ⟨S2x1024x838, .f32⟩
  | .hbm, ⟨25, _⟩ => ⟨S2x1024x838, .f32⟩
  | .hbm, ⟨26, _⟩ => ⟨S2x1024x838, .f32⟩
  | .hbm, ⟨27, _⟩ => ⟨S_, .f32⟩
  | .hbm, ⟨28, _⟩ => ⟨S2x1024x838, .f32⟩
  | .hbm, ⟨29, _⟩ => ⟨S2x1024x838, .f32⟩
  | .hbm, ⟨30, _⟩ => ⟨S2x1024x838, .f32⟩
  | .hbm, ⟨31, _⟩ => ⟨S_, .f32⟩
  | .hbm, ⟨32, _⟩ => ⟨S2x1024x838, .f32⟩
  | .hbm, ⟨33, _⟩ => ⟨S2x1024x838, .f32⟩
  | .hbm, ⟨34, _⟩ => ⟨S_, .f32⟩
  | .hbm, ⟨35, _⟩ => ⟨S2x1024x838, .f32⟩
  | .hbm, ⟨36, _⟩ => ⟨S2x1024x838, .f32⟩
  | .hbm, ⟨37, _⟩ => ⟨S2x1024x838, .f32⟩
  | .hbm, ⟨38, _⟩ => ⟨S_, .f32⟩
  | .hbm, ⟨39, _⟩ => ⟨S2x1024x838, .f32⟩
  | .hbm, ⟨40, _⟩ => ⟨S2x1024x838, .f32⟩
  | .hbm, ⟨41, _⟩ => ⟨S2x1024x838, .f32⟩
  | .hbm, ⟨42, _⟩ => ⟨S_, .f32⟩
  | .hbm, ⟨43, _⟩ => ⟨S2x1024x838, .f32⟩
  | .hbm, ⟨44, _⟩ => ⟨S2x1024x838, .f32⟩
  | .hbm, ⟨45, _⟩ => ⟨S2x1024x838, .f32⟩
  | .hbm, ⟨46, _⟩ => ⟨S_, .f32⟩
  | .hbm, ⟨47, _⟩ => ⟨S2x1024x838, .f32⟩
  | .hbm, ⟨48, _⟩ => ⟨S2x1024x838, .f32⟩
  | _, _ => ⟨S2x4x512x838, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamOut.lean ====
abbrev S2x4x128x1024 : Shape := ⟨4, ![2, 4, 128, 1024]⟩
abbrev S2x256x1024 : Shape := ⟨3, ![2, 256, 1024]⟩
abbrev S1x4x128x1024 : Shape := ⟨4, ![1, 4, 128, 1024]⟩
abbrev S1x128x1024 : Shape := ⟨3, ![1, 128, 1024]⟩
abbrev S1x1x128x1024 : Shape := ⟨4, ![1, 1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x4x128x1024, .bf16⟩
  | .hbm, ⟨1, _⟩ => ⟨S2x4x128x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x4x128x1024, .bf16⟩
  | .local _ .vmem, ⟨1, _⟩ => ⟨S1x4x128x1024, .bf16⟩
  | .local _ .vmem, ⟨2, _⟩ => ⟨S1x4x128x1024, .bf16⟩
  | .local _ .vmem, ⟨3, _⟩ => ⟨S1x4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S2x4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let v2 : BitVec 1 := Scalar.cmpi .eq arg0 c0_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamOutRefIdeal.lean ====
abbrev S2x4x128x1024 : Shape := ⟨4, ![2, 4, 128, 1024]⟩
abbrev S2x256x1024 : Shape := ⟨3, ![2, 256, 1024]⟩
abbrev S_ : Shape := ⟨0, ![]⟩
abbrev S2x128x1024 : Shape := ⟨3, ![2, 128, 1024]⟩
abbrev S256x1024 : Shape := ⟨2, ![256, 1024]⟩
abbrev S1x256x1024 : Shape := ⟨3, ![1, 256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x4x128x1024, .bf16⟩
  | .hbm, ⟨1, _⟩ => ⟨S2x4x128x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x4x128x1024, .f32⟩
  | .hbm, ⟨6, _⟩ => ⟨S_, .f32⟩
  | .hbm, ⟨7, _⟩ => ⟨S2x128x1024, .f32⟩
  | .hbm, ⟨8, _⟩ => ⟨S256x1024, .f32⟩
  | .hbm, ⟨9, _⟩ => ⟨S2x4x128x1024, .f32⟩
  | .hbm, ⟨10, _⟩ => ⟨S_, .f32⟩
  | .hbm, ⟨11, _⟩ => ⟨S2x128x1024, .f32⟩
  | .hbm, ⟨12, _⟩ => ⟨S256x1024, .f32⟩
  | .hbm, ⟨13, _⟩ => ⟨S1x256x1024, .f32⟩
  | .hbm, ⟨14, _⟩ => ⟨S1x256x1024, .f32⟩
  | .hbm, ⟨15, _⟩ => ⟨S2x256x1024, .f32⟩
  | .hbm, ⟨16, _⟩ => ⟨S_, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S2x256x1024, .f32⟩
  | .hbm, ⟨27, _⟩ => ⟨S_, .f32⟩
  | .hbm, ⟨28, _⟩ => ⟨S2x256x1024, .f32⟩
  | .hbm, ⟨29, _⟩ => ⟨S2x256x1024, .f32⟩
  | .hbm, ⟨30, _⟩ => ⟨S2x256x1024, .f32⟩
  | .hbm, ⟨31, _⟩ => ⟨S_, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | .hbm, ⟨41, _⟩ => ⟨S2x256x1024, .f32⟩
  | .hbm, ⟨42, _⟩ => ⟨S_, .f32⟩
  | .hbm, ⟨43, _⟩ => ⟨S2x256x1024, .f32⟩
  | .hbm, ⟨44, _⟩ => ⟨S2x256x1024, .f32⟩
  | .hbm, ⟨45, _⟩ => ⟨S2x256x1024, .f32⟩
  | .hbm, ⟨46, _⟩ => ⟨S_, .f32⟩
  | .hbm, ⟨47, _⟩ => ⟨S2x256x1024, .f32⟩
  | .hbm, ⟨48, _⟩ => ⟨S2x256x1024, .f32⟩
  | _, _ => ⟨S2x4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamUp.lean ====
abbrev S2x4x512x1408 : Shape := ⟨4, ![2, 4, 512, 1408]⟩
abbrev S2x1024x1408 : Shape := ⟨3, ![2, 1024, 1408]⟩
abbrev S1x4x256x1408 : Shape := ⟨4, ![1, 4, 256, 1408]⟩
abbrev S1x256x1408 : Shape := ⟨3, ![1, 256, 1408]⟩
abbrev S1x1x256x1408 : Shape := ⟨4, ![1, 1, 256, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2x4x512x1408, .bf16⟩
  | .hbm, ⟨1, _⟩ => ⟨S2x4x512x1408, .bf16⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .local _ .vmem, ⟨0, _⟩ => ⟨S1x4x256x1408, .bf16⟩
  | .local _ .vmem, ⟨1, _⟩ => ⟨S1x4x256x1408, .bf16⟩
  | .local _ .vmem, ⟨2, _⟩ => ⟨S1x4x256x1408, .bf16⟩
  | .local _ .vmem, ⟨3, _⟩ => ⟨S1x4x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | _, _ => ⟨S2x4x512x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let v2 : BitVec 1 := Scalar.cmpi .eq arg0 c0_i32_0
  let c1_i32_1 : BitVec 32 := 1#32
  let v3 : BitVec 32 := Scalar.select v2 arg2 c1_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamUpRefIdeal.lean ====
abbrev S2x4x512x1408 : Shape := ⟨4, ![2, 4, 512, 1408]⟩
abbrev S2x1024x1408 : Shape := ⟨3, ![2, 1024, 1408]⟩
abbrev S_ : Shape := ⟨0, ![]⟩
abbrev S2x512x1408 : Shape := ⟨3, ![2, 512, 1408]⟩
abbrev S1024x1408 : Shape := ⟨2, ![1024, 1408]⟩
abbrev S1x1024x1408 : Shape := ⟨3, ![1, 1024, 1408]⟩

abbrev nBuf : Space → Nat
  | .hbm => 49
  | .vmem => 0
  | .smem => 0
  | _ => 0

abbrev bufTy : (tb : Table) → Fin (tcTables nBuf tb) → BufTy
  | .hbm, ⟨0, _⟩ => ⟨S2x4x512x1408, .bf16⟩
  | .hbm, ⟨1, _⟩ => ⟨S2x4x512x1408, .bf16⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x4x512x1408, .f32⟩
  | .hbm, ⟨6, _⟩ => ⟨S_, .f32⟩
  | .hbm, ⟨7, _⟩ => ⟨S2x512x1408, .f32⟩
  | .hbm, ⟨8, _⟩ => ⟨S1024x1408, .f32⟩
  | .hbm, ⟨9, _⟩ => ⟨S2x4x512x1408, .f32⟩
  | .hbm, ⟨10, _⟩ => ⟨S_, .f32⟩
  | .hbm, ⟨11, _⟩ => ⟨S2x512x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S2x1024x1408, .f32⟩
  | .hbm, ⟨16, _⟩ => ⟨S_, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S2x1024x1408, .f32⟩
  | .hbm, ⟨23, _⟩ => ⟨S_, .f32⟩
  | .hbm, ⟨24, _⟩ => ⟨S2x1024x1408, .f32⟩
  | .hbm, ⟨25, _⟩ => ⟨S2x1024x1408, .f32⟩
  | .hbm, ⟨26, _⟩ => ⟨S2x1024x1408, .f32⟩
  | .hbm, ⟨27, _⟩ => ⟨S_, .f32⟩
  | .hbm, ⟨28, _⟩ => ⟨S2x1024x1408, .f32⟩
  | .hbm, ⟨29, _⟩ => ⟨S2x1024x1408, .f32⟩
  | .hbm, ⟨30, _⟩ => ⟨S2x1024x1408, .f32⟩
  | .hbm, ⟨31, _⟩ => ⟨S_, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | .hbm, ⟨37, _⟩ => ⟨S2x1024x1408, .f32⟩
  | .hbm, ⟨38, _⟩ => ⟨S_, .f32⟩
  | .hbm, ⟨39, _⟩ => ⟨S2x1024x1408, .f32⟩
  | .hbm, ⟨40, _⟩ => ⟨S2x1024x1408, .f32⟩
  | .hbm, ⟨41, _⟩ => ⟨S2x1024x1408, .f32⟩
  | .hbm, ⟨42, _⟩ => ⟨S_, .f32⟩
  | .hbm, ⟨43, _⟩ => ⟨S2x1024x1408, .f32⟩
  | .hbm, ⟨44, _⟩ => ⟨S2x1024x1408, .f32⟩
  | .hbm, ⟨45, _⟩ => ⟨S2x1024x1408, .f32⟩
  | .hbm, ⟨46, _⟩ => ⟨S_, .f32⟩
  | .hbm, ⟨47, _⟩ => ⟨S2x1024x1408, .f32⟩
  | .hbm, ⟨48, _⟩ => ⟨S2x1024x1408, .f32⟩
  | _, _ => ⟨S2x4x512x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== AdamDown.lean ====
abbrev S2x4x352x1024 : Shape := ⟨4, ![2, 4, 352, 1024]⟩
abbrev S2x704x1024 : Shape := ⟨3, ![2, 704, 1024]⟩
abbrev S1x4x176x1024 : Shape := ⟨4, ![1, 4, 176, 1024]⟩
abbrev S1x176x1024 : Shape := ⟨3, ![1, 176, 1024]⟩
abbrev S1x1x176x1024 : Shape := ⟨4, ![1, 1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x4x352x1024, .bf16⟩
  | .hbm, ⟨1, _⟩ => ⟨S2x4x352x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S1x4x176x1024, .bf16⟩
  | .local _ .vmem, ⟨1, _⟩ => ⟨S1x4x176x1024, .bf16⟩
  | .local _ .vmem, ⟨2, _⟩ => ⟨S1x4x176x1024, .bf16⟩
  | .local _ .vmem, ⟨3, _⟩ => ⟨S1x4x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S2x4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 2, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg0 c0_i32
  let c1_i32 : BitVec 32 := 1#32
  let v1 : BitVec 32 := Scalar.select v0 arg1 c1_i32
  let c0_i32_0 : BitVec 32 := 0#32
  let v2 : BitVec 1 := Scalar.cmpi .eq arg0 c0_i32_0
  let c1_i32_1 : BitVec 32 := 1#32
  let v3 : BitVec 32 := Scalar.select v2 arg2 c1_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg0 c1_i32
  let c0_i32 : BitVec 32 := 0#32
  let v1 : BitVec 32 := Scalar.select v0 arg1 c0_i32
  let c1_i32_0 : BitVec 32 := 1#32
  let v2 : BitVec 1 := Scalar.cmpi .eq arg0 c1_i32_0
  let c0_i32_1 : BitVec 32 := 0#32
  let v3 : BitVec 32 := Scalar.select v2 arg2 c0_i32_1
  let c0_i32_2 : BitVec 32 := 0#32
  let c0_i32_3 : BitVec 32 := 0#32
  let c0_i32_4 : BitVec 32 := 0#32
  ![v1.toNat, c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg1 c2_i32
  let v1 : BitVec 32 := Scalar.addi v0 arg2
  let c0_i32 : BitVec 32 := 0#32
  let c0_i32_0 : BitVec 32 := 0#32
  ![arg0.toNat, v1.toNat, c0_i32.toNat]

abbrev stage0_0 : Fin 2 → Memref sig .tc .vmem S1x4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AdamDownRefIdeal.lean ====
abbrev S2x4x352x1024 : Shape := ⟨4, ![2, 4, 352, 1024]⟩
abbrev S2x704x1024 : Shape := ⟨3, ![2, 704, 1024]⟩
abbrev S_ : Shape := ⟨0, ![]⟩
abbrev S2x352x1024 : Shape := ⟨3, ![2, 352, 1024]⟩
abbrev S704x1024 : Shape := ⟨2, ![704, 1024]⟩
abbrev S1x704x1024 : Shape := ⟨3, ![1, 704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x4x352x1024, .bf16⟩
  | .hbm, ⟨1, _⟩ => ⟨S2x4x352x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x4x352x1024, .f32⟩
  | .hbm, ⟨6, _⟩ => ⟨S_, .f32⟩
  | .hbm, ⟨7, _⟩ => ⟨S2x352x1024, .f32⟩
  | .hbm, ⟨8, _⟩ => ⟨S704x1024, .f32⟩
  | .hbm, ⟨9, _⟩ => ⟨S2x4x352x1024, .f32⟩
  | .hbm, ⟨10, _⟩ => ⟨S_, .f32⟩
  | .hbm, ⟨11, _⟩ => ⟨S2x352x1024, .f32⟩
  | .hbm, ⟨12, _⟩ => ⟨S704x1024, .f32⟩
  | .hbm, ⟨13, _⟩ => ⟨S1x704x1024, .f32⟩
  | .hbm, ⟨14, _⟩ => ⟨S1x704x1024, .f32⟩
  | .hbm, ⟨15, _⟩ => ⟨S2x704x1024, .f32⟩
  | .hbm, ⟨16, _⟩ => ⟨S_, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S2x704x1024, .f32⟩
  | .hbm, ⟨31, _⟩ => ⟨S_, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | .hbm, ⟨45, _⟩ => ⟨S2x704x1024, .f32⟩
  | .hbm, ⟨46, _⟩ => ⟨S_, .f32⟩
  | .hbm, ⟨47, _⟩ => ⟨S2x704x1024, .f32⟩
  | .hbm, ⟨48, _⟩ => ⟨S2x704x1024, .f32⟩
  | _, _ => ⟨S2x4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== SumSmall.lean ====
abbrev S2x4x1264x128 : Shape := ⟨4, ![2, 4, 1264, 128]⟩
abbrev S1264x128 : Shape := ⟨2, ![1264, 128]⟩
abbrev S1x1x1264x128 : Shape := ⟨4, ![1, 1, 1264, 128]⟩

abbrev nBuf : Space → Nat
  | .hbm => 2
  | .vmem => 2
  | .smem => 0
  | _ => 0

abbrev bufTy : (tb : Table) → Fin (tcTables nBuf tb) → BufTy
  | .hbm, ⟨0, _⟩ => ⟨S2x4x1264x128, .f32⟩
  | .hbm, ⟨1, _⟩ => ⟨S1264x128, .f32⟩
  | .local _ .vmem, ⟨0, _⟩ => ⟨S2x4x1264x128, .f32⟩
  | .local _ .vmem, ⟨1, _⟩ => ⟨S1264x128, .f32⟩
  | _, _ => ⟨S2x4x1264x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x4x1264x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1264x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S2x4x1264x128 : Shape := ⟨4, ![2, 4, 1264, 128]⟩
abbrev S_ : Shape := ⟨0, ![]⟩
abbrev S1264x128 : Shape := ⟨2, ![1264, 128]⟩

abbrev nBuf : Space → Nat
  | .hbm => 3
  | .vmem => 0
  | .smem => 0
  | _ => 0

abbrev bufTy : (tb : Table) → Fin (tcTables nBuf tb) → BufTy
  | .hbm, ⟨0, _⟩ => ⟨S2x4x1264x128, .f32⟩
  | .hbm, ⟨1, _⟩ => ⟨S_, .f32⟩
  | .hbm, ⟨2, _⟩ => ⟨S1264x128, .f32⟩
  | _, _ => ⟨S2x4x1264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.SguSpec.lean ====
/- The spatial gating unit's backward pass over the extended reals, one row and one chunk at a time: what both programs
   are read to.  A chunk has 128 rows of 256 lanes; the lanes fall into four heads of 64. -/
module

public import Idealize.ShloMosaic.Lib.Pointwise

@[expose] public section

noncomputable section

namespace Cert.Sgu

open Idealize.ShloMosaic
open scoped BigOperators

/-- A row of 256 lanes. -/
abbrev Row := Fin 256 → EReal
/-- A chunk of 128 rows. -/
abbrev Chunk := Fin 128 → Row

/-- √(2/π), as the program spells it. -/
def cA : EReal := Ideal.ofBits .f32 0x3F4C422A#32
/-- The cubic coefficient 0.044715, as the program spells it. -/
def cB : EReal := Ideal.ofBits .f32 0x3D372713#32
/-- One half. -/
def cH : EReal := Ideal.ofBits .f32 0x3F000000#32
/-- Minus one half. -/
def cN : EReal := Ideal.ofBits .f32 0xBF000000#32
/-- Two. -/
def c2 : EReal := Ideal.ofBits .f32 0x40000000#32
/-- Three. -/
def c3 : EReal := Ideal.ofBits .f32 0x40400000#32
/-- The number of lanes of a row. -/
def cL : EReal := Ideal.ofBits .f32 0x43800000#32
/-- The normalization's ε. -/
def cE : EReal := Ideal.ofBits .f32 0x358637BD#32

/-- The hyperbolic tangent inside the gelu of `x`. -/
def th (x : EReal) : EReal := Ideal.tanh (cA * (x + cB * (x * (x * x))))
/-- The gelu's weight: half of one plus that tangent. -/
def hf (x : EReal) : EReal := cH * (1 + th x)
/-- The gelu. -/
def gel (x : EReal) : EReal := x * hf x
/-- The gelu's cotangent `d` at `x`, of the path through the tangent. -/
def gth (x d : EReal) : EReal := cA * (cH * (x * d) * ((1 + th x) * (1 - th x)))
/-- The gelu's derivative at `x` applied to the cotangent `d`. -/
def dgel (x d : EReal) : EReal := (d * hf x + gth x d) + cB * gth x d * (c3 * (x * x))

/-- The mean of the gelus of a row. -/
def mean (p : Row) : EReal := Ideal.div (∑ j, gel (p j)) cL
/-- A row's gelus with their mean taken off. -/
def ctr (p : Row) (j : Fin 256) : EReal := gel (p j) - mean p
/-- Their variance plus ε. -/
def var (p : Row) : EReal := Ideal.div (∑ j, ctr p j * ctr p j) cL + cE
/-- The reciprocal standard deviation. -/
def rs (p : Row) : EReal := Ideal.rsqrt (var p)
/-- The normalized row. -/
def xh (p : Row) (j : Fin 256) : EReal := ctr p j * rs p
/-- The normalized row scaled and shifted. -/
def vn (w b p : Row) (j : Fin 256) : EReal := xh p j * w j + b j

/-- The cotangent of the centred row through the scaling alone. -/
def da (w p d : Row) (j : Fin 256) : EReal := d j * w j * rs p
/-- The cotangent of the variance, over the number of lanes. -/
def dq (w p d : Row) : EReal :=
  Ideal.div ((∑ j, ctr p j * (d j * w j)) * (cN * Ideal.div (rs p) (var p))) cL
/-- The cotangent of the centred row through the variance. -/
def db (w p d : Row) (j : Fin 256) : EReal := dq w p d * (c2 * ctr p j)
/-- The cotangent of the mean, over the number of lanes. -/
def dz (w p d : Row) : EReal := Ideal.div ((∑ j, -da w p d j) + ∑ j, -db w p d j) cL
/-- The cotangent of a row before its gelu, for the cotangent `d` of the row `vn`. -/
def dpv (w p d : Row) (j : Fin 256) : EReal := dgel (p j) (da w p d j + db w p d j + dz w p d)

/-- The head a lane belongs to. -/
def hd (j : Fin 256) : Fin 4 := ⟨j.val / 64, by omega⟩
/-- The lanes of a head. -/
def lane (h : Fin 4) (d : Fin 64) : Fin 256 := ⟨64 * h.val + d.val, by omega⟩

/-- The mixing matrices' lower triangle. -/
def tri (W : Fin 4 → Fin 128 → Fin 128 → EReal) (h : Fin 4) (t s : Fin 128) : EReal := if s ≤ t then W h t s else 0

/-- A chunk mixed along its rows, each head by its matrix, and shifted. -/
def mix (W : Fin 4 → Fin 128 → Fin 128 → EReal) (bs : Fin 4 → Fin 128 → EReal) (v : Chunk) : Chunk :=
  fun t j => bs (hd j) t + ∑ s, tri W (hd j) t s * v s j
/-- The cotangent of the chunk that was mixed. -/
def dmix (W : Fin 4 → Fin 128 → Fin 128 → EReal) (g : Chunk) : Chunk :=
  fun s j => ∑ t, tri W (hd j) t s * g t j
/-- The cotangent of the mixed chunk. -/
def gate (u y : Chunk) : Chunk := fun t j => gel (u t j) * y t j
/-- One chunk's part of a mixing matrix's cotangent, before the triangle is taken. -/
def dws (g v : Chunk) (h : Fin 4) (t s : Fin 128) : EReal := ∑ d, g t (lane h d) * v s (lane h d)
/-- One chunk's part of the shift's cotangent. -/
def dbs (g : Chunk) (h : Fin 4) (t : Fin 128) : EReal := ∑ d, g t (lane h d)

/-! ### Sums over a row read head by head -/

/-- A lane is a head and a lane of it. -/
def laneEquiv : Fin 4 × Fin 64 ≃ Fin 256 where
  toFun x := lane x.1 x.2
  invFun j := (hd j, ⟨j.val % 64, Nat.mod_lt _ (by decide)⟩)
  left_inv x := by
    rcases x with ⟨h, d⟩
    have h1 := h.isLt; have h2 := d.isLt
    refine Prod.ext (Fin.ext ?_) (Fin.ext ?_) <;> simp only [hd, lane] <;> omega
  right_inv j := Fin.ext (by simp only [hd, lane]; omega)

theorem hd_lane (h : Fin 4) (d : Fin 64) : hd (lane h d) = h := Fin.ext (by simp only [hd, lane]; omega)

/-- A sum over a row of terms that vanish outside one head is the sum over that head. -/
theorem sum_head (h : Fin 4) (f : Fin 256 → EReal) :
    ∑ j, (if hd j = h then f j else 0) = ∑ d, f (lane h d) := by
  rw [← Equiv.sum_comp laneEquiv, Fintype.sum_prod_type, Finset.sum_eq_single h]
  · exact Finset.sum_congr rfl fun d _ => by simp only [laneEquiv, Equiv.coe_fn_mk, hd_lane, if_true]
  · intro b _ hb
    exact Finset.sum_eq_zero fun d _ => by simp only [laneEquiv, Equiv.coe_fn_mk, hd_lane, if_neg hb]
  · intro hh; exact absurd (Finset.mem_univ _) hh

/-! ### Finiteness -/

/-- A finite extended real: neither end. -/
def Fin' (x : EReal) : Prop := x ≠ ⊥ ∧ x ≠ ⊤

theorem fin_coe {x : EReal} (h : Fin' x) : ∃ r : ℝ, x = (r : EReal) := ⟨x.toReal, (EReal.coe_toReal h.2 h.1).symm⟩

theorem sub_self_fin {x : EReal} (h : Fin' x) : x - x = 0 := by
  obtain ⟨r, rfl⟩ := fin_coe h
  rw [← EReal.coe_sub, sub_self, EReal.coe_zero]

theorem fin_mul {x y : EReal} (hx : Fin' x) (hy : Fin' y) : Fin' (x * y) := by
  obtain ⟨r, rfl⟩ := fin_coe hx
  obtain ⟨s, rfl⟩ := fin_coe hy
  rw [← EReal.coe_mul]
  exact ⟨EReal.coe_ne_bot _, EReal.coe_ne_top _⟩

end Cert.Sgu

end
-- ==== Proof.SguWhole.lean ====
/- The spatial gating unit's gradients over the whole arrays: sixty-four chunks of 128 rows, what both programs return. -/
module

public import proofs.«01_k».proof.Proof.SguSpec

@[expose] public section

noncomputable section

namespace Cert.Sgu

open Idealize.ShloMosaic
open scoped BigOperators

/-- Row `t` of chunk `C`. -/
def row (C : Fin 64) (t : Fin 128) : Fin 8192 := ⟨128 * C.val + t.val, by omega⟩
/-- The chunk of a row. -/
def chk (r : Fin 8192) : Fin 64 := ⟨r.val / 128, by omega⟩
/-- A row's place in its chunk. -/
def pos (r : Fin 8192) : Fin 128 := ⟨r.val % 128, Nat.mod_lt _ (by decide)⟩
theorem row_chk (r : Fin 8192) : row (chk r) (pos r) = r := Fin.ext (by simp only [row, chk, pos]; omega)

/-- A row is a chunk and a place in it. -/
def rowEquiv : Fin 64 × Fin 128 ≃ Fin 8192 where
  toFun x := row x.1 x.2
  invFun r := (chk r, pos r)
  left_inv x := by
    rcases x with ⟨c, t⟩
    have h1 := c.isLt; have h2 := t.isLt
    refine Prod.ext (Fin.ext ?_) (Fin.ext ?_) <;> simp only [row, chk, pos] <;> omega
  right_inv r := row_chk r

/-- Chunk `c` of the four of point `k`. -/
def ch (k : Fin 16) (c : Fin 4) : Fin 64 := ⟨4 * k.val + c.val, by omega⟩
/-- A chunk is a point and one of its four. -/
def chEquiv : Fin 16 × Fin 4 ≃ Fin 64 where
  toFun x := ch x.1 x.2
  invFun C := (⟨C.val / 4, by omega⟩, ⟨C.val % 4, Nat.mod_lt _ (by decide)⟩)
  left_inv x := by
    rcases x with ⟨c, t⟩
    have h1 := c.isLt; have h2 := t.isLt
    refine Prod.ext (Fin.ext ?_) (Fin.ext ?_) <;> simp only [ch] <;> omega
  right_inv r := Fin.ext (by simp only [ch]; omega)
/-- A sum over the chunks, point by point. -/
theorem sum_ch (f : Fin 64 → EReal) : ∑ C, f C = ∑ k, ∑ c, f (ch k c) := by
  rw [← Equiv.sum_comp chEquiv, Fintype.sum_prod_type]
  rfl

/-- What the gradient is taken of and at: the gate's and the value's rows, the cotangent's rows, the normalization's
    scale and shift, the mixing matrices and shifts. -/
structure Args where
  /-- The gate before its gelu. -/
  pu : Fin 8192 → Row
  /-- The value before its gelu. -/
  pv : Fin 8192 → Row
  /-- The cotangent. -/
  dy : Fin 8192 → Row
  /-- The normalization's scale. -/
  w : Row
  /-- The normalization's shift. -/
  b : Row
  /-- The mixing matrices. -/
  W : Fin 4 → Fin 128 → Fin 128 → EReal
  /-- The mixing shifts. -/
  S : Fin 4 → Fin 128 → EReal

namespace Args

variable (A : Args)

/-- A chunk's normalized value. -/
def V (C : Fin 64) : Chunk := fun s => vn A.w A.b (A.pv (row C s))
/-- A chunk's gate. -/
def U (C : Fin 64) : Chunk := fun s => A.pu (row C s)
/-- A chunk's cotangent. -/
def Y (C : Fin 64) : Chunk := fun s => A.dy (row C s)
/-- The cotangent of a chunk's mixed value. -/
def G (C : Fin 64) : Chunk := gate (A.U C) (A.Y C)

/-- The gate's gradient. -/
def gu (C : Fin 64) (t : Fin 128) (j : Fin 256) : EReal :=
  dgel (A.U C t j) (A.Y C t j * mix A.W A.S (A.V C) t j)
/-- The value's gradient. -/
def gv (C : Fin 64) (t : Fin 128) (j : Fin 256) : EReal := dpv A.w (A.pv (row C t)) (dmix A.W (A.G C) t) j
/-- The scale's gradient. -/
def glw (j : Fin 256) : EReal := ∑ C, ∑ t, xh (A.pv (row C t)) j * dmix A.W (A.G C) t j
/-- The shift's gradient. -/
def glb (j : Fin 256) : EReal := ∑ C, ∑ t, dmix A.W (A.G C) t j
/-- The mixing matrices' gradients: their lower triangles'. -/
def gW (h : Fin 4) (t s : Fin 128) : EReal := if s ≤ t then ∑ C, dws (A.G C) (A.V C) h t s else 0
/-- The mixing shifts' gradients. -/
def gS (h : Fin 4) (t : Fin 128) : EReal := ∑ C, dbs (A.G C) h t
/-- The same, a lane a head, zero beyond the heads. -/
def gS' (t x : Fin 128) : EReal := if h : x.val < 4 then A.gS ⟨x.val, h⟩ t else 0

end Args

end Cert.Sgu

end
-- ==== Proof.SguBlock.lean ====
/- What one grid point's body computes from its blocks, its named values one after another, each read at an index to the
   functions of `SguSpec`. -/
module

public import proofs.«01_k».proof.Proof.SguSpec
public import proofs.«01_k».proof.Proof.Gen.KernelIdeal.Skeleton
public import Idealize.ShloMosaic.Lib.WordCmp

@[expose] public section

noncomputable section

namespace Cert.Sgu

open Cert.KernelIdeal Cert.KernelIdeal.Gen Idealize.ShloMosaic Idealize.ShloMosaic.WordCmp
open scoped BigOperators

/-! ### The masks -/

/-- A true comparison as a float. -/
theorem bit1 : FloatOps.sitofp (F := Ideal) .f32 (BitVec.setWidth 32 1#1) = 1 := by
  show (((BitVec.setWidth 32 1#1).toInt : ℝ) : EReal) = 1
  norm_num
/-- A false comparison as a float. -/
theorem bit0 : FloatOps.sitofp (F := Ideal) .f32 (BitVec.setWidth 32 0#1) = 0 := by
  show (((BitVec.setWidth 32 0#1).toInt : ℝ) : EReal) = 0
  norm_num

/-- A lane's word shifted right by six is its head. -/
theorem shr_lane : ∀ j : Fin 256, IntOp.shrsi ArithUnit.vector (BitVec.ofNat 32 j.val) 6#32 = BitVec.ofNat 32 (j.val / 64) := by
  decide +kernel

/-- The comparison of a lane's head with a number, as a float. -/
theorem head_bit (j : Fin 256) (k : ℕ) (hk : k < 128) :
    FloatOps.sitofp (F := Ideal) .f32 (BitVec.setWidth 32 (IntOp.cmpi .eq (IntOp.shrsi ArithUnit.vector (BitVec.ofNat 32 j.val) 6#32) (BitVec.ofNat 32 k)))
      = if j.val / 64 = k then 1 else 0 := by
  rw [shr_lane, cmpi_eq_eq]
  have e : (BitVec.ofNat 32 (j.val / 64) = BitVec.ofNat 32 k) ↔ j.val / 64 = k :=
    ofNat_eq_ofNat_iff (lt_of_lt_of_le (Nat.lt_of_le_of_lt (Nat.div_le_self _ _) j.isLt) (by decide)) (lt_of_lt_of_le hk (by decide))
  by_cases h : j.val / 64 = k
  · rw [decide_eq_true (e.2 h), if_pos h]; exact bit1
  · rw [decide_eq_false (fun h' => h (e.1 h')), if_neg h]; exact bit0

/-- The same against a head's own number. -/
theorem head_bit' (j : Fin 256) (h : Fin 4) (b : BitVec 32) (hb : b = BitVec.ofNat 32 h.val) :
    FloatOps.sitofp (F := Ideal) .f32 (BitVec.setWidth 32 (IntOp.cmpi .eq (IntOp.shrsi ArithUnit.vector (BitVec.ofNat 32 j.val) 6#32) b))
      = if hd j = h then 1 else 0 := by
  subst hb
  rw [head_bit j h.val (by omega)]
  exact if_congr (Fin.ext_iff (a := hd j) (b := h)).symm rfl rfl

variable [Cert.KernelIdeal.Facts]

/-- The indicator matrix of rows (numbered heads) against lanes. -/
theorem pay30_apply (x : Fin 128) (j : Fin 256) : k0_pay30 (F := Ideal) (ix2 x j) = if j.val / 64 = x.val then 1 else 0 := by
  pointwise [k0_pay30]
  have e : IntOp.subi (BitVec.ofNat 32 x.val) 0#32 = BitVec.ofNat 32 x.val := by
    show BitVec.ofNat 32 x.val - 0#32 = _
    simp
  have c : ∀ a b : BitVec 32, IntOp.cmpi .eq a b = IntOp.cmpi .eq b a := fun a b => by
    rw [cmpi_eq_eq, cmpi_eq_eq]; congr 1; simp only [eq_comm]
  rw [e, c]
  exact head_bit j x.val x.isLt

/-- The lower triangle's comparison. -/
theorem pay29_apply (t s : Fin 128) : k0_pay29 (ix2 t s) = if s ≤ t then 1#1 else 0#1 := by
  pointwise [k0_pay29]
  rw [cmpi_sge_ofNat (lt_of_lt_of_le t.isLt (by decide)) (lt_of_lt_of_le s.isLt (by decide))]
  by_cases h : s ≤ t
  · rw [if_pos h, decide_eq_true (show s.val ≤ t.val from h)]; rfl
  · rw [if_neg h, decide_eq_false (show ¬ s.val ≤ t.val from h)]; rfl

theorem m39 (j : Fin 256) : k0_pay39 (F := Ideal) k0_pay37 k0_pay38 (ix2 0 j) = if hd j = 0 then 1 else 0 := by
  pointwise [k0_pay39, k0_pay37, k0_pay38]; exact head_bit' j 0 _ rfl
theorem m40 (j : Fin 256) : k0_pay40 (F := Ideal) (ix2 0 j) = if hd j = 1 then 1 else 0 := by
  pointwise [k0_pay40]; exact head_bit' j 1 _ rfl
theorem m41 (j : Fin 256) : k0_pay41 (F := Ideal) (ix2 0 j) = if hd j = 2 then 1 else 0 := by
  pointwise [k0_pay41]; exact head_bit' j 2 _ rfl
theorem m42 (j : Fin 256) : k0_pay42 (F := Ideal) (ix2 0 j) = if hd j = 3 then 1 else 0 := by
  pointwise [k0_pay42]; exact head_bit' j 3 _ rfl
theorem m45 (j : Fin 256) : k0_pay45 (F := Ideal) (iota .tc S1x256 32 [1] iota_S1x256_d1_w32) (ix2 0 j) = if hd j = 0 then 1 else 0 := by
  pointwise [k0_pay45]; exact head_bit' j 0 _ rfl
theorem m46 (j : Fin 256) : k0_pay46 (F := Ideal) (ix2 0 j) = if hd j = 1 then 1 else 0 := by
  pointwise [k0_pay46]; exact head_bit' j 1 _ rfl
theorem m47 (j : Fin 256) : k0_pay47 (F := Ideal) (ix2 0 j) = if hd j = 2 then 1 else 0 := by
  pointwise [k0_pay47]; exact head_bit' j 2 _ rfl
theorem m49 (j : Fin 256) : k0_pay49 (F := Ideal) (ix2 0 j) = if hd j = 3 then 1 else 0 := by
  pointwise [k0_pay49]; exact head_bit' j 3 _ rfl
theorem m53 (j : Fin 256) : k0_pay53 (F := Ideal) (ix2 0 j) = if hd j = 0 then 1 else 0 := by
  pointwise [k0_pay53]; exact head_bit' j 0 _ rfl
theorem m54 (j : Fin 256) : k0_pay54 (F := Ideal) (ix2 0 j) = if hd j = 1 then 1 else 0 := by
  pointwise [k0_pay54]; exact head_bit' j 1 _ rfl
theorem m55 (j : Fin 256) : k0_pay55 (F := Ideal) (ix2 0 j) = if hd j = 2 then 1 else 0 := by
  pointwise [k0_pay55]; exact head_bit' j 2 _ rfl
theorem m58 (j : Fin 256) : k0_pay58 (F := Ideal) k0_pay57 (ix2 0 j) = if hd j = 3 then 1 else 0 := by
  pointwise [k0_pay58, k0_pay57]; exact head_bit' j 3 _ rfl
theorem m61 (j : Fin 256) : k0_pay61 (F := Ideal) (ix2 0 j) = if hd j = 0 then 1 else 0 := by
  pointwise [k0_pay61]; exact head_bit' j 0 _ rfl
theorem m62 (j : Fin 256) : k0_pay62 (F := Ideal) (ix2 0 j) = if hd j = 1 then 1 else 0 := by
  pointwise [k0_pay62]; exact head_bit' j 1 _ rfl
theorem m63 (j : Fin 256) : k0_pay63 (F := Ideal) (ix2 0 j) = if hd j = 2 then 1 else 0 := by
  pointwise [k0_pay63]; exact head_bit' j 2 _ rfl
theorem m66 (j : Fin 256) : k0_pay66 (F := Ideal) (iota .tc S1x256 32 [1] iota_S1x256_d1_w32) k0_pay65 (ix2 0 j) = if hd j = 3 then 1 else 0 := by
  pointwise [k0_pay66, k0_pay65]; exact head_bit' j 3 _ rfl

/-- Four masked terms added to a start: the one of the lane's own head is left. -/
theorem pick4 (j : Fin 256) (b : EReal) (a : Fin 4 → EReal) :
    (((b + (if hd j = 0 then 1 else 0) * a 0) + (if hd j = 1 then 1 else 0) * a 1) + (if hd j = 2 then 1 else 0) * a 2)
      + (if hd j = 3 then 1 else 0) * a 3 = b + a (hd j) := by
  generalize hd j = h
  fin_cases h <;> simp

/-- Four masked contractions: the one of the lane's own head is left. -/
theorem pick4sum (j : Fin 256) (A : Fin 4 → Fin 128 → EReal) (g : Fin 128 → EReal) :
    ((∑ t, A 3 t * ((if hd j = 3 then 1 else 0) * g t) + ∑ t, A 2 t * ((if hd j = 2 then 1 else 0) * g t))
      + ∑ t, A 1 t * ((if hd j = 1 then 1 else 0) * g t)) + ∑ t, A 0 t * ((if hd j = 0 then 1 else 0) * g t)
      = ∑ t, A (hd j) t * g t := by
  generalize hd j = h
  fin_cases h <;> simp

/-- A masked product summed over a row: the sum over the head. -/
theorem maskSum (h : Fin 4) (g v : Row) : ∑ j, (if hd j = h then 1 else 0) * g j * v j = ∑ d, g (lane h d) * v (lane h d) := by
  rw [← sum_head h fun j => g j * v j]
  refine Finset.sum_congr rfl fun j _ => ?_
  split <;> simp

end Cert.Sgu

end
-- ==== Proof.SguTile.lean ====
/- One grid point of the gating unit's backward pass: the blocks it reads, the named values of its body over them, and what
   each is at an index. -/
module

public import proofs.«01_k».proof.Proof.SguBlock

@[expose] public section

noncomputable section

namespace Cert.Sgu

open Cert.KernelIdeal Cert.KernelIdeal.Gen Idealize.ShloMosaic
open scoped BigOperators

variable [Cert.KernelIdeal.Facts]

/-- The blocks a grid point reads, as its body holds them. -/
structure Blk where
  /-- The gate's rows. -/
  pu : FVec Ideal S512x256 .f32
  /-- The value's rows. -/
  pv : FVec Ideal S512x256 .f32
  /-- The cotangent's rows. -/
  dy : FVec Ideal S512x256 .f32
  /-- The normalization's scale. -/
  w : FVec Ideal S1x256 .f32
  /-- The normalization's shift. -/
  b : FVec Ideal S1x256 .f32
  /-- The first head's mixing matrix. -/
  w0 : FVec Ideal S128x128 .f32
  /-- The second's. -/
  w1 : FVec Ideal S128x128 .f32
  /-- The third's. -/
  w2 : FVec Ideal S128x128 .f32
  /-- The fourth's. -/
  w3 : FVec Ideal S128x128 .f32
  /-- The shifts, a lane a head. -/
  bs : FVec Ideal S128x128 .f32

namespace Blk

variable (B : Blk)

/-- The lane numbers of one row. -/
abbrev lanes : IVec S1x256 32 := iota .tc S1x256 32 [1] iota_S1x256_d1_w32

/-! ### The body's named values -/

def gu : FVec Ideal S512x256 .f32 := k0_pay13 B.pu (k0_pay10 B.pu)
def nv : FVec Ideal S512x256 .f32 := k0_pay28 B.w B.b (k0_pay22 B.pv) (k0_pay24 B.pv)
def v0 : FVec Ideal S128x256 .f32 := k0_pay36 B.w B.b (k0_pay22 B.pv) (k0_pay24 B.pv)
def v1 : FVec Ideal S128x256 .f32 := k0_pay44 B.nv
def v2 : FVec Ideal S128x256 .f32 := k0_pay52 B.nv
def v3 : FVec Ideal S128x256 .f32 := k0_pay60 B.nv
def t0 : FVec Ideal S128x128 .f32 := k0_pay32 B.w0
def t1 : FVec Ideal S128x128 .f32 := k0_pay33 B.w1
def t2 : FVec Ideal S128x128 .f32 := k0_pay34 B.w2
def t3 : FVec Ideal S128x128 .f32 := k0_pay35 B.w3
def bias : FVec Ideal S128x256 .f32 := k0_pay31 B.bs
def m0 : FVec Ideal S128x256 .f32 := k0_pay43 B.bias B.t0 B.t1 B.t2 B.t3 B.v0 k0_pay37 k0_pay38
def m1 : FVec Ideal S128x256 .f32 := k0_pay51 (k0_pay48 B.bias B.t0 B.t1 B.t2 B.v1 lanes) k0_pay49 (k0_pay50 B.t3 B.v1)
def m2 : FVec Ideal S128x256 .f32 := k0_pay59 B.t3 B.v2 (k0_pay56 B.nv B.bias B.t0 B.t1 B.t2) k0_pay57
def du : FVec Ideal S512x256 .f32 := k0_pay68 B.t3 B.m0 B.m1 B.m2 B.v3 (k0_pay64 B.nv B.bias B.t0 B.t1 B.t2) lanes k0_pay65 B.dy
def g0 : FVec Ideal S128x256 .f32 := k0_pay69 B.gu B.dy
def g1 : FVec Ideal S128x256 .f32 := k0_pay70 B.gu B.dy
def g2 : FVec Ideal S128x256 .f32 := k0_pay71 B.gu B.dy
def g3 : FVec Ideal S128x256 .f32 := k0_pay72 B.gu B.dy
def z3 : FVec Ideal S512x256 .f32 :=
  k0_pay83 B.t0 (k0_pay79 B.gu B.t1 B.t2 B.t3 k0_pay62 k0_pay63 lanes k0_pay65 B.dy) (k0_pay80 B.gu k0_pay61 B.dy)
def z2 : FVec Ideal S384x256 .f32 := k0_pay93 B.t0 B.t1 B.t2 B.t3 k0_pay53 k0_pay54 k0_pay55 (k0_pay58 k0_pay57) B.g2
def z1 : FVec Ideal S512x256 .f32 :=
  k0_pay103 B.t0 B.t1 B.t2 B.t3 (k0_pay45 lanes) k0_pay46 k0_pay47 k0_pay49 B.g1 B.z3 (Scalar.ofBits .f32 0x00000000#32) B.z2
def dv : FVec Ideal S512x256 .f32 :=
  k0_pay111 B.t0 B.t1 B.t2 B.t3 (k0_pay39 k0_pay37 k0_pay38) k0_pay40 k0_pay41 B.g0 B.z1 (k0_pay104 k0_pay42 B.g0)
def dw3 : FVec Ideal S128x128 .f32 :=
  k0_pay112 k0_pay29 B.v0 (k0_pay95 B.v1 k0_pay49 B.g1 (k0_pay85 B.v2 (k0_pay58 k0_pay57) B.g2 (k0_pay74 B.gu B.v3 lanes k0_pay65 B.dy)))
    (k0_pay105 k0_pay42 B.g0)
def dw2 : FVec Ideal S128x128 .f32 :=
  k0_pay113 k0_pay29 B.v0 k0_pay41 B.g0 (k0_pay97 B.v1 k0_pay47 B.g1 (k0_pay87 B.v2 k0_pay55 B.g2 (k0_pay76 B.gu B.v3 k0_pay63 B.dy)))
def dw1 : FVec Ideal S128x128 .f32 :=
  k0_pay114 k0_pay29 B.v0 k0_pay40 B.g0 (k0_pay99 B.v1 k0_pay46 B.g1 (k0_pay89 B.v2 k0_pay54 B.g2 (k0_pay78 B.gu B.v3 k0_pay62 B.dy)))
def dw0 : FVec Ideal S128x128 .f32 :=
  k0_pay116 k0_pay29 (k0_pay110 B.v0 (k0_pay39 k0_pay37 k0_pay38) B.g0 (k0_pay102 B.v1 (k0_pay45 lanes) B.g1
    (k0_pay92 B.v2 k0_pay53 B.g2 (k0_pay81 B.gu k0_pay61 B.dy) (k0_pay82 B.v3) (constant S128x128 .f32 0x00000000#32)))) k0_pay115
def dbs : FVec Ideal S128x128 .f32 := k0_pay117 k0_pay30 (k0_pay108 B.g0 (k0_pay100 B.g1 (k0_pay90 B.g2 B.g3)))
def dlb : FVec Ideal S1x256 .f32 := k0_pay118 B.dv
def dlw : FVec Ideal S1x256 .f32 := k0_pay119 (k0_pay27 (k0_pay22 B.pv) (k0_pay24 B.pv)) B.dv
def s78 : FVec Ideal S512x1 .f32 := k0_pay26 (k0_pay25 B.pv)
def dpu : FVec Ideal S512x256 .bf16 := k0_pay125 B.pu (k0_pay9 B.pu) (k0_pay11 B.pu) (k0_pay12 (k0_pay10 B.pu)) B.du
def dpv : FVec Ideal S512x256 .bf16 :=
  k0_pay126 B.pv (k0_pay14 B.pv) (k0_pay16 B.pv) (k0_pay17 B.pv)
    (k0_pay123 B.w (k0_pay21 B.pv) (k0_pay22 B.pv) (k0_pay24 B.pv) B.s78 B.dv)
    (k0_pay124 B.w (k0_pay21 B.pv) (k0_pay22 B.pv) (k0_pay24 B.pv) B.s78 B.dv)

/-! ### The blocks as rows and chunks -/

/-- The four mixing matrices. -/
def W : Fin 4 → Fin 128 → Fin 128 → EReal
  | 0 => fun t s => B.w0 (ix2 t s)
  | 1 => fun t s => B.w1 (ix2 t s)
  | 2 => fun t s => B.w2 (ix2 t s)
  | 3 => fun t s => B.w3 (ix2 t s)
/-- The four shifts. -/
def S (h : Fin 4) (t : Fin 128) : EReal := B.bs (ix2 t ⟨h.val, by omega⟩)
/-- The scale. -/
def lw : Row := fun j => B.w (ix2 0 j)
/-- The shift. -/
def lb : Row := fun j => B.b (ix2 0 j)
/-- Row `t` of chunk `c`. -/
def at_ (c : Fin 4) (t : Fin 128) : Fin 512 := ⟨128 * c.val + t.val, by omega⟩
/-- A row is a chunk and a row of it. -/
def atEquiv : Fin 4 × Fin 128 ≃ Fin 512 where
  toFun x := at_ x.1 x.2
  invFun r := (⟨r.val / 128, by omega⟩, ⟨r.val % 128, Nat.mod_lt _ (by decide)⟩)
  left_inv x := by
    rcases x with ⟨c, t⟩
    have h1 := c.isLt; have h2 := t.isLt
    refine Prod.ext (Fin.ext ?_) (Fin.ext ?_) <;> simp only [at_] <;> omega
  right_inv r := Fin.ext (by simp only [at_]; omega)

/-- A sum over the point's rows, chunk by chunk. -/
theorem sum_at (f : Fin 512 → EReal) : ∑ r, f r = ∑ c, ∑ t, f (at_ c t) := by
  rw [← Equiv.sum_comp atEquiv, Fintype.sum_prod_type]
  rfl
theorem at_zero (t : Fin 128) : at_ 0 t = ⟨t.val, by omega⟩ := Fin.ext (by simp [at_])
/-- A row of the value. -/
def pr (r : Fin 512) : Row := fun j => B.pv (ix2 r j)
/-- A chunk's normalized value. -/
def V (c : Fin 4) : Chunk := fun s => vn B.lw B.lb (B.pr (at_ c s))
/-- A chunk's gate. -/
def U (c : Fin 4) : Chunk := fun s j => B.pu (ix2 (at_ c s) j)
/-- A chunk's cotangent. -/
def Y (c : Fin 4) : Chunk := fun s j => B.dy (ix2 (at_ c s) j)
/-- The cotangent of a chunk's mixed value. -/
def G (c : Fin 4) : Chunk := gate (B.U c) (B.Y c)

/-! ### The named values at an index -/

theorem gu_apply (r : Fin 512) (j : Fin 256) : B.gu (ix2 r j) = gel (B.pu (ix2 r j)) := by
  unfold gu
  pointwise [k0_pay13, k0_pay12, k0_pay10, gel, hf, th, cA, cB, cH]

theorem ctr_apply (r : Fin 512) (j : Fin 256) : k0_pay22 (F := Ideal) B.pv (ix2 r j) = ctr (B.pr r) j := by
  pointwise [k0_pay22, k0_pay19, k0_pay18, k0_pay17, k0_pay15, ctr, mean, gel, hf, th, cA, cB, cH, cL, pr]

theorem ctr_apply' (r : Fin 512) (j : Fin 256) : k0_pay20 (F := Ideal) B.pv (ix2 r j) = ctr (B.pr r) j := by
  pointwise [k0_pay20, k0_pay19, k0_pay18, k0_pay17, k0_pay15, ctr, mean, gel, hf, th, cA, cB, cH, cL, pr]

theorem var_apply (r : Fin 512) : k0_pay23 (F := Ideal) B.pv (ix2 r 0) = var (B.pr r) := by
  pointwise [k0_pay23, ctr_apply', var, cL, cE]

theorem rs_apply (r : Fin 512) : k0_pay24 (F := Ideal) B.pv (ix2 r 0) = rs (B.pr r) := by
  pointwise [k0_pay24, var_apply, rs]

theorem xh_apply (r : Fin 512) (j : Fin 256) : k0_pay27 (F := Ideal) (k0_pay22 B.pv) (k0_pay24 B.pv) (ix2 r j) = xh (B.pr r) j := by
  pointwise [k0_pay27, ctr_apply, rs_apply, xh]

theorem nv_apply (r : Fin 512) (j : Fin 256) : B.nv (ix2 r j) = vn B.lw B.lb (B.pr r) j := by
  unfold nv
  pointwise [k0_pay28, xh_apply, vn, lw, lb]

theorem s78_apply (r : Fin 512) : B.s78 (ix2 r 0) = cN * Ideal.div (rs (B.pr r)) (var (B.pr r)) := by
  unfold s78
  pointwise [k0_pay26, k0_pay25, rs_apply, var_apply, cN]

theorem v0_apply (s : Fin 128) (j : Fin 256) : B.v0 (ix2 s j) = B.V 0 s j := by
  unfold v0
  have h := B.nv_apply (at_ 0 s) j
  unfold nv at h
  pointwise [k0_pay36]
  rw [← at_zero]
  exact h
theorem v1_apply (s : Fin 128) (j : Fin 256) : B.v1 (ix2 s j) = B.V 1 s j := by
  unfold v1
  pointwise [k0_pay44]
  exact B.nv_apply _ _
theorem v2_apply (s : Fin 128) (j : Fin 256) : B.v2 (ix2 s j) = B.V 2 s j := by
  unfold v2
  pointwise [k0_pay52]
  exact B.nv_apply _ _
theorem v3_apply (s : Fin 128) (j : Fin 256) : B.v3 (ix2 s j) = B.V 3 s j := by
  unfold v3
  pointwise [k0_pay60]
  exact B.nv_apply _ _

theorem t0_apply (t s : Fin 128) : B.t0 (ix2 t s) = tri B.W 0 t s := by
  unfold t0
  pointwise [k0_pay32, pay29_apply, tri, W]
  split <;> rfl
theorem t1_apply (t s : Fin 128) : B.t1 (ix2 t s) = tri B.W 1 t s := by
  unfold t1
  pointwise [k0_pay33, pay29_apply, tri, W]
  split <;> rfl
theorem t2_apply (t s : Fin 128) : B.t2 (ix2 t s) = tri B.W 2 t s := by
  unfold t2
  pointwise [k0_pay34, pay29_apply, tri, W]
  split <;> rfl
theorem t3_apply (t s : Fin 128) : B.t3 (ix2 t s) = tri B.W 3 t s := by
  unfold t3
  pointwise [k0_pay35, pay29_apply, tri, W]
  split <;> rfl

theorem g0_apply (s : Fin 128) (j : Fin 256) : B.g0 (ix2 s j) = B.G 0 s j := by
  unfold g0
  pointwise [k0_pay69, k0_pay67, gu_apply]
  rw [← at_zero]
  rfl
theorem g1_apply (s : Fin 128) (j : Fin 256) : B.g1 (ix2 s j) = B.G 1 s j := by
  unfold g1
  pointwise [k0_pay70, k0_pay67, gu_apply]
  rfl
theorem g2_apply (s : Fin 128) (j : Fin 256) : B.g2 (ix2 s j) = B.G 2 s j := by
  unfold g2
  pointwise [k0_pay71, k0_pay67, gu_apply]
  rfl
theorem g3_apply (s : Fin 128) (j : Fin 256) : B.g3 (ix2 s j) = B.G 3 s j := by
  unfold g3
  pointwise [k0_pay72, k0_pay67, gu_apply]
  rfl
theorem g3_apply' (s : Fin 128) (j : Fin 256) : k0_pay72 B.gu B.dy (ix2 s j) = B.G 3 s j := B.g3_apply s j

/-- A sum against the indicator of one lane is that lane's term. -/
theorem sum_one (f : Fin 128 → EReal) (j : Fin 256) :
    ∑ x, f x * (if j.val / 64 = x.val then 1 else 0) = f ⟨(hd j).val, by have := (hd j).isLt; omega⟩ := by
  rw [Finset.sum_eq_single ⟨(hd j).val, by have := (hd j).isLt; omega⟩]
  · rw [if_pos (by rfl), mul_one]
  · intro b _ hb
    rw [if_neg (fun h => hb (Fin.ext h.symm)), mul_zero]
  · intro h; exact absurd (Finset.mem_univ _) h

/-- A value split into three parts, each but the first the difference of what was split and what is kept, contracted part
    by part: the whole value contracted, where it is finite. -/
theorem pieces {n : ℕ} (a e : Fin n → EReal) (h : ∀ x, Fin' (a x)) :
    (∑ x, a x * e x + ∑ x, (a x - a x) * e x) + ∑ x, (a x - a x - (a x - a x)) * e x = ∑ x, a x * e x := by
  have z : ∀ x, a x - a x = 0 := fun x => sub_self_fin (h x)
  simp [z]

theorem bias_apply (hb : ∀ t x, Fin' (B.bs (ix2 t x))) (t : Fin 128) (j : Fin 256) : B.bias (ix2 t j) = B.S (hd j) t := by
  unfold bias
  pointwise [k0_pay31]
  refine (pieces (fun x => B.bs (ix2 t x)) _ (hb t)).trans ?_
  simp only [pay30_apply]
  exact sum_one (fun x => B.bs (ix2 t x)) j

/-! ### The mixed chunks and the gate's cotangent -/

theorem m45' (j : Fin 256) : k0_pay45 (F := Ideal) lanes (ix2 0 j) = if hd j = 0 then 1 else 0 := m45 j
theorem m66' (j : Fin 256) : k0_pay66 (F := Ideal) lanes k0_pay65 (ix2 0 j) = if hd j = 3 then 1 else 0 := m66 j

theorem m0_apply (hb : ∀ t x, Fin' (B.bs (ix2 t x))) (t : Fin 128) (j : Fin 256) :
    B.m0 (ix2 t j) = mix B.W B.S (B.V 0) t j := by
  unfold m0
  pointwise [k0_pay43]
  simp only [m39, m40, m41, m42, B.bias_apply hb, t0_apply, t1_apply, t2_apply, t3_apply, v0_apply]
  exact pick4 j _ fun h => ∑ s, tri B.W h t s * B.V 0 s j

theorem m1_apply (hb : ∀ t x, Fin' (B.bs (ix2 t x))) (t : Fin 128) (j : Fin 256) :
    B.m1 (ix2 t j) = mix B.W B.S (B.V 1) t j := by
  unfold m1
  pointwise [k0_pay51, k0_pay48, k0_pay50]
  simp only [m45', m46, m47, m49, B.bias_apply hb, t0_apply, t1_apply, t2_apply, t3_apply, v1_apply]
  exact pick4 j _ fun h => ∑ s, tri B.W h t s * B.V 1 s j

theorem v2_apply' (s : Fin 128) (j : Fin 256) : k0_pay52 (F := Ideal) B.nv (ix2 s j) = B.V 2 s j := B.v2_apply s j

theorem m2_apply (hb : ∀ t x, Fin' (B.bs (ix2 t x))) (t : Fin 128) (j : Fin 256) :
    B.m2 (ix2 t j) = mix B.W B.S (B.V 2) t j := by
  unfold m2
  pointwise [k0_pay59, k0_pay56]
  simp only [m53, m54, m55, m58, B.bias_apply hb, t0_apply, t1_apply, t2_apply, t3_apply, v2_apply, v2_apply']
  exact pick4 j _ fun h => ∑ s, tri B.W h t s * B.V 2 s j

theorem v3_apply' (s : Fin 128) (j : Fin 256) : k0_pay60 (F := Ideal) B.nv (ix2 s j) = B.V 3 s j := B.v3_apply s j

theorem m3_apply (hb : ∀ t x, Fin' (B.bs (ix2 t x))) (t : Fin 128) (j : Fin 256) :
    k0_pay64 (F := Ideal) B.nv B.bias B.t0 B.t1 B.t2 (ix2 t j)
      + k0_pay66 (F := Ideal) lanes k0_pay65 (ix2 0 j) * ∑ x, B.t3 (ix2 t x) * B.v3 (ix2 x j) = mix B.W B.S (B.V 3) t j := by
  pointwise [k0_pay64]
  simp only [m61, m62, m63, m66', B.bias_apply hb, t0_apply, t1_apply, t2_apply, t3_apply, v3_apply, v3_apply']
  exact pick4 j _ fun h => ∑ s, tri B.W h t s * B.V 3 s j

/-- The gate's cotangent, before the gelu: the cotangent times the mixed value. -/
theorem du_apply (hb : ∀ t x, Fin' (B.bs (ix2 t x))) (c : Fin 4) (t : Fin 128) (j : Fin 256) :
    B.du (ix2 (at_ c t) j) = B.Y c t j * mix B.W B.S (B.V c) t j := by
  have ht := t.isLt
  unfold du
  pointwise [k0_pay68]
  simp only [B.m0_apply hb, B.m1_apply hb, B.m2_apply hb, B.m3_apply hb]
  refine congrArg (B.Y c t j * ·) ?_
  match c with
  | 0 => rw [dif_pos (by simp [at_])]; congr 1; exact Fin.ext (by simp [at_])
  | 1 =>
    rw [dif_neg (by simp [at_]), dif_pos (by simp [at_])]; congr 1; exact Fin.ext (by simp [at_])
  | 2 =>
    rw [dif_neg (by simp [at_]; omega), dif_neg (by simp [at_]; omega), dif_pos (by simp [at_]; omega)]
    congr 1; exact Fin.ext (by simp [at_]; omega)
  | 3 =>
    rw [dif_neg (by simp [at_]; omega), dif_neg (by simp [at_]; omega), dif_neg (by simp [at_]; omega)]
    congr 1; exact Fin.ext (by simp [at_]; omega)

/-! ### The cotangent of the value's chunks -/

theorem z3_apply (c : Fin 4) (t : Fin 128) (j : Fin 256) :
    B.z3 (ix2 (at_ c t) j) = if c = 3 then dmix B.W (B.G 3) t j else 0 := by
  have ht := t.isLt
  unfold z3
  pointwise [k0_pay83, k0_pay79, k0_pay80, k0_pay73, k0_pay75, k0_pay77]
  simp only [m61, m62, m63, m66', t0_apply, t1_apply, t2_apply, t3_apply, g3_apply', pick4sum]
  match c with
  | 0 => rw [dif_pos (by simp [at_]; omega), if_neg (by decide)]
  | 1 => rw [dif_pos (by simp [at_]; omega), if_neg (by decide)]
  | 2 => rw [dif_pos (by simp [at_]; omega), if_neg (by decide)]
  | 3 =>
    rw [dif_neg (by simp [at_]), if_pos (show (3 : Fin 4) = 3 from rfl)]
    have e : ∀ h, (⟨(at_ 3 t).val - 384, h⟩ : Fin 128) = t := fun h => Fin.ext (by simp [at_])
    simp only [e]
    exact pick4sum j (fun h x => tri B.W h x t) _

theorem z2_apply (c : Fin 4) (t : Fin 128) (j : Fin 256) (h : (at_ c t).val < 384) :
    B.z2 (ix2 ⟨(at_ c t).val, h⟩ j) = if c = 2 then dmix B.W (B.G 2) t j else 0 := by
  have ht := t.isLt
  unfold z2
  pointwise [k0_pay93, k0_pay84, k0_pay86, k0_pay88, k0_pay91]
  simp only [m53, m54, m55, m58, t0_apply, t1_apply, t2_apply, t3_apply, g2_apply]
  match c with
  | 0 => rw [dif_pos (by simp [at_]; omega), if_neg (by decide)]
  | 1 => rw [dif_pos (by simp [at_]; omega), if_neg (by decide)]
  | 2 =>
    rw [dif_neg (by simp [at_]), if_pos (show (2 : Fin 4) = 2 from rfl)]
    have e : ∀ h, (⟨(at_ 2 t).val - 256, h⟩ : Fin 128) = t := fun h => Fin.ext (by simp [at_])
    simp only [e]
    exact pick4sum j (fun h x => tri B.W h x t) _
  | 3 => exact absurd h (by simp [at_])

theorem z1_apply (c : Fin 4) (t : Fin 128) (j : Fin 256) :
    B.z1 (ix2 (at_ c t) j) = if c = 0 then 0 else dmix B.W (B.G c) t j := by
  have ht := t.isLt
  unfold z1
  pointwise [k0_pay103, k0_pay94, k0_pay96, k0_pay98, k0_pay101]
  simp only [m45', m46, m47, m49, t0_apply, t1_apply, t2_apply, t3_apply, g1_apply, z3_apply, z2_apply]
  match c with
  | 0 =>
    rw [if_neg (show ¬ (0 : Fin 4) = 3 by decide), dif_pos (by simp [at_]; omega), if_neg (show ¬ (0 : Fin 4) = 2 by decide),
      dif_pos (by simp [at_]; omega), dif_pos (by simp [at_]), if_pos (show (0 : Fin 4) = 0 from rfl)]
    simp
  | 1 =>
    rw [if_neg (show ¬ (1 : Fin 4) = 3 by decide), dif_pos (by simp [at_]; omega), if_neg (show ¬ (1 : Fin 4) = 2 by decide),
      dif_pos (by simp [at_]; omega), dif_neg (by simp [at_]), if_neg (show ¬ (1 : Fin 4) = 0 by decide)]
    have e : ∀ h, (⟨(at_ 1 t).val - 128, h⟩ : Fin 128) = t := fun h => Fin.ext (by simp [at_])
    simp only [e, zero_add]
    exact pick4sum j (fun h x => tri B.W h x t) _
  | 2 =>
    rw [if_neg (show ¬ (2 : Fin 4) = 3 by decide), dif_pos (by simp [at_]; omega), if_pos (show (2 : Fin 4) = 2 from rfl),
      dif_neg (by simp [at_]), if_neg (show ¬ (2 : Fin 4) = 0 by decide)]
    simp
  | 3 =>
    rw [if_pos (show (3 : Fin 4) = 3 from rfl), dif_neg (by simp [at_]), dif_neg (by simp [at_]; omega), if_neg (show ¬ (3 : Fin 4) = 0 by decide)]
    simp

/-- The cotangent of the normalized value: the mixing matrices' lower triangles transposed, over the chunk. -/
theorem dv_apply (c : Fin 4) (t : Fin 128) (j : Fin 256) : B.dv (ix2 (at_ c t) j) = dmix B.W (B.G c) t j := by
  have ht := t.isLt
  unfold dv
  pointwise [k0_pay111, k0_pay104, k0_pay106, k0_pay107, k0_pay109]
  simp only [m39, m40, m41, m42, t0_apply, t1_apply, t2_apply, t3_apply, g0_apply, z1_apply]
  match c with
  | 0 =>
    rw [dif_pos (by simp [at_]), if_pos (show (0 : Fin 4) = 0 from rfl)]
    have e : ∀ h, (⟨(at_ 0 t).val, h⟩ : Fin 128) = t := fun h => Fin.ext (by simp [at_])
    simp only [e, zero_add]
    exact pick4sum j (fun h x => tri B.W h x t) _
  | 1 => rw [dif_neg (by simp [at_]), if_neg (by decide), add_zero]
  | 2 => rw [dif_neg (by simp [at_]; omega), if_neg (by decide), add_zero]
  | 3 => rw [dif_neg (by simp [at_]; omega), if_neg (by decide), add_zero]

/-! ### The mixing matrices' and the shifts' cotangents -/

/-- One head's part of a mixing matrix's cotangent over the point's four chunks, the last first, within the triangle. -/
def dwAt (h : Fin 4) (t s : Fin 128) : EReal :=
  if s ≤ t then ((dws (B.G 3) (B.V 3) h t s + dws (B.G 2) (B.V 2) h t s) + dws (B.G 1) (B.V 1) h t s) + dws (B.G 0) (B.V 0) h t s
  else 0

theorem sel_tri (t s : Fin 128) (a : EReal) : Scalar.select (k0_pay29 (ix2 t s)) a 0 = if s ≤ t then a else 0 := by
  rw [pay29_apply]
  split <;> rfl

theorem dw3_apply (t s : Fin 128) : B.dw3 (ix2 t s) = B.dwAt 3 t s := by
  unfold dw3
  pointwise [k0_pay112, k0_pay105, k0_pay95, k0_pay85, k0_pay74, k0_pay73, k0_pay84, k0_pay94, k0_pay104]
  simp only [m42, m49, m58, m66', g0_apply, g1_apply, g2_apply, g3_apply', v0_apply, v1_apply, v2_apply, v3_apply, maskSum, sel_tri]
  rfl
theorem dw2_apply (t s : Fin 128) : B.dw2 (ix2 t s) = B.dwAt 2 t s := by
  unfold dw2
  pointwise [k0_pay113, k0_pay97, k0_pay87, k0_pay76, k0_pay75, k0_pay86, k0_pay96, k0_pay106]
  simp only [m41, m47, m55, m63, g0_apply, g1_apply, g2_apply, g3_apply', v0_apply, v1_apply, v2_apply, v3_apply, maskSum, sel_tri]
  rfl
theorem dw1_apply (t s : Fin 128) : B.dw1 (ix2 t s) = B.dwAt 1 t s := by
  unfold dw1
  pointwise [k0_pay114, k0_pay99, k0_pay89, k0_pay78, k0_pay77, k0_pay88, k0_pay98, k0_pay107]
  simp only [m40, m46, m54, m62, g0_apply, g1_apply, g2_apply, g3_apply', v0_apply, v1_apply, v2_apply, v3_apply, maskSum, sel_tri]
  rfl
theorem dw0_apply (t s : Fin 128) : B.dw0 (ix2 t s) = B.dwAt 0 t s := by
  unfold dw0
  pointwise [k0_pay116, k0_pay110, k0_pay102, k0_pay92, k0_pay82, k0_pay81, k0_pay80, k0_pay91, k0_pay101, k0_pay109, k0_pay115]
  simp only [m39, m45', m53, m61, g0_apply, g1_apply, g2_apply, g3_apply', v0_apply, v1_apply, v2_apply, v3_apply, v3_apply', maskSum, sel_tri]
  rfl

/-- The shifts' cotangent over the point's four chunks, a lane a head, and nothing beyond the heads. -/
def dbAt (t x : Fin 128) : EReal :=
  if h : x.val < 4 then ∑ d, (((B.G 3 t (lane ⟨x.val, h⟩ d) + B.G 2 t (lane ⟨x.val, h⟩ d)) + B.G 1 t (lane ⟨x.val, h⟩ d)) + B.G 0 t (lane ⟨x.val, h⟩ d))
  else 0

theorem dbs_apply (hg : ∀ t j, Fin' (((B.G 3 t j + B.G 2 t j) + B.G 1 t j) + B.G 0 t j)) (t x : Fin 128) :
    B.dbs (ix2 t x) = B.dbAt t x := by
  unfold dbs
  pointwise [k0_pay117, k0_pay108, k0_pay100, k0_pay90]
  simp only [g0_apply, g1_apply, g2_apply, g3_apply]
  refine (pieces (fun j => ((B.G 3 t j + B.G 2 t j) + B.G 1 t j) + B.G 0 t j) _ (hg t)).trans ?_
  simp only [pay30_apply, mul_ite, mul_one, mul_zero]
  unfold dbAt
  split
  · next h =>
    rw [← sum_head ⟨x.val, h⟩ fun j => ((B.G 3 t j + B.G 2 t j) + B.G 1 t j) + B.G 0 t j]
    exact Finset.sum_congr rfl fun j _ => if_congr (Fin.ext_iff (a := hd j) (b := ⟨x.val, h⟩)).symm rfl rfl
  · next h => exact Finset.sum_eq_zero fun j _ => if_neg (by omega)

/-! ### The normalization's cotangents -/

/-- A row's part of the point: its chunk's cotangent row. -/
theorem dlb_apply (j : Fin 256) : B.dlb (ix2 0 j) = ∑ c, ∑ t, dmix B.W (B.G c) t j := by
  unfold dlb
  pointwise [k0_pay118]
  rw [sum_at (fun r => B.dv (ix2 r j))]
  simp only [dv_apply]

theorem dlw_apply (j : Fin 256) : B.dlw (ix2 0 j) = ∑ c, ∑ t, xh (B.pr (at_ c t)) j * dmix B.W (B.G c) t j := by
  unfold dlw
  pointwise [k0_pay119]
  simp only [xh_apply]
  rw [sum_at (fun r => xh (B.pr r) j * B.dv (ix2 r j))]
  simp only [dv_apply]

/-- The gate's cotangent. -/
theorem dpu_apply (hb : ∀ t x, Fin' (B.bs (ix2 t x))) (c : Fin 4) (t : Fin 128) (j : Fin 256) :
    B.dpu (ix2 (at_ c t) j) = dgel (B.U c t j) (B.Y c t j * mix B.W B.S (B.V c) t j) := by
  unfold dpu
  pointwise [k0_pay125, k0_pay9, k0_pay10, k0_pay11, k0_pay12]
  simp only [B.du_apply hb]
  rfl

theorem ctr2_apply (r : Fin 512) (j : Fin 256) : k0_pay21 (F := Ideal) B.pv (ix2 r j) = c2 * ctr (B.pr r) j := by
  pointwise [k0_pay21, ctr_apply', c2]

/-- The cotangent of a row through the normalization and its gelu. -/
theorem dpv_apply (c : Fin 4) (t : Fin 128) (j : Fin 256) :
    B.dpv (ix2 (at_ c t) j) = Cert.Sgu.dpv B.lw (B.pr (at_ c t)) (dmix B.W (B.G c) t) j := by
  unfold dpv
  pointwise [k0_pay126, k0_pay14, k0_pay16, k0_pay17, k0_pay15, k0_pay123, k0_pay124, k0_pay120, k0_pay121, k0_pay122]
  have e : (default : Fin 1) = 0 := rfl
  simp only [Finset.univ_unique, Finset.sum_singleton, e, zero_sub, rs_apply, ctr_apply, ctr2_apply, s78_apply, dv_apply]
  rfl

end Blk

end Cert.Sgu

end
-- ==== Proof.SguPoint.lean ====
/- What the body leaves in each output's block at a grid point, over the blocks it reads: the named values of the tile. -/
module

public import proofs.«01_k».proof.Proof.SguTile
public import proofs.«01_k».proof.Proof.Gen.KernelIdeal.Value
public import Idealize.ShloMosaic.Lib.Pipeline.Value
public import Idealize.ShloMosaic.Lib.Tactic

@[expose] public section

noncomputable section

namespace Cert.Sgu

open Cert.KernelIdeal Cert.KernelIdeal.Gen Idealize.ShloMosaic Idealize.ShloMosaic.TcCoe Idealize.SL.Sem
open scoped BigOperators

theorem hz : (![0, 0] : Fin 2 → Nat) = fun _ => 0 := funext fun a => by fin_cases a <;> rfl
theorem hz3 : (![0, 0, 0] : Fin 3 → Nat) = fun _ => 0 := funext fun a => by fin_cases a <;> rfl

/-- The blocks of a point, as the body names them. -/
def blk (x0 x1 x2 : Vec Ideal S512x256 .f32) (x3 x4 : Vec Ideal S1x256 .f32) (x5 : Vec Ideal S4x128x128 .f32)
    (x6 : Vec Ideal S128x128 .f32) : Blk where
  pu := x0
  pv := x1
  dy := x2
  w := k0_pay2 x3
  b := k0_pay3 x4
  w0 := k0_pay4 (View.ld x5 (Rect.unit ![0, 0, 0] ![1, 128, 128] inb_S4x128x128_S1x128x128_0_0_0))
  w1 := k0_pay5 (View.ld x5 (Rect.unit ![1, 0, 0] ![1, 128, 128] inb_S4x128x128_S1x128x128_1_0_0))
  w2 := k0_pay6 (View.ld x5 (Rect.unit ![2, 0, 0] ![1, 128, 128] inb_S4x128x128_S1x128x128_2_0_0))
  w3 := k0_pay7 (View.ld x5 (Rect.unit ![3, 0, 0] ![1, 128, 128] inb_S4x128x128_S1x128x128_3_0_0))
  bs := k0_pay8 x6

/-- A matrix of the four placed at its offset. -/
theorem place (o : ℕ) (inb : ∀ a, (![o, 0, 0] : Fin 3 → Nat) a + (![1, 128, 128] : Fin 3 → Nat) a ≤ S4x128x128.size a)
    (h : Fin 4) (e : h.val = o) (t s : Fin 128) :
    (Rect.unit (s := S4x128x128) ![o, 0, 0] ![1, 128, 128] inb).idx (ix3 0 t s) = ix3 h t s := by
  subst e
  funext a
  apply Fin.ext
  match a with
  | ⟨0, _⟩ => show h.val + 1 * 0 = h.val; omega
  | ⟨1, _⟩ => show 0 + 1 * t.val = t.val; omega
  | ⟨2, _⟩ => show 0 + 1 * s.val = s.val; omega

/-- Where the last store lies, the contents are its payload. -/
theorem canon_at (r : Rect S4x128x128) (w : r.shape.Idx → Elt Ideal .f32) (L : List (View.Piece (Elt Ideal) S4x128x128 .f32))
    (x : r.shape.Idx) (y : S4x128x128.Idx) (e : r.idx x = y) :
    View.canon ((⟨r, w⟩ : View.Piece (Elt Ideal) S4x128x128 .f32) :: L) y = w x := by
  subst e
  exact View.canon_cons_emb r w L x

/-- The contents after a store of one of the four matrices: that matrix, or the contents before. -/
theorem canon_mat (o : ℕ) (inb : ∀ a, (![o, 0, 0] : Fin 3 → Nat) a + (![1, 128, 128] : Fin 3 → Nat) a ≤ S4x128x128.size a)
    (w : Vec Ideal S1x128x128 .f32) (L : List (View.Piece (Elt Ideal) S4x128x128 .f32)) (h : Fin 4) (t s : Fin 128) :
    View.canon ((⟨Rect.unit (s := S4x128x128) ![o, 0, 0] ![1, 128, 128] inb, w⟩ : View.Piece (Elt Ideal) S4x128x128 .f32) :: L) (ix3 h t s)
      = if h.val = o then w (ix3 0 t s) else View.canon L (ix3 h t s) := by
  split
  · next e =>
    exact canon_at (Rect.unit (s := S4x128x128) ![o, 0, 0] ![1, 128, 128] inb) w L (ix3 0 t s) _ (place o inb h e t s)
  · next e =>
    refine View.canon_cons_of_not_mem _ L ?_
    show ix3 h t s ∉ (Rect.unit (s := S4x128x128) ![o, 0, 0] ![1, 128, 128] inb).set
    rw [Rect.mem_set_unit]
    intro hm
    have h0 := hm 0
    have h1 : o ≤ h.val ∧ h.val < o + 1 := h0
    omega

/-- The contents after a store of all four: what was stored. -/
theorem canon_all (w : Vec Ideal S4x128x128 .f32) (L : List (View.Piece (Elt Ideal) S4x128x128 .f32)) (y : S4x128x128.Idx) :
    View.canon ((⟨Rect.unit (s := S4x128x128) ![0, 0, 0] ![4, 128, 128] inb_S4x128x128_S4x128x128_0_0_0, w⟩ : View.Piece (Elt Ideal) S4x128x128 .f32) :: L) y = w y :=
  congrFun (View.canon_cons_unit_zero (S := S4x128x128) hz3 _ w L) y

/-- One of the four matrices loaded back after stores. -/
theorem readCov_mat (v : View sig .tc .vmem S4x128x128 .f32) (L : List (View.Piece (Elt Ideal) S4x128x128 .f32)) (o : ℕ)
    (inb : ∀ a, (![o, 0, 0] : Fin 3 → Nat) a + (![1, 128, 128] : Fin 3 → Nat) a ≤ S4x128x128.size a) (h : Fin 4) (e : h.val = o) (t s : Fin 128) :
    v.readCov L (Rect.unit (s := S4x128x128) ![o, 0, 0] ![1, 128, 128] inb).toLoadRect (ix3 0 t s) = View.canon L (ix3 h t s) := by
  rw [View.readCov_eq_canon']
  exact congrArg (View.canon L) (place o inb h e t s)

/-- One of the four matrices loaded. -/
theorem ld_mat (x : Vec Ideal S4x128x128 .f32) (o : ℕ)
    (inb : ∀ a, (![o, 0, 0] : Fin 3 → Nat) a + (![1, 128, 128] : Fin 3 → Nat) a ≤ S4x128x128.size a) (h : Fin 4) (e : h.val = o) (t s : Fin 128) :
    View.ld x (Rect.unit (s := S4x128x128) ![o, 0, 0] ![1, 128, 128] inb) (ix3 0 t s) = x (ix3 h t s) :=
  congrArg x (place o inb h e t s)

section
variable (c : Dev nD) (i : grid0.Coords)
  (a1 : Memref sig .tc .vmem S512x256 .f32) (h1 : a1.IsWhole)
  (a2 : Memref sig .tc .vmem S512x256 .f32) (h2 : a2.IsWhole)
  (a3 : Memref sig .tc .vmem S512x256 .f32) (h3 : a3.IsWhole)
  (a4 : Memref sig .tc .vmem S1x256 .f32) (h4 : a4.IsWhole)
  (a5 : Memref sig .tc .vmem S1x256 .f32) (h5 : a5.IsWhole)
  (a6 : Memref sig .tc .vmem S4x128x128 .f32) (h6 : a6.IsWhole)
  (a7 : Memref sig .tc .vmem S128x128 .f32) (h7 : a7.IsWhole)
  (a8 : Memref sig .tc .vmem S512x256 .bf16) (h8 : a8.IsWhole)
  (a9 : Memref sig .tc .vmem S512x256 .bf16) (h9 : a9.IsWhole)
  (a10 : Memref sig .tc .vmem S1x256 .f32) (h10 : a10.IsWhole)
  (a11 : Memref sig .tc .vmem S1x256 .f32) (h11 : a11.IsWhole)
  (a12 : Memref sig .tc .vmem S4x128x128 .f32) (h12 : a12.IsWhole)
  (a13 : Memref sig .tc .vmem S128x128 .f32) (h13 : a13.IsWhole)
  (hc : ¬cond0_0 i)
  (x0 x1 x2 : Vec Ideal S512x256 .f32) (x3 x4 : Vec Ideal S1x256 .f32) (x5 : Vec Ideal S4x128x128 .f32) (x6 : Vec Ideal S128x128 .f32)
  (o9 o10 : Vec Ideal S1x256 .f32) (o11 : Vec Ideal S4x128x128 .f32) (o12 : Vec Ideal S128x128 .f32)

/-- A later point's block of the gate's cotangent. -/
theorem out_B7 : out0_B_7 c i a1 h1 a2 h2 a3 h3 a4 h4 a5 h5 a6 h6 a7 h7 a8 h8 a9 h9 a10 h10 a11 h11 a12 h12 a13 h13 hc x0 x1 x2 x3 x4 x5 x6 o9 o10 o11 o12 = (blk x0 x1 x2 x3 x4 x5 x6).dpu := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- A later point's block of the value's cotangent. -/
theorem out_B8 : out0_B_8 c i a1 h1 a2 h2 a3 h3 a4 h4 a5 h5 a6 h6 a7 h7 a8 h8 a9 h9 a10 h10 a11 h11 a12 h12 a13 h13 hc x0 x1 x2 x3 x4 x5 x6 o9 o10 o11 o12 = (blk x0 x1 x2 x3 x4 x5 x6).dpv := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- A later point adds to the scale's cotangent. -/
theorem out_B9 : out0_B_9 c i a1 h1 a2 h2 a3 h3 a4 h4 a5 h5 a6 h6 a7 h7 a8 h8 a9 h9 a10 h10 a11 h11 a12 h12 a13 h13 hc x0 x1 x2 x3 x4 x5 x6 o9 o10 o11 o12 = k0_pay131 (blk x0 x1 x2 x3 x4 x5 x6).dlw o9 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- A later point adds to the shift's cotangent. -/
theorem out_B10 : out0_B_10 c i a1 h1 a2 h2 a3 h3 a4 h4 a5 h5 a6 h6 a7 h7 a8 h8 a9 h9 a10 h10 a11 h11 a12 h12 a13 h13 hc x0 x1 x2 x3 x4 x5 x6 o9 o10 o11 o12 = k0_pay132 (blk x0 x1 x2 x3 x4 x5 x6).dlb o10 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- A later point adds to the mixing matrices' cotangents. -/
theorem out_B11 (h : Fin 4) (t s : Fin 128) : out0_B_11 c i a1 h1 a2 h2 a3 h3 a4 h4 a5 h5 a6 h6 a7 h7 a8 h8 a9 h9 a10 h10 a11 h11 a12 h12 a13 h13 hc x0 x1 x2 x3 x4 x5 x6 o9 o10 o11 o12 (ix3 h t s) = o11 (ix3 h t s) + (blk x0 x1 x2 x3 x4 x5 x6).dwAt h t s := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  simp only [canon_mat]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  match h with
  | 3 =>
    rw [if_pos (show (3 : Fin 4).val = 3 from rfl)]; pointwise [k0_pay136]
    exact congrArg (fun z => o11 (ix3 3 t s) + z) (Blk.dw3_apply (blk x0 x1 x2 x3 x4 x5 x6) t s)
  | 2 =>
    rw [if_neg (show ¬ (2 : Fin 4).val = 3 by decide), if_pos (show (2 : Fin 4).val = 2 from rfl)]; pointwise [k0_pay135]
    exact congrArg (fun z => o11 (ix3 2 t s) + z) (Blk.dw2_apply (blk x0 x1 x2 x3 x4 x5 x6) t s)
  | 1 =>
    rw [if_neg (show ¬ (1 : Fin 4).val = 3 by decide), if_neg (show ¬ (1 : Fin 4).val = 2 by decide), if_pos (show (1 : Fin 4).val = 1 from rfl)]; pointwise [k0_pay134]
    exact congrArg (fun z => o11 (ix3 1 t s) + z) (Blk.dw1_apply (blk x0 x1 x2 x3 x4 x5 x6) t s)
  | 0 =>
    rw [if_neg (show ¬ (0 : Fin 4).val = 3 by decide), if_neg (show ¬ (0 : Fin 4).val = 2 by decide), if_neg (show ¬ (0 : Fin 4).val = 1 by decide), if_pos (show (0 : Fin 4).val = 0 from rfl)]; pointwise [k0_pay133]
    exact congrArg (fun z => o11 (ix3 0 t s) + z) (Blk.dw0_apply (blk x0 x1 x2 x3 x4 x5 x6) t s)

/-- A later point adds to the mixing shifts' cotangents. -/
theorem out_B12 : out0_B_12 c i a1 h1 a2 h2 a3 h3 a4 h4 a5 h5 a6 h6 a7 h7 a8 h8 a9 h9 a10 h10 a11 h11 a12 h12 a13 h13 hc x0 x1 x2 x3 x4 x5 x6 o9 o10 o11 o12 = k0_pay1 (blk x0 x1 x2 x3 x4 x5 x6).dbs o12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc x0 x1 x2 x3 x4 x5 x6 o9 o10 o11 o12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

end

section
variable (c : Dev nD) (i : grid0.Coords)
  (a1 : Memref sig .tc .vmem S512x256 .f32) (h1 : a1.IsWhole)
  (a2 : Memref sig .tc .vmem S512x256 .f32) (h2 : a2.IsWhole)
  (a3 : Memref sig .tc .vmem S512x256 .f32) (h3 : a3.IsWhole)
  (a4 : Memref sig .tc .vmem S1x256 .f32) (h4 : a4.IsWhole)
  (a5 : Memref sig .tc .vmem S1x256 .f32) (h5 : a5.IsWhole)
  (a6 : Memref sig .tc .vmem S4x128x128 .f32) (h6 : a6.IsWhole)
  (a7 : Memref sig .tc .vmem S128x128 .f32) (h7 : a7.IsWhole)
  (a8 : Memref sig .tc .vmem S512x256 .bf16) (h8 : a8.IsWhole)
  (a9 : Memref sig .tc .vmem S512x256 .bf16) (h9 : a9.IsWhole)
  (a10 : Memref sig .tc .vmem S1x256 .f32) (h10 : a10.IsWhole)
  (a11 : Memref sig .tc .vmem S1x256 .f32) (h11 : a11.IsWhole)
  (a12 : Memref sig .tc .vmem S4x128x128 .f32) (h12 : a12.IsWhole)
  (a13 : Memref sig .tc .vmem S128x128 .f32) (h13 : a13.IsWhole)
  (hc : cond0_0 i)
  (x0 x1 x2 : Vec Ideal S512x256 .f32) (x3 x4 : Vec Ideal S1x256 .f32) (x5 : Vec Ideal S4x128x128 .f32) (x6 : Vec Ideal S128x128 .f32)

/-- The first point's block of the gate's cotangent. -/
theorem out_A7 : out0_A_7 c i a1 h1 a2 h2 a3 h3 a4 h4 a5 h5 a6 h6 a7 h7 a8 h8 a9 h9 a10 h10 a11 h11 a12 h12 a13 h13 hc x0 x1 x2 x3 x4 x5 x6 = (blk x0 x1 x2 x3 x4 x5 x6).dpu := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- The first point's block of the value's cotangent. -/
theorem out_A8 : out0_A_8 c i a1 h1 a2 h2 a3 h3 a4 h4 a5 h5 a6 h6 a7 h7 a8 h8 a9 h9 a10 h10 a11 h11 a12 h12 a13 h13 hc x0 x1 x2 x3 x4 x5 x6 = (blk x0 x1 x2 x3 x4 x5 x6).dpv := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- The first point starts the scale's cotangent. -/
theorem out_A9 : out0_A_9 c i a1 h1 a2 h2 a3 h3 a4 h4 a5 h5 a6 h6 a7 h7 a8 h8 a9 h9 a10 h10 a11 h11 a12 h12 a13 h13 hc x0 x1 x2 x3 x4 x5 x6 = k0_pay131 (blk x0 x1 x2 x3 x4 x5 x6).dlw (k0_pay127 (F := Ideal)) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- The first point starts the shift's cotangent. -/
theorem out_A10 : out0_A_10 c i a1 h1 a2 h2 a3 h3 a4 h4 a5 h5 a6 h6 a7 h7 a8 h8 a9 h9 a10 h10 a11 h11 a12 h12 a13 h13 hc x0 x1 x2 x3 x4 x5 x6 = k0_pay132 (blk x0 x1 x2 x3 x4 x5 x6).dlb (k0_pay128 (F := Ideal)) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

/-- The first point starts the mixing matrices' cotangents. -/
theorem out_A11 (h : Fin 4) (t s : Fin 128) : out0_A_11 c i a1 h1 a2 h2 a3 h3 a4 h4 a5 h5 a6 h6 a7 h7 a8 h8 a9 h9 a10 h10 a11 h11 a12 h12 a13 h13 hc x0 x1 x2 x3 x4 x5 x6 (ix3 h t s) = 0 + (blk x0 x1 x2 x3 x4 x5 x6).dwAt h t s := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [canon_mat]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  match h with
  | 3 =>
    rw [if_pos (show (3 : Fin 4).val = 3 from rfl)]; pointwise [k0_pay136]
    rw [readCov_mat _ _ 3 _ 3 rfl]
    simp only [canon_mat, canon_all]
    rw [if_neg (show ¬ (3 : Fin 4).val = 2 by decide), if_neg (show ¬ (3 : Fin 4).val = 1 by decide), if_neg (show ¬ (3 : Fin 4).val = 0 by decide)]
    pointwise [k0_pay129]
    exact Blk.dw3_apply (blk x0 x1 x2 x3 x4 x5 x6) t s
  | 2 =>
    rw [if_neg (show ¬ (2 : Fin 4).val = 3 by decide), if_pos (show (2 : Fin 4).val = 2 from rfl)]; pointwise [k0_pay135]
    rw [readCov_mat _ _ 2 _ 2 rfl]
    simp only [canon_mat, canon_all]
    rw [if_neg (show ¬ (2 : Fin 4).val = 1 by decide), if_neg (show ¬ (2 : Fin 4).val = 0 by decide)]
    pointwise [k0_pay129]
    exact Blk.dw2_apply (blk x0 x1 x2 x3 x4 x5 x6) t s
  | 1 =>
    rw [if_neg (show ¬ (1 : Fin 4).val = 3 by decide), if_neg (show ¬ (1 : Fin 4).val = 2 by decide), if_pos (show (1 : Fin 4).val = 1 from rfl)]; pointwise [k0_pay134]
    rw [readCov_mat _ _ 1 _ 1 rfl]
    simp only [canon_mat, canon_all]
    rw [if_neg (show ¬ (1 : Fin 4).val = 0 by decide)]
    pointwise [k0_pay129]
    exact Blk.dw1_apply (blk x0 x1 x2 x3 x4 x5 x6) t s
  | 0 =>
    rw [if_neg (show ¬ (0 : Fin 4).val = 3 by decide), if_neg (show ¬ (0 : Fin 4).val = 2 by decide), if_neg (show ¬ (0 : Fin 4).val = 1 by decide), if_pos (show (0 : Fin 4).val = 0 from rfl)]; pointwise [k0_pay133]
    rw [readCov_mat _ _ 0 _ 0 rfl]
    simp only [canon_all]
    pointwise [k0_pay129]
    exact Blk.dw0_apply (blk x0 x1 x2 x3 x4 x5 x6) t s

/-- The first point starts the mixing shifts' cotangents. -/
theorem out_A12 : out0_A_12 c i a1 h1 a2 h2 a3 h3 a4 h4 a5 h5 a6 h6 a7 h7 a8 h8 a9 h9 a10 h10 a11 h11 a12 h12 a13 h13 hc x0 x1 x2 x3 x4 x5 x6 = k0_pay1 (blk x0 x1 x2 x3 x4 x5 x6).dbs (k0_pay130 (F := Ideal)) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S128x128) hz, View.readCov_unit_zero (S := S128x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S512x256) hz,
    View.ld_unit_zero (S := S1x256) hz, View.ld_unit_zero (S := S128x128) hz]
  rfl

end

end Cert.Sgu

end
-- ==== Proof.SguFold.lean ====
/- A point's blocks of the backward kernel in terms of the launch's arguments: its part of each gradient. -/
module

public import proofs.«01_k».proof.Proof.SguWhole
public import proofs.«01_k».proof.Proof.SguPoint
public import Idealize.ShloMosaic.Lib.StableHlo.RunRead

@[expose] public section

noncomputable section

namespace Cert.Sgu

open Cert.KernelIdeal Cert.KernelIdeal.Gen Idealize.ShloMosaic Idealize.ShloMosaic.TcCoe Idealize.SL.Sem
open scoped BigOperators

/-- The arguments as rows, matrices and shifts. -/
def args (p : Vec Ideal S8192x3584 .f32) (d : Vec Ideal S8192x1024 .f32) (w b : Vec Ideal S256 .f32)
    (W : Vec Ideal S4x128x128 .f32) (s : Vec Ideal S4x128 .f32) : Args where
  pu r j := p (ix2 r ⟨j.val, by omega⟩)
  pv r j := p (ix2 r ⟨256 + j.val, by omega⟩)
  dy r j := d (ix2 r ⟨j.val, by omega⟩)
  w j := w (ix1 j)
  b j := b (ix1 j)
  W h t s := W (ix3 h t s)
  S h t := s (ix2 h t)

variable (m : (ℓ : Loc nD τ sig) → Buf (Elt Ideal) ℓ)

/-- The launch's arguments. -/
def mArgs (c : Dev nD) : Args :=
  args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The blocks of point `t`. -/
def B (c : Dev nD) (t : Fin cfg0.N) : Blk :=
  blk (iblk m c 0 t) (iblk m c 1 t) (iblk m c 2 t) (iblk m c 3 t) (iblk m c 4 t) (iblk m c 5 t) (iblk m c 6 t)

/-! ### What the host code prepares -/

theorem V_v0 (c : Dev nD) : V m c main_v0 = broadcastInDim S1x256 ![1] bcast_S256_S1x256_1 (m ((c : Thread nD τ).loc main_arg2)) := by
  unfold V
  after_results
theorem V_v1 (c : Dev nD) : V m c main_v1 = broadcastInDim S1x256 ![1] bcast_S256_S1x256_1 (m ((c : Thread nD τ).loc main_arg3)) := by
  unfold V
  after_results
theorem V_v4 (c : Dev nD) : V m c main_v4 = concatenate S128x128 1
    [⟨S128x4, transpose S128x4 [1, 0] (m ((c : Thread nD τ).loc main_arg5)) transposes_S4x128_S128x4_1_0⟩,
     ⟨S128x124, broadcastInDim S128x124 ![] bcast_S_S128x124 (constant (F := Ideal) S_ .f32 0x00000000#32)⟩]
    concatenates_S128x4_S128x124_S128x128_d1 := by
  unfold V
  after_results

/-! ### A point's blocks -/

theorem i0 (t : Fin cfg0.N) : win0_0.index t 0 = t.val ∧ win0_0.index t 1 = 0 := by
  rcases fin_N0 t with rfl | rfl | rfl | rfl | rfl | rfl | rfl | rfl | rfl | rfl | rfl | rfl | rfl | rfl | rfl | rfl <;> decide
theorem i1 (t : Fin cfg0.N) : win0_1.index t 0 = t.val ∧ win0_1.index t 1 = 1 := by
  rcases fin_N0 t with rfl | rfl | rfl | rfl | rfl | rfl | rfl | rfl | rfl | rfl | rfl | rfl | rfl | rfl | rfl | rfl <;> decide
theorem i2 (t : Fin cfg0.N) : win0_2.index t 0 = t.val ∧ win0_2.index t 1 = 0 := by
  rcases fin_N0 t with rfl | rfl | rfl | rfl | rfl | rfl | rfl | rfl | rfl | rfl | rfl | rfl | rfl | rfl | rfl | rfl <;> decide
theorem i3 (t : Fin cfg0.N) : win0_3.index t 0 = 0 ∧ win0_3.index t 1 = 0 := by
  rcases fin_N0 t with rfl | rfl | rfl | rfl | rfl | rfl | rfl | rfl | rfl | rfl | rfl | rfl | rfl | rfl | rfl | rfl <;> decide
theorem i4 (t : Fin cfg0.N) : win0_4.index t 0 = 0 ∧ win0_4.index t 1 = 0 := by
  rcases fin_N0 t with rfl | rfl | rfl | rfl | rfl | rfl | rfl | rfl | rfl | rfl | rfl | rfl | rfl | rfl | rfl | rfl <;> decide
theorem i5 (t : Fin cfg0.N) : win0_5.index t 0 = 0 ∧ win0_5.index t 1 = 0 ∧ win0_5.index t 2 = 0 := by
  rcases fin_N0 t with rfl | rfl | rfl | rfl | rfl | rfl | rfl | rfl | rfl | rfl | rfl | rfl | rfl | rfl | rfl | rfl <;> decide
theorem i6 (t : Fin cfg0.N) : win0_6.index t 0 = 0 ∧ win0_6.index t 1 = 0 := by
  rcases fin_N0 t with rfl | rfl | rfl | rfl | rfl | rfl | rfl | rfl | rfl | rfl | rfl | rfl | rfl | rfl | rfl | rfl <;> decide
theorem i7 (t : Fin cfg0.N) : win0_7.index t 0 = t.val ∧ win0_7.index t 1 = 0 := by
  rcases fin_N0 t with rfl | rfl | rfl | rfl | rfl | rfl | rfl | rfl | rfl | rfl | rfl | rfl | rfl | rfl | rfl | rfl <;> decide
theorem i8 (t : Fin cfg0.N) : win0_8.index t 0 = t.val ∧ win0_8.index t 1 = 0 := by
  rcases fin_N0 t with rfl | rfl | rfl | rfl | rfl | rfl | rfl | rfl | rfl | rfl | rfl | rfl | rfl | rfl | rfl | rfl <;> decide

/-- A point as a number below sixteen. -/
def pt (t : Fin cfg0.N) : Fin 16 := ⟨t.val, by have := t.isLt; have : cfg0.N = 16 := N_0; omega⟩

theorem b0 (c : Dev nD) (t : Fin cfg0.N) (r : Fin 512) (j : Fin 256) :
    (iblk m c 0 t : Vec Ideal S512x256 .f32) (ix2 r j)
      = m ((c : Thread nD τ).loc main_arg0) (ix2 ⟨512 * (pt t).val + r.val, by omega⟩ ⟨j.val, by omega⟩) := by
  unfold iblk
  rw [View.read_apply]
  show V m c main_arg0 _ = _
  rw [V_main_arg0]
  congr 1
  funext a
  apply Fin.ext
  match a with
  | ⟨0, _⟩ => show win0_0.index t 0 * 512 + 1 * r.val = 512 * t.val + r.val; rw [(i0 t).1]; omega
  | ⟨1, _⟩ => show win0_0.index t 1 * 256 + 1 * j.val = j.val; rw [(i0 t).2]; omega
theorem b1 (c : Dev nD) (t : Fin cfg0.N) (r : Fin 512) (j : Fin 256) :
    (iblk m c 1 t : Vec Ideal S512x256 .f32) (ix2 r j)
      = m ((c : Thread nD τ).loc main_arg0) (ix2 ⟨512 * (pt t).val + r.val, by omega⟩ ⟨256 + j.val, by omega⟩) := by
  unfold iblk
  rw [View.read_apply]
  show V m c main_arg0 _ = _
  rw [V_main_arg0]
  congr 1
  funext a
  apply Fin.ext
  match a with
  | ⟨0, _⟩ => show win0_1.index t 0 * 512 + 1 * r.val = 512 * t.val + r.val; rw [(i1 t).1]; omega
  | ⟨1, _⟩ => show win0_1.index t 1 * 256 + 1 * j.val = 256 + j.val; rw [(i1 t).2]; omega
theorem b2 (c : Dev nD) (t : Fin cfg0.N) (r : Fin 512) (j : Fin 256) :
    (iblk m c 2 t : Vec Ideal S512x256 .f32) (ix2 r j)
      = m ((c : Thread nD τ).loc main_arg1) (ix2 ⟨512 * (pt t).val + r.val, by omega⟩ ⟨j.val, by omega⟩) := by
  unfold iblk
  rw [View.read_apply]
  show V m c main_arg1 _ = _
  rw [V_main_arg1]
  congr 1
  funext a
  apply Fin.ext
  match a with
  | ⟨0, _⟩ => show win0_2.index t 0 * 512 + 1 * r.val = 512 * t.val + r.val; rw [(i2 t).1]; omega
  | ⟨1, _⟩ => show win0_2.index t 1 * 256 + 1 * j.val = j.val; rw [(i2 t).2]; omega
theorem b3 (c : Dev nD) (t : Fin cfg0.N) (j : Fin 256) :
    (iblk m c 3 t : Vec Ideal S1x256 .f32) (ix2 0 j) = m ((c : Thread nD τ).loc main_arg2) (ix1 j) := by
  unfold iblk
  rw [View.read_apply]
  have e : ((cfg0.win 3).blk t).view.emb (ix2 0 j) = (ix2 0 j : S1x256.Idx) := by
    funext a
    apply Fin.ext
    match a with
    | ⟨0, _⟩ => show win0_3.index t 0 * 1 + 1 * 0 = 0; rw [(i3 t).1]
    | ⟨1, _⟩ => show win0_3.index t 1 * 256 + 1 * j.val = j.val; rw [(i3 t).2]; omega
  show V m c main_v0 _ = _
  rw [V_v0]
  refine (congrArg _ e).trans ?_
  pointwise []
theorem b4 (c : Dev nD) (t : Fin cfg0.N) (j : Fin 256) :
    (iblk m c 4 t : Vec Ideal S1x256 .f32) (ix2 0 j) = m ((c : Thread nD τ).loc main_arg3) (ix1 j) := by
  unfold iblk
  rw [View.read_apply]
  have e : ((cfg0.win 4).blk t).view.emb (ix2 0 j) = (ix2 0 j : S1x256.Idx) := by
    funext a
    apply Fin.ext
    match a with
    | ⟨0, _⟩ => show win0_4.index t 0 * 1 + 1 * 0 = 0; rw [(i4 t).1]
    | ⟨1, _⟩ => show win0_4.index t 1 * 256 + 1 * j.val = j.val; rw [(i4 t).2]; omega
  show V m c main_v1 _ = _
  rw [V_v1]
  refine (congrArg _ e).trans ?_
  pointwise []
theorem b5 (c : Dev nD) (t : Fin cfg0.N) (h : Fin 4) (x s : Fin 128) :
    (iblk m c 5 t : Vec Ideal S4x128x128 .f32) (ix3 h x s) = m ((c : Thread nD τ).loc main_arg4) (ix3 h x s) := by
  unfold iblk
  rw [View.read_apply]
  show V m c main_arg4 _ = _
  rw [V_main_arg4]
  congr 1
  funext a
  apply Fin.ext
  match a with
  | ⟨0, _⟩ => show win0_5.index t 0 * 4 + 1 * h.val = h.val; rw [(i5 t).1]; omega
  | ⟨1, _⟩ => show win0_5.index t 1 * 128 + 1 * x.val = x.val; rw [(i5 t).2.1]; omega
  | ⟨2, _⟩ => show win0_5.index t 2 * 128 + 1 * s.val = s.val; rw [(i5 t).2.2]; omega
theorem b6 (c : Dev nD) (t : Fin cfg0.N) (x y : Fin 128) :
    (iblk m c 6 t : Vec Ideal S128x128 .f32) (ix2 x y)
      = if h : y.val < 4 then (m ((c : Thread nD τ).loc main_arg5) : Vec Ideal S4x128 .f32) (ix2 ⟨y.val, h⟩ x) else (0 : EReal) := by
  unfold iblk
  rw [View.read_apply]
  have e : ((cfg0.win 6).blk t).view.emb (ix2 x y) = (ix2 x y : S128x128.Idx) := by
    funext a
    apply Fin.ext
    match a with
    | ⟨0, _⟩ => show win0_6.index t 0 * 128 + 1 * x.val = x.val; rw [(i6 t).1]; omega
    | ⟨1, _⟩ => show win0_6.index t 1 * 128 + 1 * y.val = y.val; rw [(i6 t).2]; omega
  show V m c main_v4 _ = _
  rw [V_v4]
  refine (congrArg _ e).trans ?_
  pointwise []

/-! ### A point's chunks -/

theorem idx_row (k : Fin 16) (q : Fin 4) (s : Fin 128) (h : 512 * k.val + (Blk.at_ q s).val < 8192) :
    (⟨512 * k.val + (Blk.at_ q s).val, h⟩ : Fin 8192) = row (ch k q) s :=
  Fin.ext (by simp only [Blk.at_, row, ch]; omega)

theorem B_U (c : Dev nD) (t : Fin cfg0.N) (q : Fin 4) : (B m c t).U q = (mArgs m c).U (ch (pt t) q) := by
  funext s j
  refine (b0 m c t (Blk.at_ q s) j).trans ?_
  rw [idx_row]
  rfl
theorem B_pr (c : Dev nD) (t : Fin cfg0.N) (q : Fin 4) (s : Fin 128) :
    (B m c t).pr (Blk.at_ q s) = (mArgs m c).pv (row (ch (pt t) q) s) := by
  funext j
  refine (b1 m c t (Blk.at_ q s) j).trans ?_
  rw [idx_row]
  rfl
theorem B_Y (c : Dev nD) (t : Fin cfg0.N) (q : Fin 4) : (B m c t).Y q = (mArgs m c).Y (ch (pt t) q) := by
  funext s j
  refine (b2 m c t (Blk.at_ q s) j).trans ?_
  rw [idx_row]
  rfl
theorem B_lw (c : Dev nD) (t : Fin cfg0.N) : (B m c t).lw = (mArgs m c).w := by
  funext j
  refine Eq.trans ?_ (b3 m c t j)
  show k0_pay2 (F := Ideal) (iblk m c 3 t) (ix2 0 j) = _
  pointwise [k0_pay2]
theorem B_lb (c : Dev nD) (t : Fin cfg0.N) : (B m c t).lb = (mArgs m c).b := by
  funext j
  refine Eq.trans ?_ (b4 m c t j)
  show k0_pay3 (F := Ideal) (iblk m c 4 t) (ix2 0 j) = _
  pointwise [k0_pay3]
theorem B_W (c : Dev nD) (t : Fin cfg0.N) : (B m c t).W = (mArgs m c).W := by
  funext h x s
  refine Eq.trans ?_ (b5 m c t h x s)
  match h with
  | 0 => show k0_pay4 (F := Ideal) (View.ld (iblk m c 5 t : Vec Ideal S4x128x128 .f32) (Rect.unit ![0, 0, 0] ![1, 128, 128] inb_S4x128x128_S1x128x128_0_0_0)) (ix2 x s) = _; pointwise [k0_pay4]
  | 1 => show k0_pay5 (F := Ideal) (View.ld (iblk m c 5 t : Vec Ideal S4x128x128 .f32) (Rect.unit ![1, 0, 0] ![1, 128, 128] inb_S4x128x128_S1x128x128_1_0_0)) (ix2 x s) = _; pointwise [k0_pay5]
  | 2 => show k0_pay6 (F := Ideal) (View.ld (iblk m c 5 t : Vec Ideal S4x128x128 .f32) (Rect.unit ![2, 0, 0] ![1, 128, 128] inb_S4x128x128_S1x128x128_2_0_0)) (ix2 x s) = _; pointwise [k0_pay6]
  | 3 => show k0_pay7 (F := Ideal) (View.ld (iblk m c 5 t : Vec Ideal S4x128x128 .f32) (Rect.unit ![3, 0, 0] ![1, 128, 128] inb_S4x128x128_S1x128x128_3_0_0)) (ix2 x s) = _; pointwise [k0_pay7]
theorem B_bs (c : Dev nD) (t : Fin cfg0.N) (x y : Fin 128) :
    (B m c t).bs (ix2 x y) = if h : y.val < 4 then (mArgs m c).S ⟨y.val, h⟩ x else 0 := by
  refine Eq.trans ?_ (b6 m c t x y)
  show k0_pay8 (F := Ideal) (iblk m c 6 t) (ix2 x y) = _
  pointwise [k0_pay8]
theorem B_S (c : Dev nD) (t : Fin cfg0.N) : (B m c t).S = (mArgs m c).S := by
  funext h x
  exact (B_bs m c t x ⟨h.val, by omega⟩).trans (dif_pos h.isLt)
theorem B_V (c : Dev nD) (t : Fin cfg0.N) (q : Fin 4) : (B m c t).V q = (mArgs m c).V (ch (pt t) q) := by
  funext s
  show vn (B m c t).lw (B m c t).lb ((B m c t).pr (Blk.at_ q s)) = _
  rw [B_lw, B_lb, B_pr]
  rfl
theorem B_G (c : Dev nD) (t : Fin cfg0.N) (q : Fin 4) : (B m c t).G q = (mArgs m c).G (ch (pt t) q) := by
  show gate ((B m c t).U q) ((B m c t).Y q) = _
  rw [B_U, B_Y]
  rfl

/-- What the claim asks of the arguments: finite mixing shifts, and a finite gated cotangent. -/
structure Fine (A : Args) : Prop where
  S : ∀ h t, Fin' (A.S h t)
  G : ∀ C t j, Fin' (A.G C t j)

theorem fin_add {x y : EReal} (hx : Fin' x) (hy : Fin' y) : Fin' (x + y) := by
  obtain ⟨r, rfl⟩ := fin_coe hx
  obtain ⟨s, rfl⟩ := fin_coe hy
  rw [← EReal.coe_add]
  exact ⟨EReal.coe_ne_bot _, EReal.coe_ne_top _⟩
theorem fin_zero : Fin' (0 : EReal) := ⟨EReal.zero_ne_bot, EReal.zero_ne_top⟩

variable {m}
theorem hbs {c : Dev nD} (hf : Fine (mArgs m c)) (t : Fin cfg0.N) (x y : Fin 128) : Fin' ((B m c t).bs (ix2 x y)) := by
  rw [B_bs]
  split
  · exact hf.S _ _
  · exact fin_zero

/-- A point's block of the gate's gradient. -/
theorem p_gu {c : Dev nD} (hf : Fine (mArgs m c)) (t : Fin cfg0.N) (q : Fin 4) (s : Fin 128) (j : Fin 256) :
    (B m c t).dpu (ix2 (Blk.at_ q s) j) = (mArgs m c).gu (ch (pt t) q) s j := by
  rw [Blk.dpu_apply _ (hbs hf t), B_U, B_Y, B_W, B_S, B_V]
  rfl
variable (m)
/-- A point's block of the value's gradient. -/
theorem p_gv (c : Dev nD) (t : Fin cfg0.N) (q : Fin 4) (s : Fin 128) (j : Fin 256) :
    (B m c t).dpv (ix2 (Blk.at_ q s) j) = (mArgs m c).gv (ch (pt t) q) s j := by
  rw [Blk.dpv_apply, B_lw, B_pr, B_W, B_G]
  rfl
/-- A point's part of the scale's gradient. -/
theorem p_glw (c : Dev nD) (t : Fin cfg0.N) (j : Fin 256) :
    (B m c t).dlw (ix2 0 j) = ∑ q, ∑ s, xh ((mArgs m c).pv (row (ch (pt t) q) s)) j * dmix (mArgs m c).W ((mArgs m c).G (ch (pt t) q)) s j := by
  rw [Blk.dlw_apply]
  simp only [B_pr, B_W, B_G]
/-- A point's part of the shift's gradient. -/
theorem p_glb (c : Dev nD) (t : Fin cfg0.N) (j : Fin 256) :
    (B m c t).dlb (ix2 0 j) = ∑ q, ∑ s, dmix (mArgs m c).W ((mArgs m c).G (ch (pt t) q)) s j := by
  rw [Blk.dlb_apply]
  simp only [B_W, B_G]
/-- A point's part of the mixing matrices' gradients. -/
theorem p_gW (c : Dev nD) (t : Fin cfg0.N) (h : Fin 4) (x s : Fin 128) :
    (B m c t).dwAt h x s = if s ≤ x then ∑ q, dws ((mArgs m c).G (ch (pt t) q)) ((mArgs m c).V (ch (pt t) q)) h x s else 0 := by
  unfold Blk.dwAt
  simp only [B_G, B_V]
  split
  · rw [Fin.sum_univ_four]; ac_rfl
  · rfl
variable {m}
/-- A point's part of the mixing shifts' gradients. -/
theorem p_gS {c : Dev nD} (hf : Fine (mArgs m c)) (t : Fin cfg0.N) (x y : Fin 128) :
    (B m c t).dbs (ix2 x y) = if h : y.val < 4 then ∑ q, dbs ((mArgs m c).G (ch (pt t) q)) ⟨y.val, h⟩ x else 0 := by
  rw [Blk.dbs_apply]
  · unfold Blk.dbAt
    simp only [B_G]
    split
    · rw [Fin.sum_univ_four]
      unfold dbs
      simp only [← Finset.sum_add_distrib]
      exact Finset.sum_congr rfl fun d _ => by ac_rfl
    · rfl
  · intro x j
    simp only [B_G]
    exact fin_add (fin_add (fin_add (hf.G _ _ _) (hf.G _ _ _)) (hf.G _ _ _)) (hf.G _ _ _)

end Cert.Sgu

end
-- ==== Proof.SguSum.lean ====
/- The backward kernel's six results over the extended reals: the gradients of the whole arrays.  The first two are
   written a block a point; the other four are sums a point adds its part to. -/
module

public import proofs.«01_k».proof.Proof.SguFold

@[expose] public section

noncomputable section

namespace Cert.Sgu

open Cert.KernelIdeal Cert.KernelIdeal.Gen Idealize.ShloMosaic Idealize.ShloMosaic.TcCoe Idealize.SL.Sem
open scoped BigOperators

variable {m : (ℓ : Loc nD τ sig) → Buf (Elt Ideal) ℓ}

/-! ### The sums over the points -/

variable (m)

/-- The point numbered `k`. -/
def nth (k : ℕ) (h : k < cfg0.N) : Fin cfg0.N := ⟨k, h⟩

/-- The sum of a point's parts up to point `n`. -/
def upTo (f : Fin cfg0.N → EReal) : (n : ℕ) → n < cfg0.N → EReal
  | 0, h => f ⟨0, h⟩
  | n + 1, h => upTo f n (Nat.lt_of_succ_lt h) + f ⟨n + 1, h⟩

theorem upTo_eq (f : Fin cfg0.N → EReal) : ∀ (n : ℕ) (h : n < cfg0.N), upTo f n h = ∑ k : Fin (n + 1), f ⟨k.val, by omega⟩
  | 0, h => (Fin.sum_univ_one (fun k : Fin 1 => f ⟨k.val, by omega⟩)).symm
  | n + 1, h => by
    rw [Fin.sum_univ_castSucc]
    exact congrArg (· + f ⟨n + 1, h⟩) (upTo_eq f n _)

/-- Up to the last point, all. -/
theorem upTo_last (f : Fin cfg0.N → EReal) (g : Fin 16 → EReal) (e : ∀ t, f t = g (pt t)) (h : 15 < cfg0.N) :
    upTo f 15 h = ∑ k, g k := by
  rw [upTo_eq]
  exact Finset.sum_congr rfl fun k _ => e _

/-- The first point's contents of the scale's gradient's buffer. -/
theorem o9_0 (c : Dev nD) (h : 0 < cfg0.N) : (outsAt0 m c 0 h).2.2.1 = k0_pay131 (B m c ⟨0, h⟩).dlw (k0_pay127 (F := Ideal)) := by
  show (outsAt0 m c (⟨0, h⟩ : Fin cfg0.N).val (⟨0, h⟩ : Fin cfg0.N).isLt).2.2.1 = _
  rw [outsAt0_A m c ⟨0, h⟩ rfl]
  dsimp only
  rw [out_A9]
  rfl
/-- A later point's, over the point's before. -/
theorem o9_1 (c : Dev nD) (n : ℕ) (h : n + 1 < cfg0.N) : (outsAt0 m c (n + 1) h).2.2.1
    = k0_pay131 (B m c ⟨n + 1, h⟩).dlw (outsAt0 m c n (Nat.lt_of_succ_lt h)).2.2.1 := by
  have hN : cfg0.N = 16 := N_0
  have hB : ¬(⟨n + 1, h⟩ : Fin cfg0.N).val % 16 = 0 := by dsimp only; omega
  show (outsAt0 m c (⟨n + 1, h⟩ : Fin cfg0.N).val (⟨n + 1, h⟩ : Fin cfg0.N).isLt).2.2.1 = _
  rw [outsAt0_B m c ⟨n + 1, h⟩ hB]
  dsimp only
  rw [out_B9]
  rfl
/-- After point `n`, the scale's gradient's buffer holds the parts up to it. -/
theorem out9 (c : Dev nD) (j : Fin 256) : ∀ (n : ℕ) (h : n < cfg0.N),
    (outsAt0 m c n h).2.2.1 (ix2 0 j) = upTo (fun t => (B m c t).dlw (ix2 0 j)) n h
  | 0, h => by
    rw [o9_0]
    pointwise [k0_pay131, k0_pay127]
    rfl
  | n + 1, h => by
    rw [o9_1]
    pointwise [k0_pay131]
    exact congrArg (· + (B m c ⟨n + 1, h⟩).dlw (ix2 0 j)) (out9 c j n _)

/-- The first point's contents of the shift's gradient's buffer. -/
theorem o10_0 (c : Dev nD) (h : 0 < cfg0.N) : (outsAt0 m c 0 h).2.2.2.1 = k0_pay132 (B m c ⟨0, h⟩).dlb (k0_pay128 (F := Ideal)) := by
  show (outsAt0 m c (⟨0, h⟩ : Fin cfg0.N).val (⟨0, h⟩ : Fin cfg0.N).isLt).2.2.2.1 = _
  rw [outsAt0_A m c ⟨0, h⟩ rfl]
  dsimp only
  rw [out_A10]
  rfl
/-- A later point's, over the point's before. -/
theorem o10_1 (c : Dev nD) (n : ℕ) (h : n + 1 < cfg0.N) : (outsAt0 m c (n + 1) h).2.2.2.1
    = k0_pay132 (B m c ⟨n + 1, h⟩).dlb (outsAt0 m c n (Nat.lt_of_succ_lt h)).2.2.2.1 := by
  have hN : cfg0.N = 16 := N_0
  have hB : ¬(⟨n + 1, h⟩ : Fin cfg0.N).val % 16 = 0 := by dsimp only; omega
  show (outsAt0 m c (⟨n + 1, h⟩ : Fin cfg0.N).val (⟨n + 1, h⟩ : Fin cfg0.N).isLt).2.2.2.1 = _
  rw [outsAt0_B m c ⟨n + 1, h⟩ hB]
  dsimp only
  rw [out_B10]
  rfl
/-- After point `n`, the shift's gradient's buffer holds the parts up to it. -/
theorem out10 (c : Dev nD) (j : Fin 256) : ∀ (n : ℕ) (h : n < cfg0.N),
    (outsAt0 m c n h).2.2.2.1 (ix2 0 j) = upTo (fun t => (B m c t).dlb (ix2 0 j)) n h
  | 0, h => by
    rw [o10_0]
    pointwise [k0_pay132, k0_pay128]
    rfl
  | n + 1, h => by
    rw [o10_1]
    pointwise [k0_pay132]
    exact congrArg (· + (B m c ⟨n + 1, h⟩).dlb (ix2 0 j)) (out10 c j n _)

/-- After point `n`, the mixing matrices' gradients' buffer holds the parts up to it. -/
theorem out11 (c : Dev nD) (q : Fin 4) (x s : Fin 128) : ∀ (n : ℕ) (h : n < cfg0.N),
    (outsAt0 m c n h).2.2.2.2.1 (ix3 q x s) = upTo (fun t => (B m c t).dwAt q x s) n h
  | 0, h => by
    show (outsAt0 m c (⟨0, h⟩ : Fin cfg0.N).val (⟨0, h⟩ : Fin cfg0.N).isLt).2.2.2.2.1 _ = _
    rw [outsAt0_A m c ⟨0, h⟩ rfl]
    dsimp only
    rw [out_A11]
    exact zero_add _
  | n + 1, h => by
    have hN : cfg0.N = 16 := N_0
    have hB : ¬(⟨n + 1, h⟩ : Fin cfg0.N).val % 16 = 0 := by dsimp only; omega
    show (outsAt0 m c (⟨n + 1, h⟩ : Fin cfg0.N).val (⟨n + 1, h⟩ : Fin cfg0.N).isLt).2.2.2.2.1 _ = _
    rw [outsAt0_B m c ⟨n + 1, h⟩ hB]
    dsimp only
    rw [out_B11]
    exact congrArg (· + (B m c ⟨n + 1, h⟩).dwAt q x s) (out11 c q x s n _)

/-- The first point's contents of the mixing shifts' gradients' buffer. -/
theorem o12_0 (c : Dev nD) (h : 0 < cfg0.N) : (outsAt0 m c 0 h).2.2.2.2.2 = k0_pay1 (B m c ⟨0, h⟩).dbs (k0_pay130 (F := Ideal)) := by
  show (outsAt0 m c (⟨0, h⟩ : Fin cfg0.N).val (⟨0, h⟩ : Fin cfg0.N).isLt).2.2.2.2.2 = _
  rw [outsAt0_A m c ⟨0, h⟩ rfl]
  dsimp only
  rw [out_A12]
  rfl
/-- A later point's, over the point's before. -/
theorem o12_1 (c : Dev nD) (n : ℕ) (h : n + 1 < cfg0.N) : (outsAt0 m c (n + 1) h).2.2.2.2.2
    = k0_pay1 (B m c ⟨n + 1, h⟩).dbs (outsAt0 m c n (Nat.lt_of_succ_lt h)).2.2.2.2.2 := by
  have hN : cfg0.N = 16 := N_0
  have hB : ¬(⟨n + 1, h⟩ : Fin cfg0.N).val % 16 = 0 := by dsimp only; omega
  show (outsAt0 m c (⟨n + 1, h⟩ : Fin cfg0.N).val (⟨n + 1, h⟩ : Fin cfg0.N).isLt).2.2.2.2.2 = _
  rw [outsAt0_B m c ⟨n + 1, h⟩ hB]
  dsimp only
  rw [out_B12]
  rfl
/-- After point `n`, the mixing shifts' gradients' buffer holds the parts up to it. -/
theorem out12 (c : Dev nD) (x y : Fin 128) : ∀ (n : ℕ) (h : n < cfg0.N),
    (outsAt0 m c n h).2.2.2.2.2 (ix2 x y) = upTo (fun t => (B m c t).dbs (ix2 x y)) n h
  | 0, h => by
    rw [o12_0]
    pointwise [k0_pay1, k0_pay130]
    rfl
  | n + 1, h => by
    rw [o12_1]
    pointwise [k0_pay1]
    exact congrArg (· + (B m c ⟨n + 1, h⟩).dbs (ix2 x y)) (out12 c x y n _)

theorem h15 : 15 < cfg0.N := by rw [show cfg0.N = 16 from N_0]; decide

theorem sum9 (c : Dev nD) (j : Fin 256) : (outsAt0 m c 15 h15).2.2.1 (ix2 0 j) = (mArgs m c).glw j := by
  rw [out9, upTo_last _ (fun k => ∑ q, ∑ s, xh ((mArgs m c).pv (row (ch k q) s)) j * dmix (mArgs m c).W ((mArgs m c).G (ch k q)) s j) (fun t => p_glw m c t j)]
  exact (sum_ch (fun C => ∑ s, xh ((mArgs m c).pv (row C s)) j * dmix (mArgs m c).W ((mArgs m c).G C) s j)).symm
theorem sum10 (c : Dev nD) (j : Fin 256) : (outsAt0 m c 15 h15).2.2.2.1 (ix2 0 j) = (mArgs m c).glb j := by
  rw [out10, upTo_last _ (fun k => ∑ q, ∑ s, dmix (mArgs m c).W ((mArgs m c).G (ch k q)) s j) (fun t => p_glb m c t j)]
  exact (sum_ch (fun C => ∑ s, dmix (mArgs m c).W ((mArgs m c).G C) s j)).symm
theorem sum11 (c : Dev nD) (h : Fin 4) (x s : Fin 128) : (outsAt0 m c 15 h15).2.2.2.2.1 (ix3 h x s) = (mArgs m c).gW h x s := by
  rw [out11, upTo_last _ (fun k => if s ≤ x then ∑ q, dws ((mArgs m c).G (ch k q)) ((mArgs m c).V (ch k q)) h x s else 0) (fun t => p_gW m c t h x s)]
  unfold Args.gW
  split
  · exact (sum_ch (fun C => dws ((mArgs m c).G C) ((mArgs m c).V C) h x s)).symm
  · exact Finset.sum_const_zero
variable {m}
theorem sum12 {c : Dev nD} (hf : Fine (mArgs m c)) (x y : Fin 128) : (outsAt0 m c 15 h15).2.2.2.2.2 (ix2 x y) = (mArgs m c).gS' x y := by
  rw [out12, upTo_last _ (fun k => if h : y.val < 4 then ∑ q, dbs ((mArgs m c).G (ch k q)) ⟨y.val, h⟩ x else 0) (fun t => p_gS hf t x y)]
  unfold Args.gS'
  split
  · next h => exact (sum_ch (fun C => dbs ((mArgs m c).G C) ⟨y.val, h⟩ x)).symm
  · exact Finset.sum_const_zero

variable (m)

/-! ### The arrays -/

/-- The one write-back of window 9, at the last point, writes what the buffer then holds: its block is the array. -/
theorem flushed_9 (c : Dev nD) (t : Fin cfg0.N) (hf : (cfg0.win 9).flush t = true) :
    (dats m 0 c).flushed 9 t = ((cfg0.win 9).blk t).view.read (Elt Ideal) ((outsAt0 m c 15 h15).2.2.1 : Buf (Elt Ideal) ((c : Thread nD τ).loc main_v5_2)) := by
  have hN : cfg0.N = 16 := N_0
  have h3 : t.val = 15 := by have := (flush0_9 t).mp hf; have := t.isLt; omega
  obtain rfl : t = t0_15 := Fin.ext h3
  show (cfg0.win 9).cut (grid0.coords t0_15) ((dats m 0 c).after 9 t0_15) = _
  rw [after0_9]
  have hz' : (fun a => win0_9.index t0_15 a * main_v5_2.ty.shape.size a) = fun _ => 0 := funext fun a => by fin_cases a <;> decide
  exact (Memref.read_access_unit_zero (Elt Ideal) main_v5_2 hz' (fun a => by rw [congrFun hz' a]; simp) _).symm
/-- So that is what the array ends holding. -/
theorem final_9 (c : Dev nD) : (dats m 0 c).arrAt 9 cfg0.N = (outsAt0 m c 15 h15).2.2.1 :=
  (dats m 0 c).arrAt_eq_of_cover 9 ((outsAt0 m c 15 h15).2.2.1 : Buf (Elt Ideal) ((c : Thread nD τ).loc main_v5_2)) (flushed_9 m c) fun i =>
    ⟨t0_15, (flush0_9 t0_15).mpr rfl, by
      show i ∈ ((View.whole main_v5_2).slice (win0_9.rect t0_15)).set
      rw [View.set_slice_whole, Rect.mem_set_unit]
      intro a
      have h0 : (i 0 : Nat) < 1 := (i 0).isLt
      have h1 : (i 1 : Nat) < 256 := (i 1).isLt
      match a with
      | ⟨0, _⟩ => show win0_9.index t0_15 0 * win0_9.size 0 ≤ (i 0 : Nat) ∧ (i 0 : Nat) < win0_9.index t0_15 0 * win0_9.size 0 + win0_9.xsize (grid0.coords t0_15) 0
                  rw [show win0_9.index t0_15 0 * win0_9.size 0 = 0 from by decide +kernel, show win0_9.xsize (grid0.coords t0_15) 0 = 1 from by decide +kernel]; omega
      | ⟨1, _⟩ => show win0_9.index t0_15 1 * win0_9.size 1 ≤ (i 1 : Nat) ∧ (i 1 : Nat) < win0_9.index t0_15 1 * win0_9.size 1 + win0_9.xsize (grid0.coords t0_15) 1
                  rw [show win0_9.index t0_15 1 * win0_9.size 1 = 0 from by decide +kernel, show win0_9.xsize (grid0.coords t0_15) 1 = 256 from by decide +kernel]; omega⟩

/-- The one write-back of window 10, at the last point, writes what the buffer then holds: its block is the array. -/
theorem flushed_10 (c : Dev nD) (t : Fin cfg0.N) (hf : (cfg0.win 10).flush t = true) :
    (dats m 0 c).flushed 10 t = ((cfg0.win 10).blk t).view.read (Elt Ideal) ((outsAt0 m c 15 h15).2.2.2.1 : Buf (Elt Ideal) ((c : Thread nD τ).loc main_v5_3)) := by
  have hN : cfg0.N = 16 := N_0
  have h3 : t.val = 15 := by have := (flush0_10 t).mp hf; have := t.isLt; omega
  obtain rfl : t = t0_15 := Fin.ext h3
  show (cfg0.win 10).cut (grid0.coords t0_15) ((dats m 0 c).after 10 t0_15) = _
  rw [after0_10]
  have hz' : (fun a => win0_10.index t0_15 a * main_v5_3.ty.shape.size a) = fun _ => 0 := funext fun a => by fin_cases a <;> decide
  exact (Memref.read_access_unit_zero (Elt Ideal) main_v5_3 hz' (fun a => by rw [congrFun hz' a]; simp) _).symm
/-- So that is what the array ends holding. -/
theorem final_10 (c : Dev nD) : (dats m 0 c).arrAt 10 cfg0.N = (outsAt0 m c 15 h15).2.2.2.1 :=
  (dats m 0 c).arrAt_eq_of_cover 10 ((outsAt0 m c 15 h15).2.2.2.1 : Buf (Elt Ideal) ((c : Thread nD τ).loc main_v5_3)) (flushed_10 m c) fun i =>
    ⟨t0_15, (flush0_10 t0_15).mpr rfl, by
      show i ∈ ((View.whole main_v5_3).slice (win0_10.rect t0_15)).set
      rw [View.set_slice_whole, Rect.mem_set_unit]
      intro a
      have h0 : (i 0 : Nat) < 1 := (i 0).isLt
      have h1 : (i 1 : Nat) < 256 := (i 1).isLt
      match a with
      | ⟨0, _⟩ => show win0_10.index t0_15 0 * win0_10.size 0 ≤ (i 0 : Nat) ∧ (i 0 : Nat) < win0_10.index t0_15 0 * win0_10.size 0 + win0_10.xsize (grid0.coords t0_15) 0
                  rw [show win0_10.index t0_15 0 * win0_10.size 0 = 0 from by decide +kernel, show win0_10.xsize (grid0.coords t0_15) 0 = 1 from by decide +kernel]; omega
      | ⟨1, _⟩ => show win0_10.index t0_15 1 * win0_10.size 1 ≤ (i 1 : Nat) ∧ (i 1 : Nat) < win0_10.index t0_15 1 * win0_10.size 1 + win0_10.xsize (grid0.coords t0_15) 1
                  rw [show win0_10.index t0_15 1 * win0_10.size 1 = 0 from by decide +kernel, show win0_10.xsize (grid0.coords t0_15) 1 = 256 from by decide +kernel]; omega⟩

/-- The one write-back of window 11, at the last point, writes what the buffer then holds: its block is the array. -/
theorem flushed_11 (c : Dev nD) (t : Fin cfg0.N) (hf : (cfg0.win 11).flush t = true) :
    (dats m 0 c).flushed 11 t = ((cfg0.win 11).blk t).view.read (Elt Ideal) ((outsAt0 m c 15 h15).2.2.2.2.1 : Buf (Elt Ideal) ((c : Thread nD τ).loc main_v5_4)) := by
  have hN : cfg0.N = 16 := N_0
  have h3 : t.val = 15 := by have := (flush0_11 t).mp hf; have := t.isLt; omega
  obtain rfl : t = t0_15 := Fin.ext h3
  show (cfg0.win 11).cut (grid0.coords t0_15) ((dats m 0 c).after 11 t0_15) = _
  rw [after0_11]
  have hz' : (fun a => win0_11.index t0_15 a * main_v5_4.ty.shape.size a) = fun _ => 0 := funext fun a => by fin_cases a <;> decide
  exact (Memref.read_access_unit_zero (Elt Ideal) main_v5_4 hz' (fun a => by rw [congrFun hz' a]; simp) _).symm
/-- So that is what the array ends holding. -/
theorem final_11 (c : Dev nD) : (dats m 0 c).arrAt 11 cfg0.N = (outsAt0 m c 15 h15).2.2.2.2.1 :=
  (dats m 0 c).arrAt_eq_of_cover 11 ((outsAt0 m c 15 h15).2.2.2.2.1 : Buf (Elt Ideal) ((c : Thread nD τ).loc main_v5_4)) (flushed_11 m c) fun i =>
    ⟨t0_15, (flush0_11 t0_15).mpr rfl, by
      show i ∈ ((View.whole main_v5_4).slice (win0_11.rect t0_15)).set
      rw [View.set_slice_whole, Rect.mem_set_unit]
      intro a
      have h0 : (i 0 : Nat) < 4 := (i 0).isLt
      have h1 : (i 1 : Nat) < 128 := (i 1).isLt
      have h2 : (i 2 : Nat) < 128 := (i 2).isLt
      match a with
      | ⟨0, _⟩ => show win0_11.index t0_15 0 * win0_11.size 0 ≤ (i 0 : Nat) ∧ (i 0 : Nat) < win0_11.index t0_15 0 * win0_11.size 0 + win0_11.xsize (grid0.coords t0_15) 0
                  rw [show win0_11.index t0_15 0 * win0_11.size 0 = 0 from by decide +kernel, show win0_11.xsize (grid0.coords t0_15) 0 = 4 from by decide +kernel]; omega
      | ⟨1, _⟩ => show win0_11.index t0_15 1 * win0_11.size 1 ≤ (i 1 : Nat) ∧ (i 1 : Nat) < win0_11.index t0_15 1 * win0_11.size 1 + win0_11.xsize (grid0.coords t0_15) 1
                  rw [show win0_11.index t0_15 1 * win0_11.size 1 = 0 from by decide +kernel, show win0_11.xsize (grid0.coords t0_15) 1 = 128 from by decide +kernel]; omega
      | ⟨2, _⟩ => show win0_11.index t0_15 2 * win0_11.size 2 ≤ (i 2 : Nat) ∧ (i 2 : Nat) < win0_11.index t0_15 2 * win0_11.size 2 + win0_11.xsize (grid0.coords t0_15) 2
                  rw [show win0_11.index t0_15 2 * win0_11.size 2 = 0 from by decide +kernel, show win0_11.xsize (grid0.coords t0_15) 2 = 128 from by decide +kernel]; omega⟩

/-- The one write-back of window 12, at the last point, writes what the buffer then holds: its block is the array. -/
theorem flushed_12 (c : Dev nD) (t : Fin cfg0.N) (hf : (cfg0.win 12).flush t = true) :
    (dats m 0 c).flushed 12 t = ((cfg0.win 12).blk t).view.read (Elt Ideal) ((outsAt0 m c 15 h15).2.2.2.2.2 : Buf (Elt Ideal) ((c : Thread nD τ).loc main_v5_5)) := by
  have hN : cfg0.N = 16 := N_0
  have h3 : t.val = 15 := by have := (flush0_12 t).mp hf; have := t.isLt; omega
  obtain rfl : t = t0_15 := Fin.ext h3
  show (cfg0.win 12).cut (grid0.coords t0_15) ((dats m 0 c).after 12 t0_15) = _
  rw [after0_12]
  have hz' : (fun a => win0_12.index t0_15 a * main_v5_5.ty.shape.size a) = fun _ => 0 := funext fun a => by fin_cases a <;> decide
  exact (Memref.read_access_unit_zero (Elt Ideal) main_v5_5 hz' (fun a => by rw [congrFun hz' a]; simp) _).symm
/-- So that is what the array ends holding. -/
theorem final_12 (c : Dev nD) : (dats m 0 c).arrAt 12 cfg0.N = (outsAt0 m c 15 h15).2.2.2.2.2 :=
  (dats m 0 c).arrAt_eq_of_cover 12 ((outsAt0 m c 15 h15).2.2.2.2.2 : Buf (Elt Ideal) ((c : Thread nD τ).loc main_v5_5)) (flushed_12 m c) fun i =>
    ⟨t0_15, (flush0_12 t0_15).mpr rfl, by
      show i ∈ ((View.whole main_v5_5).slice (win0_12.rect t0_15)).set
      rw [View.set_slice_whole, Rect.mem_set_unit]
      intro a
      have h0 : (i 0 : Nat) < 128 := (i 0).isLt
      have h1 : (i 1 : Nat) < 128 := (i 1).isLt
      match a with
      | ⟨0, _⟩ => show win0_12.index t0_15 0 * win0_12.size 0 ≤ (i 0 : Nat) ∧ (i 0 : Nat) < win0_12.index t0_15 0 * win0_12.size 0 + win0_12.xsize (grid0.coords t0_15) 0
                  rw [show win0_12.index t0_15 0 * win0_12.size 0 = 0 from by decide +kernel, show win0_12.xsize (grid0.coords t0_15) 0 = 128 from by decide +kernel]; omega
      | ⟨1, _⟩ => show win0_12.index t0_15 1 * win0_12.size 1 ≤ (i 1 : Nat) ∧ (i 1 : Nat) < win0_12.index t0_15 1 * win0_12.size 1 + win0_12.xsize (grid0.coords t0_15) 1
                  rw [show win0_12.index t0_15 1 * win0_12.size 1 = 0 from by decide +kernel, show win0_12.xsize (grid0.coords t0_15) 1 = 128 from by decide +kernel]; omega⟩

/-- What a point leaves in window 7's buffer. -/
theorem out7 (c : Dev nD) (t : Fin cfg0.N) : (outsAt0 m c t.val t.isLt).1 = (B m c t).dpu := by
  by_cases h : t.val % 16 = 0
  · rw [outsAt0_A m c t h]
    dsimp only
    rw [out_A7]
    rfl
  · rw [outsAt0_B m c t h]
    dsimp only
    rw [out_B7]
    rfl
/-- A row of window 7's array, a point's. -/
theorem final_7 (c : Dev nD) (t : Fin cfg0.N) (r : Fin 512) (j : Fin 256) :
    (dats m 0 c).arrAt 7 cfg0.N (ix2 ⟨512 * (pt t).val + r.val, by omega⟩ j : S8192x256.Idx) = (B m c t).dpu (ix2 r j) := by
  have e := congrFun (Cert.KernelIdeal.Value.blocks7 m c t (flush0_7 t)) (ix2 r j : S512x256.Idx)
  rw [View.read_apply, Cert.KernelIdeal.Value.flushed7, out7] at e
  refine Eq.trans (congrArg _ ?_) e
  funext a
  apply Fin.ext
  match a with
  | ⟨0, _⟩ => show 512 * t.val + r.val = win0_7.index t 0 * 512 + 1 * r.val; rw [(i7 t).1]; omega
  | ⟨1, _⟩ => show j.val = win0_7.index t 1 * 256 + 1 * j.val; rw [(i7 t).2]; omega

/-- What a point leaves in window 8's buffer. -/
theorem out8 (c : Dev nD) (t : Fin cfg0.N) : (outsAt0 m c t.val t.isLt).2.1 = (B m c t).dpv := by
  by_cases h : t.val % 16 = 0
  · rw [outsAt0_A m c t h]
    dsimp only
    rw [out_A8]
    rfl
  · rw [outsAt0_B m c t h]
    dsimp only
    rw [out_B8]
    rfl
/-- A row of window 8's array, a point's. -/
theorem final_8 (c : Dev nD) (t : Fin cfg0.N) (r : Fin 512) (j : Fin 256) :
    (dats m 0 c).arrAt 8 cfg0.N (ix2 ⟨512 * (pt t).val + r.val, by omega⟩ j : S8192x256.Idx) = (B m c t).dpv (ix2 r j) := by
  have e := congrFun (Cert.KernelIdeal.Value.blocks8 m c t (flush0_8 t)) (ix2 r j : S512x256.Idx)
  rw [View.read_apply, Cert.KernelIdeal.Value.flushed8, out8] at e
  refine Eq.trans (congrArg _ ?_) e
  funext a
  apply Fin.ext
  match a with
  | ⟨0, _⟩ => show 512 * t.val + r.val = win0_8.index t 0 * 512 + 1 * r.val; rw [(i8 t).1]; omega
  | ⟨1, _⟩ => show j.val = win0_8.index t 1 * 256 + 1 * j.val; rw [(i8 t).2]; omega

/-- The point of a row. -/
def ptOf (r : Fin 8192) : Fin cfg0.N := ⟨r.val / 512, by rw [show cfg0.N = 16 from N_0]; omega⟩
theorem row_pt (r : Fin 8192) : (ix2 r : Fin 256 → S8192x256.Idx)
    = ix2 ⟨512 * (pt (ptOf r)).val + (Blk.at_ ⟨r.val / 128 % 4, Nat.mod_lt _ (by decide)⟩ (pos r)).val, by have := (Blk.at_ ⟨r.val / 128 % 4, Nat.mod_lt _ (by decide)⟩ (pos r)).isLt; omega⟩ :=
  congrArg _ (Fin.ext (by simp only [pt, ptOf, Blk.at_, pos]; omega))
theorem ch_pt (r : Fin 8192) : ch (pt (ptOf r)) ⟨r.val / 128 % 4, Nat.mod_lt _ (by decide)⟩ = chk r :=
  Fin.ext (by simp only [pt, ptOf, ch, chk]; omega)

variable {m}
/-- The first result: the gate's gradient. -/
theorem res7 {c : Dev nD} (hf : Fine (mArgs m c)) (r : Fin 8192) (j : Fin 256) :
    (dats m 0 c).arrAt 7 cfg0.N (ix2 r j : S8192x256.Idx) = (mArgs m c).gu (chk r) (pos r) j := by
  rw [row_pt, final_7, p_gu hf, ch_pt]
variable (m)
/-- The second: the value's gradient. -/
theorem res8 (c : Dev nD) (r : Fin 8192) (j : Fin 256) :
    (dats m 0 c).arrAt 8 cfg0.N (ix2 r j : S8192x256.Idx) = (mArgs m c).gv (chk r) (pos r) j := by
  rw [row_pt, final_8, p_gv, ch_pt]
/-- The third: the scale's gradient. -/
theorem res9 (c : Dev nD) (j : Fin 256) : (dats m 0 c).arrAt 9 cfg0.N (ix2 0 j : S1x256.Idx) = (mArgs m c).glw j := by
  rw [final_9, sum9]
/-- The fourth: the shift's gradient. -/
theorem res10 (c : Dev nD) (j : Fin 256) : (dats m 0 c).arrAt 10 cfg0.N (ix2 0 j : S1x256.Idx) = (mArgs m c).glb j := by
  rw [final_10, sum10]
/-- The fifth: the mixing matrices' gradients. -/
theorem res11 (c : Dev nD) (h : Fin 4) (x s : Fin 128) :
    (dats m 0 c).arrAt 11 cfg0.N (ix3 h x s : S4x128x128.Idx) = (mArgs m c).gW h x s := by
  rw [final_11, sum11]
variable {m}
/-- The sixth: the mixing shifts' gradients. -/
theorem res12 {c : Dev nD} (hf : Fine (mArgs m c)) (x y : Fin 128) :
    (dats m 0 c).arrAt 12 cfg0.N (ix2 x y : S128x128.Idx) = (mArgs m c).gS' x y := by
  rw [final_12, sum12 hf]

end Cert.Sgu

end
-- ==== Proof.SguRefRow.lean ====
/- The reference's operations on a row: the gelus, the normalization, and the sums the row's gradients take. -/
module

public import proofs.«01_k».proof.Proof.SguWhole
public import proofs.«01_k».proof.Proof.Gen.ReferenceIdeal.Read

@[expose] public section

noncomputable section

namespace Cert.Sgu.Ref

open Cert.ReferenceIdeal Cert.ReferenceIdeal.Gen Cert.ReferenceIdeal.Read Idealize.ShloMosaic
open scoped BigOperators

/-- A sum over several axes is the sum over the indices that are left the same, named by `e`. -/
theorem sum_axes {K : Type} [Fintype K] {s : Shape} {axes : List (Fin s.rank)} {t : Shape} (h : s.ReducesTo axes t)
    (x : s.Idx → EReal) (a : EReal) (j : t.Idx) (e : K → s.Idx) (g : s.Idx → K) (he : ∀ k, h.drop (e k) = j)
    (hg : ∀ k, g (e k) = k) (hi : ∀ i, h.drop i = j → e (g i) = i) :
    Ideal.hostReduceAdd h x a j = a + ∑ k, x (e k) := by
  unfold Ideal.hostReduceAdd
  refine congrArg (a + ·) (Finset.sum_nbij' g e (fun _ _ => Finset.mem_univ _)
    (fun k _ => Finset.mem_filter.2 ⟨Finset.mem_univ _, he k⟩) (fun i h' => hi i (Finset.mem_filter.1 h').2)
    (fun k _ => hg k) (fun i h' => ?_))
  rw [hi i (Finset.mem_filter.1 h').2]

variable (x0 : Vec Ideal S8192x3584 .f32) (x1 : Vec Ideal S8192x1024 .f32) (x2 x3 : Vec Ideal S256 .f32)
    (x4 : Vec Ideal S4x128x128 .f32) (x5 : Vec Ideal S4x128 .f32)

/-- The gate's rows. -/
abbrev pu : Fin 8192 → Row := fun r j => x0 (ix2 r ⟨j.val, by omega⟩)
/-- The value's rows. -/
abbrev pv : Fin 8192 → Row := fun r j => x0 (ix2 r ⟨256 + j.val, by omega⟩)
/-- The cotangent's rows. -/
abbrev dy : Fin 8192 → Row := fun r j => x1 (ix2 r ⟨j.val, by omega⟩)
/-- The scale or the shift. -/
abbrev vec (y : Vec Ideal S256 .f32) : Row := fun j => y (ix1 j)

theorem th_eq (x : EReal) : Ideal.tanh (cA * (x + cB * (x * x * x))) = th x := by unfold th; rw [mul_assoc x]

theorem v1 (r : Fin 8192) (j : Fin 256) : val_main_v1 (F := Ideal) x0 (ix3 0 r j) = pu x0 r j := by
  pointwise [val_main_v1, val_main_v0]
theorem v3 (r : Fin 8192) (j : Fin 256) : val_main_v3 (F := Ideal) x0 (ix3 0 r j) = pv x0 r j := by
  pointwise [val_main_v3, val_main_v2]
theorem v5 (r : Fin 8192) (j : Fin 256) : val_main_v5 (F := Ideal) x1 (ix3 0 r j) = dy x1 r j := by
  pointwise [val_main_v5, val_main_v4]
theorem v16 (r : Fin 8192) (j : Fin 256) : val_main_v16 (F := Ideal) x0 (ix3 0 r j) = th (pu x0 r j) := by
  pointwise [val_main_v16, val_main_v15, val_main_v14, val_main_cst_1, val_main_v13, val_main_v12, val_main_v11, val_main_cst_0, val_main_v7, val_main_v6, v1]
  exact th_eq _
theorem v37 (r : Fin 8192) (j : Fin 256) : val_main_v37 (F := Ideal) x0 (ix3 0 r j) = th (pv x0 r j) := by
  pointwise [val_main_v37, val_main_v36, val_main_v35, val_main_cst_8, val_main_v34, val_main_v33, val_main_v32, val_main_cst_7, val_main_v28, val_main_v27, v3]
  exact th_eq _
theorem v10 (r : Fin 8192) (j : Fin 256) : val_main_v10 (F := Ideal) x0 (ix3 0 r j) = c3 * (pu x0 r j * pu x0 r j) := by
  pointwise [val_main_v10, val_main_v9, val_main_cst, val_main_v8, v1]
  rfl
theorem v31 (r : Fin 8192) (j : Fin 256) : val_main_v31 (F := Ideal) x0 (ix3 0 r j) = c3 * (pv x0 r j * pv x0 r j) := by
  pointwise [val_main_v31, val_main_v30, val_main_cst_6, val_main_v29, v3]
  rfl
theorem v21 (r : Fin 8192) (j : Fin 256) :
    val_main_v21 (F := Ideal) x0 (ix3 0 r j) = (1 + th (pu x0 r j)) * (1 - th (pu x0 r j)) := by
  pointwise [val_main_v21, val_main_v20, val_main_v19, val_main_cst_3, val_main_v18, val_main_v17, val_main_cst_2, v16]
theorem v42 (r : Fin 8192) (j : Fin 256) :
    val_main_v42 (F := Ideal) x0 (ix3 0 r j) = (1 + th (pv x0 r j)) * (1 - th (pv x0 r j)) := by
  pointwise [val_main_v42, val_main_v41, val_main_v40, val_main_cst_10, val_main_v39, val_main_v38, val_main_cst_9, v37]
theorem v25 (r : Fin 8192) (j : Fin 256) : val_main_v25 (F := Ideal) x0 (ix3 0 r j) = hf (pu x0 r j) := by
  pointwise [val_main_v25, val_main_v24, val_main_cst_5, val_main_v23, val_main_v22, val_main_cst_4, v16]
  rfl
theorem v46 (r : Fin 8192) (j : Fin 256) : val_main_v46 (F := Ideal) x0 (ix3 0 r j) = hf (pv x0 r j) := by
  pointwise [val_main_v46, val_main_v45, val_main_cst_12, val_main_v44, val_main_v43, val_main_cst_11, v37]
  rfl
theorem v26 (r : Fin 8192) (j : Fin 256) : val_main_v26 (F := Ideal) x0 (ix3 0 r j) = gel (pu x0 r j) := by
  pointwise [val_main_v26, v1, v25]
  rfl
theorem v47 (r : Fin 8192) (j : Fin 256) : val_main_v47 (F := Ideal) x0 (ix3 0 r j) = gel (pv x0 r j) := by
  pointwise [val_main_v47, v3, v46]
  rfl
theorem v51 (r : Fin 8192) : val_main_v51 (F := Ideal) x0 (ix3 0 r 0) = mean (pv x0 r) := by
  pointwise [val_main_v51, val_main_v50, val_main_cst_14, val_main_v49, val_main_v48, val_main_cst_13, v47]
  rfl
theorem v53 (r : Fin 8192) (j : Fin 256) : val_main_v53 (F := Ideal) x0 (ix3 0 r j) = ctr (pv x0 r) j := by
  pointwise [val_main_v53, val_main_v52, v47, v51]
  rfl
theorem v62 (r : Fin 8192) (j : Fin 256) : val_main_v62 (F := Ideal) x0 (ix3 0 r j) = ctr (pv x0 r) j := by
  pointwise [val_main_v62, val_main_v61, v47, v51]
  rfl
theorem v56 (r : Fin 8192) (j : Fin 256) : val_main_v56 (F := Ideal) x0 (ix3 0 r j) = c2 * ctr (pv x0 r) j := by
  pointwise [val_main_v56, val_main_v55, val_main_cst_15, v53]
  rfl
theorem v64 (r : Fin 8192) : val_main_v64 (F := Ideal) x0 (ix3 0 r 0) = var (pv x0 r) := by
  pointwise [val_main_v64, val_main_v63, val_main_cst_18, val_main_v60, val_main_v59, val_main_cst_17, val_main_v58, val_main_v57, val_main_cst_16, val_main_v54, v53]
  rfl
theorem v65 (r : Fin 8192) : val_main_v65 (F := Ideal) x0 (ix3 0 r 0) = rs (pv x0 r) := by
  pointwise [val_main_v65, v64]
  rfl
theorem v68 (r : Fin 8192) :
    val_main_v68 (F := Ideal) x0 (ix3 0 r 0) = cN * Ideal.div (rs (pv x0 r)) (var (pv x0 r)) := by
  pointwise [val_main_v68, val_main_v67, val_main_cst_19, val_main_v66, v65, v64]
  rfl
theorem v70 (r : Fin 8192) (j : Fin 256) : val_main_v70 (F := Ideal) x0 (ix3 0 r j) = xh (pv x0 r) j := by
  pointwise [val_main_v70, val_main_v69, v62, v65]
  rfl
theorem v76 (r : Fin 8192) (j : Fin 256) :
    val_main_v76 (F := Ideal) x0 x2 x3 (ix3 0 r j) = vn (vec x2) (vec x3) (pv x0 r) j := by
  pointwise [val_main_v76, val_main_v75, val_main_v74, val_main_v73, val_main_v72, val_main_v71, v70]
  rfl

end Cert.Sgu.Ref

end
-- ==== Proof.SguRefMix.lean ====
/- The reference's operations on a chunk: the masked mixing matrices, the mixed values and their cotangents. -/
module

public import proofs.«01_k».proof.Proof.SguRefRow
public import Idealize.ShloMosaic.Lib.WordCmp

@[expose] public section

noncomputable section

namespace Cert.Sgu.Ref

open Cert.ReferenceIdeal Cert.ReferenceIdeal.Gen Cert.ReferenceIdeal.Read Idealize.ShloMosaic Idealize.ShloMosaic.WordCmp
open scoped BigOperators

variable (x0 : Vec Ideal S8192x3584 .f32) (x1 : Vec Ideal S8192x1024 .f32) (x2 x3 : Vec Ideal S256 .f32)
    (x4 : Vec Ideal S4x128x128 .f32) (x5 : Vec Ideal S4x128 .f32)

/-- The reference's arguments as rows, matrices and shifts. -/
abbrev A : Args where
  pu := pu x0
  pv := pv x0
  dy := dy x1
  w := vec x2
  b := vec x3
  W h t s := x4 (ix3 h t s)
  S h t := x5 (ix2 h t)

/-- The mask is the lower triangle. -/
theorem v79 (t s : Fin 128) : val_main_v79 (F := Ideal) (ix2 t s) = BitVec.ofBool (decide (s ≤ t)) := by
  rw [val_main_v79_apply, val_main_call0_v4_apply, val_main_call0_v2_apply]
  show Scalar.select (IntOp.cmpi .sge (BitVec.ofNat 32 t.val + 0#32) (BitVec.ofNat 32 s.val)) (1#1) (0#1) = _
  rw [BitVec.add_zero, cmpi_sge_ofNat (lt_of_lt_of_le t.isLt (by decide)) (lt_of_lt_of_le s.isLt (by decide))]
  by_cases h : s ≤ t
  · rw [decide_eq_true h, decide_eq_true (show s.val ≤ t.val from h)]; rfl
  · rw [decide_eq_false h, decide_eq_false (show ¬ s.val ≤ t.val from h)]; rfl
theorem v80_1 (h : Fin 4) (t s : Fin 128) :
    val_main_v80_1 (F := Ideal) (ix3 h t s) = BitVec.ofBool (decide (s ≤ t)) := by
  rw [val_main_v80_1_apply]
  exact v79 t s
/-- A choice by a word that is a truth value. -/
theorem sel (p : Prop) [Decidable p] (a b : EReal) : Scalar.select (BitVec.ofBool (decide p)) a b = if p then a else b := by
  by_cases h : p
  · rw [decide_eq_true h, if_pos h]; rfl
  · rw [decide_eq_false h, if_neg h]; rfl
theorem v80_0 (h : Fin 4) (t s : Fin 128) :
    val_main_v80_0 (F := Ideal) x4 (ix3 h t s) = tri (fun h t s => x4 (ix3 h t s)) h t s := by
  have z : val_main_call1_v2 (F := Ideal) (ix3 h t s) = 0 := by
    pointwise [val_main_call1_v2, val_main_call1_v0, val_main_cst_20]
    exact Ideal.ofBits_zero_f32
  rw [val_main_v80_0_apply, v80_1, z]
  exact sel _ _ _

theorem row_val (C : Fin 64) (t : Fin 128) : (row C t).val = 128 * C.val + t.val := rfl
theorem lane_val (h : Fin 4) (d : Fin 64) : (lane h d).val = 64 * h.val + d.val := rfl
theorem i77 (C : Fin 64) (t : Fin 128) (h : Fin 4) (d : Fin 64) :
    idx_main_v77 (ix5 0 C t h d) = ix3 0 (row C t) (lane h d) := by
  funext a
  apply Fin.ext
  match a with
  | ⟨0, _⟩ => rfl
  | ⟨1, _⟩ => show ((((0 * 64 + C.val) * 128 + t.val) * 4 + h.val) * 64 + d.val) / 256 % 8192 = 128 * C.val + t.val; omega
  | ⟨2, _⟩ => show ((((0 * 64 + C.val) * 128 + t.val) * 4 + h.val) * 64 + d.val) % 256 = 64 * h.val + d.val; omega
/-- A lane of its head. -/
def low (j : Fin 256) : Fin 64 := ⟨j.val % 64, Nat.mod_lt _ (by decide)⟩
theorem lane_low (j : Fin 256) : lane (hd j) (low j) = j := Fin.ext (by simp only [lane, hd, low]; omega)
theorem i87 (r : Fin 8192) (j : Fin 256) :
    idx_main_v87 (ix3 0 r j) = ix5 0 (chk r) (pos r) (hd j) (low j) := by
  have hr := r.isLt
  have hj := j.isLt
  funext a
  apply Fin.ext
  match a with
  | ⟨0, _⟩ => rfl
  | ⟨1, _⟩ => show ((0 * 8192 + r.val) * 256 + j.val) / 32768 % 64 = r.val / 128; omega
  | ⟨2, _⟩ => show ((0 * 8192 + r.val) * 256 + j.val) / 256 % 128 = r.val % 128; omega
  | ⟨3, _⟩ => show ((0 * 8192 + r.val) * 256 + j.val) / 64 % 4 = j.val / 64; omega
  | ⟨4, _⟩ => show ((0 * 8192 + r.val) * 256 + j.val) % 64 = j.val % 64; omega

theorem v77 (C : Fin 64) (t : Fin 128) (h : Fin 4) (d : Fin 64) :
    val_main_v77 (F := Ideal) x0 x2 x3 (ix5 0 C t h d) = (A x0 x1 x2 x3 x4 x5).V C t (lane h d) := by
  rw [val_main_v77_apply, i77, v76]
  rfl
theorem v81 (C : Fin 64) (t : Fin 128) (h : Fin 4) (d : Fin 64) :
    val_main_v81 (F := Ideal) x0 x2 x3 x4 (ix5 h 0 C d t)
      = ∑ s, tri (fun h t s => x4 (ix3 h t s)) h t s * (A x0 x1 x2 x3 x4 x5).V C s (lane h d) := by
  rw [val_main_v81_apply]
  refine Finset.sum_congr rfl fun s _ => ?_
  have el : lidx_main_v81 (ix5 h 0 C d t) s = ix5 0 C s h d := by
    funext a; match a with | ⟨0, _⟩ => rfl | ⟨1, _⟩ => rfl | ⟨2, _⟩ => rfl | ⟨3, _⟩ => rfl | ⟨4, _⟩ => rfl
  have er : ridx_main_v81 (ix5 h 0 C d t) s = ix3 h t s := by
    funext a; match a with | ⟨0, _⟩ => rfl | ⟨1, _⟩ => rfl | ⟨2, _⟩ => rfl
  rw [el, er, v77 x0 x1 x2 x3 x4 x5, v80_0]
  exact mul_comm _ _
theorem v85 (C : Fin 64) (t : Fin 128) (h : Fin 4) (d : Fin 64) :
    val_main_v85 (F := Ideal) x5 (ix5 0 C t h d) = x5 (ix2 h t) := by
  rw [val_main_v85_apply, val_main_v84_apply, val_main_v83_apply]
  refine congrArg x5 ?_
  funext a
  match a with | ⟨0, _⟩ => rfl | ⟨1, _⟩ => rfl
/-- The mixed values. -/
theorem v87 (r : Fin 8192) (j : Fin 256) :
    val_main_v87 (F := Ideal) x0 x2 x3 x4 x5 (ix3 0 r j)
      = mix (A x0 x1 x2 x3 x4 x5).W (A x0 x1 x2 x3 x4 x5).S ((A x0 x1 x2 x3 x4 x5).V (chk r)) (pos r) j := by
  rw [val_main_v87_apply, i87, val_main_v86_apply, v85, val_main_v82_apply]
  have e : idx_main_v82 (ix5 0 (chk r) (pos r) (hd j) (low j)) = ix5 (hd j) 0 (chk r) (low j) (pos r) := by
    funext a; match a with | ⟨0, _⟩ => rfl | ⟨1, _⟩ => rfl | ⟨2, _⟩ => rfl | ⟨3, _⟩ => rfl | ⟨4, _⟩ => rfl
  rw [e, v81 x0 x1 x2 x3 x4 x5, lane_low]
  exact add_comm _ _

/-- The mixed value's cotangent. -/
theorem v89 (C : Fin 64) (t : Fin 128) (j : Fin 256) :
    val_main_v89 (F := Ideal) x0 x1 (ix3 0 (row C t) j) = (A x0 x1 x2 x3 x4 x5).G C t j := by
  pointwise [val_main_v89, v26, v5]
  rfl
theorem v91 (C : Fin 64) (t : Fin 128) (h : Fin 4) (d : Fin 64) :
    val_main_v91 (F := Ideal) x0 x1 (ix5 0 C t h d) = (A x0 x1 x2 x3 x4 x5).G C t (lane h d) := by
  rw [val_main_v91_apply]
  exact (congrArg (val_main_v89 (F := Ideal) x0 x1) (i77 C t h d)).trans (v89 x0 x1 x2 x3 x4 x5 C t _)
theorem v96 (C : Fin 64) (t : Fin 128) (h : Fin 4) (d : Fin 64) :
    val_main_v96 (F := Ideal) x0 x1 (ix5 h 0 C d t) = (A x0 x1 x2 x3 x4 x5).G C t (lane h d) := by
  rw [val_main_v96_apply, ← v91 x0 x1 x2 x3 x4 x5]
  refine congrArg _ ?_
  funext a; match a with | ⟨0, _⟩ => rfl | ⟨1, _⟩ => rfl | ⟨2, _⟩ => rfl | ⟨3, _⟩ => rfl | ⟨4, _⟩ => rfl
theorem v98 (C : Fin 64) (s : Fin 128) (h : Fin 4) (d : Fin 64) :
    val_main_v98 (F := Ideal) x0 x1 x4 (ix5 h 0 C d s)
      = ∑ t, tri (fun h t s => x4 (ix3 h t s)) h t s * (A x0 x1 x2 x3 x4 x5).G C t (lane h d) := by
  rw [val_main_v98_apply]
  refine Finset.sum_congr rfl fun t _ => ?_
  have el : lidx_main_v98 (ix5 h 0 C d s) t = ix5 h 0 C d t := by
    funext a; match a with | ⟨0, _⟩ => rfl | ⟨1, _⟩ => rfl | ⟨2, _⟩ => rfl | ⟨3, _⟩ => rfl | ⟨4, _⟩ => rfl
  have er : ridx_main_v98 (ix5 h 0 C d s) t = ix3 h t s := by
    funext a; match a with | ⟨0, _⟩ => rfl | ⟨1, _⟩ => rfl | ⟨2, _⟩ => rfl
  rw [el, er, v96 x0 x1 x2 x3 x4 x5, v80_0]
  exact mul_comm _ _
/-- The value's cotangent. -/
theorem v101 (r : Fin 8192) (j : Fin 256) :
    val_main_v101 (F := Ideal) x0 x1 x4 (ix3 0 r j)
      = dmix (A x0 x1 x2 x3 x4 x5).W ((A x0 x1 x2 x3 x4 x5).G (chk r)) (pos r) j := by
  rw [val_main_v101_apply]
  refine (congrArg (val_main_v99 (F := Ideal) x0 x1 x4) (i87 r j)).trans ?_
  rw [val_main_v99_apply]
  have e : idx_main_v99 (ix5 0 (chk r) (pos r) (hd j) (low j)) = ix5 (hd j) 0 (chk r) (low j) (pos r) := by
    funext a; match a with | ⟨0, _⟩ => rfl | ⟨1, _⟩ => rfl | ⟨2, _⟩ => rfl | ⟨3, _⟩ => rfl | ⟨4, _⟩ => rfl
  rw [e, v98 x0 x1 x2 x3 x4 x5, lane_low]
  rfl

end Cert.Sgu.Ref

end
-- ==== Proof.SguRefGrad.lean ====
/- The reference's results: each gradient the one the specification names. -/
module

public import proofs.«01_k».proof.Proof.SguRefMix

@[expose] public section

noncomputable section

namespace Cert.Sgu.Ref

open Cert.ReferenceIdeal Cert.ReferenceIdeal.Gen Cert.ReferenceIdeal.Read Idealize.ShloMosaic
open scoped BigOperators

variable (x0 : Vec Ideal S8192x3584 .f32) (x1 : Vec Ideal S8192x1024 .f32) (x2 x3 : Vec Ideal S256 .f32)
    (x4 : Vec Ideal S4x128x128 .f32) (x5 : Vec Ideal S4x128 .f32)

/-! ### The value's gradient -/

/-- A row's cotangent of the normalized and shifted value. -/
abbrev dn (r : Fin 8192) : Row := dmix (A x0 x1 x2 x3 x4 x5).W ((A x0 x1 x2 x3 x4 x5).G (chk r)) (pos r)

theorem v109 (r : Fin 8192) (j : Fin 256) :
    val_main_v109 (F := Ideal) x0 x1 x2 x4 (ix3 0 r j) = dn x0 x1 x2 x3 x4 x5 r j * vec x2 j := by
  have h := v101 x0 x1 x2 x3 x4 x5 r j
  pointwise [val_main_v109, val_main_v108, val_main_v71]
  rw [h]
theorem v115 (r : Fin 8192) (j : Fin 256) :
    val_main_v115 (F := Ideal) x0 x1 x2 x4 (ix3 0 r j) = da (vec x2) (pv x0 r) (dn x0 x1 x2 x3 x4 x5 r) j := by
  have h := v109 x0 x1 x2 x3 x4 x5 r j
  pointwise [val_main_v115, val_main_v114, v65]
  rw [h]
  rfl
theorem v112 (r : Fin 8192) :
    val_main_v112 (F := Ideal) x0 x1 x2 x4 (ix2 0 r)
      = ∑ j, ctr (pv x0 r) j * (dn x0 x1 x2 x3 x4 x5 r j * vec x2 j) := by
  have h := v109 x0 x1 x2 x3 x4 x5 r
  pointwise [val_main_v112, val_main_cst_27, val_main_v111, v62]
  simp only [h]
theorem v121 (r : Fin 8192) :
    val_main_v121 (F := Ideal) x0 x1 x2 x4 (ix3 0 r 0) = dq (vec x2) (pv x0 r) (dn x0 x1 x2 x3 x4 x5 r) := by
  have h := v112 x0 x1 x2 x3 x4 x5 r
  pointwise [val_main_v121, val_main_v120, val_main_cst_29, val_main_v116, val_main_v113, v68]
  rw [h]
  rfl
/-- A sum over axes of one entry is that entry. -/
theorem one_sum (x : S1x8192x1.Idx → EReal) (r : Fin 8192) :
    Ideal.hostReduceAdd reducesTo_S1x8192x1_S8192_d0_2 x 0 (ix1 r) = x (ix3 0 r 0) := by
  rw [sum_axes (K := Unit) reducesTo_S1x8192x1_S8192_d0_2 x 0 (ix1 r) (fun _ => ix3 0 r 0) (fun _ => ())
    (fun _ => by funext a; match a with | ⟨0, _⟩ => rfl) (fun _ => rfl) ?_]
  · simp
  · intro i hi
    have h := congrFun hi 0
    rw [ValueIdx.eq_ix3 i]
    funext a
    match a with
    | ⟨0, _⟩ => exact Subsingleton.elim (α := Fin 1) _ _
    | ⟨1, _⟩ => exact h.symm
    | ⟨2, _⟩ => exact Subsingleton.elim (α := Fin 1) _ _
theorem v122 (r : Fin 8192) :
    val_main_v122 (F := Ideal) x0 x1 x2 x4 (ix1 r) = dq (vec x2) (pv x0 r) (dn x0 x1 x2 x3 x4 x5 r) := by
  rw [← v121 x0 x1 x2 x3 x4 x5, ← one_sum (val_main_v121 (F := Ideal) x0 x1 x2 x4)]
  unfold val_main_v122
  simp only [Host.reduceAdd, Ideal.hostReduceAdd_def]
  exact congrArg (fun a => Ideal.hostReduceAdd _ _ a _) Ideal.ofBits_zero_f32
theorem v125 (r : Fin 8192) (j : Fin 256) :
    val_main_v125 (F := Ideal) x0 x1 x2 x4 (ix3 0 r j) = db (vec x2) (pv x0 r) (dn x0 x1 x2 x3 x4 x5 r) j := by
  have h := v122 x0 x1 x2 x3 x4 x5 r
  pointwise [val_main_v125, val_main_v124, val_main_v123, v56]
  rw [h]
  rfl
theorem v132 (r : Fin 8192) :
    val_main_v132 (F := Ideal) x0 x1 x2 x4 (ix3 0 r 0) = dz (vec x2) (pv x0 r) (dn x0 x1 x2 x3 x4 x5 r) := by
  have h := v115 x0 x1 x2 x3 x4 x5 r
  have h' := v125 x0 x1 x2 x3 x4 x5 r
  pointwise [val_main_v132, val_main_v131, val_main_cst_32, val_main_v130, val_main_v119, val_main_v118, val_main_cst_28, val_main_v117,
    val_main_v128, val_main_v127, val_main_cst_31, val_main_v126]
  simp only [h, h']
  rfl
theorem v133 (r : Fin 8192) :
    val_main_v133 (F := Ideal) x0 x1 x2 x4 (ix1 r) = dz (vec x2) (pv x0 r) (dn x0 x1 x2 x3 x4 x5 r) := by
  rw [← v132 x0 x1 x2 x3 x4 x5, ← one_sum (val_main_v132 (F := Ideal) x0 x1 x2 x4)]
  unfold val_main_v133
  simp only [Host.reduceAdd, Ideal.hostReduceAdd_def]
  exact congrArg (fun a => Ideal.hostReduceAdd _ _ a _) Ideal.ofBits_zero_f32
theorem v136 (r : Fin 8192) (j : Fin 256) :
    val_main_v136 (F := Ideal) x0 x1 x2 x4 (ix3 0 r j)
      = da (vec x2) (pv x0 r) (dn x0 x1 x2 x3 x4 x5 r) j + db (vec x2) (pv x0 r) (dn x0 x1 x2 x3 x4 x5 r) j
        + dz (vec x2) (pv x0 r) (dn x0 x1 x2 x3 x4 x5 r) := by
  have h := v115 x0 x1 x2 x3 x4 x5 r j
  have h' := v125 x0 x1 x2 x3 x4 x5 r j
  have h'' := v133 x0 x1 x2 x3 x4 x5 r
  pointwise [val_main_v136, val_main_v135, val_main_v134, val_main_v129]
  rw [h, h', h'']
theorem v148 (r : Fin 8192) (j : Fin 256) :
    val_main_v148 (F := Ideal) x0 x1 x2 x4 (ix3 0 r j) = dpv (vec x2) (pv x0 r) (dn x0 x1 x2 x3 x4 x5 r) j := by
  have h := v136 x0 x1 x2 x3 x4 x5 r j
  pointwise [val_main_v148, val_main_v147, val_main_v146, val_main_v145, val_main_cst_36, val_main_v144, val_main_v143,
    val_main_v142, val_main_cst_35, val_main_v141, val_main_v140, val_main_v139, val_main_cst_34, val_main_v138, val_main_v137,
    v3, v31, v42, v46]
  rw [h]
  rfl
theorem gv (r : Fin 8192) (j : Fin 256) :
    val_main_v167 (F := Ideal) x0 x1 x2 x4 (ix2 r j) = (A x0 x1 x2 x3 x4 x5).gv (chk r) (pos r) j := by
  have h := v148 x0 x1 x2 x3 x4 x5 r j
  pointwise [val_main_v167, val_main_v166]
  refine h.trans ?_
  unfold Args.gv
  rw [row_chk]

/-! ### The gate's gradient -/

theorem v90 (r : Fin 8192) (j : Fin 256) :
    val_main_v90 (F := Ideal) x0 x1 x2 x3 x4 x5 (ix3 0 r j)
      = dy x1 r j * mix (A x0 x1 x2 x3 x4 x5).W (A x0 x1 x2 x3 x4 x5).S ((A x0 x1 x2 x3 x4 x5).V (chk r)) (pos r) j := by
  have h := v87 x0 x1 x2 x3 x4 x5 r j
  pointwise [val_main_v90, v5]
  rw [h]
theorem gu (r : Fin 8192) (j : Fin 256) :
    val_main_v165 (F := Ideal) x0 x1 x2 x3 x4 x5 (ix2 r j) = (A x0 x1 x2 x3 x4 x5).gu (chk r) (pos r) j := by
  have h := v90 x0 x1 x2 x3 x4 x5 r j
  pointwise [val_main_v165, val_main_v164, val_main_v160, val_main_v159, val_main_v158, val_main_v157, val_main_cst_39, val_main_v156,
    val_main_v155, val_main_v154, val_main_cst_38, val_main_v153, val_main_v152, val_main_v151, val_main_cst_37, val_main_v150,
    val_main_v149, v1, v10, v21, v25]
  rw [h]
  unfold Args.gu Args.U Args.Y
  rw [row_chk]
  rfl

/-! ### The sums over the rows -/

/-- A sum over the rows, chunk by chunk. -/
theorem sum_rows (f : Fin 8192 → EReal) : ∑ r, f r = ∑ C, ∑ t, f (row C t) := by
  rw [← Equiv.sum_comp rowEquiv, Fintype.sum_prod_type]
  rfl
theorem chk_row (C : Fin 64) (t : Fin 128) : chk (row C t) = C :=
  congrArg Prod.fst (rowEquiv.left_inv (C, t))
theorem pos_row (C : Fin 64) (t : Fin 128) : pos (row C t) = t :=
  congrArg Prod.snd (rowEquiv.left_inv (C, t))
theorem one_sum' (x : S1x1x256.Idx → EReal) (j : Fin 256) :
    Ideal.hostReduceAdd reducesTo_S1x1x256_S256_d0_1 x 0 (ix1 j) = x (ix3 0 0 j) := by
  rw [sum_axes (K := Unit) reducesTo_S1x1x256_S256_d0_1 x 0 (ix1 j) (fun _ => ix3 0 0 j) (fun _ => ())
    (fun _ => by funext a; match a with | ⟨0, _⟩ => rfl) (fun _ => rfl) ?_]
  · simp
  · intro i hi
    have h := congrFun hi 0
    rw [ValueIdx.eq_ix3 i]
    funext a
    match a with
    | ⟨0, _⟩ => exact Subsingleton.elim (α := Fin 1) _ _
    | ⟨1, _⟩ => exact Subsingleton.elim (α := Fin 1) _ _
    | ⟨2, _⟩ => exact h.symm
theorem glb (j : Fin 256) :
    val_main_v169 (F := Ideal) x0 x1 x4 (ix2 0 j) = (A x0 x1 x2 x3 x4 x5).glb j := by
  have h : val_main_v104 (F := Ideal) x0 x1 x4 (ix1 j) = val_main_v103 (F := Ideal) x0 x1 x4 (ix3 0 0 j) := by
    rw [← one_sum' (val_main_v103 (F := Ideal) x0 x1 x4)]
    unfold val_main_v104
    simp only [Host.reduceAdd, Ideal.hostReduceAdd_def]
    exact congrArg (fun a => Ideal.hostReduceAdd _ _ a _) Ideal.ofBits_zero_f32
  have h' := fun r => v101 x0 x1 x2 x3 x4 x5 r j
  pointwise [val_main_v169]
  rw [h]
  pointwise [val_main_v103, val_main_v102, val_main_cst_23]
  simp only [h']
  rw [sum_rows]
  simp only [chk_row, pos_row]
  rfl
theorem glw (j : Fin 256) :
    val_main_v168 (F := Ideal) x0 x1 x4 (ix2 0 j) = (A x0 x1 x2 x3 x4 x5).glw j := by
  have h : val_main_v110 (F := Ideal) x0 x1 x4 (ix1 j) = val_main_v107 (F := Ideal) x0 x1 x4 (ix3 0 0 j) := by
    rw [← one_sum' (val_main_v107 (F := Ideal) x0 x1 x4)]
    unfold val_main_v110
    simp only [Host.reduceAdd, Ideal.hostReduceAdd_def]
    exact congrArg (fun a => Ideal.hostReduceAdd _ _ a _) Ideal.ofBits_zero_f32
  have h' := fun r => v101 x0 x1 x2 x3 x4 x5 r j
  pointwise [val_main_v168]
  rw [h]
  pointwise [val_main_v107, val_main_v106, val_main_cst_25, val_main_v105, v70]
  simp only [h']
  rw [sum_rows]
  simp only [chk_row, pos_row]
  rfl

/-! ### The mixing matrices' gradients -/

/-- The dimension numbers of the matrices' gradient: three axes are summed over, the first of one entry. -/
abbrev D97 : DotDims S4x1x64x64x128 S1x64x128x4x64 S4x128x128 := dot_S4x1x64x64x128_S1x64x128x4x64_S4x128x128_123_014_4_2_0_3
theorem rank97 : D97.contr.rank = 3 := rfl
/-- A summed index is a chunk and a lane. -/
def e97 : D97.contr.Idx ≃ Fin 64 × Fin 64 where
  toFun q := ((q ⟨1, by rw [rank97]; decide⟩).cast rfl, (q ⟨2, by rw [rank97]; decide⟩).cast rfl)
  invFun p := fun a =>
    if h0 : a.val = 0 then (0 : Fin 1).cast (congrArg D97.contr.size (Fin.ext h0.symm : (⟨0, by rw [rank97]; decide⟩ : Fin D97.contr.rank) = a))
    else if h1 : a.val = 1 then p.1.cast (congrArg D97.contr.size (Fin.ext h1.symm : (⟨1, by rw [rank97]; decide⟩ : Fin D97.contr.rank) = a))
    else p.2.cast (congrArg D97.contr.size (Fin.ext (by have : a.val < 3 := a.isLt; show 2 = a.val; omega) :
      (⟨2, by rw [rank97]; decide⟩ : Fin D97.contr.rank) = a))
  left_inv q := by
    funext a
    by_cases h0 : a.val = 0
    · obtain rfl : a = ⟨0, by rw [rank97]; decide⟩ := Fin.ext h0
      exact Subsingleton.elim (α := Fin 1) _ _
    · by_cases h1 : a.val = 1
      · obtain rfl : a = ⟨1, by rw [rank97]; decide⟩ := Fin.ext h1
        simp
        rfl
      · obtain rfl : a = ⟨2, by rw [rank97]; decide⟩ := Fin.ext (by have : a.val < 3 := a.isLt; show a.val = 2; omega)
        simp
        rfl
  right_inv p := by
    refine Prod.ext (Fin.ext ?_) (Fin.ext ?_) <;> simp <;> rfl
theorem e97_1 (p : Fin 64 × Fin 64) : ((e97.symm p) ⟨1, by rw [rank97]; decide⟩ : ℕ) = p.1.val := by simp [e97]; rfl
theorem e97_2 (p : Fin 64 × Fin 64) : ((e97.symm p) ⟨2, by rw [rank97]; decide⟩ : ℕ) = p.2.val := by simp [e97]; rfl
theorem e97_0 (p : Fin 64 × Fin 64) : ((e97.symm p) ⟨0, by rw [rank97]; decide⟩ : ℕ) = 0 := by simp [e97]; rfl
theorem v97 (h : Fin 4) (t s : Fin 128) :
    val_main_v97 (F := Ideal) x0 x1 x2 x3 (ix3 h t s)
      = ∑ C, dws ((A x0 x1 x2 x3 x4 x5).G C) ((A x0 x1 x2 x3 x4 x5).V C) h t s := by
  unfold val_main_v97
  show FloatOps.dotGeneral D97 none _ _ _ _ = _
  rw [Ideal.dotGeneral_apply, ← Equiv.sum_comp e97.symm, Fintype.sum_prod_type]
  refine Finset.sum_congr rfl fun C _ => Finset.sum_congr rfl fun d _ => ?_
  have el : D97.lhsIdx (ix3 h t s) (e97.symm (C, d)) = ix5 h 0 C d t := by
    funext a; apply Fin.ext
    match a with | ⟨0, _⟩ => rfl | ⟨1, _⟩ => exact e97_0 (C, d) | ⟨2, _⟩ => exact e97_1 (C, d) | ⟨3, _⟩ => exact e97_2 (C, d) | ⟨4, _⟩ => rfl
  have er : D97.rhsIdx (ix3 h t s) (e97.symm (C, d)) = ix5 0 C s h d := by
    funext a; apply Fin.ext
    match a with | ⟨0, _⟩ => exact e97_0 (C, d) | ⟨1, _⟩ => exact e97_1 (C, d) | ⟨2, _⟩ => rfl | ⟨3, _⟩ => rfl | ⟨4, _⟩ => exact e97_2 (C, d)
  rw [el, er, v96 x0 x1 x2 x3 x4 x5, v77 x0 x1 x2 x3 x4 x5]
theorem gW (h : Fin 4) (t s : Fin 128) :
    val_main_v100 (F := Ideal) x0 x1 x2 x3 (ix3 h t s) = (A x0 x1 x2 x3 x4 x5).gW h t s := by
  have z : val_main_call2_v0 (F := Ideal) (ix3 h t s) = 0 := by
    pointwise [val_main_call2_v0, val_main_call2_cst]
  rw [val_main_v100_apply, v80_1, z, v97 x0 x1 x2 x3 x4 x5]
  exact sel _ _ _

/-! ### The mixing shifts' gradients -/

theorem v92 (t : Fin 128) (h : Fin 4) :
    val_main_v92 (F := Ideal) x0 x1 (ix3 0 t h) = (A x0 x1 x2 x3 x4 x5).gS h t := by
  unfold val_main_v92
  simp only [Host.reduceAdd, Ideal.hostReduceAdd_def]
  rw [sum_axes (K := Fin 64 × Fin 64) reducesTo_S1x64x128x4x64_S1x128x4_d1_4 _ _ (ix3 0 t h) (fun p => ix5 0 p.1 t h p.2)
    (fun i => (i 1, i 4)) (fun _ => by funext a; match a with | ⟨0, _⟩ => rfl | ⟨1, _⟩ => rfl | ⟨2, _⟩ => rfl) (fun _ => rfl) ?_]
  · refine (congrArg (· + _) Ideal.ofBits_zero_f32).trans ((zero_add _).trans ?_)
    rw [Fintype.sum_prod_type]
    refine Finset.sum_congr rfl fun C _ => Finset.sum_congr rfl fun d _ => ?_
    exact v91 x0 x1 x2 x3 x4 x5 C t h d
  · intro i hi
    have h1 := congrFun hi 1
    have h2 := congrFun hi 2
    refine Eq.trans ?_ (ValueIdx.eq_ix5 i).symm
    funext a
    match a with
    | ⟨0, _⟩ => exact Subsingleton.elim (α := Fin 1) _ _
    | ⟨1, _⟩ => rfl
    | ⟨2, _⟩ => exact h1.symm
    | ⟨3, _⟩ => exact h2.symm
    | ⟨4, _⟩ => rfl
theorem v94 (t : Fin 128) (h : Fin 4) :
    val_main_v94 (F := Ideal) x0 x1 (ix2 t h) = (A x0 x1 x2 x3 x4 x5).gS h t := by
  unfold val_main_v94
  simp only [Host.reduceAdd, Ideal.hostReduceAdd_def]
  rw [sum_axes (K := Unit) reducesTo_S1x1x128x4x1_S128x4_d0_1_4 _ _ (ix2 t h) (fun _ => ix5 0 0 t h 0) (fun _ => ())
    (fun _ => by funext a; match a with | ⟨0, _⟩ => rfl | ⟨1, _⟩ => rfl) (fun _ => rfl) ?_]
  · refine (congrArg (· + _) Ideal.ofBits_zero_f32).trans ((zero_add _).trans ?_)
    rw [Fintype.sum_unique, val_main_v93_apply, ← v92 x0 x1 x2 x3 x4 x5]
    refine congrArg _ ?_
    funext a
    apply Fin.ext
    match a with
    | ⟨0, _⟩ => rfl
    | ⟨1, _⟩ => show ((((0 * 1 + 0) * 128 + t.val) * 4 + h.val) * 1 + 0) / 4 % 128 = t.val; omega
    | ⟨2, _⟩ => show ((((0 * 1 + 0) * 128 + t.val) * 4 + h.val) * 1 + 0) % 4 = h.val; omega
  · intro i hi
    have h1 := congrFun hi 0
    have h2 := congrFun hi 1
    refine Eq.trans ?_ (ValueIdx.eq_ix5 i).symm
    funext a
    match a with
    | ⟨0, _⟩ => exact Subsingleton.elim (α := Fin 1) _ _
    | ⟨1, _⟩ => exact Subsingleton.elim (α := Fin 1) _ _
    | ⟨2, _⟩ => exact h1.symm
    | ⟨3, _⟩ => exact h2.symm
    | ⟨4, _⟩ => exact Subsingleton.elim (α := Fin 1) _ _
theorem gS (t x : Fin 128) :
    val_main_v163 (F := Ideal) x0 x1 (ix2 t x) = (A x0 x1 x2 x3 x4 x5).gS' t x := by
  have h := v94 x0 x1 x2 x3 x4 x5 t
  pointwise [val_main_v163, val_main_v162, val_main_cst_40, val_main_v161, val_main_v95]
  unfold Args.gS'
  simp only [h]

end Cert.Sgu.Ref

end
-- ==== Proof.SguClaim.lean ====
/- The value claim of the spatial gating unit's backward kernel: from finite rows and shifts it and the reference end with
   the same six gradients. -/
module

public import proofs.«01_k».proof.Defs
public import proofs.«01_k».proof.Proof.SguSum
public import proofs.«01_k».proof.Proof.SguRefGrad
public import proofs.«01_k».proof.Proof.Gen.ReferenceIdeal.Run
public import proofs.«01_k».proof.Proof.Gen.Pre_finite_inputs
public import Idealize.ShloMosaic.Lib.ReduceAll

@[expose] public section

noncomputable section

namespace Cert.Sgu

open Idealize.ShloMosaic Idealize.SL.Sem
open scoped BigOperators

/-! ### What the precondition says -/

theorem inf_top : Ideal.ofBits .f32 0x7F800000#32 = ⊤ := by simp [Ideal.ofBits, Ideal.ieee]
/-- A number whose absolute value lies below +∞ is finite. -/
theorem fin_of_lt {x : EReal} (h : Ideal.cmp .olt (max x (-x)) (Ideal.ofBits .f32 0x7F800000#32) = 1#1) : Fin' x := by
  rw [inf_top] at h
  have h' : max x (-x) < ⊤ := by
    by_contra hn
    have e : Ideal.cmp .olt (max x (-x)) ⊤ = BitVec.ofBool (decide (max x (-x) < ⊤)) := rfl
    rw [e, decide_eq_false hn] at h
    exact absurd h (by decide)
  constructor
  · rintro rfl
    simp at h'
  · rintro rfl
    simp at h'
theorem fin_tanh (x : EReal) : Fin' (Ideal.tanh x) := by
  induction x with
  | bot => rw [Ideal.tanh_bot]; exact ⟨by decide, by decide⟩
  | top => rw [Ideal.tanh_top]; exact ⟨by decide, by decide⟩
  | coe r => rw [Ideal.tanh_coe]; exact ⟨EReal.coe_ne_bot _, EReal.coe_ne_top _⟩
theorem fin_half : Fin' cH := by
  have e : cH = ((2⁻¹ : ℝ) : EReal) := by
    unfold cH
    simp [Ideal.ofBits, Ideal.ieee, -EReal.coe_mul]
    norm_num
  rw [e]
  exact ⟨EReal.coe_ne_bot _, EReal.coe_ne_top _⟩
theorem fin_one : Fin' (1 : EReal) := by
  rw [← EReal.coe_one]
  exact ⟨EReal.coe_ne_bot _, EReal.coe_ne_top _⟩
/-- The gelu of a finite number is finite. -/
theorem fin_gel {x : EReal} (h : Fin' x) : Fin' (gel x) :=
  fin_mul h (fin_mul fin_half (fin_add fin_one (fin_tanh _)))

section
open Cert.Pre_finite_inputs
variable (x0 : FVec Ideal S8192x3584 .f32) (x1 : FVec Ideal S8192x1024 .f32) (x2 x3 : FVec Ideal S256 .f32)
    (x4 : FVec Ideal S4x128x128 .f32) (x5 : FVec Ideal S4x128 .f32)
/-- The gate's rows, the cotangent's rows and the shifts are finite where the precondition holds. -/
theorem pre_fine (h : Cert.Pre_finite_inputs.fn (F := Ideal) x0 x1 x2 x3 x4 x5 = fun _ => 1#1) :
    Fine (Ref.A x0 x1 x2 x3 x4 x5) := by
  have h0 := congrFun h ValueIdx.ix0
  dsimp only [Cert.Pre_finite_inputs.fn] at h0
  obtain ⟨ha, hb⟩ := IntOp.andi_eq_one.1 h0
  haveI : Subsingleton S_.Idx := ⟨fun a b => funext fun i => i.elim0⟩
  have hr : ∀ (r : Fin 8192) (j : Fin 256), Fin' (x0 (ValueIdx.ix2 r ⟨j.val, by omega⟩)) ∧ Fin' (x1 (ValueIdx.ix2 r ⟨j.val, by omega⟩)) := by
    intro r j
    obtain ⟨h1, h2⟩ := IntOp.andi_eq_one.1 (Host.reduce_andi_all _ _ _ _ _ ha (ValueIdx.ix2 r j))
    refine ⟨fin_of_lt (Eq.trans ?_ h1), fin_of_lt (Eq.trans ?_ h2)⟩
    · symm; pointwise []; rfl
    · symm; pointwise []; rfl
  refine ⟨fun hh t => ?_, fun C t j => ?_⟩
  · exact fin_of_lt (Host.reduce_andi_all _ _ _ _ _ hb (ValueIdx.ix2 hh t))
  · exact fin_mul (fin_gel (hr _ _).1) (hr _ _).2
end

/-! ### The results, array by array -/

section
open Cert.KernelIdeal Cert.KernelIdeal.Gen Cert.KernelIdeal.Value
variable {m : (ℓ : Loc nD τ sig) → Buf (Elt Ideal) ℓ}
    {x0 : Vec Ideal S8192x3584 .f32} {x1 : Vec Ideal S8192x1024 .f32} {x2 x3 : Vec Ideal S256 .f32}
    {x4 : Vec Ideal S4x128x128 .f32} {x5 : Vec Ideal S4x128 .f32} {c : Dev nD}

/-- Two arrays of rows are equal where they are at every row and column. -/
theorem ext2 {a b : ℕ} {f g : (⟨2, ![a, b]⟩ : Shape).Idx → EReal} (h : ∀ r j, f (ix2 r j) = g (ix2 r j)) : f = g :=
  funext fun i => by rw [eq_ix2 i]; exact h (i 0) (i 1)
/-- Two single rows are equal where they are at every column. -/
theorem ext1 {b : ℕ} {f g : (⟨2, ![1, b]⟩ : Shape).Idx → EReal} (h : ∀ j, f (ix2 0 j) = g (ix2 0 j)) : f = g :=
  ext2 fun r j => by rw [show r = 0 from Subsingleton.elim _ _]; exact h j
/-- Two stacks of rows are equal where they are at every place. -/
theorem ext3 {a b d : ℕ} {f g : (⟨3, ![a, b, d]⟩ : Shape).Idx → EReal} (h : ∀ r j k, f (ix3 r j k) = g (ix3 r j k)) : f = g :=
  funext fun i => by rw [eq_ix3 i]; exact h (i 0) (i 1) (i 2)

/-- The gate's gradient is the reference's. -/
theorem eq7 (hA : mArgs m c = Ref.A x0 x1 x2 x3 x4 x5) (hf : Fine (mArgs m c)) :
    ((dats m 0 c).arrAt 7 cfg0.N : S8192x256.Idx → EReal) = Cert.ReferenceIdeal.Read.val_main_v165 (F := Ideal) x0 x1 x2 x3 x4 x5 :=
  ext2 fun r j => (res7 hf r j).trans ((congrArg (fun A : Args => A.gu (chk r) (pos r) j) hA).trans (Ref.gu x0 x1 x2 x3 x4 x5 r j).symm)
/-- The value's gradient is the reference's. -/
theorem eq8 (hA : mArgs m c = Ref.A x0 x1 x2 x3 x4 x5) :
    ((dats m 0 c).arrAt 8 cfg0.N : S8192x256.Idx → EReal) = Cert.ReferenceIdeal.Read.val_main_v167 (F := Ideal) x0 x1 x2 x4 :=
  ext2 fun r j => (res8 m c r j).trans ((congrArg (fun A : Args => A.gv (chk r) (pos r) j) hA).trans (Ref.gv x0 x1 x2 x3 x4 x5 r j).symm)
/-- The scale's gradient is the reference's. -/
theorem eq9 (hA : mArgs m c = Ref.A x0 x1 x2 x3 x4 x5) :
    ((dats m 0 c).arrAt 9 cfg0.N : S1x256.Idx → EReal) = Cert.ReferenceIdeal.Read.val_main_v168 (F := Ideal) x0 x1 x4 :=
  ext1 fun j => (res9 m c j).trans ((congrArg (fun A : Args => A.glw j) hA).trans (Ref.glw x0 x1 x2 x3 x4 x5 j).symm)
/-- The shift's gradient is the reference's. -/
theorem eq10 (hA : mArgs m c = Ref.A x0 x1 x2 x3 x4 x5) :
    ((dats m 0 c).arrAt 10 cfg0.N : S1x256.Idx → EReal) = Cert.ReferenceIdeal.Read.val_main_v169 (F := Ideal) x0 x1 x4 :=
  ext1 fun j => (res10 m c j).trans ((congrArg (fun A : Args => A.glb j) hA).trans (Ref.glb x0 x1 x2 x3 x4 x5 j).symm)
/-- The mixing matrices' gradients are the reference's. -/
theorem eq11 (hA : mArgs m c = Ref.A x0 x1 x2 x3 x4 x5) :
    ((dats m 0 c).arrAt 11 cfg0.N : S4x128x128.Idx → EReal) = Cert.ReferenceIdeal.Read.val_main_v100 (F := Ideal) x0 x1 x2 x3 :=
  ext3 fun h x s => (res11 m c h x s).trans ((congrArg (fun A : Args => A.gW h x s) hA).trans (Ref.gW x0 x1 x2 x3 x4 x5 h x s).symm)
/-- The mixing shifts' gradients are the reference's. -/
theorem eq12 (hA : mArgs m c = Ref.A x0 x1 x2 x3 x4 x5) (hf : Fine (mArgs m c)) :
    ((dats m 0 c).arrAt 12 cfg0.N : S128x128.Idx → EReal) = Cert.ReferenceIdeal.Read.val_main_v163 (F := Ideal) x0 x1 :=
  ext2 fun x y => (res12 hf x y).trans ((congrArg (fun A : Args => A.gS' x y) hA).trans (Ref.gS x0 x1 x2 x3 x4 x5 x y).symm)
end

/-! ### The claim -/

/-- The reference's arguments, by device. -/
abbrev rArgs (m' : (ℓ : Loc Cert.ReferenceIdeal.nD Cert.ReferenceIdeal.τ Cert.ReferenceIdeal.sig) → Buf (Elt Ideal) ℓ)
    (c : Dev Cert.ReferenceIdeal.nD) : Args :=
  Ref.A (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))

/-- The kernel and the reference end with the same six gradients where the precondition holds. -/
theorem algebraic : Cert.algebraic_KernelIdeal_ReferenceIdeal_pre_finite_inputs := by
  intro m g m' g' hpre hag
  have hA : ∀ c, mArgs m c = rArgs m' c := by
    intro c
    obtain ⟨e0, e1, e2, e3, e4, e5⟩ := hag c
    unfold rArgs
    rw [e0, e1, e2, e3, e4, e5]
    rfl
  have hf : ∀ c, Fine (mArgs m c) := fun c => pre_fine _ _ _ _ _ _ (hpre c)
  refine ⟨fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨h0, h1, h2, h3, h4, h5, ha⟩ := h c
  exact ⟨(h0.trans (Cert.ReferenceIdeal.Read.val_main_v165_eq _)).trans (eq7 (hA c) (hf c)).symm,
    (h1.trans (Cert.ReferenceIdeal.Read.val_main_v167_eq _)).trans (eq8 (hA c)).symm,
    (h2.trans (Cert.ReferenceIdeal.Read.val_main_v168_eq _)).trans (eq9 (hA c)).symm,
    (h3.trans (Cert.ReferenceIdeal.Read.val_main_v169_eq _)).trans (eq10 (hA c)).symm,
    (h4.trans (Cert.ReferenceIdeal.Read.val_main_v100_eq _)).trans (eq11 (hA c)).symm,
    (h5.trans (Cert.ReferenceIdeal.Read.val_main_v163_eq _)).trans (eq12 (hA c) (hf c)).symm, ha⟩

/-- The reference ends, changes no argument and leaves every counter at zero. -/
theorem frame_ref : Cert.quiescent_ReferenceIdeal := fun m' g' _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run m' g')

end Cert.Sgu

end
-- ==== Proof.Prod.lean ====
/- What the matrix products' claims share: arrays compared place by place, sums taken a block at a time, and the
   logistic function over the extended reals. -/
module

public import proofs.«01_k».proof.Proof.SguClaim

@[expose] public section

noncomputable section

namespace Cert.Prod

open Idealize.ShloMosaic Idealize.ShloMosaic.ValueIdx Cert.Sgu
open scoped BigOperators

/-- A matrix, and a stack of matrices, over the extended reals. -/
abbrev Mat (a b : ℕ) : Type := (⟨2, ![a, b]⟩ : Shape).Idx → EReal
abbrev Stack (a b d : ℕ) : Type := (⟨3, ![a, b, d]⟩ : Shape).Idx → EReal

/-- A sum over `a * b` numbers is the sum over `a` blocks of `b`. -/
theorem sum_blocks {a b n : ℕ} (hn : n = a * b) (f : Fin n → EReal) :
    ∑ k, f k = ∑ q : Fin a, ∑ r : Fin b,
      f ⟨b * q.val + r.val, by
        subst hn
        calc b * q.val + r.val < b * q.val + b := by omega
          _ = b * (q.val + 1) := by ring
          _ ≤ b * a := Nat.mul_le_mul_left _ (by omega)
          _ = a * b := Nat.mul_comm _ _⟩ := by
  subst hn
  rw [← Equiv.sum_comp finProdFinEquiv, Fintype.sum_prod_type]
  refine Finset.sum_congr rfl fun q _ => Finset.sum_congr rfl fun r _ => congrArg f (Fin.ext ?_)
  show r.val + b * q.val = b * q.val + r.val
  omega

/-! ### Stores and loads of slices -/

/-- Where the last store lies, the contents are its payload. -/
theorem canon_at {S : Shape} {e : EltTy} (r : Rect S) (w : r.shape.Idx → Elt Ideal e) (L : List (View.Piece (Elt Ideal) S e))
    (x : r.shape.Idx) (y : S.Idx) (h : r.idx x = y) : View.canon ((⟨r, w⟩ : View.Piece (Elt Ideal) S e) :: L) y = w x := by
  subst h
  exact View.canon_cons_emb r w L x

/-! ### The logistic function -/

theorem one_eq : Ideal.ofBits .f32 0x3F800000#32 = 1 := Ideal.ofBits_one_f32

/-- Where the cotangent is finite, the two ways the gate's derivative is written agree, whatever the gate. -/
theorem gate_grad {d : EReal} (h : Fin' d) (g : EReal) :
    d * (Ideal.logistic g * (1 + g * (1 - Ideal.logistic g)))
      = d * Ideal.logistic g + g * d * (Ideal.logistic g * (1 - Ideal.logistic g)) := by
  obtain ⟨r, rfl⟩ := fin_coe h
  induction g with
  | bot => simp
  | top =>
    have e : (1 : EReal) - 1 = 0 := by rw [← EReal.coe_one, ← EReal.coe_sub, sub_self, EReal.coe_zero]
    simp [e]
  | coe g =>
    rw [Ideal.logistic_coe]
    norm_cast
    ring

/-- A sum of finite numbers is finite. -/
theorem fin_sum {n : ℕ} (f : Fin n → EReal) (h : ∀ k, Fin' (f k)) : Fin' (∑ k, f k) :=
  Finset.sum_induction f Fin' (fun _ _ => fin_add) fin_zero fun k _ => h k

/-- What a scratch holds that a run of `P` points adds up, restarted at the multiples of `P`: the run's parts so far. -/
theorem sum_run {N : ℕ} (P : ℕ) (S part : (n : ℕ) → n < N → EReal) (h0 : ∀ n h, n % P = 0 → S n h = part n h)
    (h1 : ∀ n h, ¬ (n + 1) % P = 0 → S (n + 1) h = S n (Nat.lt_of_succ_lt h) + part (n + 1) h) (q : ℕ) :
    ∀ (r : ℕ) (_ : r < P) (h : P * q + r < N), S (P * q + r) h = ∑ k : Fin (r + 1), part (P * q + k.val) (by omega)
  | 0, hr, h => by
    rw [h0 _ h (by rw [Nat.add_zero, Nat.mul_mod_right])]
    exact (Fin.sum_univ_one (fun k : Fin 1 => part (P * q + k.val) (by omega))).symm
  | r + 1, hr, h => by
    rw [Fin.sum_univ_castSucc]
    refine (h1 (P * q + r) h ?_).trans (congrArg (· + _) (sum_run P S part h0 h1 q r (by omega) _))
    show ¬ (P * q + (r + 1)) % P = 0
    rw [Nat.mul_add_mod, Nat.mod_eq_of_lt hr]
    omega

theorem hz : (![0, 0] : Fin 2 → ℕ) = fun _ => 0 := by
  funext a
  match a with
  | 0 => rfl
  | 1 => rfl

theorem hz3 : (![0, 0, 0] : Fin 3 → ℕ) = fun _ => 0 := by
  funext a
  match a with
  | 0 => rfl
  | 1 => rfl
  | 2 => rfl

/-- The row of 8192 that row `r` of the `n % 8`-th block of 1024 rows is. -/
def row8 (n : ℕ) (r : Fin 1024) : Fin 8192 := ⟨1024 * (n % 8) + r.val, by omega⟩

/-- The eight points of a run meet every row once. -/
theorem sum_row8 (f : Fin 8192 → EReal) (q : ℕ) : ∑ k : Fin 8, ∑ r : Fin 1024, f (row8 (8 * q + k.val) r) = ∑ k : Fin 8192, f k := by
  rw [sum_blocks (n := 8192) (a := 8) (b := 1024) (by norm_num)]
  refine Finset.sum_congr rfl fun k _ => Finset.sum_congr rfl fun r _ => congrArg f (Fin.ext ?_)
  show 1024 * ((8 * q + k.val) % 8) + r.val = 1024 * k.val + r.val
  omega

/-- Two arrays of four axes are equal where they are at every place. -/
theorem ext4 {a b d e : ℕ} {f g : (⟨4, ![a, b, d, e]⟩ : Shape).Idx → EReal} (h : ∀ x y z w, f (Idealize.ShloMosaic.ix4 x y z w) = g (Idealize.ShloMosaic.ix4 x y z w)) : f = g :=
  funext fun i => by rw [Idealize.ShloMosaic.eq_ix4 i]; exact h (i 0) (i 1) (i 2) (i 3)

end Cert.Prod

end
-- ==== Proof.DownDx.lean ====
/- The feed-forward block's gradient down to its gate and up rows: each block the kernel writes, and the same rows of the
   derivative of the reference's lines. -/
module

public import proofs.«01_k».proof.Defs
public import proofs.«01_k».proof.Proof.Prod
public import proofs.«01_k».proof.Proof.Gen.FfnDownDxIdeal.Value
public import proofs.«01_k».proof.Proof.Gen.FfnDownDxRefIdeal.Read
public import proofs.«01_k».proof.Proof.Gen.FfnDownDxRefIdeal.Run
public import proofs.«01_k».proof.Proof.Gen.Pre_ffn_down_dx_finite

@[expose] public section

noncomputable section

namespace Cert.DownDx

open Idealize.ShloMosaic Idealize.ShloMosaic.TcCoe Idealize.SL.Sem
open Cert.Sgu (Fin' fin_mul fin_of_lt ext3)
open Cert.Prod
open scoped BigOperators

/-- The cotangent of the gated rows. -/
def da (x0 : Mat 8192 1024) (x1 : Mat 2816 1024) (r : Fin 8192) (j : Fin 2816) : EReal :=
  ∑ k : Fin 1024, x0 (ix2 r k) * x1 (ix2 j k)

/-- The gate's and the up rows' cotangents, as the kernel writes them. -/
def grad (x0 : Mat 8192 1024) (x1 : Mat 2816 1024) (x2 x3 : Mat 8192 2816)
    (h : Fin 2) (r : Fin 8192) (j : Fin 2816) : EReal :=
  if h = 0 then da x0 x1 r j * x3 (ix2 r j) * (Ideal.logistic (x2 (ix2 r j)) * (1 + x2 (ix2 r j) * (1 - Ideal.logistic (x2 (ix2 r j)))))
  else da x0 x1 r j * x2 (ix2 r j) * Ideal.logistic (x2 (ix2 r j))

/-! ### A block -/

section
open Cert.FfnDownDxIdeal Cert.FfnDownDxIdeal.Gen

theorem pay1_at (v0 : Vec Ideal S512x1024 .f32) (v2 : Vec Ideal S1408x1024 .bf16) (r : Fin 512) (j : Fin 1408) :
    k0_pay1 (F := Ideal) v0 v2 (ix2 r j) = ∑ k : Fin 1024, v0 (ix2 r k) * v2 (ix2 j k) := by
  pointwise [k0_pay1]

theorem pay3_at (v0 : Vec Ideal S512x1024 .f32) (v2 : Vec Ideal S1408x1024 .bf16) (v4 v6 : Vec Ideal S512x1408 .f32) (r : Fin 512) (j : Fin 1408) :
    k0_pay3 (F := Ideal) v0 v2 v4 v6 (ix3 0 r j) = (∑ k : Fin 1024, v0 (ix2 r k) * v2 (ix2 j k)) * v6 (ix2 r j)
      * (Ideal.logistic (v4 (ix2 r j)) * (1 + v4 (ix2 r j) * (1 - Ideal.logistic (v4 (ix2 r j))))) := by
  pointwise [k0_pay3, k0_pay2, pay1_at]

theorem pay4_at (v0 : Vec Ideal S512x1024 .f32) (v2 : Vec Ideal S1408x1024 .bf16) (v4 : Vec Ideal S512x1408 .f32) (r : Fin 512) (j : Fin 1408) :
    k0_pay4 (F := Ideal) v0 v2 v4 (ix3 0 r j) = (∑ k : Fin 1024, v0 (ix2 r k) * v2 (ix2 j k)) * v4 (ix2 r j)
      * Ideal.logistic (v4 (ix2 r j)) := by
  pointwise [k0_pay4, k0_pay2, pay1_at]

/-- The block written, half by half. -/
theorem out_at (v0 : Vec Ideal S512x1024 .f32) (v2 : Vec Ideal S1408x1024 .bf16) (v4 v6 : Vec Ideal S512x1408 .f32)
    (h : Fin 2) (r : Fin 512) (j : Fin 1408) :
    out0_4 (F := Ideal) v0 v2 v4 v6 (ix3 h r j)
      = if h = 0 then k0_pay3 (F := Ideal) v0 v2 v4 v6 (ix3 0 r j) else k0_pay4 (F := Ideal) v0 v2 v4 (ix3 0 r j) := by
  unfold out0_4
  rw [View.ld_unit_zero (S := S512x1024) hz, View.ld_unit_zero (S := S1408x1024) hz,
    View.ld_unit_zero (S := S512x1408) hz, View.ld_unit_zero (S := S512x1408) hz]
  match h with
  | 0 =>
    rw [if_pos rfl, View.canon_cons_of_not_mem _ _ (by
      show (ix3 0 r j : S2x512x1408.Idx) ∉ r0_4.set
      rw [Rect.mem_set_unit]
      intro hm
      exact absurd (show 1 ≤ 0 from (hm 0).1) (by decide))]
    exact canon_at r0_3 _ _ (ix3 0 r j) _ (by
      funext a
      apply Fin.ext
      match a with
      | ⟨0, _⟩ => rfl
      | ⟨1, _⟩ => show 0 + 1 * r.val = r.val; omega
      | ⟨2, _⟩ => show 0 + 1 * j.val = j.val; omega)
  | 1 =>
    rw [if_neg (by decide)]
    exact canon_at r0_4 _ _ (ix3 0 r j) _ (by
      funext a
      apply Fin.ext
      match a with
      | ⟨0, _⟩ => rfl
      | ⟨1, _⟩ => show 0 + 1 * r.val = r.val; omega
      | ⟨2, _⟩ => show 0 + 1 * j.val = j.val; omega)

/-! ### A point's blocks -/

variable (m : (ℓ : Loc nD τ sig) → Buf (Elt Ideal) ℓ)

/-- Where each window of a point lies. -/
theorem wins : ∀ t : Fin cfg0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) ∧ (win0_3.index t 0 = t.val / 2 ∧ win0_3.index t 1 = t.val % 2)
    ∧ (win0_4.index t 0 = 0 ∧ win0_4.index t 1 = t.val / 2 ∧ win0_4.index t 2 = t.val % 2) :=
  (by decide +kernel : ∀ t : Fin grid0.N, _)

/-- The row of the array a row of a point's block is. -/
def row (t : Fin cfg0.N) (r : Fin 512) : Fin 8192 :=
  ⟨512 * (t.val / 2) + r.val, by have := t.isLt; have : cfg0.N = 32 := N_0; omega⟩
/-- The column of the array a column of a point's block is. -/
def col (t : Fin cfg0.N) (j : Fin 1408) : Fin 2816 := ⟨1408 * (t.val % 2) + j.val, by omega⟩

theorem b0 (c : Dev nD) (t : Fin cfg0.N) (r : Fin 512) (k : Fin 1024) :
    (iblk m c 0 t : Vec Ideal S512x1024 .f32) (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 2) + r.val; rw [(wins t).1.1]; omega
  | ⟨1, _⟩ => show win0_0.index t 1 * 1024 + 1 * k.val = k.val; rw [(wins t).1.2]; omega
theorem b1 (c : Dev nD) (t : Fin cfg0.N) (j : Fin 1408) (k : Fin 1024) :
    (iblk m c 1 t : Vec Ideal S1408x1024 .bf16) (ix2 j k) = m ((c : Thread nD τ).loc main_arg1) (ix2 (col t j) k) := by
  unfold iblk
  rw [View.read_apply]
  show V m c main_arg1 _ = _
  rw [V_main_arg1]
  congr 1
  funext a
  apply Fin.ext
  match a with
  | ⟨0, _⟩ => show win0_1.index t 0 * 1408 + 1 * j.val = 1408 * (t.val % 2) + j.val; rw [(wins t).2.1.1]; omega
  | ⟨1, _⟩ => show win0_1.index t 1 * 1024 + 1 * k.val = k.val; rw [(wins t).2.1.2]; omega
theorem b2 (c : Dev nD) (t : Fin cfg0.N) (r : Fin 512) (j : Fin 1408) :
    (iblk m c 2 t : Vec Ideal S512x1408 .f32) (ix2 r j) = m ((c : Thread nD τ).loc main_arg2) (ix2 (row t r) (col t j)) := by
  unfold iblk
  rw [View.read_apply]
  show V m c main_arg2 _ = _
  rw [V_main_arg2]
  congr 1
  funext a
  apply Fin.ext
  match a with
  | ⟨0, _⟩ => show win0_2.index t 0 * 512 + 1 * r.val = 512 * (t.val / 2) + r.val; rw [(wins t).2.2.1.1]; omega
  | ⟨1, _⟩ => show win0_2.index t 1 * 1408 + 1 * j.val = 1408 * (t.val % 2) + j.val; rw [(wins t).2.2.1.2]; omega
theorem b3 (c : Dev nD) (t : Fin cfg0.N) (r : Fin 512) (j : Fin 1408) :
    (iblk m c 3 t : Vec Ideal S512x1408 .f32) (ix2 r j) = m ((c : Thread nD τ).loc main_arg3) (ix2 (row t r) (col t j)) := by
  unfold iblk
  rw [View.read_apply]
  show V m c main_arg3 _ = _
  rw [V_main_arg3]
  congr 1
  funext a
  apply Fin.ext
  match a with
  | ⟨0, _⟩ => show win0_3.index t 0 * 512 + 1 * r.val = 512 * (t.val / 2) + r.val; rw [(wins t).2.2.2.1.1]; omega
  | ⟨1, _⟩ => show win0_3.index t 1 * 1408 + 1 * j.val = 1408 * (t.val % 2) + j.val; rw [(wins t).2.2.2.1.2]; omega

/-- The launch's gradient. -/
abbrev mgrad (c : Dev nD) : Fin 2 → Fin 8192 → Fin 2816 → EReal :=
  grad (m ((c : Thread nD τ).loc main_arg0)) (m ((c : Thread nD τ).loc main_arg1)) (m ((c : Thread nD τ).loc main_arg2))
    (m ((c : Thread nD τ).loc main_arg3))

/-- A point's block holds its rows and columns of the gradient. -/
theorem block (c : Dev nD) (t : Fin cfg0.N) (h : Fin 2) (r : Fin 512) (j : Fin 1408) :
    out0_4 (F := Ideal) (iblk m c 0 t) (iblk m c 1 t) (iblk m c 2 t) (iblk m c 3 t) (ix3 h r j) = mgrad m c h (row t r) (col t j) := by
  rw [out_at, pay3_at, pay4_at]
  unfold mgrad grad da
  simp only [b0, b1, b2, b3]

/-- The array after the launch, at a place of a point's block. -/
theorem final (c : Dev nD) (t : Fin cfg0.N) (h : Fin 2) (r : Fin 512) (j : Fin 1408) :
    (dats m 0 c).arrAt 4 cfg0.N (ix3 h (row t r) (col t j) : S2x8192x2816.Idx) = mgrad m c h (row t r) (col t j) := by
  have e := congrFun (Value.blocks4 m c t (flush0_4 t)) (ix3 h r j)
  rw [View.read_apply, Value.flushed4] at e
  refine Eq.trans (congrArg _ ?_) (e.trans (block m c t h r j))
  funext a
  apply Fin.ext
  match a with
  | ⟨0, _⟩ => show h.val = win0_4.index t 0 * 2 + 1 * h.val; rw [(wins t).2.2.2.2.1]; omega
  | ⟨1, _⟩ => show 512 * (t.val / 2) + r.val = win0_4.index t 1 * 512 + 1 * r.val; rw [(wins t).2.2.2.2.2.1]; omega
  | ⟨2, _⟩ => show 1408 * (t.val % 2) + j.val = win0_4.index t 2 * 1408 + 1 * j.val; rw [(wins t).2.2.2.2.2.2]; omega

/-- The array after the launch: the gradient everywhere. -/
theorem result (c : Dev nD) (h : Fin 2) (r : Fin 8192) (j : Fin 2816) :
    (dats m 0 c).arrAt 4 cfg0.N (ix3 h r j : S2x8192x2816.Idx) = mgrad m c h r j := by
  have hN : cfg0.N = 32 := N_0
  let t : Fin cfg0.N := ⟨2 * (r.val / 512) + j.val / 1408, by omega⟩
  have er : row t ⟨r.val % 512, by omega⟩ = r := Fin.ext (by
    show 512 * ((2 * (r.val / 512) + j.val / 1408) / 2) + r.val % 512 = r.val; omega)
  have ej : col t ⟨j.val % 1408, by omega⟩ = j := Fin.ext (by
    show 1408 * ((2 * (r.val / 512) + j.val / 1408) % 2) + j.val % 1408 = j.val; omega)
  have e := final m c t h ⟨r.val % 512, by omega⟩ ⟨j.val % 1408, by omega⟩
  rwa [er, ej] at e

end

/-! ### The reference -/

namespace Ref
open Cert.FfnDownDxRefIdeal Cert.FfnDownDxRefIdeal.Read

variable (x0 : Mat 8192 1024) (x1 : Mat 2816 1024) (x2 x3 : Mat 8192 2816)

theorem v4 (r : Fin 8192) (j : Fin 2816) : val_main_v4 (F := Ideal) x0 x1 (ix2 r j) = da x0 x1 r j := by
  rw [val_main_v4_apply]
  refine Finset.sum_congr rfl fun k _ => ?_
  exact congrArg₂ (· * ·) (congrArg x0 (eq_ix2 _)) (congrArg x1 (eq_ix2 _))
theorem sg (i : S8192x2816.Idx) : val_main_v0_2 (F := Ideal) x2 i = Ideal.logistic (x2 i) := by
  rw [eq_ix2 i]
  pointwise [val_main_v0_2, val_main_call0_v4, val_main_call0_cst_0, val_main_call0_v3, val_main_call0_v2, val_main_call0_cst,
    val_main_call0_v1, val_main_call0_v0]
  rfl
theorem dgate (r : Fin 8192) (j : Fin 2816) : val_main_v7 (F := Ideal) x0 x1 x2 x3 (ix2 r j)
    = da x0 x1 r j * x3 (ix2 r j) * Ideal.logistic (x2 (ix2 r j))
      + x2 (ix2 r j) * (da x0 x1 r j * x3 (ix2 r j)) * (Ideal.logistic (x2 (ix2 r j)) * (1 - Ideal.logistic (x2 (ix2 r j)))) := by
  pointwise [val_main_v7, val_main_call1_v1, val_main_call1_v2, val_main_call1_v0, val_main_v6, val_main_v0_1, val_main_call0_v7,
    val_main_call0_v6, val_main_call0_cst_1, v4, sg]
theorem dup (r : Fin 8192) (j : Fin 2816) : val_main_v5 (F := Ideal) x0 x1 x2 (ix2 r j)
    = x2 (ix2 r j) * Ideal.logistic (x2 (ix2 r j)) * da x0 x1 r j := by
  pointwise [val_main_v5, val_main_v0_0, v4, sg]

/-- The reference's two gradients, from a finite cotangent of the gated rows and finite up rows. -/
theorem result (hd : ∀ r j, Fin' (da x0 x1 r j)) (hu : ∀ r j, Fin' (x3 (ix2 r j))) (h : Fin 2) (r : Fin 8192) (j : Fin 2816) :
    val_main_v11 (F := Ideal) x0 x1 x2 x3 (ix3 h r j) = grad x0 x1 x2 x3 h r j := by
  unfold grad
  match h with
  | 0 =>
    rw [if_pos rfl, gate_grad (fin_mul (hd r j) (hu r j)), ← dgate]
    pointwise [val_main_v11, val_main_v10, val_main_v8, val_main_v9]
  | 1 =>
    rw [if_neg (by decide)]
    refine Eq.trans ?_ ((dup x0 x1 x2 r j).trans (by ac_rfl))
    pointwise [val_main_v11, val_main_v10, val_main_v8, val_main_v9]

end Ref

/-! ### The claim -/

section
open Cert.Pre_ffn_down_dx_finite
/-- The cotangent of the gated rows and the up rows are finite where the precondition holds. -/
theorem pre_fin (x0 : Mat 8192 1024) (x1 : Mat 2816 1024) (x2 x3 : Mat 8192 2816)
    (h : Cert.Pre_ffn_down_dx_finite.fn (F := Ideal) x0 x1 x2 x3 = fun _ => 1#1) :
    (∀ r j, Fin' (da x0 x1 r j)) ∧ ∀ r j, Fin' (x3 (ix2 r j)) := by
  have h0 := congrFun h ValueIdx.ix0
  dsimp only [Cert.Pre_ffn_down_dx_finite.fn] at h0
  obtain ⟨hab, hc⟩ := IntOp.andi_eq_one.1 h0
  obtain ⟨ha, hb⟩ := IntOp.andi_eq_one.1 hab
  haveI : Subsingleton S_.Idx := ⟨fun a b => funext fun i => i.elim0⟩
  have h1 : ∀ r k, Fin' (x0 (ix2 r k)) := fun r k => fin_of_lt (Host.reduce_andi_all _ _ _ _ _ ha (ix2 r k))
  have h2 : ∀ j k, Fin' (x1 (ix2 j k)) := fun j k => fin_of_lt (Host.reduce_andi_all _ _ _ _ _ hb (ix2 j k))
  exact ⟨fun r j => fin_sum _ fun k => fin_mul (h1 r k) (h2 j k),
    fun r j => fin_of_lt (Host.reduce_andi_all _ _ _ _ _ hc (ix2 r j))⟩
end

/-- The kernel and the reference end with the same gradients where the precondition holds. -/
theorem algebraic : Cert.algebraic_FfnDownDxIdeal_FfnDownDxRefIdeal_pre_ffn_down_dx_finite := by
  intro m g m' g' hpre hag
  refine ⟨fun c => (Cert.FfnDownDxIdeal.Gen.dats m 0 c).arrAt 4 Cert.FfnDownDxIdeal.cfg0.N,
    Cert.FfnDownDxIdeal.Value.run_blocks m g, ?_⟩
  refine (θ_run Cert.FfnDownDxRefIdeal.defs _ _).mono (fun r h c => ?_) (Cert.FfnDownDxRefIdeal.Value.run m' g')
  obtain ⟨e0, e1, e2, e3⟩ := hag c
  obtain ⟨h0, ha⟩ := h c
  obtain ⟨hd, hu⟩ := pre_fin _ _ _ _ (hpre c)
  refine ⟨(h0.trans (Cert.FfnDownDxRefIdeal.Read.val_main_v11_eq _ _ _ _)).trans ?_, ha⟩
  rw [e0, e1, e2, e3]
  exact ext3 fun h r j => (Ref.result _ _ _ _ hd hu h r j).trans (result m c h r j).symm

/-- The reference ends, changes no argument and leaves every counter at zero. -/
theorem frame_ref : Cert.quiescent_FfnDownDxRefIdeal := fun m' g' _ =>
  (θ_run Cert.FfnDownDxRefIdeal.defs _ _).mono
    (fun r h => ⟨fun c => (h c).2, Idealize.ShloMosaic.sem_eq_zero_of_no_sems (by decide) r.2⟩)
    (Cert.FfnDownDxRefIdeal.Value.run m' g')

end Cert.DownDx

end
-- ==== Proof.NormBwd.lean ====
/- The mathematics of a normalized row: the row, its gradient as the kernels and the references write it, and the norm weights'
   gradient as eight blocks' sums. -/
module

public import proofs.«01_k».proof.Proof.Prod

@[expose] public section

noncomputable section

namespace Cert.Norm

open Idealize.ShloMosaic
open Cert.Sgu (Fin' fin_coe)
open Cert.Prod
open scoped BigOperators

/-- A row of 1024 lanes. -/
abbrev Lane : Type := Fin 1024 → EReal
/-- Row `r` of a matrix of 8192 rows. -/
abbrev rowOf (x : Mat 8192 1024) (r : Fin 8192) : Lane := fun k => x (ix2 r k)

/-- The number of lanes, the normalization's ε and minus one half, as the programs spell them. -/
def cL : EReal := Ideal.ofBits .f32 0x44800000#32
def cE : EReal := Ideal.ofBits .f32 0x358637BD#32
def cN : EReal := Ideal.ofBits .f32 0xBF000000#32

theorem cL_eq : cL = ((1024 : ℝ) : EReal) := by
  unfold cL
  simp [Ideal.ofBits, Ideal.ieee, -EReal.coe_mul]
  norm_num
theorem cN_eq : cN = ((-2⁻¹ : ℝ) : EReal) := by
  unfold cN
  simp [Ideal.ofBits, Ideal.ieee, -EReal.coe_mul]
  norm_num
theorem cE_eq : ∃ e : ℝ, 0 < e ∧ cE = (e : EReal) := by
  refine ⟨8796093 * 2 ^ (-43 : ℤ), by norm_num, ?_⟩
  unfold cE
  simp [Ideal.ofBits, Ideal.ieee, -EReal.coe_mul]

/-- The mean square of a row plus ε, and its reciprocal root. -/
def ms (x : Lane) : EReal := Ideal.div (∑ k, x k * x k) cL + cE
def rs (x : Lane) : EReal := Ideal.rsqrt (ms x)
/-- The normalized row. -/
def xh (x : Lane) (j : Fin 1024) : EReal := x j * rs x

/-- A row's gradient as the kernel writes it, from the residual's cotangent `d` and the product's `g`. -/
def dxK (x w g : Lane) (d : EReal) (j : Fin 1024) : EReal :=
  d + rs x * (g j * w j - xh x j * Ideal.div (∑ k, g k * w k * xh x k) cL)

/-- The same as the derivative of the reference's lines. -/
def dT (x w g : Lane) : EReal := Ideal.div ((∑ k, x k * (g k * w k)) * (cN * Ideal.div (rs x) (ms x))) cL
def dxR (x w g : Lane) (d : EReal) (j : Fin 1024) : EReal :=
  d + g j * w j * rs x + x j * dT x w g + dT x w g * x j

/-- A sum of reals, read as extended reals. -/
theorem coe_sum (f : Fin 1024 → ℝ) : ∑ k, (f k : EReal) = ((∑ k, f k : ℝ) : EReal) :=
  (map_sum (⟨⟨fun r => (r : EReal), EReal.coe_zero⟩, EReal.coe_add⟩ : ℝ →+ EReal) f Finset.univ).symm

/-- A finite row's mean square is a positive real. -/
theorem ms_coe (x : Fin 1024 → ℝ) : ∃ v : ℝ, 0 < v ∧ ms (fun k => (x k : EReal)) = (v : EReal) := by
  obtain ⟨e, he, ee⟩ := cE_eq
  refine ⟨(∑ k, x k * x k) * (1 / 1024) + e, by
    have : 0 ≤ ∑ k, x k * x k := Finset.sum_nonneg fun k _ => mul_self_nonneg _
    positivity, ?_⟩
  unfold ms
  rw [ee, cL_eq, Ideal.div_coe (by norm_num)]
  simp only [← EReal.coe_mul]
  rw [coe_sum, ← EReal.coe_mul, ← EReal.coe_add]

/-- Where the row, the weights and the product's cotangent are finite, the two gradients are the same number, whatever
    the residual's cotangent. -/
theorem dx_eq (x w g : Lane) (hx : ∀ k, Fin' (x k)) (hw : ∀ k, Fin' (w k)) (hg : ∀ k, Fin' (g k)) (d : EReal) (j : Fin 1024) :
    dxK x w g d j = dxR x w g d j := by
  choose x' ex using fun k => fin_coe (hx k)
  choose w' ew using fun k => fin_coe (hw k)
  choose g' eg using fun k => fin_coe (hg k)
  obtain rfl : x = fun k => (x' k : EReal) := funext ex
  obtain rfl : w = fun k => (w' k : EReal) := funext ew
  obtain rfl : g = fun k => (g' k : EReal) := funext eg
  obtain ⟨v, hv, ev⟩ := ms_coe x'
  have er : rs (fun k => (x' k : EReal)) = (((Real.sqrt v)⁻¹ : ℝ) : EReal) := by
    unfold rs
    rw [ev, Ideal.rsqrt_coe, if_neg (not_lt.2 hv.le), if_neg hv.ne']
  unfold dxK dxR dT xh
  rw [add_assoc, add_assoc]
  congr 1
  simp only [er, ev, cN_eq, cL_eq, Ideal.div_coe (show (1024 : ℝ) ≠ 0 by norm_num), Ideal.div_coe hv.ne', ← EReal.coe_mul]
  simp only [coe_sum, ← EReal.coe_mul, ← EReal.coe_add, ← EReal.coe_sub]
  refine congrArg _ ?_
  have hs : Real.sqrt v * Real.sqrt v = v := Real.mul_self_sqrt hv.le
  have h0 : Real.sqrt v ≠ 0 := (Real.sqrt_pos.2 hv).ne'
  have e1 : ∑ k, g' k * w' k * (x' k * (Real.sqrt v)⁻¹) = (∑ k, x' k * (g' k * w' k)) * (Real.sqrt v)⁻¹ := by
    rw [Finset.sum_mul]
    exact Finset.sum_congr rfl fun k _ => by ring
  rw [e1]
  generalize ∑ k, x' k * (g' k * w' k) = s
  rw [← hs]
  generalize hq : Real.sqrt (Real.sqrt v * Real.sqrt v) = q
  have e2 : q = Real.sqrt v := by rw [← hq, hs]
  rw [e2]
  field_simp
  ring

/-- The norm weights' gradient. -/
def dw (X G : Fin 8192 → Lane) (j : Fin 1024) : EReal := ∑ r : Fin 8192, G r j * xh (X r) j

/-- What an output holds that every fourth point adds to and the others keep: the parts so far. -/
theorem sum_kept {N : ℕ} (S : (n : ℕ) → n < N → EReal) (P : ℕ → EReal) (h0 : ∀ h, S 0 h = 0)
    (h1 : ∀ n h, ¬ (n + 1) % 4 = 3 → S (n + 1) h = S n (Nat.lt_of_succ_lt h))
    (h2 : ∀ n h, (n + 1) % 4 = 3 → S (n + 1) h = S n (Nat.lt_of_succ_lt h) + P ((n + 1) / 4)) :
    ∀ (n : ℕ) (h : n < N), S n h = ∑ k ∈ Finset.range ((n + 1) / 4), P k
  | 0, h => (h0 h).trans (by simp)
  | n + 1, h => by
    have ih := sum_kept S P h0 h1 h2 n (Nat.lt_of_succ_lt h)
    by_cases e : (n + 1) % 4 = 3
    · rw [h2 n h e, ih, show (n + 1 + 1) / 4 = (n + 1) / 4 + 1 by omega, Finset.sum_range_succ]
    · rw [h1 n h e, ih, show (n + 1 + 1) / 4 = (n + 1) / 4 by omega]

/-- The eight blocks' parts together are the norm weights' gradient. -/
theorem dw_blocks (X G : Fin 8192 → Lane) (j : Fin 1024) :
    ∑ k ∈ Finset.range 8, ∑ r : Fin 1024, G (row8 k r) j * xh (X (row8 k r)) j = dw X G j := by
  unfold dw
  rw [Finset.sum_range, ← sum_row8 _ 0]
  refine Finset.sum_congr rfl fun k _ => Finset.sum_congr rfl fun r _ => ?_
  rw [show 8 * 0 + k.val = k.val by omega]

end Cert.Norm

end
-- ==== Proof.UpDx.lean ====
/- The feed-forward block's gradient through its first product and its norm: the runs of four points that add the product up,
   the rows' gradient and the norm weights' gradient they end in, and the derivative of the reference's lines. -/
module

public import proofs.«01_k».proof.Defs
public import proofs.«01_k».proof.Proof.NormBwd
public import proofs.«01_k».proof.Proof.Gen.FfnUpDxIdeal.Value
public import proofs.«01_k».proof.Proof.Gen.FfnUpDxRefIdeal.Read
public import proofs.«01_k».proof.Proof.Gen.FfnUpDxRefIdeal.Run
public import proofs.«01_k».proof.Proof.Gen.Pre_ffn_up_dx_finite
public import Idealize.ShloMosaic.Lib.StableHlo.RunRead

@[expose] public section

noncomputable section

namespace Cert.UpDx

open Idealize.ShloMosaic Idealize.ShloMosaic.TcCoe Idealize.SL.Sem
open Cert.Sgu (Fin' fin_mul fin_of_lt ext2)
open Cert.Prod Cert.Norm
open scoped BigOperators

/-- The gate's and the up rows' cotangents side by side. -/
def both (x0 : Stack 2 8192 2816) (r : Fin 8192) (k : Fin 5632) : EReal := x0 (ix3 ⟨k.val / 2816, by omega⟩ r ⟨k.val % 2816, by omega⟩)

/-- The product's cotangent: that of the normalized rows. -/
def ct (x0 : Stack 2 8192 2816) (x1 : Mat 1024 5632) (r : Fin 8192) (j : Fin 1024) : EReal :=
  ∑ k : Fin 5632, both x0 r k * x1 (ix2 j k)

section
open Cert.FfnUpDxIdeal Cert.FfnUpDxIdeal.Gen

/-! ### A point's terms -/

theorem pay1_at (v0 : Vec Ideal S1x1024x1408 .bf16) (v2 : Vec Ideal S1024x1408 .bf16) (r : Fin 1024) (j : Fin 1024) :
    k0_pay1 (F := Ideal) v0 v2 (ix2 r j) = ∑ k : Fin 1408, v0 (ix3 0 r k) * v2 (ix2 j k) := by
  pointwise [k0_pay1]
theorem pay2_at (v0 : Vec Ideal S1x1024x1408 .bf16) (v2 : Vec Ideal S1024x1408 .bf16) (r : Fin 1024) (j : Fin 1024) :
    k0_pay2 (F := Ideal) v0 v2 (ix2 r j) = ∑ k : Fin 1408, v0 (ix3 0 r k) * v2 (ix2 j k) := by
  pointwise [k0_pay2, pay1_at]
theorem pay3_at (v0 : Vec Ideal S1x1024x1408 .bf16) (v2 : Vec Ideal S1024x1408 .bf16) (a : Vec Ideal S1024x1024 .f32) (r : Fin 1024) (j : Fin 1024) :
    k0_pay3 (F := Ideal) v0 v2 a (ix2 r j) = a (ix2 r j) + ∑ k : Fin 1408, v0 (ix3 0 r k) * v2 (ix2 j k) := by
  pointwise [k0_pay3, pay1_at]
theorem pay4_at (j : Fin 1024) : k0_pay4 (F := Ideal) (ix2 0 j) = 0 := by
  pointwise [k0_pay4]
theorem pay5_at (x : Vec Ideal S1024x1024 .f32) (r : Fin 1024) : k0_pay5 (F := Ideal) x (ix2 r 0) = rs fun k => x (ix2 r k) := by
  pointwise [k0_pay5]
  rfl
theorem pay6_at (x : Vec Ideal S1024x1024 .f32) (r j : Fin 1024) : k0_pay6 (F := Ideal) x (ix2 r j) = xh (fun k => x (ix2 r k)) j := by
  pointwise [k0_pay6, pay5_at]
  rfl
theorem pay7_at (g x : Vec Ideal S1024x1024 .f32) (b : Vec Ideal S1x1024 .f32) (j : Fin 1024) :
    k0_pay7 (F := Ideal) g x b (ix2 0 j) = b (ix2 0 j) + ∑ r : Fin 1024, g (ix2 r j) * xh (fun k => x (ix2 r k)) j := by
  pointwise [k0_pay7, pay6_at]
theorem pay8_at (g x : Vec Ideal S1024x1024 .f32) (w : Vec Ideal S1x1024 .f32) (d : Vec Ideal S1024x1024 .f32) (r j : Fin 1024) :
    k0_pay8 (F := Ideal) g x w d (ix2 r j)
      = dxK (fun k => x (ix2 r k)) (fun k => w (ix2 0 k)) (fun k => g (ix2 r k)) (d (ix2 r j)) j := by
  pointwise [k0_pay8, pay6_at, pay5_at]
  rfl

section
variable (c : Dev nD) (i : grid0.Coords) (a2 : Memref sig .tc .vmem S1x1024x1408 .bf16) (h2 : a2.IsWhole)
  (a3 : Memref sig .tc .vmem S1024x1408 .bf16) (h3 : a3.IsWhole) (a4 : Memref sig .tc .vmem S1024x1024 .f32) (h4 : a4.IsWhole)
  (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1x1024 .f32) (h8 : a8.IsWhole)
  (a9 : Memref sig .tc .vmem S1024x1024 .f32) (h9 : a9.IsWhole)
  (x0 : Vec Ideal S1x1024x1408 .bf16) (x1 : Vec Ideal S1024x1408 .bf16) (x2 : Vec Ideal S1024x1024 .f32) (x3 : Vec Ideal S1x1024 .f32)
  (x4 : Vec Ideal S1024x1024 .f32) (b : Vec Ideal S1x1024 .f32) (s : Vec Ideal S1024x1024 .f32)

/-- The launch's first point leaves its part in the scratch, -/
theorem sout_A (hc0 : cond0_0 i) (hc1 : ¬cond0_1 i) (hc2 : cond0_2 i) (hc3 : ¬cond0_3 i) :
    sout0_A_0 c i a2 h2 a3 h3 a4 h4 a5 h5 a6 h6 a7 h7 a8 h8 a9 h9 hc0 hc1 hc2 hc3 x0 x1 x2 x3 x4 = k0_pay2 x0 x1 := by
  unfold sout0_A_0
  rw [View.read_writes_eq_canon _ _ _ (scover0_A_0 c i a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero hz]
  simp only [View.readAt_eq_ld, h2.read_unread, h3.read_unread, View.ld_unit_zero (S := S1x1024x1408) hz3, View.ld_unit_zero (S := S1024x1408) hz]

/-- and zeros in the norm weights' gradient. -/
theorem out_A (hc0 : cond0_0 i) (hc1 : ¬cond0_1 i) (hc2 : cond0_2 i) (hc3 : ¬cond0_3 i) :
    out0_A_6 c i a2 h2 a3 h3 a4 h4 a5 h5 a6 h6 a7 h7 a8 h8 a9 h9 hc0 hc1 hc2 hc3 x0 x1 x2 x3 x4 = k0_pay4 (F := Ideal) := by
  unfold out0_A_6
  rw [View.read_writes_eq_canon _ _ _ (cover0_A_6 c i a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero hz]

/-- Another run's first point leaves its part. -/
theorem sout_D (hc0 : cond0_0 i) (hc1 : ¬cond0_1 i) (hc2 : ¬cond0_2 i) (hc3 : ¬cond0_3 i) :
    sout0_D_0 c i a2 h2 a3 h3 a4 h4 a5 h5 a6 h6 a7 h7 a8 h8 a9 h9 hc0 hc1 hc2 hc3 x0 x1 x2 x3 x4 = k0_pay2 x0 x1 := by
  unfold sout0_D_0
  rw [View.read_writes_eq_canon _ _ _ (scover0_D_0 c i a2 h2 a3 h3 a4 h4 a5 h5 a6 h6 a7 h7 a8 h8 a9 h9 hc0 hc1 hc2 hc3 x0 x1 x2 x3 x4)]
  unfold kernelRun0_D
  dsimp only
  sl_unfold_words
  rw [View.canon_unit_zero hz]
  simp only [View.readAt_eq_ld, h2.read_unread, h3.read_unread, View.ld_unit_zero (S := S1x1024x1408) hz3, View.ld_unit_zero (S := S1024x1408) hz]

/-- A later point adds its part. -/
theorem sout_B (hc0 : ¬cond0_0 i) (hc1 : cond0_1 i) (hc2 : ¬cond0_2 i) (hc3 : ¬cond0_3 i) :
    sout0_B_0 c i a2 h2 a3 h3 a4 h4 a5 h5 a6 h6 a7 h7 a8 h8 a9 h9 hc0 hc1 hc2 hc3 x0 x1 x2 x3 x4 s = k0_pay3 x0 x1 s := by
  unfold sout0_B_0
  rw [View.read_writes_eq_canon _ _ _ (scover0_B_0 c i a2 h2 a3 h3 a4 h4 a5 h5 a6 h6 a7 h7 a8 h8 a9 h9 hc0 hc1 hc2 hc3 x0 x1 x2 x3 x4 s)]
  unfold kernelRun0_B
  dsimp only
  sl_unfold_words
  rw [View.canon_unit_zero hz]
  simp only [View.readAt_eq_ld, h2.read_unread, h3.read_unread, h9.read_unread, View.ld_unit_zero (S := S1x1024x1408) hz3,
    View.ld_unit_zero (S := S1024x1408) hz, View.ld_unit_zero (S := S1024x1024) hz]

/-- A run's last point adds its part, -/
theorem sout_C (hc0 : ¬cond0_0 i) (hc1 : cond0_1 i) (hc2 : ¬cond0_2 i) (hc3 : cond0_3 i) :
    sout0_C_0 c i a2 h2 a3 h3 a4 h4 a5 h5 a6 h6 a7 h7 a8 h8 a9 h9 hc0 hc1 hc2 hc3 x0 x1 x2 x3 x4 b s = k0_pay3 x0 x1 s := by
  unfold sout0_C_0
  rw [View.read_writes_eq_canon _ _ _ (scover0_C_0 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h9.read_unread, View.ld_unit_zero (S := S1x1024x1408) hz3,
    View.ld_unit_zero (S := S1024x1408) hz, View.ld_unit_zero (S := S1024x1024) hz]

/-- writes the rows' gradient -/
theorem out_C5 (hc0 : ¬cond0_0 i) (hc1 : cond0_1 i) (hc2 : ¬cond0_2 i) (hc3 : cond0_3 i) :
    out0_C_5 c i a2 h2 a3 h3 a4 h4 a5 h5 a6 h6 a7 h7 a8 h8 a9 h9 hc0 hc1 hc2 hc3 x0 x1 x2 x3 x4 b s = k0_pay8 (k0_pay3 x0 x1 s) x2 x3 x4 := by
  unfold out0_C_5
  rw [View.read_writes_eq_canon _ _ _ (cover0_C_5 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h4.read_unread, h5.read_unread, h6.read_unread, h9.read_unread,
    View.ld_unit_zero (S := S1x1024x1408) hz3, View.ld_unit_zero (S := S1024x1408) hz, View.ld_unit_zero (S := S1024x1024) hz,
    View.ld_unit_zero (S := S1x1024) hz, View.readCov_cons_toLoadRect]

/-- and adds its rows' part to the norm weights' gradient. -/
theorem out_C6 (hc0 : ¬cond0_0 i) (hc1 : cond0_1 i) (hc2 : ¬cond0_2 i) (hc3 : cond0_3 i) :
    out0_C_6 c i a2 h2 a3 h3 a4 h4 a5 h5 a6 h6 a7 h7 a8 h8 a9 h9 hc0 hc1 hc2 hc3 x0 x1 x2 x3 x4 b s = k0_pay7 (k0_pay3 x0 x1 s) x2 b := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h4.read_unread, h8.read_unread, h9.read_unread,
    View.ld_unit_zero (S := S1x1024x1408) hz3, View.ld_unit_zero (S := S1024x1408) hz, View.ld_unit_zero (S := S1024x1024) hz,
    View.ld_unit_zero (S := S1x1024) hz, View.readCov_cons_toLoadRect]
end

/-! ### A point's blocks -/

variable (m : (ℓ : Loc nD τ sig) → Buf (Elt Ideal) ℓ)

/-- Where each window of a point lies. -/
theorem wins : ∀ t : Fin cfg0.N,
    (win0_0.index t 0 = t.val % 4 / 2 ∧ win0_0.index t 1 = t.val / 4 ∧ win0_0.index t 2 = t.val % 4 % 2)
    ∧ (win0_1.index t 0 = 0 ∧ win0_1.index t 1 = t.val % 4) ∧ (win0_2.index t 0 = t.val / 4 ∧ win0_2.index t 1 = 0)
    ∧ (win0_3.index t 0 = 0 ∧ win0_3.index t 1 = 0) ∧ (win0_4.index t 0 = t.val / 4 ∧ win0_4.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg3)) := by
  unfold V
  after_results

/-- The launch's arguments. -/
abbrev A0 (c : Dev nD) : Stack 2 8192 2816 := m ((c : Thread nD τ).loc main_arg0)
abbrev A1 (c : Dev nD) : Mat 1024 5632 := m ((c : Thread nD τ).loc main_arg1)
abbrev A2 (c : Dev nD) : Mat 8192 1024 := m ((c : Thread nD τ).loc main_arg2)
abbrev A3 (c : Dev nD) : (⟨1, ![1024]⟩ : Shape).Idx → EReal := m ((c : Thread nD τ).loc main_arg3)
abbrev A4 (c : Dev nD) : Mat 8192 1024 := m ((c : Thread nD τ).loc main_arg4)
/-- Its product's cotangent, and its norm weights. -/
abbrev mct (c : Dev nD) : Fin 8192 → Lane := ct (A0 m c) (A1 m c)
abbrev mw (c : Dev nD) : Lane := fun j => A3 m c (ix1 j)

/-- The blocks a point reads. -/
abbrev B0 (c : Dev nD) (t : Fin cfg0.N) : Stack 1 1024 1408 := iblk m c 0 t
abbrev B1 (c : Dev nD) (t : Fin cfg0.N) : Mat 1024 1408 := iblk m c 1 t
abbrev B2 (c : Dev nD) (t : Fin cfg0.N) : Mat 1024 1024 := iblk m c 2 t
abbrev B3 (c : Dev nD) (t : Fin cfg0.N) : Mat 1 1024 := iblk m c 3 t
abbrev B4 (c : Dev nD) (t : Fin cfg0.N) : Mat 1024 1024 := iblk m c 4 t

/-- The column of the product a column of point `n`'s blocks is. -/
def col (n : ℕ) (k : Fin 1408) : Fin 5632 := ⟨1408 * (n % 4) + k.val, by omega⟩

theorem b0 (c : Dev nD) (t : Fin cfg0.N) (r : Fin 1024) (k : Fin 1408) :
    B0 m c t (ix3 0 r k) = both (A0 m c) (row8 (t.val / 4) r) (col t.val k) := by
  have ht : t.val < 32 := lt_of_lt_of_eq t.isLt (show cfg0.N = 32 from N_0)
  unfold B0 iblk both
  rw [View.read_apply]
  show V m c main_arg0 _ = _
  rw [V_main_arg0]
  congr 1
  funext a
  apply Fin.ext
  match a with
  | ⟨0, _⟩ => show win0_0.index t 0 * 1 + 1 * 0 = (1408 * (t.val % 4) + k.val) / 2816; rw [(wins t).1.1]; omega
  | ⟨1, _⟩ => show win0_0.index t 1 * 1024 + 1 * r.val = 1024 * (t.val / 4 % 8) + r.val; rw [(wins t).1.2.1]; omega
  | ⟨2, _⟩ => show win0_0.index t 2 * 1408 + 1 * k.val = (1408 * (t.val % 4) + k.val) % 2816; rw [(wins t).1.2.2]; omega
theorem b1 (c : Dev nD) (t : Fin cfg0.N) (j : Fin 1024) (k : Fin 1408) : B1 m c t (ix2 j k) = A1 m c (ix2 j (col t.val k)) := by
  unfold B1 iblk
  rw [View.read_apply]
  show V m c main_arg1 _ = _
  rw [V_main_arg1]
  congr 1
  funext a
  apply Fin.ext
  match a with
  | ⟨0, _⟩ => show win0_1.index t 0 * 1024 + 1 * j.val = j.val; rw [(wins t).2.1.1]; omega
  | ⟨1, _⟩ => show win0_1.index t 1 * 1408 + 1 * k.val = 1408 * (t.val % 4) + k.val; rw [(wins t).2.1.2]; omega
theorem b2 (c : Dev nD) (t : Fin cfg0.N) (r k : Fin 1024) : B2 m c t (ix2 r k) = A2 m c (ix2 (row8 (t.val / 4) r) k) := by
  have ht : t.val < 32 := lt_of_lt_of_eq t.isLt (show cfg0.N = 32 from N_0)
  unfold B2 iblk
  rw [View.read_apply]
  show V m c main_arg2 _ = _
  rw [V_main_arg2]
  congr 1
  funext a
  apply Fin.ext
  match a with
  | ⟨0, _⟩ => show win0_2.index t 0 * 1024 + 1 * r.val = 1024 * (t.val / 4 % 8) + r.val; rw [(wins t).2.2.1.1]; omega
  | ⟨1, _⟩ => show win0_2.index t 1 * 1024 + 1 * k.val = k.val; rw [(wins t).2.2.1.2]; omega
theorem b3 (c : Dev nD) (t : Fin cfg0.N) (k : Fin 1024) : B3 m c t (ix2 0 k) = mw m c k := by
  unfold B3 iblk
  rw [View.read_apply]
  have e : ((cfg0.win 3).blk t).view.emb (ix2 0 k) = (ix2 0 k : S1x1024.Idx) := by
    funext a
    apply Fin.ext
    match a with
    | ⟨0, _⟩ => show win0_3.index t 0 * 1 + 1 * 0 = 0; rw [(wins t).2.2.2.1.1]
    | ⟨1, _⟩ => show win0_3.index t 1 * 1024 + 1 * k.val = k.val; rw [(wins t).2.2.2.1.2]; omega
  show V m c main_v0 _ = _
  rw [V_v0]
  refine (congrArg _ e).trans ?_
  pointwise []
theorem b4 (c : Dev nD) (t : Fin cfg0.N) (r k : Fin 1024) : B4 m c t (ix2 r k) = A4 m c (ix2 (row8 (t.val / 4) r) k) := by
  have ht : t.val < 32 := lt_of_lt_of_eq t.isLt (show cfg0.N = 32 from N_0)
  unfold B4 iblk
  rw [View.read_apply]
  show V m c main_arg4 _ = _
  rw [V_main_arg4]
  congr 1
  funext a
  apply Fin.ext
  match a with
  | ⟨0, _⟩ => show win0_4.index t 0 * 1024 + 1 * r.val = 1024 * (t.val / 4 % 8) + r.val; rw [(wins t).2.2.2.2.1]; omega
  | ⟨1, _⟩ => show win0_4.index t 1 * 1024 + 1 * k.val = k.val; rw [(wins t).2.2.2.2.2]; omega

/-! ### A run of points -/

/-- Point `n`'s part of the product. -/
def part (c : Dev nD) (r j : Fin 1024) (n : ℕ) (h : n < cfg0.N) : EReal :=
  ∑ k : Fin 1408, both (A0 m c) (row8 (n / 4) r) (col n k) * A1 m c (ix2 j (col n k))

theorem part_eq (c : Dev nD) (r j : Fin 1024) (t : Fin cfg0.N) :
    (∑ k : Fin 1408, B0 m c t (ix3 0 r k) * B1 m c t (ix2 j k)) = part m c r j t.val t.isLt :=
  Finset.sum_congr rfl fun k _ => by rw [b0, b1]

/-- What the scratch holds after point `n`. -/
def scr (c : Dev nD) (n : ℕ) (h : n < cfg0.N) : Vec Ideal S1024x1024 .f32 := (outsAt0 m c n h).2.2

theorem scr_first (c : Dev nD) (r j : Fin 1024) (n : ℕ) (h : n < cfg0.N) (h0 : n % 4 = 0) :
    scr m c n h (ix2 r j) = part m c r j n h := by
  unfold scr
  by_cases h2 : n % 32 = 0
  · rw [outsAt0_A m c ⟨n, h⟩ h0 (by show ¬ 1 ≤ n % 4; omega) h2 (by show ¬ n % 4 = 3; omega)]
    dsimp only
    rw [sout_A, pay2_at]
    exact part_eq m c r j ⟨n, h⟩
  · rw [outsAt0_D m c ⟨n, h⟩ h0 (by show ¬ 1 ≤ n % 4; omega) h2 (by show ¬ n % 4 = 3; omega)]
    dsimp only
    rw [sout_D, pay2_at]
    exact part_eq m c r j ⟨n, h⟩
theorem scr_next (c : Dev nD) (r j : Fin 1024) (n : ℕ) (h : n + 1 < cfg0.N) (h0 : ¬ (n + 1) % 4 = 0) :
    scr m c (n + 1) h (ix2 r j) = scr m c n (Nat.lt_of_succ_lt h) (ix2 r j) + part m c r j (n + 1) h := by
  unfold scr
  by_cases h3 : (n + 1) % 4 = 3
  · rw [outsAt0_C m c ⟨n + 1, h⟩ h0 (by show 1 ≤ (n + 1) % 4; omega) (by show ¬ (n + 1) % 32 = 0; omega) h3]
    dsimp only
    rw [sout_C, pay3_at]
    exact congrArg (_ + ·) (part_eq m c r j ⟨n + 1, h⟩)
  · rw [outsAt0_B m c ⟨n + 1, h⟩ h0 (by show 1 ≤ (n + 1) % 4; omega) (by show ¬ (n + 1) % 32 = 0; omega) h3]
    dsimp only
    rw [sout_B, pay3_at]
    exact congrArg (_ + ·) (part_eq m c r j ⟨n + 1, h⟩)

/-- The scratch at a run's end holds the product. -/
theorem scr_last (c : Dev nD) (r j : Fin 1024) (q : ℕ) (hn : 4 * q + 3 < cfg0.N) :
    scr m c (4 * q + 3) hn (ix2 r j) = mct m c (row8 q r) j := by
  refine (sum_run 4 (fun n h => scr m c n h (ix2 r j)) (part m c r j) (scr_first m c r j) (scr_next m c r j) q 3 (by omega) hn).trans ?_
  unfold mct ct
  rw [sum_blocks (n := 5632) (a := 4) (b := 1408) (by norm_num)]
  refine Finset.sum_congr rfl fun p _ => Finset.sum_congr rfl fun k _ => ?_
  have e1 : (4 * q + p.val) / 4 = q := by omega
  have e2 : col (4 * q + p.val) k = ⟨1408 * p.val + k.val, by omega⟩ :=
    Fin.ext (by show 1408 * ((4 * q + p.val) % 4) + k.val = 1408 * p.val + k.val; omega)
  rw [e1, e2]

/-- The product a run's last point goes on with. -/
theorem acc_last (c : Dev nD) (t : Fin cfg0.N) (h3 : t.val % 4 = 3) (r j : Fin 1024) :
    k0_pay3 (F := Ideal) (iblk m c 0 t) (iblk m c 1 t) (outsAt0 m c (t.val - 1) (Nat.lt_of_le_of_lt (Nat.sub_le _ _) t.isLt)).2.2 (ix2 r j)
      = mct m c (row8 (t.val / 4) r) j := by
  have e := congrFun (congrArg (fun z => z.2.2) (outsAt0_C m c t (by omega) (by omega) (by omega) h3)) (ix2 r j)
  dsimp only at e
  rw [sout_C] at e
  refine e.symm.trans ?_
  have ht : t.val = 4 * (t.val / 4) + 3 := by omega
  have hs := scr_last m c r j (t.val / 4) (by rw [← ht]; exact t.isLt)
  unfold scr at hs
  simp only [← ht] at hs
  exact hs

/-! ### The rows' gradient -/

/-- What a run's last point writes. -/
theorem last5 (c : Dev nD) (t : Fin cfg0.N) (h3 : t.val % 4 = 3) (r j : Fin 1024) :
    (outsAt0 m c t.val t.isLt).1 (ix2 r j)
      = dxK (rowOf (A2 m c) (row8 (t.val / 4) r)) (mw m c) (mct m c (row8 (t.val / 4) r)) (A4 m c (ix2 (row8 (t.val / 4) r) j)) j := by
  rw [outsAt0_C m c t (by omega) (by omega) (by omega) h3]
  dsimp only
  rw [out_C5, pay8_at]
  rw [show (fun k => (iblk m c 2 t : Mat 1024 1024) (ix2 r k)) = rowOf (A2 m c) (row8 (t.val / 4) r) from funext fun k => b2 m c t r k,
    show (fun k => (iblk m c 3 t : Mat 1 1024) (ix2 0 k)) = mw m c from funext fun k => b3 m c t k,
    show (iblk m c 4 t : Mat 1024 1024) (ix2 r j) = _ from b4 m c t r j]
  exact congrArg (fun g => dxK _ _ g _ j) (funext fun k => acc_last m c t h3 r k)

/-- The array after the launch. -/
theorem result5 (c : Dev nD) (r : Fin 8192) (j : Fin 1024) :
    (dats m 0 c).arrAt 5 cfg0.N (ix2 r j : S8192x1024.Idx) = dxK (rowOf (A2 m c) r) (mw m c) (mct m c r) (A4 m c (ix2 r j)) j := by
  have hN : cfg0.N = 32 := N_0
  have hp : Value.pt5Of (ix2 r j) = 4 * (r.val / 1024) + 3 := by
    show 4 * (1 * (r.val / 1024 - 0) + 1 * (j.val / 1024 - 0)) + 3 = _
    omega
  have hl : Value.loc5Of (ix2 r j) = ix2 ⟨r.val % 1024, by omega⟩ j := by
    funext a
    apply Fin.ext
    match a with
    | ⟨0, _⟩ => rfl
    | ⟨1, _⟩ => show j.val % 1024 = j.val; omega
  rw [Value.final5]
  unfold Value.G5
  rw [dif_pos (by rw [hp]; omega), hl, Value.fold0_congr m c _ _ _ (by omega) hp, ← Value.outsAt0_sweep m c _ (by omega)]
  refine (last5 m c ⟨4 * (r.val / 1024) + 3, by omega⟩ (by show (4 * (r.val / 1024) + 3) % 4 = 3; omega) _ j).trans ?_
  have e : row8 ((4 * (r.val / 1024) + 3) / 4) ⟨r.val % 1024, by omega⟩ = r :=
    Fin.ext (by show 1024 * ((4 * (r.val / 1024) + 3) / 4 % 8) + r.val % 1024 = r.val; omega)
  dsimp only
  rw [e]

/-! ### The norm weights' gradient -/

/-- What the norm weights' gradient holds after point `n`. -/
def wsum (c : Dev nD) (n : ℕ) (h : n < cfg0.N) : Vec Ideal S1x1024 .f32 := (outsAt0 m c n h).2.1

theorem wsum_first (c : Dev nD) (j : Fin 1024) (h : 0 < cfg0.N) : wsum m c 0 h (ix2 0 j) = 0 := by
  unfold wsum
  rw [outsAt0_A m c ⟨0, h⟩ (Nat.zero_mod 4) (show ¬ 1 ≤ 0 % 4 by decide) (Nat.zero_mod 32) (show ¬ 0 % 4 = 3 by decide)]
  dsimp only
  rw [out_A, pay4_at]
theorem wsum_keep (c : Dev nD) (j : Fin 1024) (n : ℕ) (h : n + 1 < cfg0.N) (h3 : ¬ (n + 1) % 4 = 3) :
    wsum m c (n + 1) h (ix2 0 j) = wsum m c n (Nat.lt_of_succ_lt h) (ix2 0 j) := by
  have hN : cfg0.N = 32 := N_0
  unfold wsum
  by_cases h0 : (n + 1) % 4 = 0
  · rw [outsAt0_D m c ⟨n + 1, h⟩ h0 (by show ¬ 1 ≤ (n + 1) % 4; omega) (by show ¬ (n + 1) % 32 = 0; omega) h3]
    rfl
  · rw [outsAt0_B m c ⟨n + 1, h⟩ h0 (by show 1 ≤ (n + 1) % 4; omega) (by show ¬ (n + 1) % 32 = 0; omega) h3]
    rfl
theorem wsum_next (c : Dev nD) (j : Fin 1024) (n : ℕ) (h : n + 1 < cfg0.N) (h3 : (n + 1) % 4 = 3) :
    wsum m c (n + 1) h (ix2 0 j) = wsum m c n (Nat.lt_of_succ_lt h) (ix2 0 j)
      + ∑ r : Fin 1024, mct m c (row8 ((n + 1) / 4) r) j * xh (rowOf (A2 m c) (row8 ((n + 1) / 4) r)) j := by
  unfold wsum
  rw [outsAt0_C m c ⟨n + 1, h⟩ (by show ¬ (n + 1) % 4 = 0; omega) (by show 1 ≤ (n + 1) % 4; omega) (by show ¬ (n + 1) % 32 = 0; omega) h3]
  dsimp only
  rw [out_C6, pay7_at]
  refine congrArg (_ + ·) (Finset.sum_congr rfl fun r _ => congrArg₂ (· * ·) (acc_last m c ⟨n + 1, h⟩ h3 r j) ?_)
  exact congrArg (fun x => xh x j) (funext fun k => b2 m c ⟨n + 1, h⟩ r k)

/-- The array after the launch. -/
theorem result6 (c : Dev nD) (j : Fin 1024) :
    (dats m 0 c).arrAt 6 cfg0.N (ix2 0 j : S1x1024.Idx) = dw (rowOf (A2 m c)) (mct m c) j := by
  have hN : 31 < cfg0.N := lt_of_lt_of_eq (by decide) N_0.symm
  rw [Value.final6, Value.G6_last, ← Value.outsAt0_sweep m c 31 hN]
  refine (sum_kept (fun n h => wsum m c n h (ix2 0 j))
    (fun q => ∑ r : Fin 1024, mct m c (row8 q r) j * xh (rowOf (A2 m c) (row8 q r)) j)
    (wsum_first m c j) (wsum_keep m c j) (wsum_next m c j) 31 hN).trans ?_
  exact dw_blocks (rowOf (A2 m c)) (mct m c) j

end

/-! ### The reference -/

namespace Ref
open Cert.FfnUpDxRefIdeal Cert.FfnUpDxRefIdeal.Read

variable (x0 : Stack 2 8192 2816) (x1 : Mat 1024 5632) (x2 : Mat 8192 1024) (x3 : (⟨1, ![1024]⟩ : Shape).Idx → EReal) (x4 : Mat 8192 1024)

/-- The two halves of the cotangent, laid side by side. -/
theorem v22 (r : Fin 8192) (k : Fin 5632) : val_main_v22 (F := Ideal) x0 (ix2 r k) = both x0 r k := by
  unfold both
  by_cases h : k.val < 2816
  · have e0 : (⟨k.val / 2816, by omega⟩ : Fin 2) = 0 := Fin.ext (by show k.val / 2816 = 0; omega)
    have e1 : (⟨k.val % 2816, by omega⟩ : Fin 2816) = ⟨k.val, h⟩ := Fin.ext (by show k.val % 2816 = k.val; omega)
    rw [e0, e1]
    pointwise [val_main_v22, val_main_v19, val_main_v18]
    rw [dif_pos h]
  · have e0 : (⟨k.val / 2816, by omega⟩ : Fin 2) = 1 := Fin.ext (by show k.val / 2816 = 1; omega)
    have e1 : (⟨k.val % 2816, by omega⟩ : Fin 2816) = ⟨k.val - 2816, by omega⟩ := Fin.ext (by show k.val % 2816 = k.val - 2816; omega)
    rw [e0, e1]
    pointwise [val_main_v22, val_main_v21, val_main_v20]
    rw [dif_neg h]
theorem v24 (r : Fin 8192) (j : Fin 1024) : val_main_v24 (F := Ideal) x0 x1 (ix2 r j) = ct x0 x1 r j := by
  rw [val_main_v24_apply]
  refine Finset.sum_congr rfl fun k _ => congrArg₂ (· * ·) ?_ (congrArg x1 (eq_ix2 _))
  exact (congrArg (val_main_v22 (F := Ideal) x0) (eq_ix2 _)).trans (v22 x0 r k)
theorem v6 (r : Fin 8192) : val_main_v6 (F := Ideal) x2 (ix2 r 0) = ms (rowOf x2 r) := by
  pointwise [val_main_v6, val_main_v5, val_main_cst_1, val_main_v4, val_main_v3, val_main_cst_0, val_main_v2, val_main_v1, val_main_cst, val_main_v0]
  rfl
theorem v7 (r : Fin 8192) : val_main_v7 (F := Ideal) x2 (ix2 r 0) = rs (rowOf x2 r) := by
  pointwise [val_main_v7, v6]
  rfl
theorem v10 (r : Fin 8192) : val_main_v10 (F := Ideal) x2 (ix2 r 0) = cN * Ideal.div (rs (rowOf x2 r)) (ms (rowOf x2 r)) := by
  pointwise [val_main_v10, val_main_v9, val_main_cst_2, val_main_v8, v7, v6]
  rfl
theorem v12 (r : Fin 8192) (j : Fin 1024) : val_main_v12 (F := Ideal) x2 (ix2 r j) = xh (rowOf x2 r) j := by
  pointwise [val_main_v12, val_main_v11, v7]
  rfl
theorem v29 (r : Fin 8192) (j : Fin 1024) : val_main_v29 (F := Ideal) x0 x1 x3 (ix2 r j) = ct x0 x1 r j * x3 (ix1 j) := by
  pointwise [val_main_v29, val_main_v28, val_main_v13, v24]
theorem v39 (r : Fin 8192) : val_main_v39 (F := Ideal) x0 x1 x2 x3 (ix2 r 0) = dT (rowOf x2 r) (fun k => x3 (ix1 k)) (ct x0 x1 r) := by
  pointwise [val_main_v39, val_main_v38, val_main_cst_6, val_main_v37, val_main_v33, val_main_v32, val_main_cst_5, val_main_v31, v29, v10]
  rfl
theorem v40 (r : Fin 8192) : val_main_v40 (F := Ideal) x0 x1 x2 x3 (ix1 r) = val_main_v39 (F := Ideal) x0 x1 x2 x3 (ix2 r 0) := by
  pointwise [val_main_v40, val_main_cst_7]
  exact Fin.sum_univ_one _
theorem v41 (r : Fin 8192) (j : Fin 1024) : val_main_v41 (F := Ideal) x0 x1 x2 x3 (ix2 r j)
    = dT (rowOf x2 r) (fun k => x3 (ix1 k)) (ct x0 x1 r) := by
  pointwise [val_main_v41, v40, v39]
theorem v26 (j : Fin 1024) : val_main_v26 (F := Ideal) x0 x1 x2 (ix1 j) = dw (rowOf x2) (ct x0 x1) j := by
  unfold dw
  simp only [mul_comm (ct x0 x1 _ j)]
  pointwise [val_main_v26, val_main_cst_3, val_main_v25, v24, v12]
theorem v30 (j : Fin 1024) : val_main_v30 (F := Ideal) x0 x1 x2 (ix1 j) = val_main_v27 (F := Ideal) x0 x1 x2 (ix2 0 j) := by
  pointwise [val_main_v30, val_main_cst_4]
  exact Fin.sum_univ_one _
/-- The reference's two gradients. -/
theorem result5 (r : Fin 8192) (j : Fin 1024) : val_main_v45 (F := Ideal) x0 x1 x2 x3 x4 (ix2 r j)
    = dxR (rowOf x2 r) (fun k => x3 (ix1 k)) (ct x0 x1 r) (x4 (ix2 r j)) j := by
  pointwise [val_main_v45, val_main_v44, val_main_v43, val_main_v42, val_main_v36, val_main_v35, val_main_v34, v41, v29, v7]
  rfl
theorem result6 (j : Fin 1024) : val_main_v46 (F := Ideal) x0 x1 x2 (ix2 0 j) = dw (rowOf x2) (ct x0 x1) j := by
  pointwise [val_main_v46, v30, val_main_v27, v26]

end Ref

/-! ### The claim -/

section
open Cert.Pre_ffn_up_dx_finite
/-- The rows, the norm weights and the product's cotangent are finite where the precondition holds. -/
theorem pre_fin (x0 : Stack 2 8192 2816) (x1 : Mat 1024 5632) (x2 : Mat 8192 1024) (x3 : (⟨1, ![1024]⟩ : Shape).Idx → EReal)
    (x4 : Mat 8192 1024) (h : Cert.Pre_ffn_up_dx_finite.fn (F := Ideal) x0 x1 x2 x3 x4 = fun _ => 1#1) :
    (∀ r j, Fin' (ct x0 x1 r j)) ∧ (∀ r k, Fin' (x2 (ix2 r k))) ∧ ∀ k, Fin' (x3 (ix1 k)) := by
  have h0 := congrFun h ValueIdx.ix0
  dsimp only [Cert.Pre_ffn_up_dx_finite.fn, Cert.Pre_ffn_up_dx_finite.fn_part1] at h0
  obtain ⟨habc, hd⟩ := IntOp.andi_eq_one.1 h0
  obtain ⟨hab, hc⟩ := IntOp.andi_eq_one.1 habc
  obtain ⟨ha, hb⟩ := IntOp.andi_eq_one.1 hab
  haveI : Subsingleton S_.Idx := ⟨fun a b => funext fun i => i.elim0⟩
  have h1 : ∀ a r k, Fin' (x0 (ix3 a r k)) := fun a r k => fin_of_lt (Host.reduce_andi_all _ _ _ _ _ ha (ix3 a r k))
  have h2 : ∀ j k, Fin' (x1 (ix2 j k)) := fun j k => fin_of_lt (Host.reduce_andi_all _ _ _ _ _ hb (ix2 j k))
  exact ⟨fun r j => fin_sum _ fun k => fin_mul (h1 _ r _) (h2 j k),
    fun r k => fin_of_lt (Host.reduce_andi_all _ _ _ _ _ hc (ix2 r k)),
    fun k => fin_of_lt (Host.reduce_andi_all _ _ _ _ _ hd (ix1 k))⟩
end

/-- The kernel and the reference end with the same two gradients where the precondition holds. -/
theorem algebraic : Cert.algebraic_FfnUpDxIdeal_FfnUpDxRefIdeal_pre_ffn_up_dx_finite := by
  intro m g m' g' hpre hag
  refine ⟨fun c => (Cert.FfnUpDxIdeal.Gen.dats m 0 c).arrAt 5 Cert.FfnUpDxIdeal.cfg0.N,
    fun c => (Cert.FfnUpDxIdeal.Gen.dats m 0 c).arrAt 6 Cert.FfnUpDxIdeal.cfg0.N,
    Cert.FfnUpDxIdeal.Value.run_blocks m g, ?_⟩
  refine (θ_run Cert.FfnUpDxRefIdeal.defs _ _).mono (fun r h c => ?_) (Cert.FfnUpDxRefIdeal.Value.run m' g')
  obtain ⟨e0, e1, e2, e3, e4⟩ := hag c
  obtain ⟨h0, h1, ha⟩ := h c
  obtain ⟨hg, hx, hw⟩ := pre_fin _ _ _ _ _ (hpre c)
  refine ⟨(h0.trans (Cert.FfnUpDxRefIdeal.Read.val_main_v45_eq _ _)).trans ?_,
    (h1.trans (Cert.FfnUpDxRefIdeal.Read.val_main_v46_eq _ _ _)).trans ?_, ha⟩
  · rw [e0, e1, e2, e3, e4]
    exact ext2 fun r j => ((Ref.result5 _ _ _ _ _ r j).trans
      (dx_eq _ _ _ (hx r) hw (hg r) _ j).symm).trans (result5 m c r j).symm
  · rw [e0, e1, e2]
    refine ext2 fun z j => ?_
    obtain rfl : z = 0 := Subsingleton.elim _ _
    exact (Ref.result6 _ _ _ j).trans (result6 m c j).symm

/-- The reference ends, changes no argument and leaves every counter at zero. -/
theorem frame_ref : Cert.quiescent_FfnUpDxRefIdeal := fun m' g' _ =>
  (θ_run Cert.FfnUpDxRefIdeal.defs _ _).mono
    (fun r h => ⟨fun c => (h c).2.2, Idealize.ShloMosaic.sem_eq_zero_of_no_sems (by decide) r.2⟩)
    (Cert.FfnUpDxRefIdeal.Value.run m' g')

end Cert.UpDx

end
-- ==== Proof.UpDw.lean ====
/- The gradient of the feed-forward block's first weights: what each run of points adds up and writes, and the reference's
   derivative. -/
module

public import proofs.«01_k».proof.Defs
public import proofs.«01_k».proof.Proof.Prod
public import proofs.«01_k».proof.Proof.Gen.FfnUpDwIdeal.Value
public import proofs.«01_k».proof.Proof.Gen.FfnUpDwRefIdeal.Read
public import proofs.«01_k».proof.Proof.Gen.FfnUpDwRefIdeal.Run

@[expose] public section

noncomputable section

namespace Cert.UpDw

open Idealize.ShloMosaic Idealize.ShloMosaic.TcCoe Idealize.SL.Sem
open Cert.Prod
open scoped BigOperators

/-- The weights' gradient at row `i` and column `1408 * j + k`: the half `j / 2` of the cotangent holds that column. -/
def grad (x0 : Mat 8192 1024) (x1 : Stack 2 8192 2816) (i : Fin 1024) (j : Fin 4) (k : Fin 1408) : EReal :=
  ∑ r : Fin 8192, x0 (ix2 r i) * x1 (ix3 ⟨j.val / 2, by omega⟩ r ⟨1408 * (j.val % 2) + k.val, by omega⟩)

section
open Cert.FfnUpDwIdeal Cert.FfnUpDwIdeal.Gen

/-! ### A point's terms -/

theorem pay1_at (v0 : Vec Ideal S1024x1024 .bf16) (v1 : Vec Ideal S1x1024x1408 .bf16) (i : Fin 1024) (k : Fin 1408) :
    k0_pay1 (F := Ideal) v0 v1 (ix2 i k) = ∑ r : Fin 1024, v0 (ix2 r i) * v1 (ix3 0 r k) := by
  pointwise [k0_pay1]
theorem pay2_at (v0 : Vec Ideal S1024x1024 .bf16) (v1 : Vec Ideal S1x1024x1408 .bf16) (i : Fin 1024) (k : Fin 1408) :
    k0_pay2 (F := Ideal) v0 v1 (ix2 i k) = ∑ r : Fin 1024, v0 (ix2 r i) * v1 (ix3 0 r k) := by
  pointwise [k0_pay2, pay1_at]
theorem pay3_at (v0 : Vec Ideal S1024x1024 .bf16) (v1 : Vec Ideal S1x1024x1408 .bf16) (a : Vec Ideal S1024x1408 .f32) (i : Fin 1024) (k : Fin 1408) :
    k0_pay3 (F := Ideal) v0 v1 a (ix2 i k) = a (ix2 i k) + ∑ r : Fin 1024, v0 (ix2 r i) * v1 (ix3 0 r k) := by
  pointwise [k0_pay3, pay1_at]
theorem pay4_at (a : Vec Ideal S1024x1408 .f32) (i : Fin 512) (k : Fin 1408) :
    k0_pay4 (F := Ideal) a (ix4 0 0 i k) = a (ix2 ⟨i.val, by omega⟩ k) := by
  pointwise [k0_pay4]
theorem pay5_at (a : Vec Ideal S1024x1408 .f32) (i : Fin 512) (k : Fin 1408) :
    k0_pay5 (F := Ideal) a (ix4 0 0 i k) = a (ix2 ⟨512 + i.val, by omega⟩ k) := by
  pointwise [k0_pay5]

section
variable (c : Dev nD) (i : grid0.Coords) (a3 : Memref sig .tc .vmem S1024x1024 .bf16) (h3 : a3.IsWhole)
  (a4 : Memref sig .tc .vmem S1x1024x1408 .bf16) (h4 : a4.IsWhole) (a5 : Memref sig .tc .vmem S2x1x512x1408 .bf16) (h5 : a5.IsWhole)
  (a6 : Memref sig .tc .vmem S1024x1408 .f32) (h6 : a6.IsWhole)
  (x0 : Vec Ideal S1024x1024 .bf16) (x1 : Vec Ideal S1x1024x1408 .bf16) (s : Vec Ideal S1024x1408 .f32)

/-- A run's first point leaves its part in the scratch. -/
theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h5.read_unread, h6.read_unread, View.ld_unit_zero (S := S1024x1024) hz,
    View.ld_unit_zero (S := S1x1024x1408) hz3, View.ld_unit_zero (S := S1024x1408) hz]

/-- A later point adds its part. -/
theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h5.read_unread, h6.read_unread, View.ld_unit_zero (S := S1024x1024) hz,
    View.ld_unit_zero (S := S1x1024x1408) hz3, View.ld_unit_zero (S := S1024x1408) hz]

/-- A run's last point adds its part, -/
theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h5.read_unread, h6.read_unread, View.ld_unit_zero (S := S1024x1024) hz,
    View.ld_unit_zero (S := S1x1024x1408) hz3, View.ld_unit_zero (S := S1024x1408) hz]

/-- and writes the sum, half by half. -/
theorem out_C (hc0 : ¬cond0_0 i) (hc1 : cond0_1 i) (hc2 : cond0_2 i) (h : Fin 2) (r : Fin 512) (k : Fin 1408) :
    out0_C_2 c i a3 h3 a4 h4 a5 h5 a6 h6 hc0 hc1 hc2 x0 x1 s (ix4 h 0 r k) = k0_pay3 x0 x1 s (ix2 ⟨512 * h.val + r.val, by omega⟩ k) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  simp only [View.readAt_eq_ld, h3.read_unread, h4.read_unread, h5.read_unread, h6.read_unread, View.ld_unit_zero (S := S1024x1024) hz,
    View.ld_unit_zero (S := S1x1024x1408) hz3, View.ld_unit_zero (S := S1024x1408) hz, View.readCov_cons_toLoadRect]
  match h with
  | 0 =>
    rw [View.canon_cons_of_not_mem _ _ (by
      rw [Rect.mem_set_unit]
      intro hm
      exact absurd (show 1 ≤ 0 from (hm 0).1) (by decide))]
    refine (canon_at _ _ _ (ix4 0 0 r k) _ ?_).trans ?_
    · funext a
      apply Fin.ext
      match a with
      | ⟨0, _⟩ => rfl
      | ⟨1, _⟩ => rfl
      | ⟨2, _⟩ => show 0 + 1 * r.val = r.val; omega
      | ⟨3, _⟩ => show 0 + 1 * k.val = k.val; omega
    · rw [pay4_at]
      congr 2
      exact Fin.ext (by show r.val = 512 * 0 + r.val; omega)
  | 1 =>
    refine (canon_at _ _ _ (ix4 0 0 r k) _ ?_).trans ?_
    · funext a
      apply Fin.ext
      match a with
      | ⟨0, _⟩ => rfl
      | ⟨1, _⟩ => rfl
      | ⟨2, _⟩ => show 0 + 1 * r.val = r.val; omega
      | ⟨3, _⟩ => show 0 + 1 * k.val = k.val; omega
    · rw [pay5_at]
      rfl
end

/-! ### A run of points -/

variable (m : (ℓ : Loc nD τ sig) → Buf (Elt Ideal) ℓ)

/-- Where each window of a point lies. -/
theorem wins : ∀ t : Fin cfg0.N,
    (win0_0.index t 0 = t.val % 8 ∧ win0_0.index t 1 = 0)
    ∧ (win0_1.index t 0 = t.val / 16 ∧ win0_1.index t 1 = t.val % 8 ∧ win0_1.index t 2 = t.val / 8 % 2) :=
  (by decide +kernel : ∀ t : Fin grid0.N, _)

/-- The blocks a point reads. -/
abbrev B0 (c : Dev nD) (t : Fin cfg0.N) : Mat 1024 1024 := iblk m c 0 t
abbrev B1 (c : Dev nD) (t : Fin cfg0.N) : Stack 1 1024 1408 := iblk m c 1 t

theorem b0 (c : Dev nD) (t : Fin cfg0.N) (r i : Fin 1024) :
    B0 m c t (ix2 r i) = m ((c : Thread nD τ).loc main_arg0) (ix2 (row8 t.val r) i) := by
  unfold B0 iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(wins t).1.1]; omega
  | ⟨1, _⟩ => show win0_0.index t 1 * 1024 + 1 * i.val = i.val; rw [(wins t).1.2]; omega
theorem b1 (c : Dev nD) (t : Fin cfg0.N) (r : Fin 1024) (k : Fin 1408) :
    B1 m c t (ix3 0 r k)
      = m ((c : Thread nD τ).loc main_arg1) (ix3 ⟨t.val / 16, by have := t.isLt; have : cfg0.N = 32 := N_0; omega⟩ (row8 t.val r)
          ⟨1408 * (t.val / 8 % 2) + k.val, by omega⟩ : S2x8192x2816.Idx) := by
  unfold B1 iblk
  rw [View.read_apply]
  show V m c main_arg1 _ = _
  rw [V_main_arg1]
  congr 1
  funext a
  apply Fin.ext
  match a with
  | ⟨0, _⟩ => show win0_1.index t 0 * 1 + 1 * 0 = t.val / 16; rw [(wins t).2.1]; omega
  | ⟨1, _⟩ => show win0_1.index t 1 * 1024 + 1 * r.val = 1024 * (t.val % 8) + r.val; rw [(wins t).2.2.1]; omega
  | ⟨2, _⟩ => show win0_1.index t 2 * 1408 + 1 * k.val = 1408 * (t.val / 8 % 2) + k.val; rw [(wins t).2.2.2]; omega

/-- The launch's rows and cotangents. -/
abbrev A0 (c : Dev nD) : Mat 8192 1024 := m ((c : Thread nD τ).loc main_arg0)
abbrev A1 (c : Dev nD) : Stack 2 8192 2816 := m ((c : Thread nD τ).loc main_arg1)

/-- Point `n`'s part of the gradient. -/
def part (c : Dev nD) (i : Fin 1024) (k : Fin 1408) (n : ℕ) (h : n < cfg0.N) : EReal :=
  ∑ r : Fin 1024, A0 m c (ix2 (row8 n r) i) * A1 m c (ix3 ⟨n / 16, by have : cfg0.N = 32 := N_0; omega⟩ (row8 n r) ⟨1408 * (n / 8 % 2) + k.val, by omega⟩)

theorem part_eq (c : Dev nD) (i : Fin 1024) (k : Fin 1408) (t : Fin cfg0.N) :
    (∑ r : Fin 1024, B0 m c t (ix2 r i) * B1 m c t (ix3 0 r k))
      = part m c i k t.val t.isLt :=
  Finset.sum_congr rfl fun r _ => by rw [b0, b1]

/-- What the scratch holds after point `n`. -/
def scr (c : Dev nD) (n : ℕ) (h : n < cfg0.N) : Vec Ideal S1024x1408 .f32 := (outsAt0 m c n h).2

theorem scr_first (c : Dev nD) (i : Fin 1024) (k : Fin 1408) (n : ℕ) (h : n < cfg0.N) (h0 : n % 8 = 0) :
    scr m c n h (ix2 i k) = part m c i k n h := by
  unfold scr
  rw [outsAt0_A m c ⟨n, h⟩ h0 (by show ¬ 1 ≤ n % 8; omega) (by show ¬ n % 8 = 7; omega)]
  dsimp only
  rw [sout_A, pay2_at]
  exact part_eq m c i k ⟨n, h⟩
theorem scr_next (c : Dev nD) (i : Fin 1024) (k : Fin 1408) (n : ℕ) (h : n + 1 < cfg0.N) (h0 : ¬ (n + 1) % 8 = 0) :
    scr m c (n + 1) h (ix2 i k) = scr m c n (Nat.lt_of_succ_lt h) (ix2 i k) + part m c i k (n + 1) h := by
  unfold scr
  by_cases h7 : (n + 1) % 8 = 7
  · rw [outsAt0_C m c ⟨n + 1, h⟩ h0 (by show 1 ≤ (n + 1) % 8; omega) h7]
    dsimp only
    rw [sout_C, pay3_at]
    exact congrArg (_ + ·) (part_eq m c i k ⟨n + 1, h⟩)
  · rw [outsAt0_B m c ⟨n + 1, h⟩ h0 (by show 1 ≤ (n + 1) % 8; omega) h7]
    dsimp only
    rw [sout_B, pay3_at]
    exact congrArg (_ + ·) (part_eq m c i k ⟨n + 1, h⟩)

/-- The eight parts of a run are the gradient. -/
theorem parts (c : Dev nD) (i : Fin 1024) (j : Fin 4) (k : Fin 1408) :
    ∑ q : Fin 8, part m c i k (8 * j.val + q.val) (by have : cfg0.N = 32 := N_0; omega) = grad (A0 m c) (A1 m c) i j k := by
  unfold grad
  rw [← sum_row8 _ j.val]
  refine Finset.sum_congr rfl fun q _ => Finset.sum_congr rfl fun r _ => ?_
  have e1 : (8 * j.val + q.val) / 16 = j.val / 2 := by omega
  have e2 : (8 * j.val + q.val) / 8 % 2 = j.val % 2 := by omega
  simp only [e1, e2]

/-- The scratch at a run's end. -/
theorem scr_last (c : Dev nD) (i : Fin 1024) (j : Fin 4) (k : Fin 1408) (hn : 8 * j.val + 7 < cfg0.N) :
    scr m c (8 * j.val + 7) hn (ix2 i k) = grad (A0 m c) (A1 m c) i j k :=
  (sum_run 8 (fun n h => scr m c n h (ix2 i k)) (part m c i k) (scr_first m c i k) (scr_next m c i k) j.val 7 (by omega) hn).trans
    (parts m c i j k)

/-- What a run's last point writes. -/
theorem last (c : Dev nD) (j : Fin 4) (h : Fin 2) (r : Fin 512) (k : Fin 1408) (hn : 8 * j.val + 7 < cfg0.N) :
    (outsAt0 m c (8 * j.val + 7) hn).1 (ix4 h 0 r k) = grad (A0 m c) (A1 m c) ⟨512 * h.val + r.val, by omega⟩ j k := by
  have e' := outsAt0_C m c ⟨8 * j.val + 7, hn⟩ (by show ¬ (8 * j.val + 7) % 8 = 0; omega) (by show 1 ≤ (8 * j.val + 7) % 8; omega)
    (by show (8 * j.val + 7) % 8 = 7; omega)
  refine Eq.trans ?_ (scr_last m c _ j k hn)
  show (outsAt0 m c (8 * j.val + 7) hn).1 _ = (outsAt0 m c (8 * j.val + 7) hn).2 _
  refine (congrFun (congrArg Prod.fst e') _).trans (Eq.trans ?_ (congrFun (congrArg Prod.snd e') _).symm)
  dsimp only
  rw [out_C, sout_C]

/-- The array after the launch. -/
theorem result (c : Dev nD) (h : Fin 2) (j : Fin 4) (r : Fin 512) (k : Fin 1408) :
    (dats m 0 c).arrAt 2 cfg0.N (ix4 h j r k : S2x4x512x1408.Idx) = grad (A0 m c) (A1 m c) ⟨512 * h.val + r.val, by omega⟩ j k := by
  have hN : cfg0.N = 32 := N_0
  have hp : Value.pt2Of (ix4 h j r k) = 8 * j.val + 7 := by
    show 8 * (4 * (h.val / 2 - 0) + 1 * (j.val / 1 - 0) + 1 * (r.val / 512 - 0) + 1 * (k.val / 1408 - 0)) + 7 = _
    omega
  have hl : Value.loc2Of (ix4 h j r k) = ix4 h 0 r k := by
    funext a
    apply Fin.ext
    match a with
    | ⟨0, _⟩ => show h.val % 2 = h.val; omega
    | ⟨1, _⟩ => show j.val % 1 = 0; omega
    | ⟨2, _⟩ => show r.val % 512 = r.val; omega
    | ⟨3, _⟩ => show k.val % 1408 = k.val; omega
  rw [Value.final2]
  unfold Value.G2
  rw [dif_pos (by rw [hp]; omega), hl, Value.fold0_congr m c _ _ _ (by omega) hp, ← Value.outsAt0_sweep m c _ (by omega)]
  exact last m c j h r k (by omega)

end

/-! ### The reference -/

namespace Ref
open Cert.FfnUpDwRefIdeal Cert.FfnUpDwRefIdeal.Read

variable (x0 : Mat 8192 1024) (x1 : Stack 2 8192 2816)

theorem v4 (r : Fin 8192) (j : Fin 5632) :
    val_main_v4 (F := Ideal) x1 (ix2 r j) = x1 (ix3 ⟨j.val / 2816, by omega⟩ r ⟨j.val % 2816, by omega⟩) := by
  by_cases hj : j.val < 2816
  · have e0 : j.val / 2816 = 0 := by omega
    have e1 : j.val % 2816 = j.val := by omega
    simp only [e0, e1]
    obtain ⟨j, h⟩ := j
    pointwise [val_main_v4, val_main_v1, val_main_v0, hj]
  · have e0 : j.val / 2816 = 1 := by omega
    have e1 : j.val % 2816 = j.val - 2816 := by omega
    simp only [e0, e1]
    pointwise [val_main_v4, val_main_v3, val_main_v2, hj]
theorem v9 (j : Fin 5632) (i : Fin 1024) :
    val_main_v9 (F := Ideal) x0 x1 (ix2 j i) = ∑ r : Fin 8192, x1 (ix3 ⟨j.val / 2816, by omega⟩ r ⟨j.val % 2816, by omega⟩) * x0 (ix2 r i) := by
  rw [val_main_v9_apply]
  refine Finset.sum_congr rfl fun r _ => ?_
  exact congrArg₂ (· * ·) ((congrArg (val_main_v4 (F := Ideal) x1) (eq_ix2 _)).trans (v4 x1 r j)) (congrArg x0 (eq_ix2 _))

/-- The reference's gradient. -/
theorem result (h : Fin 2) (j : Fin 4) (r : Fin 512) (k : Fin 1408) :
    val_main_v13 (F := Ideal) x0 x1 (ix4 h j r k) = grad x0 x1 ⟨512 * h.val + r.val, by omega⟩ j k := by
  have e : val_main_v13 (F := Ideal) x0 x1 (ix4 h j r k)
      = val_main_v9 (F := Ideal) x0 x1 (ix2 ⟨1408 * j.val + k.val, by omega⟩ ⟨512 * h.val + r.val, by omega⟩) := by
    rw [val_main_v13_apply, val_main_v12_apply, val_main_v11_apply, val_main_v10_apply]
    show val_main_v9 (F := Ideal) x0 x1 _ = _
    congr 1
    funext a
    apply Fin.ext
    match a with
    | ⟨0, _⟩ => show ((((h.val * 512 + r.val) * 4 + j.val) * 1408 + k.val) % 5632) = 1408 * j.val + k.val; omega
    | ⟨1, _⟩ => show ((((h.val * 512 + r.val) * 4 + j.val) * 1408 + k.val) / 5632) = 512 * h.val + r.val; omega
  rw [e, v9]
  unfold grad
  refine Finset.sum_congr rfl fun s _ => (mul_comm _ _).trans (congrArg (_ * ·) (congrArg x1 ?_))
  have e0 : (1408 * j.val + k.val) / 2816 = j.val / 2 := by omega
  have e1 : (1408 * j.val + k.val) % 2816 = 1408 * (j.val % 2) + k.val := by omega
  simp only [e0, e1]

end Ref

/-! ### The claim -/

/-- The kernel and the reference end with the same gradient. -/
theorem algebraic : Cert.algebraic_FfnUpDwIdeal_FfnUpDwRefIdeal := by
  intro m g m' g' _ hag
  refine ⟨fun c => (Cert.FfnUpDwIdeal.Gen.dats m 0 c).arrAt 2 Cert.FfnUpDwIdeal.cfg0.N,
    Cert.FfnUpDwIdeal.Value.run_blocks m g, ?_⟩
  refine (θ_run Cert.FfnUpDwRefIdeal.defs _ _).mono (fun r h c => ?_) (Cert.FfnUpDwRefIdeal.Value.run m' g')
  obtain ⟨e0, e1⟩ := hag c
  obtain ⟨h0, ha⟩ := h c
  refine ⟨(h0.trans (Cert.FfnUpDwRefIdeal.Read.val_main_v13_eq _ _)).trans ?_, ha⟩
  rw [e0, e1]
  exact ext4 fun h j r k => (Ref.result _ _ h j r k).trans (result m c h j r k).symm

/-- The reference ends, changes no argument and leaves every counter at zero. -/
theorem frame_ref : Cert.quiescent_FfnUpDwRefIdeal := fun m' g' _ =>
  (θ_run Cert.FfnUpDwRefIdeal.defs _ _).mono
    (fun r h => ⟨fun c => (h c).2, Idealize.ShloMosaic.sem_eq_zero_of_no_sems (by decide) r.2⟩)
    (Cert.FfnUpDwRefIdeal.Value.run m' g')

end Cert.UpDw

end
-- ==== Proof.UpFwd.lean ====
/- The feed-forward block's first product and its gate: each block the kernel writes, and the same rows of the reference. -/
module

public import proofs.«01_k».proof.Defs
public import proofs.«01_k».proof.Proof.Prod
public import proofs.«01_k».proof.Proof.Gen.FfnUpIdeal.Value
public import proofs.«01_k».proof.Proof.Gen.FfnUpRefIdeal.Read
public import proofs.«01_k».proof.Proof.Gen.FfnUpRefIdeal.Run

@[expose] public section

noncomputable section

namespace Cert.UpFwd

open Idealize.ShloMosaic Idealize.ShloMosaic.TcCoe Idealize.SL.Sem
open Cert.Sgu (ext2)
open Cert.Prod
open scoped BigOperators

/-- The gate's half of the product. -/
def gate (x0 : Mat 8192 1024) (x1 : Mat 1024 5632) (r : Fin 8192) (j : Fin 2816) : EReal :=
  ∑ k : Fin 1024, x0 (ix2 r k) * x1 (ix2 k ⟨j.val, by omega⟩)
/-- The up rows' half of the product. -/
def up (x0 : Mat 8192 1024) (x1 : Mat 1024 5632) (r : Fin 8192) (j : Fin 2816) : EReal :=
  ∑ k : Fin 1024, x0 (ix2 r k) * x1 (ix2 k ⟨2816 + j.val, by omega⟩)
/-- The gated rows. -/
def act (x0 : Mat 8192 1024) (x1 : Mat 1024 5632) (r : Fin 8192) (j : Fin 2816) : EReal :=
  gate x0 x1 r j * Ideal.logistic (gate x0 x1 r j) * up x0 x1 r j

section
open Cert.FfnUpIdeal Cert.FfnUpIdeal.Gen

/-! ### A block -/

theorem pay1_at (v0 : Vec Ideal S512x1024 .bf16) (v1 : Vec Ideal S1024x1408 .bf16) (r : Fin 512) (j : Fin 1408) :
    k0_pay1 (F := Ideal) v0 v1 (ix2 r j) = ∑ k : Fin 1024, v0 (ix2 r k) * v1 (ix2 k j) := by
  pointwise [k0_pay1]
theorem pay2_at (v0 : Vec Ideal S512x1024 .bf16) (v1 : Vec Ideal S1024x1408 .bf16) (r : Fin 512) (j : Fin 1408) :
    k0_pay2 (F := Ideal) v0 v1 (ix2 r j) = ∑ k : Fin 1024, v0 (ix2 r k) * v1 (ix2 k j) := by
  pointwise [k0_pay2]
theorem pay3_at (v0 : Vec Ideal S512x1024 .bf16) (v1 v3 : Vec Ideal S1024x1408 .bf16) (r : Fin 512) (j : Fin 1408) :
    k0_pay3 (F := Ideal) v0 v1 v3 (ix2 r j)
      = (∑ k : Fin 1024, v0 (ix2 r k) * v1 (ix2 k j)) * Ideal.logistic (∑ k : Fin 1024, v0 (ix2 r k) * v1 (ix2 k j))
        * ∑ k : Fin 1024, v0 (ix2 r k) * v3 (ix2 k j) := by
  pointwise [k0_pay3, pay1_at, pay2_at]

/-! ### A point's blocks -/

variable (m : (ℓ : Loc nD τ sig) → Buf (Elt Ideal) ℓ)

/-- Where each window of a point lies. -/
theorem wins : ∀ t : Fin cfg0.N,
    (win0_0.index t 0 = t.val / 2 ∧ win0_0.index t 1 = 0) ∧ (win0_1.index t 0 = 0 ∧ win0_1.index t 1 = t.val % 2)
    ∧ (win0_2.index t 0 = 0 ∧ win0_2.index t 1 = t.val % 2 + 2) ∧ (win0_3.index t 0 = t.val / 2 ∧ win0_3.index t 1 = t.val % 2)
    ∧ (win0_4.index t 0 = t.val / 2 ∧ win0_4.index t 1 = t.val % 2) ∧ (win0_5.index t 0 = t.val / 2 ∧ win0_5.index t 1 = t.val % 2) :=
  (by decide +kernel : ∀ t : Fin grid0.N, _)

/-- The row of the array a row of a point's block is. -/
def row (t : Fin cfg0.N) (r : Fin 512) : Fin 8192 :=
  ⟨512 * (t.val / 2) + r.val, by have := t.isLt; have : cfg0.N = 32 := N_0; omega⟩
/-- The column of the array a column of a point's block is. -/
def col (t : Fin cfg0.N) (j : Fin 1408) : Fin 2816 := ⟨1408 * (t.val % 2) + j.val, by omega⟩

theorem b0 (c : Dev nD) (t : Fin cfg0.N) (r : Fin 512) (k : Fin 1024) :
    (iblk m c 0 t : Vec Ideal S512x1024 .bf16) (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_0.index t 0 * 512 + 1 * r.val = 512 * (t.val / 2) + r.val; rw [(wins t).1.1]; omega
  | ⟨1, _⟩ => show win0_0.index t 1 * 1024 + 1 * k.val = k.val; rw [(wins t).1.2]; omega
theorem b1 (c : Dev nD) (t : Fin cfg0.N) (k : Fin 1024) (j : Fin 1408) :
    (iblk m c 1 t : Vec Ideal S1024x1408 .bf16) (ix2 k j)
      = m ((c : Thread nD τ).loc main_arg1) (ix2 k ⟨(col t j).val, by omega⟩ : S1024x5632.Idx) := by
  unfold iblk
  rw [View.read_apply]
  show V m c main_arg1 _ = _
  rw [V_main_arg1]
  congr 1
  funext a
  apply Fin.ext
  match a with
  | ⟨0, _⟩ => show win0_1.index t 0 * 1024 + 1 * k.val = k.val; rw [(wins t).2.1.1]; omega
  | ⟨1, _⟩ => show win0_1.index t 1 * 1408 + 1 * j.val = 1408 * (t.val % 2) + j.val; rw [(wins t).2.1.2]; omega
theorem b2 (c : Dev nD) (t : Fin cfg0.N) (k : Fin 1024) (j : Fin 1408) :
    (iblk m c 2 t : Vec Ideal S1024x1408 .bf16) (ix2 k j)
      = m ((c : Thread nD τ).loc main_arg1) (ix2 k ⟨2816 + (col t j).val, by omega⟩ : S1024x5632.Idx) := by
  unfold iblk
  rw [View.read_apply]
  show V m c main_arg1 _ = _
  rw [V_main_arg1]
  congr 1
  funext a
  apply Fin.ext
  match a with
  | ⟨0, _⟩ => show win0_2.index t 0 * 1024 + 1 * k.val = k.val; rw [(wins t).2.2.1.1]; omega
  | ⟨1, _⟩ => show win0_2.index t 1 * 1408 + 1 * j.val = 2816 + (1408 * (t.val % 2) + j.val); rw [(wins t).2.2.1.2]; omega

/-- The launch's rows and weights. -/
abbrev A0 (c : Dev nD) : Mat 8192 1024 := m ((c : Thread nD τ).loc main_arg0)
abbrev A1 (c : Dev nD) : Mat 1024 5632 := m ((c : Thread nD τ).loc main_arg1)

/-- The three blocks a point writes hold its rows and columns of the product's halves and of the gated rows. -/
theorem block3 (c : Dev nD) (t : Fin cfg0.N) (r : Fin 512) (j : Fin 1408) :
    out0_3 (F := Ideal) (iblk m c 0 t) (iblk m c 1 t) (iblk m c 2 t) (ix2 r j) = gate (A0 m c) (A1 m c) (row t r) (col t j) := by
  unfold out0_3
  rw [View.canon_unit_zero hz, View.ld_unit_zero (S := S512x1024) hz, View.ld_unit_zero (S := S1024x1408) hz, pay1_at]
  simp only [b0, b1]
  rfl
theorem block4 (c : Dev nD) (t : Fin cfg0.N) (r : Fin 512) (j : Fin 1408) :
    out0_4 (F := Ideal) (iblk m c 0 t) (iblk m c 1 t) (iblk m c 2 t) (ix2 r j) = up (A0 m c) (A1 m c) (row t r) (col t j) := by
  unfold out0_4
  rw [View.canon_unit_zero hz, View.ld_unit_zero (S := S512x1024) hz, View.ld_unit_zero (S := S1024x1408) hz, pay2_at]
  simp only [b0, b2]
  rfl
theorem block5 (c : Dev nD) (t : Fin cfg0.N) (r : Fin 512) (j : Fin 1408) :
    out0_5 (F := Ideal) (iblk m c 0 t) (iblk m c 1 t) (iblk m c 2 t) (ix2 r j) = act (A0 m c) (A1 m c) (row t r) (col t j) := by
  unfold out0_5
  rw [View.canon_unit_zero hz, View.ld_unit_zero (S := S512x1024) hz, View.ld_unit_zero (S := S1024x1408) hz,
    View.ld_unit_zero (S := S1024x1408) hz, pay3_at]
  simp only [b0, b1, b2]
  rfl

/-- The point that writes a place, and the place's row and column in the point's block. -/
theorem place (r : Fin 8192) (j : Fin 2816) : ∃ (t : Fin cfg0.N) (p : Fin 512) (q : Fin 1408), row t p = r ∧ col t q = j := by
  have hN : cfg0.N = 32 := N_0
  refine ⟨⟨2 * (r.val / 512) + j.val / 1408, by omega⟩, ⟨r.val % 512, by omega⟩, ⟨j.val % 1408, by omega⟩, Fin.ext ?_, Fin.ext ?_⟩
  · show 512 * ((2 * (r.val / 512) + j.val / 1408) / 2) + r.val % 512 = r.val; omega
  · show 1408 * ((2 * (r.val / 512) + j.val / 1408) % 2) + j.val % 1408 = j.val; omega

/-- The three arrays after the launch. -/
theorem result3 (c : Dev nD) (r : Fin 8192) (j : Fin 2816) :
    (dats m 0 c).arrAt 3 cfg0.N (ix2 r j : S8192x2816.Idx) = gate (A0 m c) (A1 m c) r j := by
  obtain ⟨t, p, q, rfl, rfl⟩ := place r j
  have e := congrFun (Value.blocks3 m c t (flush0_3 t)) (ix2 p q)
  rw [View.read_apply, Value.flushed3] at e
  refine Eq.trans (congrArg _ ?_) (e.trans (block3 m c t p q))
  funext a
  apply Fin.ext
  match a with
  | ⟨0, _⟩ => show 512 * (t.val / 2) + p.val = win0_3.index t 0 * 512 + 1 * p.val; rw [(wins t).2.2.2.1.1]; omega
  | ⟨1, _⟩ => show 1408 * (t.val % 2) + q.val = win0_3.index t 1 * 1408 + 1 * q.val; rw [(wins t).2.2.2.1.2]; omega
theorem result4 (c : Dev nD) (r : Fin 8192) (j : Fin 2816) :
    (dats m 0 c).arrAt 4 cfg0.N (ix2 r j : S8192x2816.Idx) = up (A0 m c) (A1 m c) r j := by
  obtain ⟨t, p, q, rfl, rfl⟩ := place r j
  have e := congrFun (Value.blocks4 m c t (flush0_4 t)) (ix2 p q)
  rw [View.read_apply, Value.flushed4] at e
  refine Eq.trans (congrArg _ ?_) (e.trans (block4 m c t p q))
  funext a
  apply Fin.ext
  match a with
  | ⟨0, _⟩ => show 512 * (t.val / 2) + p.val = win0_4.index t 0 * 512 + 1 * p.val; rw [(wins t).2.2.2.2.1.1]; omega
  | ⟨1, _⟩ => show 1408 * (t.val % 2) + q.val = win0_4.index t 1 * 1408 + 1 * q.val; rw [(wins t).2.2.2.2.1.2]; omega
theorem result5 (c : Dev nD) (r : Fin 8192) (j : Fin 2816) :
    (dats m 0 c).arrAt 5 cfg0.N (ix2 r j : S8192x2816.Idx) = act (A0 m c) (A1 m c) r j := by
  obtain ⟨t, p, q, rfl, rfl⟩ := place r j
  have e := congrFun (Value.blocks5 m c t (flush0_5 t)) (ix2 p q)
  rw [View.read_apply, Value.flushed5] at e
  refine Eq.trans (congrArg _ ?_) (e.trans (block5 m c t p q))
  funext a
  apply Fin.ext
  match a with
  | ⟨0, _⟩ => show 512 * (t.val / 2) + p.val = win0_5.index t 0 * 512 + 1 * p.val; rw [(wins t).2.2.2.2.2.1]; omega
  | ⟨1, _⟩ => show 1408 * (t.val % 2) + q.val = win0_5.index t 1 * 1408 + 1 * q.val; rw [(wins t).2.2.2.2.2.2]; omega

end

/-! ### The reference -/

namespace Ref
open Cert.FfnUpRefIdeal Cert.FfnUpRefIdeal.Read

variable (x0 : Mat 8192 1024) (x1 : Mat 1024 5632)

theorem v2 (r : Fin 8192) (j : Fin 5632) :
    val_main_v2 (F := Ideal) x0 x1 (ix2 r j) = ∑ k : Fin 1024, x0 (ix2 r k) * x1 (ix2 k j) := by
  rw [val_main_v2_apply]
  refine Finset.sum_congr rfl fun k _ => ?_
  exact congrArg₂ (· * ·) (congrArg x0 (eq_ix2 _)) (congrArg x1 (eq_ix2 _))
theorem v3 (r : Fin 8192) (j : Fin 2816) : val_main_v3 (F := Ideal) x0 x1 (ix2 r j) = gate x0 x1 r j := by
  unfold val_main_v3
  refine Eq.trans ?_ (v2 x0 x1 r ⟨j.val, by omega⟩)
  pointwise []
theorem v4 (r : Fin 8192) (j : Fin 2816) : val_main_v4 (F := Ideal) x0 x1 (ix2 r j) = up x0 x1 r j := by
  unfold val_main_v4
  refine Eq.trans ?_ (v2 x0 x1 r ⟨2816 + j.val, by omega⟩)
  pointwise []
theorem v7 (r : Fin 8192) (j : Fin 2816) : val_main_v7 (F := Ideal) x0 x1 (ix2 r j) = act x0 x1 r j := by
  unfold act
  pointwise [val_main_v7, val_main_v6, val_main_v5, val_main_call0_v5, val_main_call0_v4, val_main_call0_cst_0, val_main_call0_v3,
    val_main_call0_v2, val_main_call0_cst, val_main_call0_v1, val_main_call0_v0, v3, v4]
  rfl

end Ref

/-! ### The claim -/

/-- The kernel and the reference end with the same gate, up rows and gated rows. -/
theorem algebraic : Cert.algebraic_FfnUpIdeal_FfnUpRefIdeal := by
  intro m g m' g' _ hag
  refine ⟨fun c => (Cert.FfnUpIdeal.Gen.dats m 0 c).arrAt 3 Cert.FfnUpIdeal.cfg0.N,
    fun c => (Cert.FfnUpIdeal.Gen.dats m 0 c).arrAt 4 Cert.FfnUpIdeal.cfg0.N,
    fun c => (Cert.FfnUpIdeal.Gen.dats m 0 c).arrAt 5 Cert.FfnUpIdeal.cfg0.N,
    Cert.FfnUpIdeal.Value.run_blocks m g, ?_⟩
  refine (θ_run Cert.FfnUpRefIdeal.defs _ _).mono (fun r h c => ?_) (Cert.FfnUpRefIdeal.Value.run m' g')
  obtain ⟨e0, e1⟩ := hag c
  obtain ⟨h0, h1, h2, ha⟩ := h c
  refine ⟨(h0.trans (Cert.FfnUpRefIdeal.Read.val_main_v3_eq _ _)).trans ?_,
    (h1.trans (Cert.FfnUpRefIdeal.Read.val_main_v4_eq _ _)).trans ?_,
    (h2.trans (Cert.FfnUpRefIdeal.Read.val_main_v7_eq _ _)).trans ?_, ha⟩ <;> rw [e0, e1]
  · exact ext2 fun r j => (Ref.v3 _ _ r j).trans (result3 m c r j).symm
  · exact ext2 fun r j => (Ref.v4 _ _ r j).trans (result4 m c r j).symm
  · exact ext2 fun r j => (Ref.v7 _ _ r j).trans (result5 m c r j).symm

/-- The reference ends, changes no argument and leaves every counter at zero. -/
theorem frame_ref : Cert.quiescent_FfnUpRefIdeal := fun m' g' _ =>
  (θ_run Cert.FfnUpRefIdeal.defs _ _).mono
    (fun r h => ⟨fun c => (h c).2.2.2, Idealize.ShloMosaic.sem_eq_zero_of_no_sems (by decide) r.2⟩)
    (Cert.FfnUpRefIdeal.Value.run m' g')

end Cert.UpFwd

end
-- ==== Proof.DownDw.lean ====
/- The gradient of the feed-forward block's second product's weights: its runs of eight points, and the reference's product. -/
module

public import proofs.«01_k».proof.Defs
public import proofs.«01_k».proof.Proof.Prod
public import proofs.«01_k».proof.Proof.Gen.FfnDownDwIdeal.Value
public import proofs.«01_k».proof.Proof.Gen.FfnDownDwRefIdeal.Read
public import proofs.«01_k».proof.Proof.Gen.FfnDownDwRefIdeal.Run

@[expose] public section

noncomputable section

namespace Cert.DownDw

open Idealize.ShloMosaic Idealize.ShloMosaic.TcCoe Idealize.SL.Sem
open Cert.Prod
open scoped BigOperators

/-- The weights' gradient. -/
def grad (x0 : Mat 8192 2816) (x1 : Mat 8192 1024) (i : Fin 2816) (j : Fin 1024) : EReal := ∑ r : Fin 8192, x0 (ix2 r i) * x1 (ix2 r j)

section
open Cert.FfnDownDwIdeal Cert.FfnDownDwIdeal.Gen

/-! ### A point's terms -/

theorem pay1_at (v0 : Vec Ideal S1024x1408 .bf16) (v1 : Vec Ideal S1024x1024 .f32) (i : Fin 1408) (k : Fin 1024) :
    k0_pay1 (F := Ideal) v0 v1 (ix2 i k) = ∑ r : Fin 1024, v0 (ix2 r i) * v1 (ix2 r k) := by
  pointwise [k0_pay1]
theorem pay2_at (v0 : Vec Ideal S1024x1408 .bf16) (v1 : Vec Ideal S1024x1024 .f32) (i : Fin 1408) (k : Fin 1024) :
    k0_pay2 (F := Ideal) v0 v1 (ix2 i k) = ∑ r : Fin 1024, v0 (ix2 r i) * v1 (ix2 r k) := by
  pointwise [k0_pay2, pay1_at]
theorem pay3_at (v0 : Vec Ideal S1024x1408 .bf16) (v1 : Vec Ideal S1024x1024 .f32) (a : Vec Ideal S1408x1024 .f32) (i : Fin 1408) (k : Fin 1024) :
    k0_pay3 (F := Ideal) v0 v1 a (ix2 i k) = a (ix2 i k) + ∑ r : Fin 1024, v0 (ix2 r i) * v1 (ix2 r k) := by
  pointwise [k0_pay3, pay1_at]
theorem pay4_at (a : Vec Ideal S1408x1024 .f32) (i : Fin 1408) (k : Fin 1024) : k0_pay4 (F := Ideal) a (ix2 i k) = a (ix2 i k) := by
  pointwise [k0_pay4]

section
variable (c : Dev nD) (i : grid0.Coords) (a3 : Memref sig .tc .vmem S1024x1408 .bf16) (h3 : a3.IsWhole)
  (a4 : Memref sig .tc .vmem S1024x1024 .f32) (h4 : a4.IsWhole) (a5 : Memref sig .tc .vmem S1408x1024 .bf16) (h5 : a5.IsWhole)
  (a6 : Memref sig .tc .vmem S1408x1024 .f32) (h6 : a6.IsWhole)
  (x0 : Vec Ideal S1024x1408 .bf16) (x1 : Vec Ideal S1024x1024 .f32) (s : Vec Ideal S1408x1024 .f32)

/-- A run's first point leaves its part in the scratch. -/
theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h5.read_unread, h6.read_unread,
    View.ld_unit_zero (S := S1024x1408) hz, View.ld_unit_zero (S := S1024x1024) hz, View.ld_unit_zero (S := S1408x1024) hz]

/-- A later point adds its part. -/
theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h5.read_unread, h6.read_unread,
    View.ld_unit_zero (S := S1024x1408) hz, View.ld_unit_zero (S := S1024x1024) hz, View.ld_unit_zero (S := S1408x1024) hz]

/-- A run's last point adds its part, -/
theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h5.read_unread, h6.read_unread,
    View.ld_unit_zero (S := S1024x1408) hz, View.ld_unit_zero (S := S1024x1024) hz, View.ld_unit_zero (S := S1408x1024) hz]

/-- and writes the sum. -/
theorem out_C (hc0 : ¬cond0_0 i) (hc1 : cond0_1 i) (hc2 : cond0_2 i) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h5.read_unread, h6.read_unread,
    View.ld_unit_zero (S := S1024x1408) hz, View.ld_unit_zero (S := S1024x1024) hz, View.ld_unit_zero (S := S1408x1024) hz, View.readCov_cons_toLoadRect]
end

/-! ### A run of points -/

variable (m : (ℓ : Loc nD τ sig) → Buf (Elt Ideal) ℓ)

/-- Where each window of a point lies. -/
theorem wins : ∀ t : Fin cfg0.N,
    (win0_0.index t 0 = t.val % 8 ∧ win0_0.index t 1 = t.val / 8) ∧ (win0_1.index t 0 = t.val % 8 ∧ win0_1.index t 1 = 0) :=
  (by decide +kernel : ∀ t : Fin grid0.N, _)

/-- The blocks a point reads. -/
abbrev B0 (c : Dev nD) (t : Fin cfg0.N) : Mat 1024 1408 := iblk m c 0 t
abbrev B1 (c : Dev nD) (t : Fin cfg0.N) : Mat 1024 1024 := iblk m c 1 t

theorem b0 (c : Dev nD) (t : Fin cfg0.N) (r : Fin 1024) (i : Fin 1408) :
    B0 m c t (ix2 r i) = m ((c : Thread nD τ).loc main_arg0) (ix2 (row8 t.val r) ⟨1408 * (t.val / 8) + i.val, by have := t.isLt; have : cfg0.N = 16 := N_0; omega⟩ : S8192x2816.Idx) := by
  unfold B0 iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(wins t).1.1]; omega
  | ⟨1, _⟩ => show win0_0.index t 1 * 1408 + 1 * i.val = 1408 * (t.val / 8) + i.val; rw [(wins t).1.2]; omega
theorem b1 (c : Dev nD) (t : Fin cfg0.N) (r : Fin 1024) (k : Fin 1024) :
    B1 m c t (ix2 r k) = m ((c : Thread nD τ).loc main_arg1) (ix2 (row8 t.val r) k : S8192x1024.Idx) := by
  unfold B1 iblk
  rw [View.read_apply]
  show V m c main_arg1 _ = _
  rw [V_main_arg1]
  congr 1
  funext a
  apply Fin.ext
  match a with
  | ⟨0, _⟩ => show win0_1.index t 0 * 1024 + 1 * r.val = 1024 * (t.val % 8) + r.val; rw [(wins t).2.1]; omega
  | ⟨1, _⟩ => show win0_1.index t 1 * 1024 + 1 * k.val = k.val; rw [(wins t).2.2]; omega

/-- The launch's rows and cotangents. -/
abbrev A0 (c : Dev nD) : Mat 8192 2816 := m ((c : Thread nD τ).loc main_arg0)
abbrev A1 (c : Dev nD) : Mat 8192 1024 := m ((c : Thread nD τ).loc main_arg1)

/-- Point `n`'s part of the gradient. -/
def part (c : Dev nD) (i : Fin 1408) (k : Fin 1024) (n : ℕ) (h : n < cfg0.N) : EReal :=
  ∑ r : Fin 1024, A0 m c (ix2 (row8 n r) ⟨1408 * (n / 8) + i.val, by have : cfg0.N = 16 := N_0; omega⟩) * A1 m c (ix2 (row8 n r) k)

theorem part_eq (c : Dev nD) (i : Fin 1408) (k : Fin 1024) (t : Fin cfg0.N) :
    (∑ r : Fin 1024, B0 m c t (ix2 r i) * B1 m c t (ix2 r k))
      = part m c i k t.val t.isLt :=
  Finset.sum_congr rfl fun r _ => by rw [b0, b1]

/-- What the scratch holds after point `n`. -/
def scr (c : Dev nD) (n : ℕ) (h : n < cfg0.N) : Vec Ideal S1408x1024 .f32 := (outsAt0 m c n h).2

theorem scr_first (c : Dev nD) (i : Fin 1408) (k : Fin 1024) (n : ℕ) (h : n < cfg0.N) (h0 : n % 8 = 0) :
    scr m c n h (ix2 i k) = part m c i k n h := by
  unfold scr
  rw [outsAt0_A m c ⟨n, h⟩ h0 (by show ¬ 1 ≤ n % 8; omega) (by show ¬ n % 8 = 7; omega)]
  dsimp only
  rw [sout_A, pay2_at]
  exact part_eq m c i k ⟨n, h⟩
theorem scr_next (c : Dev nD) (i : Fin 1408) (k : Fin 1024) (n : ℕ) (h : n + 1 < cfg0.N) (h0 : ¬ (n + 1) % 8 = 0) :
    scr m c (n + 1) h (ix2 i k) = scr m c n (Nat.lt_of_succ_lt h) (ix2 i k) + part m c i k (n + 1) h := by
  unfold scr
  by_cases h7 : (n + 1) % 8 = 7
  · rw [outsAt0_C m c ⟨n + 1, h⟩ h0 (by show 1 ≤ (n + 1) % 8; omega) h7]
    dsimp only
    rw [sout_C, pay3_at]
    exact congrArg (_ + ·) (part_eq m c i k ⟨n + 1, h⟩)
  · rw [outsAt0_B m c ⟨n + 1, h⟩ h0 (by show 1 ≤ (n + 1) % 8; omega) h7]
    dsimp only
    rw [sout_B, pay3_at]
    exact congrArg (_ + ·) (part_eq m c i k ⟨n + 1, h⟩)

/-- The scratch at a run's end holds the gradient. -/
theorem scr_last (c : Dev nD) (i : Fin 1408) (j : Fin 2) (k : Fin 1024) (hn : 8 * j.val + 7 < cfg0.N) :
    scr m c (8 * j.val + 7) hn (ix2 i k) = grad (A0 m c) (A1 m c) ⟨1408 * j.val + i.val, by omega⟩ k := by
  refine (sum_run 8 (fun n h => scr m c n h (ix2 i k)) (part m c i k) (scr_first m c i k) (scr_next m c i k) j.val 7 (by omega) hn).trans ?_
  unfold grad
  rw [← sum_row8 _ j.val]
  refine Finset.sum_congr rfl fun q _ => Finset.sum_congr rfl fun r _ => ?_
  have e : (8 * j.val + q.val) / 8 = j.val := by omega
  simp only [e]

/-- What a run's last point writes. -/
theorem last (c : Dev nD) (i : Fin 1408) (j : Fin 2) (k : Fin 1024) (hn : 8 * j.val + 7 < cfg0.N) :
    (outsAt0 m c (8 * j.val + 7) hn).1 (ix2 i k) = grad (A0 m c) (A1 m c) ⟨1408 * j.val + i.val, by omega⟩ k := by
  have e := outsAt0_C m c ⟨8 * j.val + 7, hn⟩ (by show ¬ (8 * j.val + 7) % 8 = 0; omega) (by show 1 ≤ (8 * j.val + 7) % 8; omega)
    (by show (8 * j.val + 7) % 8 = 7; omega)
  refine Eq.trans ?_ (scr_last m c i j k hn)
  show (outsAt0 m c (8 * j.val + 7) hn).1 _ = (outsAt0 m c (8 * j.val + 7) hn).2 _
  refine (congrFun (congrArg Prod.fst e) _).trans (Eq.trans ?_ (congrFun (congrArg Prod.snd e) _).symm)
  dsimp only
  rw [out_C, sout_C, pay4_at]

/-- The array after the launch. -/
theorem result (c : Dev nD) (i : Fin 2816) (k : Fin 1024) :
    (dats m 0 c).arrAt 2 cfg0.N (ix2 i k : S2816x1024.Idx) = grad (A0 m c) (A1 m c) i k := by
  have hN : cfg0.N = 16 := N_0
  have hp : Value.pt2Of (ix2 i k) = 8 * (i.val / 1408) + 7 := by
    show 8 * (1 * (i.val / 1408 - 0) + 1 * (k.val / 1024 - 0)) + 7 = _
    omega
  have hl : Value.loc2Of (ix2 i k) = ix2 ⟨i.val % 1408, by omega⟩ k := by
    funext a
    apply Fin.ext
    match a with
    | ⟨0, _⟩ => rfl
    | ⟨1, _⟩ => show k.val % 1024 = k.val; omega
  rw [Value.final2]
  unfold Value.G2
  rw [dif_pos (by rw [hp]; omega), hl, Value.fold0_congr m c _ _ _ (by omega) hp, ← Value.outsAt0_sweep m c _ (by omega)]
  refine (last m c ⟨i.val % 1408, by omega⟩ ⟨i.val / 1408, by omega⟩ k (by show 8 * (i.val / 1408) + 7 < cfg0.N; omega)).trans ?_
  congr 1
  exact Fin.ext (Nat.div_add_mod i.val 1408)

end

/-! ### The reference -/

namespace Ref
open Cert.FfnDownDwRefIdeal Cert.FfnDownDwRefIdeal.Read

variable (x0 : Mat 8192 2816) (x1 : Mat 8192 1024)

/-- The reference's gradient. -/
theorem result (i : Fin 2816) (k : Fin 1024) : val_main_v5 (F := Ideal) x0 x1 (ix2 i k) = grad x0 x1 i k := by
  have e : val_main_v5 (F := Ideal) x0 x1 (ix2 i k) = val_main_v3 (F := Ideal) x0 x1 (ix2 k i) := by
    rw [val_main_v5_apply, val_main_v4_apply]
    exact congrArg (val_main_v3 (F := Ideal) x0 x1) (eq_ix2 _)
  rw [e, val_main_v3_apply]
  unfold grad
  refine Finset.sum_congr rfl fun r _ => (mul_comm _ _).trans ?_
  exact congrArg₂ (· * ·) (congrArg x0 (eq_ix2 _)) (congrArg x1 (eq_ix2 _))

end Ref

/-! ### The claim -/

/-- The kernel and the reference end with the same gradient. -/
theorem algebraic : Cert.algebraic_FfnDownDwIdeal_FfnDownDwRefIdeal := by
  intro m g m' g' _ hag
  refine ⟨fun c => (Cert.FfnDownDwIdeal.Gen.dats m 0 c).arrAt 2 Cert.FfnDownDwIdeal.cfg0.N,
    Cert.FfnDownDwIdeal.Value.run_blocks m g, ?_⟩
  refine (θ_run Cert.FfnDownDwRefIdeal.defs _ _).mono (fun r h c => ?_) (Cert.FfnDownDwRefIdeal.Value.run m' g')
  obtain ⟨e0, e1⟩ := hag c
  obtain ⟨h0, ha⟩ := h c
  refine ⟨(h0.trans (Cert.FfnDownDwRefIdeal.Read.val_main_v5_eq _ _)).trans ?_, ha⟩
  rw [e0, e1]
  exact Cert.Sgu.ext2 fun i k => (Ref.result _ _ i k).trans (result m c i k).symm

/-- The reference ends, changes no argument and leaves every counter at zero. -/
theorem frame_ref : Cert.quiescent_FfnDownDwRefIdeal := fun m' g' _ =>
  (θ_run Cert.FfnDownDwRefIdeal.defs _ _).mono
    (fun r h => ⟨fun c => (h c).2, Idealize.ShloMosaic.sem_eq_zero_of_no_sems (by decide) r.2⟩)
    (Cert.FfnDownDwRefIdeal.Value.run m' g')

end Cert.DownDw

end
-- ==== Proof.Cat.lean ====
/- Four groups of columns side by side. -/
module

public import proofs.«01_k».proof.Proof.Prod

@[expose] public section

noncomputable section

namespace Cert.Prod

open Idealize.ShloMosaic

/-- Four arrays of 256 columns side by side. -/
def cat {n : ℕ} (x0 x1 x2 x3 : Mat n 256) (r : Fin n) (j : Fin 1024) : EReal :=
  if h : j.val < 256 then x0 (ix2 r ⟨j.val, h⟩)
  else if h : j.val < 512 then x1 (ix2 r ⟨j.val - 256, by omega⟩)
  else if h : j.val < 768 then x2 (ix2 r ⟨j.val - 512, by omega⟩)
  else x3 (ix2 r ⟨j.val - 768, by omega⟩)

/-- An array at a place whose coordinates are known. -/
theorem at2 {n b : ℕ} (x : Mat n b) (i : (⟨2, ![n, b]⟩ : Shape).Idx) (r : Fin n) (j : Fin b) (h0 : (i 0).val = r.val)
    (h1 : (i 1).val = j.val) : x i = x (ix2 r j) :=
  congrArg x (funext fun a => Fin.ext (match a with
    | ⟨0, _⟩ => h0
    | ⟨1, _⟩ => h1))

theorem cat_at {n : ℕ} (x0 x1 x2 x3 : Mat n 256)
    (h : Shape.Concatenates [⟨2, ![n, 256]⟩, ⟨2, ![n, 256]⟩, ⟨2, ![n, 256]⟩, ⟨2, ![n, 256]⟩] ⟨2, ![n, 1024]⟩ 1) (r : Fin n) (j : Fin 1024) :
    concatenate ⟨2, ![n, 1024]⟩ 1 [⟨⟨2, ![n, 256]⟩, x0⟩, ⟨⟨2, ![n, 256]⟩, x1⟩, ⟨⟨2, ![n, 256]⟩, x2⟩, ⟨⟨2, ![n, 256]⟩, x3⟩] h (ix2 r j)
      = cat x0 x1 x2 x3 r j := by
  unfold cat
  by_cases h0 : j.val < 256
  · pointwise [h0]
    exact at2 x0 _ _ _ rfl rfl
  · by_cases h1 : j.val < 512
    · have h1' : j.val - 256 < 256 := by omega
      pointwise [h0, h1, h1']
      exact at2 x1 _ _ _ rfl rfl
    · by_cases h2 : j.val < 768
      · have h1' : ¬ j.val - 256 < 256 := by omega
        have h2' : j.val - 256 - 256 < 256 := by omega
        pointwise [h0, h1, h1', h2, h2']
        exact at2 x2 _ _ _ rfl (by show j.val - 256 - 256 = j.val - 512; omega)
      · have h1' : ¬ j.val - 256 < 256 := by omega
        have h2' : ¬ j.val - 256 - 256 < 256 := by omega
        pointwise [h0, h1, h1', h2, h2']
        exact at2 x3 _ _ _ rfl (by show j.val - 256 - 256 - 256 = j.val - 768; omega)

end Cert.Prod

end
-- ==== Proof.OutDw.lean ====
/- The gradient of the output projection's weights: its run of eight points, and the reference's product. -/
module

public import proofs.«01_k».proof.Defs
public import proofs.«01_k».proof.Proof.Cat
public import proofs.«01_k».proof.Proof.Gen.ProjOutDwIdeal.Value
public import proofs.«01_k».proof.Proof.Gen.ProjOutDwRefIdeal.Read
public import proofs.«01_k».proof.Proof.Gen.ProjOutDwRefIdeal.Run

@[expose] public section

noncomputable section

namespace Cert.OutDw

open Idealize.ShloMosaic Idealize.ShloMosaic.TcCoe Idealize.SL.Sem
open Cert.Prod
open scoped BigOperators

/-- The weights' gradient: the four groups' rows side by side, against the cotangent's rows. -/
def grad (x0 x1 x2 x3 : Mat 8192 256) (x4 : Mat 8192 1024) (i k : Fin 1024) : EReal :=
  ∑ r : Fin 8192, cat x0 x1 x2 x3 r i * x4 (ix2 r k)

section
open Cert.ProjOutDwIdeal Cert.ProjOutDwIdeal.Gen

/-! ### A point's terms -/

theorem dot_at (u : FVec Ideal S1024x1024 .bf16) (v : Vec Ideal S1024x1024 .f32) (i k : Fin 1024) :
    matmul (F := Ideal) dot_S1024x1024_S1024x1024_S1024x1024_0_0_1_1_n_n none u (truncf .bf16 v bitsLt_bf16_f32)
        (constant S1024x1024 .f32 0x00000000#32) (ix2 i k)
      = ∑ r : Fin 1024, u (ix2 r i) * v (ix2 r k) := by
  pointwise []
theorem pay1_at (v0 v1 v2 v3 : Vec Ideal S1024x256 .bf16) (v5 : Vec Ideal S1024x1024 .f32) (i k : Fin 1024) :
    k0_pay1 (F := Ideal) v0 v1 v2 v3 v5 (ix2 i k) = ∑ r : Fin 1024, cat v0 v1 v2 v3 r i * v5 (ix2 r k) := by
  unfold k0_pay1
  exact (dot_at _ _ i k).trans (Finset.sum_congr rfl fun r _ => congrArg (· * _) (cat_at v0 v1 v2 v3 _ r i))
theorem pay2_at (v0 v1 v2 v3 : Vec Ideal S1024x256 .bf16) (v5 : Vec Ideal S1024x1024 .f32) (i k : Fin 1024) :
    k0_pay2 (F := Ideal) v0 v1 v2 v3 v5 (ix2 i k) = ∑ r : Fin 1024, cat v0 v1 v2 v3 r i * v5 (ix2 r k) := by
  pointwise [k0_pay2, pay1_at]
theorem pay3_at (v0 v1 v2 v3 : Vec Ideal S1024x256 .bf16) (v5 a : Vec Ideal S1024x1024 .f32) (i k : Fin 1024) :
    k0_pay3 (F := Ideal) v0 v1 v2 v3 v5 a (ix2 i k) = a (ix2 i k) + ∑ r : Fin 1024, cat v0 v1 v2 v3 r i * v5 (ix2 r k) := by
  pointwise [k0_pay3, pay1_at]
theorem pay4_at (a : Vec Ideal S1024x1024 .f32) (i k : Fin 1024) : k0_pay4 (F := Ideal) a (ix2 i k) = a (ix2 i k) := by
  pointwise [k0_pay4]

section
variable (c : Dev nD) (i : grid0.Coords) (a3 : Memref sig .tc .vmem S1024x256 .bf16) (h3 : a3.IsWhole)
  (a4 : Memref sig .tc .vmem S1024x256 .bf16) (h4 : a4.IsWhole) (a5 : Memref sig .tc .vmem S1024x256 .bf16) (h5 : a5.IsWhole)
  (a6 : Memref sig .tc .vmem S1024x256 .bf16) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x0 x1 x2 x3 : Vec Ideal S1024x256 .bf16) (x4 s : Vec Ideal S1024x1024 .f32)

/-- The first point leaves its part in the scratch. -/
theorem sout_A (hc0 : cond0_0 i) (hc1 : ¬cond0_1 i) (hc2 : ¬cond0_2 i) :
    sout0_A_0 c i a3 h3 a4 h4 a5 h5 a6 h6 a7 h7 a8 h8 a9 h9 hc0 hc1 hc2 x0 x1 x2 x3 x4 = k0_pay2 x0 x1 x2 x3 x4 := by
  unfold sout0_A_0
  rw [View.read_writes_eq_canon _ _ _ (scover0_A_0 c i a3 h3 a4 h4 a5 h5 a6 h6 a7 h7 a8 h8 a9 h9 hc0 hc1 hc2 x0 x1 x2 x3 x4)]
  unfold kernelRun0_A
  dsimp only
  sl_unfold_words
  rw [View.canon_unit_zero hz]
  simp only [View.readAt_eq_ld, h3.read_unread, h4.read_unread, h5.read_unread, h6.read_unread, h7.read_unread, h9.read_unread,
    View.ld_unit_zero (S := S1024x256) hz, View.ld_unit_zero (S := S1024x1024) hz]

/-- A later point adds its part. -/
theorem sout_B (hc0 : ¬cond0_0 i) (hc1 : cond0_1 i) (hc2 : ¬cond0_2 i) :
    sout0_B_0 c i a3 h3 a4 h4 a5 h5 a6 h6 a7 h7 a8 h8 a9 h9 hc0 hc1 hc2 x0 x1 x2 x3 x4 s = k0_pay3 x0 x1 x2 x3 x4 s := by
  unfold sout0_B_0
  rw [View.read_writes_eq_canon _ _ _ (scover0_B_0 c i a3 h3 a4 h4 a5 h5 a6 h6 a7 h7 a8 h8 a9 h9 hc0 hc1 hc2 x0 x1 x2 x3 x4 s)]
  unfold kernelRun0_B
  dsimp only
  sl_unfold_words
  rw [View.canon_unit_zero hz]
  simp only [View.readAt_eq_ld, h3.read_unread, h4.read_unread, h5.read_unread, h6.read_unread, h7.read_unread, h9.read_unread,
    View.ld_unit_zero (S := S1024x256) hz, View.ld_unit_zero (S := S1024x1024) hz]

/-- The last point adds its part, -/
theorem sout_C (hc0 : ¬cond0_0 i) (hc1 : cond0_1 i) (hc2 : cond0_2 i) :
    sout0_C_0 c i a3 h3 a4 h4 a5 h5 a6 h6 a7 h7 a8 h8 a9 h9 hc0 hc1 hc2 x0 x1 x2 x3 x4 s = k0_pay3 x0 x1 x2 x3 x4 s := by
  unfold sout0_C_0
  rw [View.read_writes_eq_canon _ _ _ (scover0_C_0 c i a3 h3 a4 h4 a5 h5 a6 h6 a7 h7 a8 h8 a9 h9 hc0 hc1 hc2 x0 x1 x2 x3 x4 s)]
  unfold kernelRun0_C
  dsimp only
  sl_unfold_words
  rw [View.canon_unit_zero hz]
  simp only [View.readAt_eq_ld, h3.read_unread, h4.read_unread, h5.read_unread, h6.read_unread, h7.read_unread, h9.read_unread,
    View.ld_unit_zero (S := S1024x256) hz, View.ld_unit_zero (S := S1024x1024) hz]

/-- and writes the sum. -/
theorem out_C (hc0 : ¬cond0_0 i) (hc1 : cond0_1 i) (hc2 : cond0_2 i) :
    out0_C_5 c i a3 h3 a4 h4 a5 h5 a6 h6 a7 h7 a8 h8 a9 h9 hc0 hc1 hc2 x0 x1 x2 x3 x4 s = k0_pay4 (k0_pay3 x0 x1 x2 x3 x4 s) := by
  unfold out0_C_5
  rw [View.read_writes_eq_canon _ _ _ (cover0_C_5 c i a3 h3 a4 h4 a5 h5 a6 h6 a7 h7 a8 h8 a9 h9 hc0 hc1 hc2 x0 x1 x2 x3 x4 s)]
  unfold kernelRun0_C
  dsimp only
  sl_unfold_words
  rw [View.canon_unit_zero hz]
  simp only [View.readAt_eq_ld, h3.read_unread, h4.read_unread, h5.read_unread, h6.read_unread, h7.read_unread, h9.read_unread,
    View.ld_unit_zero (S := S1024x256) hz, View.ld_unit_zero (S := S1024x1024) hz, View.readCov_cons_toLoadRect]
end

/-! ### The run of points -/

variable (m : (ℓ : Loc nD τ sig) → Buf (Elt Ideal) ℓ)

/-- Where each window of a point lies. -/
theorem wins : ∀ t : Fin cfg0.N,
    (win0_0.index t 0 = t.val % 8 ∧ win0_0.index t 1 = 0) ∧ (win0_1.index t 0 = t.val % 8 ∧ win0_1.index t 1 = 0)
    ∧ (win0_2.index t 0 = t.val % 8 ∧ win0_2.index t 1 = 0) ∧ (win0_3.index t 0 = t.val % 8 ∧ win0_3.index t 1 = 0)
    ∧ (win0_4.index t 0 = t.val % 8 ∧ win0_4.index t 1 = 0) :=
  (by decide +kernel : ∀ t : Fin grid0.N, _)

/-- The blocks a point reads. -/
abbrev B0 (c : Dev nD) (t : Fin cfg0.N) : Mat 1024 256 := iblk m c 0 t
abbrev B1 (c : Dev nD) (t : Fin cfg0.N) : Mat 1024 256 := iblk m c 1 t
abbrev B2 (c : Dev nD) (t : Fin cfg0.N) : Mat 1024 256 := iblk m c 2 t
abbrev B3 (c : Dev nD) (t : Fin cfg0.N) : Mat 1024 256 := iblk m c 3 t
abbrev B4 (c : Dev nD) (t : Fin cfg0.N) : Mat 1024 1024 := iblk m c 4 t

theorem b0 (c : Dev nD) (t : Fin cfg0.N) (r : Fin 1024) (i : Fin 256) :
    B0 m c t (ix2 r i) = m ((c : Thread nD τ).loc main_arg0) (ix2 (row8 t.val r) i : S8192x256.Idx) := by
  unfold B0 iblk
  rw [View.read_apply]
  show V m c main_arg0 _ = _
  rw [V_main_arg0]
  refine at2 _ _ _ _ ?_ ?_
  · show win0_0.index t 0 * 1024 + 1 * r.val = 1024 * (t.val % 8) + r.val; rw [(wins t).1.1]; omega
  · show win0_0.index t 1 * 256 + 1 * i.val = i.val; rw [(wins t).1.2]; omega
theorem b1 (c : Dev nD) (t : Fin cfg0.N) (r : Fin 1024) (i : Fin 256) :
    B1 m c t (ix2 r i) = m ((c : Thread nD τ).loc main_arg1) (ix2 (row8 t.val r) i : S8192x256.Idx) := by
  unfold B1 iblk
  rw [View.read_apply]
  show V m c main_arg1 _ = _
  rw [V_main_arg1]
  refine at2 _ _ _ _ ?_ ?_
  · show win0_1.index t 0 * 1024 + 1 * r.val = 1024 * (t.val % 8) + r.val; rw [(wins t).2.1.1]; omega
  · show win0_1.index t 1 * 256 + 1 * i.val = i.val; rw [(wins t).2.1.2]; omega
theorem b2 (c : Dev nD) (t : Fin cfg0.N) (r : Fin 1024) (i : Fin 256) :
    B2 m c t (ix2 r i) = m ((c : Thread nD τ).loc main_arg2) (ix2 (row8 t.val r) i : S8192x256.Idx) := by
  unfold B2 iblk
  rw [View.read_apply]
  show V m c main_arg2 _ = _
  rw [V_main_arg2]
  refine at2 _ _ _ _ ?_ ?_
  · show win0_2.index t 0 * 1024 + 1 * r.val = 1024 * (t.val % 8) + r.val; rw [(wins t).2.2.1.1]; omega
  · show win0_2.index t 1 * 256 + 1 * i.val = i.val; rw [(wins t).2.2.1.2]; omega
theorem b3 (c : Dev nD) (t : Fin cfg0.N) (r : Fin 1024) (i : Fin 256) :
    B3 m c t (ix2 r i) = m ((c : Thread nD τ).loc main_arg3) (ix2 (row8 t.val r) i : S8192x256.Idx) := by
  unfold B3 iblk
  rw [View.read_apply]
  show V m c main_arg3 _ = _
  rw [V_main_arg3]
  refine at2 _ _ _ _ ?_ ?_
  · show win0_3.index t 0 * 1024 + 1 * r.val = 1024 * (t.val % 8) + r.val; rw [(wins t).2.2.2.1.1]; omega
  · show win0_3.index t 1 * 256 + 1 * i.val = i.val; rw [(wins t).2.2.2.1.2]; omega
theorem b4 (c : Dev nD) (t : Fin cfg0.N) (r : Fin 1024) (i : Fin 1024) :
    B4 m c t (ix2 r i) = m ((c : Thread nD τ).loc main_arg4) (ix2 (row8 t.val r) i : S8192x1024.Idx) := by
  unfold B4 iblk
  rw [View.read_apply]
  show V m c main_arg4 _ = _
  rw [V_main_arg4]
  refine at2 _ _ _ _ ?_ ?_
  · show win0_4.index t 0 * 1024 + 1 * r.val = 1024 * (t.val % 8) + r.val; rw [(wins t).2.2.2.2.1]; omega
  · show win0_4.index t 1 * 1024 + 1 * i.val = i.val; rw [(wins t).2.2.2.2.2]; omega

/-- The launch's four groups of rows, and its cotangent. -/
abbrev A0 (c : Dev nD) : Mat 8192 256 := m ((c : Thread nD τ).loc main_arg0)
abbrev A1 (c : Dev nD) : Mat 8192 256 := m ((c : Thread nD τ).loc main_arg1)
abbrev A2 (c : Dev nD) : Mat 8192 256 := m ((c : Thread nD τ).loc main_arg2)
abbrev A3 (c : Dev nD) : Mat 8192 256 := m ((c : Thread nD τ).loc main_arg3)
abbrev A4 (c : Dev nD) : Mat 8192 1024 := m ((c : Thread nD τ).loc main_arg4)

/-- The groups side by side in a point's blocks are the point's rows of the groups side by side. -/
theorem bcat (c : Dev nD) (t : Fin cfg0.N) (r i : Fin 1024) :
    cat (B0 m c t) (B1 m c t) (B2 m c t) (B3 m c t) r i = cat (A0 m c) (A1 m c) (A2 m c) (A3 m c) (row8 t.val r) i := by
  unfold cat
  simp only [b0, b1, b2, b3]

/-- Point `n`'s part of the gradient. -/
def part (c : Dev nD) (i k : Fin 1024) (n : ℕ) (h : n < cfg0.N) : EReal :=
  ∑ r : Fin 1024, cat (A0 m c) (A1 m c) (A2 m c) (A3 m c) (row8 n r) i * A4 m c (ix2 (row8 n r) k)

theorem part_eq (c : Dev nD) (i k : Fin 1024) (t : Fin cfg0.N) :
    (∑ r : Fin 1024, cat (B0 m c t) (B1 m c t) (B2 m c t) (B3 m c t) r i * B4 m c t (ix2 r k)) = part m c i k t.val t.isLt :=
  Finset.sum_congr rfl fun r _ => by rw [bcat, b4]

/-- What the scratch holds after point `n`. -/
def scr (c : Dev nD) (n : ℕ) (h : n < cfg0.N) : Vec Ideal S1024x1024 .f32 := (outsAt0 m c n h).2

theorem scr_first (c : Dev nD) (i k : Fin 1024) (n : ℕ) (h : n < cfg0.N) (h0 : n % 8 = 0) :
    scr m c n h (ix2 i k) = part m c i k n h := by
  unfold scr
  rw [outsAt0_A m c ⟨n, h⟩ h0 (by have : cfg0.N = 8 := N_0; show ¬ 1 ≤ n; omega) (by show ¬ n % 8 = 7; omega)]
  dsimp only
  rw [sout_A, pay2_at]
  exact part_eq m c i k ⟨n, h⟩
theorem scr_next (c : Dev nD) (i k : Fin 1024) (n : ℕ) (h : n + 1 < cfg0.N) (h0 : ¬ (n + 1) % 8 = 0) :
    scr m c (n + 1) h (ix2 i k) = scr m c n (Nat.lt_of_succ_lt h) (ix2 i k) + part m c i k (n + 1) h := by
  unfold scr
  by_cases h7 : (n + 1) % 8 = 7
  · rw [outsAt0_C m c ⟨n + 1, h⟩ h0 (by show 1 ≤ (n + 1); omega) h7]
    dsimp only
    rw [sout_C, pay3_at]
    exact congrArg (_ + ·) (part_eq m c i k ⟨n + 1, h⟩)
  · rw [outsAt0_B m c ⟨n + 1, h⟩ h0 (by show 1 ≤ (n + 1); omega) h7]
    dsimp only
    rw [sout_B, pay3_at]
    exact congrArg (_ + ·) (part_eq m c i k ⟨n + 1, h⟩)

/-- The scratch at the end holds the gradient. -/
theorem scr_last (c : Dev nD) (i k : Fin 1024) (hn : 8 * 0 + 7 < cfg0.N) :
    scr m c (8 * 0 + 7) hn (ix2 i k) = grad (A0 m c) (A1 m c) (A2 m c) (A3 m c) (A4 m c) i k := by
  refine (sum_run 8 (fun n h => scr m c n h (ix2 i k)) (part m c i k) (scr_first m c i k) (scr_next m c i k) 0 7 (by omega) hn).trans ?_
  unfold grad
  rw [← sum_row8 _ 0]
  rfl

/-- What the last point writes. -/
theorem last (c : Dev nD) (i k : Fin 1024) (hn : 8 * 0 + 7 < cfg0.N) :
    (outsAt0 m c (8 * 0 + 7) hn).1 (ix2 i k) = grad (A0 m c) (A1 m c) (A2 m c) (A3 m c) (A4 m c) i k := by
  have e := outsAt0_C m c ⟨8 * 0 + 7, hn⟩ (by show ¬ (8 * 0 + 7) % 8 = 0; omega) (by show 1 ≤ 8 * 0 + 7; omega)
    (by show (8 * 0 + 7) % 8 = 7; omega)
  refine Eq.trans ?_ (scr_last m c i k hn)
  show (outsAt0 m c (8 * 0 + 7) hn).1 _ = (outsAt0 m c (8 * 0 + 7) hn).2 _
  refine (congrFun (congrArg Prod.fst e) _).trans (Eq.trans ?_ (congrFun (congrArg Prod.snd e) _).symm)
  dsimp only
  rw [out_C, sout_C, pay4_at]

/-- The array after the launch. -/
theorem result (c : Dev nD) (i k : Fin 1024) :
    (dats m 0 c).arrAt 5 cfg0.N (ix2 i k : S1024x1024.Idx) = grad (A0 m c) (A1 m c) (A2 m c) (A3 m c) (A4 m c) i k := by
  have hN : cfg0.N = 8 := N_0
  rw [Value.final5, Value.G5_last, ← Value.outsAt0_sweep m c 7 (by omega)]
  exact last m c i k (by omega)

end

/-! ### The reference -/

namespace Ref
open Cert.ProjOutDwRefIdeal Cert.ProjOutDwRefIdeal.Read

variable (x0 x1 x2 x3 : Mat 8192 256) (x4 : Mat 8192 1024)

/-- The reference's gradient. -/
theorem result (i k : Fin 1024) : val_main_v6 (F := Ideal) x0 x1 x2 x3 x4 (ix2 i k) = grad x0 x1 x2 x3 x4 i k := by
  have e : val_main_v6 (F := Ideal) x0 x1 x2 x3 x4 (ix2 i k) = val_main_v4 (F := Ideal) x0 x1 x2 x3 x4 (ix2 k i) := by
    rw [val_main_v6_apply, val_main_v5_apply]
    exact congrArg (val_main_v4 (F := Ideal) x0 x1 x2 x3 x4) (eq_ix2 _)
  rw [e, val_main_v4_apply]
  unfold grad
  refine Finset.sum_congr rfl fun r _ => (mul_comm _ _).trans ?_
  exact congrArg₂ (· * ·) ((congrArg (val_main_v1 (F := Ideal) x0 x1 x2 x3) (eq_ix2 _)).trans (cat_at x0 x1 x2 x3 _ r i))
    (congrArg x4 (eq_ix2 _))

end Ref

/-! ### The claim -/

/-- The kernel and the reference end with the same gradient. -/
theorem algebraic : Cert.algebraic_ProjOutDwIdeal_ProjOutDwRefIdeal := by
  intro m g m' g' _ hag
  refine ⟨fun c => (Cert.ProjOutDwIdeal.Gen.dats m 0 c).arrAt 5 Cert.ProjOutDwIdeal.cfg0.N,
    Cert.ProjOutDwIdeal.Value.run_blocks m g, ?_⟩
  refine (θ_run Cert.ProjOutDwRefIdeal.defs _ _).mono (fun r h c => ?_) (Cert.ProjOutDwRefIdeal.Value.run m' g')
  obtain ⟨e0, e1, e2, e3, e4⟩ := hag c
  obtain ⟨h0, ha⟩ := h c
  refine ⟨(h0.trans (Cert.ProjOutDwRefIdeal.Read.val_main_v6_eq _ _ _ _ _)).trans ?_, ha⟩
  rw [e0, e1, e2, e3, e4]
  exact Cert.Sgu.ext2 fun i k => (Ref.result _ _ _ _ _ i k).trans (result m c i k).symm

/-- The reference ends, changes no argument and leaves every counter at zero. -/
theorem frame_ref : Cert.quiescent_ProjOutDwRefIdeal := fun m' g' _ =>
  (θ_run Cert.ProjOutDwRefIdeal.defs _ _).mono
    (fun r h => ⟨fun c => (h c).2, Idealize.ShloMosaic.sem_eq_zero_of_no_sems (by decide) r.2⟩)
    (Cert.ProjOutDwRefIdeal.Value.run m' g')

end Cert.OutDw

end
-- ==== Proof.OutDx.lean ====
/- The gradient of the output projection's rows: each block the kernel writes, and the same rows of the reference. -/
module

public import proofs.«01_k».proof.Defs
public import proofs.«01_k».proof.Proof.Prod
public import proofs.«01_k».proof.Proof.Gen.ProjOutDxIdeal.Value
public import proofs.«01_k».proof.Proof.Gen.ProjOutDxRefIdeal.Read
public import proofs.«01_k».proof.Proof.Gen.ProjOutDxRefIdeal.Run

@[expose] public section

noncomputable section

namespace Cert.OutDx

open Idealize.ShloMosaic Idealize.ShloMosaic.TcCoe Idealize.SL.Sem
open Cert.Sgu (ext2)
open Cert.Prod
open scoped BigOperators

/-- The rows' gradient: the cotangent times the weights' transpose. -/
def grad (x0 : Mat 8192 1024) (x1 : Mat 1024 1024) (r : Fin 8192) (j : Fin 1024) : EReal := ∑ k : Fin 1024, x0 (ix2 r k) * x1 (ix2 j k)

section
open Cert.ProjOutDxIdeal Cert.ProjOutDxIdeal.Gen

/-! ### A block -/

theorem pay1_at (v0 : Vec Ideal S1024x1024 .f32) (v1 : Vec Ideal S1024x1024 .bf16) (r : Fin 1024) (j : Fin 1024) :
    k0_pay1 (F := Ideal) v0 v1 (ix2 r j) = ∑ k : Fin 1024, v0 (ix2 r k) * v1 (ix2 j k) := by
  pointwise [k0_pay1]

/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- The row of the array a row of a point's block is. -/
def row (t : Fin cfg0.N) (r : Fin 1024) : Fin 8192 :=
  ⟨1024 * (t.val) + r.val, by have := t.isLt; have : cfg0.N = 8 := N_0; omega⟩

theorem b0 (c : Dev nD) (t : Fin cfg0.N) (r k : Fin 1024) :
    (iblk m c 0 t : Vec Ideal S1024x1024 .f32) (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val) + r.val; rw [(wins t).1.1]; omega
  | ⟨1, _⟩ => show win0_0.index t 1 * 1024 + 1 * k.val = k.val; rw [(wins t).1.2]; omega
theorem b1 (c : Dev nD) (t : Fin cfg0.N) (j : Fin 1024) (k : Fin 1024) :
    (iblk m c 1 t : Vec Ideal S1024x1024 .bf16) (ix2 j k) = m ((c : Thread nD τ).loc main_arg1) (ix2 j k) := by
  unfold iblk
  rw [View.read_apply]
  show V m c main_arg1 _ = _
  rw [V_main_arg1]
  congr 1
  funext a
  apply Fin.ext
  match a with
  | ⟨0, _⟩ => show win0_1.index t 0 * 1024 + 1 * j.val = j.val; rw [(wins t).2.1.1]; omega
  | ⟨1, _⟩ => show win0_1.index t 1 * 1024 + 1 * k.val = k.val; rw [(wins t).2.1.2]; omega

/-- The launch's rows and weights. -/
abbrev A0 (c : Dev nD) : Mat 8192 1024 := m ((c : Thread nD τ).loc main_arg0)
abbrev A1 (c : Dev nD) : Mat 1024 1024 := m ((c : Thread nD τ).loc main_arg1)

/-- The block a point writes holds its rows and columns of the product. -/
theorem block (c : Dev nD) (t : Fin cfg0.N) (r : Fin 1024) (j : Fin 1024) :
    out0_2 (F := Ideal) (iblk m c 0 t) (iblk m c 1 t) (ix2 r j) = grad (A0 m c) (A1 m c) (row t r) j := by
  unfold out0_2
  rw [View.canon_unit_zero hz, View.ld_unit_zero (S := S1024x1024) hz, View.ld_unit_zero (S := S1024x1024) hz, pay1_at]
  simp only [b0, b1]
  rfl

/-- The point that writes a row, and the row's place in the point's block. -/
theorem place (r : Fin 8192) : ∃ (t : Fin cfg0.N) (p : Fin 1024), row t p = r := by
  have hN : cfg0.N = 8 := N_0
  refine ⟨⟨r.val / 1024, by omega⟩, ⟨r.val % 1024, by omega⟩, Fin.ext ?_⟩
  show 1024 * (r.val / 1024) + r.val % 1024 = r.val
  omega

/-- The array after the launch. -/
theorem result (c : Dev nD) (r : Fin 8192) (j : Fin 1024) :
    (dats m 0 c).arrAt 2 cfg0.N (ix2 r j : S8192x1024.Idx) = grad (A0 m c) (A1 m c) r j := by
  obtain ⟨t, p, rfl⟩ := place r
  have e := congrFun (Value.blocks2 m c t (flush0_2 t)) (ix2 p j)
  rw [View.read_apply, Value.flushed2] at e
  refine Eq.trans (congrArg _ ?_) (e.trans (block m c t p j))
  funext a
  apply Fin.ext
  match a with
  | ⟨0, _⟩ => show 1024 * (t.val) + p.val = win0_2.index t 0 * 1024 + 1 * p.val; rw [(wins t).2.2.1]; omega
  | ⟨1, _⟩ => show j.val = win0_2.index t 1 * 1024 + 1 * j.val; rw [(wins t).2.2.2]; omega

end

/-! ### The reference -/

namespace Ref
open Cert.ProjOutDxRefIdeal Cert.ProjOutDxRefIdeal.Read

variable (x0 : Mat 8192 1024) (x1 : Mat 1024 1024)

theorem result (r : Fin 8192) (j : Fin 1024) : val_main_v3 (F := Ideal) x0 x1 (ix2 r j) = grad x0 x1 r j := by
  rw [val_main_v3_apply]
  refine Finset.sum_congr rfl fun k _ => ?_
  exact congrArg₂ (· * ·) (congrArg x0 (eq_ix2 _)) (congrArg x1 (eq_ix2 _))

end Ref

/-! ### The claim -/

/-- The kernel and the reference end with the same product. -/
theorem algebraic : Cert.algebraic_ProjOutDxIdeal_ProjOutDxRefIdeal := by
  intro m g m' g' _ hag
  refine ⟨fun c => (Cert.ProjOutDxIdeal.Gen.dats m 0 c).arrAt 2 Cert.ProjOutDxIdeal.cfg0.N, Cert.ProjOutDxIdeal.Value.run_blocks m g, ?_⟩
  refine (θ_run Cert.ProjOutDxRefIdeal.defs _ _).mono (fun r h c => ?_) (Cert.ProjOutDxRefIdeal.Value.run m' g')
  obtain ⟨e0, e1⟩ := hag c
  obtain ⟨h0, ha⟩ := h c
  refine ⟨(h0.trans (Cert.ProjOutDxRefIdeal.Read.val_main_v3_eq _ _)).trans ?_, ha⟩
  rw [e0, e1]
  exact ext2 fun r j => (Ref.result _ _ r j).trans (result m c r j).symm

/-- The reference ends, changes no argument and leaves every counter at zero. -/
theorem frame_ref : Cert.quiescent_ProjOutDxRefIdeal := fun m' g' _ =>
  (θ_run Cert.ProjOutDxRefIdeal.defs _ _).mono
    (fun r h => ⟨fun c => (h c).2, Idealize.ShloMosaic.sem_eq_zero_of_no_sems (by decide) r.2⟩)
    (Cert.ProjOutDxRefIdeal.Value.run m' g')

end Cert.OutDx

end
-- ==== Proof.InDw.lean ====
/- The gradient of the input projection's weights: its runs of eight points, and the reference's product. -/
module

public import proofs.«01_k».proof.Defs
public import proofs.«01_k».proof.Proof.Prod
public import proofs.«01_k».proof.Proof.Gen.ProjInDwIdeal.Value
public import proofs.«01_k».proof.Proof.Gen.ProjInDwRefIdeal.Read
public import proofs.«01_k».proof.Proof.Gen.ProjInDwRefIdeal.Run

@[expose] public section

noncomputable section

namespace Cert.InDw

open Idealize.ShloMosaic Idealize.ShloMosaic.TcCoe Idealize.SL.Sem
open Cert.Prod
open scoped BigOperators

/-- The weights' gradient. -/
def grad (x0 : Mat 8192 1024) (x1 : Mat 8192 3584) (i : Fin 1024) (j : Fin 3584) : EReal := ∑ r : Fin 8192, x0 (ix2 r i) * x1 (ix2 r j)

section
open Cert.ProjInDwIdeal Cert.ProjInDwIdeal.Gen

/-! ### A point's terms -/

theorem pay1_at (v0 : Vec Ideal S1024x1024 .bf16) (v1 : Vec Ideal S1024x896 .bf16) (i : Fin 1024) (k : Fin 896) :
    k0_pay1 (F := Ideal) v0 v1 (ix2 i k) = ∑ r : Fin 1024, v0 (ix2 r i) * v1 (ix2 r k) := by
  pointwise [k0_pay1]
theorem pay2_at (v0 : Vec Ideal S1024x1024 .bf16) (v1 : Vec Ideal S1024x896 .bf16) (i : Fin 1024) (k : Fin 896) :
    k0_pay2 (F := Ideal) v0 v1 (ix2 i k) = ∑ r : Fin 1024, v0 (ix2 r i) * v1 (ix2 r k) := by
  pointwise [k0_pay2, pay1_at]
theorem pay3_at (v0 : Vec Ideal S1024x1024 .bf16) (v1 : Vec Ideal S1024x896 .bf16) (a : Vec Ideal S1024x896 .f32) (i : Fin 1024) (k : Fin 896) :
    k0_pay3 (F := Ideal) v0 v1 a (ix2 i k) = a (ix2 i k) + ∑ r : Fin 1024, v0 (ix2 r i) * v1 (ix2 r k) := by
  pointwise [k0_pay3, pay1_at]
theorem pay4_at (a : Vec Ideal S1024x896 .f32) (i : Fin 1024) (k : Fin 896) : k0_pay4 (F := Ideal) a (ix2 i k) = a (ix2 i k) := by
  pointwise [k0_pay4]

section
variable (c : Dev nD) (i : grid0.Coords) (a3 : Memref sig .tc .vmem S1024x1024 .bf16) (h3 : a3.IsWhole)
  (a4 : Memref sig .tc .vmem S1024x896 .bf16) (h4 : a4.IsWhole) (a5 : Memref sig .tc .vmem S1024x896 .bf16) (h5 : a5.IsWhole)
  (a6 : Memref sig .tc .vmem S1024x896 .f32) (h6 : a6.IsWhole)
  (x0 : Vec Ideal S1024x1024 .bf16) (x1 : Vec Ideal S1024x896 .bf16) (s : Vec Ideal S1024x896 .f32)

/-- A run's first point leaves its part in the scratch. -/
theorem sout_A (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, h5.read_unread, h6.read_unread,
    View.ld_unit_zero (S := S1024x1024) hz, View.ld_unit_zero (S := S1024x896) hz]

/-- A later point adds its part. -/
theorem sout_B (hc0 : ¬cond0_0 i) (hc1 : cond0_1 i) (hc2 : ¬cond0_2 i) :
    sout0_B_0 c i a3 h3 a4 h4 a5 h5 a6 h6 hc0 hc1 hc2 x0 x1 s = k0_pay3 x0 x1 s := by
  unfold sout0_B_0
  rw [View.read_writes_eq_canon _ _ _ (scover0_B_0 c i a3 h3 a4 h4 a5 h5 a6 h6 hc0 hc1 hc2 x0 x1 s)]
  unfold kernelRun0_B
  dsimp only
  sl_unfold_words
  rw [View.canon_unit_zero hz]
  simp only [View.readAt_eq_ld, h3.read_unread, h4.read_unread, h5.read_unread, h6.read_unread,
    View.ld_unit_zero (S := S1024x1024) hz, View.ld_unit_zero (S := S1024x896) hz]

/-- A run's last point adds its part, -/
theorem sout_C (hc0 : ¬cond0_0 i) (hc1 : cond0_1 i) (hc2 : cond0_2 i) :
    sout0_C_0 c i a3 h3 a4 h4 a5 h5 a6 h6 hc0 hc1 hc2 x0 x1 s = k0_pay3 x0 x1 s := by
  unfold sout0_C_0
  rw [View.read_writes_eq_canon _ _ _ (scover0_C_0 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h5.read_unread, h6.read_unread,
    View.ld_unit_zero (S := S1024x1024) hz, View.ld_unit_zero (S := S1024x896) hz]

/-- and writes the sum. -/
theorem out_C (hc0 : ¬cond0_0 i) (hc1 : cond0_1 i) (hc2 : cond0_2 i) :
    out0_C_2 c i a3 h3 a4 h4 a5 h5 a6 h6 hc0 hc1 hc2 x0 x1 s = k0_pay4 (k0_pay3 x0 x1 s) := by
  unfold out0_C_2
  rw [View.read_writes_eq_canon _ _ _ (cover0_C_2 c i a3 h3 a4 h4 a5 h5 a6 h6 hc0 hc1 hc2 x0 x1 s)]
  unfold kernelRun0_C
  dsimp only
  sl_unfold_words
  rw [View.canon_unit_zero hz]
  simp only [View.readAt_eq_ld, h3.read_unread, h4.read_unread, h5.read_unread, h6.read_unread,
    View.ld_unit_zero (S := S1024x1024) hz, View.ld_unit_zero (S := S1024x896) hz, View.readCov_cons_toLoadRect]
end

/-! ### A run of points -/

variable (m : (ℓ : Loc nD τ sig) → Buf (Elt Ideal) ℓ)

/-- Where each window of a point lies. -/
theorem wins : ∀ t : Fin cfg0.N,
    (win0_0.index t 0 = t.val % 8 ∧ win0_0.index t 1 = 0) ∧ (win0_1.index t 0 = t.val % 8 ∧ win0_1.index t 1 = t.val / 8) :=
  (by decide +kernel : ∀ t : Fin grid0.N, _)

/-- The blocks a point reads. -/
abbrev B0 (c : Dev nD) (t : Fin cfg0.N) : Mat 1024 1024 := iblk m c 0 t
abbrev B1 (c : Dev nD) (t : Fin cfg0.N) : Mat 1024 896 := iblk m c 1 t

theorem b0 (c : Dev nD) (t : Fin cfg0.N) (r : Fin 1024) (i : Fin 1024) :
    B0 m c t (ix2 r i) = m ((c : Thread nD τ).loc main_arg0) (ix2 (row8 t.val r) i : S8192x1024.Idx) := by
  unfold B0 iblk
  rw [View.read_apply]
  show V m c main_arg0 _ = _
  rw [V_main_arg0]
  congr 1
  funext a
  apply Fin.ext
  match a with
  | ⟨0, _⟩ => show win0_0.index t 0 * 1024 + 1 * r.val = 1024 * (t.val % 8) + r.val; rw [(wins t).1.1]; omega
  | ⟨1, _⟩ => show win0_0.index t 1 * 1024 + 1 * i.val = i.val; rw [(wins t).1.2]; omega
theorem b1 (c : Dev nD) (t : Fin cfg0.N) (r : Fin 1024) (k : Fin 896) :
    B1 m c t (ix2 r k) = m ((c : Thread nD τ).loc main_arg1) (ix2 (row8 t.val r) ⟨896 * (t.val / 8) + k.val, by have := t.isLt; have : cfg0.N = 32 := N_0; omega⟩ : S8192x3584.Idx) := by
  unfold B1 iblk
  rw [View.read_apply]
  show V m c main_arg1 _ = _
  rw [V_main_arg1]
  congr 1
  funext a
  apply Fin.ext
  match a with
  | ⟨0, _⟩ => show win0_1.index t 0 * 1024 + 1 * r.val = 1024 * (t.val % 8) + r.val; rw [(wins t).2.1]; omega
  | ⟨1, _⟩ => show win0_1.index t 1 * 896 + 1 * k.val = 896 * (t.val / 8) + k.val; rw [(wins t).2.2]; omega

/-- The launch's rows and cotangents. -/
abbrev A0 (c : Dev nD) : Mat 8192 1024 := m ((c : Thread nD τ).loc main_arg0)
abbrev A1 (c : Dev nD) : Mat 8192 3584 := m ((c : Thread nD τ).loc main_arg1)

/-- Point `n`'s part of the gradient. -/
def part (c : Dev nD) (i : Fin 1024) (k : Fin 896) (n : ℕ) (h : n < cfg0.N) : EReal :=
  ∑ r : Fin 1024, A0 m c (ix2 (row8 n r) i) * A1 m c (ix2 (row8 n r) ⟨896 * (n / 8) + k.val, by have : cfg0.N = 32 := N_0; omega⟩)

theorem part_eq (c : Dev nD) (i : Fin 1024) (k : Fin 896) (t : Fin cfg0.N) :
    (∑ r : Fin 1024, B0 m c t (ix2 r i) * B1 m c t (ix2 r k))
      = part m c i k t.val t.isLt :=
  Finset.sum_congr rfl fun r _ => by rw [b0, b1]

/-- What the scratch holds after point `n`. -/
def scr (c : Dev nD) (n : ℕ) (h : n < cfg0.N) : Vec Ideal S1024x896 .f32 := (outsAt0 m c n h).2

theorem scr_first (c : Dev nD) (i : Fin 1024) (k : Fin 896) (n : ℕ) (h : n < cfg0.N) (h0 : n % 8 = 0) :
    scr m c n h (ix2 i k) = part m c i k n h := by
  unfold scr
  rw [outsAt0_A m c ⟨n, h⟩ h0 (by show ¬ 1 ≤ n % 8; omega) (by show ¬ n % 8 = 7; omega)]
  dsimp only
  rw [sout_A, pay2_at]
  exact part_eq m c i k ⟨n, h⟩
theorem scr_next (c : Dev nD) (i : Fin 1024) (k : Fin 896) (n : ℕ) (h : n + 1 < cfg0.N) (h0 : ¬ (n + 1) % 8 = 0) :
    scr m c (n + 1) h (ix2 i k) = scr m c n (Nat.lt_of_succ_lt h) (ix2 i k) + part m c i k (n + 1) h := by
  unfold scr
  by_cases h7 : (n + 1) % 8 = 7
  · rw [outsAt0_C m c ⟨n + 1, h⟩ h0 (by show 1 ≤ (n + 1) % 8; omega) h7]
    dsimp only
    rw [sout_C, pay3_at]
    exact congrArg (_ + ·) (part_eq m c i k ⟨n + 1, h⟩)
  · rw [outsAt0_B m c ⟨n + 1, h⟩ h0 (by show 1 ≤ (n + 1) % 8; omega) h7]
    dsimp only
    rw [sout_B, pay3_at]
    exact congrArg (_ + ·) (part_eq m c i k ⟨n + 1, h⟩)

/-- The scratch at a run's end holds the gradient. -/
theorem scr_last (c : Dev nD) (i : Fin 1024) (j : Fin 4) (k : Fin 896) (hn : 8 * j.val + 7 < cfg0.N) :
    scr m c (8 * j.val + 7) hn (ix2 i k) = grad (A0 m c) (A1 m c) i ⟨896 * j.val + k.val, by omega⟩ := by
  refine (sum_run 8 (fun n h => scr m c n h (ix2 i k)) (part m c i k) (scr_first m c i k) (scr_next m c i k) j.val 7 (by omega) hn).trans ?_
  unfold grad
  rw [← sum_row8 _ j.val]
  refine Finset.sum_congr rfl fun q _ => Finset.sum_congr rfl fun r _ => ?_
  have e : (8 * j.val + q.val) / 8 = j.val := by omega
  simp only [e]

/-- What a run's last point writes. -/
theorem last (c : Dev nD) (i : Fin 1024) (j : Fin 4) (k : Fin 896) (hn : 8 * j.val + 7 < cfg0.N) :
    (outsAt0 m c (8 * j.val + 7) hn).1 (ix2 i k) = grad (A0 m c) (A1 m c) i ⟨896 * j.val + k.val, by omega⟩ := by
  have e := outsAt0_C m c ⟨8 * j.val + 7, hn⟩ (by show ¬ (8 * j.val + 7) % 8 = 0; omega) (by show 1 ≤ (8 * j.val + 7) % 8; omega)
    (by show (8 * j.val + 7) % 8 = 7; omega)
  refine Eq.trans ?_ (scr_last m c i j k hn)
  show (outsAt0 m c (8 * j.val + 7) hn).1 _ = (outsAt0 m c (8 * j.val + 7) hn).2 _
  refine (congrFun (congrArg Prod.fst e) _).trans (Eq.trans ?_ (congrFun (congrArg Prod.snd e) _).symm)
  dsimp only
  rw [out_C, sout_C, pay4_at]

/-- The array after the launch. -/
theorem result (c : Dev nD) (i : Fin 1024) (k : Fin 3584) :
    (dats m 0 c).arrAt 2 cfg0.N (ix2 i k : S1024x3584.Idx) = grad (A0 m c) (A1 m c) i k := by
  have hN : cfg0.N = 32 := N_0
  have hp : Value.pt2Of (ix2 i k) = 8 * (k.val / 896) + 7 := by
    show 8 * (4 * (i.val / 1024 - 0) + 1 * (k.val / 896 - 0)) + 7 = _
    omega
  have hl : Value.loc2Of (ix2 i k) = ix2 i ⟨k.val % 896, by omega⟩ := by
    funext a
    apply Fin.ext
    match a with
    | ⟨0, _⟩ => show i.val % 1024 = i.val; omega
    | ⟨1, _⟩ => rfl
  rw [Value.final2]
  unfold Value.G2
  rw [dif_pos (by rw [hp]; omega), hl, Value.fold0_congr m c _ _ _ (by omega) hp, ← Value.outsAt0_sweep m c _ (by omega)]
  refine (last m c i ⟨k.val / 896, by omega⟩ ⟨k.val % 896, by omega⟩ (by show 8 * (k.val / 896) + 7 < cfg0.N; omega)).trans ?_
  congr 1
  exact Fin.ext (Nat.div_add_mod k.val 896)

end

/-! ### The reference -/

namespace Ref
open Cert.ProjInDwRefIdeal Cert.ProjInDwRefIdeal.Read

variable (x0 : Mat 8192 1024) (x1 : Mat 8192 3584)

/-- The reference's gradient. -/
theorem result (i : Fin 1024) (k : Fin 3584) : val_main_v6 (F := Ideal) x0 x1 (ix2 i k) = grad x0 x1 i k := by
  have e : val_main_v6 (F := Ideal) x0 x1 (ix2 i k) = val_main_v4 (F := Ideal) x0 x1 (ix2 k i) := by
    rw [val_main_v6_apply, val_main_v5_apply]
    exact congrArg (val_main_v4 (F := Ideal) x0 x1) (eq_ix2 _)
  rw [e, val_main_v4_apply]
  unfold grad
  refine Finset.sum_congr rfl fun r _ => (mul_comm _ _).trans ?_
  exact congrArg₂ (· * ·) (congrArg x0 (eq_ix2 _)) (congrArg x1 (eq_ix2 _))

end Ref

/-! ### The claim -/

/-- The kernel and the reference end with the same gradient. -/
theorem algebraic : Cert.algebraic_ProjInDwIdeal_ProjInDwRefIdeal := by
  intro m g m' g' _ hag
  refine ⟨fun c => (Cert.ProjInDwIdeal.Gen.dats m 0 c).arrAt 2 Cert.ProjInDwIdeal.cfg0.N,
    Cert.ProjInDwIdeal.Value.run_blocks m g, ?_⟩
  refine (θ_run Cert.ProjInDwRefIdeal.defs _ _).mono (fun r h c => ?_) (Cert.ProjInDwRefIdeal.Value.run m' g')
  obtain ⟨e0, e1⟩ := hag c
  obtain ⟨h0, ha⟩ := h c
  refine ⟨(h0.trans (Cert.ProjInDwRefIdeal.Read.val_main_v6_eq _ _)).trans ?_, ha⟩
  rw [e0, e1]
  exact Cert.Sgu.ext2 fun i k => (Ref.result _ _ i k).trans (result m c i k).symm

/-- The reference ends, changes no argument and leaves every counter at zero. -/
theorem frame_ref : Cert.quiescent_ProjInDwRefIdeal := fun m' g' _ =>
  (θ_run Cert.ProjInDwRefIdeal.defs _ _).mono
    (fun r h => ⟨fun c => (h c).2, Idealize.ShloMosaic.sem_eq_zero_of_no_sems (by decide) r.2⟩)
    (Cert.ProjInDwRefIdeal.Value.run m' g')

end Cert.InDw

end
-- ==== Proof.InDx.lean ====
/- The first projection's gradient through its product and its norm: the runs of four points that add the product up, the
   rows' gradient and the norm weights' gradient they end in, and the derivative of the reference's lines. -/
module

public import proofs.«01_k».proof.Defs
public import proofs.«01_k».proof.Proof.UpDx
public import proofs.«01_k».proof.Proof.Gen.ProjInDxIdeal.Value
public import proofs.«01_k».proof.Proof.Gen.ProjInDxRefIdeal.Read
public import proofs.«01_k».proof.Proof.Gen.ProjInDxRefIdeal.Run
public import proofs.«01_k».proof.Proof.Gen.Pre_proj_in_dx_finite
public import Idealize.ShloMosaic.Lib.StableHlo.RunRead

@[expose] public section

noncomputable section

namespace Cert.InDx

open Idealize.ShloMosaic Idealize.ShloMosaic.TcCoe Idealize.SL.Sem
open Cert.Sgu (Fin' fin_mul fin_of_lt ext2)
open Cert.Prod Cert.Norm
open scoped BigOperators

/-- The product's cotangent: that of the normalized rows. -/
def ct (x0 : Mat 8192 3584) (x1 : Mat 1024 3584) (r : Fin 8192) (j : Fin 1024) : EReal :=
  ∑ k : Fin 3584, x0 (ix2 r k) * x1 (ix2 j k)

section
open Cert.ProjInDxIdeal Cert.ProjInDxIdeal.Gen

/-! ### A point's terms -/

theorem pay1_at (v0 : Vec Ideal S1024x896 .bf16) (v2 : Vec Ideal S1024x896 .bf16) (r : Fin 1024) (j : Fin 1024) :
    k0_pay1 (F := Ideal) v0 v2 (ix2 r j) = ∑ k : Fin 896, v0 (ix2 r k) * v2 (ix2 j k) := by
  pointwise [k0_pay1]
theorem pay2_at (v0 : Vec Ideal S1024x896 .bf16) (v2 : Vec Ideal S1024x896 .bf16) (r : Fin 1024) (j : Fin 1024) :
    k0_pay2 (F := Ideal) v0 v2 (ix2 r j) = ∑ k : Fin 896, v0 (ix2 r k) * v2 (ix2 j k) := by
  pointwise [k0_pay2, pay1_at]
theorem pay3_at (v0 : Vec Ideal S1024x896 .bf16) (v2 : Vec Ideal S1024x896 .bf16) (a : Vec Ideal S1024x1024 .f32) (r : Fin 1024) (j : Fin 1024) :
    k0_pay3 (F := Ideal) v0 v2 a (ix2 r j) = a (ix2 r j) + ∑ k : Fin 896, v0 (ix2 r k) * v2 (ix2 j k) := by
  pointwise [k0_pay3, pay1_at]
theorem pay4_at (j : Fin 1024) : k0_pay4 (F := Ideal) (ix2 0 j) = 0 :=
  Cert.UpDx.pay4_at j
theorem pay5_at (x : Vec Ideal S1024x1024 .f32) (r : Fin 1024) : k0_pay5 (F := Ideal) x (ix2 r 0) = rs fun k => x (ix2 r k) :=
  Cert.UpDx.pay5_at x r
theorem pay6_at (x : Vec Ideal S1024x1024 .f32) (r j : Fin 1024) : k0_pay6 (F := Ideal) x (ix2 r j) = xh (fun k => x (ix2 r k)) j :=
  Cert.UpDx.pay6_at x r j
theorem pay7_at (g x : Vec Ideal S1024x1024 .f32) (b : Vec Ideal S1x1024 .f32) (j : Fin 1024) :
    k0_pay7 (F := Ideal) g x b (ix2 0 j) = b (ix2 0 j) + ∑ r : Fin 1024, g (ix2 r j) * xh (fun k => x (ix2 r k)) j :=
  Cert.UpDx.pay7_at g x b j
theorem pay8_at (g x : Vec Ideal S1024x1024 .f32) (w : Vec Ideal S1x1024 .f32) (d : Vec Ideal S1024x1024 .f32) (r j : Fin 1024) :
    k0_pay8 (F := Ideal) g x w d (ix2 r j)
      = dxK (fun k => x (ix2 r k)) (fun k => w (ix2 0 k)) (fun k => g (ix2 r k)) (d (ix2 r j)) j :=
  Cert.UpDx.pay8_at g x w d r j

section
variable (c : Dev nD) (i : grid0.Coords) (a2 : Memref sig .tc .vmem S1024x896 .bf16) (h2 : a2.IsWhole)
  (a3 : Memref sig .tc .vmem S1024x896 .bf16) (h3 : a3.IsWhole) (a4 : Memref sig .tc .vmem S1024x1024 .f32) (h4 : a4.IsWhole)
  (a5 : Memref sig .tc .vmem S1x1024 .f32) (h5 : a5.IsWhole) (a6 : Memref sig .tc .vmem S1024x1024 .f32) (h6 : a6.IsWhole)
  (a7 : Memref sig .tc .vmem S1024x1024 .f32) (h7 : a7.IsWhole) (a8 : Memref sig .tc .vmem S1x1024 .f32) (h8 : a8.IsWhole)
  (a9 : Memref sig .tc .vmem S1024x1024 .f32) (h9 : a9.IsWhole)
  (x0 : Vec Ideal S1024x896 .bf16) (x1 : Vec Ideal S1024x896 .bf16) (x2 : Vec Ideal S1024x1024 .f32) (x3 : Vec Ideal S1x1024 .f32)
  (x4 : Vec Ideal S1024x1024 .f32) (b : Vec Ideal S1x1024 .f32) (s : Vec Ideal S1024x1024 .f32)

/-- The launch's first point leaves its part in the scratch, -/
theorem sout_A (hc0 : cond0_0 i) (hc1 : ¬cond0_1 i) (hc2 : cond0_2 i) (hc3 : ¬cond0_3 i) :
    sout0_A_0 c i a2 h2 a3 h3 a4 h4 a5 h5 a6 h6 a7 h7 a8 h8 a9 h9 hc0 hc1 hc2 hc3 x0 x1 x2 x3 x4 = k0_pay2 x0 x1 := by
  unfold sout0_A_0
  rw [View.read_writes_eq_canon _ _ _ (scover0_A_0 c i a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero hz]
  simp only [View.readAt_eq_ld, h2.read_unread, h3.read_unread, View.ld_unit_zero (S := S1024x896) hz]

/-- and zeros in the norm weights' gradient. -/
theorem out_A (hc0 : cond0_0 i) (hc1 : ¬cond0_1 i) (hc2 : cond0_2 i) (hc3 : ¬cond0_3 i) :
    out0_A_6 c i a2 h2 a3 h3 a4 h4 a5 h5 a6 h6 a7 h7 a8 h8 a9 h9 hc0 hc1 hc2 hc3 x0 x1 x2 x3 x4 = k0_pay4 (F := Ideal) := by
  unfold out0_A_6
  rw [View.read_writes_eq_canon _ _ _ (cover0_A_6 c i a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero hz]

/-- Another run's first point leaves its part. -/
theorem sout_D (hc0 : cond0_0 i) (hc1 : ¬cond0_1 i) (hc2 : ¬cond0_2 i) (hc3 : ¬cond0_3 i) :
    sout0_D_0 c i a2 h2 a3 h3 a4 h4 a5 h5 a6 h6 a7 h7 a8 h8 a9 h9 hc0 hc1 hc2 hc3 x0 x1 x2 x3 x4 = k0_pay2 x0 x1 := by
  unfold sout0_D_0
  rw [View.read_writes_eq_canon _ _ _ (scover0_D_0 c i a2 h2 a3 h3 a4 h4 a5 h5 a6 h6 a7 h7 a8 h8 a9 h9 hc0 hc1 hc2 hc3 x0 x1 x2 x3 x4)]
  unfold kernelRun0_D
  dsimp only
  sl_unfold_words
  rw [View.canon_unit_zero hz]
  simp only [View.readAt_eq_ld, h2.read_unread, h3.read_unread, View.ld_unit_zero (S := S1024x896) hz]

/-- A later point adds its part. -/
theorem sout_B (hc0 : ¬cond0_0 i) (hc1 : cond0_1 i) (hc2 : ¬cond0_2 i) (hc3 : ¬cond0_3 i) :
    sout0_B_0 c i a2 h2 a3 h3 a4 h4 a5 h5 a6 h6 a7 h7 a8 h8 a9 h9 hc0 hc1 hc2 hc3 x0 x1 x2 x3 x4 s = k0_pay3 x0 x1 s := by
  unfold sout0_B_0
  rw [View.read_writes_eq_canon _ _ _ (scover0_B_0 c i a2 h2 a3 h3 a4 h4 a5 h5 a6 h6 a7 h7 a8 h8 a9 h9 hc0 hc1 hc2 hc3 x0 x1 x2 x3 x4 s)]
  unfold kernelRun0_B
  dsimp only
  sl_unfold_words
  rw [View.canon_unit_zero hz]
  simp only [View.readAt_eq_ld, h2.read_unread, h3.read_unread, h9.read_unread, View.ld_unit_zero (S := S1024x896) hz, View.ld_unit_zero (S := S1024x1024) hz]

/-- A run's last point adds its part, -/
theorem sout_C (hc0 : ¬cond0_0 i) (hc1 : cond0_1 i) (hc2 : ¬cond0_2 i) (hc3 : cond0_3 i) :
    sout0_C_0 c i a2 h2 a3 h3 a4 h4 a5 h5 a6 h6 a7 h7 a8 h8 a9 h9 hc0 hc1 hc2 hc3 x0 x1 x2 x3 x4 b s = k0_pay3 x0 x1 s := by
  unfold sout0_C_0
  rw [View.read_writes_eq_canon _ _ _ (scover0_C_0 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h9.read_unread, View.ld_unit_zero (S := S1024x896) hz, View.ld_unit_zero (S := S1024x1024) hz]

/-- writes the rows' gradient -/
theorem out_C5 (hc0 : ¬cond0_0 i) (hc1 : cond0_1 i) (hc2 : ¬cond0_2 i) (hc3 : cond0_3 i) :
    out0_C_5 c i a2 h2 a3 h3 a4 h4 a5 h5 a6 h6 a7 h7 a8 h8 a9 h9 hc0 hc1 hc2 hc3 x0 x1 x2 x3 x4 b s = k0_pay8 (k0_pay3 x0 x1 s) x2 x3 x4 := by
  unfold out0_C_5
  rw [View.read_writes_eq_canon _ _ _ (cover0_C_5 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h4.read_unread, h5.read_unread, h6.read_unread, h9.read_unread,
    View.ld_unit_zero (S := S1024x896) hz, View.ld_unit_zero (S := S1024x1024) hz,
    View.ld_unit_zero (S := S1x1024) hz, View.readCov_cons_toLoadRect]

/-- and adds its rows' part to the norm weights' gradient. -/
theorem out_C6 (hc0 : ¬cond0_0 i) (hc1 : cond0_1 i) (hc2 : ¬cond0_2 i) (hc3 : cond0_3 i) :
    out0_C_6 c i a2 h2 a3 h3 a4 h4 a5 h5 a6 h6 a7 h7 a8 h8 a9 h9 hc0 hc1 hc2 hc3 x0 x1 x2 x3 x4 b s = k0_pay7 (k0_pay3 x0 x1 s) x2 b := by
  unfold out0_C_6
  rw [View.read_writes_eq_canon _ _ _ (cover0_C_6 c i a2 h2 a3 h3 a4 h4 a5 h5 a6 h6 a7 h7 a8 h8 a9 h9 hc0 hc1 hc2 hc3 x0 x1 x2 x3 x4 b s)]
  unfold kernelRun0_C
  dsimp only
  sl_unfold_words
  rw [View.canon_unit_zero hz]
  simp only [View.readAt_eq_ld, h2.read_unread, h3.read_unread, h4.read_unread, h8.read_unread, h9.read_unread,
    View.ld_unit_zero (S := S1024x896) hz, View.ld_unit_zero (S := S1024x1024) hz,
    View.ld_unit_zero (S := S1x1024) hz, View.readCov_cons_toLoadRect]
end

/-! ### A point's blocks -/

variable (m : (ℓ : Loc nD τ sig) → Buf (Elt Ideal) ℓ)

/-- Where each window of a point lies. -/
theorem wins : ∀ t : Fin cfg0.N,
    (win0_0.index t 0 = t.val / 4 ∧ win0_0.index t 1 = t.val % 4)
    ∧ (win0_1.index t 0 = 0 ∧ win0_1.index t 1 = t.val % 4) ∧ (win0_2.index t 0 = t.val / 4 ∧ win0_2.index t 1 = 0)
    ∧ (win0_3.index t 0 = 0 ∧ win0_3.index t 1 = 0) ∧ (win0_4.index t 0 = t.val / 4 ∧ win0_4.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg3)) := by
  unfold V
  after_results

/-- The launch's arguments. -/
abbrev A0 (c : Dev nD) : Mat 8192 3584 := m ((c : Thread nD τ).loc main_arg0)
abbrev A1 (c : Dev nD) : Mat 1024 3584 := m ((c : Thread nD τ).loc main_arg1)
abbrev A2 (c : Dev nD) : Mat 8192 1024 := m ((c : Thread nD τ).loc main_arg2)
abbrev A3 (c : Dev nD) : (⟨1, ![1024]⟩ : Shape).Idx → EReal := m ((c : Thread nD τ).loc main_arg3)
abbrev A4 (c : Dev nD) : Mat 8192 1024 := m ((c : Thread nD τ).loc main_arg4)
/-- Its product's cotangent, and its norm weights. -/
abbrev mct (c : Dev nD) : Fin 8192 → Lane := ct (A0 m c) (A1 m c)
abbrev mw (c : Dev nD) : Lane := fun j => A3 m c (ix1 j)

/-- The blocks a point reads. -/
abbrev B0 (c : Dev nD) (t : Fin cfg0.N) : Mat 1024 896 := iblk m c 0 t
abbrev B1 (c : Dev nD) (t : Fin cfg0.N) : Mat 1024 896 := iblk m c 1 t
abbrev B2 (c : Dev nD) (t : Fin cfg0.N) : Mat 1024 1024 := iblk m c 2 t
abbrev B3 (c : Dev nD) (t : Fin cfg0.N) : Mat 1 1024 := iblk m c 3 t
abbrev B4 (c : Dev nD) (t : Fin cfg0.N) : Mat 1024 1024 := iblk m c 4 t

/-- The column of the product a column of point `n`'s blocks is. -/
def col (n : ℕ) (k : Fin 896) : Fin 3584 := ⟨896 * (n % 4) + k.val, by omega⟩

theorem b0 (c : Dev nD) (t : Fin cfg0.N) (r : Fin 1024) (k : Fin 896) :
    B0 m c t (ix2 r k) = A0 m c (ix2 (row8 (t.val / 4) r) (col t.val k)) := by
  have ht : t.val < 32 := lt_of_lt_of_eq t.isLt (show cfg0.N = 32 from N_0)
  unfold B0 iblk
  rw [View.read_apply]
  show V m c main_arg0 _ = _
  rw [V_main_arg0]
  congr 1
  funext a
  apply Fin.ext
  match a with
  | ⟨0, _⟩ => show win0_0.index t 0 * 1024 + 1 * r.val = 1024 * (t.val / 4 % 8) + r.val; rw [(wins t).1.1]; omega
  | ⟨1, _⟩ => show win0_0.index t 1 * 896 + 1 * k.val = 896 * (t.val % 4) + k.val; rw [(wins t).1.2]; omega
theorem b1 (c : Dev nD) (t : Fin cfg0.N) (j : Fin 1024) (k : Fin 896) : B1 m c t (ix2 j k) = A1 m c (ix2 j (col t.val k)) := by
  unfold B1 iblk
  rw [View.read_apply]
  show V m c main_arg1 _ = _
  rw [V_main_arg1]
  congr 1
  funext a
  apply Fin.ext
  match a with
  | ⟨0, _⟩ => show win0_1.index t 0 * 1024 + 1 * j.val = j.val; rw [(wins t).2.1.1]; omega
  | ⟨1, _⟩ => show win0_1.index t 1 * 896 + 1 * k.val = 896 * (t.val % 4) + k.val; rw [(wins t).2.1.2]; omega
theorem b2 (c : Dev nD) (t : Fin cfg0.N) (r k : Fin 1024) : B2 m c t (ix2 r k) = A2 m c (ix2 (row8 (t.val / 4) r) k) := by
  have ht : t.val < 32 := lt_of_lt_of_eq t.isLt (show cfg0.N = 32 from N_0)
  unfold B2 iblk
  rw [View.read_apply]
  show V m c main_arg2 _ = _
  rw [V_main_arg2]
  congr 1
  funext a
  apply Fin.ext
  match a with
  | ⟨0, _⟩ => show win0_2.index t 0 * 1024 + 1 * r.val = 1024 * (t.val / 4 % 8) + r.val; rw [(wins t).2.2.1.1]; omega
  | ⟨1, _⟩ => show win0_2.index t 1 * 1024 + 1 * k.val = k.val; rw [(wins t).2.2.1.2]; omega
theorem b3 (c : Dev nD) (t : Fin cfg0.N) (k : Fin 1024) : B3 m c t (ix2 0 k) = mw m c k := by
  unfold B3 iblk
  rw [View.read_apply]
  have e : ((cfg0.win 3).blk t).view.emb (ix2 0 k) = (ix2 0 k : S1x1024.Idx) := by
    funext a
    apply Fin.ext
    match a with
    | ⟨0, _⟩ => show win0_3.index t 0 * 1 + 1 * 0 = 0; rw [(wins t).2.2.2.1.1]
    | ⟨1, _⟩ => show win0_3.index t 1 * 1024 + 1 * k.val = k.val; rw [(wins t).2.2.2.1.2]; omega
  show V m c main_v0 _ = _
  rw [V_v0]
  refine (congrArg _ e).trans ?_
  pointwise []
theorem b4 (c : Dev nD) (t : Fin cfg0.N) (r k : Fin 1024) : B4 m c t (ix2 r k) = A4 m c (ix2 (row8 (t.val / 4) r) k) := by
  have ht : t.val < 32 := lt_of_lt_of_eq t.isLt (show cfg0.N = 32 from N_0)
  unfold B4 iblk
  rw [View.read_apply]
  show V m c main_arg4 _ = _
  rw [V_main_arg4]
  congr 1
  funext a
  apply Fin.ext
  match a with
  | ⟨0, _⟩ => show win0_4.index t 0 * 1024 + 1 * r.val = 1024 * (t.val / 4 % 8) + r.val; rw [(wins t).2.2.2.2.1]; omega
  | ⟨1, _⟩ => show win0_4.index t 1 * 1024 + 1 * k.val = k.val; rw [(wins t).2.2.2.2.2]; omega

/-! ### A run of points -/

/-- Point `n`'s part of the product. -/
def part (c : Dev nD) (r j : Fin 1024) (n : ℕ) (h : n < cfg0.N) : EReal :=
  ∑ k : Fin 896, A0 m c (ix2 (row8 (n / 4) r) (col n k)) * A1 m c (ix2 j (col n k))

theorem part_eq (c : Dev nD) (r j : Fin 1024) (t : Fin cfg0.N) :
    (∑ k : Fin 896, B0 m c t (ix2 r k) * B1 m c t (ix2 j k)) = part m c r j t.val t.isLt :=
  Finset.sum_congr rfl fun k _ => by rw [b0, b1]

/-- What the scratch holds after point `n`. -/
def scr (c : Dev nD) (n : ℕ) (h : n < cfg0.N) : Vec Ideal S1024x1024 .f32 := (outsAt0 m c n h).2.2

theorem scr_first (c : Dev nD) (r j : Fin 1024) (n : ℕ) (h : n < cfg0.N) (h0 : n % 4 = 0) :
    scr m c n h (ix2 r j) = part m c r j n h := by
  unfold scr
  by_cases h2 : n % 32 = 0
  · rw [outsAt0_A m c ⟨n, h⟩ h0 (by show ¬ 1 ≤ n % 4; omega) h2 (by show ¬ n % 4 = 3; omega)]
    dsimp only
    rw [sout_A, pay2_at]
    exact part_eq m c r j ⟨n, h⟩
  · rw [outsAt0_D m c ⟨n, h⟩ h0 (by show ¬ 1 ≤ n % 4; omega) h2 (by show ¬ n % 4 = 3; omega)]
    dsimp only
    rw [sout_D, pay2_at]
    exact part_eq m c r j ⟨n, h⟩
theorem scr_next (c : Dev nD) (r j : Fin 1024) (n : ℕ) (h : n + 1 < cfg0.N) (h0 : ¬ (n + 1) % 4 = 0) :
    scr m c (n + 1) h (ix2 r j) = scr m c n (Nat.lt_of_succ_lt h) (ix2 r j) + part m c r j (n + 1) h := by
  unfold scr
  by_cases h3 : (n + 1) % 4 = 3
  · rw [outsAt0_C m c ⟨n + 1, h⟩ h0 (by show 1 ≤ (n + 1) % 4; omega) (by show ¬ (n + 1) % 32 = 0; omega) h3]
    dsimp only
    rw [sout_C, pay3_at]
    exact congrArg (_ + ·) (part_eq m c r j ⟨n + 1, h⟩)
  · rw [outsAt0_B m c ⟨n + 1, h⟩ h0 (by show 1 ≤ (n + 1) % 4; omega) (by show ¬ (n + 1) % 32 = 0; omega) h3]
    dsimp only
    rw [sout_B, pay3_at]
    exact congrArg (_ + ·) (part_eq m c r j ⟨n + 1, h⟩)

/-- The scratch at a run's end holds the product. -/
theorem scr_last (c : Dev nD) (r j : Fin 1024) (q : ℕ) (hn : 4 * q + 3 < cfg0.N) :
    scr m c (4 * q + 3) hn (ix2 r j) = mct m c (row8 q r) j := by
  refine (sum_run 4 (fun n h => scr m c n h (ix2 r j)) (part m c r j) (scr_first m c r j) (scr_next m c r j) q 3 (by omega) hn).trans ?_
  unfold mct ct
  rw [sum_blocks (n := 3584) (a := 4) (b := 896) (by norm_num)]
  refine Finset.sum_congr rfl fun p _ => Finset.sum_congr rfl fun k _ => ?_
  have e1 : (4 * q + p.val) / 4 = q := by omega
  have e2 : col (4 * q + p.val) k = ⟨896 * p.val + k.val, by omega⟩ :=
    Fin.ext (by show 896 * ((4 * q + p.val) % 4) + k.val = 896 * p.val + k.val; omega)
  rw [e1, e2]

/-- The product a run's last point goes on with. -/
theorem acc_last (c : Dev nD) (t : Fin cfg0.N) (h3 : t.val % 4 = 3) (r j : Fin 1024) :
    k0_pay3 (F := Ideal) (iblk m c 0 t) (iblk m c 1 t) (outsAt0 m c (t.val - 1) (Nat.lt_of_le_of_lt (Nat.sub_le _ _) t.isLt)).2.2 (ix2 r j)
      = mct m c (row8 (t.val / 4) r) j := by
  have e := congrFun (congrArg (fun z => z.2.2) (outsAt0_C m c t (by omega) (by omega) (by omega) h3)) (ix2 r j)
  dsimp only at e
  rw [sout_C] at e
  refine e.symm.trans ?_
  have ht : t.val = 4 * (t.val / 4) + 3 := by omega
  have hs := scr_last m c r j (t.val / 4) (by rw [← ht]; exact t.isLt)
  unfold scr at hs
  simp only [← ht] at hs
  exact hs

/-! ### The rows' gradient -/

/-- What a run's last point writes. -/
theorem last5 (c : Dev nD) (t : Fin cfg0.N) (h3 : t.val % 4 = 3) (r j : Fin 1024) :
    (outsAt0 m c t.val t.isLt).1 (ix2 r j)
      = dxK (rowOf (A2 m c) (row8 (t.val / 4) r)) (mw m c) (mct m c (row8 (t.val / 4) r)) (A4 m c (ix2 (row8 (t.val / 4) r) j)) j := by
  rw [outsAt0_C m c t (by omega) (by omega) (by omega) h3]
  dsimp only
  rw [out_C5, pay8_at]
  rw [show (fun k => (iblk m c 2 t : Mat 1024 1024) (ix2 r k)) = rowOf (A2 m c) (row8 (t.val / 4) r) from funext fun k => b2 m c t r k,
    show (fun k => (iblk m c 3 t : Mat 1 1024) (ix2 0 k)) = mw m c from funext fun k => b3 m c t k,
    show (iblk m c 4 t : Mat 1024 1024) (ix2 r j) = _ from b4 m c t r j]
  exact congrArg (fun g => dxK _ _ g _ j) (funext fun k => acc_last m c t h3 r k)

/-- The array after the launch. -/
theorem result5 (c : Dev nD) (r : Fin 8192) (j : Fin 1024) :
    (dats m 0 c).arrAt 5 cfg0.N (ix2 r j : S8192x1024.Idx) = dxK (rowOf (A2 m c) r) (mw m c) (mct m c r) (A4 m c (ix2 r j)) j := by
  have hN : cfg0.N = 32 := N_0
  have hp : Value.pt5Of (ix2 r j) = 4 * (r.val / 1024) + 3 := by
    show 4 * (1 * (r.val / 1024 - 0) + 1 * (j.val / 1024 - 0)) + 3 = _
    omega
  have hl : Value.loc5Of (ix2 r j) = ix2 ⟨r.val % 1024, by omega⟩ j := by
    funext a
    apply Fin.ext
    match a with
    | ⟨0, _⟩ => rfl
    | ⟨1, _⟩ => show j.val % 1024 = j.val; omega
  rw [Value.final5]
  unfold Value.G5
  rw [dif_pos (by rw [hp]; omega), hl, Value.fold0_congr m c _ _ _ (by omega) hp, ← Value.outsAt0_sweep m c _ (by omega)]
  refine (last5 m c ⟨4 * (r.val / 1024) + 3, by omega⟩ (by show (4 * (r.val / 1024) + 3) % 4 = 3; omega) _ j).trans ?_
  have e : row8 ((4 * (r.val / 1024) + 3) / 4) ⟨r.val % 1024, by omega⟩ = r :=
    Fin.ext (by show 1024 * ((4 * (r.val / 1024) + 3) / 4 % 8) + r.val % 1024 = r.val; omega)
  dsimp only
  rw [e]

/-! ### The norm weights' gradient -/

/-- What the norm weights' gradient holds after point `n`. -/
def wsum (c : Dev nD) (n : ℕ) (h : n < cfg0.N) : Vec Ideal S1x1024 .f32 := (outsAt0 m c n h).2.1

theorem wsum_first (c : Dev nD) (j : Fin 1024) (h : 0 < cfg0.N) : wsum m c 0 h (ix2 0 j) = 0 := by
  unfold wsum
  rw [outsAt0_A m c ⟨0, h⟩ (Nat.zero_mod 4) (show ¬ 1 ≤ 0 % 4 by decide) (Nat.zero_mod 32) (show ¬ 0 % 4 = 3 by decide)]
  dsimp only
  rw [out_A, pay4_at]
theorem wsum_keep (c : Dev nD) (j : Fin 1024) (n : ℕ) (h : n + 1 < cfg0.N) (h3 : ¬ (n + 1) % 4 = 3) :
    wsum m c (n + 1) h (ix2 0 j) = wsum m c n (Nat.lt_of_succ_lt h) (ix2 0 j) := by
  have hN : cfg0.N = 32 := N_0
  unfold wsum
  by_cases h0 : (n + 1) % 4 = 0
  · rw [outsAt0_D m c ⟨n + 1, h⟩ h0 (by show ¬ 1 ≤ (n + 1) % 4; omega) (by show ¬ (n + 1) % 32 = 0; omega) h3]
    rfl
  · rw [outsAt0_B m c ⟨n + 1, h⟩ h0 (by show 1 ≤ (n + 1) % 4; omega) (by show ¬ (n + 1) % 32 = 0; omega) h3]
    rfl
theorem wsum_next (c : Dev nD) (j : Fin 1024) (n : ℕ) (h : n + 1 < cfg0.N) (h3 : (n + 1) % 4 = 3) :
    wsum m c (n + 1) h (ix2 0 j) = wsum m c n (Nat.lt_of_succ_lt h) (ix2 0 j)
      + ∑ r : Fin 1024, mct m c (row8 ((n + 1) / 4) r) j * xh (rowOf (A2 m c) (row8 ((n + 1) / 4) r)) j := by
  unfold wsum
  rw [outsAt0_C m c ⟨n + 1, h⟩ (by show ¬ (n + 1) % 4 = 0; omega) (by show 1 ≤ (n + 1) % 4; omega) (by show ¬ (n + 1) % 32 = 0; omega) h3]
  dsimp only
  rw [out_C6, pay7_at]
  refine congrArg (_ + ·) (Finset.sum_congr rfl fun r _ => congrArg₂ (· * ·) (acc_last m c ⟨n + 1, h⟩ h3 r j) ?_)
  exact congrArg (fun x => xh x j) (funext fun k => b2 m c ⟨n + 1, h⟩ r k)

/-- The array after the launch. -/
theorem result6 (c : Dev nD) (j : Fin 1024) :
    (dats m 0 c).arrAt 6 cfg0.N (ix2 0 j : S1x1024.Idx) = dw (rowOf (A2 m c)) (mct m c) j := by
  have hN : 31 < cfg0.N := lt_of_lt_of_eq (by decide) N_0.symm
  rw [Value.final6, Value.G6_last, ← Value.outsAt0_sweep m c 31 hN]
  refine (sum_kept (fun n h => wsum m c n h (ix2 0 j))
    (fun q => ∑ r : Fin 1024, mct m c (row8 q r) j * xh (rowOf (A2 m c) (row8 q r)) j)
    (wsum_first m c j) (wsum_keep m c j) (wsum_next m c j) 31 hN).trans ?_
  exact dw_blocks (rowOf (A2 m c)) (mct m c) j

end

/-! ### The reference -/

namespace Ref
open Cert.ProjInDxRefIdeal Cert.ProjInDxRefIdeal.Read

variable (x0 : Mat 8192 3584) (x1 : Mat 1024 3584) (x2 : Mat 8192 1024) (x3 : (⟨1, ![1024]⟩ : Shape).Idx → EReal) (x4 : Mat 8192 1024)

theorem v19 (r : Fin 8192) (j : Fin 1024) : val_main_v19 (F := Ideal) x0 x1 (ix2 r j) = ct x0 x1 r j := by
  rw [val_main_v19_apply]
  exact Finset.sum_congr rfl fun k _ => congrArg₂ (· * ·) (congrArg x0 (eq_ix2 _)) (congrArg x1 (eq_ix2 _))
theorem v7 (r : Fin 8192) : val_main_v7 (F := Ideal) x2 (ix2 r 0) = rs (rowOf x2 r) := Cert.UpDx.Ref.v7 x2 r
theorem v10 (r : Fin 8192) : val_main_v10 (F := Ideal) x2 (ix2 r 0) = cN * Ideal.div (rs (rowOf x2 r)) (ms (rowOf x2 r)) :=
  Cert.UpDx.Ref.v10 x2 r
theorem v12 (r : Fin 8192) (j : Fin 1024) : val_main_v12 (F := Ideal) x2 (ix2 r j) = xh (rowOf x2 r) j := Cert.UpDx.Ref.v12 x2 r j
theorem v24 (r : Fin 8192) (j : Fin 1024) : val_main_v24 (F := Ideal) x0 x1 x3 (ix2 r j) = ct x0 x1 r j * x3 (ix1 j) := by
  pointwise [val_main_v24, val_main_v23, val_main_v13, v19]
theorem v34 (r : Fin 8192) : val_main_v34 (F := Ideal) x0 x1 x2 x3 (ix2 r 0) = dT (rowOf x2 r) (fun k => x3 (ix1 k)) (ct x0 x1 r) := by
  pointwise [val_main_v34, val_main_v33, val_main_cst_6, val_main_v32, val_main_v28, val_main_v27, val_main_cst_5, val_main_v26, v24, v10]
  rfl
theorem v35 (r : Fin 8192) : val_main_v35 (F := Ideal) x0 x1 x2 x3 (ix1 r) = val_main_v34 (F := Ideal) x0 x1 x2 x3 (ix2 r 0) := by
  pointwise [val_main_v35, val_main_cst_7]
  exact Fin.sum_univ_one _
theorem v36 (r : Fin 8192) (j : Fin 1024) : val_main_v36 (F := Ideal) x0 x1 x2 x3 (ix2 r j)
    = dT (rowOf x2 r) (fun k => x3 (ix1 k)) (ct x0 x1 r) := by
  pointwise [val_main_v36, v35, v34]
theorem v21 (j : Fin 1024) : val_main_v21 (F := Ideal) x0 x1 x2 (ix1 j) = dw (rowOf x2) (ct x0 x1) j := by
  unfold dw
  simp only [mul_comm (ct x0 x1 _ j)]
  pointwise [val_main_v21, val_main_cst_3, val_main_v20, v19, v12]
theorem v25 (j : Fin 1024) : val_main_v25 (F := Ideal) x0 x1 x2 (ix1 j) = val_main_v22 (F := Ideal) x0 x1 x2 (ix2 0 j) := by
  pointwise [val_main_v25, val_main_cst_4]
  exact Fin.sum_univ_one _
/-- The reference's two gradients. -/
theorem result5 (r : Fin 8192) (j : Fin 1024) : val_main_v40 (F := Ideal) x0 x1 x2 x3 x4 (ix2 r j)
    = dxR (rowOf x2 r) (fun k => x3 (ix1 k)) (ct x0 x1 r) (x4 (ix2 r j)) j := by
  pointwise [val_main_v40, val_main_v39, val_main_v38, val_main_v37, val_main_v31, val_main_v30, val_main_v29, v36, v24, v7]
  rfl
theorem result6 (j : Fin 1024) : val_main_v41 (F := Ideal) x0 x1 x2 (ix2 0 j) = dw (rowOf x2) (ct x0 x1) j := by
  pointwise [val_main_v41, v25, val_main_v22, v21]

end Ref

/-! ### The claim -/

section
open Cert.Pre_proj_in_dx_finite
/-- The rows, the norm weights and the product's cotangent are finite where the precondition holds. -/
theorem pre_fin (x0 : Mat 8192 3584) (x1 : Mat 1024 3584) (x2 : Mat 8192 1024) (x3 : (⟨1, ![1024]⟩ : Shape).Idx → EReal)
    (x4 : Mat 8192 1024) (h : Cert.Pre_proj_in_dx_finite.fn (F := Ideal) x0 x1 x2 x3 x4 = fun _ => 1#1) :
    (∀ r j, Fin' (ct x0 x1 r j)) ∧ (∀ r k, Fin' (x2 (ix2 r k))) ∧ ∀ k, Fin' (x3 (ix1 k)) := by
  have h0 := congrFun h ValueIdx.ix0
  dsimp only [Cert.Pre_proj_in_dx_finite.fn, Cert.Pre_proj_in_dx_finite.fn_part1] at h0
  obtain ⟨habc, hd⟩ := IntOp.andi_eq_one.1 h0
  obtain ⟨hab, hc⟩ := IntOp.andi_eq_one.1 habc
  obtain ⟨ha, hb⟩ := IntOp.andi_eq_one.1 hab
  haveI : Subsingleton S_.Idx := ⟨fun a b => funext fun i => i.elim0⟩
  have h1 : ∀ r k, Fin' (x0 (ix2 r k)) := fun r k => fin_of_lt (Host.reduce_andi_all _ _ _ _ _ ha (ix2 r k))
  have h2 : ∀ j k, Fin' (x1 (ix2 j k)) := fun j k => fin_of_lt (Host.reduce_andi_all _ _ _ _ _ hb (ix2 j k))
  exact ⟨fun r j => fin_sum _ fun k => fin_mul (h1 r k) (h2 j k),
    fun r k => fin_of_lt (Host.reduce_andi_all _ _ _ _ _ hc (ix2 r k)),
    fun k => fin_of_lt (Host.reduce_andi_all _ _ _ _ _ hd (ix1 k))⟩
end

/-- The kernel and the reference end with the same two gradients where the precondition holds. -/
theorem algebraic : Cert.algebraic_ProjInDxIdeal_ProjInDxRefIdeal_pre_proj_in_dx_finite := by
  intro m g m' g' hpre hag
  refine ⟨fun c => (Cert.ProjInDxIdeal.Gen.dats m 0 c).arrAt 5 Cert.ProjInDxIdeal.cfg0.N,
    fun c => (Cert.ProjInDxIdeal.Gen.dats m 0 c).arrAt 6 Cert.ProjInDxIdeal.cfg0.N,
    Cert.ProjInDxIdeal.Value.run_blocks m g, ?_⟩
  refine (θ_run Cert.ProjInDxRefIdeal.defs _ _).mono (fun r h c => ?_) (Cert.ProjInDxRefIdeal.Value.run m' g')
  obtain ⟨e0, e1, e2, e3, e4⟩ := hag c
  obtain ⟨h0, h1, ha⟩ := h c
  obtain ⟨hg, hx, hw⟩ := pre_fin _ _ _ _ _ (hpre c)
  refine ⟨(h0.trans (Cert.ProjInDxRefIdeal.Read.val_main_v40_eq _ _)).trans ?_,
    (h1.trans (Cert.ProjInDxRefIdeal.Read.val_main_v41_eq _ _ _)).trans ?_, ha⟩
  · rw [e0, e1, e2, e3, e4]
    exact ext2 fun r j => ((Ref.result5 _ _ _ _ _ r j).trans
      (dx_eq _ _ _ (hx r) hw (hg r) _ j).symm).trans (result5 m c r j).symm
  · rw [e0, e1, e2]
    refine ext2 fun z j => ?_
    obtain rfl : z = 0 := Subsingleton.elim _ _
    exact (Ref.result6 _ _ _ j).trans (result6 m c j).symm

/-- The reference ends, changes no argument and leaves every counter at zero. -/
theorem frame_ref : Cert.quiescent_ProjInDxRefIdeal := fun m' g' _ =>
  (θ_run Cert.ProjInDxRefIdeal.defs _ _).mono
    (fun r h => ⟨fun c => (h c).2.2, Idealize.ShloMosaic.sem_eq_zero_of_no_sems (by decide) r.2⟩)
    (Cert.ProjInDxRefIdeal.Value.run m' g')

end Cert.InDx

end
-- ==== Proof.InFwd.lean ====
/- The input projection: each block the kernel writes, and the same rows of the reference. -/
module

public import proofs.«01_k».proof.Defs
public import proofs.«01_k».proof.Proof.Prod
public import proofs.«01_k».proof.Proof.Gen.ProjInIdeal.Value
public import proofs.«01_k».proof.Proof.Gen.ProjInRefIdeal.Read
public import proofs.«01_k».proof.Proof.Gen.ProjInRefIdeal.Run

@[expose] public section

noncomputable section

namespace Cert.InFwd

open Idealize.ShloMosaic Idealize.ShloMosaic.TcCoe Idealize.SL.Sem
open Cert.Sgu (ext2)
open Cert.Prod
open scoped BigOperators

/-- The product. -/
def prod (x0 : Mat 8192 1024) (x1 : Mat 1024 3584) (r : Fin 8192) (j : Fin 3584) : EReal := ∑ k : Fin 1024, x0 (ix2 r k) * x1 (ix2 k j)

section
open Cert.ProjInIdeal Cert.ProjInIdeal.Gen

/-! ### A block -/

theorem pay1_at (v0 : Vec Ideal S1024x1024 .bf16) (v1 : Vec Ideal S1024x896 .bf16) (r : Fin 1024) (j : Fin 896) :
    k0_pay1 (F := Ideal) v0 v1 (ix2 r j) = ∑ k : Fin 1024, v0 (ix2 r k) * v1 (ix2 k j) := by
  pointwise [k0_pay1]

/-! ### A point's blocks -/

variable (m : (ℓ : Loc nD τ sig) → Buf (Elt Ideal) ℓ)

/-- Where each window of a point lies. -/
theorem wins : ∀ t : Fin cfg0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) :=
  (by decide +kernel : ∀ t : Fin grid0.N, _)

/-- The row of the array a row of a point's block is. -/
def row (t : Fin cfg0.N) (r : Fin 1024) : Fin 8192 :=
  ⟨1024 * (t.val / 4) + r.val, by have := t.isLt; have : cfg0.N = 32 := N_0; omega⟩
/-- The column of the array a column of a point's block is. -/
def col (t : Fin cfg0.N) (j : Fin 896) : Fin 3584 := ⟨896 * (t.val % 4) + j.val, by omega⟩

theorem b0 (c : Dev nD) (t : Fin cfg0.N) (r k : Fin 1024) :
    (iblk m c 0 t : Vec Ideal S1024x1024 .bf16) (ix2 r k) = m ((c : Thread nD τ).loc main_arg0) (ix2 (row t r) k) := by
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 4) + r.val; rw [(wins t).1.1]; omega
  | ⟨1, _⟩ => show win0_0.index t 1 * 1024 + 1 * k.val = k.val; rw [(wins t).1.2]; omega
theorem b1 (c : Dev nD) (t : Fin cfg0.N) (k : Fin 1024) (j : Fin 896) :
    (iblk m c 1 t : Vec Ideal S1024x896 .bf16) (ix2 k j) = m ((c : Thread nD τ).loc main_arg1) (ix2 k (col t j)) := by
  unfold iblk
  rw [View.read_apply]
  show V m c main_arg1 _ = _
  rw [V_main_arg1]
  congr 1
  funext a
  apply Fin.ext
  match a with
  | ⟨0, _⟩ => show win0_1.index t 0 * 1024 + 1 * k.val = k.val; rw [(wins t).2.1.1]; omega
  | ⟨1, _⟩ => show win0_1.index t 1 * 896 + 1 * j.val = 896 * (t.val % 4) + j.val; rw [(wins t).2.1.2]; omega

/-- The launch's rows and weights. -/
abbrev A0 (c : Dev nD) : Mat 8192 1024 := m ((c : Thread nD τ).loc main_arg0)
abbrev A1 (c : Dev nD) : Mat 1024 3584 := m ((c : Thread nD τ).loc main_arg1)

/-- The block a point writes holds its rows and columns of the product. -/
theorem block (c : Dev nD) (t : Fin cfg0.N) (r : Fin 1024) (j : Fin 896) :
    out0_2 (F := Ideal) (iblk m c 0 t) (iblk m c 1 t) (ix2 r j) = prod (A0 m c) (A1 m c) (row t r) (col t j) := by
  unfold out0_2
  rw [View.canon_unit_zero hz, View.ld_unit_zero (S := S1024x1024) hz, View.ld_unit_zero (S := S1024x896) hz, pay1_at]
  simp only [b0, b1]
  rfl

/-- The point that writes a place, and the place's row and column in the point's block. -/
theorem place (r : Fin 8192) (j : Fin 3584) : ∃ (t : Fin cfg0.N) (p : Fin 1024) (q : Fin 896), row t p = r ∧ col t q = j := by
  have hN : cfg0.N = 32 := N_0
  refine ⟨⟨4 * (r.val / 1024) + j.val / 896, by omega⟩, ⟨r.val % 1024, by omega⟩, ⟨j.val % 896, by omega⟩, Fin.ext ?_, Fin.ext ?_⟩
  · show 1024 * ((4 * (r.val / 1024) + j.val / 896) / 4) + r.val % 1024 = r.val; omega
  · show 896 * ((4 * (r.val / 1024) + j.val / 896) % 4) + j.val % 896 = j.val; omega

/-- The array after the launch. -/
theorem result (c : Dev nD) (r : Fin 8192) (j : Fin 3584) :
    (dats m 0 c).arrAt 2 cfg0.N (ix2 r j : S8192x3584.Idx) = prod (A0 m c) (A1 m c) r j := by
  obtain ⟨t, p, q, rfl, rfl⟩ := place r j
  have e := congrFun (Value.blocks2 m c t (flush0_2 t)) (ix2 p q)
  rw [View.read_apply, Value.flushed2] at e
  refine Eq.trans (congrArg _ ?_) (e.trans (block m c t p q))
  funext a
  apply Fin.ext
  match a with
  | ⟨0, _⟩ => show 1024 * (t.val / 4) + p.val = win0_2.index t 0 * 1024 + 1 * p.val; rw [(wins t).2.2.1]; omega
  | ⟨1, _⟩ => show 896 * (t.val % 4) + q.val = win0_2.index t 1 * 896 + 1 * q.val; rw [(wins t).2.2.2]; omega

end

/-! ### The reference -/

namespace Ref
open Cert.ProjInRefIdeal Cert.ProjInRefIdeal.Read

variable (x0 : Mat 8192 1024) (x1 : Mat 1024 3584)

theorem result (r : Fin 8192) (j : Fin 3584) : val_main_v2 (F := Ideal) x0 x1 (ix2 r j) = prod x0 x1 r j := by
  rw [val_main_v2_apply]
  refine Finset.sum_congr rfl fun k _ => ?_
  exact congrArg₂ (· * ·) (congrArg x0 (eq_ix2 _)) (congrArg x1 (eq_ix2 _))

end Ref

/-! ### The claim -/

/-- The kernel and the reference end with the same product. -/
theorem algebraic : Cert.algebraic_ProjInIdeal_ProjInRefIdeal := by
  intro m g m' g' _ hag
  refine ⟨fun c => (Cert.ProjInIdeal.Gen.dats m 0 c).arrAt 2 Cert.ProjInIdeal.cfg0.N, Cert.ProjInIdeal.Value.run_blocks m g, ?_⟩
  refine (θ_run Cert.ProjInRefIdeal.defs _ _).mono (fun r h c => ?_) (Cert.ProjInRefIdeal.Value.run m' g')
  obtain ⟨e0, e1⟩ := hag c
  obtain ⟨h0, ha⟩ := h c
  refine ⟨(h0.trans (Cert.ProjInRefIdeal.Read.val_main_v2_eq _ _)).trans ?_, ha⟩
  rw [e0, e1]
  exact ext2 fun r j => (Ref.result _ _ r j).trans (result m c r j).symm

/-- The reference ends, changes no argument and leaves every counter at zero. -/
theorem frame_ref : Cert.quiescent_ProjInRefIdeal := fun m' g' _ =>
  (θ_run Cert.ProjInRefIdeal.defs _ _).mono
    (fun r h => ⟨fun c => (h c).2, Idealize.ShloMosaic.sem_eq_zero_of_no_sems (by decide) r.2⟩)
    (Cert.ProjInRefIdeal.Value.run m' g')

end Cert.InFwd

end
-- ==== Proof.OutFwd.lean ====
/- The spatial gating unit's way out: its four groups' product added to the rows, and the rows normalized for the feed-forward
   block; each block the kernel writes, and the same rows of the reference. -/
module

public import proofs.«01_k».proof.Defs
public import proofs.«01_k».proof.Proof.Cat
public import proofs.«01_k».proof.Proof.NormBwd
public import proofs.«01_k».proof.Proof.Gen.ProjOutIdeal.Value
public import proofs.«01_k».proof.Proof.Gen.ProjOutRefIdeal.Read
public import proofs.«01_k».proof.Proof.Gen.ProjOutRefIdeal.Run
public import Idealize.ShloMosaic.Lib.StableHlo.RunRead

@[expose] public section

noncomputable section

namespace Cert.OutFwd

open Idealize.ShloMosaic Idealize.ShloMosaic.TcCoe Idealize.SL.Sem
open Cert.Sgu (ext2)
open Cert.Prod Cert.Norm
open scoped BigOperators

/-- The rows with the product added. -/
def res (x0 x1 x2 x3 : Mat 8192 256) (x4 : Mat 1024 1024) (x5 : Mat 8192 1024) (r : Fin 8192) (j : Fin 1024) : EReal :=
  (∑ k : Fin 1024, cat x0 x1 x2 x3 r k * x4 (ix2 k j)) + x5 (ix2 r j)
/-- Those rows normalized and scaled by `w`. -/
def normed (x0 x1 x2 x3 : Mat 8192 256) (x4 : Mat 1024 1024) (x5 : Mat 8192 1024) (w : Lane) (r : Fin 8192) (j : Fin 1024) : EReal :=
  xh (res x0 x1 x2 x3 x4 x5 r) j * w j

section
open Cert.ProjOutIdeal Cert.ProjOutIdeal.Gen

/-! ### A block -/

theorem dot_at (U : FVec Ideal S1024x1024 .bf16) (W : FVec Ideal S1024x1024 .bf16) (r j : Fin 1024) :
    matmul dot_S1024x1024_S1024x1024_S1024x1024_1_0_0_1_n_n none U W (constant (F := Ideal) S1024x1024 .f32 0x00000000#32) (ix2 r j)
      = ∑ k : Fin 1024, U (ix2 r k) * W (ix2 k j) := by
  pointwise []
/-- A block's rows with the product added. -/
def bres (v0 v1 v2 v3 : Mat 1024 256) (v5 v7 : Mat 1024 1024) (r : Fin 1024) (j : Fin 1024) : EReal :=
  (∑ k : Fin 1024, cat v0 v1 v2 v3 r k * v5 (ix2 k j)) + v7 (ix2 r j)
theorem pay1_at (v0 v1 v2 v3 : Vec Ideal S1024x256 .bf16) (v5 : Vec Ideal S1024x1024 .bf16) (v7 : Vec Ideal S1024x1024 .f32) (r j : Fin 1024) :
    k0_pay1 (F := Ideal) v0 v1 v2 v3 v5 v7 (ix2 r j) = bres v0 v1 v2 v3 v5 v7 r j :=
  congrArg (· + _) ((dot_at _ _ r j).trans (Finset.sum_congr rfl fun k _ => congrArg (· * _) (cat_at v0 v1 v2 v3 _ r k)))
theorem pay2_at (v0 v1 v2 v3 : Vec Ideal S1024x256 .bf16) (v5 : Vec Ideal S1024x1024 .bf16) (v7 : Vec Ideal S1024x1024 .f32)
    (w : Vec Ideal S1x1024 .f32) (r j : Fin 1024) :
    k0_pay2 (F := Ideal) v0 v1 v2 v3 v5 v7 w (ix2 r j) = xh (bres v0 v1 v2 v3 v5 v7 r) j * w (ix2 0 j) := by
  pointwise [k0_pay2, pay1_at]
  rfl

/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = t.val ∧ win0_5.index t 1 = 0)
    ∧ (win0_6.index t 0 = 0 ∧ win0_6.index t 1 = 0) ∧ (win0_7.index t 0 = t.val ∧ win0_7.index t 1 = 0)
    ∧ (win0_8.index t 0 = t.val ∧ win0_8.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg6)) := by
  unfold V
  after_results

/-- The row of the array a row of a point's block is. -/
def row (t : Fin cfg0.N) (r : Fin 1024) : Fin 8192 :=
  ⟨1024 * t.val + r.val, by have := t.isLt; have : cfg0.N = 8 := N_0; omega⟩

/-- The launch's arguments. -/
abbrev A0 (c : Dev nD) : Mat 8192 256 := m ((c : Thread nD τ).loc main_arg0)
abbrev A1 (c : Dev nD) : Mat 8192 256 := m ((c : Thread nD τ).loc main_arg1)
abbrev A2 (c : Dev nD) : Mat 8192 256 := m ((c : Thread nD τ).loc main_arg2)
abbrev A3 (c : Dev nD) : Mat 8192 256 := m ((c : Thread nD τ).loc main_arg3)
abbrev A4 (c : Dev nD) : Mat 1024 1024 := m ((c : Thread nD τ).loc main_arg4)
abbrev A5 (c : Dev nD) : Mat 8192 1024 := m ((c : Thread nD τ).loc main_arg5)
abbrev A6 (c : Dev nD) : (⟨1, ![1024]⟩ : Shape).Idx → EReal := m ((c : Thread nD τ).loc main_arg6)

/-- The blocks a point reads. -/
abbrev B0 (c : Dev nD) (t : Fin cfg0.N) : Mat 1024 256 := iblk m c 0 t
abbrev B1 (c : Dev nD) (t : Fin cfg0.N) : Mat 1024 256 := iblk m c 1 t
abbrev B2 (c : Dev nD) (t : Fin cfg0.N) : Mat 1024 256 := iblk m c 2 t
abbrev B3 (c : Dev nD) (t : Fin cfg0.N) : Mat 1024 256 := iblk m c 3 t
abbrev B4 (c : Dev nD) (t : Fin cfg0.N) : Mat 1024 1024 := iblk m c 4 t
abbrev B5 (c : Dev nD) (t : Fin cfg0.N) : Mat 1024 1024 := iblk m c 5 t
abbrev B6 (c : Dev nD) (t : Fin cfg0.N) : Mat 1 1024 := iblk m c 6 t

theorem b0 (c : Dev nD) (t : Fin cfg0.N) (r : Fin 1024) (k : Fin 256) : B0 m c t (ix2 r k) = A0 m c (ix2 (row t r) k) := by
  unfold B0 iblk
  rw [View.read_apply]
  show V m c main_arg0 _ = _
  rw [V_main_arg0]
  exact at2 _ _ _ _ (by show win0_0.index t 0 * 1024 + 1 * r.val = 1024 * t.val + r.val; rw [(wins t).1.1]; omega)
    (by show win0_0.index t 1 * 256 + 1 * k.val = k.val; rw [(wins t).1.2]; omega)
theorem b1 (c : Dev nD) (t : Fin cfg0.N) (r : Fin 1024) (k : Fin 256) : B1 m c t (ix2 r k) = A1 m c (ix2 (row t r) k) := by
  unfold B1 iblk
  rw [View.read_apply]
  show V m c main_arg1 _ = _
  rw [V_main_arg1]
  exact at2 _ _ _ _ (by show win0_1.index t 0 * 1024 + 1 * r.val = 1024 * t.val + r.val; rw [(wins t).2.1.1]; omega)
    (by show win0_1.index t 1 * 256 + 1 * k.val = k.val; rw [(wins t).2.1.2]; omega)
theorem b2 (c : Dev nD) (t : Fin cfg0.N) (r : Fin 1024) (k : Fin 256) : B2 m c t (ix2 r k) = A2 m c (ix2 (row t r) k) := by
  unfold B2 iblk
  rw [View.read_apply]
  show V m c main_arg2 _ = _
  rw [V_main_arg2]
  exact at2 _ _ _ _ (by show win0_2.index t 0 * 1024 + 1 * r.val = 1024 * t.val + r.val; rw [(wins t).2.2.1.1]; omega)
    (by show win0_2.index t 1 * 256 + 1 * k.val = k.val; rw [(wins t).2.2.1.2]; omega)
theorem b3 (c : Dev nD) (t : Fin cfg0.N) (r : Fin 1024) (k : Fin 256) : B3 m c t (ix2 r k) = A3 m c (ix2 (row t r) k) := by
  unfold B3 iblk
  rw [View.read_apply]
  show V m c main_arg3 _ = _
  rw [V_main_arg3]
  exact at2 _ _ _ _ (by show win0_3.index t 0 * 1024 + 1 * r.val = 1024 * t.val + r.val; rw [(wins t).2.2.2.1.1]; omega)
    (by show win0_3.index t 1 * 256 + 1 * k.val = k.val; rw [(wins t).2.2.2.1.2]; omega)
theorem b4 (c : Dev nD) (t : Fin cfg0.N) (k j : Fin 1024) : B4 m c t (ix2 k j) = A4 m c (ix2 k j) := by
  unfold B4 iblk
  rw [View.read_apply]
  show V m c main_arg4 _ = _
  rw [V_main_arg4]
  exact at2 _ _ _ _ (by show win0_4.index t 0 * 1024 + 1 * k.val = k.val; rw [(wins t).2.2.2.2.1.1]; omega)
    (by show win0_4.index t 1 * 1024 + 1 * j.val = j.val; rw [(wins t).2.2.2.2.1.2]; omega)
theorem b5 (c : Dev nD) (t : Fin cfg0.N) (r j : Fin 1024) : B5 m c t (ix2 r j) = A5 m c (ix2 (row t r) j) := by
  unfold B5 iblk
  rw [View.read_apply]
  show V m c main_arg5 _ = _
  rw [V_main_arg5]
  exact at2 _ _ _ _ (by show win0_5.index t 0 * 1024 + 1 * r.val = 1024 * t.val + r.val; rw [(wins t).2.2.2.2.2.1.1]; omega)
    (by show win0_5.index t 1 * 1024 + 1 * j.val = j.val; rw [(wins t).2.2.2.2.2.1.2]; omega)
theorem b6 (c : Dev nD) (t : Fin cfg0.N) (j : Fin 1024) : B6 m c t (ix2 0 j) = A6 m c (ix1 j) := by
  unfold B6 iblk
  rw [View.read_apply]
  show V m c main_v0 _ = _
  rw [V_v0]
  refine (at2 _ _ 0 j (by show win0_6.index t 0 * 1 + 1 * 0 = 0; rw [(wins t).2.2.2.2.2.2.1.1])
    (by show win0_6.index t 1 * 1024 + 1 * j.val = j.val; rw [(wins t).2.2.2.2.2.2.1.2]; omega)).trans ?_
  pointwise []

/-- The launch's rows with the product added, and the normalized ones. -/
abbrev mres (c : Dev nD) : Fin 8192 → Lane := res (A0 m c) (A1 m c) (A2 m c) (A3 m c) (A4 m c) (A5 m c)
abbrev mnormed (c : Dev nD) : Fin 8192 → Lane :=
  normed (A0 m c) (A1 m c) (A2 m c) (A3 m c) (A4 m c) (A5 m c) fun j => A6 m c (ix1 j)

/-- The four groups of a block side by side are the block's rows of the four groups side by side. -/
theorem cat_block (c : Dev nD) (t : Fin cfg0.N) (r k : Fin 1024) :
    cat (B0 m c t) (B1 m c t) (B2 m c t) (B3 m c t) r k = cat (A0 m c) (A1 m c) (A2 m c) (A3 m c) (row t r) k := by
  unfold cat
  simp only [b0, b1, b2, b3]
theorem bres_eq (c : Dev nD) (t : Fin cfg0.N) (r : Fin 1024) :
    bres (B0 m c t) (B1 m c t) (B2 m c t) (B3 m c t) (B4 m c t) (B5 m c t) r = mres m c (row t r) := by
  funext j
  unfold bres mres res
  simp only [cat_block, b4, b5]

/-- The two blocks a point writes. -/
theorem block7 (c : Dev nD) (t : Fin cfg0.N) (r j : Fin 1024) :
    out0_7 (F := Ideal) (iblk m c 0 t) (iblk m c 1 t) (iblk m c 2 t) (iblk m c 3 t) (iblk m c 4 t) (iblk m c 5 t) (iblk m c 6 t) (ix2 r j)
      = mres m c (row t r) j := by
  unfold out0_7
  rw [View.canon_unit_zero hz]
  simp only [View.ld_unit_zero (S := S1024x256) hz, View.ld_unit_zero (S := S1024x1024) hz]
  rw [pay1_at]
  exact congrFun (bres_eq m c t r) j
theorem block8 (c : Dev nD) (t : Fin cfg0.N) (r j : Fin 1024) :
    out0_8 (F := Ideal) (iblk m c 0 t) (iblk m c 1 t) (iblk m c 2 t) (iblk m c 3 t) (iblk m c 4 t) (iblk m c 5 t) (iblk m c 6 t) (ix2 r j)
      = mnormed m c (row t r) j := by
  unfold out0_8
  rw [View.canon_unit_zero hz]
  simp only [View.ld_unit_zero (S := S1024x256) hz, View.ld_unit_zero (S := S1024x1024) hz, View.ld_unit_zero (S := S1x1024) hz]
  rw [pay2_at]
  exact congrArg₂ (· * ·) (congrArg (fun x => xh x j) (bres_eq m c t r)) (b6 m c t j)

/-- The point that writes a row, and the row's place in the point's block. -/
theorem place (r : Fin 8192) : ∃ (t : Fin cfg0.N) (p : Fin 1024), row t p = r := by
  have hN : cfg0.N = 8 := N_0
  refine ⟨⟨r.val / 1024, by omega⟩, ⟨r.val % 1024, by omega⟩, Fin.ext ?_⟩
  show 1024 * (r.val / 1024) + r.val % 1024 = r.val
  omega

/-- The two arrays after the launch. -/
theorem result7 (c : Dev nD) (r : Fin 8192) (j : Fin 1024) :
    (dats m 0 c).arrAt 7 cfg0.N (ix2 r j : S8192x1024.Idx) = mres m c r j := by
  obtain ⟨t, p, rfl⟩ := place r
  have e := congrFun (Value.blocks7 m c t (flush0_7 t)) (ix2 p j)
  rw [View.read_apply, Value.flushed7] at e
  refine Eq.trans (congrArg _ ?_) (e.trans (block7 m c t p j))
  funext a
  apply Fin.ext
  match a with
  | ⟨0, _⟩ => show 1024 * t.val + p.val = win0_7.index t 0 * 1024 + 1 * p.val; rw [(wins t).2.2.2.2.2.2.2.1.1]; omega
  | ⟨1, _⟩ => show j.val = win0_7.index t 1 * 1024 + 1 * j.val; rw [(wins t).2.2.2.2.2.2.2.1.2]; omega
theorem result8 (c : Dev nD) (r : Fin 8192) (j : Fin 1024) :
    (dats m 0 c).arrAt 8 cfg0.N (ix2 r j : S8192x1024.Idx) = mnormed m c r j := by
  obtain ⟨t, p, rfl⟩ := place r
  have e := congrFun (Value.blocks8 m c t (flush0_8 t)) (ix2 p j)
  rw [View.read_apply, Value.flushed8] at e
  refine Eq.trans (congrArg _ ?_) (e.trans (block8 m c t p j))
  funext a
  apply Fin.ext
  match a with
  | ⟨0, _⟩ => show 1024 * t.val + p.val = win0_8.index t 0 * 1024 + 1 * p.val; rw [(wins t).2.2.2.2.2.2.2.2.1]; omega
  | ⟨1, _⟩ => show j.val = win0_8.index t 1 * 1024 + 1 * j.val; rw [(wins t).2.2.2.2.2.2.2.2.2]; omega

end

/-! ### The reference -/

namespace Ref
open Cert.ProjOutRefIdeal Cert.ProjOutRefIdeal.Read

variable (x0 x1 x2 x3 : Mat 8192 256) (x4 : Mat 1024 1024) (x5 : Mat 8192 1024) (x6 : (⟨1, ![1024]⟩ : Shape).Idx → EReal)

theorem v3 (r : Fin 8192) (j : Fin 1024) : val_main_v3 (F := Ideal) x0 x1 x2 x3 x4 (ix2 r j)
    = ∑ k : Fin 1024, cat x0 x1 x2 x3 r k * x4 (ix2 k j) := by
  rw [val_main_v3_apply]
  refine Finset.sum_congr rfl fun k _ => congrArg₂ (· * ·) ?_ (congrArg x4 (eq_ix2 _))
  exact (congrArg (val_main_v0 (F := Ideal) x0 x1 x2 x3) (eq_ix2 _)).trans (cat_at x0 x1 x2 x3 _ r k)
theorem v4 (r : Fin 8192) (j : Fin 1024) : val_main_v4 (F := Ideal) x0 x1 x2 x3 x4 x5 (ix2 r j) = res x0 x1 x2 x3 x4 x5 r j := by
  unfold res
  rw [add_comm]
  pointwise [val_main_v4, v3]
theorem v12 (r : Fin 8192) : val_main_v12 (F := Ideal) x0 x1 x2 x3 x4 x5 (ix2 r 0) = rs (res x0 x1 x2 x3 x4 x5 r) := by
  pointwise [val_main_v12, val_main_v11, val_main_v10, val_main_cst_1, val_main_v9, val_main_v8, val_main_cst_0, val_main_v7, val_main_v6,
    val_main_cst, val_main_v5, v4]
  rfl
theorem v18 (r : Fin 8192) (j : Fin 1024) : val_main_v18 (F := Ideal) x0 x1 x2 x3 x4 x5 x6 (ix2 r j)
    = normed x0 x1 x2 x3 x4 x5 (fun k => x6 (ix1 k)) r j := by
  pointwise [val_main_v18, val_main_v17, val_main_v16, val_main_v15, val_main_v14, val_main_v13, v12, v4]
  rfl

end Ref

/-! ### The claim -/

/-- The kernel and the reference end with the same rows and the same normalized rows. -/
theorem algebraic : Cert.algebraic_ProjOutIdeal_ProjOutRefIdeal := by
  intro m g m' g' _ hag
  refine ⟨fun c => (Cert.ProjOutIdeal.Gen.dats m 0 c).arrAt 7 Cert.ProjOutIdeal.cfg0.N,
    fun c => (Cert.ProjOutIdeal.Gen.dats m 0 c).arrAt 8 Cert.ProjOutIdeal.cfg0.N, Cert.ProjOutIdeal.Value.run_blocks m g, ?_⟩
  refine (θ_run Cert.ProjOutRefIdeal.defs _ _).mono (fun r h c => ?_) (Cert.ProjOutRefIdeal.Value.run m' g')
  obtain ⟨e0, e1, e2, e3, e4, e5, e6⟩ := hag c
  obtain ⟨h0, h1, ha⟩ := h c
  refine ⟨(h0.trans (Cert.ProjOutRefIdeal.Read.val_main_v4_eq _ _ _ _ _ _)).trans ?_,
    (h1.trans (Cert.ProjOutRefIdeal.Read.val_main_v18_eq _ _ _ _ _ _ _)).trans ?_, ha⟩
  · rw [e0, e1, e2, e3, e4, e5]
    exact ext2 fun r j => (Ref.v4 _ _ _ _ _ _ r j).trans (result7 m c r j).symm
  · rw [e0, e1, e2, e3, e4, e5, e6]
    exact ext2 fun r j => (Ref.v18 _ _ _ _ _ _ _ r j).trans (result8 m c r j).symm

/-- The reference ends, changes no argument and leaves every counter at zero. -/
theorem frame_ref : Cert.quiescent_ProjOutRefIdeal := fun m' g' _ =>
  (θ_run Cert.ProjOutRefIdeal.defs _ _).mono
    (fun r h => ⟨fun c => (h c).2.2, Idealize.ShloMosaic.sem_eq_zero_of_no_sems (by decide) r.2⟩)
    (Cert.ProjOutRefIdeal.Value.run m' g')

end Cert.OutFwd

end
-- ==== Proof.DownFwd.lean ====
/- The feed-forward block's second product added to the rows, and the rows normalized for the next layer: the kernel's runs of
   two points, and the same rows of the reference. -/
module

public import proofs.«01_k».proof.Defs
public import proofs.«01_k».proof.Proof.Cat
public import proofs.«01_k».proof.Proof.NormBwd
public import proofs.«01_k».proof.Proof.Gen.FfnDownIdeal.Value
public import proofs.«01_k».proof.Proof.Gen.FfnDownRefIdeal.Read
public import proofs.«01_k».proof.Proof.Gen.FfnDownRefIdeal.Run
public import Idealize.ShloMosaic.Lib.StableHlo.RunRead

@[expose] public section

noncomputable section

namespace Cert.DownFwd

open Idealize.ShloMosaic Idealize.ShloMosaic.TcCoe Idealize.SL.Sem
open Cert.Sgu (ext2)
open Cert.Prod Cert.Norm
open scoped BigOperators

/-- The rows with the product added. -/
def res (x0 : Mat 8192 2816) (x1 : Mat 2816 1024) (x2 : Mat 8192 1024) (r : Fin 8192) (j : Fin 1024) : EReal :=
  (∑ k : Fin 2816, x0 (ix2 r k) * x1 (ix2 k j)) + x2 (ix2 r j)
/-- Those rows normalized and scaled by `w`. -/
def normed (x0 : Mat 8192 2816) (x1 : Mat 2816 1024) (x2 : Mat 8192 1024) (w : Lane) (r : Fin 8192) (j : Fin 1024) : EReal :=
  xh (res x0 x1 x2 r) j * w j

section
open Cert.FfnDownIdeal Cert.FfnDownIdeal.Gen

/-! ### A point's terms -/

theorem pay1_at (v0 : Vec Ideal S1024x1408 .bf16) (v1 : Vec Ideal S1408x1024 .bf16) (r j : Fin 1024) :
    k0_pay1 (F := Ideal) v0 v1 (ix2 r j) = ∑ k : Fin 1408, v0 (ix2 r k) * v1 (ix2 k j) := by
  pointwise [k0_pay1]
theorem pay2_at (v0 : Vec Ideal S1024x1408 .bf16) (v1 : Vec Ideal S1408x1024 .bf16) (r j : Fin 1024) :
    k0_pay2 (F := Ideal) v0 v1 (ix2 r j) = ∑ k : Fin 1408, v0 (ix2 r k) * v1 (ix2 k j) := by
  pointwise [k0_pay2, pay1_at]
theorem pay3_at (v0 : Vec Ideal S1024x1408 .bf16) (v1 : Vec Ideal S1408x1024 .bf16) (a : Vec Ideal S1024x1024 .f32) (r j : Fin 1024) :
    k0_pay3 (F := Ideal) v0 v1 a (ix2 r j) = a (ix2 r j) + ∑ k : Fin 1408, v0 (ix2 r k) * v1 (ix2 k j) := by
  pointwise [k0_pay3, pay1_at]
theorem pay4_at (a b : Vec Ideal S1024x1024 .f32) (r j : Fin 1024) :
    k0_pay4 (F := Ideal) a b (ix2 r j) = a (ix2 r j) + b (ix2 r j) := by
  pointwise [k0_pay4]
theorem pay5_at (a b : Vec Ideal S1024x1024 .f32) (w : Vec Ideal S1x1024 .f32) (r j : Fin 1024) :
    k0_pay5 (F := Ideal) a b w (ix2 r j) = xh (fun k => a (ix2 r k) + b (ix2 r k)) j * w (ix2 0 j) := by
  pointwise [k0_pay5, pay4_at]
  rfl

section
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .bf16) (h8 : a8.IsWhole) (a9 : Memref sig .tc .vmem S1024x1024 .f32) (h9 : a9.IsWhole)
  (x0 : Vec Ideal S1024x1408 .bf16) (x1 : Vec Ideal S1408x1024 .bf16) (x2 : Vec Ideal S1024x1024 .f32) (x3 : Vec Ideal S1x1024 .f32)
  (s : Vec Ideal S1024x1024 .f32)

/-- A run's first point leaves its part in the scratch. -/
theorem sout_A (hc0 : cond0_0 i) (hc1 : ¬cond0_1 i) (hc2 : ¬cond0_2 i) :
    sout0_A_0 c i a3 h3 a4 h4 a5 h5 a6 h6 a7 h7 a8 h8 a9 h9 hc0 hc1 hc2 x0 x1 x2 x3 = k0_pay2 x0 x1 := by
  unfold sout0_A_0
  rw [View.read_writes_eq_canon _ _ _ (scover0_A_0 c i a3 h3 a4 h4 a5 h5 a6 h6 a7 h7 a8 h8 a9 h9 hc0 hc1 hc2 x0 x1 x2 x3)]
  unfold kernelRun0_A
  dsimp only
  sl_unfold_words
  rw [View.canon_unit_zero hz]
  simp only [View.readAt_eq_ld, h3.read_unread, h4.read_unread, h5.read_unread, h6.read_unread, h9.read_unread,
    View.ld_unit_zero (S := S1024x1408) hz, View.ld_unit_zero (S := S1408x1024) hz, View.ld_unit_zero (S := S1024x1024) hz]

/-- Its second adds its part, -/
theorem sout_B (hc0 : ¬cond0_0 i) (hc1 : cond0_1 i) (hc2 : cond0_2 i) :
    sout0_B_0 c i a3 h3 a4 h4 a5 h5 a6 h6 a7 h7 a8 h8 a9 h9 hc0 hc1 hc2 x0 x1 x2 x3 s = k0_pay3 x0 x1 s := by
  unfold sout0_B_0
  rw [View.read_writes_eq_canon _ _ _ (scover0_B_0 c i a3 h3 a4 h4 a5 h5 a6 h6 a7 h7 a8 h8 a9 h9 hc0 hc1 hc2 x0 x1 x2 x3 s)]
  unfold kernelRun0_B
  dsimp only
  sl_unfold_words
  rw [View.canon_unit_zero hz]
  simp only [View.readAt_eq_ld, h3.read_unread, h4.read_unread, h5.read_unread, h6.read_unread, h9.read_unread,
    View.ld_unit_zero (S := S1024x1408) hz, View.ld_unit_zero (S := S1408x1024) hz, View.ld_unit_zero (S := S1024x1024) hz]

/-- writes the rows -/
theorem out_B4 (hc0 : ¬cond0_0 i) (hc1 : cond0_1 i) (hc2 : cond0_2 i) :
    out0_B_4 c i a3 h3 a4 h4 a5 h5 a6 h6 a7 h7 a8 h8 a9 h9 hc0 hc1 hc2 x0 x1 x2 x3 s = k0_pay4 (k0_pay3 x0 x1 s) x2 := by
  unfold out0_B_4
  rw [View.read_writes_eq_canon _ _ _ (cover0_B_4 c i a3 h3 a4 h4 a5 h5 a6 h6 a7 h7 a8 h8 a9 h9 hc0 hc1 hc2 x0 x1 x2 x3 s)]
  unfold kernelRun0_B
  dsimp only
  sl_unfold_words
  rw [View.canon_unit_zero hz]
  simp only [View.readAt_eq_ld, h3.read_unread, h4.read_unread, h5.read_unread, h6.read_unread, h9.read_unread,
    View.ld_unit_zero (S := S1024x1408) hz, View.ld_unit_zero (S := S1408x1024) hz, View.ld_unit_zero (S := S1024x1024) hz, View.readCov_cons_toLoadRect]

/-- and the normalized ones. -/
theorem out_B5 (hc0 : ¬cond0_0 i) (hc1 : cond0_1 i) (hc2 : cond0_2 i) :
    out0_B_5 c i a3 h3 a4 h4 a5 h5 a6 h6 a7 h7 a8 h8 a9 h9 hc0 hc1 hc2 x0 x1 x2 x3 s = k0_pay5 (k0_pay3 x0 x1 s) x2 x3 := by
  unfold out0_B_5
  rw [View.read_writes_eq_canon _ _ _ (cover0_B_5 c i a3 h3 a4 h4 a5 h5 a6 h6 a7 h7 a8 h8 a9 h9 hc0 hc1 hc2 x0 x1 x2 x3 s)]
  unfold kernelRun0_B
  dsimp only
  sl_unfold_words
  rw [View.canon_unit_zero hz]
  simp only [View.readAt_eq_ld, h3.read_unread, h4.read_unread, h5.read_unread, h6.read_unread, h9.read_unread,
    View.ld_unit_zero (S := S1024x1408) hz, View.ld_unit_zero (S := S1408x1024) hz, View.ld_unit_zero (S := S1024x1024) hz,
    View.ld_unit_zero (S := S1x1024) hz, View.readCov_cons_toLoadRect]
end

/-! ### A run of points -/

variable (m : (ℓ : Loc nD τ sig) → Buf (Elt Ideal) ℓ)

/-- Where each window of a point lies. -/
theorem wins : ∀ t : Fin cfg0.N,
    (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) ∧ (win0_3.index t 0 = 0 ∧ win0_3.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg3)) := by
  unfold V
  after_results

/-- The column of the array a column of a point's block is. -/
def col (n : ℕ) (k : Fin 1408) : Fin 2816 := ⟨1408 * (n % 2) + k.val, by omega⟩

/-- The launch's arguments. -/
abbrev A0 (c : Dev nD) : Mat 8192 2816 := m ((c : Thread nD τ).loc main_arg0)
abbrev A1 (c : Dev nD) : Mat 2816 1024 := m ((c : Thread nD τ).loc main_arg1)
abbrev A2 (c : Dev nD) : Mat 8192 1024 := m ((c : Thread nD τ).loc main_arg2)
abbrev A3 (c : Dev nD) : (⟨1, ![1024]⟩ : Shape).Idx → EReal := m ((c : Thread nD τ).loc main_arg3)

/-- The blocks a point reads. -/
abbrev B0 (c : Dev nD) (t : Fin cfg0.N) : Mat 1024 1408 := iblk m c 0 t
abbrev B1 (c : Dev nD) (t : Fin cfg0.N) : Mat 1408 1024 := iblk m c 1 t
abbrev B2 (c : Dev nD) (t : Fin cfg0.N) : Mat 1024 1024 := iblk m c 2 t
abbrev B3 (c : Dev nD) (t : Fin cfg0.N) : Mat 1 1024 := iblk m c 3 t

theorem row8_val (t : Fin cfg0.N) (r : Fin 1024) : (row8 (t.val / 2) r).val = 1024 * (t.val / 2) + r.val := by
  have := t.isLt
  have : cfg0.N = 16 := N_0
  show 1024 * (t.val / 2 % 8) + r.val = _
  omega
theorem b0 (c : Dev nD) (t : Fin cfg0.N) (r : Fin 1024) (k : Fin 1408) : B0 m c t (ix2 r k) = A0 m c (ix2 (row8 (t.val / 2) r) (col t.val k)) := by
  unfold B0 iblk
  rw [View.read_apply]
  show V m c main_arg0 _ = _
  rw [V_main_arg0]
  exact at2 _ _ _ _ (by show win0_0.index t 0 * 1024 + 1 * r.val = _; rw [(wins t).1.1, row8_val]; omega)
    (by show win0_0.index t 1 * 1408 + 1 * k.val = 1408 * (t.val % 2) + k.val; rw [(wins t).1.2]; omega)
theorem b1 (c : Dev nD) (t : Fin cfg0.N) (k : Fin 1408) (j : Fin 1024) : B1 m c t (ix2 k j) = A1 m c (ix2 (col t.val k) j) := by
  unfold B1 iblk
  rw [View.read_apply]
  show V m c main_arg1 _ = _
  rw [V_main_arg1]
  exact at2 _ _ _ _ (by show win0_1.index t 0 * 1408 + 1 * k.val = 1408 * (t.val % 2) + k.val; rw [(wins t).2.1.1]; omega)
    (by show win0_1.index t 1 * 1024 + 1 * j.val = j.val; rw [(wins t).2.1.2]; omega)
theorem b2 (c : Dev nD) (t : Fin cfg0.N) (r j : Fin 1024) : B2 m c t (ix2 r j) = A2 m c (ix2 (row8 (t.val / 2) r) j) := by
  unfold B2 iblk
  rw [View.read_apply]
  show V m c main_arg2 _ = _
  rw [V_main_arg2]
  exact at2 _ _ _ _ (by show win0_2.index t 0 * 1024 + 1 * r.val = _; rw [(wins t).2.2.1.1, row8_val]; omega)
    (by show win0_2.index t 1 * 1024 + 1 * j.val = j.val; rw [(wins t).2.2.1.2]; omega)
theorem b3 (c : Dev nD) (t : Fin cfg0.N) (j : Fin 1024) : B3 m c t (ix2 0 j) = A3 m c (ix1 j) := by
  unfold B3 iblk
  rw [View.read_apply]
  show V m c main_v0 _ = _
  rw [V_v0]
  refine (at2 _ _ 0 j (by show win0_3.index t 0 * 1 + 1 * 0 = 0; rw [(wins t).2.2.2.1])
    (by show win0_3.index t 1 * 1024 + 1 * j.val = j.val; rw [(wins t).2.2.2.2]; omega)).trans ?_
  pointwise []

/-- The launch's rows with the product added, and the norm weights. -/
abbrev mres (c : Dev nD) : Fin 8192 → Lane := res (A0 m c) (A1 m c) (A2 m c)
abbrev mw (c : Dev nD) : Lane := fun j => A3 m c (ix1 j)

/-- Point `n`'s part of the product. -/
def part (c : Dev nD) (r j : Fin 1024) (n : ℕ) (h : n < cfg0.N) : EReal :=
  ∑ k : Fin 1408, A0 m c (ix2 (row8 (n / 2) r) (col n k)) * A1 m c (ix2 (col n k) j)
theorem part_eq (c : Dev nD) (r j : Fin 1024) (t : Fin cfg0.N) :
    (∑ k : Fin 1408, B0 m c t (ix2 r k) * B1 m c t (ix2 k j)) = part m c r j t.val t.isLt :=
  Finset.sum_congr rfl fun k _ => by rw [b0, b1]

/-- What the scratch holds after point `n`. -/
def scr (c : Dev nD) (n : ℕ) (h : n < cfg0.N) : Vec Ideal S1024x1024 .f32 := (outsAt0 m c n h).2.2

theorem scr_first (c : Dev nD) (r j : Fin 1024) (n : ℕ) (h : n < cfg0.N) (h0 : n % 2 = 0) :
    scr m c n h (ix2 r j) = part m c r j n h := by
  unfold scr
  rw [outsAt0_A m c ⟨n, h⟩ h0 (by show ¬ n % 2 = 1; omega) (by show ¬ n % 2 = 1; omega)]
  dsimp only
  rw [sout_A, pay2_at]
  exact part_eq m c r j ⟨n, h⟩
theorem scr_next (c : Dev nD) (r j : Fin 1024) (n : ℕ) (h : n + 1 < cfg0.N) (h0 : ¬ (n + 1) % 2 = 0) :
    scr m c (n + 1) h (ix2 r j) = scr m c n (Nat.lt_of_succ_lt h) (ix2 r j) + part m c r j (n + 1) h := by
  unfold scr
  rw [outsAt0_B m c ⟨n + 1, h⟩ h0 (by show (n + 1) % 2 = 1; omega) (by show (n + 1) % 2 = 1; omega)]
  dsimp only
  rw [sout_B, pay3_at]
  exact congrArg (_ + ·) (part_eq m c r j ⟨n + 1, h⟩)

/-- The scratch at a run's end holds the product. -/
theorem scr_last (c : Dev nD) (r j : Fin 1024) (q : ℕ) (hn : 2 * q + 1 < cfg0.N) :
    scr m c (2 * q + 1) hn (ix2 r j) = ∑ k : Fin 2816, A0 m c (ix2 (row8 q r) k) * A1 m c (ix2 k j) := by
  refine (sum_run 2 (fun n h => scr m c n h (ix2 r j)) (part m c r j) (scr_first m c r j) (scr_next m c r j) q 1 (by omega) hn).trans ?_
  rw [sum_blocks (n := 2816) (a := 2) (b := 1408) (by norm_num)]
  refine Finset.sum_congr rfl fun p _ => Finset.sum_congr rfl fun k _ => ?_
  have e1 : (2 * q + p.val) / 2 = q := by omega
  have e2 : col (2 * q + p.val) k = ⟨1408 * p.val + k.val, by omega⟩ :=
    Fin.ext (by show 1408 * ((2 * q + p.val) % 2) + k.val = 1408 * p.val + k.val; omega)
  rw [e1, e2]

/-- The rows a run's second point goes on with. -/
theorem acc_last (c : Dev nD) (t : Fin cfg0.N) (h1 : t.val % 2 = 1) (r j : Fin 1024) :
    k0_pay3 (F := Ideal) (iblk m c 0 t) (iblk m c 1 t) (outsAt0 m c (t.val - 1) (Nat.lt_of_le_of_lt (Nat.sub_le _ _) t.isLt)).2.2 (ix2 r j)
      + B2 m c t (ix2 r j) = mres m c (row8 (t.val / 2) r) j := by
  have e := congrFun (congrArg (fun z => z.2.2) (outsAt0_B m c t (by omega) h1 h1)) (ix2 r j)
  dsimp only at e
  rw [sout_B] at e
  refine congrArg₂ (· + ·) (e.symm.trans ?_) (b2 m c t r j)
  have ht : t.val = 2 * (t.val / 2) + 1 := by omega
  have hs := scr_last m c r j (t.val / 2) (by rw [← ht]; exact t.isLt)
  unfold scr at hs
  simp only [← ht] at hs
  exact hs

/-- The two blocks a run's second point writes. -/
theorem last4 (c : Dev nD) (t : Fin cfg0.N) (h1 : t.val % 2 = 1) (r j : Fin 1024) :
    (outsAt0 m c t.val t.isLt).1 (ix2 r j) = mres m c (row8 (t.val / 2) r) j := by
  rw [outsAt0_B m c t (by omega) h1 h1]
  dsimp only
  rw [out_B4, pay4_at]
  exact acc_last m c t h1 r j
theorem last5 (c : Dev nD) (t : Fin cfg0.N) (h1 : t.val % 2 = 1) (r j : Fin 1024) :
    (outsAt0 m c t.val t.isLt).2.1 (ix2 r j) = xh (mres m c (row8 (t.val / 2) r)) j * mw m c j := by
  rw [outsAt0_B m c t (by omega) h1 h1]
  dsimp only
  rw [out_B5, pay5_at]
  exact congrArg₂ (· * ·) (congrArg (fun x => xh x j) (funext fun k => acc_last m c t h1 r k)) (b3 m c t j)

/-- The row a run's second point writes. -/
theorem row_at (r : Fin 8192) : row8 ((2 * (r.val / 1024) + 1) / 2) ⟨r.val % 1024, by omega⟩ = r :=
  Fin.ext (by show 1024 * ((2 * (r.val / 1024) + 1) / 2 % 8) + r.val % 1024 = r.val; omega)

/-- The two arrays after the launch. -/
theorem result4 (c : Dev nD) (r : Fin 8192) (j : Fin 1024) :
    (dats m 0 c).arrAt 4 cfg0.N (ix2 r j : S8192x1024.Idx) = mres m c r j := by
  have hN : cfg0.N = 16 := N_0
  have hp : Value.pt4Of (ix2 r j) = 2 * (r.val / 1024) + 1 := by
    show 2 * (1 * (r.val / 1024 - 0) + 1 * (j.val / 1024 - 0)) + 1 = _
    omega
  have hl : Value.loc4Of (ix2 r j) = ix2 ⟨r.val % 1024, by omega⟩ j := by
    funext a
    apply Fin.ext
    match a with
    | ⟨0, _⟩ => rfl
    | ⟨1, _⟩ => show j.val % 1024 = j.val; omega
  rw [Value.final4]
  unfold Value.G4
  rw [dif_pos (by rw [hp]; omega), hl, Value.fold0_congr m c _ _ _ (by omega) hp, ← Value.outsAt0_sweep m c _ (by omega)]
  refine (last4 m c ⟨2 * (r.val / 1024) + 1, by omega⟩ (by show (2 * (r.val / 1024) + 1) % 2 = 1; omega) _ j).trans ?_
  dsimp only
  rw [row_at]
theorem result5 (c : Dev nD) (r : Fin 8192) (j : Fin 1024) :
    (dats m 0 c).arrAt 5 cfg0.N (ix2 r j : S8192x1024.Idx) = normed (A0 m c) (A1 m c) (A2 m c) (mw m c) r j := by
  have hN : cfg0.N = 16 := N_0
  have hp : Value.pt5Of (ix2 r j) = 2 * (r.val / 1024) + 1 := by
    show 2 * (1 * (r.val / 1024 - 0) + 1 * (j.val / 1024 - 0)) + 1 = _
    omega
  have hl : Value.loc5Of (ix2 r j) = ix2 ⟨r.val % 1024, by omega⟩ j := by
    funext a
    apply Fin.ext
    match a with
    | ⟨0, _⟩ => rfl
    | ⟨1, _⟩ => show j.val % 1024 = j.val; omega
  rw [Value.final5]
  unfold Value.G5
  rw [dif_pos (by rw [hp]; omega), hl, Value.fold0_congr m c _ _ _ (by omega) hp, ← Value.outsAt0_sweep m c _ (by omega)]
  refine (last5 m c ⟨2 * (r.val / 1024) + 1, by omega⟩ (by show (2 * (r.val / 1024) + 1) % 2 = 1; omega) _ j).trans ?_
  dsimp only
  rw [row_at]
  rfl

end

/-! ### The reference -/

namespace Ref
open Cert.FfnDownRefIdeal Cert.FfnDownRefIdeal.Read

variable (x0 : Mat 8192 2816) (x1 : Mat 2816 1024) (x2 : Mat 8192 1024) (x3 : (⟨1, ![1024]⟩ : Shape).Idx → EReal)

theorem v2 (r : Fin 8192) (j : Fin 1024) : val_main_v2 (F := Ideal) x0 x1 (ix2 r j) = ∑ k : Fin 2816, x0 (ix2 r k) * x1 (ix2 k j) := by
  rw [val_main_v2_apply]
  exact Finset.sum_congr rfl fun k _ => congrArg₂ (· * ·) (congrArg x0 (eq_ix2 _)) (congrArg x1 (eq_ix2 _))
theorem v3 (r : Fin 8192) (j : Fin 1024) : val_main_v3 (F := Ideal) x0 x1 x2 (ix2 r j) = res x0 x1 x2 r j := by
  unfold res
  rw [add_comm]
  pointwise [val_main_v3, v2]
theorem v11 (r : Fin 8192) : val_main_v11 (F := Ideal) x0 x1 x2 (ix2 r 0) = rs (res x0 x1 x2 r) := by
  pointwise [val_main_v11, val_main_v10, val_main_v9, val_main_cst_1, val_main_v8, val_main_v7, val_main_cst_0, val_main_v6, val_main_v5,
    val_main_cst, val_main_v4, v3]
  rfl
theorem v17 (r : Fin 8192) (j : Fin 1024) : val_main_v17 (F := Ideal) x0 x1 x2 x3 (ix2 r j)
    = normed x0 x1 x2 (fun k => x3 (ix1 k)) r j := by
  pointwise [val_main_v17, val_main_v16, val_main_v15, val_main_v14, val_main_v13, val_main_v12, v11, v3]
  rfl

end Ref

/-! ### The claim -/

/-- The kernel and the reference end with the same rows and the same normalized rows. -/
theorem algebraic : Cert.algebraic_FfnDownIdeal_FfnDownRefIdeal := by
  intro m g m' g' _ hag
  refine ⟨fun c => (Cert.FfnDownIdeal.Gen.dats m 0 c).arrAt 4 Cert.FfnDownIdeal.cfg0.N,
    fun c => (Cert.FfnDownIdeal.Gen.dats m 0 c).arrAt 5 Cert.FfnDownIdeal.cfg0.N, Cert.FfnDownIdeal.Value.run_blocks m g, ?_⟩
  refine (θ_run Cert.FfnDownRefIdeal.defs _ _).mono (fun r h c => ?_) (Cert.FfnDownRefIdeal.Value.run m' g')
  obtain ⟨e0, e1, e2, e3⟩ := hag c
  obtain ⟨h0, h1, ha⟩ := h c
  refine ⟨(h0.trans (Cert.FfnDownRefIdeal.Read.val_main_v3_eq _ _ _)).trans ?_,
    (h1.trans (Cert.FfnDownRefIdeal.Read.val_main_v17_eq _ _ _ _)).trans ?_, ha⟩
  · rw [e0, e1, e2]
    exact ext2 fun r j => (Ref.v3 _ _ _ r j).trans (result4 m c r j).symm
  · rw [e0, e1, e2, e3]
    exact ext2 fun r j => (Ref.v17 _ _ _ _ r j).trans (result5 m c r j).symm

/-- The reference ends, changes no argument and leaves every counter at zero. -/
theorem frame_ref : Cert.quiescent_FfnDownRefIdeal := fun m' g' _ =>
  (θ_run Cert.FfnDownRefIdeal.defs _ _).mono
    (fun r h => ⟨fun c => (h c).2.2, Idealize.ShloMosaic.sem_eq_zero_of_no_sems (by decide) r.2⟩)
    (Cert.FfnDownRefIdeal.Value.run m' g')

end Cert.DownFwd

end
-- ==== Proof.DownLast.lean ====
/- The last layer's second feed-forward product added to the rows: the kernel's runs of two points, and the same rows of the
   reference. The terms of a point and the row a point writes are those of the other layer's call. -/
module

public import proofs.«01_k».proof.Defs
public import proofs.«01_k».proof.Proof.DownFwd
public import proofs.«01_k».proof.Proof.Gen.FfnDownLastIdeal.Value
public import proofs.«01_k».proof.Proof.Gen.FfnDownLastRefIdeal.Read
public import proofs.«01_k».proof.Proof.Gen.FfnDownLastRefIdeal.Run
public import Idealize.ShloMosaic.Lib.StableHlo.RunRead

@[expose] public section

noncomputable section

namespace Cert.DownLast

open Idealize.ShloMosaic Idealize.ShloMosaic.TcCoe Idealize.SL.Sem
open Cert.Sgu (ext2)
open Cert.Prod
open Cert.DownFwd (res col row8_val row_at)
open scoped BigOperators

section
open Cert.FfnDownLastIdeal Cert.FfnDownLastIdeal.Gen

/-! ### A point -/

section
variable (c : Dev nD) (i : grid0.Coords) (a3 : Memref sig .tc .vmem S1024x1408 .bf16) (h3 : a3.IsWhole)
  (a4 : Memref sig .tc .vmem S1408x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec Ideal S1024x1408 .bf16) (x1 : Vec Ideal S1408x1024 .bf16) (x2 : Vec Ideal S1024x1024 .f32)
  (s : Vec Ideal S1024x1024 .f32)

/-- A run's first point leaves its part in the scratch. -/
theorem sout_A (hc0 : cond0_0 i) (hc1 : ¬cond0_1 i) (hc2 : ¬cond0_2 i) :
    sout0_A_0 c i a3 h3 a4 h4 a5 h5 a6 h6 a7 h7 hc0 hc1 hc2 x0 x1 x2 = k0_pay2 x0 x1 := by
  unfold sout0_A_0
  rw [View.read_writes_eq_canon _ _ _ (scover0_A_0 c i a3 h3 a4 h4 a5 h5 a6 h6 a7 h7 hc0 hc1 hc2 x0 x1 x2)]
  unfold kernelRun0_A
  dsimp only
  sl_unfold_words
  rw [View.canon_unit_zero hz]
  simp only [View.readAt_eq_ld, h3.read_unread, h4.read_unread, h5.read_unread, h7.read_unread,
    View.ld_unit_zero (S := S1024x1408) hz, View.ld_unit_zero (S := S1408x1024) hz, View.ld_unit_zero (S := S1024x1024) hz]

/-- Its second adds its part, -/
theorem sout_B (hc0 : ¬cond0_0 i) (hc1 : cond0_1 i) (hc2 : cond0_2 i) :
    sout0_B_0 c i a3 h3 a4 h4 a5 h5 a6 h6 a7 h7 hc0 hc1 hc2 x0 x1 x2 s = k0_pay3 x0 x1 s := by
  unfold sout0_B_0
  rw [View.read_writes_eq_canon _ _ _ (scover0_B_0 c i a3 h3 a4 h4 a5 h5 a6 h6 a7 h7 hc0 hc1 hc2 x0 x1 x2 s)]
  unfold kernelRun0_B
  dsimp only
  sl_unfold_words
  rw [View.canon_unit_zero hz]
  simp only [View.readAt_eq_ld, h3.read_unread, h4.read_unread, h5.read_unread, h7.read_unread,
    View.ld_unit_zero (S := S1024x1408) hz, View.ld_unit_zero (S := S1408x1024) hz, View.ld_unit_zero (S := S1024x1024) hz]

/-- and writes the rows. -/
theorem out_B3 (hc0 : ¬cond0_0 i) (hc1 : cond0_1 i) (hc2 : cond0_2 i) :
    out0_B_3 c i a3 h3 a4 h4 a5 h5 a6 h6 a7 h7 hc0 hc1 hc2 x0 x1 x2 s = k0_pay4 (k0_pay3 x0 x1 s) x2 := by
  unfold out0_B_3
  rw [View.read_writes_eq_canon _ _ _ (cover0_B_3 c i a3 h3 a4 h4 a5 h5 a6 h6 a7 h7 hc0 hc1 hc2 x0 x1 x2 s)]
  unfold kernelRun0_B
  dsimp only
  sl_unfold_words
  rw [View.canon_unit_zero hz]
  simp only [View.readAt_eq_ld, h3.read_unread, h4.read_unread, h5.read_unread, h7.read_unread,
    View.ld_unit_zero (S := S1024x1408) hz, View.ld_unit_zero (S := S1408x1024) hz, View.ld_unit_zero (S := S1024x1024) hz, View.readCov_cons_toLoadRect]

end

/-! ### A run of points -/

variable (m : (ℓ : Loc nD τ sig) → Buf (Elt Ideal) ℓ)

/-- Where each window of a point lies. -/
theorem wins : ∀ t : Fin cfg0.N,
    (win0_0.index t 0 = t.val / 2 ∧ win0_0.index t 1 = t.val % 2) ∧ (win0_1.index t 0 = t.val % 2 ∧ win0_1.index t 1 = 0)
    ∧ (win0_2.index t 0 = t.val / 2 ∧ win0_2.index t 1 = 0) :=
  (by decide +kernel : ∀ t : Fin grid0.N, _)

/-- The launch's arguments. -/
abbrev A0 (c : Dev nD) : Mat 8192 2816 := m ((c : Thread nD τ).loc main_arg0)
abbrev A1 (c : Dev nD) : Mat 2816 1024 := m ((c : Thread nD τ).loc main_arg1)
abbrev A2 (c : Dev nD) : Mat 8192 1024 := m ((c : Thread nD τ).loc main_arg2)

/-- The blocks a point reads. -/
abbrev B0 (c : Dev nD) (t : Fin cfg0.N) : Mat 1024 1408 := iblk m c 0 t
abbrev B1 (c : Dev nD) (t : Fin cfg0.N) : Mat 1408 1024 := iblk m c 1 t
abbrev B2 (c : Dev nD) (t : Fin cfg0.N) : Mat 1024 1024 := iblk m c 2 t

theorem b0 (c : Dev nD) (t : Fin cfg0.N) (r : Fin 1024) (k : Fin 1408) : B0 m c t (ix2 r k) = A0 m c (ix2 (row8 (t.val / 2) r) (col t.val k)) := by
  unfold B0 iblk
  rw [View.read_apply]
  show V m c main_arg0 _ = _
  rw [V_main_arg0]
  exact at2 _ _ _ _ (by show win0_0.index t 0 * 1024 + 1 * r.val = _; rw [(wins t).1.1, row8_val]; omega)
    (by show win0_0.index t 1 * 1408 + 1 * k.val = 1408 * (t.val % 2) + k.val; rw [(wins t).1.2]; omega)
theorem b1 (c : Dev nD) (t : Fin cfg0.N) (k : Fin 1408) (j : Fin 1024) : B1 m c t (ix2 k j) = A1 m c (ix2 (col t.val k) j) := by
  unfold B1 iblk
  rw [View.read_apply]
  show V m c main_arg1 _ = _
  rw [V_main_arg1]
  exact at2 _ _ _ _ (by show win0_1.index t 0 * 1408 + 1 * k.val = 1408 * (t.val % 2) + k.val; rw [(wins t).2.1.1]; omega)
    (by show win0_1.index t 1 * 1024 + 1 * j.val = j.val; rw [(wins t).2.1.2]; omega)
theorem b2 (c : Dev nD) (t : Fin cfg0.N) (r j : Fin 1024) : B2 m c t (ix2 r j) = A2 m c (ix2 (row8 (t.val / 2) r) j) := by
  unfold B2 iblk
  rw [View.read_apply]
  show V m c main_arg2 _ = _
  rw [V_main_arg2]
  exact at2 _ _ _ _ (by show win0_2.index t 0 * 1024 + 1 * r.val = _; rw [(wins t).2.2.1, row8_val]; omega)
    (by show win0_2.index t 1 * 1024 + 1 * j.val = j.val; rw [(wins t).2.2.2]; omega)
/-- The launch's rows with the product added. -/
abbrev mres (c : Dev nD) : Fin 8192 → Fin 1024 → EReal := res (A0 m c) (A1 m c) (A2 m c)

/-- Point `n`'s part of the product. -/
def part (c : Dev nD) (r j : Fin 1024) (n : ℕ) (h : n < cfg0.N) : EReal :=
  ∑ k : Fin 1408, A0 m c (ix2 (row8 (n / 2) r) (col n k)) * A1 m c (ix2 (col n k) j)
theorem part_eq (c : Dev nD) (r j : Fin 1024) (t : Fin cfg0.N) :
    (∑ k : Fin 1408, B0 m c t (ix2 r k) * B1 m c t (ix2 k j)) = part m c r j t.val t.isLt :=
  Finset.sum_congr rfl fun k _ => by rw [b0, b1]

/-- What the scratch holds after point `n`. -/
def scr (c : Dev nD) (n : ℕ) (h : n < cfg0.N) : Vec Ideal S1024x1024 .f32 := (outsAt0 m c n h).2

theorem scr_first (c : Dev nD) (r j : Fin 1024) (n : ℕ) (h : n < cfg0.N) (h0 : n % 2 = 0) :
    scr m c n h (ix2 r j) = part m c r j n h := by
  unfold scr
  rw [outsAt0_A m c ⟨n, h⟩ h0 (by show ¬ n % 2 = 1; omega) (by show ¬ n % 2 = 1; omega)]
  dsimp only
  rw [sout_A]
  refine (Cert.DownFwd.pay2_at _ _ r j).trans ?_
  exact part_eq m c r j ⟨n, h⟩
theorem scr_next (c : Dev nD) (r j : Fin 1024) (n : ℕ) (h : n + 1 < cfg0.N) (h0 : ¬ (n + 1) % 2 = 0) :
    scr m c (n + 1) h (ix2 r j) = scr m c n (Nat.lt_of_succ_lt h) (ix2 r j) + part m c r j (n + 1) h := by
  unfold scr
  rw [outsAt0_B m c ⟨n + 1, h⟩ h0 (by show (n + 1) % 2 = 1; omega) (by show (n + 1) % 2 = 1; omega)]
  dsimp only
  rw [sout_B]
  refine (Cert.DownFwd.pay3_at _ _ _ r j).trans ?_
  exact congrArg (_ + ·) (part_eq m c r j ⟨n + 1, h⟩)

/-- The scratch at a run's end holds the product. -/
theorem scr_last (c : Dev nD) (r j : Fin 1024) (q : ℕ) (hn : 2 * q + 1 < cfg0.N) :
    scr m c (2 * q + 1) hn (ix2 r j) = ∑ k : Fin 2816, A0 m c (ix2 (row8 q r) k) * A1 m c (ix2 k j) := by
  refine (sum_run 2 (fun n h => scr m c n h (ix2 r j)) (part m c r j) (scr_first m c r j) (scr_next m c r j) q 1 (by omega) hn).trans ?_
  rw [sum_blocks (n := 2816) (a := 2) (b := 1408) (by norm_num)]
  refine Finset.sum_congr rfl fun p _ => Finset.sum_congr rfl fun k _ => ?_
  have e1 : (2 * q + p.val) / 2 = q := by omega
  have e2 : col (2 * q + p.val) k = ⟨1408 * p.val + k.val, by omega⟩ :=
    Fin.ext (by show 1408 * ((2 * q + p.val) % 2) + k.val = 1408 * p.val + k.val; omega)
  rw [e1, e2]

/-- The rows a run's second point goes on with. -/
theorem acc_last (c : Dev nD) (t : Fin cfg0.N) (h1 : t.val % 2 = 1) (r j : Fin 1024) :
    k0_pay3 (F := Ideal) (iblk m c 0 t) (iblk m c 1 t) (outsAt0 m c (t.val - 1) (Nat.lt_of_le_of_lt (Nat.sub_le _ _) t.isLt)).2 (ix2 r j)
      + B2 m c t (ix2 r j) = mres m c (row8 (t.val / 2) r) j := by
  have e := congrFun (congrArg (fun z => z.2) (outsAt0_B m c t (by omega) h1 h1)) (ix2 r j)
  dsimp only at e
  rw [sout_B] at e
  refine congrArg₂ (· + ·) (e.symm.trans ?_) (b2 m c t r j)
  have ht : t.val = 2 * (t.val / 2) + 1 := by omega
  have hs := scr_last m c r j (t.val / 2) (by rw [← ht]; exact t.isLt)
  unfold scr at hs
  simp only [← ht] at hs
  exact hs

/-- The block a run's second point writes. -/
theorem last3 (c : Dev nD) (t : Fin cfg0.N) (h1 : t.val % 2 = 1) (r j : Fin 1024) :
    (outsAt0 m c t.val t.isLt).1 (ix2 r j) = mres m c (row8 (t.val / 2) r) j := by
  rw [outsAt0_B m c t (by omega) h1 h1]
  dsimp only
  rw [out_B3]
  refine (Cert.DownFwd.pay4_at _ _ r j).trans ?_
  exact acc_last m c t h1 r j
/-- The array after the launch. -/
theorem result3 (c : Dev nD) (r : Fin 8192) (j : Fin 1024) :
    (dats m 0 c).arrAt 3 cfg0.N (ix2 r j : S8192x1024.Idx) = mres m c r j := by
  have hN : cfg0.N = 16 := N_0
  have hp : Value.pt3Of (ix2 r j) = 2 * (r.val / 1024) + 1 := by
    show 2 * (1 * (r.val / 1024 - 0) + 1 * (j.val / 1024 - 0)) + 1 = _
    omega
  have hl : Value.loc3Of (ix2 r j) = ix2 ⟨r.val % 1024, by omega⟩ j := by
    funext a
    apply Fin.ext
    match a with
    | ⟨0, _⟩ => rfl
    | ⟨1, _⟩ => show j.val % 1024 = j.val; omega
  rw [Value.final3]
  unfold Value.G3
  rw [dif_pos (by rw [hp]; omega), hl, Value.fold0_congr m c _ _ _ (by omega) hp, ← Value.outsAt0_sweep m c _ (by omega)]
  refine (last3 m c ⟨2 * (r.val / 1024) + 1, by omega⟩ (by show (2 * (r.val / 1024) + 1) % 2 = 1; omega) _ j).trans ?_
  dsimp only
  rw [row_at]
end

/-! ### The reference -/

namespace Ref
open Cert.FfnDownLastRefIdeal Cert.FfnDownLastRefIdeal.Read

variable (x0 : Mat 8192 2816) (x1 : Mat 2816 1024) (x2 : Mat 8192 1024)

theorem v2 (r : Fin 8192) (j : Fin 1024) : val_main_v2 (F := Ideal) x0 x1 (ix2 r j) = ∑ k : Fin 2816, x0 (ix2 r k) * x1 (ix2 k j) := by
  rw [val_main_v2_apply]
  exact Finset.sum_congr rfl fun k _ => congrArg₂ (· * ·) (congrArg x0 (eq_ix2 _)) (congrArg x1 (eq_ix2 _))
theorem v3 (r : Fin 8192) (j : Fin 1024) : val_main_v3 (F := Ideal) x0 x1 x2 (ix2 r j) = res x0 x1 x2 r j := by
  unfold res
  rw [add_comm]
  pointwise [val_main_v3, v2]
end Ref

/-! ### The claim -/

/-- The kernel and the reference end with the same rows. -/
theorem algebraic : Cert.algebraic_FfnDownLastIdeal_FfnDownLastRefIdeal := by
  intro m g m' g' _ hag
  refine ⟨fun c => (Cert.FfnDownLastIdeal.Gen.dats m 0 c).arrAt 3 Cert.FfnDownLastIdeal.cfg0.N, Cert.FfnDownLastIdeal.Value.run_blocks m g, ?_⟩
  refine (θ_run Cert.FfnDownLastRefIdeal.defs _ _).mono (fun r h c => ?_) (Cert.FfnDownLastRefIdeal.Value.run m' g')
  obtain ⟨e0, e1, e2⟩ := hag c
  obtain ⟨h0, ha⟩ := h c
  refine ⟨(h0.trans (Cert.FfnDownLastRefIdeal.Read.val_main_v3_eq _ _ _)).trans ?_, ha⟩
  rw [e0, e1, e2]
  exact ext2 fun r j => (Ref.v3 _ _ _ r j).trans (result3 m c r j).symm

/-- The reference ends, changes no argument and leaves every counter at zero. -/
theorem frame_ref : Cert.quiescent_FfnDownLastRefIdeal := fun m' g' _ =>
  (θ_run Cert.FfnDownLastRefIdeal.defs _ _).mono
    (fun r h => ⟨fun c => (h c).2, Idealize.ShloMosaic.sem_eq_zero_of_no_sems (by decide) r.2⟩)
    (Cert.FfnDownLastRefIdeal.Value.run m' g')

end Cert.DownLast

end
-- ==== Proof.ConvFrame.lean ====
/- The short convolution's backward launch: what each point leaves, point over point, and that the launch ends with every
   block written and its arguments kept. -/
module

public import proofs.«01_k».proof.Proof.Gen.ScBwdIdeal.Frame.RunB
public import Idealize.ShloMosaic.Lib.Claim
public import Idealize.ShloMosaic.Lib.Pipeline.Value

@[expose] public section

set_option maxRecDepth 16384

noncomputable section

namespace Cert.ConvBwd

open Cert.ScBwdIdeal Cert.ScBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- What a point leaves: the three blocks of the gradient, the weights' gradient so far, the two carried halos. -/
abbrev Left (F : FTy → Type) := Vec F S512x256 .bf16 × Vec F S512x256 .bf16 × Vec F S512x256 .bf16 × Vec F S8x256 .f32 × Vec F S8x256 .f32 × Vec F S8x256 .f32

/-- The body's run at the first point, -/
abbrev runA (c : Dev nD) (t : Fin cfg0.N) (h0 : t.val % 16 = 0) :=
  kernelRun0_A c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) scM0_1 (Memref.isWhole_whole _) ((hcond0_0 t).mpr h0)
    (iblk m c 0 t) (iblk m c 1 t) (iblk m c 2 t) (iblk m c 3 t) (iblk m c 4 t) (iblk m c 5 t) (iblk m c 6 t)

/-- and at a later one, over what the point before left. -/
abbrev runB (c : Dev nD) (t : Fin cfg0.N) (h0 : ¬t.val % 16 = 0) (o : Left F) :=
  kernelRun0_B c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) scM0_1 (Memref.isWhole_whole _) (fun h => h0 ((hcond0_0 t).mp h))
    (iblk m c 0 t) (iblk m c 1 t) (iblk m c 2 t) (iblk m c 3 t) (iblk m c 4 t) (iblk m c 5 t) (iblk m c 6 t) o.2.2.2.1 o.2.2.2.2.1 o.2.2.2.2.2

/-! The pieces each run stores cover the buffers it leaves. -/
theorem coverA7 (c : Dev nD) (t : Fin cfg0.N) (h0 : t.val % 16 = 0) (y : S512x256.Idx) :
    ∃ pc ∈ (runA m c t h0).1, y ∈ pc.1.set :=
  View.cover_of_tiledL _ S512x256.size (by sl_kernel_rfl) y
theorem coverA8 (c : Dev nD) (t : Fin cfg0.N) (h0 : t.val % 16 = 0) (y : S512x256.Idx) :
    ∃ pc ∈ (runA m c t h0).2.1, y ∈ pc.1.set :=
  View.cover_of_tiledL _ S512x256.size (by sl_kernel_rfl) y
theorem coverA9 (c : Dev nD) (t : Fin cfg0.N) (h0 : t.val % 16 = 0) (y : S512x256.Idx) :
    ∃ pc ∈ (runA m c t h0).2.2.1, y ∈ pc.1.set :=
  View.cover_of_tiledL _ S512x256.size (by sl_kernel_rfl) y
theorem coverA10 (c : Dev nD) (t : Fin cfg0.N) (h0 : t.val % 16 = 0) (y : S8x256.Idx) :
    ∃ pc ∈ (runA m c t h0).2.2.2.1, y ∈ pc.1.set :=
  View.cover_of_tiledL _ S8x256.size (by sl_kernel_rfl) y
theorem coverAs0 (c : Dev nD) (t : Fin cfg0.N) (h0 : t.val % 16 = 0) (y : S8x256.Idx) :
    ∃ pc ∈ (runA m c t h0).2.2.2.2.1, y ∈ pc.1.set :=
  View.cover_of_tiledL _ S8x256.size (by sl_kernel_rfl) y
theorem coverAs1 (c : Dev nD) (t : Fin cfg0.N) (h0 : t.val % 16 = 0) (y : S8x256.Idx) :
    ∃ pc ∈ (runA m c t h0).2.2.2.2.2.1, y ∈ pc.1.set :=
  View.cover_of_tiledL _ S8x256.size (by sl_kernel_rfl) y
theorem coverB7 (c : Dev nD) (t : Fin cfg0.N) (h0 : ¬t.val % 16 = 0) (o : Left F) (y : S512x256.Idx) :
    ∃ pc ∈ (runB m c t h0 o).1, y ∈ pc.1.set :=
  View.cover_of_tiledL _ S512x256.size (by sl_kernel_rfl) y
theorem coverB8 (c : Dev nD) (t : Fin cfg0.N) (h0 : ¬t.val % 16 = 0) (o : Left F) (y : S512x256.Idx) :
    ∃ pc ∈ (runB m c t h0 o).2.1, y ∈ pc.1.set :=
  View.cover_of_tiledL _ S512x256.size (by sl_kernel_rfl) y
theorem coverB9 (c : Dev nD) (t : Fin cfg0.N) (h0 : ¬t.val % 16 = 0) (o : Left F) (y : S512x256.Idx) :
    ∃ pc ∈ (runB m c t h0 o).2.2.1, y ∈ pc.1.set :=
  View.cover_of_tiledL _ S512x256.size (by sl_kernel_rfl) y
theorem coverB10 (c : Dev nD) (t : Fin cfg0.N) (h0 : ¬t.val % 16 = 0) (o : Left F) (y : S8x256.Idx) :
    ∃ pc ∈ (runB m c t h0 o).2.2.2.1, y ∈ pc.1.set :=
  View.cover_of_tiledL _ S8x256.size (by sl_kernel_rfl) y
theorem coverBs0 (c : Dev nD) (t : Fin cfg0.N) (h0 : ¬t.val % 16 = 0) (o : Left F) (y : S8x256.Idx) :
    ∃ pc ∈ (runB m c t h0 o).2.2.2.2.1, y ∈ pc.1.set :=
  View.cover_of_tiledL _ S8x256.size (by sl_kernel_rfl) y
theorem coverBs1 (c : Dev nD) (t : Fin cfg0.N) (h0 : ¬t.val % 16 = 0) (o : Left F) (y : S8x256.Idx) :
    ∃ pc ∈ (runB m c t h0 o).2.2.2.2.2.1, y ∈ pc.1.set :=
  View.cover_of_tiledL _ S8x256.size (by sl_kernel_rfl) y

/-- What the first point leaves: its pieces read back. -/
def first (c : Dev nD) (t : Fin cfg0.N) (h0 : t.val % 16 = 0) : Left F :=
  (VO0_7.read (Elt F) (VO0_7.writes (Elt F) VO0_7.junk (runA m c t h0).1),
   VO0_8.read (Elt F) (VO0_8.writes (Elt F) VO0_8.junk (runA m c t h0).2.1),
   VO0_9.read (Elt F) (VO0_9.writes (Elt F) VO0_9.junk (runA m c t h0).2.2.1),
   VO0_10.read (Elt F) (VO0_10.writes (Elt F) VO0_10.junk (runA m c t h0).2.2.2.1),
   VS0_0.read (Elt F) (VS0_0.writes (Elt F) VS0_0.junk (runA m c t h0).2.2.2.2.1),
   VS0_1.read (Elt F) (VS0_1.writes (Elt F) VS0_1.junk (runA m c t h0).2.2.2.2.2.1))

/-- What a later point leaves. -/
def later (c : Dev nD) (t : Fin cfg0.N) (h0 : ¬t.val % 16 = 0) (o : Left F) : Left F :=
  (VO0_7.read (Elt F) (VO0_7.writes (Elt F) VO0_7.junk (runB m c t h0 o).1),
   VO0_8.read (Elt F) (VO0_8.writes (Elt F) VO0_8.junk (runB m c t h0 o).2.1),
   VO0_9.read (Elt F) (VO0_9.writes (Elt F) VO0_9.junk (runB m c t h0 o).2.2.1),
   VO0_10.read (Elt F) (VO0_10.writes (Elt F) VO0_10.junk (runB m c t h0 o).2.2.2.1),
   VS0_0.read (Elt F) (VS0_0.writes (Elt F) VS0_0.junk (runB m c t h0 o).2.2.2.2.1),
   VS0_1.read (Elt F) (VS0_1.writes (Elt F) VS0_1.junk (runB m c t h0 o).2.2.2.2.2.1))

/-- The contents of the outputs' and the scratch's buffers after each point, one point over the other. -/
def outsAt0 (c : Dev nD) : (n : ℕ) → n < cfg0.N → Left F
  | 0, hn => first m c ⟨0, hn⟩ (Nat.zero_mod _)
  | n + 1, hn =>
    if h0 : (n + 1) % 16 = 0 then first m c ⟨n + 1, hn⟩ h0
    else later m c ⟨n + 1, hn⟩ h0 (outsAt0 c n (Nat.lt_of_succ_lt hn))

/-- After the first point the buffers hold what it leaves. -/
theorem outsAt0_A (c : Dev nD) (t : Fin cfg0.N) (h0 : t.val % 16 = 0) : outsAt0 m c t.val t.isLt = first m c t h0 := by
  obtain ⟨n, hn⟩ := t
  cases n with
  | zero => rfl
  | succ n => exact dif_pos h0

/-- After a later point they hold what it leaves over the point before. -/
theorem outsAt0_B (c : Dev nD) (t : Fin cfg0.N) (h0 : ¬t.val % 16 = 0) :
    outsAt0 m c t.val t.isLt = later m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- What holds between the points: before the first the two carried halos hold anything; after a point they hold what it left. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.2.1) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` the carried halos hold what it left. -/
theorem PhiS_succ (c : Dev nD) (n : ℕ) (hn : n < cfg0.N) :
    PhiS m c (n + 1) hn = iprop(iprop(owns (c : Thread nD τ) scM0_0 fullShare ((outsAt0 m c n hn).2.2.2.2.1) ∗ owns (c : Thread nD τ) scM0_1 fullShare ((outsAt0 m c n hn).2.2.2.2.2)) ∗ (∃ r, prngReg c r)) := rfl

/-- Before a point that is not the first they hold what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ owns (c : Thread nD τ) scM0_1 fullShare ((outsAt0 m c (n - 1) (by omega)).2.2.2.2.2)) ∗ (∃ r, prngReg c r)) := by
  cases n with
  | zero => exact absurd rfl hz
  | succ n => rfl

/-! ## What the launch's buffers hold -/

/-- The arrays as the launch finds them; after the body at a point each input's buffer holds its block and each output's what
    the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2.1
  Φ t := PhiS m c t.val (Nat.le_of_lt_succ t.isLt)
  q w := Pipeline.shareOf spec0 w
  owed _ := 0

/-- The arrays are those the launch finds. -/
theorem A_eq (c : Dev nD) (w : Fin cfg0.W) : (dats m 0 c).A w = V m c (Pipeline.arrRef spec0 w) := by
  dsimp only [dats]

/-- What holds at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2.1 := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a later point the weights' gradient's buffer holds what the point before left: it is written back only after the last. -/
theorem before0_10_B (c : Dev nD) (t : Fin cfg0.N) (h0 : ¬t.val % 16 = 0) (d) :
    (dats m 0 c).before 10 t d = (outsAt0 m c (t.val - 1) (Nat.lt_of_le_of_lt (Nat.sub_le _ _) t.isLt)).2.2.2.1 := by
  have hN : t.val < 16 := lt_of_lt_of_eq t.isLt (show cfg0.N = 16 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at any point: from the blocks and what the point before left it leaves this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold first; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA m c t h0).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      iintro ⟨H0, H1, H2, H3, H4, H5, H6, ⟨%e7, H7⟩, ⟨%e8, H8⟩, ⟨%e9, H9⟩, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverAs0 m c t h0)
          unfold owns; iexists _; isplitr
          swap; · iexact HS1
          ipureintro; exact View.read_writes_of_cover _ _ _ _ _ (coverAs1 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverA7 m c t h0)
      isplitl [H8]
      · unfold owns; iexists _; isplitr
        swap; · iexact H8
        ipureintro; exact View.read_writes_of_cover _ _ _ _ _ (coverA8 m c t h0)
      isplitl [H9]
      · unfold owns; iexists _; isplitr
        swap; · iexact H9
        ipureintro; exact View.read_writes_of_cover _ _ _ _ _ (coverA9 m c t h0)
      unfold owns; iexists _; isplitr
      swap; · iexact H10
      ipureintro; exact View.read_writes_of_cover _ _ _ _ _ (coverA10 m c t h0)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_10_B m c t h0]
      unfold later; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runB m c t h0 _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexact H10
      isplitl [HS0]; · iexact HS0
      isplitl [HS1]; · iexact HS1
      iintro ⟨H0, H1, H2, H3, H4, H5, H6, ⟨%e7, H7⟩, ⟨%e8, H8⟩, ⟨%e9, H9⟩, ⟨%e10, H10⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (coverBs0 m c t h0 _)
          unfold owns; iexists _; isplitr
          swap; · iexact HS1
          ipureintro; exact View.read_writes_of_cover _ _ _ _ _ (coverBs1 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (coverB7 m c t h0 _)
      isplitl [H8]
      · unfold owns; iexists _; isplitr
        swap; · iexact H8
        ipureintro; exact View.read_writes_of_cover _ _ _ _ _ (coverB8 m c t h0 _)
      isplitl [H9]
      · unfold owns; iexists _; isplitr
        swap; · iexact H9
        ipureintro; exact View.read_writes_of_cover _ _ _ _ _ (coverB9 m c t h0 _)
      unfold owns; iexists _; isplitr
      swap; · iexact H10
      ipureintro; exact View.read_writes_of_cover _ _ _ _ _ (coverB10 m c t h0 _)

/-- The body the launch calls at a point. -/
theorem defs₀_row (t : Fin cfg0.N) :
    defs₀ (F := F) .tc cfg0.body (cfg0.bodyArgs t (cfg0.slots t)) = bodyAt0 t := by
  unfold defs₀; rw [Defs.onTc_tc]

/-- The body meets what the launch asks of it, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch starts with is what holds before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the halos' contents may be forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option backward.isDefEq.respectTransparency.types false in
/-- The launch ends, its arrays hold what the points wrote, and every counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The launch ends and its arrays hold what the points wrote. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The whole launch ends with its arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ### What the launch's results hold: what a point writes back, and each array's blocks -/

theorem flushed7 (c : Dev nD) (t : Fin cfg0.N) :
    (dats m 0 c).flushed 7 t = (cfg0.win 7).cut (grid0.coords t) (outsAt0 m c t.val t.isLt).1 := by
  show (cfg0.win 7).cut (grid0.coords t) ((dats m 0 c).after 7 t) = _
  rw [after0_7]
theorem flushed8 (c : Dev nD) (t : Fin cfg0.N) :
    (dats m 0 c).flushed 8 t = (cfg0.win 8).cut (grid0.coords t) (outsAt0 m c t.val t.isLt).2.1 := by
  show (cfg0.win 8).cut (grid0.coords t) ((dats m 0 c).after 8 t) = _
  rw [after0_8]
theorem flushed9 (c : Dev nD) (t : Fin cfg0.N) :
    (dats m 0 c).flushed 9 t = (cfg0.win 9).cut (grid0.coords t) (outsAt0 m c t.val t.isLt).2.2.1 := by
  show (cfg0.win 9).cut (grid0.coords t) ((dats m 0 c).after 9 t) = _
  rw [after0_9]
theorem flushed10 (c : Dev nD) (t : Fin cfg0.N) :
    (dats m 0 c).flushed 10 t = (cfg0.win 10).cut (grid0.coords t) (outsAt0 m c t.val t.isLt).2.2.2.1 := by
  show (cfg0.win 10).cut (grid0.coords t) ((dats m 0 c).after 10 t) = _
  rw [after0_10]
theorem idx_inj7 : ∀ t t' : Fin cfg0.N, win0_7.index t = win0_7.index t' → t = t' :=
  (by decide +kernel : ∀ t t' : Fin grid0.N, win0_7.index t = win0_7.index t' → t = t')
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 (fun t t' _ _ hne => (cfg0.win 7).disjoint_blk fun h => hne (idx_inj7 t t' h))
    cfg0.N t t.isLt hf
theorem idx_inj8 : ∀ t t' : Fin cfg0.N, win0_8.index t = win0_8.index t' → t = t' :=
  (by decide +kernel : ∀ t t' : Fin grid0.N, win0_8.index t = win0_8.index t' → t = t')
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 (fun t t' _ _ hne => (cfg0.win 8).disjoint_blk fun h => hne (idx_inj8 t t' h))
    cfg0.N t t.isLt hf
theorem idx_inj9 : ∀ t t' : Fin cfg0.N, win0_9.index t = win0_9.index t' → t = t' :=
  (by decide +kernel : ∀ t t' : Fin grid0.N, win0_9.index t = win0_9.index t' → t = t')
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 (fun t t' _ _ hne => (cfg0.win 9).disjoint_blk fun h => hne (idx_inj9 t t' h))
    cfg0.N t t.isLt hf

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 5).trans (((dats m 0 c).arrAt_in 5 rfl _).trans ((A_eq m c 5).trans (V_main_arg1 m c)))
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The results after the launch, and its arguments as launched. -/
theorem run_blocks : θ_run defs (onTc (τ := τ) (main (F := F))) ⟨m, fun _ => 0, ρ⟩ fun r => ∀ c : Dev nD,
      r.2.mem ((c : Thread nD τ).loc main_v2_0) = (dats m 0 c).arrAt 7 cfg0.N
      ∧ r.2.mem ((c : Thread nD τ).loc main_v2_1) = (dats m 0 c).arrAt 8 cfg0.N
      ∧ r.2.mem ((c : Thread nD τ).loc main_v2_2) = (dats m 0 c).arrAt 9 cfg0.N
      ∧ r.2.mem ((c : Thread nD τ).loc main_v2_3) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 7,
      (h c).1 8,
      (h c).1 9,
      (h c).1 10,
      kept_main_arg0 m r h c,
      kept_main_arg1 m r h c,
      kept_main_arg2 m r h c⟩)
    (run_main m ρ)

end Cert.ConvBwd

end
-- ==== Proof.ConvFrameBits.lean ====
/- The short convolution's backward launch on machine floats. Its program has the text of the one read over the extended
   reals, so the run of ConvFrame, which holds over any float values, is its run too. -/
module

public import proofs.«01_k».proof.Defs
public import proofs.«01_k».proof.Proof.ConvFrame
public import proofs.«01_k».proof.Proof.Gen.ScBwd

public section

set_option maxRecDepth 65536

namespace Cert.ConvBits
open Idealize.ShloMosaic

theorem table_eq : Cert.ScBwd.defs₀ (F := Bits) = Cert.ScBwdIdeal.defs₀ (F := Bits) := by
  unfold Cert.ScBwd.defs₀ Cert.ScBwdIdeal.defs₀
  refine congrArg _ ?_
  funext l a
  match l, a with
  | 0, (t, s) => rfl
  | ⟨n + 1, h⟩, _ => exact absurd h (by omega)

theorem defs_eq : Cert.ScBwd.defs (F := Bits) = Cert.ScBwdIdeal.defs (F := Bits) := by
  unfold Cert.ScBwd.defs Cert.ScBwdIdeal.defs
  exact congrArg (Pipeline.defs Cert.ScBwdIdeal.pcfgs) table_eq

theorem main_eq : Cert.ScBwd.main (F := Bits) = Cert.ScBwdIdeal.main (F := Bits) := rfl

/-- The whole launch ends with its arguments as launched and every counter at zero. -/
theorem frame : Cert.quiescent_ScBwd := fun m ρ _ => by
  rw [defs_eq, main_eq]
  exact Cert.ConvBwd.frame (F := Bits) m ρ

end Cert.ConvBits
-- ==== Proof.ConvSpec.lean ====
/- The short convolution of one lane over the rows, the same over a block of 512 rows whose rows above are a halo of eight, and
   what the kernels' operations on a block read. -/
module

public import proofs.«01_k».proof.Proof.Prod
public import Idealize.ShloMosaic.Lib.WordCmp
public import Idealize.ShloMosaic.Lib.KernelVsHost

@[expose] public section

noncomputable section

namespace Cert.Conv

open Idealize.ShloMosaic Idealize.ShloMosaic.WordCmp
open Cert.Prod
open scoped BigOperators

/-- A lane's values over the array's rows, over a block's, over a halo's. -/
abbrev All := Fin 8192 → EReal
abbrev Block := Fin 512 → EReal
abbrev Halo := Fin 8 → EReal

/-- The value `s` rows above a row, zero above the first. -/
def prev (x : All) (s : ℕ) (r : Fin 8192) : EReal := if s ≤ r.val then x ⟨r.val - s, by omega⟩ else 0
/-- The convolution with three weights, the last at the row itself. -/
def conv (x : All) (w : Fin 3 → EReal) (r : Fin 8192) : EReal := x r * w 2 + prev x 1 r * w 1 + prev x 2 r * w 0

/-- The value `s` rows above a row of a block, in the halo above its first. -/
def down (x : Block) (h : Halo) (s : ℕ) (r : Fin 512) : EReal :=
  if s ≤ r.val then x ⟨r.val - s, by omega⟩ else h ⟨(8 + r.val - s) % 8, by omega⟩
/-- The convolution on a block. -/
def bconv (x : Block) (h : Halo) (w : Halo) (r : Fin 512) : EReal := x r * w 2 + down x h 1 r * w 1 + down x h 2 r * w 0

/-- Row `r` of block `t`. -/
def row (t : ℕ) (r : Fin 512) : Fin 8192 := ⟨(512 * t + r.val) % 8192, by omega⟩
theorem row_val (t : ℕ) (ht : t < 16) (r : Fin 512) : (row t r).val = 512 * t + r.val := by show (_ % _) = _; omega
/-- The halo of block `t`: the eight rows above it, zero for the first block. -/
def halo (x : All) (t : ℕ) (k : Fin 8) : EReal := if t = 0 then 0 else x ⟨(512 * t + k.val - 8) % 8192, by omega⟩

/-- What is above a row of a block is what is above it in the array. -/
theorem down_eq (x : All) (t : ℕ) (ht : t < 16) (s : ℕ) (hs : s ≤ 8) (r : Fin 512) :
    down (fun r => x (row t r)) (halo x t) s r = prev x s (row t r) := by
  unfold down prev halo
  by_cases h : s ≤ r.val
  · rw [if_pos h, if_pos (by rw [row_val t ht]; omega)]
    refine congrArg x (Fin.ext ?_)
    show (row t ⟨r.val - s, _⟩).val = (row t r).val - s
    rw [row_val t ht, row_val t ht]
    show 512 * t + (r.val - s) = _
    omega
  · rw [if_neg h]
    by_cases h0 : t = 0
    · rw [if_pos h0, if_neg (by rw [row_val t ht]; omega)]
    · rw [if_neg h0, if_pos (by rw [row_val t ht]; omega)]
      refine congrArg x (Fin.ext ?_)
      show (512 * t + (8 + r.val - s) % 8 - 8) % 8192 = (row t r).val - s
      rw [row_val t ht, Nat.mod_eq_of_lt (show 8 + r.val - s < 8 by omega)]
      omega
theorem bconv_eq (x : All) (w : Halo) (t : ℕ) (ht : t < 16) (r : Fin 512) :
    bconv (fun r => x (row t r)) (halo x t) w r = conv x (fun k => w ⟨k.val, by omega⟩) (row t r) := by
  unfold bconv conv
  rw [down_eq x t ht 1 (by decide), down_eq x t ht 2 (by decide)]
  rfl

/-! ### The comparisons of rows -/

/-- A row's number against a constant, as a choice between two values. -/
theorem pick_eq {n : ℕ} (hn : n ≤ 4096) (k : Fin n) (c : ℕ) (hc : c < 4096) (a b : EReal) :
    Scalar.select (IntOp.cmpi .eq (BitVec.ofNat 32 k.val) (BitVec.ofNat 32 c)) a b = if k.val = c then a else b := by
  rw [cmpi_eq_eq]
  have e : (BitVec.ofNat 32 k.val = BitVec.ofNat 32 c) ↔ k.val = c := ofNat_eq_ofNat_iff (by omega) (by omega)
  by_cases h : k.val = c
  · rw [decide_eq_true (e.2 h), if_pos h]; rfl
  · rw [decide_eq_false (fun h' => h (e.1 h')), if_neg h]; rfl
theorem pick_ge {n : ℕ} (hn : n ≤ 4096) (k : Fin n) (c : ℕ) (hc : c < 4096) (a b : EReal) :
    Scalar.select (IntOp.cmpi .sge (BitVec.ofNat 32 k.val) (BitVec.ofNat 32 c)) a b = if c ≤ k.val then a else b := by
  rw [cmpi_sge_ofNat (by omega) (by omega)]
  by_cases h : c ≤ k.val
  · rw [decide_eq_true h, if_pos h]; rfl
  · rw [decide_eq_false h, if_neg h]; rfl

/-- Summing eight rows with all but one masked leaves that one. -/
theorem pick_sum (w : Fin 8 → EReal) (c : Fin 8) (b : BitVec 32) (hb : b = BitVec.ofNat 32 c.val) :
    ∑ k : Fin 8, Scalar.select (IntOp.cmpi .eq (BitVec.ofNat 32 k.val) b) (w k) 0 = w c := by
  subst hb
  rw [Finset.sum_congr rfl fun k _ => pick_eq (by decide) k c.val (by omega) (w k) 0]
  rw [Finset.sum_eq_single c (fun k _ h => if_neg fun e => h (Fin.ext e)) (fun h => absurd (Finset.mem_univ c) h), if_pos rfl]

/-- The block turned by `s` rows with the turned halo in the rows above: the value `s` rows above. -/
theorem down_read (x : Block) (h : Halo) (s : ℕ) (hs : s ≤ 8) (r : Fin 512) :
    Scalar.select (IntOp.cmpi .sge (BitVec.ofNat 32 r.val) (BitVec.ofNat 32 s)) (x ⟨(r.val + 512 - s) % 512, by omega⟩)
      (if _ : r.val < 8 then h ⟨(r.val + 8 - s) % 8, by omega⟩ else 0) = down x h s r := by
  rw [pick_ge (by decide) r s (by omega)]
  unfold down
  by_cases h1 : s ≤ r.val
  · rw [if_pos h1, if_pos h1]
    exact congrArg x (Fin.ext (show (r.val + 512 - s) % 512 = r.val - s by omega))
  · rw [if_neg h1, if_neg h1, dif_pos (by omega)]
    exact congrArg h (Fin.ext (show (r.val + 8 - s) % 8 = (8 + r.val - s) % 8 by omega))

/-! ### The gradients -/

/-- The value `s` rows below a row, zero below the last. -/
def next (u : All) (s : ℕ) (r : Fin 8192) : EReal := if h : r.val + s < 8192 then u ⟨r.val + s, h⟩ else 0
/-- The gradient of what is convolved, from the gradient `g` of the convolution. -/
def dx (g : All) (w : Fin 3 → EReal) (r : Fin 8192) : EReal := g r * w 2 + next (fun r => g r * w 1) 1 r + next (fun r => g r * w 0) 2 r

/-- The value `s` rows below a row of a block, zero below its last. -/
def up (u : Block) (s : ℕ) (r : Fin 512) : EReal := if h : r.val + s < 512 then u ⟨r.val + s, h⟩ else 0
/-- What a block's first rows give the eight rows above it: the value `s` rows below each of them that is in the block. -/
def spill (u : Block) (s : ℕ) (k : Fin 8) : EReal := if 8 ≤ k.val + s then u ⟨(k.val + s) % 8, by omega⟩ else 0
/-- The gradient of a block's rows from the block, and what the block gives the eight rows above it. -/
def bdx (g : Block) (w : Halo) (r : Fin 512) : EReal := g r * w 2 + up (fun r => g r * w 1) 1 r + up (fun r => g r * w 0) 2 r
def bhalo (g : Block) (w : Halo) (k : Fin 8) : EReal := spill (fun r => g r * w 1) 1 k + spill (fun r => g r * w 0) 2 k
/-- The part of the weights' gradient from a block, a row for each weight and zero under them. -/
def bdw (x : Block) (h : Halo) (g : Block) (k : Fin 8) : EReal :=
  (if k.val = 2 then ∑ r, x r * g r else 0) + (if k.val = 1 then ∑ r, down x h 1 r * g r else 0)
    + (if k.val = 0 then ∑ r, down x h 2 r * g r else 0)
/-- The weights' gradient. -/
def dw (x : All) (g : All) (k : Fin 8) : EReal := if k.val ≤ 2 then ∑ r, prev x (2 - k.val) r * g r else 0

/-- The halo part a row gets from the block under its own: for the last eight rows of a block but the last block. -/
def lent (u : All) (t s : ℕ) (r : Fin 512) : EReal :=
  if h : 504 ≤ r.val ∧ t < 15 then spill (fun p => u (row (t + 1) p)) s ⟨r.val - 504, by omega⟩ else 0

/-- What is below a row of a block in the array is what is below it in the block, or what the block under lends it. -/
theorem next_eq (u : All) (t : ℕ) (ht : t < 16) (s : ℕ) (hs : s ≤ 8) (r : Fin 512) :
    next u s (row t r) = up (fun p => u (row t p)) s r + lent u t s r := by
  unfold next up lent spill
  have hr := row_val t ht r
  by_cases h : r.val + s < 512
  · rw [dif_pos (show (row t r).val + s < 8192 by omega), dif_pos h]
    have e : u ⟨(row t r).val + s, by omega⟩ = u (row t ⟨r.val + s, h⟩) := congrArg u (Fin.ext (by
      show (row t r).val + s = (row t ⟨r.val + s, h⟩).val
      rw [row_val t ht, row_val t ht]; show _ = 512 * t + (r.val + s); omega))
    rw [e]
    split
    · rw [if_neg (by show ¬ 8 ≤ r.val - 504 + s; omega), add_zero]
    · rw [add_zero]
  · rw [dif_neg h, zero_add]
    by_cases h1 : t < 15
    · rw [dif_pos (show (row t r).val + s < 8192 by omega), dif_pos ⟨by omega, h1⟩, if_pos (by show 8 ≤ r.val - 504 + s; omega)]
      refine congrArg u (Fin.ext ?_)
      show (row t r).val + s = (row (t + 1) ⟨(r.val - 504 + s) % 8, _⟩).val
      rw [row_val (t + 1) (by omega)]
      show (row t r).val + s = 512 * (t + 1) + (r.val - 504 + s) % 8
      by_cases h8 : r.val - 504 + s < 16
      · omega
      · omega
    · rw [dif_neg (by omega), dif_neg (by omega)]

/-- The comparison `less than` of a row's number. -/
theorem pick_lt {n : ℕ} (hn : n ≤ 4096) (k : Fin n) (c : ℕ) (hc : c < 4096) (a b : EReal) :
    Scalar.select (IntOp.cmpi .slt (BitVec.ofNat 32 k.val) (BitVec.ofNat 32 c)) a b = if k.val < c then a else b := by
  rw [cmpi_slt_ofNat (by omega) (by omega)]
  by_cases h : k.val < c
  · rw [decide_eq_true h, if_pos h]; rfl
  · rw [decide_eq_false h, if_neg h]; rfl
/-- The block turned backwards by `s` rows with zeros in the last: the value `s` rows below. -/
theorem up_read (u : Block) (s q : ℕ) (hq : q + s = 512) (h0 : 0 < s) (r : Fin 512) :
    Scalar.select (IntOp.cmpi .slt (BitVec.ofNat 32 r.val) (BitVec.ofNat 32 q)) (u ⟨(r.val + 512 - q) % 512, by omega⟩) 0 = up u s r := by
  rw [pick_lt (by decide) r q (by omega)]
  unfold up
  by_cases h : r.val + s < 512
  · rw [if_pos (by omega), dif_pos h]
    exact congrArg u (Fin.ext (show (r.val + 512 - q) % 512 = r.val + s by omega))
  · rw [if_neg (by omega), dif_neg h]
/-- The first eight rows turned backwards by `s` with zeros in the first: what they give the rows above. -/
theorem spill_read (u : Block) (s q : ℕ) (hq : q + s = 8) (h0 : 0 < s) (k : Fin 8) :
    Scalar.select (IntOp.cmpi .sge (BitVec.ofNat 32 k.val) (BitVec.ofNat 32 q)) (u ⟨(k.val + 8 - q) % 8, by omega⟩) 0 = spill u s k := by
  rw [pick_ge (by decide) k q (by omega)]
  unfold spill
  by_cases h : 8 ≤ k.val + s
  · rw [if_pos (by omega), if_pos h]
    exact congrArg u (Fin.ext (show (k.val + 8 - q) % 8 = (k.val + s) % 8 by omega))
  · rw [if_neg (by omega), if_neg h]

/-- The sum over a block of the value `s` rows above times the row, the first eight rows and the rest apart. -/
theorem sum_down (x : Block) (h : Halo) (g : Block) (s : ℕ) (hs : s ≤ 8) :
    (∑ k : Fin 8, Scalar.select (IntOp.cmpi .sge (BitVec.ofNat 32 k.val) (BitVec.ofNat 32 s)) (x ⟨(k.val + 512 - s) % 512, by omega⟩)
        (h ⟨(k.val + 8 - s) % 8, by omega⟩) * g ⟨k.val, by omega⟩)
      + (∑ k : Fin 504, Scalar.select (IntOp.cmpi .sge (BitVec.ofNat 32 (8 + k.val)) (BitVec.ofNat 32 s))
          (x ⟨(8 + k.val + 512 - s) % 512, by omega⟩ * g ⟨8 + k.val, by omega⟩) 0) = ∑ r, down x h s r * g r := by
  refine Eq.symm ((Fin.sum_univ_add (a := 8) (b := 504) (fun r : Fin (8 + 504) => down x h s r * g r)).trans
    (congrArg₂ (· + ·) (Finset.sum_congr rfl fun k _ => ?_) (Finset.sum_congr rfl fun k _ => ?_)))
  · rw [pick_ge (by decide) k s (by omega)]
    refine congrArg (· * g ⟨k.val, by omega⟩) ?_
    show down x h s ⟨k.val, _⟩ = _
    unfold down
    by_cases h1 : s ≤ k.val
    · rw [if_pos h1, if_pos h1]
      exact congrArg x (Fin.ext (show k.val - s = (k.val + 512 - s) % 512 by omega))
    · rw [if_neg h1, if_neg h1]
      exact congrArg h (Fin.ext (show (8 + k.val - s) % 8 = (k.val + 8 - s) % 8 by omega))
  · rw [pick_ge (n := 512) (by decide) ⟨8 + k.val, by omega⟩ s (by omega), if_pos (by show s ≤ 8 + k.val; omega)]
    refine congrArg (· * g ⟨8 + k.val, by omega⟩) ?_
    show down x h s ⟨8 + k.val, _⟩ = _
    unfold down
    rw [if_pos (by show s ≤ 8 + k.val; omega)]
    exact congrArg x (Fin.ext (show 8 + k.val - s = (8 + k.val + 512 - s) % 512 by omega))

/-- A block's part of the weights' gradient in terms of the array. -/
theorem bdw_eq (x g : All) (t : ℕ) (ht : t < 16) (k : Fin 8) :
    bdw (fun r => x (row t r)) (halo x t) (fun r => g (row t r)) k
      = if k.val ≤ 2 then ∑ r : Fin 512, prev x (2 - k.val) (row t r) * g (row t r) else 0 := by
  have e0 : ∀ r : Fin 512, x (row t r) = prev x 0 (row t r) := fun r => (if_pos (Nat.zero_le _)).symm
  unfold bdw
  rw [Finset.sum_congr rfl fun r _ => congrArg (· * g (row t r)) (down_eq x t ht 1 (by decide) r),
    Finset.sum_congr rfl fun r _ => congrArg (· * g (row t r)) (down_eq x t ht 2 (by decide) r),
    Finset.sum_congr rfl fun r _ => congrArg (· * g (row t r)) (e0 r)]
  by_cases h2 : k.val = 2
  · rw [h2]; simp
  · by_cases h1 : k.val = 1
    · rw [h1]; simp
    · by_cases h0 : k.val = 0
      · rw [h0]; simp
      · rw [if_neg h2, if_neg h1, if_neg h0, if_neg (by omega), add_zero, add_zero]
/-- The blocks' parts, the last block first, add up to the weights' gradient. -/
theorem dw_blocks (x g : All) (k : Fin 8) :
    ∑ q : Fin 16, bdw (fun r => x (row (15 - q.val) r)) (halo x (15 - q.val)) (fun r => g (row (15 - q.val) r)) k = dw x g k := by
  rw [Finset.sum_congr rfl fun q _ => bdw_eq x g (15 - q.val) (by omega) k]
  unfold dw
  by_cases h : k.val ≤ 2
  · rw [if_pos h, Finset.sum_congr rfl fun q _ => if_pos h]
    rw [sum_blocks (n := 8192) (a := 16) (b := 512) (by norm_num),
      ← Equiv.sum_comp (Fin.revPerm (n := 16)) (fun q : Fin 16 => ∑ r : Fin 512, prev x (2 - k.val) ⟨512 * q.val + r.val, by omega⟩ * g ⟨512 * q.val + r.val, by omega⟩)]
    refine Finset.sum_congr rfl fun q _ => Finset.sum_congr rfl fun r _ => ?_
    have e : row (15 - q.val) r = ⟨512 * (Fin.revPerm q).val + r.val, by omega⟩ := Fin.ext (by
      rw [row_val _ (by omega)]
      show 512 * (15 - q.val) + r.val = 512 * (16 - (q.val + 1)) + r.val
      omega)
    rw [e]
  · rw [if_neg h]
    exact Finset.sum_eq_zero fun q _ => if_neg h

/-- The rows' gradient on a block: the block's own part, and what the block under lends its last rows. -/
theorem dx_eq (g : All) (w : Fin 3 → EReal) (w8 : Halo) (hw : ∀ k : Fin 3, w8 ⟨k.val, by omega⟩ = w k) (t : ℕ) (ht : t < 16) (r : Fin 512) :
    dx g w (row t r) = bdx (fun p => g (row t p)) w8 r
      + if h : 504 ≤ r.val ∧ t < 15 then bhalo (fun p => g (row (t + 1) p)) w8 ⟨r.val - 504, by omega⟩ else 0 := by
  have w0 : w8 0 = w 0 := hw 0
  have w1 : w8 1 = w 1 := hw 1
  have w2 : w8 2 = w 2 := hw 2
  unfold dx bdx bhalo
  rw [next_eq _ t ht 1 (by decide), next_eq _ t ht 2 (by decide), w0, w1, w2]
  unfold lent
  split
  · abel
  · simp only [add_zero]

end Cert.Conv

end
-- ==== Proof.ConvPoint.lean ====
/- The short convolution's backward launch: what a point computes, row by row of a lane. -/
module

public import proofs.«01_k».proof.Defs
public import proofs.«01_k».proof.Proof.ConvFrame
public import proofs.«01_k».proof.Proof.ConvSpec

@[expose] public section

noncomputable section

namespace Cert.ConvBwd

open Idealize.ShloMosaic Idealize.ShloMosaic.TcCoe Idealize.SL.Sem
open Cert.Prod Cert.Conv
open scoped BigOperators

section
open Cert.ScBwdIdeal Cert.ScBwdIdeal.Gen

/-! ### A point's payloads -/

section
variable (i : grid0.Coords) (x0 x1 x2 x5 : Vec Ideal S512x256 .f32) (x3 x4 x6 : Vec Ideal S8x256 .f32)

/-- The rows' and the weights' rows' numbers. -/
abbrev io512 : IVec S512x256 32 := iota .tc S512x256 32 [0] iota_S512x256_d0_w32
abbrev io8 : IVec S8x256 32 := iota .tc S8x256 32 [0] iota_S8x256_d0_w32
/-- The weights, the convolution's gradient, what is convolved and its halo. -/
abbrev wt : FVec Ideal S8x256 .f32 := k0_pay19 (k0_pay8 x6)
abbrev gr : FVec Ideal S512x256 .f32 := k0_pay20 x0 x5
abbrev xs : FVec Ideal S512x256 .f32 := k0_pay17 (k0_pay9 x1 x2)
abbrev hs : FVec Ideal S8x256 .f32 := k0_pay18 (k0_pay10 i x3 x4)
/-- The gradient of the gate; of the rows, of the halo, and the part of the weights'. -/
abbrev oB : FVec Ideal S512x256 .bf16 :=
  k0_pay34 (k0_pay16 (k0_pay11 x1 x2) (k0_pay12 i x3 x4) (k0_pay13 x6) (k0_pay14 x1 x2 x6) io512 (k0_pay15 i x3 x4) x5)
abbrev oX : FVec Ideal S512x256 .f32 := k0_pay28 (wt x6) (gr x0 x5) io512 (k0_pay23 (wt x6) (gr x0 x5) io512 io8)
abbrev oH : FVec Ideal S8x256 .f32 := k0_pay29 (wt x6) (gr x0 x5) io8 (k0_pay24 (wt x6) (gr x0 x5) io8)
abbrev oW : FVec Ideal S8x256 .f32 :=
  k0_pay32 (xs x1 x2) (gr x0 x5) io8 (k0_pay26 (xs x1 x2) (gr x0 x5) io8 (k0_pay21 (xs x1 x2) (gr x0 x5) io8) io512
    (k0_pay25 (hs i x3 x4)) (Scalar.ofBits .f32 0x00000000#32)) io512 (k0_pay30 (hs i x3 x4)) k0_pay31

theorem wt_at (k : Fin 8) (j : Fin 256) : wt x6 (ix2 k j) = x6 (ix2 k j) := by pointwise [wt, k0_pay19, k0_pay8]
theorem gr_at (r : Fin 512) (j : Fin 256) : gr x0 x5 (ix2 r j) = x0 (ix2 r j) * x5 (ix2 r j) := by pointwise [gr, k0_pay20]
theorem xs_at (r : Fin 512) (j : Fin 256) : xs x1 x2 (ix2 r j) = x1 (ix2 r j) * x2 (ix2 r j) := by pointwise [xs, k0_pay17, k0_pay9]
theorem pay6_at (k : Fin 8) (j : Fin 256) : k0_pay6 (F := Ideal) i x3 (ix2 k j) = if (i 0).val = 15 then 0 else x3 (ix2 k j) := by
  pointwise [k0_pay6]
  exact pick_eq (n := 16) (by decide) (i 0) 15 (by decide) _ _
theorem pay7_at (k : Fin 8) (j : Fin 256) : k0_pay7 (F := Ideal) i x4 (ix2 k j) = if (i 0).val = 15 then 0 else x4 (ix2 k j) := by
  pointwise [k0_pay7]
  exact pick_eq (n := 16) (by decide) (i 0) 15 (by decide) _ _
theorem hs_at (k : Fin 8) (j : Fin 256) : hs i x3 x4 (ix2 k j) = if (i 0).val = 15 then 0 else x3 (ix2 k j) * x4 (ix2 k j) := by
  have e : hs i x3 x4 (ix2 k j) = k0_pay6 (F := Ideal) i x3 (ix2 k j) * k0_pay7 (F := Ideal) i x4 (ix2 k j) := by
    pointwise [hs, k0_pay18, k0_pay10]
  rw [e, pay6_at, pay7_at]
  split <;> simp
end

section
variable (v15 v18 v68 v72 v78 v31 v114 : FVec Ideal S512x256 .f32) (v20 v22 v74 v76 v99 : FVec Ideal S8x256 .f32)

/-- The gradient of the gate from the convolution's parts. -/
theorem pay16_at (i : grid0.Coords) (x3 x4 : Vec Ideal S8x256 .f32) (r : Fin 512) (j : Fin 256) :
    k0_pay16 (F := Ideal) v18 (k0_pay12 i x3 x4) v22 v31 io512 (k0_pay15 i x3 x4) v68 (ix2 r j)
      = v68 (ix2 r j) * (v31 (ix2 r j) + down (fun r => v18 (ix2 r j)) (fun k => k0_pay12 i x3 x4 (ix2 k j)) 1 r * v22 (ix2 1 j)
          + down (fun r => v18 (ix2 r j)) (fun k => k0_pay12 i x3 x4 (ix2 k j)) 2 r * v22 (ix2 0 j)) := by
  pointwise [k0_pay16, io512, k0_pay15]
  exact congrArg (v68 (ix2 r j) * ·) (congrArg₂ (· + ·)
    (congrArg (v31 (ix2 r j) + ·) (congrArg₂ (· * ·)
      (down_read (fun r => v18 (ix2 r j)) (fun k => k0_pay12 i x3 x4 (ix2 k j)) 1 (by decide) r) (pick_sum (fun k => v22 (ix2 k j)) 1 1#32 rfl)))
    (congrArg₂ (· * ·) (down_read (fun r => v18 (ix2 r j)) (fun k => k0_pay12 i x3 x4 (ix2 k j)) 2 (by decide) r)
      (pick_sum (fun k => v22 (ix2 k j)) 0 0#32 rfl)))
theorem pay14_at (x1 x2 : Vec Ideal S512x256 .f32) (x6 : Vec Ideal S8x256 .f32) (r : Fin 512) (j : Fin 256) :
    k0_pay14 (F := Ideal) x1 x2 x6 (ix2 r j) = xs x1 x2 (ix2 r j) * wt x6 (ix2 2 j) := by
  pointwise [k0_pay14, k0_pay11, k0_pay9, k0_pay13, k0_pay8, k0_pay17, k0_pay19]
  exact congrArg (x1 (ix2 r j) * x2 (ix2 r j) * ·) (pick_sum (fun k => x6 (ix2 k j)) 2 2#32 rfl)

theorem pay22_at (r : Fin 512) (j : Fin 256) : k0_pay22 (F := Ideal) v76 v78 (ix2 r j) = v78 (ix2 r j) * v76 (ix2 1 j) := by
  pointwise [k0_pay22]
  exact congrArg (v78 (ix2 r j) * ·) (pick_sum (fun k => v76 (ix2 k j)) 1 1#32 rfl)
theorem pay27_at (r : Fin 512) (j : Fin 256) : k0_pay27 (F := Ideal) v76 v78 (ix2 r j) = v78 (ix2 r j) * v76 (ix2 0 j) := by
  pointwise [k0_pay27]
  exact congrArg (v78 (ix2 r j) * ·) (pick_sum (fun k => v76 (ix2 k j)) 0 0#32 rfl)
/-- The rows' gradient. -/
theorem pay23_at (r : Fin 512) (j : Fin 256) : k0_pay23 (F := Ideal) v76 v78 io512 io8 (ix2 r j)
    = v78 (ix2 r j) * v76 (ix2 2 j) + up (fun r => v78 (ix2 r j) * v76 (ix2 1 j)) 1 r := by
  pointwise [k0_pay23, io512, io8, pay22_at]
  exact congrArg₂ (· + ·) (congrArg (v78 (ix2 r j) * ·) (pick_sum (fun k => v76 (ix2 k j)) 2 2#32 rfl))
    (up_read (fun r => v78 (ix2 r j) * v76 (ix2 1 j)) 1 511 rfl (by decide) r)
theorem pay28_at (r : Fin 512) (j : Fin 256) : k0_pay28 (F := Ideal) v76 v78 io512 v114 (ix2 r j)
    = v114 (ix2 r j) + up (fun r => v78 (ix2 r j) * v76 (ix2 0 j)) 2 r := by
  pointwise [k0_pay28, io512, pay27_at]
  exact congrArg (v114 (ix2 r j) + ·) (up_read (fun r => v78 (ix2 r j) * v76 (ix2 0 j)) 2 510 rfl (by decide) r)
/-- The halo's gradient. -/
theorem pay24_at (k : Fin 8) (j : Fin 256) : k0_pay24 (F := Ideal) v76 v78 io8 (ix2 k j)
    = spill (fun r => v78 (ix2 r j) * v76 (ix2 1 j)) 1 k := by
  pointwise [k0_pay24, io8, pay22_at]
  exact spill_read (fun r => v78 (ix2 r j) * v76 (ix2 1 j)) 1 7 rfl (by decide) k
theorem pay29_at (k : Fin 8) (j : Fin 256) : k0_pay29 (F := Ideal) v76 v78 io8 v99 (ix2 k j)
    = v99 (ix2 k j) + spill (fun r => v78 (ix2 r j) * v76 (ix2 0 j)) 2 k := by
  pointwise [k0_pay29, io8, pay27_at]
  exact congrArg (v99 (ix2 k j) + ·) (spill_read (fun r => v78 (ix2 r j) * v76 (ix2 0 j)) 2 6 rfl (by decide) k)
/-- The weights' part, a row each. -/
theorem pay21_at (k : Fin 8) (j : Fin 256) : k0_pay21 (F := Ideal) v72 v78 io8 (ix2 k j)
    = if k.val = 2 then ∑ r : Fin 512, v72 (ix2 r j) * v78 (ix2 r j) else 0 := by
  pointwise [k0_pay21, io8]
  exact pick_eq (by decide) k 2 (by decide) _ _
theorem pay26_at (k : Fin 8) (j : Fin 256) :
    k0_pay26 (F := Ideal) v72 v78 io8 v99 io512 (k0_pay25 v74) (Scalar.ofBits .f32 0x00000000#32) (ix2 k j)
      = v99 (ix2 k j) + if k.val = 1 then ∑ r : Fin 512, down (fun r => v72 (ix2 r j)) (fun k => v74 (ix2 k j)) 1 r * v78 (ix2 r j) else 0 := by
  pointwise [k0_pay26, io8, io512, k0_pay25]
  refine congrArg (v99 (ix2 k j) + ·) ((pick_eq (by decide) k 1 (by decide) _ _).trans ?_)
  split
  · exact sum_down (fun r => v72 (ix2 r j)) (fun k => v74 (ix2 k j)) (fun r => v78 (ix2 r j)) 1 (by decide)
  · rfl
theorem pay32_at (k : Fin 8) (j : Fin 256) :
    k0_pay32 (F := Ideal) v72 v78 io8 v99 io512 (k0_pay30 v74) k0_pay31 (ix2 k j)
      = v99 (ix2 k j) + if k.val = 0 then ∑ r : Fin 512, down (fun r => v72 (ix2 r j)) (fun k => v74 (ix2 k j)) 2 r * v78 (ix2 r j) else 0 := by
  pointwise [k0_pay32, io8, io512, k0_pay30, k0_pay31]
  refine congrArg (v99 (ix2 k j) + ·) ((pick_eq (by decide) k 0 (by decide) _ _).trans ?_)
  split
  · exact sum_down (fun r => v72 (ix2 r j)) (fun k => v74 (ix2 k j)) (fun r => v78 (ix2 r j)) 2 (by decide)
  · rfl
end

section
variable (i : grid0.Coords) (x0 x1 x2 x5 : Vec Ideal S512x256 .f32) (x3 x4 x6 : Vec Ideal S8x256 .f32)

/-- A point's results, a lane of each in terms of the lane's rows. -/
theorem oB_at (r : Fin 512) (j : Fin 256) : oB i x1 x2 x5 x3 x4 x6 (ix2 r j)
    = x5 (ix2 r j) * bconv (fun r => xs x1 x2 (ix2 r j)) (fun k => hs i x3 x4 (ix2 k j)) (fun k => wt x6 (ix2 k j)) r := by
  have e : oB i x1 x2 x5 x3 x4 x6 (ix2 r j) = _ := pay16_at (k0_pay11 x1 x2) x5 (k0_pay14 x1 x2 x6) (k0_pay13 x6) i x3 x4 r j
  rw [e, pay14_at]
  rfl
theorem oX_at (r : Fin 512) (j : Fin 256) : oX x0 x5 x6 (ix2 r j)
    = bdx (fun r => gr x0 x5 (ix2 r j)) (fun k => wt x6 (ix2 k j)) r := by
  unfold oX bdx
  rw [pay28_at, pay23_at]
theorem oH_at (k : Fin 8) (j : Fin 256) : oH x0 x5 x6 (ix2 k j)
    = bhalo (fun r => gr x0 x5 (ix2 r j)) (fun k => wt x6 (ix2 k j)) k := by
  unfold oH bhalo
  rw [pay29_at, pay24_at]
theorem oW_at (k : Fin 8) (j : Fin 256) : oW i x0 x1 x2 x5 x3 x4 (ix2 k j)
    = bdw (fun r => xs x1 x2 (ix2 r j)) (fun k => hs i x3 x4 (ix2 k j)) (fun r => gr x0 x5 (ix2 r j)) k := by
  unfold oW bdw
  rw [pay32_at, pay26_at, pay21_at]
end

/-- The last eight rows get the carried halo's gradient. -/
theorem pay35_at (v6 v154 : FVec Ideal S512x256 .f32) (v : FVec Ideal S8x256 .f32) (r : Fin 512) (j : Fin 256) :
    k0_pay35 (F := Ideal) v6 v154 v (ix2 r j)
      = v154 (ix2 r j) * v6 (ix2 r j) + if h : 504 ≤ r.val then v (ix2 ⟨r.val - 504, by omega⟩ j) else 0 := by
  pointwise [k0_pay35]
  refine congrArg (v154 (ix2 r j) * v6 (ix2 r j) + ·) ?_
  by_cases h : r.val < 504
  · rw [dif_pos h, dif_neg (by omega)]
  · rw [dif_neg h, dif_pos (by omega)]
theorem pay36_at (v5 v154 : FVec Ideal S512x256 .f32) (v : FVec Ideal S8x256 .f32) (r : Fin 512) (j : Fin 256) :
    k0_pay36 (F := Ideal) v5 v154 v (ix2 r j)
      = v5 (ix2 r j) * v154 (ix2 r j) + if h : 504 ≤ r.val then v (ix2 ⟨r.val - 504, by omega⟩ j) else 0 := by
  pointwise [k0_pay36]
  refine congrArg (v5 (ix2 r j) * v154 (ix2 r j) + ·) ?_
  by_cases h : r.val < 504
  · rw [dif_pos h, dif_neg (by omega)]
  · rw [dif_neg h, dif_pos (by omega)]
theorem pay2_at (v179 v204 : FVec Ideal S8x256 .f32) (k : Fin 8) (j : Fin 256) :
    k0_pay2 (F := Ideal) v179 v204 (ix2 k j) = v204 (ix2 k j) + v179 (ix2 k j) := by pointwise [k0_pay2]
theorem pay37_at (v12 v161 : FVec Ideal S8x256 .f32) (k : Fin 8) (j : Fin 256) :
    k0_pay37 (F := Ideal) v12 v161 (ix2 k j) = v161 (ix2 k j) * v12 (ix2 k j) := by pointwise [k0_pay37]
theorem pay1_at (v9 v161 : FVec Ideal S8x256 .f32) (k : Fin 8) (j : Fin 256) :
    k0_pay1 (F := Ideal) (k0_pay33 v9 v161) (ix2 k j) = v9 (ix2 k j) * v161 (ix2 k j) := by pointwise [k0_pay1, k0_pay33]
theorem pay3_at (k : Fin 8) (j : Fin 256) : k0_pay3 (F := Ideal) (ix2 k j) = 0 := by pointwise [k0_pay3]
theorem pay4_at (k : Fin 8) (j : Fin 256) : k0_pay4 (F := Ideal) (ix2 k j) = 0 := by pointwise [k0_pay4]
theorem pay5_at (k : Fin 8) (j : Fin 256) : k0_pay5 (F := Ideal) (ix2 k j) = 0 := by pointwise [k0_pay5]

end

end Cert.ConvBwd

end
-- ==== Proof.ConvLeft.lean ====
/- The short convolution's backward launch: what each point leaves in the results' buffers and in the two carried halos. -/
module

public import proofs.«01_k».proof.Defs
public import proofs.«01_k».proof.Proof.ConvPoint

@[expose] public section

noncomputable section

namespace Cert.ConvBwd

open Idealize.ShloMosaic Idealize.ShloMosaic.TcCoe Idealize.SL.Sem
open Cert.Prod Cert.Conv
open scoped BigOperators

section
open Cert.ScBwdIdeal Cert.ScBwdIdeal.Gen

variable (m : (ℓ : Loc nD τ sig) → Buf (Elt Ideal) ℓ)

/-- The launch's arguments, and the blocks a point reads. -/
abbrev A0 (c : Dev nD) : Mat 8192 3584 := m ((c : Thread nD τ).loc main_arg0)
abbrev A1 (c : Dev nD) : Mat 8192 1024 := m ((c : Thread nD τ).loc main_arg1)
abbrev A2 (c : Dev nD) : Mat 3 256 := m ((c : Thread nD τ).loc main_arg2)
abbrev B0 (c : Dev nD) (t : Fin cfg0.N) : Mat 512 256 := iblk m c 0 t
abbrev B1 (c : Dev nD) (t : Fin cfg0.N) : Mat 512 256 := iblk m c 1 t
abbrev B2 (c : Dev nD) (t : Fin cfg0.N) : Mat 512 256 := iblk m c 2 t
abbrev B3 (c : Dev nD) (t : Fin cfg0.N) : Mat 8 256 := iblk m c 3 t
abbrev B4 (c : Dev nD) (t : Fin cfg0.N) : Mat 8 256 := iblk m c 4 t
abbrev B5 (c : Dev nD) (t : Fin cfg0.N) : Mat 512 256 := iblk m c 5 t
abbrev B6 (c : Dev nD) (t : Fin cfg0.N) : Mat 8 256 := iblk m c 6 t

/-! ### What a point leaves -/

/-- What the point computes, from the blocks it reads. -/
abbrev pB (c : Dev nD) (t : Fin cfg0.N) : Mat 512 256 :=
  oB (grid0.coords t) (B1 m c t) (B2 m c t) (B5 m c t) (B3 m c t) (B4 m c t) (B6 m c t)
abbrev pX (c : Dev nD) (t : Fin cfg0.N) : Mat 512 256 := oX (B0 m c t) (B5 m c t) (B6 m c t)
abbrev pH (c : Dev nD) (t : Fin cfg0.N) : Mat 8 256 := oH (B0 m c t) (B5 m c t) (B6 m c t)
abbrev pW (c : Dev nD) (t : Fin cfg0.N) : Mat 8 256 :=
  oW (grid0.coords t) (B0 m c t) (B1 m c t) (B2 m c t) (B5 m c t) (B3 m c t) (B4 m c t)
/-- What the point leaves over halos and a sum it finds. -/
def leaves (c : Dev nD) (t : Fin cfg0.N) (w s0 s1 : Mat 8 256) : Left Ideal :=
  (pB m c t, k0_pay35 (F := Ideal) (B2 m c t) (pX m c t) s0, k0_pay36 (F := Ideal) (B1 m c t) (pX m c t) s1, k0_pay2 (F := Ideal) (pW m c t) w,
    k0_pay37 (F := Ideal) (k0_pay7 (F := Ideal) (grid0.coords t) (B4 m c t)) (pH m c t),
    k0_pay1 (F := Ideal) (k0_pay33 (k0_pay6 (F := Ideal) (grid0.coords t) (B3 m c t)) (pH m c t)))

/-! One result or halo each: the first point, which finds zeros, and a later one, over what the point before it left. -/

theorem first_7 (c : Dev nD) (t : Fin cfg0.N) (h0 : t.val % 16 = 0) :
    (first m c t h0).1 = (leaves m c t (k0_pay5 (F := Ideal)) (k0_pay3 (F := Ideal)) (k0_pay4 (F := Ideal))).1 := by
  unfold first leaves
  dsimp only
  rw [View.read_writes_eq_canon _ _ _ (coverA7 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem first_8 (c : Dev nD) (t : Fin cfg0.N) (h0 : t.val % 16 = 0) :
    (first m c t h0).2.1 = (leaves m c t (k0_pay5 (F := Ideal)) (k0_pay3 (F := Ideal)) (k0_pay4 (F := Ideal))).2.1 := by
  unfold first leaves
  dsimp only
  rw [View.read_writes_eq_canon _ _ _ (coverA8 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem first_9 (c : Dev nD) (t : Fin cfg0.N) (h0 : t.val % 16 = 0) :
    (first m c t h0).2.2.1 = (leaves m c t (k0_pay5 (F := Ideal)) (k0_pay3 (F := Ideal)) (k0_pay4 (F := Ideal))).2.2.1 := by
  unfold first leaves
  dsimp only
  rw [View.read_writes_eq_canon _ _ _ (coverA9 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem first_10 (c : Dev nD) (t : Fin cfg0.N) (h0 : t.val % 16 = 0) :
    (first m c t h0).2.2.2.1 = (leaves m c t (k0_pay5 (F := Ideal)) (k0_pay3 (F := Ideal)) (k0_pay4 (F := Ideal))).2.2.2.1 := by
  unfold first leaves
  dsimp only
  rw [View.read_writes_eq_canon _ _ _ (coverA10 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem first_s0 (c : Dev nD) (t : Fin cfg0.N) (h0 : t.val % 16 = 0) :
    (first m c t h0).2.2.2.2.1 = (leaves m c t (k0_pay5 (F := Ideal)) (k0_pay3 (F := Ideal)) (k0_pay4 (F := Ideal))).2.2.2.2.1 := by
  unfold first leaves
  dsimp only
  rw [View.read_writes_eq_canon _ _ _ (coverAs0 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem first_s1 (c : Dev nD) (t : Fin cfg0.N) (h0 : t.val % 16 = 0) :
    (first m c t h0).2.2.2.2.2 = (leaves m c t (k0_pay5 (F := Ideal)) (k0_pay3 (F := Ideal)) (k0_pay4 (F := Ideal))).2.2.2.2.2 := by
  unfold first leaves
  dsimp only
  rw [View.read_writes_eq_canon _ _ _ (coverAs1 m c t h0)]
  unfold runA kernelRun0_A
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_7 (c : Dev nD) (t : Fin cfg0.N) (h0 : ¬t.val % 16 = 0) (o : Left Ideal) :
    (later m c t h0 o).1 = (leaves m c t o.2.2.2.1 o.2.2.2.2.1 o.2.2.2.2.2).1 := by
  unfold later leaves
  dsimp only
  rw [View.read_writes_eq_canon _ _ _ (coverB7 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_8 (c : Dev nD) (t : Fin cfg0.N) (h0 : ¬t.val % 16 = 0) (o : Left Ideal) :
    (later m c t h0 o).2.1 = (leaves m c t o.2.2.2.1 o.2.2.2.2.1 o.2.2.2.2.2).2.1 := by
  unfold later leaves
  dsimp only
  rw [View.read_writes_eq_canon _ _ _ (coverB8 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_9 (c : Dev nD) (t : Fin cfg0.N) (h0 : ¬t.val % 16 = 0) (o : Left Ideal) :
    (later m c t h0 o).2.2.1 = (leaves m c t o.2.2.2.1 o.2.2.2.2.1 o.2.2.2.2.2).2.2.1 := by
  unfold later leaves
  dsimp only
  rw [View.read_writes_eq_canon _ _ _ (coverB9 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_10 (c : Dev nD) (t : Fin cfg0.N) (h0 : ¬t.val % 16 = 0) (o : Left Ideal) :
    (later m c t h0 o).2.2.2.1 = (leaves m c t o.2.2.2.1 o.2.2.2.2.1 o.2.2.2.2.2).2.2.2.1 := by
  unfold later leaves
  dsimp only
  rw [View.read_writes_eq_canon _ _ _ (coverB10 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_s0 (c : Dev nD) (t : Fin cfg0.N) (h0 : ¬t.val % 16 = 0) (o : Left Ideal) :
    (later m c t h0 o).2.2.2.2.1 = (leaves m c t o.2.2.2.1 o.2.2.2.2.1 o.2.2.2.2.2).2.2.2.2.1 := by
  unfold later leaves
  dsimp only
  rw [View.read_writes_eq_canon _ _ _ (coverBs0 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]
theorem later_s1 (c : Dev nD) (t : Fin cfg0.N) (h0 : ¬t.val % 16 = 0) (o : Left Ideal) :
    (later m c t h0 o).2.2.2.2.2 = (leaves m c t o.2.2.2.1 o.2.2.2.2.1 o.2.2.2.2.2).2.2.2.2.2 := by
  unfold later leaves
  dsimp only
  rw [View.read_writes_eq_canon _ _ _ (coverBs1 m c t h0 o)]
  unfold runB kernelRun0_B
  dsimp only
  sl_unfold_words
  rw [View.canon_cons_unit_zero hz]
  simp only [View.readAt_eq_ld, (hs0_0 t).read_unread, (hs0_1 t).read_unread, (hs0_2 t).read_unread, (hs0_3 t).read_unread,
    (hs0_4 t).read_unread, (hs0_5 t).read_unread, (hs0_6 t).read_unread, (hs0_10 t).read_unread,
    (Memref.isWhole_whole _ : (scM0_0).IsWhole).read_unread, (Memref.isWhole_whole _ : (scM0_1).IsWhole).read_unread,
    View.ld_unit_zero (S := S512x256) hz, View.ld_unit_zero (S := S8x256) hz, View.readCov_cons_toLoadRect]

/-- The first point leaves its part over zeros, -/
theorem first_eq (c : Dev nD) (t : Fin cfg0.N) (h0 : t.val % 16 = 0) : first m c t h0
    = leaves m c t (k0_pay5 (F := Ideal)) (k0_pay3 (F := Ideal)) (k0_pay4 (F := Ideal)) :=
  Prod.ext (first_7 m c t h0) (Prod.ext (first_8 m c t h0) (Prod.ext (first_9 m c t h0) (Prod.ext (first_10 m c t h0)
    (Prod.ext (first_s0 m c t h0) (first_s1 m c t h0)))))
/-- and a later point over what the point before it left. -/
theorem later_eq (c : Dev nD) (t : Fin cfg0.N) (h0 : ¬t.val % 16 = 0) (o : Left Ideal) : later m c t h0 o
    = leaves m c t o.2.2.2.1 o.2.2.2.2.1 o.2.2.2.2.2 :=
  Prod.ext (later_7 m c t h0 o) (Prod.ext (later_8 m c t h0 o) (Prod.ext (later_9 m c t h0 o) (Prod.ext (later_10 m c t h0 o)
    (Prod.ext (later_s0 m c t h0 o) (later_s1 m c t h0 o)))))

end

end Cert.ConvBwd

end
-- ==== Proof.ConvFwd.lean ====
/- The short convolution's launch: each block of gated rows the kernel writes, and the same rows of the reference. -/
module

public import proofs.«01_k».proof.Defs
public import proofs.«01_k».proof.Proof.Cat
public import proofs.«01_k».proof.Proof.SguClaim
public import proofs.«01_k».proof.Proof.ConvSpec
public import proofs.«01_k».proof.Proof.Gen.ScFwdIdeal.Value
public import proofs.«01_k».proof.Proof.Gen.ScFwdRefIdeal.Read
public import proofs.«01_k».proof.Proof.Gen.ScFwdRefIdeal.Run
public import Idealize.ShloMosaic.Lib.StableHlo.RunRead

@[expose] public section

noncomputable section

namespace Cert.ConvFwd

open Idealize.ShloMosaic Idealize.ShloMosaic.TcCoe Idealize.SL.Sem
open Cert.Sgu (ext2)
open Cert.Prod Cert.Conv
open scoped BigOperators

/-- The lanes of one of the projections' groups. -/
def col (g : Fin 14) (j : Fin 256) : Fin 3584 := ⟨256 * g.val + j.val, by omega⟩
/-- What is convolved, a lane of two groups' product. -/
def gated (p : Mat 8192 3584) (j : Fin 256) : All := fun r => p (ix2 r (col 3 j)) * p (ix2 r (col 4 j))
/-- The gated convolution. -/
def res (p : Mat 8192 3584) (w : Mat 3 256) (r : Fin 8192) (j : Fin 256) : EReal :=
  p (ix2 r (col 2 j)) * conv (gated p j) (fun k => w (ix2 k j)) r

section
open Cert.ScFwdIdeal Cert.ScFwdIdeal.Gen

/-! ### A block -/

theorem pay2_at (v2 v3 : Vec Ideal S512x256 .f32) (r : Fin 512) (j : Fin 256) :
    k0_pay2 (F := Ideal) v2 v3 (ix2 r j) = v2 (ix2 r j) * v3 (ix2 r j) := by
  pointwise [k0_pay2]
theorem pay3_at (i : grid0.Coords) (v4 v7 : Vec Ideal S8x256 .f32) (k : Fin 8) (j : Fin 256) :
    k0_pay3 (F := Ideal) i v4 v7 (ix2 k j) = if (i 0).val = 0 then 0 else v4 (ix2 k j) * v7 (ix2 k j) := by
  pointwise [k0_pay3]
  have e : ∀ a b : EReal, Scalar.select (Scalar.cmpi CmpIPredicate.eq (BitVec.ofNat 32 (i 0).val) 0#32) a b = if (i 0).val = 0 then a else b :=
    fun a b => pick_eq (n := 16) (by decide) (i 0) 0 (by decide) a b
  rw [e, e]
  split <;> simp
theorem pay4_at (w : Vec Ideal S8x256 .f32) (k : Fin 8) (j : Fin 256) : k0_pay4 (F := Ideal) w (ix2 k j) = w (ix2 k j) := by
  pointwise [k0_pay4]
theorem pay5_at (v2 v3 : Vec Ideal S512x256 .f32) (w : Vec Ideal S8x256 .f32) (r : Fin 512) (j : Fin 256) :
    k0_pay5 (F := Ideal) v2 v3 w (ix2 r j) = v2 (ix2 r j) * v3 (ix2 r j) * w (ix2 2 j) := by
  pointwise [k0_pay5, pay2_at, pay4_at]
  rw [pick_sum (fun k => w (ix2 k j)) 2 2#32 rfl]
theorem pay6_at (i : grid0.Coords) (v2 v3 : Vec Ideal S512x256 .f32) (v4 v7 : Vec Ideal S8x256 .f32) (r : Fin 512) (j : Fin 256) :
    k0_pay6 (F := Ideal) i v2 v3 v4 v7 (ix2 r j)
      = down (fun r => v2 (ix2 r j) * v3 (ix2 r j)) (fun k => k0_pay3 (F := Ideal) i v4 v7 (ix2 k j)) 1 r := by
  pointwise [k0_pay6, pay2_at]
  exact down_read (fun r => v2 (ix2 r j) * v3 (ix2 r j)) (fun k => k0_pay3 (F := Ideal) i v4 v7 (ix2 k j)) 1 (by decide) r
theorem pay1_at (v1 v15 v28 v36 : Vec Ideal S512x256 .f32) (v17 v19 : Vec Ideal S8x256 .f32) (r : Fin 512) (j : Fin 256) :
    k0_pay1 (F := Ideal) v1 v15 v17 v19 v28 v36 (ix2 r j)
      = v1 (ix2 r j) * (v28 (ix2 r j) + v36 (ix2 r j) * v19 (ix2 1 j)
          + down (fun r => v15 (ix2 r j)) (fun k => v17 (ix2 k j)) 2 r * v19 (ix2 0 j)) := by
  pointwise [k0_pay1]
  exact congrArg (v1 (ix2 r j) * ·) (congrArg₂ (· + ·)
    (congrArg (v28 (ix2 r j) + v36 (ix2 r j) * ·) (pick_sum (fun k => v19 (ix2 k j)) 1 1#32 rfl))
    (congrArg₂ (· * ·) (down_read (fun r => v15 (ix2 r j)) (fun k => v17 (ix2 k j)) 2 (by decide) r)
      (pick_sum (fun k => v19 (ix2 k j)) 0 0#32 rfl)))

/-- A block's rows: the gate times the convolution over the block and its halo. -/
theorem out_at (i : grid0.Coords) (x0 x1 x2 : Vec Ideal S512x256 .f32) (x3 x4 x5 : Vec Ideal S8x256 .f32) (r : Fin 512) (j : Fin 256) :
    out0_6 (F := Ideal) i x0 x1 x2 x3 x4 x5 (ix2 r j)
      = x0 (ix2 r j) * bconv (fun r => x1 (ix2 r j) * x2 (ix2 r j))
          (fun k => if (i 0).val = 0 then 0 else x3 (ix2 k j) * x4 (ix2 k j)) (fun k => x5 (ix2 k j)) r := by
  unfold out0_6 bconv
  rw [View.canon_unit_zero hz]
  simp only [View.ld_unit_zero (S := S512x256) hz, View.ld_unit_zero (S := S8x256) hz]
  rw [pay1_at, pay5_at, pay6_at, pay4_at, pay4_at]
  simp only [pay2_at, pay3_at]

/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 2) ∧ (win0_1.index t 0 = t.val ∧ win0_1.index t 1 = 3)
    ∧ (win0_2.index t 0 = t.val ∧ win0_2.index t 1 = 4) ∧ (win0_3.index t 0 = 64 * t.val - 1 ∧ win0_3.index t 1 = 3)
    ∧ (win0_4.index t 0 = 64 * t.val - 1 ∧ win0_4.index t 1 = 4) ∧ (win0_5.index t 0 = 0 ∧ win0_5.index t 1 = 0)
    ∧ (win0_6.index t 0 = t.val ∧ win0_6.index t 1 = 0) ∧ (grid0.coords t 0).val = t.val :=
  (by decide +kernel : ∀ t : Fin grid0.N, _)

/-- What the host code prepares: the weights with five rows of zeros under them. -/
theorem V_v1 (c : Dev nD) : V m c main_v1 = concatenate S8x256 0
    [⟨S3x256, m ((c : Thread nD τ).loc main_arg1)⟩, ⟨S5x256, broadcastInDim S5x256 ![] bcast_S_S5x256 (constant (F := Ideal) S_ .f32 0x00000000#32)⟩]
    concatenates_S3x256_S5x256_S8x256_d0 := by
  unfold V
  after_results

/-- The launch's arguments, and the blocks a point reads. -/
abbrev A0 (c : Dev nD) : Mat 8192 3584 := m ((c : Thread nD τ).loc main_arg0)
abbrev A1 (c : Dev nD) : Mat 3 256 := m ((c : Thread nD τ).loc main_arg1)
abbrev B0 (c : Dev nD) (t : Fin cfg0.N) : Mat 512 256 := iblk m c 0 t
abbrev B1 (c : Dev nD) (t : Fin cfg0.N) : Mat 512 256 := iblk m c 1 t
abbrev B2 (c : Dev nD) (t : Fin cfg0.N) : Mat 512 256 := iblk m c 2 t
abbrev B3 (c : Dev nD) (t : Fin cfg0.N) : Mat 8 256 := iblk m c 3 t
abbrev B4 (c : Dev nD) (t : Fin cfg0.N) : Mat 8 256 := iblk m c 4 t
abbrev B5 (c : Dev nD) (t : Fin cfg0.N) : Mat 8 256 := iblk m c 5 t

theorem lt16 (t : Fin cfg0.N) : t.val < 16 := lt_of_lt_of_eq t.isLt N_0

theorem b0 (c : Dev nD) (t : Fin cfg0.N) (r : Fin 512) (j : Fin 256) : B0 m c t (ix2 r j) = A0 m c (ix2 (row t.val r) (col 2 j)) := by
  unfold B0 iblk
  rw [View.read_apply]
  show V m c main_arg0 _ = _
  rw [V_main_arg0]
  exact at2 _ _ _ _ (by show win0_0.index t 0 * 512 + 1 * r.val = _; rw [(wins t).1.1, row_val _ (lt16 t)]; omega)
    (by show win0_0.index t 1 * 256 + 1 * j.val = 256 * 2 + j.val; rw [(wins t).1.2]; omega)
theorem b1 (c : Dev nD) (t : Fin cfg0.N) (r : Fin 512) (j : Fin 256) : B1 m c t (ix2 r j) = A0 m c (ix2 (row t.val r) (col 3 j)) := by
  unfold B1 iblk
  rw [View.read_apply]
  show V m c main_arg0 _ = _
  rw [V_main_arg0]
  exact at2 _ _ _ _ (by show win0_1.index t 0 * 512 + 1 * r.val = _; rw [(wins t).2.1.1, row_val _ (lt16 t)]; omega)
    (by show win0_1.index t 1 * 256 + 1 * j.val = 256 * 3 + j.val; rw [(wins t).2.1.2]; omega)
theorem b2 (c : Dev nD) (t : Fin cfg0.N) (r : Fin 512) (j : Fin 256) : B2 m c t (ix2 r j) = A0 m c (ix2 (row t.val r) (col 4 j)) := by
  unfold B2 iblk
  rw [View.read_apply]
  show V m c main_arg0 _ = _
  rw [V_main_arg0]
  exact at2 _ _ _ _ (by show win0_2.index t 0 * 512 + 1 * r.val = _; rw [(wins t).2.2.1.1, row_val _ (lt16 t)]; omega)
    (by show win0_2.index t 1 * 256 + 1 * j.val = 256 * 4 + j.val; rw [(wins t).2.2.1.2]; omega)
/-- The row a row of a later block's halo is. -/
abbrev above (t : ℕ) (k : Fin 8) : Fin 8192 := ⟨(512 * t + k.val - 8) % 8192, by omega⟩
theorem b3 (c : Dev nD) (t : Fin cfg0.N) (h : t.val ≠ 0) (k : Fin 8) (j : Fin 256) :
    B3 m c t (ix2 k j) = A0 m c (ix2 (above t.val k) (col 3 j)) := by
  unfold B3 iblk
  rw [View.read_apply]
  show V m c main_arg0 _ = _
  rw [V_main_arg0]
  have := lt16 t
  exact at2 _ _ _ _ (by show win0_3.index t 0 * 8 + 1 * k.val = (512 * t.val + k.val - 8) % 8192; rw [(wins t).2.2.2.1.1]; omega)
    (by show win0_3.index t 1 * 256 + 1 * j.val = 256 * 3 + j.val; rw [(wins t).2.2.2.1.2]; omega)
theorem b4 (c : Dev nD) (t : Fin cfg0.N) (h : t.val ≠ 0) (k : Fin 8) (j : Fin 256) :
    B4 m c t (ix2 k j) = A0 m c (ix2 (above t.val k) (col 4 j)) := by
  unfold B4 iblk
  rw [View.read_apply]
  show V m c main_arg0 _ = _
  rw [V_main_arg0]
  have := lt16 t
  exact at2 _ _ _ _ (by show win0_4.index t 0 * 8 + 1 * k.val = (512 * t.val + k.val - 8) % 8192; rw [(wins t).2.2.2.2.1.1]; omega)
    (by show win0_4.index t 1 * 256 + 1 * j.val = 256 * 4 + j.val; rw [(wins t).2.2.2.2.1.2]; omega)
theorem b5 (c : Dev nD) (t : Fin cfg0.N) (k : Fin 3) (j : Fin 256) : B5 m c t (ix2 ⟨k.val, by omega⟩ j) = A1 m c (ix2 k j) := by
  unfold B5 iblk
  rw [View.read_apply]
  show V m c main_v1 _ = _
  rw [V_v1]
  refine (at2 _ _ (⟨k.val, by omega⟩ : Fin 8) j (by show win0_5.index t 0 * 8 + 1 * k.val = k.val; rw [(wins t).2.2.2.2.2.1.1]; omega)
    (by show win0_5.index t 1 * 256 + 1 * j.val = j.val; rw [(wins t).2.2.2.2.2.1.2]; omega)).trans ?_
  pointwise []

/-- The block a point writes. -/
theorem block6 (c : Dev nD) (t : Fin cfg0.N) (r : Fin 512) (j : Fin 256) :
    out0_6 (F := Ideal) (grid0.coords t) (iblk m c 0 t) (iblk m c 1 t) (iblk m c 2 t) (iblk m c 3 t) (iblk m c 4 t) (iblk m c 5 t) (ix2 r j)
      = res (A0 m c) (A1 m c) (row t.val r) j := by
  rw [out_at]
  unfold res
  refine congrArg₂ (· * ·) (b0 m c t r j) ?_
  have e1 : (fun r => B1 m c t (ix2 r j) * B2 m c t (ix2 r j)) = fun r => gated (A0 m c) j (row t.val r) :=
    funext fun r => congrArg₂ (· * ·) (b1 m c t r j) (b2 m c t r j)
  have e2 : (fun k => if (grid0.coords t 0).val = 0 then 0 else B3 m c t (ix2 k j) * B4 m c t (ix2 k j)) = halo (gated (A0 m c) j) t.val := by
    funext k
    unfold halo
    rw [(wins t).2.2.2.2.2.2.2]
    by_cases h : t.val = 0
    · rw [if_pos h, if_pos h]
    · rw [if_neg h, if_neg h]
      exact congrArg₂ (· * ·) (b3 m c t h k j) (b4 m c t h k j)
  refine (congrArg₂ (fun x h => bconv x h (fun k => B5 m c t (ix2 k j)) r) e1 e2).trans ?_
  rw [bconv_eq _ _ _ (lt16 t)]
  exact congrArg (fun w => conv (gated (A0 m c) j) w (row t.val r)) (funext fun k => b5 m c t k j)

/-- The point that writes a row, and the row's place in the point's block. -/
theorem place (r : Fin 8192) : ∃ (t : Fin cfg0.N) (p : Fin 512), row t.val p = r := by
  have hN : cfg0.N = 16 := N_0
  refine ⟨⟨r.val / 512, by omega⟩, ⟨r.val % 512, by omega⟩, Fin.ext ?_⟩
  show (512 * (r.val / 512) + r.val % 512) % 8192 = r.val
  omega

/-- The array after the launch. -/
theorem result6 (c : Dev nD) (r : Fin 8192) (j : Fin 256) :
    (dats m 0 c).arrAt 6 cfg0.N (ix2 r j : S8192x256.Idx) = res (A0 m c) (A1 m c) r j := by
  obtain ⟨t, p, rfl⟩ := place r
  have e := congrFun (Value.blocks6 m c t (flush0_6 t)) (ix2 p j)
  rw [View.read_apply, Value.flushed6] at e
  refine Eq.trans (congrArg _ ?_) (e.trans (block6 m c t p j))
  funext a
  apply Fin.ext
  match a with
  | ⟨0, _⟩ => show (row t.val p).val = win0_6.index t 0 * 512 + 1 * p.val; rw [(wins t).2.2.2.2.2.2.1.1, row_val _ (lt16 t)]; omega
  | ⟨1, _⟩ => show j.val = win0_6.index t 1 * 256 + 1 * j.val; rw [(wins t).2.2.2.2.2.2.1.2]; omega

end

/-! ### The reference -/

namespace Ref
open Cert.ScFwdRefIdeal Cert.ScFwdRefIdeal.Read

variable (x0 : Mat 8192 3584) (x1 : Mat 3 256)

/-- The rows with two rows of zeros over them. -/
theorem v9 (r : Fin 8194) (j : Fin 256) : val_main_v9 (F := Ideal) x0 (ix3 0 r j)
    = if h : r.val < 2 then 0 else gated x0 j ⟨r.val - 2, by omega⟩ := by
  pointwise [val_main_v9, val_main_v8, val_main_cst, val_main_v6, val_main_v3, val_main_v2, val_main_v5, val_main_v4]
  rfl
theorem v9_prev (s : ℕ) (hs : s ≤ 2) (r : Fin 8192) (j : Fin 256) (q : Fin 8194) (hq : q.val + s = r.val + 2) :
    val_main_v9 (F := Ideal) x0 (ix3 0 q j) = prev (gated x0 j) s r := by
  rw [v9]
  unfold prev
  by_cases h : q.val < 2
  · rw [dif_pos h, if_neg (by omega)]
  · rw [dif_neg h, if_pos (by omega)]
    exact congrArg (gated x0 j) (Fin.ext (show q.val - 2 = r.val - s by omega))
theorem v32 (r : Fin 8192) (j : Fin 256) : val_main_v32 (F := Ideal) x0 x1 (ix2 r j) = res x0 x1 r j := by
  pointwise [val_main_v32, val_main_v31, val_main_v30, val_main_v1, val_main_v0, val_main_v29, val_main_v28, val_main_v27, val_main_v26,
    val_main_v25, val_main_v24, val_main_v23, val_main_v22, val_main_v21, val_main_v20, val_main_v19, val_main_v18, val_main_v17,
    val_main_v16, val_main_v15, val_main_v14, val_main_v13, val_main_v12, val_main_v11, val_main_v10]
  refine congrArg (x0 (ix2 r (col 2 j)) * ·) ?_
  refine (congrArg₂ (· + ·) (congrArg₂ (· + ·) (congrArg (x1 (ix2 0 j) * ·) (v9_prev x0 2 (by decide) r j _ rfl))
    (congrArg (x1 (ix2 1 j) * ·) (v9_prev x0 1 (by decide) r j _ (by show 1 + r.val + 1 = r.val + 2; omega))))
    (congrArg (x1 (ix2 2 j) * ·) (v9_prev x0 0 (by decide) r j _ (by show 2 + r.val + 0 = r.val + 2; omega)))).trans ?_
  have e0 : prev (gated x0 j) 0 r = gated x0 j r := if_pos (Nat.zero_le _)
  unfold conv
  dsimp only
  rw [e0, mul_comm (x1 (ix2 0 j)), mul_comm (x1 (ix2 1 j)), mul_comm (x1 (ix2 2 j)), add_comm, add_comm (prev _ 2 r * _), add_assoc]

end Ref

/-! ### The claim -/

/-- The kernel and the reference end with the same gated rows. -/
theorem algebraic : Cert.algebraic_ScFwdIdeal_ScFwdRefIdeal := by
  intro m g m' g' _ hag
  refine ⟨fun c => (Cert.ScFwdIdeal.Gen.dats m 0 c).arrAt 6 Cert.ScFwdIdeal.cfg0.N, Cert.ScFwdIdeal.Value.run_blocks m g, ?_⟩
  refine (θ_run Cert.ScFwdRefIdeal.defs _ _).mono (fun r h c => ?_) (Cert.ScFwdRefIdeal.Value.run m' g')
  obtain ⟨e0, e1⟩ := hag c
  obtain ⟨h0, ha⟩ := h c
  refine ⟨(h0.trans (Cert.ScFwdRefIdeal.Read.val_main_v32_eq _ _)).trans ?_, ha⟩
  rw [e0, e1]
  exact ext2 fun r j => (Ref.v32 _ _ r j).trans (result6 m c r j).symm

/-- The reference ends, changes no argument and leaves every counter at zero. -/
theorem frame_ref : Cert.quiescent_ScFwdRefIdeal := fun m' g' _ =>
  (θ_run Cert.ScFwdRefIdeal.defs _ _).mono
    (fun r h => ⟨fun c => (h c).2, Idealize.ShloMosaic.sem_eq_zero_of_no_sems (by decide) r.2⟩)
    (Cert.ScFwdRefIdeal.Value.run m' g')

end Cert.ConvFwd

end
-- ==== Proof.ConvBwd.lean ====
/- The short convolution's backward launch: the blocks its points read and write, the carried halos, the sum over the points, and
   the four gradients of the reference. -/
module

public import proofs.«01_k».proof.Defs
public import proofs.«01_k».proof.Proof.ConvLeft
public import proofs.«01_k».proof.Proof.ConvFwd
public import proofs.«01_k».proof.Proof.SguClaim
public import proofs.«01_k».proof.Proof.Gen.ScBwdRefIdeal.Read
public import proofs.«01_k».proof.Proof.Gen.ScBwdRefIdeal.Run
public import proofs.«01_k».proof.Proof.Gen.Pre_sc_bwd_finite

@[expose] public section

noncomputable section

namespace Cert.ConvBwd

open Idealize.ShloMosaic Idealize.ShloMosaic.TcCoe Idealize.SL.Sem
open Cert.Sgu (ext2 Fin' fin_coe fin_mul fin_add fin_zero fin_of_lt)
open Cert.Prod Cert.Conv
open Cert.ConvFwd (col gated above)
open scoped BigOperators

/-- The gradient of the convolution: the gate times the cotangent. -/
def gg (p : Mat 8192 3584) (d : Mat 8192 1024) (j : Fin 256) : All := fun r => p (ix2 r (col 2 j)) * d (ix2 r ⟨256 + j.val, by omega⟩)
/-- A lane's three weights. -/
def wl (w : Mat 3 256) (j : Fin 256) : Fin 3 → EReal := fun k => w (ix2 k j)

section
open Cert.ScBwdIdeal Cert.ScBwdIdeal.Gen

variable (m : (ℓ : Loc nD τ sig) → Buf (Elt Ideal) ℓ)

/-! ### A point's blocks -/

/-- Where each window of a point lies. -/
theorem wins : ∀ t : Fin cfg0.N,
    (win0_0.index t 0 = 15 - t.val ∧ win0_0.index t 1 = 2) ∧ (win0_1.index t 0 = 15 - t.val ∧ win0_1.index t 1 = 3)
    ∧ (win0_2.index t 0 = 15 - t.val ∧ win0_2.index t 1 = 4) ∧ (win0_3.index t 0 = 64 * (15 - t.val) - 1 ∧ win0_3.index t 1 = 3)
    ∧ (win0_4.index t 0 = 64 * (15 - t.val) - 1 ∧ win0_4.index t 1 = 4) ∧ (win0_5.index t 0 = 15 - t.val ∧ win0_5.index t 1 = 1)
    ∧ (win0_6.index t 0 = 0 ∧ win0_6.index t 1 = 0) ∧ (grid0.coords t 0).val = t.val :=
  (by decide +kernel : ∀ t : Fin grid0.N, _)
theorem wins_out : ∀ t : Fin cfg0.N,
    (win0_7.index t 0 = 15 - t.val ∧ win0_7.index t 1 = 0) ∧ (win0_8.index t 0 = 15 - t.val ∧ win0_8.index t 1 = 0)
    ∧ (win0_9.index t 0 = 15 - t.val ∧ win0_9.index t 1 = 0) ∧ (win0_10.index t 0 = 0 ∧ win0_10.index t 1 = 0) :=
  (by decide +kernel : ∀ t : Fin grid0.N, _)

/-- What the host code prepares: the weights with five rows of zeros under them. -/
theorem V_v1 (c : Dev nD) : V m c main_v1 = concatenate S8x256 0
    [⟨S3x256, m ((c : Thread nD τ).loc main_arg2)⟩, ⟨S5x256, broadcastInDim S5x256 ![] bcast_S_S5x256 (constant (F := Ideal) S_ .f32 0x00000000#32)⟩]
    concatenates_S3x256_S5x256_S8x256_d0 := by
  unfold V
  after_results
/-- A lane of the prepared weights. -/
def w8 (c : Dev nD) (j : Fin 256) : Halo := fun k => (V m c main_v1 : Mat 8 256) (ix2 k j)
theorem w8_at (c : Dev nD) (j : Fin 256) (k : Fin 3) : w8 m c j ⟨k.val, by omega⟩ = wl (A2 m c) j k := by
  unfold w8 wl
  rw [V_v1]
  pointwise []

theorem lt16 (t : Fin cfg0.N) : t.val < 16 := lt_of_lt_of_eq t.isLt N_0
theorem blt (t : Fin cfg0.N) : 15 - t.val < 16 := by omega

theorem b0 (c : Dev nD) (t : Fin cfg0.N) (r : Fin 512) (j : Fin 256) : B0 m c t (ix2 r j) = A0 m c (ix2 (row (15 - t.val) r) (col 2 j)) := by
  unfold B0 iblk
  rw [View.read_apply]
  show V m c main_arg0 _ = _
  rw [V_main_arg0]
  exact at2 _ _ _ _ (by show win0_0.index t 0 * 512 + 1 * r.val = _; rw [(wins t).1.1, row_val _ (blt t)]; omega)
    (by show win0_0.index t 1 * 256 + 1 * j.val = 256 * 2 + j.val; rw [(wins t).1.2]; omega)
theorem b1 (c : Dev nD) (t : Fin cfg0.N) (r : Fin 512) (j : Fin 256) : B1 m c t (ix2 r j) = A0 m c (ix2 (row (15 - t.val) r) (col 3 j)) := by
  unfold B1 iblk
  rw [View.read_apply]
  show V m c main_arg0 _ = _
  rw [V_main_arg0]
  exact at2 _ _ _ _ (by show win0_1.index t 0 * 512 + 1 * r.val = _; rw [(wins t).2.1.1, row_val _ (blt t)]; omega)
    (by show win0_1.index t 1 * 256 + 1 * j.val = 256 * 3 + j.val; rw [(wins t).2.1.2]; omega)
theorem b2 (c : Dev nD) (t : Fin cfg0.N) (r : Fin 512) (j : Fin 256) : B2 m c t (ix2 r j) = A0 m c (ix2 (row (15 - t.val) r) (col 4 j)) := by
  unfold B2 iblk
  rw [View.read_apply]
  show V m c main_arg0 _ = _
  rw [V_main_arg0]
  exact at2 _ _ _ _ (by show win0_2.index t 0 * 512 + 1 * r.val = _; rw [(wins t).2.2.1.1, row_val _ (blt t)]; omega)
    (by show win0_2.index t 1 * 256 + 1 * j.val = 256 * 4 + j.val; rw [(wins t).2.2.1.2]; omega)
theorem b3 (c : Dev nD) (t : Fin cfg0.N) (h : t.val ≠ 15) (k : Fin 8) (j : Fin 256) :
    B3 m c t (ix2 k j) = A0 m c (ix2 (above (15 - t.val) k) (col 3 j)) := by
  unfold B3 iblk
  rw [View.read_apply]
  show V m c main_arg0 _ = _
  rw [V_main_arg0]
  have := lt16 t
  exact at2 _ _ _ _ (by show win0_3.index t 0 * 8 + 1 * k.val = (512 * (15 - t.val) + k.val - 8) % 8192; rw [(wins t).2.2.2.1.1]; omega)
    (by show win0_3.index t 1 * 256 + 1 * j.val = 256 * 3 + j.val; rw [(wins t).2.2.2.1.2]; omega)
theorem b4 (c : Dev nD) (t : Fin cfg0.N) (h : t.val ≠ 15) (k : Fin 8) (j : Fin 256) :
    B4 m c t (ix2 k j) = A0 m c (ix2 (above (15 - t.val) k) (col 4 j)) := by
  unfold B4 iblk
  rw [View.read_apply]
  show V m c main_arg0 _ = _
  rw [V_main_arg0]
  have := lt16 t
  exact at2 _ _ _ _ (by show win0_4.index t 0 * 8 + 1 * k.val = (512 * (15 - t.val) + k.val - 8) % 8192; rw [(wins t).2.2.2.2.1.1]; omega)
    (by show win0_4.index t 1 * 256 + 1 * j.val = 256 * 4 + j.val; rw [(wins t).2.2.2.2.1.2]; omega)
theorem b5 (c : Dev nD) (t : Fin cfg0.N) (r : Fin 512) (j : Fin 256) :
    B5 m c t (ix2 r j) = A1 m c (ix2 (row (15 - t.val) r) ⟨256 + j.val, by omega⟩) := by
  unfold B5 iblk
  rw [View.read_apply]
  show V m c main_arg1 _ = _
  rw [V_main_arg1]
  exact at2 _ _ _ _ (by show win0_5.index t 0 * 512 + 1 * r.val = _; rw [(wins t).2.2.2.2.2.1.1, row_val _ (blt t)]; omega)
    (by show win0_5.index t 1 * 256 + 1 * j.val = 256 + j.val; rw [(wins t).2.2.2.2.2.1.2]; omega)
theorem b6 (c : Dev nD) (t : Fin cfg0.N) (k : Fin 8) (j : Fin 256) : B6 m c t (ix2 k j) = w8 m c j k := by
  unfold B6 iblk w8
  rw [View.read_apply]
  show V m c main_v1 _ = _
  exact at2 (V m c main_v1 : Mat 8 256) _ k j (by show win0_6.index t 0 * 8 + 1 * k.val = k.val; rw [(wins t).2.2.2.2.2.2.1.1]; omega)
    (by show win0_6.index t 1 * 256 + 1 * j.val = j.val; rw [(wins t).2.2.2.2.2.2.1.2]; omega)

/-! ### What a point computes, a lane at a time -/

/-- A lane of the arrays. -/
abbrev G (c : Dev nD) (j : Fin 256) : All := gg (A0 m c) (A1 m c) j
abbrev X (c : Dev nD) (j : Fin 256) : All := gated (A0 m c) j

theorem gr_l (c : Dev nD) (t : Fin cfg0.N) (j : Fin 256) :
    (fun r => gr (B0 m c t) (B5 m c t) (ix2 r j)) = fun r => G m c j (row (15 - t.val) r) :=
  funext fun r => (gr_at _ _ r j).trans (congrArg₂ (· * ·) (b0 m c t r j) (b5 m c t r j))
theorem xs_l (c : Dev nD) (t : Fin cfg0.N) (j : Fin 256) :
    (fun r => xs (B1 m c t) (B2 m c t) (ix2 r j)) = fun r => X m c j (row (15 - t.val) r) :=
  funext fun r => (xs_at _ _ r j).trans (congrArg₂ (· * ·) (b1 m c t r j) (b2 m c t r j))
theorem hs_l (c : Dev nD) (t : Fin cfg0.N) (j : Fin 256) :
    (fun k => hs (grid0.coords t) (B3 m c t) (B4 m c t) (ix2 k j)) = halo (X m c j) (15 - t.val) := by
  funext k
  rw [hs_at, (wins t).2.2.2.2.2.2.2]
  unfold halo
  have := lt16 t
  by_cases h : t.val = 15
  · rw [if_pos h, if_pos (by omega)]
  · rw [if_neg h, if_neg (by omega)]
    exact congrArg₂ (· * ·) (b3 m c t h k j) (b4 m c t h k j)
theorem wt_l (c : Dev nD) (t : Fin cfg0.N) (j : Fin 256) : (fun k => wt (B6 m c t) (ix2 k j)) = w8 m c j :=
  funext fun k => (wt_at _ k j).trans (b6 m c t k j)

/-- The gate's gradient. -/
theorem pB_at (c : Dev nD) (t : Fin cfg0.N) (r : Fin 512) (j : Fin 256) : pB m c t (ix2 r j)
    = A1 m c (ix2 (row (15 - t.val) r) ⟨256 + j.val, by omega⟩) * conv (X m c j) (wl (A2 m c) j) (row (15 - t.val) r) := by
  unfold pB
  rw [oB_at, xs_l, hs_l, wt_l, b5, bconv_eq _ _ _ (blt t)]
  exact congrArg (fun w => _ * conv (X m c j) w (row (15 - t.val) r)) (funext fun k => w8_at m c j k)
/-- The rows' and the halo's gradients. -/
theorem pX_at (c : Dev nD) (t : Fin cfg0.N) (r : Fin 512) (j : Fin 256) : pX m c t (ix2 r j)
    = bdx (fun p => G m c j (row (15 - t.val) p)) (w8 m c j) r := by
  unfold pX
  rw [oX_at, gr_l, wt_l]
theorem pH_at (c : Dev nD) (t : Fin cfg0.N) (k : Fin 8) (j : Fin 256) : pH m c t (ix2 k j)
    = bhalo (fun p => G m c j (row (15 - t.val) p)) (w8 m c j) k := by
  unfold pH
  rw [oH_at, gr_l, wt_l]
/-- The part of the weights' gradient. -/
def part (c : Dev nD) (k : Fin 8) (j : Fin 256) (n : ℕ) (h : n < cfg0.N) : EReal :=
  bdw (fun r => X m c j (row (15 - n) r)) (halo (X m c j) (15 - n)) (fun r => G m c j (row (15 - n) r)) k
theorem pW_at (c : Dev nD) (t : Fin cfg0.N) (k : Fin 8) (j : Fin 256) : pW m c t (ix2 k j) = part m c k j t.val t.isLt := by
  unfold pW part
  rw [oW_at, gr_l, xs_l, hs_l]

/-! ### What is carried from a point to the next -/

/-- Every point leaves its part over something. -/
theorem left (c : Dev nD) (t : Fin cfg0.N) : ∃ w s0 s1, outsAt0 m c t.val t.isLt = leaves m c t w s0 s1 := by
  by_cases h0 : t.val % 16 = 0
  · exact ⟨_, _, _, (outsAt0_A m c t h0).trans (first_eq m c t h0)⟩
  · exact ⟨_, _, _, (outsAt0_B m c t h0).trans (later_eq m c t h0 _)⟩

/-- The halos a point leaves: its halo's gradient times the other factor's rows above the block, zero for the first block. -/
theorem carry_0 (c : Dev nD) (t : Fin cfg0.N) (h : t.val ≠ 15) (k : Fin 8) (j : Fin 256) : (outsAt0 m c t.val t.isLt).2.2.2.2.1 (ix2 k j)
    = bhalo (fun p => G m c j (row (15 - t.val) p)) (w8 m c j) k * A0 m c (ix2 (above (15 - t.val) k) (col 4 j)) := by
  obtain ⟨w, s0, s1, e⟩ := left m c t
  rw [e]
  unfold leaves
  dsimp only
  rw [pay37_at, pay7_at, pH_at, (wins t).2.2.2.2.2.2.2, if_neg h, b4 m c t h]
theorem carry_1 (c : Dev nD) (t : Fin cfg0.N) (h : t.val ≠ 15) (k : Fin 8) (j : Fin 256) : (outsAt0 m c t.val t.isLt).2.2.2.2.2 (ix2 k j)
    = A0 m c (ix2 (above (15 - t.val) k) (col 3 j)) * bhalo (fun p => G m c j (row (15 - t.val) p)) (w8 m c j) k := by
  obtain ⟨w, s0, s1, e⟩ := left m c t
  rw [e]
  unfold leaves
  dsimp only
  rw [pay1_at, pay6_at, pH_at, (wins t).2.2.2.2.2.2.2, if_neg h, b3 m c t h]

/-- The sum the points add up. -/
theorem sum_first (c : Dev nD) (t : Fin cfg0.N) (h0 : t.val % 16 = 0) (k : Fin 8) (j : Fin 256) :
    (outsAt0 m c t.val t.isLt).2.2.2.1 (ix2 k j) = part m c k j t.val t.isLt := by
  rw [outsAt0_A m c t h0, first_eq]
  unfold leaves
  dsimp only
  rw [pay2_at, pay5_at, pW_at, zero_add]
theorem sum_later (c : Dev nD) (n : ℕ) (h : n + 1 < cfg0.N) (h0 : ¬ (n + 1) % 16 = 0) (k : Fin 8) (j : Fin 256) :
    (outsAt0 m c (n + 1) h).2.2.2.1 (ix2 k j) = (outsAt0 m c n (Nat.lt_of_succ_lt h)).2.2.2.1 (ix2 k j) + part m c k j (n + 1) h := by
  rw [outsAt0_B m c ⟨n + 1, h⟩ h0, later_eq]
  unfold leaves
  dsimp only
  rw [pay2_at, pW_at]
  rfl
theorem sum_last (c : Dev nD) (h : 15 < cfg0.N) (k : Fin 8) (j : Fin 256) :
    (outsAt0 m c 15 h).2.2.2.1 (ix2 k j) = dw (X m c j) (G m c j) k := by
  have e := sum_run 16 (fun n h => (outsAt0 m c n h).2.2.2.1 (ix2 k j)) (part m c k j)
    (fun n h h0 => sum_first m c ⟨n, h⟩ h0 k j) (fun n h h0 => sum_later m c n h h0 k j) 0 15 (by decide) h
  refine e.trans ((Finset.sum_congr rfl fun q _ => ?_).trans (dw_blocks (X m c j) (G m c j) k))
  unfold part
  rw [Nat.mul_zero, Nat.zero_add]

/-! ### The results -/

/-- The rows of the projections the convolution reads, its cotangent and its weights are finite. -/
structure Fine (p : Mat 8192 3584) (d : Mat 8192 1024) (w : Mat 3 256) : Prop where
  p : ∀ (g : Fin 14) (hg : 2 ≤ g.val ∧ g.val ≤ 4) (r : Fin 8192) (j : Fin 256), Fin' (p (ix2 r (col g j)))
  d : ∀ (r : Fin 8192) (j : Fin 256), Fin' (d (ix2 r ⟨256 + j.val, by omega⟩))
  w : ∀ (k : Fin 3) (j : Fin 256), Fin' (w (ix2 k j))

theorem fin_bdx {g : Block} {w : Halo} (hg : ∀ r, Fin' (g r)) (hw : ∀ k : Fin 3, Fin' (w ⟨k.val, by omega⟩)) (r : Fin 512) : Fin' (bdx g w r) := by
  unfold bdx up
  refine fin_add (fin_add (fin_mul (hg r) (hw 2)) ?_) ?_
  · split
    · exact fin_mul (hg _) (hw 1)
    · exact fin_zero
  · split
    · exact fin_mul (hg _) (hw 0)
    · exact fin_zero
theorem fin_bhalo {g : Block} {w : Halo} (hg : ∀ r, Fin' (g r)) (hw : ∀ k : Fin 3, Fin' (w ⟨k.val, by omega⟩)) (k : Fin 8) : Fin' (bhalo g w k) := by
  unfold bhalo spill
  refine fin_add ?_ ?_
  · split
    · exact fin_mul (hg _) (hw 1)
    · exact fin_zero
  · split
    · exact fin_mul (hg _) (hw 0)
    · exact fin_zero
theorem spread {a b h : EReal} (ha : Fin' a) (hb : Fin' b) (hh : Fin' h) : (a + b) * h = a * h + b * h := by
  obtain ⟨a, rfl⟩ := fin_coe ha
  obtain ⟨b, rfl⟩ := fin_coe hb
  obtain ⟨h, rfl⟩ := fin_coe hh
  rw [← EReal.coe_add, ← EReal.coe_mul, ← EReal.coe_mul, ← EReal.coe_mul, ← EReal.coe_add, add_mul]

variable {m}
/-- A block's rows of the gradient times a factor: the point's part, and what the point before left for its last rows. -/
theorem rows_eq {c : Dev nD} (hf : Fine (A0 m c) (A1 m c) (A2 m c)) (t : Fin cfg0.N) (r : Fin 512) (j : Fin 256) (f : All)
    (hF : ∀ r, Fin' (f r)) :
    dx (G m c j) (wl (A2 m c) j) (row (15 - t.val) r) * f (row (15 - t.val) r)
      = pX m c t (ix2 r j) * f (row (15 - t.val) r)
        + if h : 504 ≤ r.val ∧ t.val ≠ 0 then
            bhalo (fun p => G m c j (row (15 - (t.val - 1)) p)) (w8 m c j) ⟨r.val - 504, by omega⟩
              * f (above (15 - (t.val - 1)) ⟨r.val - 504, by omega⟩) else 0 := by
  have ht := lt16 t
  have hG : ∀ r, Fin' (G m c j r) := fun r => fin_mul (hf.p 2 (by decide) r j) (hf.d r j)
  have hw : ∀ k : Fin 3, Fin' (w8 m c j ⟨k.val, by omega⟩) := fun k => by rw [w8_at]; exact hf.w k j
  rw [dx_eq _ _ _ (w8_at m c j) _ (blt t), pX_at]
  by_cases h : 504 ≤ r.val ∧ t.val ≠ 0
  · rw [dif_pos h, dif_pos (show 504 ≤ r.val ∧ 15 - t.val < 15 by omega),
      spread (fin_bdx (fun p => hG _) hw r) (fin_bhalo (fun p => hG _) hw _) (hF _)]
    have e1 : 15 - t.val + 1 = 15 - (t.val - 1) := by omega
    have e2 : row (15 - t.val) r = above (15 - (t.val - 1)) ⟨r.val - 504, by omega⟩ := Fin.ext (by
      rw [row_val _ (blt t)]
      show _ = (512 * (15 - (t.val - 1)) + (r.val - 504) - 8) % 8192
      omega)
    rw [e1, ← e2]
  · rw [dif_neg h, dif_neg (show ¬(504 ≤ r.val ∧ 15 - t.val < 15) by omega), add_zero, add_zero]

/-- The blocks of the two factors' gradients a point writes. -/
theorem out8_at {c : Dev nD} (hf : Fine (A0 m c) (A1 m c) (A2 m c)) (t : Fin cfg0.N) (r : Fin 512) (j : Fin 256) :
    (outsAt0 m c t.val t.isLt).2.1 (ix2 r j)
      = dx (G m c j) (wl (A2 m c) j) (row (15 - t.val) r) * A0 m c (ix2 (row (15 - t.val) r) (col 4 j)) := by
  rw [rows_eq hf t r j (fun r => A0 m c (ix2 r (col 4 j))) (fun r => hf.p 4 (by decide) r j)]
  have ht := lt16 t
  by_cases h0 : t.val % 16 = 0
  · rw [outsAt0_A m c t h0, first_eq]
    unfold leaves
    dsimp only
    rw [pay35_at, b2, dif_neg (show ¬(504 ≤ r.val ∧ t.val ≠ 0) by omega)]
    simp only [pay3_at, dite_eq_ite, ite_self]
  · rw [outsAt0_B m c t h0, later_eq]
    unfold leaves
    dsimp only
    rw [pay35_at, b2]
    refine congrArg (pX m c t (ix2 r j) * A0 m c (ix2 (row (15 - t.val) r) (col 4 j)) + ·) ?_
    by_cases h : 504 ≤ r.val
    · rw [dif_pos h, dif_pos (show 504 ≤ r.val ∧ t.val ≠ 0 by omega)]
      exact carry_0 m c ⟨t.val - 1, Nat.lt_of_le_of_lt (Nat.sub_le _ _) t.isLt⟩ (by show t.val - 1 ≠ 15; omega) ⟨r.val - 504, by omega⟩ j
    · rw [dif_neg h, dif_neg (show ¬(504 ≤ r.val ∧ t.val ≠ 0) by omega)]
theorem out9_at {c : Dev nD} (hf : Fine (A0 m c) (A1 m c) (A2 m c)) (t : Fin cfg0.N) (r : Fin 512) (j : Fin 256) :
    (outsAt0 m c t.val t.isLt).2.2.1 (ix2 r j)
      = dx (G m c j) (wl (A2 m c) j) (row (15 - t.val) r) * A0 m c (ix2 (row (15 - t.val) r) (col 3 j)) := by
  rw [rows_eq hf t r j (fun r => A0 m c (ix2 r (col 3 j))) (fun r => hf.p 3 (by decide) r j)]
  have ht := lt16 t
  by_cases h0 : t.val % 16 = 0
  · rw [outsAt0_A m c t h0, first_eq]
    unfold leaves
    dsimp only
    rw [pay36_at, b1, dif_neg (show ¬(504 ≤ r.val ∧ t.val ≠ 0) by omega), mul_comm (A0 m c _)]
    simp only [pay4_at, dite_eq_ite, ite_self]
  · rw [outsAt0_B m c t h0, later_eq]
    unfold leaves
    dsimp only
    rw [pay36_at, b1, mul_comm (A0 m c _)]
    refine congrArg (pX m c t (ix2 r j) * A0 m c (ix2 (row (15 - t.val) r) (col 3 j)) + ·) ?_
    by_cases h : 504 ≤ r.val
    · rw [dif_pos h, dif_pos (show 504 ≤ r.val ∧ t.val ≠ 0 by omega), mul_comm (bhalo _ _ _)]
      exact carry_1 m c ⟨t.val - 1, Nat.lt_of_le_of_lt (Nat.sub_le _ _) t.isLt⟩ (by show t.val - 1 ≠ 15; omega) ⟨r.val - 504, by omega⟩ j
    · rw [dif_neg h, dif_neg (show ¬(504 ≤ r.val ∧ t.val ≠ 0) by omega)]
theorem out7_at (c : Dev nD) (t : Fin cfg0.N) (r : Fin 512) (j : Fin 256) : (outsAt0 m c t.val t.isLt).1 (ix2 r j)
    = A1 m c (ix2 (row (15 - t.val) r) ⟨256 + j.val, by omega⟩) * conv (X m c j) (wl (A2 m c) j) (row (15 - t.val) r) := by
  obtain ⟨w, s0, s1, e⟩ := left m c t
  rw [e]
  exact pB_at m c t r j

/-- The point that writes a row, and the row's place in the point's block. -/
theorem place (r : Fin 8192) : ∃ (t : Fin cfg0.N) (p : Fin 512), row (15 - t.val) p = r := by
  have hN : cfg0.N = 16 := N_0
  refine ⟨⟨15 - r.val / 512, by omega⟩, ⟨r.val % 512, by omega⟩, Fin.ext ?_⟩
  show (512 * (15 - (15 - r.val / 512)) + r.val % 512) % 8192 = r.val
  omega

/-- The arrays after the launch. -/
theorem result7 (c : Dev nD) (r : Fin 8192) (j : Fin 256) : (dats m 0 c).arrAt 7 cfg0.N (ix2 r j : S8192x256.Idx)
    = A1 m c (ix2 r ⟨256 + j.val, by omega⟩) * conv (X m c j) (wl (A2 m c) j) r := by
  obtain ⟨t, p, rfl⟩ := place r
  have e := congrFun (blocks7 m c t (flush0_7 t)) (ix2 p j)
  rw [View.read_apply, flushed7] at e
  refine Eq.trans (congrArg _ ?_) (e.trans (out7_at c t p j))
  funext a
  apply Fin.ext
  match a with
  | ⟨0, _⟩ => show (row (15 - t.val) p).val = win0_7.index t 0 * 512 + 1 * p.val; rw [(wins_out t).1.1, row_val _ (blt t)]; omega
  | ⟨1, _⟩ => show j.val = win0_7.index t 1 * 256 + 1 * j.val; rw [(wins_out t).1.2]; omega
theorem result8 {c : Dev nD} (hf : Fine (A0 m c) (A1 m c) (A2 m c)) (r : Fin 8192) (j : Fin 256) :
    (dats m 0 c).arrAt 8 cfg0.N (ix2 r j : S8192x256.Idx) = dx (G m c j) (wl (A2 m c) j) r * A0 m c (ix2 r (col 4 j)) := by
  obtain ⟨t, p, rfl⟩ := place r
  have e := congrFun (blocks8 m c t (flush0_8 t)) (ix2 p j)
  rw [View.read_apply, flushed8] at e
  refine Eq.trans (congrArg _ ?_) (e.trans (out8_at hf t p j))
  funext a
  apply Fin.ext
  match a with
  | ⟨0, _⟩ => show (row (15 - t.val) p).val = win0_8.index t 0 * 512 + 1 * p.val; rw [(wins_out t).2.1.1, row_val _ (blt t)]; omega
  | ⟨1, _⟩ => show j.val = win0_8.index t 1 * 256 + 1 * j.val; rw [(wins_out t).2.1.2]; omega
theorem result9 {c : Dev nD} (hf : Fine (A0 m c) (A1 m c) (A2 m c)) (r : Fin 8192) (j : Fin 256) :
    (dats m 0 c).arrAt 9 cfg0.N (ix2 r j : S8192x256.Idx) = dx (G m c j) (wl (A2 m c) j) r * A0 m c (ix2 r (col 3 j)) := by
  obtain ⟨t, p, rfl⟩ := place r
  have e := congrFun (blocks9 m c t (flush0_9 t)) (ix2 p j)
  rw [View.read_apply, flushed9] at e
  refine Eq.trans (congrArg _ ?_) (e.trans (out9_at hf t p j))
  funext a
  apply Fin.ext
  match a with
  | ⟨0, _⟩ => show (row (15 - t.val) p).val = win0_9.index t 0 * 512 + 1 * p.val; rw [(wins_out t).2.2.1.1, row_val _ (blt t)]; omega
  | ⟨1, _⟩ => show j.val = win0_9.index t 1 * 256 + 1 * j.val; rw [(wins_out t).2.2.1.2]; omega
theorem result10 (c : Dev nD) (k : Fin 8) (j : Fin 256) :
    (dats m 0 c).arrAt 10 cfg0.N (ix2 k j : S8x256.Idx) = dw (X m c j) (G m c j) k := by
  have hN : cfg0.N = 16 := N_0
  let t : Fin cfg0.N := ⟨15, by omega⟩
  have hb := (dats m 0 c).read_blk_arrAt_eq_flushed 10
    (fun t t' hf hf' hne => absurd (Fin.ext (by
      have h1 := (flush0_10 t).1 hf
      have h2 := (flush0_10 t').1 hf'
      have := lt16 t
      have := lt16 t'
      omega)) hne) cfg0.N t t.isLt ((flush0_10 t).2 rfl)
  have e := congrFun hb (ix2 k j)
  rw [View.read_apply, flushed10] at e
  refine Eq.trans (congrArg _ ?_) (e.trans (sum_last m c t.isLt k j))
  funext a
  apply Fin.ext
  match a with
  | ⟨0, _⟩ => show k.val = win0_10.index t 0 * 8 + 1 * k.val; rw [(wins_out t).2.2.2.1]; omega
  | ⟨1, _⟩ => show j.val = win0_10.index t 1 * 256 + 1 * j.val; rw [(wins_out t).2.2.2.2]; omega

end

/-! ### The reference -/

namespace Ref
open Cert.ScBwdRefIdeal Cert.ScBwdRefIdeal.Read

variable (x0 : Mat 8192 3584) (x1 : Mat 8192 1024) (x2 : Mat 3 256)

/-- The rows with two rows of zeros over them. -/
theorem v11_prev (s : ℕ) (hs : s ≤ 2) (r : Fin 8192) (j : Fin 256) (q : Fin 8194) (hq : q.val + s = r.val + 2) :
    val_main_v11 (F := Ideal) x0 (ix3 0 q j) = prev (gated x0 j) s r := Cert.ConvFwd.Ref.v9_prev x0 s hs r j q hq
theorem v34 (r : Fin 8192) (j : Fin 256) : val_main_v34 (F := Ideal) x0 x1 (ix3 0 r j) = gg x0 x1 j r := by
  pointwise [val_main_v34, val_main_v1, val_main_v0, val_main_v7, val_main_v6]
  rfl

/-- The gate's gradient. -/
theorem v74 (r : Fin 8192) (j : Fin 256) : val_main_v74 (F := Ideal) x0 x1 x2 (ix2 r j)
    = x1 (ix2 r ⟨256 + j.val, by omega⟩) * conv (gated x0 j) (wl x2 j) r := by
  pointwise [val_main_v74, val_main_v73, val_main_v35, val_main_v7, val_main_v6, val_main_v32, val_main_v31, val_main_v30, val_main_v29,
    val_main_v28, val_main_v27, val_main_v26, val_main_v25, val_main_v24, val_main_v23, val_main_v22, val_main_v21, val_main_v20,
    val_main_v19, val_main_v18, val_main_v17, val_main_v16, val_main_v15, val_main_v14, val_main_v13]
  refine congrArg (x1 (ix2 r ⟨256 + j.val, by omega⟩) * ·) ?_
  refine (congrArg₂ (· + ·) (congrArg₂ (· + ·) (congrArg (x2 (ix2 0 j) * ·) (v11_prev x0 2 (by decide) r j _ rfl))
    (congrArg (x2 (ix2 1 j) * ·) (v11_prev x0 1 (by decide) r j _ (by show 1 + r.val + 1 = r.val + 2; omega))))
    (congrArg (x2 (ix2 2 j) * ·) (v11_prev x0 0 (by decide) r j _ (by show 2 + r.val + 0 = r.val + 2; omega)))).trans ?_
  have e0 : prev (gated x0 j) 0 r = gated x0 j r := if_pos (Nat.zero_le _)
  unfold conv wl
  rw [e0, mul_comm (x2 (ix2 0 j)), mul_comm (x2 (ix2 1 j)), mul_comm (x2 (ix2 2 j)), add_comm, add_comm (prev _ 2 r * _), add_assoc]

theorem v37 (r : Fin 8192) (j : Fin 256) : val_main_v37 (F := Ideal) x0 x1 x2 (ix3 0 r j) = gg x0 x1 j r * wl x2 j 2 := by
  pointwise [val_main_v37, val_main_v36, val_main_v29, val_main_v27, val_main_v26, v34]
  exact mul_comm _ _
theorem v46 (r : Fin 8192) (j : Fin 256) : val_main_v46 (F := Ideal) x0 x1 x2 (ix3 0 r j) = gg x0 x1 j r * wl x2 j 1 := by
  pointwise [val_main_v46, val_main_v45, val_main_v22, val_main_v20, val_main_v19, v34]
  exact mul_comm _ _
theorem v57 (r : Fin 8192) (j : Fin 256) : val_main_v57 (F := Ideal) x0 x1 x2 (ix3 0 r j) = gg x0 x1 j r * wl x2 j 0 := by
  pointwise [val_main_v57, val_main_v56, val_main_v16, val_main_v14, val_main_v13, v34]
  exact mul_comm _ _
theorem v68 (r : Fin 8192) (j : Fin 256) : val_main_v68 (F := Ideal) x0 x1 x2 (ix3 0 r j) = dx (gg x0 x1 j) (wl x2 j) r := by
  pointwise [val_main_v68, val_main_v63, val_main_v52, val_main_v42, val_main_v51, val_main_v62, val_main_cst_3, val_main_cst_7, val_main_cst_11]
  unfold dx next
  rw [v37]
  refine congrArg₂ (· + ·) (congrArg (gg x0 x1 j r * wl x2 j 2 + ·) ?_) ?_
  · by_cases h : r.val + 1 < 8192
    · rw [dif_pos h, dif_pos (show 1 ≤ 2 + r.val ∧ 2 + r.val - 1 < 8192 by omega), v46]
      have e : (⟨2 + r.val - 1, by omega⟩ : Fin 8192) = ⟨r.val + 1, h⟩ := Fin.ext (show 2 + r.val - 1 = r.val + 1 by omega)
      rw [e]
    · rw [dif_neg h, dif_neg (show ¬(1 ≤ 2 + r.val ∧ 2 + r.val - 1 < 8192) by omega)]
  · by_cases h : r.val + 2 < 8192
    · rw [dif_pos h, dif_pos (show 2 + r.val < 8192 by omega), v57]
      have e : (⟨2 + r.val, by omega⟩ : Fin 8192) = ⟨r.val + 2, h⟩ := Fin.ext (show 2 + r.val = r.val + 2 by omega)
      rw [e]
    · rw [dif_neg h, dif_neg (show ¬(2 + r.val < 8192) by omega)]
theorem v76 (r : Fin 8192) (j : Fin 256) : val_main_v76 (F := Ideal) x0 x1 x2 (ix2 r j)
    = dx (gg x0 x1 j) (wl x2 j) r * x0 (ix2 r (col 4 j)) := by
  pointwise [val_main_v76, val_main_v75, val_main_v70, val_main_v5, val_main_v4, v68]
  rfl
theorem v78 (r : Fin 8192) (j : Fin 256) : val_main_v78 (F := Ideal) x0 x1 x2 (ix2 r j)
    = dx (gg x0 x1 j) (wl x2 j) r * x0 (ix2 r (col 3 j)) := by
  pointwise [val_main_v78, val_main_v77, val_main_v69, val_main_v3, val_main_v2, v68]
  exact mul_comm _ _

theorem v38 (r : Fin 8192) (j : Fin 256) : val_main_v38 (F := Ideal) x0 x1 (ix3 0 r j) = prev (gated x0 j) 0 r * gg x0 x1 j r := by
  pointwise [val_main_v38, val_main_v28, v34]
  rw [v11_prev x0 0 (by decide) r j _ (by show 2 + r.val + 0 = r.val + 2; omega)]
  exact mul_comm _ _
theorem v47 (r : Fin 8192) (j : Fin 256) : val_main_v47 (F := Ideal) x0 x1 (ix3 0 r j) = prev (gated x0 j) 1 r * gg x0 x1 j r := by
  pointwise [val_main_v47, val_main_v21, v34]
  rw [v11_prev x0 1 (by decide) r j _ (by show 1 + r.val + 1 = r.val + 2; omega)]
  exact mul_comm _ _
theorem v58 (r : Fin 8192) (j : Fin 256) : val_main_v58 (F := Ideal) x0 x1 (ix3 0 r j) = prev (gated x0 j) 2 r * gg x0 x1 j r := by
  pointwise [val_main_v58, val_main_v15, v34]
  rw [v11_prev x0 2 (by decide) r j _ rfl]
  exact mul_comm _ _
/-- A sum over two axes of one place each is that place. -/
theorem sum_one (x : Stack 1 1 256) (a : EReal) (j : Fin 256) :
    Ideal.hostReduceAdd Cert.ScBwdRefIdeal.Gen.reducesTo_S1x1x256_S256_d0_1 x a (ix1 j) = a + x (ix3 0 0 j) :=
  (Cert.Sgu.Ref.sum_axes (K := Unit) _ x a (ix1 j) (fun _ => ix3 0 0 j) (fun _ => ()) (fun _ => by
    funext a
    match a with
    | ⟨0, _⟩ => rfl) (fun _ => rfl) (fun i hi => by
    have h := congrFun hi 0
    rw [eq_ix3 i]
    funext a
    match a with
    | ⟨0, _⟩ => exact Subsingleton.elim (α := Fin 1) _ _
    | ⟨1, _⟩ => exact Subsingleton.elim (α := Fin 1) _ _
    | ⟨2, _⟩ => exact h.symm)).trans (congrArg (a + ·) (Fintype.sum_unique _))
theorem v41 (j : Fin 256) : val_main_v41 (F := Ideal) x0 x1 (ix1 j) = ∑ r, prev (gated x0 j) 0 r * gg x0 x1 j r := by
  refine (sum_one (val_main_v40 (F := Ideal) x0 x1) _ j).trans ?_
  pointwise [val_main_cst_2, val_main_v40, val_main_v39, val_main_cst_1, v38]
theorem v50 (j : Fin 256) : val_main_v50 (F := Ideal) x0 x1 (ix1 j) = ∑ r, prev (gated x0 j) 1 r * gg x0 x1 j r := by
  refine (sum_one (val_main_v49 (F := Ideal) x0 x1) _ j).trans ?_
  pointwise [val_main_cst_6, val_main_v49, val_main_v48, val_main_cst_5, v47]
theorem v61 (j : Fin 256) : val_main_v61 (F := Ideal) x0 x1 (ix1 j) = ∑ r, prev (gated x0 j) 2 r * gg x0 x1 j r := by
  refine (sum_one (val_main_v60 (F := Ideal) x0 x1) _ j).trans ?_
  pointwise [val_main_cst_10, val_main_v60, val_main_v59, val_main_cst_9, v58]
theorem v66 (k : Fin 3) (j : Fin 256) : val_main_v66 (F := Ideal) x0 x1 (ix2 k j)
    = ∑ r, prev (gated x0 j) (2 - k.val) r * gg x0 x1 j r := by
  pointwise [val_main_v66, val_main_v55, val_main_v44, val_main_v54, val_main_v65, val_main_v43, val_main_v53, val_main_v64, val_main_cst_4,
    val_main_cst_8, val_main_cst_12, v41, v50, v61]
  match k with
  | ⟨0, _⟩ => simp
  | ⟨1, _⟩ => simp
  | ⟨2, _⟩ => simp
theorem v72 (k : Fin 8) (j : Fin 256) : val_main_v72 (F := Ideal) x0 x1 (ix2 k j) = dw (gated x0 j) (gg x0 x1 j) k := by
  unfold dw
  by_cases h : k.val ≤ 2
  · have h' : k.val < 3 := by omega
    pointwise [val_main_v72, val_main_v71, val_main_cst_13, h']
    rw [if_pos h]
    exact v66 x0 x1 ⟨k.val, h'⟩ j
  · have h' : ¬ k.val < 3 := by omega
    pointwise [val_main_v72, val_main_v71, val_main_cst_13, h']
    rw [if_neg h]

end Ref

/-! ### The claim -/

section
open Cert.Pre_sc_bwd_finite
/-- The rows, the cotangent and the weights are finite where the precondition holds. -/
theorem pre_fin (x0 : FVec Ideal S8192x3584 .f32) (x1 : FVec Ideal S8192x1024 .f32) (x2 : FVec Ideal S3x256 .f32)
    (h : Cert.Pre_sc_bwd_finite.fn (F := Ideal) x0 x1 x2 = fun _ => 1#1) : Fine x0 x1 x2 := by
  have h0 := congrFun h ValueIdx.ix0
  dsimp only [Cert.Pre_sc_bwd_finite.fn] at h0
  obtain ⟨hab, hw⟩ := IntOp.andi_eq_one.1 h0
  obtain ⟨ha, hb⟩ := IntOp.andi_eq_one.1 hab
  haveI : Subsingleton S_.Idx := ⟨fun a b => funext fun i => i.elim0⟩
  refine ⟨fun g hg r j => ?_, fun r j => ?_, fun k j => fin_of_lt (Host.reduce_andi_all _ _ _ _ _ hw (ValueIdx.ix2 k j))⟩
  · have hq : 256 * (g.val - 2) + j.val < 768 := by omega
    have h1 := Host.reduce_andi_all _ _ _ _ _ ha (ValueIdx.ix2 r ⟨256 * (g.val - 2) + j.val, hq⟩)
    have e : col g j = ⟨512 + (256 * (g.val - 2) + j.val), by omega⟩ := Fin.ext (by show 256 * g.val + j.val = 512 + (256 * (g.val - 2) + j.val); omega)
    refine fin_of_lt (Eq.trans ?_ h1)
    rw [e]
    symm; pointwise []; rfl
  · have h1 := Host.reduce_andi_all _ _ _ _ _ hb (ValueIdx.ix2 r j)
    refine fin_of_lt (Eq.trans ?_ h1)
    symm; pointwise []; rfl
end

/-- The kernel and the reference end with the same four gradients where the rows, the cotangent and the weights are finite. -/
theorem algebraic : Cert.algebraic_ScBwdIdeal_ScBwdRefIdeal_pre_sc_bwd_finite := by
  intro m g m' g' hpre hag
  refine ⟨fun c => (Cert.ConvBwd.dats m 0 c).arrAt 7 Cert.ScBwdIdeal.cfg0.N, fun c => (Cert.ConvBwd.dats m 0 c).arrAt 8 Cert.ScBwdIdeal.cfg0.N,
    fun c => (Cert.ConvBwd.dats m 0 c).arrAt 9 Cert.ScBwdIdeal.cfg0.N, fun c => (Cert.ConvBwd.dats m 0 c).arrAt 10 Cert.ScBwdIdeal.cfg0.N,
    Cert.ConvBwd.run_blocks m g, ?_⟩
  refine (θ_run Cert.ScBwdRefIdeal.defs _ _).mono (fun r h c => ?_) (Cert.ScBwdRefIdeal.Value.run m' g')
  obtain ⟨e0, e1, e2⟩ := hag c
  obtain ⟨h7, h8, h9, h10, ha⟩ := h c
  have hf : Fine (A0 m c) (A1 m c) (A2 m c) := pre_fin _ _ _ (hpre c)
  refine ⟨(h7.trans (Cert.ScBwdRefIdeal.Read.val_main_v74_eq _ _ _)).trans ?_, (h8.trans (Cert.ScBwdRefIdeal.Read.val_main_v76_eq _ _ _)).trans ?_,
    (h9.trans (Cert.ScBwdRefIdeal.Read.val_main_v78_eq _ _ _)).trans ?_, (h10.trans (Cert.ScBwdRefIdeal.Read.val_main_v72_eq _ _)).trans ?_, ha⟩
  · rw [e0, e1, e2]
    exact ext2 fun r j => (Ref.v74 _ _ _ r j).trans (result7 c r j).symm
  · rw [e0, e1, e2]
    exact ext2 fun r j => (Ref.v76 _ _ _ r j).trans (result8 hf r j).symm
  · rw [e0, e1, e2]
    exact ext2 fun r j => (Ref.v78 _ _ _ r j).trans (result9 hf r j).symm
  · rw [e0, e1]
    exact ext2 fun k j => (Ref.v72 _ _ k j).trans (result10 c k j).symm

/-- The reference ends, changes no argument and leaves every counter at zero. -/
theorem frame_ref : Cert.quiescent_ScBwdRefIdeal := fun m' g' _ =>
  (θ_run Cert.ScBwdRefIdeal.defs _ _).mono
    (fun r h => ⟨fun c => (h c).2.2.2.2, Idealize.ShloMosaic.sem_eq_zero_of_no_sems (by decide) r.2⟩)
    (Cert.ScBwdRefIdeal.Value.run m' g')

end Cert.ConvBwd

end
-- ==== Proof.SguOut.lean ====
/- The value claim of the spatial gating unit's forward kernel: from finite shifts it and the reference end with the same
   array. A block of it is the gate's gelu times the mixed value, which is what the backward kernel computes as the gate's
   cotangent when the cotangent it is given is that gelu. -/
module

public import proofs.«01_k».proof.Defs
public import proofs.«01_k».proof.Proof.SguClaim
public import proofs.«01_k».proof.Proof.Cat
public import proofs.«01_k».proof.Proof.Gen.Pre_sgu_finite
public import proofs.«01_k».proof.Proof.Gen.SguFwdIdeal.Value
public import proofs.«01_k».proof.Proof.Gen.SguFwdRefIdeal.Read
public import proofs.«01_k».proof.Proof.Gen.SguFwdRefIdeal.Run

@[expose] public section

noncomputable section

namespace Cert.SguOut

open Idealize.ShloMosaic Idealize.ShloMosaic.TcCoe Idealize.SL.Sem Cert.Sgu
open Cert.Prod (Mat)
open scoped BigOperators

section
open Cert.SguFwdIdeal Cert.SguFwdIdeal.Gen Cert.SguFwdIdeal.Value

/-- A point's blocks, the cotangent's place taken by the gate's gelu. -/
def fwd (x0 x1 : Vec Ideal S512x256 .f32) (x2 x3 : Vec Ideal S1x256 .f32) (x4 : Vec Ideal S4x128x128 .f32)
    (x5 : Vec Ideal S128x128 .f32) : Blk :=
  Cert.Sgu.blk x0 x1 (Blk.gu (Cert.Sgu.blk x0 x1 x0 x2 x3 x4 x5)) x2 x3 x4 x5

/-- What a point leaves in its block: the gelu times the mixed value. -/
theorem out_eq (x0 x1 : Vec Ideal S512x256 .f32) (x2 x3 : Vec Ideal S1x256 .f32) (x4 : Vec Ideal S4x128x128 .f32)
    (x5 : Vec Ideal S128x128 .f32) (i : S512x256.Idx) : out0_6 (F := Ideal) x0 x1 x2 x3 x4 x5 i = (fwd x0 x1 x2 x3 x4 x5).du i := by
  unfold_out out0_6
  rw [View.canon_unit_zero hz]
  simp only [View.ld_unit_zero (S := S512x256) hz, View.ld_unit_zero (S := S1x256) hz, View.ld_unit_zero (S := S128x128) hz]
  rfl
/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 0) ∧ (win0_1.index t 0 = t.val ∧ win0_1.index t 1 = 1)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) :=
  (by decide +kernel : ∀ t : Fin grid0.N, _)

/-- What the host code prepares: the normalization's scale and shift as rows, the mixing shifts a lane a head. -/
theorem V_v0 (c : Dev nD) : V m c main_v0 = broadcastInDim S1x256 ![1] bcast_S256_S1x256_1 (m ((c : Thread nD τ).loc main_arg1)) := by
  unfold V
  after_results
theorem V_v1 (c : Dev nD) : V m c main_v1 = broadcastInDim S1x256 ![1] bcast_S256_S1x256_1 (m ((c : Thread nD τ).loc main_arg2)) := by
  unfold V
  after_results
theorem V_v4 (c : Dev nD) : V m c main_v4 = concatenate S128x128 1
    [⟨S128x4, transpose S128x4 [1, 0] (m ((c : Thread nD τ).loc main_arg4)) transposes_S4x128_S128x4_1_0⟩,
     ⟨S128x124, broadcastInDim S128x124 ![] bcast_S_S128x124 (constant (F := Ideal) S_ .f32 0x00000000#32)⟩]
    concatenates_S128x4_S128x124_S128x128_d1 := by
  unfold V
  after_results

/-- The launch's arguments; the forward kernel takes no cotangent. -/
abbrev arg (c : Dev nD) : Args :=
  Cert.Sgu.Ref.A (m ((c : Thread nD τ).loc main_arg0)) (fun _ => 0) (m ((c : Thread nD τ).loc main_arg1))
    (m ((c : Thread nD τ).loc main_arg2)) (m ((c : Thread nD τ).loc main_arg3)) (m ((c : Thread nD τ).loc main_arg4))
/-- A point's blocks. -/
abbrev B (c : Dev nD) (t : Fin cfg0.N) : Blk :=
  fwd (iblk m c 0 t) (iblk m c 1 t) (iblk m c 2 t) (iblk m c 3 t) (iblk m c 4 t) (iblk m c 5 t)

/-- A point as a number below sixteen. -/
def pt (t : Fin cfg0.N) : Fin 16 := ⟨t.val, lt_of_lt_of_eq t.isLt N_0⟩

theorem b0 (c : Dev nD) (t : Fin cfg0.N) (q : Fin 4) (s : Fin 128) (j : Fin 256) :
    (iblk m c 0 t : Mat 512 256) (ix2 (Blk.at_ q s) j) = (arg m c).pu (row (ch (pt t) q) s) j := by
  unfold iblk
  rw [View.read_apply]
  show V m c main_arg0 _ = _
  rw [V_main_arg0]
  exact Cert.Prod.at2 _ _ _ _
    (by show win0_0.index t 0 * 512 + 1 * (128 * q.val + s.val) = 128 * (4 * t.val + q.val) + s.val; rw [(wins t).1.1]; omega)
    (by show win0_0.index t 1 * 256 + 1 * j.val = j.val; rw [(wins t).1.2]; omega)
theorem b1 (c : Dev nD) (t : Fin cfg0.N) (q : Fin 4) (s : Fin 128) (j : Fin 256) :
    (iblk m c 1 t : Mat 512 256) (ix2 (Blk.at_ q s) j) = (arg m c).pv (row (ch (pt t) q) s) j := by
  unfold iblk
  rw [View.read_apply]
  show V m c main_arg0 _ = _
  rw [V_main_arg0]
  exact Cert.Prod.at2 _ _ _ _
    (by show win0_1.index t 0 * 512 + 1 * (128 * q.val + s.val) = 128 * (4 * t.val + q.val) + s.val; rw [(wins t).2.1.1]; omega)
    (by show win0_1.index t 1 * 256 + 1 * j.val = 256 + j.val; rw [(wins t).2.1.2]; omega)
theorem b2 (c : Dev nD) (t : Fin cfg0.N) (j : Fin 256) : (iblk m c 2 t : Mat 1 256) (ix2 0 j) = (arg m c).w j := by
  unfold iblk
  rw [View.read_apply]
  show V m c main_v0 _ = _
  rw [V_v0]
  refine (Cert.Prod.at2 _ _ (0 : Fin 1) j (by show win0_2.index t 0 * 1 + 1 * 0 = 0; rw [(wins t).2.2.1.1])
    (by show win0_2.index t 1 * 256 + 1 * j.val = j.val; rw [(wins t).2.2.1.2]; omega)).trans ?_
  pointwise []
theorem b3 (c : Dev nD) (t : Fin cfg0.N) (j : Fin 256) : (iblk m c 3 t : Mat 1 256) (ix2 0 j) = (arg m c).b j := by
  unfold iblk
  rw [View.read_apply]
  show V m c main_v1 _ = _
  rw [V_v1]
  refine (Cert.Prod.at2 _ _ (0 : Fin 1) j (by show win0_3.index t 0 * 1 + 1 * 0 = 0; rw [(wins t).2.2.2.1.1])
    (by show win0_3.index t 1 * 256 + 1 * j.val = j.val; rw [(wins t).2.2.2.1.2]; omega)).trans ?_
  pointwise []
theorem b4 (c : Dev nD) (t : Fin cfg0.N) (h : Fin 4) (x s : Fin 128) :
    (iblk m c 4 t : Vec Ideal S4x128x128 .f32) (ix3 h x s) = (arg m c).W h x s := by
  unfold iblk
  rw [View.read_apply]
  show V m c main_arg3 _ = _
  rw [V_main_arg3]
  refine congrArg _ (funext fun a => Fin.ext ?_)
  match a with
  | ⟨0, _⟩ => show win0_4.index t 0 * 4 + 1 * h.val = h.val; rw [(wins t).2.2.2.2.1.1]; omega
  | ⟨1, _⟩ => show win0_4.index t 1 * 128 + 1 * x.val = x.val; rw [(wins t).2.2.2.2.1.2.1]; omega
  | ⟨2, _⟩ => show win0_4.index t 2 * 128 + 1 * s.val = s.val; rw [(wins t).2.2.2.2.1.2.2]; omega
theorem b5 (c : Dev nD) (t : Fin cfg0.N) (x y : Fin 128) :
    (iblk m c 5 t : Mat 128 128) (ix2 x y) = if h : y.val < 4 then (arg m c).S ⟨y.val, h⟩ x else 0 := by
  unfold iblk
  rw [View.read_apply]
  show V m c main_v4 _ = _
  rw [V_v4]
  refine (Cert.Prod.at2 _ _ x y (by show win0_5.index t 0 * 128 + 1 * x.val = x.val; rw [(wins t).2.2.2.2.2.1.1]; omega)
    (by show win0_5.index t 1 * 128 + 1 * y.val = y.val; rw [(wins t).2.2.2.2.2.1.2]; omega)).trans ?_
  pointwise []

/-! ### A point's chunks -/

theorem B_W (c : Dev nD) (t : Fin cfg0.N) : (B m c t).W = (arg m c).W := by
  funext h x s
  refine Eq.trans ?_ (b4 m c t h x s)
  match h with
  | 0 => show Cert.KernelIdeal.Gen.k0_pay4 (F := Ideal) (View.ld (iblk m c 4 t : Vec Ideal S4x128x128 .f32) (Rect.unit ![0, 0, 0] ![1, 128, 128] inb_S4x128x128_S1x128x128_0_0_0)) (ix2 x s) = _; pointwise [Cert.KernelIdeal.Gen.k0_pay4]
  | 1 => show Cert.KernelIdeal.Gen.k0_pay5 (F := Ideal) (View.ld (iblk m c 4 t : Vec Ideal S4x128x128 .f32) (Rect.unit ![1, 0, 0] ![1, 128, 128] inb_S4x128x128_S1x128x128_1_0_0)) (ix2 x s) = _; pointwise [Cert.KernelIdeal.Gen.k0_pay5]
  | 2 => show Cert.KernelIdeal.Gen.k0_pay6 (F := Ideal) (View.ld (iblk m c 4 t : Vec Ideal S4x128x128 .f32) (Rect.unit ![2, 0, 0] ![1, 128, 128] inb_S4x128x128_S1x128x128_2_0_0)) (ix2 x s) = _; pointwise [Cert.KernelIdeal.Gen.k0_pay6]
  | 3 => show Cert.KernelIdeal.Gen.k0_pay7 (F := Ideal) (View.ld (iblk m c 4 t : Vec Ideal S4x128x128 .f32) (Rect.unit ![3, 0, 0] ![1, 128, 128] inb_S4x128x128_S1x128x128_3_0_0)) (ix2 x s) = _; pointwise [Cert.KernelIdeal.Gen.k0_pay7]
theorem B_bs (c : Dev nD) (t : Fin cfg0.N) (x y : Fin 128) :
    (B m c t).bs (ix2 x y) = if h : y.val < 4 then (arg m c).S ⟨y.val, h⟩ x else 0 := by
  refine Eq.trans ?_ (b5 m c t x y)
  show Cert.KernelIdeal.Gen.k0_pay8 (F := Ideal) (iblk m c 5 t) (ix2 x y) = _
  pointwise [Cert.KernelIdeal.Gen.k0_pay8]
theorem B_S (c : Dev nD) (t : Fin cfg0.N) : (B m c t).S = (arg m c).S := by
  funext h x
  exact (B_bs m c t x ⟨h.val, by omega⟩).trans (dif_pos h.isLt)
theorem B_lw (c : Dev nD) (t : Fin cfg0.N) : (B m c t).lw = (arg m c).w := by
  funext j
  refine Eq.trans ?_ (b2 m c t j)
  show Cert.KernelIdeal.Gen.k0_pay2 (F := Ideal) (iblk m c 2 t) (ix2 0 j) = _
  pointwise [Cert.KernelIdeal.Gen.k0_pay2]
theorem B_lb (c : Dev nD) (t : Fin cfg0.N) : (B m c t).lb = (arg m c).b := by
  funext j
  refine Eq.trans ?_ (b3 m c t j)
  show Cert.KernelIdeal.Gen.k0_pay3 (F := Ideal) (iblk m c 3 t) (ix2 0 j) = _
  pointwise [Cert.KernelIdeal.Gen.k0_pay3]
theorem B_V (c : Dev nD) (t : Fin cfg0.N) (q : Fin 4) : (B m c t).V q = (arg m c).V (ch (pt t) q) := by
  funext s
  show vn (B m c t).lw (B m c t).lb ((B m c t).pr (Blk.at_ q s)) = _
  rw [B_lw, B_lb, show (B m c t).pr (Blk.at_ q s) = (arg m c).pv (row (ch (pt t) q) s) from funext fun j => b1 m c t q s j]
  rfl
theorem B_Y (c : Dev nD) (t : Fin cfg0.N) (q : Fin 4) (s : Fin 128) (j : Fin 256) :
    (B m c t).Y q s j = gel ((arg m c).pu (row (ch (pt t) q) s) j) := by
  refine (Blk.gu_apply (Cert.Sgu.blk (iblk m c 0 t) (iblk m c 1 t) (iblk m c 0 t) (iblk m c 2 t) (iblk m c 3 t) (iblk m c 4 t) (iblk m c 5 t)) (Blk.at_ q s) j).trans ?_
  exact congrArg gel (b0 m c t q s j)

/-- The gated rows: the gate's gelu times the mixed value. -/
def res (A : Args) (C : Fin 64) (s : Fin 128) (j : Fin 256) : EReal := gel (A.pu (row C s) j) * mix A.W A.S (A.V C) s j

/-- The block a point writes. -/
theorem block6 (c : Dev nD) (hS : ∀ h x, Fin' ((arg m c).S h x)) (t : Fin cfg0.N) (q : Fin 4) (s : Fin 128) (j : Fin 256) :
    out0_6 (F := Ideal) (iblk m c 0 t) (iblk m c 1 t) (iblk m c 2 t) (iblk m c 3 t) (iblk m c 4 t) (iblk m c 5 t) (ix2 (Blk.at_ q s) j)
      = res (arg m c) (ch (pt t) q) s j := by
  refine (out_eq _ _ _ _ _ _ _).trans ((Blk.du_apply (B m c t) (fun x y => ?_) q s j).trans ?_)
  · rw [B_bs]
    split
    · exact hS _ _
    · exact fin_zero
  · rw [B_Y, B_W, B_S, B_V]
    rfl

/-- The array after the launch. -/
theorem result6 (c : Dev nD) (hS : ∀ h x, Fin' ((arg m c).S h x)) (r : Fin 8192) (j : Fin 256) :
    (dats m 0 c).arrAt 6 cfg0.N (ix2 r j : S8192x256.Idx) = res (arg m c) (chk r) (pos r) j := by
  have hN : cfg0.N = 16 := N_0
  obtain ⟨t, q, hq⟩ : ∃ (t : Fin cfg0.N) (q : Fin 4), ch (pt t) q = chk r :=
    ⟨⟨r.val / 512, by omega⟩, ⟨r.val / 128 % 4, Nat.mod_lt _ (by decide)⟩, Fin.ext (by show 4 * (r.val / 512) + r.val / 128 % 4 = r.val / 128; omega)⟩
  have hv : 4 * t.val + q.val = r.val / 128 := congrArg Fin.val hq
  have e := congrFun (Value.blocks6 m c t (flush0_6 t)) (ix2 (Blk.at_ q (pos r)) j)
  rw [View.read_apply, Value.flushed6] at e
  rw [← hq]
  refine Eq.trans (congrArg _ ?_) (e.trans (block6 m c hS t q (pos r) j))
  funext a
  apply Fin.ext
  match a with
  | ⟨0, _⟩ => show r.val = win0_6.index t 0 * 512 + 1 * (128 * q.val + r.val % 128); rw [(wins t).2.2.2.2.2.2.1]; omega
  | ⟨1, _⟩ => show j.val = win0_6.index t 1 * 256 + 1 * j.val; rw [(wins t).2.2.2.2.2.2.2]; omega
end

/-! ### The reference -/

section
open Cert.SguFwdRefIdeal Cert.SguFwdRefIdeal.Read

/-- The reference's rows; its gelus and its mixed values are those of the backward reference. -/
theorem ref_at (x0 : Vec Ideal S8192x3584 .f32) (x1 x2 : Vec Ideal S256 .f32) (x3 : Vec Ideal S4x128x128 .f32)
    (x4 : Vec Ideal S4x128 .f32) (r : Fin 8192) (j : Fin 256) :
    val_main_v67 (F := Ideal) x0 x1 x2 x3 x4 (ix2 r j) = res (Cert.Sgu.Ref.A x0 (fun _ => 0) x1 x2 x3 x4) (chk r) (pos r) j := by
  pointwise [val_main_v67, val_main_v66, val_main_v65]
  unfold res
  rw [row_chk]
  exact congrArg₂ (· * ·) (Cert.Sgu.Ref.v26 x0 r j) (Cert.Sgu.Ref.v87 x0 (fun _ => 0) x1 x2 x3 x4 r j)
end

/-! ### The claim -/

section
open Cert.Pre_sgu_finite
/-- The mixing shifts are finite where the precondition holds. -/
theorem pre_fin (x0 : FVec Ideal S8192x3584 .f32) (x1 x2 : FVec Ideal S256 .f32) (x3 : FVec Ideal S4x128x128 .f32)
    (x4 : FVec Ideal S4x128 .f32) (h : Cert.Pre_sgu_finite.fn (F := Ideal) x0 x1 x2 x3 x4 = fun _ => 1#1) (q : Fin 4) (x : Fin 128) :
    Fin' (x4 (ix2 q x)) := by
  have h0 := congrFun h ValueIdx.ix0
  dsimp only [Cert.Pre_sgu_finite.fn] at h0
  haveI : Subsingleton S_.Idx := ⟨fun a b => funext fun i => i.elim0⟩
  exact fin_of_lt (Host.reduce_andi_all _ _ _ _ _ h0 (ValueIdx.ix2 q x))
end

/-- The kernel and the reference end with the same gated rows where the mixing shifts are finite. -/
theorem algebraic : Cert.algebraic_SguFwdIdeal_SguFwdRefIdeal_pre_sgu_finite := by
  intro m g m' g' hpre hag
  refine ⟨fun c => (Cert.SguFwdIdeal.Gen.dats m 0 c).arrAt 6 Cert.SguFwdIdeal.cfg0.N, Cert.SguFwdIdeal.Value.run_blocks m g, ?_⟩
  refine (θ_run Cert.SguFwdRefIdeal.defs _ _).mono (fun r h c => ?_) (Cert.SguFwdRefIdeal.Value.run m' g')
  obtain ⟨e0, e1, e2, e3, e4⟩ := hag c
  obtain ⟨h0, ha⟩ := h c
  refine ⟨(h0.trans (Cert.SguFwdRefIdeal.Read.val_main_v67_eq _ _)).trans ?_, ha⟩
  rw [e0, e1, e2, e3, e4]
  exact ext2 fun r j => (ref_at _ _ _ _ _ r j).trans (result6 m c (fun h x => pre_fin _ _ _ _ _ (hpre c) h x) r j).symm

/-- The reference ends, changes no argument and leaves every counter at zero. -/
theorem frame_ref : Cert.quiescent_SguFwdRefIdeal := fun m' g' _ =>
  (θ_run Cert.SguFwdRefIdeal.defs _ _).mono
    (fun r h => ⟨fun c => (h c).2, Idealize.ShloMosaic.sem_eq_zero_of_no_sems (by decide) r.2⟩)
    (Cert.SguFwdRefIdeal.Value.run m' g')

end Cert.SguOut

end
-- ==== Proof.NormFirst.lean ====
/- The rows normalized for the first layer: each block the kernel writes, and the same rows of the reference. -/
module

public import proofs.«01_k».proof.Defs
public import proofs.«01_k».proof.Proof.Cat
public import proofs.«01_k».proof.Proof.NormBwd
public import proofs.«01_k».proof.Proof.Gen.NormFwdIdeal.Value
public import proofs.«01_k».proof.Proof.Gen.NormFwdRefIdeal.Read
public import proofs.«01_k».proof.Proof.Gen.NormFwdRefIdeal.Run
public import Idealize.ShloMosaic.Lib.StableHlo.RunRead

@[expose] public section

noncomputable section

namespace Cert.NormFirst

open Idealize.ShloMosaic Idealize.ShloMosaic.TcCoe Idealize.SL.Sem
open Cert.Sgu (ext2)
open Cert.Prod Cert.Norm
open scoped BigOperators

/-- The rows normalized and scaled by the weights. -/
def normed (x : Mat 8192 1024) (w : (⟨1, ![1024]⟩ : Shape).Idx → EReal) (r : Fin 8192) (j : Fin 1024) : EReal :=
  xh (rowOf x r) j * w (ix1 j)

section
open Cert.NormFwdIdeal Cert.NormFwdIdeal.Gen

theorem pay1_at (x : Vec Ideal S512x1024 .f32) (w : Vec Ideal S1x1024 .f32) (r : Fin 512) (j : Fin 1024) :
    k0_pay1 (F := Ideal) x w (ix2 r j) = xh (fun k => x (ix2 r k)) j * w (ix2 0 j) := by
  pointwise [k0_pay1]
  rfl

/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg1)) := by
  unfold V
  after_results

/-- The row of the array a row of a point's block is. -/
def row (t : Fin cfg0.N) (r : Fin 512) : Fin 8192 :=
  ⟨512 * t.val + r.val, by have := t.isLt; have : cfg0.N = 16 := N_0; omega⟩

/-- The launch's arguments, and the blocks a point reads. -/
abbrev A0 (c : Dev nD) : Mat 8192 1024 := m ((c : Thread nD τ).loc main_arg0)
abbrev A1 (c : Dev nD) : (⟨1, ![1024]⟩ : Shape).Idx → EReal := m ((c : Thread nD τ).loc main_arg1)
abbrev B0 (c : Dev nD) (t : Fin cfg0.N) : Mat 512 1024 := iblk m c 0 t
abbrev B1 (c : Dev nD) (t : Fin cfg0.N) : Mat 1 1024 := iblk m c 1 t

theorem b0 (c : Dev nD) (t : Fin cfg0.N) (r : Fin 512) (k : Fin 1024) : B0 m c t (ix2 r k) = A0 m c (ix2 (row t r) k) := by
  unfold B0 iblk
  rw [View.read_apply]
  show V m c main_arg0 _ = _
  rw [V_main_arg0]
  exact at2 _ _ _ _ (by show win0_0.index t 0 * 512 + 1 * r.val = 512 * t.val + r.val; rw [(wins t).1.1]; omega)
    (by show win0_0.index t 1 * 1024 + 1 * k.val = k.val; rw [(wins t).1.2]; omega)
theorem b1 (c : Dev nD) (t : Fin cfg0.N) (j : Fin 1024) : B1 m c t (ix2 0 j) = A1 m c (ix1 j) := by
  unfold B1 iblk
  rw [View.read_apply]
  show V m c main_v0 _ = _
  rw [V_v0]
  refine (at2 _ _ 0 j (by show win0_1.index t 0 * 1 + 1 * 0 = 0; rw [(wins t).2.1.1])
    (by show win0_1.index t 1 * 1024 + 1 * j.val = j.val; rw [(wins t).2.1.2]; omega)).trans ?_
  pointwise []

/-- The block a point writes. -/
theorem block2 (c : Dev nD) (t : Fin cfg0.N) (r : Fin 512) (j : Fin 1024) :
    out0_2 (F := Ideal) (iblk m c 0 t) (iblk m c 1 t) (ix2 r j) = normed (A0 m c) (A1 m c) (row t r) j := by
  unfold out0_2
  rw [View.canon_unit_zero hz]
  simp only [View.ld_unit_zero (S := S512x1024) hz, View.ld_unit_zero (S := S1x1024) hz]
  rw [pay1_at]
  exact congrArg₂ (· * ·) (congrArg (fun x => xh x j) (funext fun k => b0 m c t r k)) (b1 m c t j)

/-- The point that writes a row, and the row's place in the point's block. -/
theorem place (r : Fin 8192) : ∃ (t : Fin cfg0.N) (p : Fin 512), row t p = r := by
  have hN : cfg0.N = 16 := N_0
  refine ⟨⟨r.val / 512, by omega⟩, ⟨r.val % 512, by omega⟩, Fin.ext ?_⟩
  show 512 * (r.val / 512) + r.val % 512 = r.val
  omega

/-- The array after the launch. -/
theorem result2 (c : Dev nD) (r : Fin 8192) (j : Fin 1024) :
    (dats m 0 c).arrAt 2 cfg0.N (ix2 r j : S8192x1024.Idx) = normed (A0 m c) (A1 m c) r j := by
  obtain ⟨t, p, rfl⟩ := place r
  have e := congrFun (Value.blocks2 m c t (flush0_2 t)) (ix2 p j)
  rw [View.read_apply, Value.flushed2] at e
  refine Eq.trans (congrArg _ ?_) (e.trans (block2 m c t p j))
  funext a
  apply Fin.ext
  match a with
  | ⟨0, _⟩ => show 512 * t.val + p.val = win0_2.index t 0 * 512 + 1 * p.val; rw [(wins t).2.2.1]; omega
  | ⟨1, _⟩ => show j.val = win0_2.index t 1 * 1024 + 1 * j.val; rw [(wins t).2.2.2]; omega

end

/-! ### The reference -/

namespace Ref
open Cert.NormFwdRefIdeal Cert.NormFwdRefIdeal.Read

variable (x0 : Mat 8192 1024) (x1 : (⟨1, ![1024]⟩ : Shape).Idx → EReal)

theorem v7 (r : Fin 8192) : val_main_v7 (F := Ideal) x0 (ix2 r 0) = rs (rowOf x0 r) := by
  pointwise [val_main_v7, val_main_v6, val_main_v5, val_main_cst_1, val_main_v4, val_main_v3, val_main_cst_0, val_main_v2, val_main_v1,
    val_main_cst, val_main_v0]
  rfl
theorem v13 (r : Fin 8192) (j : Fin 1024) : val_main_v13 (F := Ideal) x0 x1 (ix2 r j) = normed x0 x1 r j := by
  pointwise [val_main_v13, val_main_v12, val_main_v11, val_main_v10, val_main_v9, val_main_v8, v7]
  rfl

end Ref

/-! ### The claim -/

/-- The kernel and the reference end with the same normalized rows. -/
theorem algebraic : Cert.algebraic_NormFwdIdeal_NormFwdRefIdeal := by
  intro m g m' g' _ hag
  refine ⟨fun c => (Cert.NormFwdIdeal.Gen.dats m 0 c).arrAt 2 Cert.NormFwdIdeal.cfg0.N, Cert.NormFwdIdeal.Value.run_blocks m g, ?_⟩
  refine (θ_run Cert.NormFwdRefIdeal.defs _ _).mono (fun r h c => ?_) (Cert.NormFwdRefIdeal.Value.run m' g')
  obtain ⟨e0, e1⟩ := hag c
  obtain ⟨h0, ha⟩ := h c
  refine ⟨(h0.trans (Cert.NormFwdRefIdeal.Read.val_main_v13_eq _ _)).trans ?_, ha⟩
  rw [e0, e1]
  exact ext2 fun r j => (Ref.v13 _ _ r j).trans (result2 m c r j).symm

/-- The reference ends, changes no argument and leaves every counter at zero. -/
theorem frame_ref : Cert.quiescent_NormFwdRefIdeal := fun m' g' _ =>
  (θ_run Cert.NormFwdRefIdeal.defs _ _).mono
    (fun r h => ⟨fun c => (h c).2, Idealize.ShloMosaic.sem_eq_zero_of_no_sems (by decide) r.2⟩)
    (Cert.NormFwdRefIdeal.Value.run m' g')

end Cert.NormFirst

end
-- ==== Proof.Head.lean ====
/- The loss head: the last norm, the squared error's mean, and the gradients by the rows and by the norm's weights. The kernel sums
   the loss and the weights' gradient over sixteen blocks of 512 rows; the reference takes them over all rows at once. -/
module

public import proofs.«01_k».proof.Defs
public import proofs.«01_k».proof.Proof.Cat
public import proofs.«01_k».proof.Proof.NormBwd
public import proofs.«01_k».proof.Proof.ConvSpec
public import proofs.«01_k».proof.Proof.Gen.LossHeadIdeal.Value
public import proofs.«01_k».proof.Proof.Gen.LossHeadRefIdeal.Read
public import proofs.«01_k».proof.Proof.Gen.LossHeadRefIdeal.Run
public import Idealize.ShloMosaic.Lib.StableHlo.RunRead

@[expose] public section

noncomputable section

namespace Cert.Head

open Idealize.ShloMosaic Idealize.ShloMosaic.TcCoe Idealize.SL.Sem
open Cert.Sgu (ext2)
open Cert.Conv (row row_val)
open Cert.Prod Cert.Norm
open scoped BigOperators

/-! ### A row -/

/-- One half and two, as the programs spell them, and a half divided by the number of lanes: the mean square's cotangent. -/
def cH : EReal := Ideal.ofBits .f32 0x3F000000#32
def cD : EReal := Ideal.ofBits .f32 0x40000000#32
def cc : EReal := Ideal.div cH cL

theorem cH_eq : cH = ((2⁻¹ : ℝ) : EReal) := by
  unfold cH
  simp [Ideal.ofBits, Ideal.ieee, -EReal.coe_mul]
  norm_num
theorem cD_eq : cD = ((2 : ℝ) : EReal) := by
  unfold cD
  simp [Ideal.ofBits, Ideal.ieee, -EReal.coe_mul]
  norm_num
theorem cc_eq : cc = ((2⁻¹ * (1 / 1024) : ℝ) : EReal) := by
  unfold cc
  rw [cH_eq, cL_eq, Ideal.div_coe (by norm_num), ← EReal.coe_mul]

/-- The error at a lane, and its square's mean. -/
def err (x w t : Lane) (j : Fin 1024) : EReal := xh x j * w j - t j
def mse (x w t : Lane) : EReal := Ideal.div (∑ k, err x w t k * err x w t k) cL

/-- The normalized row's cotangent. -/
def ct (x w t : Lane) (j : Fin 1024) : EReal := cc * (cD * err x w t j)

/-- The kernel adds the two factors' shares of the square's derivative; the reference doubles one. -/
theorem ct_eq (e : EReal) : e * cc + cc * e = cc * (cD * e) := by
  rw [cc_eq, cD_eq]
  induction e with
  | bot =>
    rw [EReal.bot_mul_coe_of_pos (by norm_num), EReal.coe_mul_bot_of_pos (by norm_num), EReal.coe_mul_bot_of_pos (by norm_num),
      EReal.coe_mul_bot_of_pos (by norm_num)]
    rfl
  | top =>
    rw [EReal.top_mul_coe_of_pos (by norm_num), EReal.coe_mul_top_of_pos (by norm_num), EReal.coe_mul_top_of_pos (by norm_num),
      EReal.coe_mul_top_of_pos (by norm_num)]
    rfl
  | coe e =>
    simp only [← EReal.coe_mul, ← EReal.coe_add]
    congr 1
    ring

/-- The row's gradient. -/
def dx (x w t : Lane) (j : Fin 1024) : EReal :=
  ct x w t j * w j * rs x + x j * dT x w (ct x w t) + dT x w (ct x w t) * x j

/-- A half of a sum is the sum of the halves, whatever the summands. -/
theorem half_sum {ι : Type} (s : Finset ι) (f : ι → EReal) : cH * ∑ i ∈ s, f i = ∑ i ∈ s, cH * f i := by
  classical
  rw [cH_eq]
  induction s using Finset.induction_on with
  | empty => simp
  | insert a s ha ih =>
    rw [Finset.sum_insert ha, Finset.sum_insert ha, ← ih]
    exact EReal.left_distrib_of_nonneg_of_ne_top (by exact_mod_cast (by norm_num : (0:ℝ) ≤ 2⁻¹)) (EReal.coe_ne_top _) _ _

/-- A vector of 1024 numbers. -/
abbrev Vect : Type := (⟨1, ![1024]⟩ : Shape).Idx → EReal
/-- Of a row of the arrays: its gradient, its share of the weights' gradient, and its mean square. -/
def dxOf (x : Mat 8192 1024) (w : Vect) (t : Mat 8192 1024) (r : Fin 8192) : Lane := dx (rowOf x r) (fun k => w (ix1 k)) (rowOf t r)
def dwOf (x : Mat 8192 1024) (w : Vect) (t : Mat 8192 1024) (r : Fin 8192) (j : Fin 1024) : EReal :=
  xh (rowOf x r) j * ct (rowOf x r) (fun k => w (ix1 k)) (rowOf t r) j
def mseOf (x : Mat 8192 1024) (w : Vect) (t : Mat 8192 1024) (r : Fin 8192) : EReal := mse (rowOf x r) (fun k => w (ix1 k)) (rowOf t r)

/-- Sixteen blocks of 512 rows meet every row once. -/
theorem sum_row (f : Fin 8192 → EReal) : ∑ q : Fin 16, ∑ r : Fin 512, f (row q.val r) = ∑ r, f r := by
  rw [sum_blocks (n := 8192) (a := 16) (b := 512) (by norm_num)]
  exact Finset.sum_congr rfl fun q _ => Finset.sum_congr rfl fun r _ => congrArg f (Fin.ext (row_val _ q.isLt r))
/-- A sum over the indices of a vector of 8192 is the sum over its rows. -/
theorem sum_rows (f : (⟨1, ![8192]⟩ : Shape).Idx → EReal) : ∑ i, f i = ∑ r, f (ix1 r) :=
  Fintype.sum_equiv ⟨fun i => i 0, fun r => ix1 r, fun i => (eq_ix1 i).symm, fun _ => rfl⟩ _ _ fun i => congrArg f (eq_ix1 i)

section
open Cert.LossHeadIdeal Cert.LossHeadIdeal.Gen

/-! ### The body's lines -/

section
variable (x : Vec Ideal S512x1024 .f32) (w : Vec Ideal S1x1024 .f32) (t : Vec Ideal S512x1024 .f32)

/-- The blocks' rows. -/
abbrev xr (r : Fin 512) : Lane := fun k => x (ix2 r k)
abbrev wr : Lane := fun k => w (ix2 0 k)

theorem pay1_at (j : Fin 1024) : k0_pay1 (F := Ideal) (ix2 0 j) = 0 := by
  pointwise [k0_pay1]
theorem pay2_at (a : Fin 8) (b : Fin 128) : k0_pay2 (F := Ideal) (ix2 a b) = 0 := by
  pointwise [k0_pay2]
theorem pay4_at (r : Fin 512) : k0_pay4 (F := Ideal) x (ix2 r 0) = ms (xr x r) := by
  pointwise [k0_pay4]
  rfl
theorem pay5_at (r : Fin 512) : k0_pay5 (F := Ideal) x (ix2 r 0) = rs (xr x r) := by
  pointwise [k0_pay5, pay4_at]
  rfl
theorem pay6_at (r : Fin 512) : k0_pay6 (F := Ideal) x (ix2 r 0) = cN * Ideal.div (rs (xr x r)) (ms (xr x r)) := by
  pointwise [k0_pay6, pay4_at, pay5_at]
  rfl
theorem pay7_at (r : Fin 512) (j : Fin 1024) : k0_pay7 (F := Ideal) x (ix2 r j) = xh (xr x r) j := by
  pointwise [k0_pay7, pay5_at]
  rfl
theorem pay8_at (r : Fin 512) (j : Fin 1024) : k0_pay8 (F := Ideal) x w t (ix2 r j) = err (xr x r) (wr w) (xr t r) j := by
  pointwise [k0_pay8, pay7_at, k0_pay3]
  rfl
theorem pay9_at : k0_pay9 (F := Ideal) x w t (ix2 0 0) = cH * ∑ r, mse (xr x r) (wr w) (xr t r) := by
  pointwise [k0_pay9, pay8_at]
  rfl
theorem pay10_eq : k0_pay10 (F := Ideal) = cH := by
  pointwise [k0_pay10]
  simp only [Finset.univ_unique, Finset.sum_singleton]
  rfl
theorem pay11_at (r : Fin 512) (j : Fin 1024) : k0_pay11 (F := Ideal) (k0_pay8 (F := Ideal) x w t) (k0_pay10 (F := Ideal)) (ix2 r j)
    = ct (xr x r) (wr w) (xr t r) j := by
  unfold ct
  rw [← ct_eq]
  pointwise [k0_pay11, pay8_at, pay10_eq]
  simp only [Finset.univ_unique, Finset.sum_singleton]
  rfl
theorem pay12_at (r : Fin 512) (j : Fin 1024) : k0_pay12 (F := Ideal) x (k0_pay3 (F := Ideal) w) (k0_pay5 (F := Ideal) x) (k0_pay6 (F := Ideal) x)
    (k0_pay8 (F := Ideal) x w t) (k0_pay10 (F := Ideal)) (ix2 r j) = dx (xr x r) (wr w) (xr t r) j := by
  pointwise [k0_pay12, k0_pay3, pay11_at, pay5_at]
  simp only [Finset.univ_unique, Finset.sum_singleton, Fin.default_eq_zero, pay6_at]
  rfl
theorem pay13_at (s : Vec Ideal S1x1024 .f32) (j : Fin 1024) : k0_pay13 (F := Ideal) (k0_pay7 (F := Ideal) x) (k0_pay8 (F := Ideal) x w t)
    (k0_pay10 (F := Ideal)) s (ix2 0 j) = s (ix2 0 j) + ∑ r, xh (xr x r) j * ct (xr x r) (wr w) (xr t r) j := by
  pointwise [k0_pay13, pay7_at, pay11_at]
theorem pay14_at (s : Vec Ideal S8x128 .f32) (a : Fin 8) (b : Fin 128) : k0_pay14 (F := Ideal) (k0_pay9 (F := Ideal) x w t) s (ix2 a b)
    = s (ix2 a b) + cH * ∑ r, mse (xr x r) (wr w) (xr t r) := by
  pointwise [k0_pay14, pay9_at]
end

/-! ### A point -/

section
variable (c : Dev nD) (i : grid0.Coords) (a1 : Memref sig .tc .vmem S512x1024 .f32) (h1 : a1.IsWhole)
  (a2 : Memref sig .tc .vmem S1x1024 .f32) (h2 : a2.IsWhole) (a3 : Memref sig .tc .vmem S512x1024 .f32) (h3 : a3.IsWhole)
  (a4 : Memref sig .tc .vmem S512x1024 .f32) (h4 : a4.IsWhole) (a5 : Memref sig .tc .vmem S1x1024 .f32) (h5 : a5.IsWhole)
  (a6 : Memref sig .tc .vmem S8x128 .f32) (h6 : a6.IsWhole)
  (x0 : Vec Ideal S512x1024 .f32) (x1 : Vec Ideal S1x1024 .f32) (x2 : Vec Ideal S512x1024 .f32)
  (s4 : Vec Ideal S1x1024 .f32) (s5 : Vec Ideal S8x128 .f32)

/-- The first point writes its rows' gradients, and its parts of the two sums over zeros; -/
theorem out_A3 (hc : cond0_0 i) : out0_A_3 c i a1 h1 a2 h2 a3 h3 a4 h4 a5 h5 a6 h6 hc x0 x1 x2
    = k0_pay12 x0 (k0_pay3 x1) (k0_pay5 x0) (k0_pay6 x0) (k0_pay8 x0 x1 x2) k0_pay10 := by
  unfold out0_A_3
  rw [View.read_writes_eq_canon _ _ _ (cover0_A_3 c i a1 h1 a2 h2 a3 h3 a4 h4 a5 h5 a6 h6 hc x0 x1 x2)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S1x1024) hz]
theorem out_A4 (hc : cond0_0 i) : out0_A_4 c i a1 h1 a2 h2 a3 h3 a4 h4 a5 h5 a6 h6 hc x0 x1 x2
    = k0_pay13 (k0_pay7 x0) (k0_pay8 x0 x1 x2) k0_pay10 (k0_pay1 (F := Ideal)) := by
  unfold out0_A_4
  rw [View.read_writes_eq_canon _ _ _ (cover0_A_4 c i a1 h1 a2 h2 a3 h3 a4 h4 a5 h5 a6 h6 hc x0 x1 x2)]
  unfold kernelRun0_A
  dsimp only
  sl_unfold_words
  rw [View.canon_cons_unit_zero hz]
  simp only [View.readAt_eq_ld, h1.read_unread, h2.read_unread, h3.read_unread, View.ld_unit_zero (S := S512x1024) hz,
    View.ld_unit_zero (S := S1x1024) hz, View.readCov_cons_toLoadRect]
theorem out_A5 (hc : cond0_0 i) : out0_A_5 c i a1 h1 a2 h2 a3 h3 a4 h4 a5 h5 a6 h6 hc x0 x1 x2
    = k0_pay14 (k0_pay9 x0 x1 x2) (k0_pay2 (F := Ideal)) := by
  unfold out0_A_5
  rw [View.read_writes_eq_canon _ _ _ (cover0_A_5 c i a1 h1 a2 h2 a3 h3 a4 h4 a5 h5 a6 h6 hc x0 x1 x2)]
  unfold kernelRun0_A
  dsimp only
  sl_unfold_words
  rw [View.canon_cons_unit_zero hz]
  simp only [View.readAt_eq_ld, h1.read_unread, h2.read_unread, h3.read_unread, View.ld_unit_zero (S := S512x1024) hz,
    View.ld_unit_zero (S := S1x1024) hz, View.ld_unit_zero (S := S8x128) hz, View.readCov_cons_toLoadRect]

/-- a later one the same, over what the point before it left. -/
theorem out_B3 (hc : ¬cond0_0 i) : out0_B_3 c i a1 h1 a2 h2 a3 h3 a4 h4 a5 h5 a6 h6 hc x0 x1 x2 s4 s5
    = k0_pay12 x0 (k0_pay3 x1) (k0_pay5 x0) (k0_pay6 x0) (k0_pay8 x0 x1 x2) k0_pay10 := by
  unfold out0_B_3
  rw [View.read_writes_eq_canon _ _ _ (cover0_B_3 c i a1 h1 a2 h2 a3 h3 a4 h4 a5 h5 a6 h6 hc x0 x1 x2 s4 s5)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S1x1024) hz]
theorem out_B4 (hc : ¬cond0_0 i) : out0_B_4 c i a1 h1 a2 h2 a3 h3 a4 h4 a5 h5 a6 h6 hc x0 x1 x2 s4 s5
    = k0_pay13 (k0_pay7 x0) (k0_pay8 x0 x1 x2) k0_pay10 s4 := by
  unfold out0_B_4
  rw [View.read_writes_eq_canon _ _ _ (cover0_B_4 c i a1 h1 a2 h2 a3 h3 a4 h4 a5 h5 a6 h6 hc x0 x1 x2 s4 s5)]
  unfold kernelRun0_B
  dsimp only
  sl_unfold_words
  rw [View.canon_unit_zero hz]
  simp only [View.readAt_eq_ld, h1.read_unread, h2.read_unread, h3.read_unread, h5.read_unread,
    View.ld_unit_zero (S := S512x1024) hz, View.ld_unit_zero (S := S1x1024) hz]
theorem out_B5 (hc : ¬cond0_0 i) : out0_B_5 c i a1 h1 a2 h2 a3 h3 a4 h4 a5 h5 a6 h6 hc x0 x1 x2 s4 s5
    = k0_pay14 (k0_pay9 x0 x1 x2) s5 := by
  unfold out0_B_5
  rw [View.read_writes_eq_canon _ _ _ (cover0_B_5 c i a1 h1 a2 h2 a3 h3 a4 h4 a5 h5 a6 h6 hc x0 x1 x2 s4 s5)]
  unfold kernelRun0_B
  dsimp only
  sl_unfold_words
  rw [View.canon_unit_zero hz]
  simp only [View.readAt_eq_ld, h1.read_unread, h2.read_unread, h3.read_unread, h6.read_unread,
    View.ld_unit_zero (S := S512x1024) hz, View.ld_unit_zero (S := S1x1024) hz, View.ld_unit_zero (S := S8x128) hz]
end

/-! ### A point's blocks -/

variable (m : (ℓ : Loc nD τ sig) → Buf (Elt Ideal) ℓ)

/-- Where each window of a point lies. -/
theorem wins : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ (win0_5.index t 0 = 0 ∧ win0_5.index t 1 = 0) :=
  (by decide +kernel : ∀ t : Fin grid0.N, _)

/-- What the host code prepares: the norm weights as a row. -/
theorem V_v0 (c : Dev nD) : V m c main_v0 = broadcastInDim S1x1024 ![1] bcast_S1024_S1x1024_1 (m ((c : Thread nD τ).loc main_arg1)) := by
  unfold V
  after_results

/-- The launch's arguments, and the blocks a point reads. -/
abbrev A0 (c : Dev nD) : Mat 8192 1024 := m ((c : Thread nD τ).loc main_arg0)
abbrev A1 (c : Dev nD) : (⟨1, ![1024]⟩ : Shape).Idx → EReal := m ((c : Thread nD τ).loc main_arg1)
abbrev A2 (c : Dev nD) : Mat 8192 1024 := m ((c : Thread nD τ).loc main_arg2)
abbrev B0 (c : Dev nD) (t : Fin cfg0.N) : Mat 512 1024 := iblk m c 0 t
abbrev B1 (c : Dev nD) (t : Fin cfg0.N) : Mat 1 1024 := iblk m c 1 t
abbrev B2 (c : Dev nD) (t : Fin cfg0.N) : Mat 512 1024 := iblk m c 2 t

theorem lt16 (t : Fin cfg0.N) : t.val < 16 := lt_of_lt_of_eq t.isLt N_0

theorem b0 (c : Dev nD) (t : Fin cfg0.N) (r : Fin 512) : xr (B0 m c t) r = rowOf (A0 m c) (row t.val r) := by
  funext k
  show B0 m c t (ix2 r k) = _
  unfold B0 iblk
  rw [View.read_apply]
  show V m c main_arg0 _ = _
  rw [V_main_arg0]
  exact at2 _ _ _ _ (by show win0_0.index t 0 * 512 + 1 * r.val = _; rw [(wins t).1.1, row_val _ (lt16 t)]; omega)
    (by show win0_0.index t 1 * 1024 + 1 * k.val = k.val; rw [(wins t).1.2]; omega)
theorem b1 (c : Dev nD) (t : Fin cfg0.N) : wr (B1 m c t) = fun j => A1 m c (ix1 j) := by
  funext j
  show B1 m c t (ix2 0 j) = _
  unfold B1 iblk
  rw [View.read_apply]
  show V m c main_v0 _ = _
  rw [V_v0]
  refine (at2 _ _ 0 j (by show win0_1.index t 0 * 1 + 1 * 0 = 0; rw [(wins t).2.1.1])
    (by show win0_1.index t 1 * 1024 + 1 * j.val = j.val; rw [(wins t).2.1.2]; omega)).trans ?_
  pointwise []
theorem b2 (c : Dev nD) (t : Fin cfg0.N) (r : Fin 512) : xr (B2 m c t) r = rowOf (A2 m c) (row t.val r) := by
  funext k
  show B2 m c t (ix2 r k) = _
  unfold B2 iblk
  rw [View.read_apply]
  show V m c main_arg2 _ = _
  rw [V_main_arg2]
  exact at2 _ _ _ _ (by show win0_2.index t 0 * 512 + 1 * r.val = _; rw [(wins t).2.2.1.1, row_val _ (lt16 t)]; omega)
    (by show win0_2.index t 1 * 1024 + 1 * k.val = k.val; rw [(wins t).2.2.1.2]; omega)

/-! ### The rows' gradients, and the two sums -/

/-- Point `n`'s parts of the weights' gradient and of the loss. -/
def part4 (c : Dev nD) (j : Fin 1024) (n : ℕ) (h : n < cfg0.N) : EReal := ∑ r : Fin 512, dwOf (A0 m c) (A1 m c) (A2 m c) (row n r) j
def part5 (c : Dev nD) (n : ℕ) (h : n < cfg0.N) : EReal := cH * ∑ r : Fin 512, mseOf (A0 m c) (A1 m c) (A2 m c) (row n r)

theorem rows3 (c : Dev nD) (t : Fin cfg0.N) (r : Fin 512) (j : Fin 1024) :
    (outsAt0 m c t.val t.isLt).1 (ix2 r j) = dxOf (A0 m c) (A1 m c) (A2 m c) (row t.val r) j := by
  have e := pay12_at (B0 m c t) (B1 m c t) (B2 m c t) r j
  rw [b0, b1, b2] at e
  by_cases h0 : t.val % 16 = 0
  · rw [outsAt0_A m c t h0]
    dsimp only
    rw [out_A3]
    exact e
  · rw [outsAt0_B m c t h0]
    dsimp only
    rw [out_B3]
    exact e
theorem first4 (c : Dev nD) (j : Fin 1024) (n : ℕ) (h : n < cfg0.N) (h0 : n % 16 = 0) :
    (outsAt0 m c n h).2.1 (ix2 0 j) = part4 m c j n h := by
  have e := pay13_at (B0 m c ⟨n, h⟩) (B1 m c ⟨n, h⟩) (B2 m c ⟨n, h⟩) (k0_pay1 (F := Ideal)) j
  rw [outsAt0_A m c ⟨n, h⟩ h0]
  dsimp only
  rw [out_A4]
  refine e.trans ?_
  rw [pay1_at, zero_add]
  refine Finset.sum_congr rfl fun r _ => ?_
  rw [b0, b1, b2]
  rfl
theorem later4 (c : Dev nD) (j : Fin 1024) (n : ℕ) (h : n + 1 < cfg0.N) (h0 : ¬(n + 1) % 16 = 0) :
    (outsAt0 m c (n + 1) h).2.1 (ix2 0 j) = (outsAt0 m c n (Nat.lt_of_succ_lt h)).2.1 (ix2 0 j) + part4 m c j (n + 1) h := by
  have e := pay13_at (B0 m c ⟨n + 1, h⟩) (B1 m c ⟨n + 1, h⟩) (B2 m c ⟨n + 1, h⟩) (outsAt0 m c n (Nat.lt_of_succ_lt h)).2.1 j
  rw [outsAt0_B m c ⟨n + 1, h⟩ h0]
  dsimp only
  rw [out_B4]
  refine e.trans (congrArg ((outsAt0 m c n (Nat.lt_of_succ_lt h)).2.1 (ix2 0 j) + ·) (Finset.sum_congr rfl fun r _ => ?_))
  rw [b0, b1, b2]
  rfl
theorem first5 (c : Dev nD) (a : Fin 8) (b : Fin 128) (n : ℕ) (h : n < cfg0.N) (h0 : n % 16 = 0) :
    (outsAt0 m c n h).2.2 (ix2 a b) = part5 m c n h := by
  have e := pay14_at (B0 m c ⟨n, h⟩) (B1 m c ⟨n, h⟩) (B2 m c ⟨n, h⟩) (k0_pay2 (F := Ideal)) a b
  rw [outsAt0_A m c ⟨n, h⟩ h0]
  dsimp only
  rw [out_A5]
  refine e.trans ?_
  rw [pay2_at, zero_add]
  refine congrArg (cH * ·) (Finset.sum_congr rfl fun r _ => ?_)
  rw [b0, b1, b2]
  rfl
theorem later5 (c : Dev nD) (a : Fin 8) (b : Fin 128) (n : ℕ) (h : n + 1 < cfg0.N) (h0 : ¬(n + 1) % 16 = 0) :
    (outsAt0 m c (n + 1) h).2.2 (ix2 a b) = (outsAt0 m c n (Nat.lt_of_succ_lt h)).2.2 (ix2 a b) + part5 m c (n + 1) h := by
  have e := pay14_at (B0 m c ⟨n + 1, h⟩) (B1 m c ⟨n + 1, h⟩) (B2 m c ⟨n + 1, h⟩) (outsAt0 m c n (Nat.lt_of_succ_lt h)).2.2 a b
  rw [outsAt0_B m c ⟨n + 1, h⟩ h0]
  dsimp only
  rw [out_B5]
  refine e.trans (congrArg ((outsAt0 m c n (Nat.lt_of_succ_lt h)).2.2 (ix2 a b) + ·) (congrArg (cH * ·) (Finset.sum_congr rfl fun r _ => ?_)))
  rw [b0, b1, b2]
  rfl

/-- After the last point the two sums are over all rows. -/
theorem last4 (c : Dev nD) (h : 15 < cfg0.N) (j : Fin 1024) :
    (outsAt0 m c 15 h).2.1 (ix2 0 j) = ∑ r, dwOf (A0 m c) (A1 m c) (A2 m c) r j := by
  refine (sum_run 16 (fun n h => (outsAt0 m c n h).2.1 (ix2 0 j)) (part4 m c j) (first4 m c j) (later4 m c j) 0 15 (by decide) h).trans ?_
  unfold part4
  simp only [Nat.mul_zero, Nat.zero_add]
  exact sum_row fun r => dwOf (A0 m c) (A1 m c) (A2 m c) r j
theorem last5 (c : Dev nD) (h : 15 < cfg0.N) (a : Fin 8) (b : Fin 128) :
    (outsAt0 m c 15 h).2.2 (ix2 a b) = cH * ∑ r, mseOf (A0 m c) (A1 m c) (A2 m c) r := by
  refine (sum_run 16 (fun n h => (outsAt0 m c n h).2.2 (ix2 a b)) (part5 m c) (first5 m c a b) (later5 m c a b) 0 15 (by decide) h).trans ?_
  unfold part5
  simp only [Nat.mul_zero, Nat.zero_add]
  rw [← half_sum]
  exact congrArg (cH * ·) (sum_row fun r => mseOf (A0 m c) (A1 m c) (A2 m c) r)

/-! ### The results -/

/-- The point that writes a row, and the row's place in the point's block. -/
theorem place (r : Fin 8192) : ∃ (t : Fin cfg0.N) (p : Fin 512), row t.val p = r := by
  have hN : cfg0.N = 16 := N_0
  refine ⟨⟨r.val / 512, by omega⟩, ⟨r.val % 512, by omega⟩, Fin.ext ?_⟩
  show (512 * (r.val / 512) + r.val % 512) % 8192 = r.val
  omega

/-- The arrays after the launch. -/
theorem result3 (c : Dev nD) (r : Fin 8192) (j : Fin 1024) :
    (dats m 0 c).arrAt 3 cfg0.N (ix2 r j : S8192x1024.Idx) = dxOf (A0 m c) (A1 m c) (A2 m c) r j := by
  obtain ⟨t, p, rfl⟩ := place r
  have e := congrFun (Value.blocks3 m c t (flush0_3 t)) (ix2 p j)
  rw [View.read_apply, Value.flushed3] at e
  refine Eq.trans (congrArg _ ?_) (e.trans (rows3 m c t p j))
  funext a
  apply Fin.ext
  match a with
  | ⟨0, _⟩ => show (row t.val p).val = win0_3.index t 0 * 512 + 1 * p.val; rw [(wins t).2.2.2.1.1, row_val _ (lt16 t)]; omega
  | ⟨1, _⟩ => show j.val = win0_3.index t 1 * 1024 + 1 * j.val; rw [(wins t).2.2.2.1.2]; omega
theorem result4 (c : Dev nD) (j : Fin 1024) :
    (dats m 0 c).arrAt 4 cfg0.N (ix2 0 j : S1x1024.Idx) = ∑ r, dwOf (A0 m c) (A1 m c) (A2 m c) r j := by
  have hN : cfg0.N = 16 := N_0
  let t : Fin cfg0.N := ⟨15, by omega⟩
  have hb := (dats m 0 c).read_blk_arrAt_eq_flushed 4
    (fun t t' hf hf' hne => absurd (Fin.ext (by
      have h1 := (flush0_4 t).1 hf
      have h2 := (flush0_4 t').1 hf'
      have := lt16 t
      have := lt16 t'
      omega)) hne) cfg0.N t t.isLt ((flush0_4 t).2 rfl)
  have e := congrFun hb (ix2 0 j)
  rw [View.read_apply, Value.flushed4] at e
  refine Eq.trans (congrArg _ ?_) (e.trans (last4 m c t.isLt j))
  funext a
  apply Fin.ext
  match a with
  | ⟨0, _⟩ => show 0 = win0_4.index t 0 * 1 + 1 * 0; rw [(wins t).2.2.2.2.1.1]
  | ⟨1, _⟩ => show j.val = win0_4.index t 1 * 1024 + 1 * j.val; rw [(wins t).2.2.2.2.1.2]; omega
theorem result5 (c : Dev nD) (x : Fin 8) (y : Fin 128) :
    (dats m 0 c).arrAt 5 cfg0.N (ix2 x y : S8x128.Idx) = cH * ∑ r, mseOf (A0 m c) (A1 m c) (A2 m c) r := by
  have hN : cfg0.N = 16 := N_0
  let t : Fin cfg0.N := ⟨15, by omega⟩
  have hb := (dats m 0 c).read_blk_arrAt_eq_flushed 5
    (fun t t' hf hf' hne => absurd (Fin.ext (by
      have h1 := (flush0_5 t).1 hf
      have h2 := (flush0_5 t').1 hf'
      have := lt16 t
      have := lt16 t'
      omega)) hne) cfg0.N t t.isLt ((flush0_5 t).2 rfl)
  have e := congrFun hb (ix2 x y)
  rw [View.read_apply, Value.flushed5] at e
  refine Eq.trans (congrArg _ ?_) (e.trans (last5 m c t.isLt x y))
  funext a
  apply Fin.ext
  match a with
  | ⟨0, _⟩ => show x.val = win0_5.index t 0 * 8 + 1 * x.val; rw [(wins t).2.2.2.2.2.1]; omega
  | ⟨1, _⟩ => show y.val = win0_5.index t 1 * 128 + 1 * y.val; rw [(wins t).2.2.2.2.2.2]; omega

end

/-! ### The reference -/

namespace Ref
open Cert.LossHeadRefIdeal Cert.LossHeadRefIdeal.Read

variable (x0 : Mat 8192 1024) (x1 : (⟨1, ![1024]⟩ : Shape).Idx → EReal) (x2 : Mat 8192 1024)

theorem v6 (r : Fin 8192) : val_main_v6 (F := Ideal) x0 (ix2 r 0) = ms (rowOf x0 r) := by
  pointwise [val_main_v6, val_main_v5, val_main_cst_1, val_main_v4, val_main_v3, val_main_cst_0, val_main_v2, val_main_v1,
    val_main_cst, val_main_v0]
  rfl
theorem v7 (r : Fin 8192) : val_main_v7 (F := Ideal) x0 (ix2 r 0) = rs (rowOf x0 r) := by
  pointwise [val_main_v7, v6]
  rfl
theorem v10 (r : Fin 8192) : val_main_v10 (F := Ideal) x0 (ix2 r 0) = cN * Ideal.div (rs (rowOf x0 r)) (ms (rowOf x0 r)) := by
  pointwise [val_main_v10, val_main_v9, val_main_cst_2, val_main_v8, v7, v6]
  rfl
theorem v12 (r : Fin 8192) (j : Fin 1024) : val_main_v12 (F := Ideal) x0 (ix2 r j) = xh (rowOf x0 r) j := by
  pointwise [val_main_v12, val_main_v11, v7]
  rfl
theorem v16 (r : Fin 8192) (j : Fin 1024) : val_main_v16 (F := Ideal) x0 x1 x2 (ix2 r j)
    = err (rowOf x0 r) (fun k => x1 (ix1 k)) (rowOf x2 r) j := by
  pointwise [val_main_v16, val_main_v15, val_main_v14, val_main_v13, v12]
  rfl
theorem v22 (r : Fin 8192) : val_main_v22 (F := Ideal) x0 x1 x2 (ix1 r) = mseOf x0 x1 x2 r := by
  pointwise [val_main_v22, val_main_v21, val_main_cst_5, val_main_v20, val_main_cst_4, val_main_v17, v16]
  rfl
theorem v30 (r : Fin 8192) (j : Fin 1024) : val_main_v30 (F := Ideal) x0 x1 x2 (ix2 r j)
    = ct (rowOf x0 r) (fun k => x1 (ix1 k)) (rowOf x2 r) j := by
  pointwise [val_main_v30, val_main_v29, val_main_v28, val_main_v27, val_main_cst_10, val_main_v26, val_main_v25, val_main_cst_9,
    val_main_cst_8, val_main_v19, val_main_v18, val_main_cst_3, v16]
  rfl
theorem v35 (r : Fin 8192) (j : Fin 1024) : val_main_v35 (F := Ideal) x0 x1 x2 (ix2 r j)
    = ct (rowOf x0 r) (fun k => x1 (ix1 k)) (rowOf x2 r) j * x1 (ix1 j) := by
  pointwise [val_main_v35, val_main_v34, val_main_v13, v30]
theorem v44 (r : Fin 8192) : val_main_v44 (F := Ideal) x0 x1 x2 (ix2 r 0)
    = dT (rowOf x0 r) (fun k => x1 (ix1 k)) (ct (rowOf x0 r) (fun k => x1 (ix1 k)) (rowOf x2 r)) := by
  pointwise [val_main_v44, val_main_v43, val_main_cst_14, val_main_v42, val_main_v39, val_main_v38, val_main_cst_13, val_main_v37, v35, v10]
  rfl
theorem v45 (r : Fin 8192) : val_main_v45 (F := Ideal) x0 x1 x2 (ix1 r)
    = dT (rowOf x0 r) (fun k => x1 (ix1 k)) (ct (rowOf x0 r) (fun k => x1 (ix1 k)) (rowOf x2 r)) := by
  pointwise [val_main_v45, val_main_cst_15]
  simp only [Finset.univ_unique, Finset.sum_singleton, Fin.default_eq_zero, v44]
theorem v50 (r : Fin 8192) (j : Fin 1024) : val_main_v50 (F := Ideal) x0 x1 x2 (ix2 r j) = dxOf x0 x1 x2 r j := by
  pointwise [val_main_v50, val_main_v49, val_main_v48, val_main_v47, val_main_v46, v45, val_main_v41, val_main_v40, v7, v35]
  rfl
theorem v51 (j : Fin 1024) : val_main_v51 (F := Ideal) x0 x1 x2 (ix2 0 j) = ∑ r, dwOf x0 x1 x2 r j := by
  pointwise [val_main_v51, val_main_v36, val_main_cst_12, val_main_v33, val_main_v32, val_main_cst_11, val_main_v31, v12, v30]
  simp only [Finset.univ_unique, Finset.sum_singleton, Fin.default_eq_zero]
  rfl
theorem v52 (a : Fin 8) (b : Fin 128) : val_main_v52 (F := Ideal) x0 x1 x2 (ix2 a b) = cH * ∑ r, mseOf x0 x1 x2 r := by
  rw [val_main_v52_apply, val_main_v24_apply, val_main_v23_apply]
  refine congrArg (cH * ·) ?_
  rw [val_main_cst_6_apply, sum_rows]
  refine (congrArg (· + _) Ideal.ofBits_zero_f32).trans ((zero_add _).trans ?_)
  exact Finset.sum_congr rfl fun r _ => v22 x0 x1 x2 r
end Ref

/-! ### The claim -/

/-- The kernel and the reference end with the same gradients and the same loss. -/
theorem algebraic : Cert.algebraic_LossHeadIdeal_LossHeadRefIdeal := by
  intro m g m' g' _ hag
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N, Cert.LossHeadIdeal.Value.run_blocks m g, ?_⟩
  refine (θ_run Cert.LossHeadRefIdeal.defs _ _).mono (fun r h c => ?_) (Cert.LossHeadRefIdeal.Value.run m' g')
  obtain ⟨e0, e1, e2⟩ := hag c
  obtain ⟨h3, h4, h5, ha⟩ := h c
  refine ⟨(h3.trans (Cert.LossHeadRefIdeal.Read.val_main_v50_eq _ _)).trans ?_,
    (h4.trans (Cert.LossHeadRefIdeal.Read.val_main_v51_eq _ _ _)).trans ?_,
    (h5.trans (Cert.LossHeadRefIdeal.Read.val_main_v52_eq _ _ _)).trans ?_, ha⟩
  · rw [e0, e1, e2]
    exact ext2 fun r j => (Ref.v50 _ _ _ r j).trans (result3 m c r j).symm
  · rw [e0, e1, e2]
    exact ext2 fun r j => by
      obtain rfl : r = 0 := Subsingleton.elim _ _
      exact (Ref.v51 _ _ _ j).trans (result4 m c j).symm
  · rw [e0, e1, e2]
    exact ext2 fun a b => (Ref.v52 _ _ _ a b).trans (result5 m c a b).symm

/-- The reference ends, changes no argument and leaves every counter at zero. -/
theorem frame_ref : Cert.quiescent_LossHeadRefIdeal := fun m' g' _ =>
  (θ_run Cert.LossHeadRefIdeal.defs _ _).mono
    (fun r h => ⟨fun c => (h c).2.2.2, Idealize.ShloMosaic.sem_eq_zero_of_no_sems (by decide) r.2⟩)
    (Cert.LossHeadRefIdeal.Value.run m' g')

end Cert.Head

end
-- ==== Proof.Adam.lean ====
/- One AdamW step of a number, as the reference writes it, and what the four calls that take it for the large weights share:
   which layer's contributions a block sums, and where a block's elements lie. -/
module

public import proofs.«01_k».proof.Proof.Prod
public import Idealize.ShloMosaic.Lib.Pipeline.Value
public import Idealize.ShloMosaic.Lib.Pipeline.ValueKit.Tiles

@[expose] public section

noncomputable section

namespace Cert.Adam

open Idealize.ShloMosaic
open Cert.Prod
open scoped BigOperators

/-- Arrays of three and four axes. -/
abbrev Arr3 (a b c : ℕ) : Type := (⟨3, ![a, b, c]⟩ : Shape).Idx → EReal
abbrev Arr4 (a b c d : ℕ) : Type := (⟨4, ![a, b, c, d]⟩ : Shape).Idx → EReal

/-- The new moments and the step, from the gradient, the weight and the old moments. -/
def mom1 (g m : EReal) : EReal := Ideal.ofBits .f32 0x3F666666#32 * m + Ideal.ofBits .f32 0x3DCCCCCD#32 * g
def mom2 (g v : EReal) : EReal := Ideal.ofBits .f32 0x3F7FBE77#32 * v + Ideal.ofBits .f32 0x3A83126F#32 * (g * g)
def step (g w m v : EReal) : EReal :=
  Ideal.ofBits .f32 0xBA83126F#32 * (Ideal.div (Ideal.div (mom1 g m) (Ideal.ofBits .f32 0x3F26BD02#32))
    (Ideal.sqrt (Ideal.div (mom2 g v) (Ideal.ofBits .f32 0x3C231ACC#32)) + Ideal.ofBits .f32 0x322BCC77#32)
    + Ideal.ofBits .f32 0x3C23D70A#32 * w)

/-- The sum of the four chips' contributions to the gradient of layer `l`: the first layer's or the second's. -/
def pick (l : ℕ) (a b : Fin 4 → EReal) : EReal := if l = 0 then ∑ k, a k else ∑ k, b k

/-- Four numbers added one after the other. -/
theorem sum4 (f : Fin 4 → EReal) : f 0 + f 1 + f 2 + f 3 = ∑ k, f k := (Fin.sum_univ_four f).symm

/-- The kernel's choice of a layer by the grid's first coordinate. -/
theorem choose {α : Type} (l : ℕ) (hl : l < 2) (x y : α → EReal) (i : α) :
    Scalar.select (Scalar.cmpi .eq (BitVec.ofNat 32 l) 0#32) x y i = if l = 0 then x i else y i := by
  obtain rfl | rfl : l = 0 ∨ l = 1 := by omega
  · rfl
  · rfl

/-- An array at a place whose coordinates are known. -/
theorem at3 {a b c : ℕ} (x : Arr3 a b c) (i : (⟨3, ![a, b, c]⟩ : Shape).Idx) (l : Fin a) (r : Fin b) (j : Fin c) (h0 : (i 0).val = l.val)
    (h1 : (i 1).val = r.val) (h2 : (i 2).val = j.val) : x i = x (ix3 l r j) :=
  congrArg x (funext fun a => Fin.ext (match a with
    | ⟨0, _⟩ => h0
    | ⟨1, _⟩ => h1
    | ⟨2, _⟩ => h2))
theorem at4 {a b c d : ℕ} (x : Arr4 a b c d) (i : (⟨4, ![a, b, c, d]⟩ : Shape).Idx) (l : Fin a) (k : Fin b) (r : Fin c) (j : Fin d)
    (h0 : (i 0).val = l.val) (h1 : (i 1).val = k.val) (h2 : (i 2).val = r.val) (h3 : (i 3).val = j.val) : x i = x (ix4 l k r j) :=
  congrArg x (funext fun a => Fin.ext (match a with
    | ⟨0, _⟩ => h0
    | ⟨1, _⟩ => h1
    | ⟨2, _⟩ => h2
    | ⟨3, _⟩ => h3))

/-! ### A block -/

section
variable {n c : ℕ}

/-- A block's leading unit axes are dropped and put back. -/
theorem cast32 (x : Arr3 1 n c) (h : Shape.ShapeCasts ⟨3, ![1, n, c]⟩ ⟨2, ![n, c]⟩) (r : Fin n) (j : Fin c) :
    shapeCast ⟨2, ![n, c]⟩ x h (ix2 r j) = x (ix3 0 r j) :=
  shapeCast_apply x h _ _ (by
    rw [Shape.rowMajor_val_three, Shape.rowMajor_val_two]
    show (0 * n + r.val) * c + j.val = r.val * c + j.val
    rw [Nat.zero_mul, Nat.zero_add])
theorem cast23 (x : (⟨2, ![n, c]⟩ : Shape).Idx → EReal) (h : Shape.ShapeCasts ⟨2, ![n, c]⟩ ⟨3, ![1, n, c]⟩) (r : Fin n) (j : Fin c) :
    shapeCast ⟨3, ![1, n, c]⟩ x h (ix3 0 r j) = x (ix2 r j) :=
  shapeCast_apply x h _ _ (by
    rw [Shape.rowMajor_val_three, Shape.rowMajor_val_two]
    show r.val * c + j.val = (0 * n + r.val) * c + j.val
    rw [Nat.zero_mul, Nat.zero_add])
theorem cast42 (x : Arr4 1 1 n c) (h : Shape.ShapeCasts ⟨4, ![1, 1, n, c]⟩ ⟨2, ![n, c]⟩) (r : Fin n) (j : Fin c) :
    shapeCast ⟨2, ![n, c]⟩ x h (ix2 r j) = x (ix4 0 0 r j) :=
  shapeCast_apply x h _ _ (by
    rw [Shape.rowMajor_val_four, Shape.rowMajor_val_two]
    show ((0 * 1 + 0) * n + r.val) * c + j.val = r.val * c + j.val
    rw [Nat.zero_mul, Nat.zero_add])

/-- A block stored whole, and one loaded whole. -/
theorem stored (p : (⟨2, ![n, c]⟩ : Shape).Idx → EReal) (h : Shape.ShapeCasts ⟨2, ![n, c]⟩ ⟨3, ![1, n, c]⟩) (b) (r : Fin n) (j : Fin c) :
    View.canon (Val := Elt Ideal) (e := .f32) [⟨Rect.unit (s := ⟨3, ![1, n, c]⟩) ![0, 0, 0] (⟨3, ![1, n, c]⟩ : Shape).size b, shapeCast ⟨3, ![1, n, c]⟩ p h⟩] (ix3 0 r j)
      = p (ix2 r j) :=
  (congrFun (View.canon_unit_zero hz3 b _) _).trans (cast23 p h r j)
theorem loaded (x : Arr3 1 n c) (h : Shape.ShapeCasts ⟨3, ![1, n, c]⟩ ⟨2, ![n, c]⟩) (b) (r : Fin n) (j : Fin c) :
    shapeCast ⟨2, ![n, c]⟩ (View.ld (Val := Elt Ideal) (e' := .f32) x (Rect.unit (s := ⟨3, ![1, n, c]⟩) ![0, 0, 0] (⟨3, ![1, n, c]⟩ : Shape).size b)) h (ix2 r j)
      = x (ix3 0 r j) :=
  (cast32 _ h r j).trans (congrFun (View.ld_unit_zero (Val := Elt Ideal) (e := .f32) (S := ⟨3, ![1, n, c]⟩) hz3 b x) _)

/-- One chip's contribution to a block, loaded. -/
theorem chip (x : Arr4 1 4 n c) (h : Shape.ShapeCasts ⟨4, ![1, 1, n, c]⟩ ⟨2, ![n, c]⟩) (k : Fin 4) (o : ℕ) (ho : o = k.val) (b) (r : Fin n)
    (j : Fin c) :
    shapeCast ⟨2, ![n, c]⟩ (View.ld (Val := Elt Ideal) (e' := .bf16) x (Rect.unit (s := ⟨4, ![1, 4, n, c]⟩) ![0, o, 0, 0] ![1, 1, n, c] b)) h (ix2 r j)
      = x (ix4 0 k r j) :=
  (cast42 _ h r j).trans (View.ld_unit_apply_of (Val := Elt Ideal) (e := .bf16) x _ _ b _ _ (fun a => match a with
    | ⟨0, _⟩ => rfl
    | ⟨1, _⟩ => ho.symm
    | ⟨2, _⟩ => (Nat.zero_add _).symm
    | ⟨3, _⟩ => (Nat.zero_add _).symm))

/-- The chosen sum of four, from its terms. -/
theorem picked (l : ℕ) (hl : l < 2) (x y : (⟨2, ![n, c]⟩ : Shape).Idx → EReal) (f g : Fin 4 → EReal) (i) (hx : x i = f 0 + f 1 + f 2 + f 3)
    (hy : y i = g 0 + g 1 + g 2 + g 3) : Scalar.select (Scalar.cmpi .eq (BitVec.ofNat 32 l) 0#32) x y i = pick l f g :=
  (choose l hl x y i).trans (if_congr Iff.rfl (hx.trans (sum4 f)) (hy.trans (sum4 g)))
theorem add4 {a b d e a' b' d' e' : EReal} (ha : a = a') (hb : b = b') (hd : d = d') (he : e = e') : a + b + d + e = a' + b' + d' + e' := by
  rw [ha, hb, hd, he]
theorem step_congr {g w m v g' w' m' v' : EReal} (hg : g = g') (hw : w = w') (hm : m = m') (hv : v = v') : step g w m v = step g' w' m' v' := by
  rw [hg, hw, hm, hv]
end

/-! ### The grid -/

/-- The grid runs over the layers, the two halves of a layer's rows and the `k` blocks of `n` rows of a half of `H` rows. -/
structure Sizes (n k H R N : ℕ) : Prop where
  pos : 0 < k
  half : H = n * k
  rows : R = 2 * H
  points : N = 2 * (2 * k)

/-- The block a point takes of a weight and of the contributions. -/
def at3of (k t : ℕ) : Fin 3 → ℕ := ![t / (2 * k), t % (2 * k), 0]
def at4of (k t : ℕ) : Fin 4 → ℕ := ![t / k % 2, 0, t % k, 0]

section
variable {n k H R N c : ℕ} (S : Sizes n k H R N)
include S

theorem Sizes.all : R = n * (2 * k) := by rw [S.rows, S.half]; ring
theorem Sizes.posH (r : Fin R) : 0 < H := by have := r.isLt; have := S.rows; omega

/-- A point's layer, a row of its block, and the half of a layer in which a row lies and the row's place in it. -/
def layer (t : Fin N) : Fin 2 := ⟨t.val / (2 * k), Nat.div_lt_of_lt_mul (by have := t.isLt; have := S.points; rw [Nat.mul_comm]; omega)⟩
def row (t : Fin N) (p : Fin n) : Fin R := ⟨n * (t.val % (2 * k)) + p.val, by
  have h : t.val % (2 * k) + 1 ≤ 2 * k := Nat.mod_lt _ (by have := S.pos; omega)
  have e := Nat.mul_le_mul_left n h
  have := p.isLt
  rw [S.all]
  rw [Nat.mul_add] at e
  omega⟩
def half (r : Fin R) : Fin 2 := ⟨r.val / H, Nat.div_lt_of_lt_mul (by have := r.isLt; have := S.rows; rw [Nat.mul_comm]; omega)⟩
def rest (r : Fin R) : Fin H := ⟨r.val % H, Nat.mod_lt _ (S.posH r)⟩

/-- The gradient: of row `r` of a layer, the sum over the chips of the row in its half of that layer's contributions. -/
def grad (a b : Arr4 2 4 H c) (l : Fin 2) (r : Fin R) (j : Fin c) : EReal :=
  pick l.val (fun k => a (ix4 (half S r) k (rest S r) j)) (fun k => b (ix4 (half S r) k (rest S r) j))

/-- Every element is written: at a point, in a row of its block. -/
theorem place (l : Fin 2) (r : Fin R) : ∃ (t : Fin N) (p : Fin n), layer S t = l ∧ row S t p = r := by
  have hn : 0 < n := by
    rcases Nat.eq_zero_or_pos n with h | h
    · have := S.posH r
      rw [S.half, h, Nat.zero_mul] at this
      omega
    · exact h
  have hk : 0 < 2 * k := by have := S.pos; omega
  have hb : r.val / n < 2 * k := Nat.div_lt_of_lt_mul (lt_of_lt_of_eq r.isLt S.all)
  refine ⟨⟨2 * k * l.val + r.val / n, ?_⟩, ⟨r.val % n, Nat.mod_lt _ hn⟩, Fin.ext ?_, Fin.ext ?_⟩
  · have := Nat.mul_le_mul_left (2 * k) (Nat.le_of_lt_succ l.isLt)
    rw [S.points]
    omega
  · show (2 * k * l.val + r.val / n) / (2 * k) = l.val
    rw [Nat.mul_add_div hk, Nat.div_eq_of_lt hb, Nat.add_zero]
  · show n * ((2 * k * l.val + r.val / n) % (2 * k)) + r.val % n = r.val
    rw [Nat.mul_add_mod, Nat.mod_eq_of_lt hb, Nat.div_add_mod]

/-- An array read through a point's block of a weight. -/
theorem read3 (A : Arr3 2 R c) (t : Fin N) (p : Fin n) (j : Fin c) (i : (⟨3, ![2, R, c]⟩ : Shape).Idx) (x : Fin 3 → ℕ)
    (w : ∀ a, x a = at3of k t.val a) (h0 : (i 0).val = x 0 * 1 + 1 * 0) (h1 : (i 1).val = x 1 * n + 1 * p.val)
    (h2 : (i 2).val = x 2 * c + 1 * j.val) : A i = A (ix3 (layer S t) (row S t p) j) := by
  rw [w] at h0 h1 h2
  refine at3 A i _ _ _ (h0.trans ?_) (h1.trans ?_) (h2.trans ?_)
  · show t.val / (2 * k) * 1 + 1 * 0 = t.val / (2 * k)
    omega
  · show t.val % (2 * k) * n + 1 * p.val = n * (t.val % (2 * k)) + p.val
    rw [Nat.one_mul, Nat.mul_comm]
  · show 0 * c + 1 * j.val = j.val
    rw [Nat.zero_mul, Nat.one_mul, Nat.zero_add]

/-- An array read through a point's block of the contributions. -/
theorem read4 (A : Arr4 2 4 H c) (t : Fin N) (s : Fin 4) (p : Fin n) (j : Fin c) (i : (⟨4, ![2, 4, H, c]⟩ : Shape).Idx) (x : Fin 4 → ℕ)
    (w : ∀ a, x a = at4of k t.val a) (h0 : (i 0).val = x 0 * 1 + 1 * 0) (h1 : (i 1).val = x 1 * 4 + 1 * s.val)
    (h2 : (i 2).val = x 2 * n + 1 * p.val) (h3 : (i 3).val = x 3 * c + 1 * j.val) :
    A i = A (ix4 (half S (row S t p)) s (rest S (row S t p)) j) := by
  have hp := p.isLt
  have e : t.val % (2 * k) / k = t.val / k % 2 := by rw [Nat.mul_comm, Nat.mod_mul_right_div_self]
  have e' : t.val % (2 * k) % k = t.val % k := by rw [Nat.mul_comm, Nat.mod_mul_right_mod]
  have d : (n * (t.val % (2 * k)) + p.val) / n = t.val % (2 * k) := by
    rw [Nat.mul_add_div (by omega), Nat.div_eq_of_lt hp, Nat.add_zero]
  rw [w] at h0 h1 h2 h3
  refine at4 A i _ _ _ _ (h0.trans ?_) (h1.trans ?_) (h2.trans ?_) (h3.trans ?_)
  · show t.val / k % 2 * 1 + 1 * 0 = (n * (t.val % (2 * k)) + p.val) / H
    rw [S.half, ← Nat.div_div_eq_div_mul, d, e]
    omega
  · show 0 * 4 + 1 * s.val = s.val
    omega
  · show t.val % k * n + 1 * p.val = (n * (t.val % (2 * k)) + p.val) % H
    rw [S.half, Nat.mod_mul, d, e', Nat.mul_add_mod, Nat.mod_eq_of_lt hp, Nat.one_mul, Nat.mul_comm, Nat.add_comm]
  · show 0 * c + 1 * j.val = j.val
    rw [Nat.zero_mul, Nat.one_mul, Nat.zero_add]

/-- A point's gradient is the launch's at its layer and rows. -/
theorem taken (A B : Arr4 2 4 H c) (x y : Arr4 1 4 n c) (t : Fin N) (p : Fin n) (j : Fin c) (l : ℕ) (hl : l = t.val / (2 * k))
    (hx : t.val / (2 * k) = 0 → ∀ s, x (ix4 0 s p j) = A (ix4 (half S (row S t p)) s (rest S (row S t p)) j))
    (hy : ¬ t.val / (2 * k) = 0 → ∀ s, y (ix4 0 s p j) = B (ix4 (half S (row S t p)) s (rest S (row S t p)) j)) :
    pick l (fun s => x (ix4 0 s p j)) (fun s => y (ix4 0 s p j)) = grad S A B (layer S t) (row S t p) j := by
  subst hl
  unfold grad pick
  show (if t.val / (2 * k) = 0 then _ else _) = if t.val / (2 * k) = 0 then _ else _
  by_cases h : t.val / (2 * k) = 0
  · rw [if_pos h, if_pos h]
    exact Finset.sum_congr rfl fun s _ => hx h s
  · rw [if_neg h, if_neg h]
    exact Finset.sum_congr rfl fun s _ => hy h s
end

/-- Two layers put one above the other. -/
theorem stack2 {n c : ℕ} (x y : Arr3 1 n c) (h : Shape.Concatenates [⟨3, ![1, n, c]⟩, ⟨3, ![1, n, c]⟩] ⟨3, ![2, n, c]⟩ 0) (l : Fin 2)
    (r : Fin n) (j : Fin c) :
    concatenate ⟨3, ![2, n, c]⟩ 0 [⟨⟨3, ![1, n, c]⟩, x⟩, ⟨⟨3, ![1, n, c]⟩, y⟩] h (ix3 l r j)
      = if l.val = 0 then x (ix3 0 r j) else y (ix3 0 r j) := by
  by_cases h0 : l.val = 0
  · have h1 : l.val < 1 := by omega
    pointwise [h0, h1]
    exact at3 x _ _ _ _ (by show l.val = 0; omega) rfl rfl
  · have h1 : ¬ l.val < 1 := by omega
    have h2 : l.val - 1 < 1 := by omega
    pointwise [h0, h1, h2]
    exact at3 y _ _ _ _ (by show l.val - 1 = 0; omega) rfl rfl

/-- The reference's gradient: each layer's sum over the chips, its halves one above the other, and the layers one above the other. -/
theorem gathered {n k H R N c : ℕ} (S : Sizes n k H R N) (A B : Arr4 2 4 H c) (u v : Arr3 2 H c)
    (hu : ∀ h q j, u (ix3 h q j) = ∑ k, A (ix4 h k q j)) (hv : ∀ h q j, v (ix3 h q j) = ∑ k, B (ix4 h k q j))
    (hs : Shape.ShapeCasts ⟨3, ![2, H, c]⟩ ⟨2, ![R, c]⟩) (hb : Shape.BroadcastsInDim ⟨2, ![R, c]⟩ ⟨3, ![1, R, c]⟩ ![1, 2])
    (h : Shape.Concatenates [⟨3, ![1, R, c]⟩, ⟨3, ![1, R, c]⟩] ⟨3, ![2, R, c]⟩ 0) (l : Fin 2) (r : Fin R) (j : Fin c) :
    concatenate ⟨3, ![2, R, c]⟩ 0 [⟨⟨3, ![1, R, c]⟩, broadcastInDim ⟨3, ![1, R, c]⟩ ![1, 2] hb (shapeCast ⟨2, ![R, c]⟩ u hs)⟩,
        ⟨⟨3, ![1, R, c]⟩, broadcastInDim ⟨3, ![1, R, c]⟩ ![1, 2] hb (shapeCast ⟨2, ![R, c]⟩ v hs)⟩] h (ix3 l r j) = grad S A B l r j := by
  have e (x : Arr3 2 H c) : broadcastInDim ⟨3, ![1, R, c]⟩ ![1, 2] hb (shapeCast ⟨2, ![R, c]⟩ x hs) (ix3 0 r j) = x (ix3 (half S r) (rest S r) j) := by
    refine (broadcastInDim_apply _ hb _ _ (ix2 r j) (fun a => match a with
      | ⟨0, _⟩ => ?_
      | ⟨1, _⟩ => ?_)).trans (shapeCast_apply x hs _ _ ?_)
    · show r.val = if R = 1 then 0 else r.val
      have := r.isLt
      split <;> omega
    · show j.val = if c = 1 then 0 else j.val
      have := j.isLt
      split <;> omega
    · rw [Shape.rowMajor_val_three, Shape.rowMajor_val_two]
      show (r.val / H * H + r.val % H) * c + j.val = r.val * c + j.val
      rw [Nat.div_add_mod']
  refine (stack2 _ _ h l r j).trans ?_
  rw [e u, e v, hu, hv]
  rfl

end Cert.Adam

end
-- ==== Proof.OptIn.lean ====
/- AdamW of the input projection's weights. The kernel sums the four chips' contributions to the gradient a block of 256 rows at a time,
   the contributions held in two halves of 512 rows, and takes the step; the reference takes both over the whole array. -/
module

public import proofs.«01_k».proof.Defs
public import proofs.«01_k».proof.Proof.Adam
public import proofs.«01_k».proof.Proof.Cat
public import proofs.«01_k».proof.Proof.SguClaim
public import proofs.«01_k».proof.Proof.Gen.AdamInIdeal.Value
public import proofs.«01_k».proof.Proof.Gen.AdamInRefIdeal.Read
public import proofs.«01_k».proof.Proof.Gen.AdamInRefIdeal.Run
public import Idealize.ShloMosaic.Lib.StableHlo.RunRead

@[expose] public section

noncomputable section

namespace Cert.OptIn

open Idealize.ShloMosaic Idealize.ShloMosaic.TcCoe Idealize.SL.Sem
open Cert.Sgu (ext3)
open Cert.Adam
open scoped BigOperators

/-- The launch's sizes: halves of 512 rows, in blocks of 256. -/
theorem sz : Sizes 256 2 512 1024 Cert.AdamInIdeal.cfg0.N := ⟨by decide, rfl, rfl, Cert.AdamInIdeal.Gen.N_0⟩

section
open Cert.AdamInIdeal Cert.AdamInIdeal.Gen

/-! ### A point -/

section
variable (i : grid0.Coords) (x0 x1 : Arr4 1 4 256 838) (x2 x3 x4 : Arr3 1 256 838) (r : Fin 256) (j : Fin 838)

/-- The gradient a point takes. -/
abbrev gb : EReal := pick (i 0).val (fun k => x0 (ix4 0 k r j)) (fun k => x1 (ix4 0 k r j))

theorem g_at : k0_pay7 (F := Ideal) (Scalar.cmpi .eq (BitVec.ofNat 32 (i 0).val) 0#32) (k0_pay11 i x0 x1 x2 x3 x4) (k0_pay12 i x0 x1 x2 x3 x4)
    (View.ld x1 r0_3) (ix2 r j) = gb i x0 x1 r j :=
  picked _ (i 0).isLt _ _ (fun k => x0 (ix4 0 k r j)) (fun k => x1 (ix4 0 k r j)) _
    (add4 (chip x0 _ 0 0 rfl _ r j) (chip x0 _ 1 1 rfl _ r j) (chip x0 _ 2 2 rfl _ r j) (chip x0 _ 3 3 rfl _ r j))
    (add4 (chip x1 _ 0 0 rfl _ r j) (chip x1 _ 1 1 rfl _ r j) (chip x1 _ 2 2 rfl _ r j) (chip x1 _ 3 3 rfl _ r j))

/-- What a point writes: the gradient, the step and the new moments. -/
theorem out5 : out0_5 (F := Ideal) i x0 x1 x2 x3 x4 (ix3 0 r j) = gb i x0 x1 r j :=
  (stored _ _ _ r j).trans (g_at i x0 x1 x2 x3 x4 r j)
theorem out6 : out0_6 (F := Ideal) i x0 x1 x2 x3 x4 (ix3 0 r j) = step (gb i x0 x1 r j) (x2 (ix3 0 r j)) (x3 (ix3 0 r j)) (x4 (ix3 0 r j)) :=
  (stored _ _ _ r j).trans (step_congr (g_at i x0 x1 x2 x3 x4 r j) (loaded x2 _ _ r j) (loaded x3 _ _ r j) (loaded x4 _ _ r j))
theorem out7 : out0_7 (F := Ideal) i x0 x1 x2 x3 x4 (ix3 0 r j) = mom1 (gb i x0 x1 r j) (x3 (ix3 0 r j)) :=
  (stored _ _ _ r j).trans (congrArg₂ mom1 (g_at i x0 x1 x2 x3 x4 r j) (loaded x3 _ _ r j))
theorem out8 : out0_8 (F := Ideal) i x0 x1 x2 x3 x4 (ix3 0 r j) = mom2 (gb i x0 x1 r j) (x4 (ix3 0 r j)) :=
  (stored _ _ _ r j).trans (congrArg₂ mom2 (g_at i x0 x1 x2 x3 x4 r j) (loaded x4 _ _ r j))
end

/-! ### A point's blocks -/

variable (m : (ℓ : Loc nD τ sig) → Buf (Elt Ideal) ℓ)

/-- Where a point's blocks lie: the layer's contributions, and the rows of the weights, of the moments and of the results. -/
theorem lay : ∀ t : Fin cfg0.N, (grid0.coords t 0).val = t.val / (2 * 2)
    ∧ (t.val / (2 * 2) = 0 → ∀ a : Fin 4, win0_0.index t a = at4of 2 t.val a)
    ∧ (¬ t.val / (2 * 2) = 0 → ∀ a : Fin 4, win0_1.index t a = at4of 2 t.val a) :=
  (by decide +kernel : ∀ t : Fin grid0.N, _)
theorem wins : ∀ (t : Fin cfg0.N) (a : Fin 3), let b : ℕ := at3of 2 t.val a
    win0_2.index t a = b ∧ win0_3.index t a = b ∧ win0_4.index t a = b
    ∧ win0_5.index t a = b ∧ win0_6.index t a = b ∧ win0_7.index t a = b ∧ win0_8.index t a = b :=
  (by decide +kernel : ∀ (t : Fin grid0.N) (a : Fin 3), _)

/-- The launch's arguments. -/
abbrev A0 (c : Dev nD) : Arr4 2 4 512 838 := m ((c : Thread nD τ).loc main_arg0)
abbrev A1 (c : Dev nD) : Arr4 2 4 512 838 := m ((c : Thread nD τ).loc main_arg1)
abbrev A2 (c : Dev nD) : Arr3 2 1024 838 := m ((c : Thread nD τ).loc main_arg2)
abbrev A3 (c : Dev nD) : Arr3 2 1024 838 := m ((c : Thread nD τ).loc main_arg3)
abbrev A4 (c : Dev nD) : Arr3 2 1024 838 := m ((c : Thread nD τ).loc main_arg4)

section
variable (c : Dev nD) (t : Fin cfg0.N) (p : Fin 256) (j : Fin 838)

theorem b2 : (iblk m c 2 t : Arr3 1 256 838) (ix3 0 p j) = A2 m c (ix3 (layer sz t) (row sz t p) j) :=
  read3 sz (A2 m c) t p j _ (win0_2.index t) (fun a => (wins t a).1) rfl rfl rfl
theorem b3 : (iblk m c 3 t : Arr3 1 256 838) (ix3 0 p j) = A3 m c (ix3 (layer sz t) (row sz t p) j) :=
  read3 sz (A3 m c) t p j _ (win0_3.index t) (fun a => (wins t a).2.1) rfl rfl rfl
theorem b4 : (iblk m c 4 t : Arr3 1 256 838) (ix3 0 p j) = A4 m c (ix3 (layer sz t) (row sz t p) j) :=
  read3 sz (A4 m c) t p j _ (win0_4.index t) (fun a => (wins t a).2.2.1) rfl rfl rfl
theorem bg : gb (grid0.coords t) (iblk m c 0 t) (iblk m c 1 t) p j = grad sz (A0 m c) (A1 m c) (layer sz t) (row sz t p) j :=
  taken sz (A0 m c) (A1 m c) (iblk m c 0 t) (iblk m c 1 t) t p j _ (lay t).1
    (fun h s => read4 sz (A0 m c) t s p j _ (win0_0.index t) ((lay t).2.1 h) rfl rfl rfl rfl)
    (fun h s => read4 sz (A1 m c) t s p j _ (win0_1.index t) ((lay t).2.2 h) rfl rfl rfl rfl)
end

/-! ### The results -/

section
variable (c : Dev nD) (l : Fin 2) (r : Fin 1024) (j : Fin 838)

/-- The arrays after the launch: the gradient, the step and the moments. -/
theorem result5 : (dats m 0 c).arrAt 5 cfg0.N (ix3 l r j : S2x1024x838.Idx) = grad sz (A0 m c) (A1 m c) l r j := by
  obtain ⟨t, p, rfl, rfl⟩ := place sz l r
  refine (read3 sz ((dats m 0 c).arrAt 5 cfg0.N) t p j _ (win0_5.index t) (fun a => (wins t a).2.2.2.1) rfl rfl rfl).symm.trans
    ((congrFun ((Value.blocks5 m c t (flush0_5 t)).trans (Value.flushed5 m c t)) (ix3 0 p j)).trans ?_)
  exact (out5 (grid0.coords t) (iblk m c 0 t) (iblk m c 1 t) (iblk m c 2 t) (iblk m c 3 t) (iblk m c 4 t) p j).trans (bg m c t p j)
theorem result6 : (dats m 0 c).arrAt 6 cfg0.N (ix3 l r j : S2x1024x838.Idx)
    = step (grad sz (A0 m c) (A1 m c) l r j) (A2 m c (ix3 l r j)) (A3 m c (ix3 l r j)) (A4 m c (ix3 l r j)) := by
  obtain ⟨t, p, rfl, rfl⟩ := place sz l r
  refine (read3 sz ((dats m 0 c).arrAt 6 cfg0.N) t p j _ (win0_6.index t) (fun a => (wins t a).2.2.2.2.1) rfl rfl rfl).symm.trans
    ((congrFun ((Value.blocks6 m c t (flush0_6 t)).trans (Value.flushed6 m c t)) (ix3 0 p j)).trans ?_)
  exact (out6 (grid0.coords t) (iblk m c 0 t) (iblk m c 1 t) (iblk m c 2 t) (iblk m c 3 t) (iblk m c 4 t) p j).trans
    (step_congr (bg m c t p j) (b2 m c t p j) (b3 m c t p j) (b4 m c t p j))
theorem result7 : (dats m 0 c).arrAt 7 cfg0.N (ix3 l r j : S2x1024x838.Idx) = mom1 (grad sz (A0 m c) (A1 m c) l r j) (A3 m c (ix3 l r j)) := by
  obtain ⟨t, p, rfl, rfl⟩ := place sz l r
  refine (read3 sz ((dats m 0 c).arrAt 7 cfg0.N) t p j _ (win0_7.index t) (fun a => (wins t a).2.2.2.2.2.1) rfl rfl rfl).symm.trans
    ((congrFun ((Value.blocks7 m c t (flush0_7 t)).trans (Value.flushed7 m c t)) (ix3 0 p j)).trans ?_)
  exact (out7 (grid0.coords t) (iblk m c 0 t) (iblk m c 1 t) (iblk m c 2 t) (iblk m c 3 t) (iblk m c 4 t) p j).trans
    (congrArg₂ mom1 (bg m c t p j) (b3 m c t p j))
theorem result8 : (dats m 0 c).arrAt 8 cfg0.N (ix3 l r j : S2x1024x838.Idx) = mom2 (grad sz (A0 m c) (A1 m c) l r j) (A4 m c (ix3 l r j)) := by
  obtain ⟨t, p, rfl, rfl⟩ := place sz l r
  refine (read3 sz ((dats m 0 c).arrAt 8 cfg0.N) t p j _ (win0_8.index t) (fun a => (wins t a).2.2.2.2.2.2) rfl rfl rfl).symm.trans
    ((congrFun ((Value.blocks8 m c t (flush0_8 t)).trans (Value.flushed8 m c t)) (ix3 0 p j)).trans ?_)
  exact (out8 (grid0.coords t) (iblk m c 0 t) (iblk m c 1 t) (iblk m c 2 t) (iblk m c 3 t) (iblk m c 4 t) p j).trans
    (congrArg₂ mom2 (bg m c t p j) (b4 m c t p j))
end
end

/-! ### The reference -/

namespace Ref
open Cert.AdamInRefIdeal Cert.AdamInRefIdeal.Read

theorem v1 (x : Arr4 2 4 512 838) (h : Fin 2) (q : Fin 512) (j : Fin 838) : val_main_v1 (F := Ideal) x (ix3 h q j) = ∑ k, x (ix4 h k q j) :=
  (val_main_v1_apply x _).trans ((congrArg (· + _) Ideal.ofBits_zero_f32).trans ((zero_add _).trans
    (Finset.sum_congr rfl fun k _ => at4 x _ _ _ _ _ rfl rfl rfl rfl)))
theorem v8 (x0 x1 : Arr4 2 4 512 838) (l : Fin 2) (r : Fin 1024) (j : Fin 838) : val_main_v8 (F := Ideal) x0 x1 (ix3 l r j) = grad sz x0 x1 l r j :=
  gathered sz x0 x1 (val_main_v1 (F := Ideal) x0) (val_main_v4 (F := Ideal) x1) (v1 x0) (v1 x1) _ _ _ l r j
end Ref

/-! ### The claim -/

/-- The kernel and the reference end with the same gradient, step and moments. -/
theorem algebraic : Cert.algebraic_AdamInIdeal_AdamInRefIdeal := by
  intro m g m' g' _ hag
  refine ⟨fun c => (Cert.AdamInIdeal.Gen.dats m 0 c).arrAt 5 Cert.AdamInIdeal.cfg0.N,
    fun c => (Cert.AdamInIdeal.Gen.dats m 0 c).arrAt 6 Cert.AdamInIdeal.cfg0.N,
    fun c => (Cert.AdamInIdeal.Gen.dats m 0 c).arrAt 7 Cert.AdamInIdeal.cfg0.N,
    fun c => (Cert.AdamInIdeal.Gen.dats m 0 c).arrAt 8 Cert.AdamInIdeal.cfg0.N, Cert.AdamInIdeal.Value.run_blocks m g, ?_⟩
  refine (θ_run Cert.AdamInRefIdeal.defs _ _).mono (fun r h c => ?_) (Cert.AdamInRefIdeal.Value.run m' g')
  obtain ⟨e0, e1, e2, e3, e4⟩ := hag c
  obtain ⟨h5, h6, h7, h8, ha⟩ := h c
  refine ⟨(h5.trans (Cert.AdamInRefIdeal.Read.val_main_v8_eq _ _)).trans ?_,
    (h6.trans (Cert.AdamInRefIdeal.Read.val_main_v32_eq _ _ _ _ _)).trans ?_,
    (h7.trans (Cert.AdamInRefIdeal.Read.val_main_v13_eq _ _ _)).trans ?_,
    (h8.trans (Cert.AdamInRefIdeal.Read.val_main_v19_eq _ _ _)).trans ?_, ha⟩
  · rw [e0, e1]
    exact ext3 fun l r j => (Ref.v8 _ _ l r j).trans (result5 m c l r j).symm
  · rw [e0, e1, e2, e3, e4]
    exact ext3 fun l r j => (step_congr (Ref.v8 _ _ l r j) rfl rfl rfl).trans (result6 m c l r j).symm
  · rw [e0, e1, e3]
    exact ext3 fun l r j => (congrArg (mom1 · _) (Ref.v8 _ _ l r j)).trans (result7 m c l r j).symm
  · rw [e0, e1, e4]
    exact ext3 fun l r j => (congrArg (mom2 · _) (Ref.v8 _ _ l r j)).trans (result8 m c l r j).symm

/-- The reference ends, changes no argument and leaves every counter at zero. -/
theorem frame_ref : Cert.quiescent_AdamInRefIdeal := fun m' g' _ =>
  (θ_run Cert.AdamInRefIdeal.defs _ _).mono
    (fun r h => ⟨fun c => (h c).2.2.2.2, Idealize.ShloMosaic.sem_eq_zero_of_no_sems (by decide) r.2⟩)
    (Cert.AdamInRefIdeal.Value.run m' g')

end Cert.OptIn

end
-- ==== Proof.OptOut.lean ====
/- AdamW of the output projection's weights. The kernel sums the four chips' contributions to the gradient a block of 128 rows at a time,
   the contributions held in two halves of 128 rows, and takes the step; the reference takes both over the whole array. -/
module

public import proofs.«01_k».proof.Defs
public import proofs.«01_k».proof.Proof.Adam
public import proofs.«01_k».proof.Proof.Cat
public import proofs.«01_k».proof.Proof.SguClaim
public import proofs.«01_k».proof.Proof.Gen.AdamOutIdeal.Value
public import proofs.«01_k».proof.Proof.Gen.AdamOutRefIdeal.Read
public import proofs.«01_k».proof.Proof.Gen.AdamOutRefIdeal.Run
public import Idealize.ShloMosaic.Lib.StableHlo.RunRead

@[expose] public section

noncomputable section

namespace Cert.OptOut

open Idealize.ShloMosaic Idealize.ShloMosaic.TcCoe Idealize.SL.Sem
open Cert.Sgu (ext3)
open Cert.Adam
open scoped BigOperators

/-- The launch's sizes: halves of 128 rows, in blocks of 128. -/
theorem sz : Sizes 128 1 128 256 Cert.AdamOutIdeal.cfg0.N := ⟨by decide, rfl, rfl, Cert.AdamOutIdeal.Gen.N_0⟩

section
open Cert.AdamOutIdeal Cert.AdamOutIdeal.Gen

/-! ### A point -/

section
variable (i : grid0.Coords) (x0 x1 : Arr4 1 4 128 1024) (x2 x3 x4 : Arr3 1 128 1024) (r : Fin 128) (j : Fin 1024)

/-- The gradient a point takes. -/
abbrev gb : EReal := pick (i 0).val (fun k => x0 (ix4 0 k r j)) (fun k => x1 (ix4 0 k r j))

theorem g_at : k0_pay7 (F := Ideal) (Scalar.cmpi .eq (BitVec.ofNat 32 (i 0).val) 0#32) (k0_pay11 i x0 x1 x2 x3 x4) (k0_pay12 i x0 x1 x2 x3 x4)
    (View.ld x1 r0_3) (ix2 r j) = gb i x0 x1 r j :=
  picked _ (i 0).isLt _ _ (fun k => x0 (ix4 0 k r j)) (fun k => x1 (ix4 0 k r j)) _
    (add4 (chip x0 _ 0 0 rfl _ r j) (chip x0 _ 1 1 rfl _ r j) (chip x0 _ 2 2 rfl _ r j) (chip x0 _ 3 3 rfl _ r j))
    (add4 (chip x1 _ 0 0 rfl _ r j) (chip x1 _ 1 1 rfl _ r j) (chip x1 _ 2 2 rfl _ r j) (chip x1 _ 3 3 rfl _ r j))

/-- What a point writes: the gradient, the step and the new moments. -/
theorem out5 : out0_5 (F := Ideal) i x0 x1 x2 x3 x4 (ix3 0 r j) = gb i x0 x1 r j :=
  (stored _ _ _ r j).trans (g_at i x0 x1 x2 x3 x4 r j)
theorem out6 : out0_6 (F := Ideal) i x0 x1 x2 x3 x4 (ix3 0 r j) = step (gb i x0 x1 r j) (x2 (ix3 0 r j)) (x3 (ix3 0 r j)) (x4 (ix3 0 r j)) :=
  (stored _ _ _ r j).trans (step_congr (g_at i x0 x1 x2 x3 x4 r j) (loaded x2 _ _ r j) (loaded x3 _ _ r j) (loaded x4 _ _ r j))
theorem out7 : out0_7 (F := Ideal) i x0 x1 x2 x3 x4 (ix3 0 r j) = mom1 (gb i x0 x1 r j) (x3 (ix3 0 r j)) :=
  (stored _ _ _ r j).trans (congrArg₂ mom1 (g_at i x0 x1 x2 x3 x4 r j) (loaded x3 _ _ r j))
theorem out8 : out0_8 (F := Ideal) i x0 x1 x2 x3 x4 (ix3 0 r j) = mom2 (gb i x0 x1 r j) (x4 (ix3 0 r j)) :=
  (stored _ _ _ r j).trans (congrArg₂ mom2 (g_at i x0 x1 x2 x3 x4 r j) (loaded x4 _ _ r j))
end

/-! ### A point's blocks -/

variable (m : (ℓ : Loc nD τ sig) → Buf (Elt Ideal) ℓ)

/-- Where a point's blocks lie: the layer's contributions, and the rows of the weights, of the moments and of the results. -/
theorem lay : ∀ t : Fin cfg0.N, (grid0.coords t 0).val = t.val / (2 * 1)
    ∧ (t.val / (2 * 1) = 0 → ∀ a : Fin 4, win0_0.index t a = at4of 1 t.val a)
    ∧ (¬ t.val / (2 * 1) = 0 → ∀ a : Fin 4, win0_1.index t a = at4of 1 t.val a) :=
  (by decide +kernel : ∀ t : Fin grid0.N, _)
theorem wins : ∀ (t : Fin cfg0.N) (a : Fin 3), let b : ℕ := at3of 1 t.val a
    win0_2.index t a = b ∧ win0_3.index t a = b ∧ win0_4.index t a = b
    ∧ win0_5.index t a = b ∧ win0_6.index t a = b ∧ win0_7.index t a = b ∧ win0_8.index t a = b :=
  (by decide +kernel : ∀ (t : Fin grid0.N) (a : Fin 3), _)

/-- The launch's arguments. -/
abbrev A0 (c : Dev nD) : Arr4 2 4 128 1024 := m ((c : Thread nD τ).loc main_arg0)
abbrev A1 (c : Dev nD) : Arr4 2 4 128 1024 := m ((c : Thread nD τ).loc main_arg1)
abbrev A2 (c : Dev nD) : Arr3 2 256 1024 := m ((c : Thread nD τ).loc main_arg2)
abbrev A3 (c : Dev nD) : Arr3 2 256 1024 := m ((c : Thread nD τ).loc main_arg3)
abbrev A4 (c : Dev nD) : Arr3 2 256 1024 := m ((c : Thread nD τ).loc main_arg4)

section
variable (c : Dev nD) (t : Fin cfg0.N) (p : Fin 128) (j : Fin 1024)

theorem b2 : (iblk m c 2 t : Arr3 1 128 1024) (ix3 0 p j) = A2 m c (ix3 (layer sz t) (row sz t p) j) :=
  read3 sz (A2 m c) t p j _ (win0_2.index t) (fun a => (wins t a).1) rfl rfl rfl
theorem b3 : (iblk m c 3 t : Arr3 1 128 1024) (ix3 0 p j) = A3 m c (ix3 (layer sz t) (row sz t p) j) :=
  read3 sz (A3 m c) t p j _ (win0_3.index t) (fun a => (wins t a).2.1) rfl rfl rfl
theorem b4 : (iblk m c 4 t : Arr3 1 128 1024) (ix3 0 p j) = A4 m c (ix3 (layer sz t) (row sz t p) j) :=
  read3 sz (A4 m c) t p j _ (win0_4.index t) (fun a => (wins t a).2.2.1) rfl rfl rfl
theorem bg : gb (grid0.coords t) (iblk m c 0 t) (iblk m c 1 t) p j = grad sz (A0 m c) (A1 m c) (layer sz t) (row sz t p) j :=
  taken sz (A0 m c) (A1 m c) (iblk m c 0 t) (iblk m c 1 t) t p j _ (lay t).1
    (fun h s => read4 sz (A0 m c) t s p j _ (win0_0.index t) ((lay t).2.1 h) rfl rfl rfl rfl)
    (fun h s => read4 sz (A1 m c) t s p j _ (win0_1.index t) ((lay t).2.2 h) rfl rfl rfl rfl)
end

/-! ### The results -/

section
variable (c : Dev nD) (l : Fin 2) (r : Fin 256) (j : Fin 1024)

/-- The arrays after the launch: the gradient, the step and the moments. -/
theorem result5 : (dats m 0 c).arrAt 5 cfg0.N (ix3 l r j : S2x256x1024.Idx) = grad sz (A0 m c) (A1 m c) l r j := by
  obtain ⟨t, p, rfl, rfl⟩ := place sz l r
  refine (read3 sz ((dats m 0 c).arrAt 5 cfg0.N) t p j _ (win0_5.index t) (fun a => (wins t a).2.2.2.1) rfl rfl rfl).symm.trans
    ((congrFun ((Value.blocks5 m c t (flush0_5 t)).trans (Value.flushed5 m c t)) (ix3 0 p j)).trans ?_)
  exact (out5 (grid0.coords t) (iblk m c 0 t) (iblk m c 1 t) (iblk m c 2 t) (iblk m c 3 t) (iblk m c 4 t) p j).trans (bg m c t p j)
theorem result6 : (dats m 0 c).arrAt 6 cfg0.N (ix3 l r j : S2x256x1024.Idx)
    = step (grad sz (A0 m c) (A1 m c) l r j) (A2 m c (ix3 l r j)) (A3 m c (ix3 l r j)) (A4 m c (ix3 l r j)) := by
  obtain ⟨t, p, rfl, rfl⟩ := place sz l r
  refine (read3 sz ((dats m 0 c).arrAt 6 cfg0.N) t p j _ (win0_6.index t) (fun a => (wins t a).2.2.2.2.1) rfl rfl rfl).symm.trans
    ((congrFun ((Value.blocks6 m c t (flush0_6 t)).trans (Value.flushed6 m c t)) (ix3 0 p j)).trans ?_)
  exact (out6 (grid0.coords t) (iblk m c 0 t) (iblk m c 1 t) (iblk m c 2 t) (iblk m c 3 t) (iblk m c 4 t) p j).trans
    (step_congr (bg m c t p j) (b2 m c t p j) (b3 m c t p j) (b4 m c t p j))
theorem result7 : (dats m 0 c).arrAt 7 cfg0.N (ix3 l r j : S2x256x1024.Idx) = mom1 (grad sz (A0 m c) (A1 m c) l r j) (A3 m c (ix3 l r j)) := by
  obtain ⟨t, p, rfl, rfl⟩ := place sz l r
  refine (read3 sz ((dats m 0 c).arrAt 7 cfg0.N) t p j _ (win0_7.index t) (fun a => (wins t a).2.2.2.2.2.1) rfl rfl rfl).symm.trans
    ((congrFun ((Value.blocks7 m c t (flush0_7 t)).trans (Value.flushed7 m c t)) (ix3 0 p j)).trans ?_)
  exact (out7 (grid0.coords t) (iblk m c 0 t) (iblk m c 1 t) (iblk m c 2 t) (iblk m c 3 t) (iblk m c 4 t) p j).trans
    (congrArg₂ mom1 (bg m c t p j) (b3 m c t p j))
theorem result8 : (dats m 0 c).arrAt 8 cfg0.N (ix3 l r j : S2x256x1024.Idx) = mom2 (grad sz (A0 m c) (A1 m c) l r j) (A4 m c (ix3 l r j)) := by
  obtain ⟨t, p, rfl, rfl⟩ := place sz l r
  refine (read3 sz ((dats m 0 c).arrAt 8 cfg0.N) t p j _ (win0_8.index t) (fun a => (wins t a).2.2.2.2.2.2) rfl rfl rfl).symm.trans
    ((congrFun ((Value.blocks8 m c t (flush0_8 t)).trans (Value.flushed8 m c t)) (ix3 0 p j)).trans ?_)
  exact (out8 (grid0.coords t) (iblk m c 0 t) (iblk m c 1 t) (iblk m c 2 t) (iblk m c 3 t) (iblk m c 4 t) p j).trans
    (congrArg₂ mom2 (bg m c t p j) (b4 m c t p j))
end
end

/-! ### The reference -/

namespace Ref
open Cert.AdamOutRefIdeal Cert.AdamOutRefIdeal.Read

theorem v1 (x : Arr4 2 4 128 1024) (h : Fin 2) (q : Fin 128) (j : Fin 1024) : val_main_v1 (F := Ideal) x (ix3 h q j) = ∑ k, x (ix4 h k q j) :=
  (val_main_v1_apply x _).trans ((congrArg (· + _) Ideal.ofBits_zero_f32).trans ((zero_add _).trans
    (Finset.sum_congr rfl fun k _ => at4 x _ _ _ _ _ rfl rfl rfl rfl)))
theorem v8 (x0 x1 : Arr4 2 4 128 1024) (l : Fin 2) (r : Fin 256) (j : Fin 1024) : val_main_v8 (F := Ideal) x0 x1 (ix3 l r j) = grad sz x0 x1 l r j :=
  gathered sz x0 x1 (val_main_v1 (F := Ideal) x0) (val_main_v4 (F := Ideal) x1) (v1 x0) (v1 x1) _ _ _ l r j
end Ref

/-! ### The claim -/

/-- The kernel and the reference end with the same gradient, step and moments. -/
theorem algebraic : Cert.algebraic_AdamOutIdeal_AdamOutRefIdeal := by
  intro m g m' g' _ hag
  refine ⟨fun c => (Cert.AdamOutIdeal.Gen.dats m 0 c).arrAt 5 Cert.AdamOutIdeal.cfg0.N,
    fun c => (Cert.AdamOutIdeal.Gen.dats m 0 c).arrAt 6 Cert.AdamOutIdeal.cfg0.N,
    fun c => (Cert.AdamOutIdeal.Gen.dats m 0 c).arrAt 7 Cert.AdamOutIdeal.cfg0.N,
    fun c => (Cert.AdamOutIdeal.Gen.dats m 0 c).arrAt 8 Cert.AdamOutIdeal.cfg0.N, Cert.AdamOutIdeal.Value.run_blocks m g, ?_⟩
  refine (θ_run Cert.AdamOutRefIdeal.defs _ _).mono (fun r h c => ?_) (Cert.AdamOutRefIdeal.Value.run m' g')
  obtain ⟨e0, e1, e2, e3, e4⟩ := hag c
  obtain ⟨h5, h6, h7, h8, ha⟩ := h c
  refine ⟨(h5.trans (Cert.AdamOutRefIdeal.Read.val_main_v8_eq _ _)).trans ?_,
    (h6.trans (Cert.AdamOutRefIdeal.Read.val_main_v32_eq _ _ _ _ _)).trans ?_,
    (h7.trans (Cert.AdamOutRefIdeal.Read.val_main_v13_eq _ _ _)).trans ?_,
    (h8.trans (Cert.AdamOutRefIdeal.Read.val_main_v19_eq _ _ _)).trans ?_, ha⟩
  · rw [e0, e1]
    exact ext3 fun l r j => (Ref.v8 _ _ l r j).trans (result5 m c l r j).symm
  · rw [e0, e1, e2, e3, e4]
    exact ext3 fun l r j => (step_congr (Ref.v8 _ _ l r j) rfl rfl rfl).trans (result6 m c l r j).symm
  · rw [e0, e1, e3]
    exact ext3 fun l r j => (congrArg (mom1 · _) (Ref.v8 _ _ l r j)).trans (result7 m c l r j).symm
  · rw [e0, e1, e4]
    exact ext3 fun l r j => (congrArg (mom2 · _) (Ref.v8 _ _ l r j)).trans (result8 m c l r j).symm

/-- The reference ends, changes no argument and leaves every counter at zero. -/
theorem frame_ref : Cert.quiescent_AdamOutRefIdeal := fun m' g' _ =>
  (θ_run Cert.AdamOutRefIdeal.defs _ _).mono
    (fun r h => ⟨fun c => (h c).2.2.2.2, Idealize.ShloMosaic.sem_eq_zero_of_no_sems (by decide) r.2⟩)
    (Cert.AdamOutRefIdeal.Value.run m' g')

end Cert.OptOut

end
-- ==== Proof.OptUp.lean ====
/- AdamW of the feed-forward block's first weights. The kernel sums the four chips' contributions to the gradient a block of 256 rows at a time,
   the contributions held in two halves of 512 rows, and takes the step; the reference takes both over the whole array. -/
module

public import proofs.«01_k».proof.Defs
public import proofs.«01_k».proof.Proof.Adam
public import proofs.«01_k».proof.Proof.Cat
public import proofs.«01_k».proof.Proof.SguClaim
public import proofs.«01_k».proof.Proof.Gen.AdamUpIdeal.Value
public import proofs.«01_k».proof.Proof.Gen.AdamUpRefIdeal.Read
public import proofs.«01_k».proof.Proof.Gen.AdamUpRefIdeal.Run
public import Idealize.ShloMosaic.Lib.StableHlo.RunRead

@[expose] public section

noncomputable section

namespace Cert.OptUp

open Idealize.ShloMosaic Idealize.ShloMosaic.TcCoe Idealize.SL.Sem
open Cert.Sgu (ext3)
open Cert.Adam
open scoped BigOperators

/-- The launch's sizes: halves of 512 rows, in blocks of 256. -/
theorem sz : Sizes 256 2 512 1024 Cert.AdamUpIdeal.cfg0.N := ⟨by decide, rfl, rfl, Cert.AdamUpIdeal.Gen.N_0⟩

section
open Cert.AdamUpIdeal Cert.AdamUpIdeal.Gen

/-! ### A point -/

section
variable (i : grid0.Coords) (x0 x1 : Arr4 1 4 256 1408) (x2 x3 x4 : Arr3 1 256 1408) (r : Fin 256) (j : Fin 1408)

/-- The gradient a point takes. -/
abbrev gb : EReal := pick (i 0).val (fun k => x0 (ix4 0 k r j)) (fun k => x1 (ix4 0 k r j))

theorem g_at : k0_pay7 (F := Ideal) (Scalar.cmpi .eq (BitVec.ofNat 32 (i 0).val) 0#32) (k0_pay11 i x0 x1 x2 x3 x4) (k0_pay12 i x0 x1 x2 x3 x4)
    (View.ld x1 r0_3) (ix2 r j) = gb i x0 x1 r j :=
  picked _ (i 0).isLt _ _ (fun k => x0 (ix4 0 k r j)) (fun k => x1 (ix4 0 k r j)) _
    (add4 (chip x0 _ 0 0 rfl _ r j) (chip x0 _ 1 1 rfl _ r j) (chip x0 _ 2 2 rfl _ r j) (chip x0 _ 3 3 rfl _ r j))
    (add4 (chip x1 _ 0 0 rfl _ r j) (chip x1 _ 1 1 rfl _ r j) (chip x1 _ 2 2 rfl _ r j) (chip x1 _ 3 3 rfl _ r j))

/-- What a point writes: the gradient, the step and the new moments. -/
theorem out5 : out0_5 (F := Ideal) i x0 x1 x2 x3 x4 (ix3 0 r j) = gb i x0 x1 r j :=
  (stored _ _ _ r j).trans (g_at i x0 x1 x2 x3 x4 r j)
theorem out6 : out0_6 (F := Ideal) i x0 x1 x2 x3 x4 (ix3 0 r j) = step (gb i x0 x1 r j) (x2 (ix3 0 r j)) (x3 (ix3 0 r j)) (x4 (ix3 0 r j)) :=
  (stored _ _ _ r j).trans (step_congr (g_at i x0 x1 x2 x3 x4 r j) (loaded x2 _ _ r j) (loaded x3 _ _ r j) (loaded x4 _ _ r j))
theorem out7 : out0_7 (F := Ideal) i x0 x1 x2 x3 x4 (ix3 0 r j) = mom1 (gb i x0 x1 r j) (x3 (ix3 0 r j)) :=
  (stored _ _ _ r j).trans (congrArg₂ mom1 (g_at i x0 x1 x2 x3 x4 r j) (loaded x3 _ _ r j))
theorem out8 : out0_8 (F := Ideal) i x0 x1 x2 x3 x4 (ix3 0 r j) = mom2 (gb i x0 x1 r j) (x4 (ix3 0 r j)) :=
  (stored _ _ _ r j).trans (congrArg₂ mom2 (g_at i x0 x1 x2 x3 x4 r j) (loaded x4 _ _ r j))
end

/-! ### A point's blocks -/

variable (m : (ℓ : Loc nD τ sig) → Buf (Elt Ideal) ℓ)

/-- Where a point's blocks lie: the layer's contributions, and the rows of the weights, of the moments and of the results. -/
theorem lay : ∀ t : Fin cfg0.N, (grid0.coords t 0).val = t.val / (2 * 2)
    ∧ (t.val / (2 * 2) = 0 → ∀ a : Fin 4, win0_0.index t a = at4of 2 t.val a)
    ∧ (¬ t.val / (2 * 2) = 0 → ∀ a : Fin 4, win0_1.index t a = at4of 2 t.val a) :=
  (by decide +kernel : ∀ t : Fin grid0.N, _)
theorem wins : ∀ (t : Fin cfg0.N) (a : Fin 3), let b : ℕ := at3of 2 t.val a
    win0_2.index t a = b ∧ win0_3.index t a = b ∧ win0_4.index t a = b
    ∧ win0_5.index t a = b ∧ win0_6.index t a = b ∧ win0_7.index t a = b ∧ win0_8.index t a = b :=
  (by decide +kernel : ∀ (t : Fin grid0.N) (a : Fin 3), _)

/-- The launch's arguments. -/
abbrev A0 (c : Dev nD) : Arr4 2 4 512 1408 := m ((c : Thread nD τ).loc main_arg0)
abbrev A1 (c : Dev nD) : Arr4 2 4 512 1408 := m ((c : Thread nD τ).loc main_arg1)
abbrev A2 (c : Dev nD) : Arr3 2 1024 1408 := m ((c : Thread nD τ).loc main_arg2)
abbrev A3 (c : Dev nD) : Arr3 2 1024 1408 := m ((c : Thread nD τ).loc main_arg3)
abbrev A4 (c : Dev nD) : Arr3 2 1024 1408 := m ((c : Thread nD τ).loc main_arg4)

section
variable (c : Dev nD) (t : Fin cfg0.N) (p : Fin 256) (j : Fin 1408)

theorem b2 : (iblk m c 2 t : Arr3 1 256 1408) (ix3 0 p j) = A2 m c (ix3 (layer sz t) (row sz t p) j) :=
  read3 sz (A2 m c) t p j _ (win0_2.index t) (fun a => (wins t a).1) rfl rfl rfl
theorem b3 : (iblk m c 3 t : Arr3 1 256 1408) (ix3 0 p j) = A3 m c (ix3 (layer sz t) (row sz t p) j) :=
  read3 sz (A3 m c) t p j _ (win0_3.index t) (fun a => (wins t a).2.1) rfl rfl rfl
theorem b4 : (iblk m c 4 t : Arr3 1 256 1408) (ix3 0 p j) = A4 m c (ix3 (layer sz t) (row sz t p) j) :=
  read3 sz (A4 m c) t p j _ (win0_4.index t) (fun a => (wins t a).2.2.1) rfl rfl rfl
theorem bg : gb (grid0.coords t) (iblk m c 0 t) (iblk m c 1 t) p j = grad sz (A0 m c) (A1 m c) (layer sz t) (row sz t p) j :=
  taken sz (A0 m c) (A1 m c) (iblk m c 0 t) (iblk m c 1 t) t p j _ (lay t).1
    (fun h s => read4 sz (A0 m c) t s p j _ (win0_0.index t) ((lay t).2.1 h) rfl rfl rfl rfl)
    (fun h s => read4 sz (A1 m c) t s p j _ (win0_1.index t) ((lay t).2.2 h) rfl rfl rfl rfl)
end

/-! ### The results -/

section
variable (c : Dev nD) (l : Fin 2) (r : Fin 1024) (j : Fin 1408)

/-- The arrays after the launch: the gradient, the step and the moments. -/
theorem result5 : (dats m 0 c).arrAt 5 cfg0.N (ix3 l r j : S2x1024x1408.Idx) = grad sz (A0 m c) (A1 m c) l r j := by
  obtain ⟨t, p, rfl, rfl⟩ := place sz l r
  refine (read3 sz ((dats m 0 c).arrAt 5 cfg0.N) t p j _ (win0_5.index t) (fun a => (wins t a).2.2.2.1) rfl rfl rfl).symm.trans
    ((congrFun ((Value.blocks5 m c t (flush0_5 t)).trans (Value.flushed5 m c t)) (ix3 0 p j)).trans ?_)
  exact (out5 (grid0.coords t) (iblk m c 0 t) (iblk m c 1 t) (iblk m c 2 t) (iblk m c 3 t) (iblk m c 4 t) p j).trans (bg m c t p j)
theorem result6 : (dats m 0 c).arrAt 6 cfg0.N (ix3 l r j : S2x1024x1408.Idx)
    = step (grad sz (A0 m c) (A1 m c) l r j) (A2 m c (ix3 l r j)) (A3 m c (ix3 l r j)) (A4 m c (ix3 l r j)) := by
  obtain ⟨t, p, rfl, rfl⟩ := place sz l r
  refine (read3 sz ((dats m 0 c).arrAt 6 cfg0.N) t p j _ (win0_6.index t) (fun a => (wins t a).2.2.2.2.1) rfl rfl rfl).symm.trans
    ((congrFun ((Value.blocks6 m c t (flush0_6 t)).trans (Value.flushed6 m c t)) (ix3 0 p j)).trans ?_)
  exact (out6 (grid0.coords t) (iblk m c 0 t) (iblk m c 1 t) (iblk m c 2 t) (iblk m c 3 t) (iblk m c 4 t) p j).trans
    (step_congr (bg m c t p j) (b2 m c t p j) (b3 m c t p j) (b4 m c t p j))
theorem result7 : (dats m 0 c).arrAt 7 cfg0.N (ix3 l r j : S2x1024x1408.Idx) = mom1 (grad sz (A0 m c) (A1 m c) l r j) (A3 m c (ix3 l r j)) := by
  obtain ⟨t, p, rfl, rfl⟩ := place sz l r
  refine (read3 sz ((dats m 0 c).arrAt 7 cfg0.N) t p j _ (win0_7.index t) (fun a => (wins t a).2.2.2.2.2.1) rfl rfl rfl).symm.trans
    ((congrFun ((Value.blocks7 m c t (flush0_7 t)).trans (Value.flushed7 m c t)) (ix3 0 p j)).trans ?_)
  exact (out7 (grid0.coords t) (iblk m c 0 t) (iblk m c 1 t) (iblk m c 2 t) (iblk m c 3 t) (iblk m c 4 t) p j).trans
    (congrArg₂ mom1 (bg m c t p j) (b3 m c t p j))
theorem result8 : (dats m 0 c).arrAt 8 cfg0.N (ix3 l r j : S2x1024x1408.Idx) = mom2 (grad sz (A0 m c) (A1 m c) l r j) (A4 m c (ix3 l r j)) := by
  obtain ⟨t, p, rfl, rfl⟩ := place sz l r
  refine (read3 sz ((dats m 0 c).arrAt 8 cfg0.N) t p j _ (win0_8.index t) (fun a => (wins t a).2.2.2.2.2.2) rfl rfl rfl).symm.trans
    ((congrFun ((Value.blocks8 m c t (flush0_8 t)).trans (Value.flushed8 m c t)) (ix3 0 p j)).trans ?_)
  exact (out8 (grid0.coords t) (iblk m c 0 t) (iblk m c 1 t) (iblk m c 2 t) (iblk m c 3 t) (iblk m c 4 t) p j).trans
    (congrArg₂ mom2 (bg m c t p j) (b4 m c t p j))
end
end

/-! ### The reference -/

namespace Ref
open Cert.AdamUpRefIdeal Cert.AdamUpRefIdeal.Read

theorem v1 (x : Arr4 2 4 512 1408) (h : Fin 2) (q : Fin 512) (j : Fin 1408) : val_main_v1 (F := Ideal) x (ix3 h q j) = ∑ k, x (ix4 h k q j) :=
  (val_main_v1_apply x _).trans ((congrArg (· + _) Ideal.ofBits_zero_f32).trans ((zero_add _).trans
    (Finset.sum_congr rfl fun k _ => at4 x _ _ _ _ _ rfl rfl rfl rfl)))
theorem v8 (x0 x1 : Arr4 2 4 512 1408) (l : Fin 2) (r : Fin 1024) (j : Fin 1408) : val_main_v8 (F := Ideal) x0 x1 (ix3 l r j) = grad sz x0 x1 l r j :=
  gathered sz x0 x1 (val_main_v1 (F := Ideal) x0) (val_main_v4 (F := Ideal) x1) (v1 x0) (v1 x1) _ _ _ l r j
end Ref

/-! ### The claim -/

/-- The kernel and the reference end with the same gradient, step and moments. -/
theorem algebraic : Cert.algebraic_AdamUpIdeal_AdamUpRefIdeal := by
  intro m g m' g' _ hag
  refine ⟨fun c => (Cert.AdamUpIdeal.Gen.dats m 0 c).arrAt 5 Cert.AdamUpIdeal.cfg0.N,
    fun c => (Cert.AdamUpIdeal.Gen.dats m 0 c).arrAt 6 Cert.AdamUpIdeal.cfg0.N,
    fun c => (Cert.AdamUpIdeal.Gen.dats m 0 c).arrAt 7 Cert.AdamUpIdeal.cfg0.N,
    fun c => (Cert.AdamUpIdeal.Gen.dats m 0 c).arrAt 8 Cert.AdamUpIdeal.cfg0.N, Cert.AdamUpIdeal.Value.run_blocks m g, ?_⟩
  refine (θ_run Cert.AdamUpRefIdeal.defs _ _).mono (fun r h c => ?_) (Cert.AdamUpRefIdeal.Value.run m' g')
  obtain ⟨e0, e1, e2, e3, e4⟩ := hag c
  obtain ⟨h5, h6, h7, h8, ha⟩ := h c
  refine ⟨(h5.trans (Cert.AdamUpRefIdeal.Read.val_main_v8_eq _ _)).trans ?_,
    (h6.trans (Cert.AdamUpRefIdeal.Read.val_main_v32_eq _ _ _ _ _)).trans ?_,
    (h7.trans (Cert.AdamUpRefIdeal.Read.val_main_v13_eq _ _ _)).trans ?_,
    (h8.trans (Cert.AdamUpRefIdeal.Read.val_main_v19_eq _ _ _)).trans ?_, ha⟩
  · rw [e0, e1]
    exact ext3 fun l r j => (Ref.v8 _ _ l r j).trans (result5 m c l r j).symm
  · rw [e0, e1, e2, e3, e4]
    exact ext3 fun l r j => (step_congr (Ref.v8 _ _ l r j) rfl rfl rfl).trans (result6 m c l r j).symm
  · rw [e0, e1, e3]
    exact ext3 fun l r j => (congrArg (mom1 · _) (Ref.v8 _ _ l r j)).trans (result7 m c l r j).symm
  · rw [e0, e1, e4]
    exact ext3 fun l r j => (congrArg (mom2 · _) (Ref.v8 _ _ l r j)).trans (result8 m c l r j).symm

/-- The reference ends, changes no argument and leaves every counter at zero. -/
theorem frame_ref : Cert.quiescent_AdamUpRefIdeal := fun m' g' _ =>
  (θ_run Cert.AdamUpRefIdeal.defs _ _).mono
    (fun r h => ⟨fun c => (h c).2.2.2.2, Idealize.ShloMosaic.sem_eq_zero_of_no_sems (by decide) r.2⟩)
    (Cert.AdamUpRefIdeal.Value.run m' g')

end Cert.OptUp

end
-- ==== Proof.OptDown.lean ====
/- AdamW of the feed-forward block's second weights. The kernel sums the four chips' contributions to the gradient a block of 176 rows at a time,
   the contributions held in two halves of 352 rows, and takes the step; the reference takes both over the whole array. -/
module

public import proofs.«01_k».proof.Defs
public import proofs.«01_k».proof.Proof.Adam
public import proofs.«01_k».proof.Proof.Cat
public import proofs.«01_k».proof.Proof.SguClaim
public import proofs.«01_k».proof.Proof.Gen.AdamDownIdeal.Value
public import proofs.«01_k».proof.Proof.Gen.AdamDownRefIdeal.Read
public import proofs.«01_k».proof.Proof.Gen.AdamDownRefIdeal.Run
public import Idealize.ShloMosaic.Lib.StableHlo.RunRead

@[expose] public section

noncomputable section

namespace Cert.OptDown

open Idealize.ShloMosaic Idealize.ShloMosaic.TcCoe Idealize.SL.Sem
open Cert.Sgu (ext3)
open Cert.Adam
open scoped BigOperators

/-- The launch's sizes: halves of 352 rows, in blocks of 176. -/
theorem sz : Sizes 176 2 352 704 Cert.AdamDownIdeal.cfg0.N := ⟨by decide, rfl, rfl, Cert.AdamDownIdeal.Gen.N_0⟩

section
open Cert.AdamDownIdeal Cert.AdamDownIdeal.Gen

/-! ### A point -/

section
variable (i : grid0.Coords) (x0 x1 : Arr4 1 4 176 1024) (x2 x3 x4 : Arr3 1 176 1024) (r : Fin 176) (j : Fin 1024)

/-- The gradient a point takes. -/
abbrev gb : EReal := pick (i 0).val (fun k => x0 (ix4 0 k r j)) (fun k => x1 (ix4 0 k r j))

theorem g_at : k0_pay7 (F := Ideal) (Scalar.cmpi .eq (BitVec.ofNat 32 (i 0).val) 0#32) (k0_pay11 i x0 x1 x2 x3 x4) (k0_pay12 i x0 x1 x2 x3 x4)
    (View.ld x1 r0_3) (ix2 r j) = gb i x0 x1 r j :=
  picked _ (i 0).isLt _ _ (fun k => x0 (ix4 0 k r j)) (fun k => x1 (ix4 0 k r j)) _
    (add4 (chip x0 _ 0 0 rfl _ r j) (chip x0 _ 1 1 rfl _ r j) (chip x0 _ 2 2 rfl _ r j) (chip x0 _ 3 3 rfl _ r j))
    (add4 (chip x1 _ 0 0 rfl _ r j) (chip x1 _ 1 1 rfl _ r j) (chip x1 _ 2 2 rfl _ r j) (chip x1 _ 3 3 rfl _ r j))

/-- What a point writes: the gradient, the step and the new moments. -/
theorem out5 : out0_5 (F := Ideal) i x0 x1 x2 x3 x4 (ix3 0 r j) = gb i x0 x1 r j :=
  (stored _ _ _ r j).trans (g_at i x0 x1 x2 x3 x4 r j)
theorem out6 : out0_6 (F := Ideal) i x0 x1 x2 x3 x4 (ix3 0 r j) = step (gb i x0 x1 r j) (x2 (ix3 0 r j)) (x3 (ix3 0 r j)) (x4 (ix3 0 r j)) :=
  (stored _ _ _ r j).trans (step_congr (g_at i x0 x1 x2 x3 x4 r j) (loaded x2 _ _ r j) (loaded x3 _ _ r j) (loaded x4 _ _ r j))
theorem out7 : out0_7 (F := Ideal) i x0 x1 x2 x3 x4 (ix3 0 r j) = mom1 (gb i x0 x1 r j) (x3 (ix3 0 r j)) :=
  (stored _ _ _ r j).trans (congrArg₂ mom1 (g_at i x0 x1 x2 x3 x4 r j) (loaded x3 _ _ r j))
theorem out8 : out0_8 (F := Ideal) i x0 x1 x2 x3 x4 (ix3 0 r j) = mom2 (gb i x0 x1 r j) (x4 (ix3 0 r j)) :=
  (stored _ _ _ r j).trans (congrArg₂ mom2 (g_at i x0 x1 x2 x3 x4 r j) (loaded x4 _ _ r j))
end

/-! ### A point's blocks -/

variable (m : (ℓ : Loc nD τ sig) → Buf (Elt Ideal) ℓ)

/-- Where a point's blocks lie: the layer's contributions, and the rows of the weights, of the moments and of the results. -/
theorem lay : ∀ t : Fin cfg0.N, (grid0.coords t 0).val = t.val / (2 * 2)
    ∧ (t.val / (2 * 2) = 0 → ∀ a : Fin 4, win0_0.index t a = at4of 2 t.val a)
    ∧ (¬ t.val / (2 * 2) = 0 → ∀ a : Fin 4, win0_1.index t a = at4of 2 t.val a) :=
  (by decide +kernel : ∀ t : Fin grid0.N, _)
theorem wins : ∀ (t : Fin cfg0.N) (a : Fin 3), let b : ℕ := at3of 2 t.val a
    win0_2.index t a = b ∧ win0_3.index t a = b ∧ win0_4.index t a = b
    ∧ win0_5.index t a = b ∧ win0_6.index t a = b ∧ win0_7.index t a = b ∧ win0_8.index t a = b :=
  (by decide +kernel : ∀ (t : Fin grid0.N) (a : Fin 3), _)

/-- The launch's arguments. -/
abbrev A0 (c : Dev nD) : Arr4 2 4 352 1024 := m ((c : Thread nD τ).loc main_arg0)
abbrev A1 (c : Dev nD) : Arr4 2 4 352 1024 := m ((c : Thread nD τ).loc main_arg1)
abbrev A2 (c : Dev nD) : Arr3 2 704 1024 := m ((c : Thread nD τ).loc main_arg2)
abbrev A3 (c : Dev nD) : Arr3 2 704 1024 := m ((c : Thread nD τ).loc main_arg3)
abbrev A4 (c : Dev nD) : Arr3 2 704 1024 := m ((c : Thread nD τ).loc main_arg4)

section
variable (c : Dev nD) (t : Fin cfg0.N) (p : Fin 176) (j : Fin 1024)

theorem b2 : (iblk m c 2 t : Arr3 1 176 1024) (ix3 0 p j) = A2 m c (ix3 (layer sz t) (row sz t p) j) :=
  read3 sz (A2 m c) t p j _ (win0_2.index t) (fun a => (wins t a).1) rfl rfl rfl
theorem b3 : (iblk m c 3 t : Arr3 1 176 1024) (ix3 0 p j) = A3 m c (ix3 (layer sz t) (row sz t p) j) :=
  read3 sz (A3 m c) t p j _ (win0_3.index t) (fun a => (wins t a).2.1) rfl rfl rfl
theorem b4 : (iblk m c 4 t : Arr3 1 176 1024) (ix3 0 p j) = A4 m c (ix3 (layer sz t) (row sz t p) j) :=
  read3 sz (A4 m c) t p j _ (win0_4.index t) (fun a => (wins t a).2.2.1) rfl rfl rfl
theorem bg : gb (grid0.coords t) (iblk m c 0 t) (iblk m c 1 t) p j = grad sz (A0 m c) (A1 m c) (layer sz t) (row sz t p) j :=
  taken sz (A0 m c) (A1 m c) (iblk m c 0 t) (iblk m c 1 t) t p j _ (lay t).1
    (fun h s => read4 sz (A0 m c) t s p j _ (win0_0.index t) ((lay t).2.1 h) rfl rfl rfl rfl)
    (fun h s => read4 sz (A1 m c) t s p j _ (win0_1.index t) ((lay t).2.2 h) rfl rfl rfl rfl)
end

/-! ### The results -/

section
variable (c : Dev nD) (l : Fin 2) (r : Fin 704) (j : Fin 1024)

/-- The arrays after the launch: the gradient, the step and the moments. -/
theorem result5 : (dats m 0 c).arrAt 5 cfg0.N (ix3 l r j : S2x704x1024.Idx) = grad sz (A0 m c) (A1 m c) l r j := by
  obtain ⟨t, p, rfl, rfl⟩ := place sz l r
  refine (read3 sz ((dats m 0 c).arrAt 5 cfg0.N) t p j _ (win0_5.index t) (fun a => (wins t a).2.2.2.1) rfl rfl rfl).symm.trans
    ((congrFun ((Value.blocks5 m c t (flush0_5 t)).trans (Value.flushed5 m c t)) (ix3 0 p j)).trans ?_)
  exact (out5 (grid0.coords t) (iblk m c 0 t) (iblk m c 1 t) (iblk m c 2 t) (iblk m c 3 t) (iblk m c 4 t) p j).trans (bg m c t p j)
theorem result6 : (dats m 0 c).arrAt 6 cfg0.N (ix3 l r j : S2x704x1024.Idx)
    = step (grad sz (A0 m c) (A1 m c) l r j) (A2 m c (ix3 l r j)) (A3 m c (ix3 l r j)) (A4 m c (ix3 l r j)) := by
  obtain ⟨t, p, rfl, rfl⟩ := place sz l r
  refine (read3 sz ((dats m 0 c).arrAt 6 cfg0.N) t p j _ (win0_6.index t) (fun a => (wins t a).2.2.2.2.1) rfl rfl rfl).symm.trans
    ((congrFun ((Value.blocks6 m c t (flush0_6 t)).trans (Value.flushed6 m c t)) (ix3 0 p j)).trans ?_)
  exact (out6 (grid0.coords t) (iblk m c 0 t) (iblk m c 1 t) (iblk m c 2 t) (iblk m c 3 t) (iblk m c 4 t) p j).trans
    (step_congr (bg m c t p j) (b2 m c t p j) (b3 m c t p j) (b4 m c t p j))
theorem result7 : (dats m 0 c).arrAt 7 cfg0.N (ix3 l r j : S2x704x1024.Idx) = mom1 (grad sz (A0 m c) (A1 m c) l r j) (A3 m c (ix3 l r j)) := by
  obtain ⟨t, p, rfl, rfl⟩ := place sz l r
  refine (read3 sz ((dats m 0 c).arrAt 7 cfg0.N) t p j _ (win0_7.index t) (fun a => (wins t a).2.2.2.2.2.1) rfl rfl rfl).symm.trans
    ((congrFun ((Value.blocks7 m c t (flush0_7 t)).trans (Value.flushed7 m c t)) (ix3 0 p j)).trans ?_)
  exact (out7 (grid0.coords t) (iblk m c 0 t) (iblk m c 1 t) (iblk m c 2 t) (iblk m c 3 t) (iblk m c 4 t) p j).trans
    (congrArg₂ mom1 (bg m c t p j) (b3 m c t p j))
theorem result8 : (dats m 0 c).arrAt 8 cfg0.N (ix3 l r j : S2x704x1024.Idx) = mom2 (grad sz (A0 m c) (A1 m c) l r j) (A4 m c (ix3 l r j)) := by
  obtain ⟨t, p, rfl, rfl⟩ := place sz l r
  refine (read3 sz ((dats m 0 c).arrAt 8 cfg0.N) t p j _ (win0_8.index t) (fun a => (wins t a).2.2.2.2.2.2) rfl rfl rfl).symm.trans
    ((congrFun ((Value.blocks8 m c t (flush0_8 t)).trans (Value.flushed8 m c t)) (ix3 0 p j)).trans ?_)
  exact (out8 (grid0.coords t) (iblk m c 0 t) (iblk m c 1 t) (iblk m c 2 t) (iblk m c 3 t) (iblk m c 4 t) p j).trans
    (congrArg₂ mom2 (bg m c t p j) (b4 m c t p j))
end
end

/-! ### The reference -/

namespace Ref
open Cert.AdamDownRefIdeal Cert.AdamDownRefIdeal.Read

theorem v1 (x : Arr4 2 4 352 1024) (h : Fin 2) (q : Fin 352) (j : Fin 1024) : val_main_v1 (F := Ideal) x (ix3 h q j) = ∑ k, x (ix4 h k q j) :=
  (val_main_v1_apply x _).trans ((congrArg (· + _) Ideal.ofBits_zero_f32).trans ((zero_add _).trans
    (Finset.sum_congr rfl fun k _ => at4 x _ _ _ _ _ rfl rfl rfl rfl)))
theorem v8 (x0 x1 : Arr4 2 4 352 1024) (l : Fin 2) (r : Fin 704) (j : Fin 1024) : val_main_v8 (F := Ideal) x0 x1 (ix3 l r j) = grad sz x0 x1 l r j :=
  gathered sz x0 x1 (val_main_v1 (F := Ideal) x0) (val_main_v4 (F := Ideal) x1) (v1 x0) (v1 x1) _ _ _ l r j
end Ref

/-! ### The claim -/

/-- The kernel and the reference end with the same gradient, step and moments. -/
theorem algebraic : Cert.algebraic_AdamDownIdeal_AdamDownRefIdeal := by
  intro m g m' g' _ hag
  refine ⟨fun c => (Cert.AdamDownIdeal.Gen.dats m 0 c).arrAt 5 Cert.AdamDownIdeal.cfg0.N,
    fun c => (Cert.AdamDownIdeal.Gen.dats m 0 c).arrAt 6 Cert.AdamDownIdeal.cfg0.N,
    fun c => (Cert.AdamDownIdeal.Gen.dats m 0 c).arrAt 7 Cert.AdamDownIdeal.cfg0.N,
    fun c => (Cert.AdamDownIdeal.Gen.dats m 0 c).arrAt 8 Cert.AdamDownIdeal.cfg0.N, Cert.AdamDownIdeal.Value.run_blocks m g, ?_⟩
  refine (θ_run Cert.AdamDownRefIdeal.defs _ _).mono (fun r h c => ?_) (Cert.AdamDownRefIdeal.Value.run m' g')
  obtain ⟨e0, e1, e2, e3, e4⟩ := hag c
  obtain ⟨h5, h6, h7, h8, ha⟩ := h c
  refine ⟨(h5.trans (Cert.AdamDownRefIdeal.Read.val_main_v8_eq _ _)).trans ?_,
    (h6.trans (Cert.AdamDownRefIdeal.Read.val_main_v32_eq _ _ _ _ _)).trans ?_,
    (h7.trans (Cert.AdamDownRefIdeal.Read.val_main_v13_eq _ _ _)).trans ?_,
    (h8.trans (Cert.AdamDownRefIdeal.Read.val_main_v19_eq _ _ _)).trans ?_, ha⟩
  · rw [e0, e1]
    exact ext3 fun l r j => (Ref.v8 _ _ l r j).trans (result5 m c l r j).symm
  · rw [e0, e1, e2, e3, e4]
    exact ext3 fun l r j => (step_congr (Ref.v8 _ _ l r j) rfl rfl rfl).trans (result6 m c l r j).symm
  · rw [e0, e1, e3]
    exact ext3 fun l r j => (congrArg (mom1 · _) (Ref.v8 _ _ l r j)).trans (result7 m c l r j).symm
  · rw [e0, e1, e4]
    exact ext3 fun l r j => (congrArg (mom2 · _) (Ref.v8 _ _ l r j)).trans (result8 m c l r j).symm

/-- The reference ends, changes no argument and leaves every counter at zero. -/
theorem frame_ref : Cert.quiescent_AdamDownRefIdeal := fun m' g' _ =>
  (θ_run Cert.AdamDownRefIdeal.defs _ _).mono
    (fun r h => ⟨fun c => (h c).2.2.2.2, Idealize.ShloMosaic.sem_eq_zero_of_no_sems (by decide) r.2⟩)
    (Cert.AdamDownRefIdeal.Value.run m' g')

end Cert.OptDown

end
-- ==== Proof.SmallSum.lean ====
/- The sum of the eight devices' packed small gradients: the kernel adds the eight blocks one after the other, the reference
   sums over both of their axes at once. -/
module

public import proofs.«01_k».proof.Defs
public import proofs.«01_k».proof.Proof.Adam
public import proofs.«01_k».proof.Proof.SguClaim
public import proofs.«01_k».proof.Proof.Gen.SumSmallIdeal.Value
public import proofs.«01_k».proof.Proof.Gen.SumSmallRefIdeal.Read
public import proofs.«01_k».proof.Proof.Gen.SumSmallRefIdeal.Run
public import Idealize.ShloMosaic.Lib.StableHlo.RunRead

@[expose] public section

noncomputable section

namespace Cert.SmallSum

open Idealize.ShloMosaic Idealize.ShloMosaic.TcCoe Idealize.SL.Sem
open Cert.Sgu (ext2)
open Cert.Adam (Arr4 at4)
open scoped BigOperators

/-- The sum over the first two axes is the sum over their pairs of coordinates. -/
theorem host (h : (⟨4, ![2, 4, 1264, 128]⟩ : Shape).ReducesTo [0, 1] ⟨2, ![1264, 128]⟩) (x : Arr4 2 4 1264 128) (z : EReal) (r : Fin 1264)
    (j : Fin 128) : Ideal.hostReduceAdd h x z (ix2 r j) = z + ∑ p : Fin 2 × Fin 4, x (ix4 p.1 p.2 r j) := by
  unfold Ideal.hostReduceAdd
  refine congrArg (z + ·) (Finset.sum_bij' (fun i _ => ((i 0, i 1) : Fin 2 × Fin 4)) (fun p _ => ix4 p.1 p.2 r j)
    (fun i _ => Finset.mem_univ _) (fun p _ => Finset.mem_filter.mpr ⟨Finset.mem_univ _, ?_⟩) (fun i hi => ?_) (fun p _ => rfl)
    (fun i hi => ?_))
  · exact funext fun b => match b with
      | ⟨0, _⟩ => rfl
      | ⟨1, _⟩ => rfl
  · have e := (Finset.mem_filter.mp hi).2
    exact funext fun a => Fin.ext (match a with
      | ⟨0, _⟩ => rfl
      | ⟨1, _⟩ => rfl
      | ⟨2, _⟩ => congrArg Fin.val (congrFun e 0).symm
      | ⟨3, _⟩ => congrArg Fin.val (congrFun e 1).symm)
  · have e := (Finset.mem_filter.mp hi).2
    exact at4 x i (i 0) (i 1) r j rfl rfl (congrArg Fin.val (congrFun e 0)) (congrArg Fin.val (congrFun e 1))

/-- The kernel's eight blocks, added. -/
theorem kernel (x : Arr4 2 4 1264 128) (r : Fin 1264) (j : Fin 128) :
    Cert.SumSmallIdeal.Value.G1 (F := Ideal) x (ix2 r j) = ∑ p : Fin 2 × Fin 4, x (ix4 p.1 p.2 r j) := by
  rw [Fintype.sum_prod_type, Fin.sum_univ_two, Fin.sum_univ_four, Fin.sum_univ_four]
  pointwise [Cert.SumSmallIdeal.Gen.k0_pay1]
  simp only [← add_assoc]

/-- The kernel and the reference end with the same sum. -/
theorem algebraic : Cert.algebraic_SumSmallIdeal_SumSmallRefIdeal := by
  intro m g m' g' _ hag
  refine ⟨fun c => Cert.SumSmallIdeal.Value.G1 (F := Ideal) (m ((c : Thread Cert.SumSmallIdeal.nD Cert.SumSmallIdeal.τ).loc Cert.SumSmallIdeal.main_arg0)),
    Cert.SumSmallIdeal.Value.run m g, ?_⟩
  refine (θ_run Cert.SumSmallRefIdeal.defs _ _).mono (fun r h c => ?_) (Cert.SumSmallRefIdeal.Value.run m' g')
  obtain ⟨h0, ha⟩ := h c
  refine ⟨h0.trans ?_, ha⟩
  rw [hag c]
  exact ext2 fun r j => ((host _ _ _ r j).trans ((congrArg (· + _) Ideal.ofBits_zero_f32).trans (zero_add _))).trans (kernel _ r j).symm

/-- The reference ends, changes no argument and leaves every counter at zero. -/
theorem frame_ref : Cert.quiescent_SumSmallRefIdeal := fun m' g' _ =>
  (θ_run Cert.SumSmallRefIdeal.defs _ _).mono
    (fun r h => ⟨fun c => (h c).2, Idealize.ShloMosaic.sem_eq_zero_of_no_sems (by decide) r.2⟩)
    (Cert.SumSmallRefIdeal.Value.run m' g')

end Cert.SmallSum

end
-- ==== Proof.lean ====
/- The claim of this proof, assembled: the generated frames, and the value claims of the calls. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite_inputs
public import proofs.«01_k».proof.Proof.SguClaim
public import proofs.«01_k».proof.Proof.Gen.FfnDownDx
public import proofs.«01_k».proof.Proof.Gen.FfnDownDx.Skeleton
public import proofs.«01_k».proof.Proof.Gen.FfnDownDx.Launch
public import proofs.«01_k».proof.Proof.Gen.FfnDownDx.Points
public import proofs.«01_k».proof.Proof.Gen.FfnDownDx.Frame
public import proofs.«01_k».proof.Proof.Gen.FfnDownDxIdeal
public import proofs.«01_k».proof.Proof.Gen.FfnDownDxIdeal.Skeleton
public import proofs.«01_k».proof.Proof.Gen.FfnDownDxIdeal.Launch
public import proofs.«01_k».proof.Proof.Gen.FfnDownDxIdeal.Points
public import proofs.«01_k».proof.Proof.Gen.FfnDownDxIdeal.Frame
public import proofs.«01_k».proof.Proof.Gen.FfnDownDxIdeal.Value
public import proofs.«01_k».proof.Proof.Gen.FfnDownDxRefIdeal
public import proofs.«01_k».proof.Proof.Gen.FfnDownDxRefIdeal.Run
public import proofs.«01_k».proof.Proof.Gen.FfnDownDxRefIdeal.Read
public import proofs.«01_k».proof.Proof.Gen.Pre_ffn_down_dx_finite
public import proofs.«01_k».proof.Proof.Gen.FfnUpDx
public import proofs.«01_k».proof.Proof.Gen.FfnUpDx.Skeleton
public import proofs.«01_k».proof.Proof.Gen.FfnUpDx.Launch
public import proofs.«01_k».proof.Proof.Gen.FfnUpDx.Points
public import proofs.«01_k».proof.Proof.Gen.FfnUpDx.Frame
public import proofs.«01_k».proof.Proof.Gen.FfnUpDxIdeal
public import proofs.«01_k».proof.Proof.Gen.FfnUpDxIdeal.Skeleton
public import proofs.«01_k».proof.Proof.Gen.FfnUpDxIdeal.Launch
public import proofs.«01_k».proof.Proof.Gen.FfnUpDxIdeal.Points
public import proofs.«01_k».proof.Proof.Gen.FfnUpDxIdeal.Frame
public import proofs.«01_k».proof.Proof.Gen.FfnUpDxIdeal.Value
public import proofs.«01_k».proof.Proof.Gen.FfnUpDxRefIdeal
public import proofs.«01_k».proof.Proof.Gen.FfnUpDxRefIdeal.Run
public import proofs.«01_k».proof.Proof.Gen.FfnUpDxRefIdeal.Read
public import proofs.«01_k».proof.Proof.Gen.Pre_ffn_up_dx_finite
public import proofs.«01_k».proof.Proof.Gen.FfnUpDw
public import proofs.«01_k».proof.Proof.Gen.FfnUpDw.Skeleton
public import proofs.«01_k».proof.Proof.Gen.FfnUpDw.Launch
public import proofs.«01_k».proof.Proof.Gen.FfnUpDw.Points
public import proofs.«01_k».proof.Proof.Gen.FfnUpDw.Frame
public import proofs.«01_k».proof.Proof.Gen.FfnUpDwIdeal
public import proofs.«01_k».proof.Proof.Gen.FfnUpDwIdeal.Skeleton
public import proofs.«01_k».proof.Proof.Gen.FfnUpDwIdeal.Launch
public import proofs.«01_k».proof.Proof.Gen.FfnUpDwIdeal.Points
public import proofs.«01_k».proof.Proof.Gen.FfnUpDwIdeal.Frame
public import proofs.«01_k».proof.Proof.Gen.FfnUpDwIdeal.Value
public import proofs.«01_k».proof.Proof.Gen.FfnUpDwRefIdeal
public import proofs.«01_k».proof.Proof.Gen.FfnUpDwRefIdeal.Run
public import proofs.«01_k».proof.Proof.Gen.FfnUpDwRefIdeal.Read
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnUpRefIdeal.Read
public import proofs.«01_k».proof.Proof.Gen.FfnDownDw
public import proofs.«01_k».proof.Proof.Gen.FfnDownDw.Skeleton
public import proofs.«01_k».proof.Proof.Gen.FfnDownDw.Launch
public import proofs.«01_k».proof.Proof.Gen.FfnDownDw.Points
public import proofs.«01_k».proof.Proof.Gen.FfnDownDw.Frame
public import proofs.«01_k».proof.Proof.Gen.FfnDownDwIdeal
public import proofs.«01_k».proof.Proof.Gen.FfnDownDwIdeal.Skeleton
public import proofs.«01_k».proof.Proof.Gen.FfnDownDwIdeal.Launch
public import proofs.«01_k».proof.Proof.Gen.FfnDownDwIdeal.Points
public import proofs.«01_k».proof.Proof.Gen.FfnDownDwIdeal.Frame
public import proofs.«01_k».proof.Proof.Gen.FfnDownDwIdeal.Value
public import proofs.«01_k».proof.Proof.Gen.FfnDownDwRefIdeal
public import proofs.«01_k».proof.Proof.Gen.FfnDownDwRefIdeal.Run
public import proofs.«01_k».proof.Proof.Gen.FfnDownDwRefIdeal.Read
public import proofs.«01_k».proof.Proof.Gen.ProjOutDw
public import proofs.«01_k».proof.Proof.Gen.ProjOutDw.Skeleton
public import proofs.«01_k».proof.Proof.Gen.ProjOutDw.Launch
public import proofs.«01_k».proof.Proof.Gen.ProjOutDw.Points
public import proofs.«01_k».proof.Proof.Gen.ProjOutDw.Frame
public import proofs.«01_k».proof.Proof.Gen.ProjOutDwIdeal
public import proofs.«01_k».proof.Proof.Gen.ProjOutDwIdeal.Skeleton
public import proofs.«01_k».proof.Proof.Gen.ProjOutDwIdeal.Launch
public import proofs.«01_k».proof.Proof.Gen.ProjOutDwIdeal.Points
public import proofs.«01_k».proof.Proof.Gen.ProjOutDwIdeal.Frame
public import proofs.«01_k».proof.Proof.Gen.ProjOutDwIdeal.Value
public import proofs.«01_k».proof.Proof.Gen.ProjOutDwRefIdeal
public import proofs.«01_k».proof.Proof.Gen.ProjOutDwRefIdeal.Run
public import proofs.«01_k».proof.Proof.Gen.ProjOutDwRefIdeal.Read
public import proofs.«01_k».proof.Proof.Gen.ProjOutDx
public import proofs.«01_k».proof.Proof.Gen.ProjOutDx.Skeleton
public import proofs.«01_k».proof.Proof.Gen.ProjOutDx.Launch
public import proofs.«01_k».proof.Proof.Gen.ProjOutDx.Points
public import proofs.«01_k».proof.Proof.Gen.ProjOutDx.Frame
public import proofs.«01_k».proof.Proof.Gen.ProjOutDxIdeal
public import proofs.«01_k».proof.Proof.Gen.ProjOutDxIdeal.Skeleton
public import proofs.«01_k».proof.Proof.Gen.ProjOutDxIdeal.Launch
public import proofs.«01_k».proof.Proof.Gen.ProjOutDxIdeal.Points
public import proofs.«01_k».proof.Proof.Gen.ProjOutDxIdeal.Frame
public import proofs.«01_k».proof.Proof.Gen.ProjOutDxIdeal.Value
public import proofs.«01_k».proof.Proof.Gen.ProjOutDxRefIdeal
public import proofs.«01_k».proof.Proof.Gen.ProjOutDxRefIdeal.Run
public import proofs.«01_k».proof.Proof.Gen.ProjOutDxRefIdeal.Read
public import proofs.«01_k».proof.Proof.Gen.ProjInDw
public import proofs.«01_k».proof.Proof.Gen.ProjInDw.Skeleton
public import proofs.«01_k».proof.Proof.Gen.ProjInDw.Launch
public import proofs.«01_k».proof.Proof.Gen.ProjInDw.Points
public import proofs.«01_k».proof.Proof.Gen.ProjInDw.Frame
public import proofs.«01_k».proof.Proof.Gen.ProjInDwIdeal
public import proofs.«01_k».proof.Proof.Gen.ProjInDwIdeal.Skeleton
public import proofs.«01_k».proof.Proof.Gen.ProjInDwIdeal.Launch
public import proofs.«01_k».proof.Proof.Gen.ProjInDwIdeal.Points
public import proofs.«01_k».proof.Proof.Gen.ProjInDwIdeal.Frame
public import proofs.«01_k».proof.Proof.Gen.ProjInDwIdeal.Value
public import proofs.«01_k».proof.Proof.Gen.ProjInDwRefIdeal
public import proofs.«01_k».proof.Proof.Gen.ProjInDwRefIdeal.Run
public import proofs.«01_k».proof.Proof.Gen.ProjInDwRefIdeal.Read
public import proofs.«01_k».proof.Proof.Gen.ProjInDx
public import proofs.«01_k».proof.Proof.Gen.ProjInDx.Skeleton
public import proofs.«01_k».proof.Proof.Gen.ProjInDx.Launch
public import proofs.«01_k».proof.Proof.Gen.ProjInDx.Points
public import proofs.«01_k».proof.Proof.Gen.ProjInDx.Frame
public import proofs.«01_k».proof.Proof.Gen.ProjInDxIdeal
public import proofs.«01_k».proof.Proof.Gen.ProjInDxIdeal.Skeleton
public import proofs.«01_k».proof.Proof.Gen.ProjInDxIdeal.Launch
public import proofs.«01_k».proof.Proof.Gen.ProjInDxIdeal.Points
public import proofs.«01_k».proof.Proof.Gen.ProjInDxIdeal.Frame
public import proofs.«01_k».proof.Proof.Gen.ProjInDxIdeal.Value
public import proofs.«01_k».proof.Proof.Gen.ProjInDxRefIdeal
public import proofs.«01_k».proof.Proof.Gen.ProjInDxRefIdeal.Run
public import proofs.«01_k».proof.Proof.Gen.ProjInDxRefIdeal.Read
public import proofs.«01_k».proof.Proof.Gen.Pre_proj_in_dx_finite
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInIdeal.Value
public import proofs.«01_k».proof.Proof.Gen.ProjInRefIdeal
public import proofs.«01_k».proof.Proof.Gen.ProjInRefIdeal.Run
public import proofs.«01_k».proof.Proof.Gen.ProjInRefIdeal.Read
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.ProjOutRefIdeal
public import proofs.«01_k».proof.Proof.Gen.ProjOutRefIdeal.Run
public import proofs.«01_k».proof.Proof.Gen.ProjOutRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.FfnDownRefIdeal.Read
public import proofs.«01_k».proof.Proof.Gen.FfnDownLast
public import proofs.«01_k».proof.Proof.Gen.FfnDownLast.Skeleton
public import proofs.«01_k».proof.Proof.Gen.FfnDownLast.Launch
public import proofs.«01_k».proof.Proof.Gen.FfnDownLast.Points
public import proofs.«01_k».proof.Proof.Gen.FfnDownLast.Frame
public import proofs.«01_k».proof.Proof.Gen.FfnDownLastIdeal
public import proofs.«01_k».proof.Proof.Gen.FfnDownLastIdeal.Skeleton
public import proofs.«01_k».proof.Proof.Gen.FfnDownLastIdeal.Launch
public import proofs.«01_k».proof.Proof.Gen.FfnDownLastIdeal.Points
public import proofs.«01_k».proof.Proof.Gen.FfnDownLastIdeal.Frame
public import proofs.«01_k».proof.Proof.Gen.FfnDownLastIdeal.Value
public import proofs.«01_k».proof.Proof.Gen.FfnDownLastRefIdeal
public import proofs.«01_k».proof.Proof.Gen.FfnDownLastRefIdeal.Run
public import proofs.«01_k».proof.Proof.Gen.FfnDownLastRefIdeal.Read
public import proofs.«01_k».proof.Proof.Gen.ScBwd
public import proofs.«01_k».proof.Proof.Gen.ScBwd.Skeleton
public import proofs.«01_k».proof.Proof.Gen.ScBwd.Launch
public import proofs.«01_k».proof.Proof.Gen.ScBwd.Points
public import proofs.«01_k».proof.Proof.Gen.ScBwdIdeal
public import proofs.«01_k».proof.Proof.Gen.ScBwdIdeal.Skeleton
public import proofs.«01_k».proof.Proof.Gen.ScBwdIdeal.Launch
public import proofs.«01_k».proof.Proof.Gen.ScBwdIdeal.Points
public import proofs.«01_k».proof.Proof.Gen.ScBwdRefIdeal
public import proofs.«01_k».proof.Proof.Gen.ScBwdRefIdeal.Run
public import proofs.«01_k».proof.Proof.Gen.ScBwdRefIdeal.Read
public import proofs.«01_k».proof.Proof.Gen.Pre_sc_bwd_finite
public import proofs.«01_k».proof.Proof.Gen.SguFwd
public import proofs.«01_k».proof.Proof.Gen.SguFwd.Skeleton
public import proofs.«01_k».proof.Proof.Gen.SguFwd.Launch
public import proofs.«01_k».proof.Proof.Gen.SguFwd.Points
public import proofs.«01_k».proof.Proof.Gen.SguFwd.Frame
public import proofs.«01_k».proof.Proof.Gen.SguFwdIdeal
public import proofs.«01_k».proof.Proof.Gen.SguFwdIdeal.Skeleton
public import proofs.«01_k».proof.Proof.Gen.SguFwdIdeal.Launch
public import proofs.«01_k».proof.Proof.Gen.SguFwdIdeal.Points
public import proofs.«01_k».proof.Proof.Gen.SguFwdIdeal.Frame
public import proofs.«01_k».proof.Proof.Gen.SguFwdIdeal.Value
public import proofs.«01_k».proof.Proof.Gen.SguFwdRefIdeal
public import proofs.«01_k».proof.Proof.Gen.SguFwdRefIdeal.Run
public import proofs.«01_k».proof.Proof.Gen.SguFwdRefIdeal.Read
public import proofs.«01_k».proof.Proof.Gen.Pre_sgu_finite
public import proofs.«01_k».proof.Proof.Gen.ScFwd
public import proofs.«01_k».proof.Proof.Gen.ScFwd.Skeleton
public import proofs.«01_k».proof.Proof.Gen.ScFwd.Launch
public import proofs.«01_k».proof.Proof.Gen.ScFwd.Points
public import proofs.«01_k».proof.Proof.Gen.ScFwd.Frame
public import proofs.«01_k».proof.Proof.Gen.ScFwdIdeal
public import proofs.«01_k».proof.Proof.Gen.ScFwdIdeal.Skeleton
public import proofs.«01_k».proof.Proof.Gen.ScFwdIdeal.Launch
public import proofs.«01_k».proof.Proof.Gen.ScFwdIdeal.Points
public import proofs.«01_k».proof.Proof.Gen.ScFwdIdeal.Frame
public import proofs.«01_k».proof.Proof.Gen.ScFwdIdeal.Value
public import proofs.«01_k».proof.Proof.Gen.ScFwdRefIdeal
public import proofs.«01_k».proof.Proof.Gen.ScFwdRefIdeal.Run
public import proofs.«01_k».proof.Proof.Gen.ScFwdRefIdeal.Read
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.NormFwdRefIdeal.Read
public import proofs.«01_k».proof.Proof.Gen.LossHead
public import proofs.«01_k».proof.Proof.Gen.LossHead.Skeleton
public import proofs.«01_k».proof.Proof.Gen.LossHead.Launch
public import proofs.«01_k».proof.Proof.Gen.LossHead.Points
public import proofs.«01_k».proof.Proof.Gen.LossHead.Frame
public import proofs.«01_k».proof.Proof.Gen.LossHeadIdeal
public import proofs.«01_k».proof.Proof.Gen.LossHeadIdeal.Skeleton
public import proofs.«01_k».proof.Proof.Gen.LossHeadIdeal.Launch
public import proofs.«01_k».proof.Proof.Gen.LossHeadIdeal.Points
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.LossHeadRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamUp
public import proofs.«01_k».proof.Proof.Gen.AdamUp.Skeleton
public import proofs.«01_k».proof.Proof.Gen.AdamUp.Launch
public import proofs.«01_k».proof.Proof.Gen.AdamUp.Points
public import proofs.«01_k».proof.Proof.Gen.AdamUp.Frame
public import proofs.«01_k».proof.Proof.Gen.AdamUpIdeal
public import proofs.«01_k».proof.Proof.Gen.AdamUpIdeal.Skeleton
public import proofs.«01_k».proof.Proof.Gen.AdamUpIdeal.Launch
public import proofs.«01_k».proof.Proof.Gen.AdamUpIdeal.Points
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamUpRefIdeal.Read
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamDownRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.DownDx
public import proofs.«01_k».proof.Proof.UpDx
public import proofs.«01_k».proof.Proof.UpDw
public import proofs.«01_k».proof.Proof.UpFwd
public import proofs.«01_k».proof.Proof.DownDw
public import proofs.«01_k».proof.Proof.OutDw
public import proofs.«01_k».proof.Proof.OutDx
public import proofs.«01_k».proof.Proof.InDw
public import proofs.«01_k».proof.Proof.InDx
public import proofs.«01_k».proof.Proof.InFwd
public import proofs.«01_k».proof.Proof.OutFwd
public import proofs.«01_k».proof.Proof.DownFwd
public import proofs.«01_k».proof.Proof.DownLast
public import proofs.«01_k».proof.Proof.ConvFrame
public import proofs.«01_k».proof.Proof.ConvFrameBits
public import proofs.«01_k».proof.Proof.ConvBwd
public import proofs.«01_k».proof.Proof.SguOut
public import proofs.«01_k».proof.Proof.ConvFwd
public import proofs.«01_k».proof.Proof.NormFirst
public import proofs.«01_k».proof.Proof.Head
public import proofs.«01_k».proof.Proof.OptIn
public import proofs.«01_k».proof.Proof.OptOut
public import proofs.«01_k».proof.Proof.OptUp
public import proofs.«01_k».proof.Proof.OptDown
public import proofs.«01_k».proof.Proof.SmallSum
public import Idealize.ShloMosaic.Adequacy
public import Idealize.ShloMosaic.Init

@[expose] public section

noncomputable section

namespace Cert.Proof

open Idealize.ShloMosaic Idealize.SL.Sem Cert.Kernel

/-- For each call: the frames of the kernel, at words and at extended reals, and of the reference; the kernel printed from
    the same text; and its results equal to the reference's. The facts the programs state come first, then the frames
    call by call, then the two value clauses of each call. -/
theorem claim : Cert.Claim :=
  ⟨Cert.Kernel.Gen.facts, Cert.KernelIdeal.Gen.facts, Cert.ReferenceIdeal.Gen.facts, Cert.FfnDownDx.Gen.facts,
    Cert.FfnDownDxIdeal.Gen.facts, Cert.FfnDownDxRefIdeal.Gen.facts, Cert.FfnUpDx.Gen.facts, Cert.FfnUpDxIdeal.Gen.facts,
    Cert.FfnUpDxRefIdeal.Gen.facts, Cert.FfnUpDw.Gen.facts, Cert.FfnUpDwIdeal.Gen.facts, Cert.FfnUpDwRefIdeal.Gen.facts,
    Cert.FfnUp.Gen.facts, Cert.FfnUpIdeal.Gen.facts, Cert.FfnUpRefIdeal.Gen.facts, Cert.FfnDownDw.Gen.facts,
    Cert.FfnDownDwIdeal.Gen.facts, Cert.FfnDownDwRefIdeal.Gen.facts, Cert.ProjOutDw.Gen.facts,
    Cert.ProjOutDwIdeal.Gen.facts, Cert.ProjOutDwRefIdeal.Gen.facts, Cert.ProjOutDx.Gen.facts,
    Cert.ProjOutDxIdeal.Gen.facts, Cert.ProjOutDxRefIdeal.Gen.facts, Cert.ProjInDw.Gen.facts, Cert.ProjInDwIdeal.Gen.facts,
    Cert.ProjInDwRefIdeal.Gen.facts, Cert.ProjInDx.Gen.facts, Cert.ProjInDxIdeal.Gen.facts,
    Cert.ProjInDxRefIdeal.Gen.facts, Cert.ProjIn.Gen.facts, Cert.ProjInIdeal.Gen.facts, Cert.ProjInRefIdeal.Gen.facts,
    Cert.ProjOut.Gen.facts, Cert.ProjOutIdeal.Gen.facts, Cert.ProjOutRefIdeal.Gen.facts, Cert.FfnDown.Gen.facts,
    Cert.FfnDownIdeal.Gen.facts, Cert.FfnDownRefIdeal.Gen.facts, Cert.FfnDownLast.Gen.facts,
    Cert.FfnDownLastIdeal.Gen.facts, Cert.FfnDownLastRefIdeal.Gen.facts, Cert.ScBwd.Gen.facts, Cert.ScBwdIdeal.Gen.facts,
    Cert.ScBwdRefIdeal.Gen.facts, Cert.SguFwd.Gen.facts, Cert.SguFwdIdeal.Gen.facts, Cert.SguFwdRefIdeal.Gen.facts,
    Cert.ScFwd.Gen.facts, Cert.ScFwdIdeal.Gen.facts, Cert.ScFwdRefIdeal.Gen.facts, Cert.NormFwd.Gen.facts,
    Cert.NormFwdIdeal.Gen.facts, Cert.NormFwdRefIdeal.Gen.facts, Cert.LossHead.Gen.facts, Cert.LossHeadIdeal.Gen.facts,
    Cert.LossHeadRefIdeal.Gen.facts, Cert.AdamIn.Gen.facts, Cert.AdamInIdeal.Gen.facts, Cert.AdamInRefIdeal.Gen.facts,
    Cert.AdamOut.Gen.facts, Cert.AdamOutIdeal.Gen.facts, Cert.AdamOutRefIdeal.Gen.facts, Cert.AdamUp.Gen.facts,
    Cert.AdamUpIdeal.Gen.facts, Cert.AdamUpRefIdeal.Gen.facts, Cert.AdamDown.Gen.facts, Cert.AdamDownIdeal.Gen.facts,
    Cert.AdamDownRefIdeal.Gen.facts, Cert.SumSmall.Gen.facts, Cert.SumSmallIdeal.Gen.facts,
    Cert.SumSmallRefIdeal.Gen.facts, Cert.Pre_finite_inputs.Gen.facts, Cert.Pre_ffn_down_dx_finite.Gen.facts,
    Cert.Pre_ffn_up_dx_finite.Gen.facts, Cert.Pre_proj_in_dx_finite.Gen.facts, Cert.Pre_sc_bwd_finite.Gen.facts,
    Cert.Pre_sgu_finite.Gen.facts,
    fun m ρ _ => Cert.Kernel.Gen.frame m ρ, fun m ρ _ => Cert.KernelIdeal.Gen.frame m ρ,
    fun m ρ _ => Cert.KernelIdeal.Gen.frame m ρ, Cert.Sgu.frame_ref, fun m ρ _ => Cert.Sgu.frame_ref m ρ trivial,
    fun m ρ _ => Cert.FfnDownDx.Gen.frame m ρ, fun m ρ _ => Cert.FfnDownDxIdeal.Gen.frame m ρ,
    fun m ρ _ => Cert.FfnDownDxIdeal.Gen.frame m ρ, Cert.DownDx.frame_ref, fun m ρ _ => Cert.DownDx.frame_ref m ρ trivial,
    fun m ρ _ => Cert.FfnUpDx.Gen.frame m ρ, fun m ρ _ => Cert.FfnUpDxIdeal.Gen.frame m ρ,
    fun m ρ _ => Cert.FfnUpDxIdeal.Gen.frame m ρ, Cert.UpDx.frame_ref, fun m ρ _ => Cert.UpDx.frame_ref m ρ trivial,
    fun m ρ _ => Cert.FfnUpDw.Gen.frame m ρ, fun m ρ _ => Cert.FfnUpDwIdeal.Gen.frame m ρ, Cert.UpDw.frame_ref,
    fun m ρ _ => Cert.FfnUp.Gen.frame m ρ, fun m ρ _ => Cert.FfnUpIdeal.Gen.frame m ρ, Cert.UpFwd.frame_ref,
    fun m ρ _ => Cert.FfnDownDw.Gen.frame m ρ, fun m ρ _ => Cert.FfnDownDwIdeal.Gen.frame m ρ, Cert.DownDw.frame_ref,
    fun m ρ _ => Cert.ProjOutDw.Gen.frame m ρ, fun m ρ _ => Cert.ProjOutDwIdeal.Gen.frame m ρ, Cert.OutDw.frame_ref,
    fun m ρ _ => Cert.ProjOutDx.Gen.frame m ρ, fun m ρ _ => Cert.ProjOutDxIdeal.Gen.frame m ρ, Cert.OutDx.frame_ref,
    fun m ρ _ => Cert.ProjInDw.Gen.frame m ρ, fun m ρ _ => Cert.ProjInDwIdeal.Gen.frame m ρ, Cert.InDw.frame_ref,
    fun m ρ _ => Cert.ProjInDx.Gen.frame m ρ, fun m ρ _ => Cert.ProjInDxIdeal.Gen.frame m ρ,
    fun m ρ _ => Cert.ProjInDxIdeal.Gen.frame m ρ, Cert.InDx.frame_ref, fun m ρ _ => Cert.InDx.frame_ref m ρ trivial,
    fun m ρ _ => Cert.ProjIn.Gen.frame m ρ, fun m ρ _ => Cert.ProjInIdeal.Gen.frame m ρ, Cert.InFwd.frame_ref,
    fun m ρ _ => Cert.ProjOut.Gen.frame m ρ, fun m ρ _ => Cert.ProjOutIdeal.Gen.frame m ρ, Cert.OutFwd.frame_ref,
    fun m ρ _ => Cert.FfnDown.Gen.frame m ρ, fun m ρ _ => Cert.FfnDownIdeal.Gen.frame m ρ, Cert.DownFwd.frame_ref,
    fun m ρ _ => Cert.FfnDownLast.Gen.frame m ρ, fun m ρ _ => Cert.FfnDownLastIdeal.Gen.frame m ρ, Cert.DownLast.frame_ref,
    Cert.ConvBits.frame, fun m ρ _ => Cert.ConvBwd.frame m ρ, fun m ρ _ => Cert.ConvBwd.frame m ρ,
    Cert.ConvBwd.frame_ref, fun m ρ _ => Cert.ConvBwd.frame_ref m ρ trivial, fun m ρ _ => Cert.SguFwd.Gen.frame m ρ,
    fun m ρ _ => Cert.SguFwdIdeal.Gen.frame m ρ, fun m ρ _ => Cert.SguFwdIdeal.Gen.frame m ρ, Cert.SguOut.frame_ref,
    fun m ρ _ => Cert.SguOut.frame_ref m ρ trivial, fun m ρ _ => Cert.ScFwd.Gen.frame m ρ,
    fun m ρ _ => Cert.ScFwdIdeal.Gen.frame m ρ, Cert.ConvFwd.frame_ref, fun m ρ _ => Cert.NormFwd.Gen.frame m ρ,
    fun m ρ _ => Cert.NormFwdIdeal.Gen.frame m ρ, Cert.NormFirst.frame_ref, fun m ρ _ => Cert.LossHead.Gen.frame m ρ,
    fun m ρ _ => Cert.LossHeadIdeal.Gen.frame m ρ, Cert.Head.frame_ref, fun m ρ _ => Cert.AdamIn.Gen.frame m ρ,
    fun m ρ _ => Cert.AdamInIdeal.Gen.frame m ρ, Cert.OptIn.frame_ref, fun m ρ _ => Cert.AdamOut.Gen.frame m ρ,
    fun m ρ _ => Cert.AdamOutIdeal.Gen.frame m ρ, Cert.OptOut.frame_ref, fun m ρ _ => Cert.AdamUp.Gen.frame m ρ,
    fun m ρ _ => Cert.AdamUpIdeal.Gen.frame m ρ, Cert.OptUp.frame_ref, fun m ρ _ => Cert.AdamDown.Gen.frame m ρ,
    fun m ρ _ => Cert.AdamDownIdeal.Gen.frame m ρ, Cert.OptDown.frame_ref, fun m ρ _ => Cert.SumSmall.Gen.frame m ρ,
    fun m ρ _ => Cert.SumSmallIdeal.Gen.frame m ρ, Cert.SmallSum.frame_ref,
    trivial, Cert.Sgu.algebraic, trivial, Cert.DownDx.algebraic, trivial, Cert.UpDx.algebraic,
    trivial, Cert.UpDw.algebraic, trivial, Cert.UpFwd.algebraic, trivial, Cert.DownDw.algebraic,
    trivial, Cert.OutDw.algebraic, trivial, Cert.OutDx.algebraic, trivial, Cert.InDw.algebraic,
    trivial, Cert.InDx.algebraic, trivial, Cert.InFwd.algebraic, trivial, Cert.OutFwd.algebraic,
    trivial, Cert.DownFwd.algebraic, trivial, Cert.DownLast.algebraic, trivial, Cert.ConvBwd.algebraic,
    trivial, Cert.SguOut.algebraic, trivial, Cert.ConvFwd.algebraic, trivial, Cert.NormFirst.algebraic,
    trivial, Cert.Head.algebraic, trivial, Cert.OptIn.algebraic, trivial, Cert.OptOut.algebraic,
    trivial, Cert.OptUp.algebraic, trivial, Cert.OptDown.algebraic, trivial, Cert.SmallSum.algebraic⟩

end Cert.Proof

end
